-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_KernelW1 (m : (ℓ : Loc Cert.KernelW1.nD Cert.KernelW1.τ Cert.KernelW1.sig) → Buf (Elt Bits) ℓ) : Prop :=
  True

def Pre_KernelW1Ideal (m : (ℓ : Loc Cert.KernelW1Ideal.nD Cert.KernelW1Ideal.τ Cert.KernelW1Ideal.sig) → Buf (Elt Ideal) ℓ) : Prop :=
  True

def Pre_ReferenceW1Ideal (m : (ℓ : Loc Cert.ReferenceW1Ideal.nD Cert.ReferenceW1Ideal.τ Cert.ReferenceW1Ideal.sig) → Buf (Elt Ideal) ℓ) : Prop :=
  True

def Pre_KernelW2 (m : (ℓ : Loc Cert.KernelW2.nD Cert.KernelW2.τ Cert.KernelW2.sig) → Buf (Elt Bits) ℓ) : Prop :=
  True

def Pre_KernelW2Ideal (m : (ℓ : Loc Cert.KernelW2Ideal.nD Cert.KernelW2Ideal.τ Cert.KernelW2Ideal.sig) → Buf (Elt Ideal) ℓ) : Prop :=
  True

def Pre_ReferenceW2Ideal (m : (ℓ : Loc Cert.ReferenceW2Ideal.nD Cert.ReferenceW2Ideal.τ Cert.ReferenceW2Ideal.sig) → Buf (Elt Ideal) ℓ) : Prop :=
  True

def Pre_KernelDa (m : (ℓ : Loc Cert.KernelDa.nD Cert.KernelDa.τ Cert.KernelDa.sig) → Buf (Elt Bits) ℓ) : Prop :=
  True

def Pre_KernelDaIdeal (m : (ℓ : Loc Cert.KernelDaIdeal.nD Cert.KernelDaIdeal.τ Cert.KernelDaIdeal.sig) → Buf (Elt Ideal) ℓ) : Prop :=
  True

def Pre_ReferenceDaIdeal (m : (ℓ : Loc Cert.ReferenceDaIdeal.nD Cert.ReferenceDaIdeal.τ Cert.ReferenceDaIdeal.sig) → Buf (Elt Ideal) ℓ) : Prop :=
  True

def Pre_KernelDw2 (m : (ℓ : Loc Cert.KernelDw2.nD Cert.KernelDw2.τ Cert.KernelDw2.sig) → Buf (Elt Bits) ℓ) : Prop :=
  True

def Pre_KernelDw2Ideal (m : (ℓ : Loc Cert.KernelDw2Ideal.nD Cert.KernelDw2Ideal.τ Cert.KernelDw2Ideal.sig) → Buf (Elt Ideal) ℓ) : Prop :=
  True

def Pre_ReferenceDw2Ideal (m : (ℓ : Loc Cert.ReferenceDw2Ideal.nD Cert.ReferenceDw2Ideal.τ Cert.ReferenceDw2Ideal.sig) → Buf (Elt Ideal) ℓ) : Prop :=
  True

def Pre_KernelDw1 (m : (ℓ : Loc Cert.KernelDw1.nD Cert.KernelDw1.τ Cert.KernelDw1.sig) → Buf (Elt Bits) ℓ) : Prop :=
  True

def Pre_KernelDw1Ideal (m : (ℓ : Loc Cert.KernelDw1Ideal.nD Cert.KernelDw1Ideal.τ Cert.KernelDw1Ideal.sig) → Buf (Elt Ideal) ℓ) : Prop :=
  True

def Pre_ReferenceDw1Ideal (m : (ℓ : Loc Cert.ReferenceDw1Ideal.nD Cert.ReferenceDw1Ideal.τ Cert.ReferenceDw1Ideal.sig) → Buf (Elt Ideal) ℓ) : Prop :=
  True

def Pre_KernelDu (m : (ℓ : Loc Cert.KernelDu.nD Cert.KernelDu.τ Cert.KernelDu.sig) → Buf (Elt Bits) ℓ) : Prop :=
  True

def Pre_KernelDuIdeal (m : (ℓ : Loc Cert.KernelDuIdeal.nD Cert.KernelDuIdeal.τ Cert.KernelDuIdeal.sig) → Buf (Elt Ideal) ℓ) : Prop :=
  True

def Pre_ReferenceDuIdeal (m : (ℓ : Loc Cert.ReferenceDuIdeal.nD Cert.ReferenceDuIdeal.τ Cert.ReferenceDuIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelWo (m : (ℓ : Loc Cert.KernelWo.nD Cert.KernelWo.τ Cert.KernelWo.sig) → Buf (Elt Bits) ℓ) : Prop :=
  True

def Pre_KernelWoIdeal (m : (ℓ : Loc Cert.KernelWoIdeal.nD Cert.KernelWoIdeal.τ Cert.KernelWoIdeal.sig) → Buf (Elt Ideal) ℓ) : Prop :=
  True

def Pre_ReferenceWoIdeal (m : (ℓ : Loc Cert.ReferenceWoIdeal.nD Cert.ReferenceWoIdeal.τ Cert.ReferenceWoIdeal.sig) → Buf (Elt Ideal) ℓ) : Prop :=
  True

def Pre_KernelDo (m : (ℓ : Loc Cert.KernelDo.nD Cert.KernelDo.τ Cert.KernelDo.sig) → Buf (Elt Bits) ℓ) : Prop :=
  True

def Pre_KernelDoIdeal (m : (ℓ : Loc Cert.KernelDoIdeal.nD Cert.KernelDoIdeal.τ Cert.KernelDoIdeal.sig) → Buf (Elt Ideal) ℓ) : Prop :=
  True

def Pre_ReferenceDoIdeal (m : (ℓ : Loc Cert.ReferenceDoIdeal.nD Cert.ReferenceDoIdeal.τ Cert.ReferenceDoIdeal.sig) → Buf (Elt Ideal) ℓ) : Prop :=
  True

def Pre_KernelDwo (m : (ℓ : Loc Cert.KernelDwo.nD Cert.KernelDwo.τ Cert.KernelDwo.sig) → Buf (Elt Bits) ℓ) : Prop :=
  True

def Pre_KernelDwoIdeal (m : (ℓ : Loc Cert.KernelDwoIdeal.nD Cert.KernelDwoIdeal.τ Cert.KernelDwoIdeal.sig) → Buf (Elt Ideal) ℓ) : Prop :=
  True

def Pre_ReferenceDwoIdeal (m : (ℓ : Loc Cert.ReferenceDwoIdeal.nD Cert.ReferenceDwoIdeal.τ Cert.ReferenceDwoIdeal.sig) → Buf (Elt Ideal) ℓ) : Prop :=
  True

def Pre_KernelDwqkv (m : (ℓ : Loc Cert.KernelDwqkv.nD Cert.KernelDwqkv.τ Cert.KernelDwqkv.sig) → Buf (Elt Bits) ℓ) : Prop :=
  True

def Pre_KernelDwqkvIdeal (m : (ℓ : Loc Cert.KernelDwqkvIdeal.nD Cert.KernelDwqkvIdeal.τ Cert.KernelDwqkvIdeal.sig) → Buf (Elt Ideal) ℓ) : Prop :=
  True

def Pre_ReferenceDwqkvIdeal (m : (ℓ : Loc Cert.ReferenceDwqkvIdeal.nD Cert.ReferenceDwqkvIdeal.τ Cert.ReferenceDwqkvIdeal.sig) → Buf (Elt Ideal) ℓ) : Prop :=
  True

def Pre_KernelDuqkv (m : (ℓ : Loc Cert.KernelDuqkv.nD Cert.KernelDuqkv.τ Cert.KernelDuqkv.sig) → Buf (Elt Bits) ℓ) : Prop :=
  True

def Pre_KernelDuqkvIdeal (m : (ℓ : Loc Cert.KernelDuqkvIdeal.nD Cert.KernelDuqkvIdeal.τ Cert.KernelDuqkvIdeal.sig) → Buf (Elt Ideal) ℓ) : Prop :=
  True

def Pre_ReferenceDuqkvIdeal (m : (ℓ : Loc Cert.ReferenceDuqkvIdeal.nD Cert.ReferenceDuqkvIdeal.τ Cert.ReferenceDuqkvIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelDwproj (m : (ℓ : Loc Cert.KernelDwproj.nD Cert.KernelDwproj.τ Cert.KernelDwproj.sig) → Buf (Elt Bits) ℓ) : Prop :=
  True

def Pre_KernelDwprojIdeal (m : (ℓ : Loc Cert.KernelDwprojIdeal.nD Cert.KernelDwprojIdeal.τ Cert.KernelDwprojIdeal.sig) → Buf (Elt Ideal) ℓ) : Prop :=
  True

def Pre_ReferenceDwprojIdeal (m : (ℓ : Loc Cert.ReferenceDwprojIdeal.nD Cert.ReferenceDwprojIdeal.τ Cert.ReferenceDwprojIdeal.sig) → Buf (Elt Ideal) ℓ) : Prop :=
  True

def Pre_KernelPw1 (m : (ℓ : Loc Cert.KernelPw1.nD Cert.KernelPw1.τ Cert.KernelPw1.sig) → Buf (Elt Bits) ℓ) : Prop :=
  True

def Pre_KernelPw1Ideal (m : (ℓ : Loc Cert.KernelPw1Ideal.nD Cert.KernelPw1Ideal.τ Cert.KernelPw1Ideal.sig) → Buf (Elt Ideal) ℓ) : Prop :=
  True

def Pre_ReferencePw1Ideal (m : (ℓ : Loc Cert.ReferencePw1Ideal.nD Cert.ReferencePw1Ideal.τ Cert.ReferencePw1Ideal.sig) → Buf (Elt Ideal) ℓ) : Prop :=
  True

def Pre_KernelPw2 (m : (ℓ : Loc Cert.KernelPw2.nD Cert.KernelPw2.τ Cert.KernelPw2.sig) → Buf (Elt Bits) ℓ) : Prop :=
  True

def Pre_KernelPw2Ideal (m : (ℓ : Loc Cert.KernelPw2Ideal.nD Cert.KernelPw2Ideal.τ Cert.KernelPw2Ideal.sig) → Buf (Elt Ideal) ℓ) : Prop :=
  True

def Pre_ReferencePw2Ideal (m : (ℓ : Loc Cert.ReferencePw2Ideal.nD Cert.ReferencePw2Ideal.τ Cert.ReferencePw2Ideal.sig) → Buf (Elt Ideal) ℓ) : Prop :=
  True

def Pre_KernelDwpw1 (m : (ℓ : Loc Cert.KernelDwpw1.nD Cert.KernelDwpw1.τ Cert.KernelDwpw1.sig) → Buf (Elt Bits) ℓ) : Prop :=
  True

def Pre_KernelDwpw1Ideal (m : (ℓ : Loc Cert.KernelDwpw1Ideal.nD Cert.KernelDwpw1Ideal.τ Cert.KernelDwpw1Ideal.sig) → Buf (Elt Ideal) ℓ) : Prop :=
  True

def Pre_ReferenceDwpw1Ideal (m : (ℓ : Loc Cert.ReferenceDwpw1Ideal.nD Cert.ReferenceDwpw1Ideal.τ Cert.ReferenceDwpw1Ideal.sig) → Buf (Elt Ideal) ℓ) : Prop :=
  True

def Pre_KernelDupw1 (m : (ℓ : Loc Cert.KernelDupw1.nD Cert.KernelDupw1.τ Cert.KernelDupw1.sig) → Buf (Elt Bits) ℓ) : Prop :=
  True

def Pre_KernelDupw1Ideal (m : (ℓ : Loc Cert.KernelDupw1Ideal.nD Cert.KernelDupw1Ideal.τ Cert.KernelDupw1Ideal.sig) → Buf (Elt Ideal) ℓ) : Prop :=
  True

def Pre_ReferenceDupw1Ideal (m : (ℓ : Loc Cert.ReferenceDupw1Ideal.nD Cert.ReferenceDupw1Ideal.τ Cert.ReferenceDupw1Ideal.sig) → Buf (Elt Ideal) ℓ) : Prop :=
  True

def Pre_KernelInz (m : (ℓ : Loc Cert.KernelInz.nD Cert.KernelInz.τ Cert.KernelInz.sig) → Buf (Elt Bits) ℓ) : Prop :=
  True

def Pre_KernelInzIdeal (m : (ℓ : Loc Cert.KernelInzIdeal.nD Cert.KernelInzIdeal.τ Cert.KernelInzIdeal.sig) → Buf (Elt Ideal) ℓ) : Prop :=
  True

def Pre_ReferenceInzIdeal (m : (ℓ : Loc Cert.ReferenceInzIdeal.nD Cert.ReferenceInzIdeal.τ Cert.ReferenceInzIdeal.sig) → Buf (Elt Ideal) ℓ) : Prop :=
  True

def Pre_KernelInxbc (m : (ℓ : Loc Cert.KernelInxbc.nD Cert.KernelInxbc.τ Cert.KernelInxbc.sig) → Buf (Elt Bits) ℓ) : Prop :=
  True

def Pre_KernelInxbcIdeal (m : (ℓ : Loc Cert.KernelInxbcIdeal.nD Cert.KernelInxbcIdeal.τ Cert.KernelInxbcIdeal.sig) → Buf (Elt Ideal) ℓ) : Prop :=
  True

def Pre_ReferenceInxbcIdeal (m : (ℓ : Loc Cert.ReferenceInxbcIdeal.nD Cert.ReferenceInxbcIdeal.τ Cert.ReferenceInxbcIdeal.sig) → Buf (Elt Ideal) ℓ) : Prop :=
  True

def Pre_KernelIndt (m : (ℓ : Loc Cert.KernelIndt.nD Cert.KernelIndt.τ Cert.KernelIndt.sig) → Buf (Elt Bits) ℓ) : Prop :=
  True

def Pre_KernelIndtIdeal (m : (ℓ : Loc Cert.KernelIndtIdeal.nD Cert.KernelIndtIdeal.τ Cert.KernelIndtIdeal.sig) → Buf (Elt Ideal) ℓ) : Prop :=
  True

def Pre_ReferenceIndtIdeal (m : (ℓ : Loc Cert.ReferenceIndtIdeal.nD Cert.ReferenceIndtIdeal.τ Cert.ReferenceIndtIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelDyn (m : (ℓ : Loc Cert.KernelDyn.nD Cert.KernelDyn.τ Cert.KernelDyn.sig) → Buf (Elt Bits) ℓ) : Prop :=
  True

def Pre_KernelDynIdeal (m : (ℓ : Loc Cert.KernelDynIdeal.nD Cert.KernelDynIdeal.τ Cert.KernelDynIdeal.sig) → Buf (Elt Ideal) ℓ) : Prop :=
  True

def Pre_ReferenceDynIdeal (m : (ℓ : Loc Cert.ReferenceDynIdeal.nD Cert.ReferenceDynIdeal.τ Cert.ReferenceDynIdeal.sig) → Buf (Elt Ideal) ℓ) : Prop :=
  True

def Pre_KernelDwout (m : (ℓ : Loc Cert.KernelDwout.nD Cert.KernelDwout.τ Cert.KernelDwout.sig) → Buf (Elt Bits) ℓ) : Prop :=
  True

def Pre_KernelDwoutIdeal (m : (ℓ : Loc Cert.KernelDwoutIdeal.nD Cert.KernelDwoutIdeal.τ Cert.KernelDwoutIdeal.sig) → Buf (Elt Ideal) ℓ) : Prop :=
  True

def Pre_ReferenceDwoutIdeal (m : (ℓ : Loc Cert.ReferenceDwoutIdeal.nD Cert.ReferenceDwoutIdeal.τ Cert.ReferenceDwoutIdeal.sig) → Buf (Elt Ideal) ℓ) : Prop :=
  True

def Pre_KernelDwinz (m : (ℓ : Loc Cert.KernelDwinz.nD Cert.KernelDwinz.τ Cert.KernelDwinz.sig) → Buf (Elt Bits) ℓ) : Prop :=
  True

def Pre_KernelDwinzIdeal (m : (ℓ : Loc Cert.KernelDwinzIdeal.nD Cert.KernelDwinzIdeal.τ Cert.KernelDwinzIdeal.sig) → Buf (Elt Ideal) ℓ) : Prop :=
  True

def Pre_ReferenceDwinzIdeal (m : (ℓ : Loc Cert.ReferenceDwinzIdeal.nD Cert.ReferenceDwinzIdeal.τ Cert.ReferenceDwinzIdeal.sig) → Buf (Elt Ideal) ℓ) : Prop :=
  True

def Pre_KernelDwinxbc (m : (ℓ : Loc Cert.KernelDwinxbc.nD Cert.KernelDwinxbc.τ Cert.KernelDwinxbc.sig) → Buf (Elt Bits) ℓ) : Prop :=
  True

def Pre_KernelDwinxbcIdeal (m : (ℓ : Loc Cert.KernelDwinxbcIdeal.nD Cert.KernelDwinxbcIdeal.τ Cert.KernelDwinxbcIdeal.sig) → Buf (Elt Ideal) ℓ) : Prop :=
  True

def Pre_ReferenceDwinxbcIdeal (m : (ℓ : Loc Cert.ReferenceDwinxbcIdeal.nD Cert.ReferenceDwinxbcIdeal.τ Cert.ReferenceDwinxbcIdeal.sig) → Buf (Elt Ideal) ℓ) : Prop :=
  True

def Pre_KernelDwindt (m : (ℓ : Loc Cert.KernelDwindt.nD Cert.KernelDwindt.τ Cert.KernelDwindt.sig) → Buf (Elt Bits) ℓ) : Prop :=
  True

def Pre_KernelDwindtIdeal (m : (ℓ : Loc Cert.KernelDwindtIdeal.nD Cert.KernelDwindtIdeal.τ Cert.KernelDwindtIdeal.sig) → Buf (Elt Ideal) ℓ) : Prop :=
  True

def Pre_ReferenceDwindtIdeal (m : (ℓ : Loc Cert.ReferenceDwindtIdeal.nD Cert.ReferenceDwindtIdeal.τ Cert.ReferenceDwindtIdeal.sig) → Buf (Elt Ideal) ℓ) : Prop :=
  True

def Pre_KernelDuz (m : (ℓ : Loc Cert.KernelDuz.nD Cert.KernelDuz.τ Cert.KernelDuz.sig) → Buf (Elt Bits) ℓ) : Prop :=
  True

def Pre_KernelDuzIdeal (m : (ℓ : Loc Cert.KernelDuzIdeal.nD Cert.KernelDuzIdeal.τ Cert.KernelDuzIdeal.sig) → Buf (Elt Ideal) ℓ) : Prop :=
  True

def Pre_ReferenceDuzIdeal (m : (ℓ : Loc Cert.ReferenceDuzIdeal.nD Cert.ReferenceDuzIdeal.τ Cert.ReferenceDuzIdeal.sig) → Buf (Elt Ideal) ℓ) : Prop :=
  True

def Pre_KernelDuxbc (m : (ℓ : Loc Cert.KernelDuxbc.nD Cert.KernelDuxbc.τ Cert.KernelDuxbc.sig) → Buf (Elt Bits) ℓ) : Prop :=
  True

def Pre_KernelDuxbcIdeal (m : (ℓ : Loc Cert.KernelDuxbcIdeal.nD Cert.KernelDuxbcIdeal.τ Cert.KernelDuxbcIdeal.sig) → Buf (Elt Ideal) ℓ) : Prop :=
  True

def Pre_ReferenceDuxbcIdeal (m : (ℓ : Loc Cert.ReferenceDuxbcIdeal.nD Cert.ReferenceDuxbcIdeal.τ Cert.ReferenceDuxbcIdeal.sig) → Buf (Elt Ideal) ℓ) : Prop :=
  True

def Pre_KernelDudt (m : (ℓ : Loc Cert.KernelDudt.nD Cert.KernelDudt.τ Cert.KernelDudt.sig) → Buf (Elt Bits) ℓ) : Prop :=
  True

def Pre_KernelDudtIdeal (m : (ℓ : Loc Cert.KernelDudtIdeal.nD Cert.KernelDudtIdeal.τ Cert.KernelDudtIdeal.sig) → Buf (Elt Ideal) ℓ) : Prop :=
  True

def Pre_ReferenceDudtIdeal (m : (ℓ : Loc Cert.ReferenceDudtIdeal.nD Cert.ReferenceDudtIdeal.τ Cert.ReferenceDudtIdeal.sig) → Buf (Elt Ideal) ℓ) : Prop :=
  True

def Pre_KernelPleBwd (m : (ℓ : Loc Cert.KernelPleBwd.nD Cert.KernelPleBwd.τ Cert.KernelPleBwd.sig) → Buf (Elt Bits) ℓ) : Prop :=
  True

def Pre_KernelPleBwdIdeal (m : (ℓ : Loc Cert.KernelPleBwdIdeal.nD Cert.KernelPleBwdIdeal.τ Cert.KernelPleBwdIdeal.sig) → Buf (Elt Ideal) ℓ) : Prop :=
  True

def Pre_ReferencePleBwdIdeal (m : (ℓ : Loc Cert.ReferencePleBwdIdeal.nD Cert.ReferencePleBwdIdeal.τ Cert.ReferencePleBwdIdeal.sig) → Buf (Elt Ideal) ℓ) : Prop :=
  True

def Pre_KernelGluBwd (m : (ℓ : Loc Cert.KernelGluBwd.nD Cert.KernelGluBwd.τ Cert.KernelGluBwd.sig) → Buf (Elt Bits) ℓ) : Prop :=
  True

def Pre_KernelGluBwdIdeal (m : (ℓ : Loc Cert.KernelGluBwdIdeal.nD Cert.KernelGluBwdIdeal.τ Cert.KernelGluBwdIdeal.sig) → Buf (Elt Ideal) ℓ) : Prop :=
  True

def Pre_ReferenceGluBwdIdeal (m : (ℓ : Loc Cert.ReferenceGluBwdIdeal.nD Cert.ReferenceGluBwdIdeal.τ Cert.ReferenceGluBwdIdeal.sig) → Buf (Elt Ideal) ℓ) : Prop :=
  True

def Pre_KernelDxs (m : (ℓ : Loc Cert.KernelDxs.nD Cert.KernelDxs.τ Cert.KernelDxs.sig) → Buf (Elt Bits) ℓ) : Prop :=
  True

def Pre_KernelDxsIdeal (m : (ℓ : Loc Cert.KernelDxsIdeal.nD Cert.KernelDxsIdeal.τ Cert.KernelDxsIdeal.sig) → Buf (Elt Ideal) ℓ) : Prop :=
  True

def Pre_ReferenceDxsIdeal (m : (ℓ : Loc Cert.ReferenceDxsIdeal.nD Cert.ReferenceDxsIdeal.τ Cert.ReferenceDxsIdeal.sig) → Buf (Elt Ideal) ℓ) : Prop :=
  True

def Pre_KernelRms (m : (ℓ : Loc Cert.KernelRms.nD Cert.KernelRms.τ Cert.KernelRms.sig) → Buf (Elt Bits) ℓ) : Prop :=
  True

def Pre_KernelRmsIdeal (m : (ℓ : Loc Cert.KernelRmsIdeal.nD Cert.KernelRmsIdeal.τ Cert.KernelRmsIdeal.sig) → Buf (Elt Ideal) ℓ) : Prop :=
  True

def Pre_ReferenceRmsIdeal (m : (ℓ : Loc Cert.ReferenceRmsIdeal.nD Cert.ReferenceRmsIdeal.τ Cert.ReferenceRmsIdeal.sig) → Buf (Elt Ideal) ℓ) : Prop :=
  True

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelLn (m : (ℓ : Loc Cert.KernelLn.nD Cert.KernelLn.τ Cert.KernelLn.sig) → Buf (Elt Bits) ℓ) : Prop :=
  True

def Pre_KernelLnIdeal (m : (ℓ : Loc Cert.KernelLnIdeal.nD Cert.KernelLnIdeal.τ Cert.KernelLnIdeal.sig) → Buf (Elt Ideal) ℓ) : Prop :=
  True

def Pre_ReferenceLnIdeal (m : (ℓ : Loc Cert.ReferenceLnIdeal.nD Cert.ReferenceLnIdeal.τ Cert.ReferenceLnIdeal.sig) → Buf (Elt Ideal) ℓ) : Prop :=
  True

def Pre_KernelGnorm (m : (ℓ : Loc Cert.KernelGnorm.nD Cert.KernelGnorm.τ Cert.KernelGnorm.sig) → Buf (Elt Bits) ℓ) : Prop :=
  True

def Pre_KernelGnormIdeal (m : (ℓ : Loc Cert.KernelGnormIdeal.nD Cert.KernelGnormIdeal.τ Cert.KernelGnormIdeal.sig) → Buf (Elt Ideal) ℓ) : Prop :=
  True

def Pre_ReferenceGnormIdeal (m : (ℓ : Loc Cert.ReferenceGnormIdeal.nD Cert.ReferenceGnormIdeal.τ Cert.ReferenceGnormIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelAdamw (m : (ℓ : Loc Cert.KernelAdamw.nD Cert.KernelAdamw.τ Cert.KernelAdamw.sig) → Buf (Elt Bits) ℓ) : Prop :=
  True

def Pre_KernelAdamwIdeal (m : (ℓ : Loc Cert.KernelAdamwIdeal.nD Cert.KernelAdamwIdeal.τ Cert.KernelAdamwIdeal.sig) → Buf (Elt Ideal) ℓ) : Prop :=
  True

def Pre_ReferenceAdamwIdeal (m : (ℓ : Loc Cert.ReferenceAdamwIdeal.nD Cert.ReferenceAdamwIdeal.τ Cert.ReferenceAdamwIdeal.sig) → Buf (Elt Ideal) ℓ) : Prop :=
  True

def Pre_KernelRmsBwd (m : (ℓ : Loc Cert.KernelRmsBwd.nD Cert.KernelRmsBwd.τ Cert.KernelRmsBwd.sig) → Buf (Elt Bits) ℓ) : Prop :=
  True

def Pre_KernelRmsBwdIdeal (m : (ℓ : Loc Cert.KernelRmsBwdIdeal.nD Cert.KernelRmsBwdIdeal.τ Cert.KernelRmsBwdIdeal.sig) → Buf (Elt Ideal) ℓ) : Prop :=
  True

def Pre_ReferenceRmsBwdIdeal (m : (ℓ : Loc Cert.ReferenceRmsBwdIdeal.nD Cert.ReferenceRmsBwdIdeal.τ Cert.ReferenceRmsBwdIdeal.sig) → Buf (Elt Ideal) ℓ) : Prop :=
  True

def Pre_KernelSiluBwd (m : (ℓ : Loc Cert.KernelSiluBwd.nD Cert.KernelSiluBwd.τ Cert.KernelSiluBwd.sig) → Buf (Elt Bits) ℓ) : Prop :=
  True

def Pre_KernelSiluBwdIdeal (m : (ℓ : Loc Cert.KernelSiluBwdIdeal.nD Cert.KernelSiluBwdIdeal.τ Cert.KernelSiluBwdIdeal.sig) → Buf (Elt Ideal) ℓ) : Prop :=
  True

def Pre_KernelSiluBwdIdeal_finite_silu [hPre_finite_silu : Cert.Pre_finite_silu.Facts] (m : (ℓ : Loc Cert.KernelSiluBwdIdeal.nD Cert.KernelSiluBwdIdeal.τ Cert.KernelSiluBwdIdeal.sig) → Buf (Elt Ideal) ℓ) : Prop :=
  ∀ c : Dev Cert.KernelSiluBwdIdeal.nD,
    (Cert.Pre_finite_silu.fn (F := Ideal) (m ((c.tc : Thread Cert.KernelSiluBwdIdeal.nD Cert.KernelSiluBwdIdeal.τ).loc Cert.KernelSiluBwdIdeal.main_arg0)) (m ((c.tc : Thread Cert.KernelSiluBwdIdeal.nD Cert.KernelSiluBwdIdeal.τ).loc Cert.KernelSiluBwdIdeal.main_arg1))).1 = (fun _ => 1#1)
    ∧ (Cert.Pre_finite_silu.fn (F := Ideal) (m ((c.tc : Thread Cert.KernelSiluBwdIdeal.nD Cert.KernelSiluBwdIdeal.τ).loc Cert.KernelSiluBwdIdeal.main_arg0)) (m ((c.tc : Thread Cert.KernelSiluBwdIdeal.nD Cert.KernelSiluBwdIdeal.τ).loc Cert.KernelSiluBwdIdeal.main_arg1))).2 = (fun _ => 1#1)

def Pre_ReferenceSiluBwdIdeal (m : (ℓ : Loc Cert.ReferenceSiluBwdIdeal.nD Cert.ReferenceSiluBwdIdeal.τ Cert.ReferenceSiluBwdIdeal.sig) → Buf (Elt Ideal) ℓ) : Prop :=
  True

def Pre_ReferenceSiluBwdIdeal_finite_silu [hPre_finite_silu : Cert.Pre_finite_silu.Facts] (m : (ℓ : Loc Cert.ReferenceSiluBwdIdeal.nD Cert.ReferenceSiluBwdIdeal.τ Cert.ReferenceSiluBwdIdeal.sig) → Buf (Elt Ideal) ℓ) : Prop :=
  ∀ c : Dev Cert.ReferenceSiluBwdIdeal.nD,
    (Cert.Pre_finite_silu.fn (F := Ideal) (m ((c.tc : Thread Cert.ReferenceSiluBwdIdeal.nD Cert.ReferenceSiluBwdIdeal.τ).loc Cert.ReferenceSiluBwdIdeal.main_arg0)) (m ((c.tc : Thread Cert.ReferenceSiluBwdIdeal.nD Cert.ReferenceSiluBwdIdeal.τ).loc Cert.ReferenceSiluBwdIdeal.main_arg1))).1 = (fun _ => 1#1)
    ∧ (Cert.Pre_finite_silu.fn (F := Ideal) (m ((c.tc : Thread Cert.ReferenceSiluBwdIdeal.nD Cert.ReferenceSiluBwdIdeal.τ).loc Cert.ReferenceSiluBwdIdeal.main_arg0)) (m ((c.tc : Thread Cert.ReferenceSiluBwdIdeal.nD Cert.ReferenceSiluBwdIdeal.τ).loc Cert.ReferenceSiluBwdIdeal.main_arg1))).2 = (fun _ => 1#1)

def Pre_KernelLnBwd (m : (ℓ : Loc Cert.KernelLnBwd.nD Cert.KernelLnBwd.τ Cert.KernelLnBwd.sig) → Buf (Elt Bits) ℓ) : Prop :=
  True

def Pre_KernelLnBwdIdeal (m : (ℓ : Loc Cert.KernelLnBwdIdeal.nD Cert.KernelLnBwdIdeal.τ Cert.KernelLnBwdIdeal.sig) → Buf (Elt Ideal) ℓ) : Prop :=
  True

def Pre_KernelLnBwdIdeal_finite_ln [hPre_finite_ln : Cert.Pre_finite_ln.Facts] (m : (ℓ : Loc Cert.KernelLnBwdIdeal.nD Cert.KernelLnBwdIdeal.τ Cert.KernelLnBwdIdeal.sig) → Buf (Elt Ideal) ℓ) : Prop :=
  ∀ c : Dev Cert.KernelLnBwdIdeal.nD,
    (Cert.Pre_finite_ln.fn (F := Ideal) (m ((c.tc : Thread Cert.KernelLnBwdIdeal.nD Cert.KernelLnBwdIdeal.τ).loc Cert.KernelLnBwdIdeal.main_arg0)) (m ((c.tc : Thread Cert.KernelLnBwdIdeal.nD Cert.KernelLnBwdIdeal.τ).loc Cert.KernelLnBwdIdeal.main_arg1)) (m ((c.tc : Thread Cert.KernelLnBwdIdeal.nD Cert.KernelLnBwdIdeal.τ).loc Cert.KernelLnBwdIdeal.main_arg2)) (m ((c.tc : Thread Cert.KernelLnBwdIdeal.nD Cert.KernelLnBwdIdeal.τ).loc Cert.KernelLnBwdIdeal.main_arg3))).1 = (fun _ => 1#1)
    ∧ (Cert.Pre_finite_ln.fn (F := Ideal) (m ((c.tc : Thread Cert.KernelLnBwdIdeal.nD Cert.KernelLnBwdIdeal.τ).loc Cert.KernelLnBwdIdeal.main_arg0)) (m ((c.tc : Thread Cert.KernelLnBwdIdeal.nD Cert.KernelLnBwdIdeal.τ).loc Cert.KernelLnBwdIdeal.main_arg1)) (m ((c.tc : Thread Cert.KernelLnBwdIdeal.nD Cert.KernelLnBwdIdeal.τ).loc Cert.KernelLnBwdIdeal.main_arg2)) (m ((c.tc : Thread Cert.KernelLnBwdIdeal.nD Cert.KernelLnBwdIdeal.τ).loc Cert.KernelLnBwdIdeal.main_arg3))).2.1 = (fun _ => 1#1)
    ∧ (Cert.Pre_finite_ln.fn (F := Ideal) (m ((c.tc : Thread Cert.KernelLnBwdIdeal.nD Cert.KernelLnBwdIdeal.τ).loc Cert.KernelLnBwdIdeal.main_arg0)) (m ((c.tc : Thread Cert.KernelLnBwdIdeal.nD Cert.KernelLnBwdIdeal.τ).loc Cert.KernelLnBwdIdeal.main_arg1)) (m ((c.tc : Thread Cert.KernelLnBwdIdeal.nD Cert.KernelLnBwdIdeal.τ).loc Cert.KernelLnBwdIdeal.main_arg2)) (m ((c.tc : Thread Cert.KernelLnBwdIdeal.nD Cert.KernelLnBwdIdeal.τ).loc Cert.KernelLnBwdIdeal.main_arg3))).2.2.1 = (fun _ => 1#1)
    ∧ (Cert.Pre_finite_ln.fn (F := Ideal) (m ((c.tc : Thread Cert.KernelLnBwdIdeal.nD Cert.KernelLnBwdIdeal.τ).loc Cert.KernelLnBwdIdeal.main_arg0)) (m ((c.tc : Thread Cert.KernelLnBwdIdeal.nD Cert.KernelLnBwdIdeal.τ).loc Cert.KernelLnBwdIdeal.main_arg1)) (m ((c.tc : Thread Cert.KernelLnBwdIdeal.nD Cert.KernelLnBwdIdeal.τ).loc Cert.KernelLnBwdIdeal.main_arg2)) (m ((c.tc : Thread Cert.KernelLnBwdIdeal.nD Cert.KernelLnBwdIdeal.τ).loc Cert.KernelLnBwdIdeal.main_arg3))).2.2.2 = (fun _ => 1#1)

def Pre_ReferenceLnBwdIdeal (m : (ℓ : Loc Cert.ReferenceLnBwdIdeal.nD Cert.ReferenceLnBwdIdeal.τ Cert.ReferenceLnBwdIdeal.sig) → Buf (Elt Ideal) ℓ) : Prop :=
  True

def Pre_ReferenceLnBwdIdeal_finite_ln [hPre_finite_ln : Cert.Pre_finite_ln.Facts] (m : (ℓ : Loc Cert.ReferenceLnBwdIdeal.nD Cert.ReferenceLnBwdIdeal.τ Cert.ReferenceLnBwdIdeal.sig) → Buf (Elt Ideal) ℓ) : Prop :=
  ∀ c : Dev Cert.ReferenceLnBwdIdeal.nD,
    (Cert.Pre_finite_ln.fn (F := Ideal) (m ((c.tc : Thread Cert.ReferenceLnBwdIdeal.nD Cert.ReferenceLnBwdIdeal.τ).loc Cert.ReferenceLnBwdIdeal.main_arg0)) (m ((c.tc : Thread Cert.ReferenceLnBwdIdeal.nD Cert.ReferenceLnBwdIdeal.τ).loc Cert.ReferenceLnBwdIdeal.main_arg1)) (m ((c.tc : Thread Cert.ReferenceLnBwdIdeal.nD Cert.ReferenceLnBwdIdeal.τ).loc Cert.ReferenceLnBwdIdeal.main_arg2)) (m ((c.tc : Thread Cert.ReferenceLnBwdIdeal.nD Cert.ReferenceLnBwdIdeal.τ).loc Cert.ReferenceLnBwdIdeal.main_arg3))).1 = (fun _ => 1#1)
    ∧ (Cert.Pre_finite_ln.fn (F := Ideal) (m ((c.tc : Thread Cert.ReferenceLnBwdIdeal.nD Cert.ReferenceLnBwdIdeal.τ).loc Cert.ReferenceLnBwdIdeal.main_arg0)) (m ((c.tc : Thread Cert.ReferenceLnBwdIdeal.nD Cert.ReferenceLnBwdIdeal.τ).loc Cert.ReferenceLnBwdIdeal.main_arg1)) (m ((c.tc : Thread Cert.ReferenceLnBwdIdeal.nD Cert.ReferenceLnBwdIdeal.τ).loc Cert.ReferenceLnBwdIdeal.main_arg2)) (m ((c.tc : Thread Cert.ReferenceLnBwdIdeal.nD Cert.ReferenceLnBwdIdeal.τ).loc Cert.ReferenceLnBwdIdeal.main_arg3))).2.1 = (fun _ => 1#1)
    ∧ (Cert.Pre_finite_ln.fn (F := Ideal) (m ((c.tc : Thread Cert.ReferenceLnBwdIdeal.nD Cert.ReferenceLnBwdIdeal.τ).loc Cert.ReferenceLnBwdIdeal.main_arg0)) (m ((c.tc : Thread Cert.ReferenceLnBwdIdeal.nD Cert.ReferenceLnBwdIdeal.τ).loc Cert.ReferenceLnBwdIdeal.main_arg1)) (m ((c.tc : Thread Cert.ReferenceLnBwdIdeal.nD Cert.ReferenceLnBwdIdeal.τ).loc Cert.ReferenceLnBwdIdeal.main_arg2)) (m ((c.tc : Thread Cert.ReferenceLnBwdIdeal.nD Cert.ReferenceLnBwdIdeal.τ).loc Cert.ReferenceLnBwdIdeal.main_arg3))).2.2.1 = (fun _ => 1#1)
    ∧ (Cert.Pre_finite_ln.fn (F := Ideal) (m ((c.tc : Thread Cert.ReferenceLnBwdIdeal.nD Cert.ReferenceLnBwdIdeal.τ).loc Cert.ReferenceLnBwdIdeal.main_arg0)) (m ((c.tc : Thread Cert.ReferenceLnBwdIdeal.nD Cert.ReferenceLnBwdIdeal.τ).loc Cert.ReferenceLnBwdIdeal.main_arg1)) (m ((c.tc : Thread Cert.ReferenceLnBwdIdeal.nD Cert.ReferenceLnBwdIdeal.τ).loc Cert.ReferenceLnBwdIdeal.main_arg2)) (m ((c.tc : Thread Cert.ReferenceLnBwdIdeal.nD Cert.ReferenceLnBwdIdeal.τ).loc Cert.ReferenceLnBwdIdeal.main_arg3))).2.2.2 = (fun _ => 1#1)

def Pre_KernelGnormBwd (m : (ℓ : Loc Cert.KernelGnormBwd.nD Cert.KernelGnormBwd.τ Cert.KernelGnormBwd.sig) → Buf (Elt Bits) ℓ) : Prop :=
  True

def Pre_KernelGnormBwdIdeal (m : (ℓ : Loc Cert.KernelGnormBwdIdeal.nD Cert.KernelGnormBwdIdeal.τ Cert.KernelGnormBwdIdeal.sig) → Buf (Elt Ideal) ℓ) : Prop :=
  True

def Pre_KernelGnormBwdIdeal_finite_gnorm [hPre_finite_gnorm : Cert.Pre_finite_gnorm.Facts] (m : (ℓ : Loc Cert.KernelGnormBwdIdeal.nD Cert.KernelGnormBwdIdeal.τ Cert.KernelGnormBwdIdeal.sig) → Buf (Elt Ideal) ℓ) : Prop :=
  ∀ c : Dev Cert.KernelGnormBwdIdeal.nD,
    (Cert.Pre_finite_gnorm.fn (F := Ideal) (m ((c.tc : Thread Cert.KernelGnormBwdIdeal.nD Cert.KernelGnormBwdIdeal.τ).loc Cert.KernelGnormBwdIdeal.main_arg0)) (m ((c.tc : Thread Cert.KernelGnormBwdIdeal.nD Cert.KernelGnormBwdIdeal.τ).loc Cert.KernelGnormBwdIdeal.main_arg1)) (m ((c.tc : Thread Cert.KernelGnormBwdIdeal.nD Cert.KernelGnormBwdIdeal.τ).loc Cert.KernelGnormBwdIdeal.main_arg2)) (m ((c.tc : Thread Cert.KernelGnormBwdIdeal.nD Cert.KernelGnormBwdIdeal.τ).loc Cert.KernelGnormBwdIdeal.main_arg3)) (m ((c.tc : Thread Cert.KernelGnormBwdIdeal.nD Cert.KernelGnormBwdIdeal.τ).loc Cert.KernelGnormBwdIdeal.main_arg4)) (m ((c.tc : Thread Cert.KernelGnormBwdIdeal.nD Cert.KernelGnormBwdIdeal.τ).loc Cert.KernelGnormBwdIdeal.main_arg5))).1 = (fun _ => 1#1)
    ∧ (Cert.Pre_finite_gnorm.fn (F := Ideal) (m ((c.tc : Thread Cert.KernelGnormBwdIdeal.nD Cert.KernelGnormBwdIdeal.τ).loc Cert.KernelGnormBwdIdeal.main_arg0)) (m ((c.tc : Thread Cert.KernelGnormBwdIdeal.nD Cert.KernelGnormBwdIdeal.τ).loc Cert.KernelGnormBwdIdeal.main_arg1)) (m ((c.tc : Thread Cert.KernelGnormBwdIdeal.nD Cert.KernelGnormBwdIdeal.τ).loc Cert.KernelGnormBwdIdeal.main_arg2)) (m ((c.tc : Thread Cert.KernelGnormBwdIdeal.nD Cert.KernelGnormBwdIdeal.τ).loc Cert.KernelGnormBwdIdeal.main_arg3)) (m ((c.tc : Thread Cert.KernelGnormBwdIdeal.nD Cert.KernelGnormBwdIdeal.τ).loc Cert.KernelGnormBwdIdeal.main_arg4)) (m ((c.tc : Thread Cert.KernelGnormBwdIdeal.nD Cert.KernelGnormBwdIdeal.τ).loc Cert.KernelGnormBwdIdeal.main_arg5))).2.1 = (fun _ => 1#1)
    ∧ (Cert.Pre_finite_gnorm.fn (F := Ideal) (m ((c.tc : Thread Cert.KernelGnormBwdIdeal.nD Cert.KernelGnormBwdIdeal.τ).loc Cert.KernelGnormBwdIdeal.main_arg0)) (m ((c.tc : Thread Cert.KernelGnormBwdIdeal.nD Cert.KernelGnormBwdIdeal.τ).loc Cert.KernelGnormBwdIdeal.main_arg1)) (m ((c.tc : Thread Cert.KernelGnormBwdIdeal.nD Cert.KernelGnormBwdIdeal.τ).loc Cert.KernelGnormBwdIdeal.main_arg2)) (m ((c.tc : Thread Cert.KernelGnormBwdIdeal.nD Cert.KernelGnormBwdIdeal.τ).loc Cert.KernelGnormBwdIdeal.main_arg3)) (m ((c.tc : Thread Cert.KernelGnormBwdIdeal.nD Cert.KernelGnormBwdIdeal.τ).loc Cert.KernelGnormBwdIdeal.main_arg4)) (m ((c.tc : Thread Cert.KernelGnormBwdIdeal.nD Cert.KernelGnormBwdIdeal.τ).loc Cert.KernelGnormBwdIdeal.main_arg5))).2.2.1 = (fun _ => 1#1)
    ∧ (Cert.Pre_finite_gnorm.fn (F := Ideal) (m ((c.tc : Thread Cert.KernelGnormBwdIdeal.nD Cert.KernelGnormBwdIdeal.τ).loc Cert.KernelGnormBwdIdeal.main_arg0)) (m ((c.tc : Thread Cert.KernelGnormBwdIdeal.nD Cert.KernelGnormBwdIdeal.τ).loc Cert.KernelGnormBwdIdeal.main_arg1)) (m ((c.tc : Thread Cert.KernelGnormBwdIdeal.nD Cert.KernelGnormBwdIdeal.τ).loc Cert.KernelGnormBwdIdeal.main_arg2)) (m ((c.tc : Thread Cert.KernelGnormBwdIdeal.nD Cert.KernelGnormBwdIdeal.τ).loc Cert.KernelGnormBwdIdeal.main_arg3)) (m ((c.tc : Thread Cert.KernelGnormBwdIdeal.nD Cert.KernelGnormBwdIdeal.τ).loc Cert.KernelGnormBwdIdeal.main_arg4)) (m ((c.tc : Thread Cert.KernelGnormBwdIdeal.nD Cert.KernelGnormBwdIdeal.τ).loc Cert.KernelGnormBwdIdeal.main_arg5))).2.2.2.1 = (fun _ => 1#1)
    ∧ (Cert.Pre_finite_gnorm.fn (F := Ideal) (m ((c.tc : Thread Cert.KernelGnormBwdIdeal.nD Cert.KernelGnormBwdIdeal.τ).loc Cert.KernelGnormBwdIdeal.main_arg0)) (m ((c.tc : Thread Cert.KernelGnormBwdIdeal.nD Cert.KernelGnormBwdIdeal.τ).loc Cert.KernelGnormBwdIdeal.main_arg1)) (m ((c.tc : Thread Cert.KernelGnormBwdIdeal.nD Cert.KernelGnormBwdIdeal.τ).loc Cert.KernelGnormBwdIdeal.main_arg2)) (m ((c.tc : Thread Cert.KernelGnormBwdIdeal.nD Cert.KernelGnormBwdIdeal.τ).loc Cert.KernelGnormBwdIdeal.main_arg3)) (m ((c.tc : Thread Cert.KernelGnormBwdIdeal.nD Cert.KernelGnormBwdIdeal.τ).loc Cert.KernelGnormBwdIdeal.main_arg4)) (m ((c.tc : Thread Cert.KernelGnormBwdIdeal.nD Cert.KernelGnormBwdIdeal.τ).loc Cert.KernelGnormBwdIdeal.main_arg5))).2.2.2.2.1 = (fun _ => 1#1)
    ∧ (Cert.Pre_finite_gnorm.fn (F := Ideal) (m ((c.tc : Thread Cert.KernelGnormBwdIdeal.nD Cert.KernelGnormBwdIdeal.τ).loc Cert.KernelGnormBwdIdeal.main_arg0)) (m ((c.tc : Thread Cert.KernelGnormBwdIdeal.nD Cert.KernelGnormBwdIdeal.τ).loc Cert.KernelGnormBwdIdeal.main_arg1)) (m ((c.tc : Thread Cert.KernelGnormBwdIdeal.nD Cert.KernelGnormBwdIdeal.τ).loc Cert.KernelGnormBwdIdeal.main_arg2)) (m ((c.tc : Thread Cert.KernelGnormBwdIdeal.nD Cert.KernelGnormBwdIdeal.τ).loc Cert.KernelGnormBwdIdeal.main_arg3)) (m ((c.tc : Thread Cert.KernelGnormBwdIdeal.nD Cert.KernelGnormBwdIdeal.τ).loc Cert.KernelGnormBwdIdeal.main_arg4)) (m ((c.tc : Thread Cert.KernelGnormBwdIdeal.nD Cert.KernelGnormBwdIdeal.τ).loc Cert.KernelGnormBwdIdeal.main_arg5))).2.2.2.2.2 = (fun _ => 1#1)

def Pre_ReferenceGnormBwdIdeal (m : (ℓ : Loc Cert.ReferenceGnormBwdIdeal.nD Cert.ReferenceGnormBwdIdeal.τ Cert.ReferenceGnormBwdIdeal.sig) → Buf (Elt Ideal) ℓ) : Prop :=
  True

def Pre_ReferenceGnormBwdIdeal_finite_gnorm [hPre_finite_gnorm : Cert.Pre_finite_gnorm.Facts] (m : (ℓ : Loc Cert.ReferenceGnormBwdIdeal.nD Cert.ReferenceGnormBwdIdeal.τ Cert.ReferenceGnormBwdIdeal.sig) → Buf (Elt Ideal) ℓ) : Prop :=
  ∀ c : Dev Cert.ReferenceGnormBwdIdeal.nD,
    (Cert.Pre_finite_gnorm.fn (F := Ideal) (m ((c.tc : Thread Cert.ReferenceGnormBwdIdeal.nD Cert.ReferenceGnormBwdIdeal.τ).loc Cert.ReferenceGnormBwdIdeal.main_arg0)) (m ((c.tc : Thread Cert.ReferenceGnormBwdIdeal.nD Cert.ReferenceGnormBwdIdeal.τ).loc Cert.ReferenceGnormBwdIdeal.main_arg1)) (m ((c.tc : Thread Cert.ReferenceGnormBwdIdeal.nD Cert.ReferenceGnormBwdIdeal.τ).loc Cert.ReferenceGnormBwdIdeal.main_arg2)) (m ((c.tc : Thread Cert.ReferenceGnormBwdIdeal.nD Cert.ReferenceGnormBwdIdeal.τ).loc Cert.ReferenceGnormBwdIdeal.main_arg3)) (m ((c.tc : Thread Cert.ReferenceGnormBwdIdeal.nD Cert.ReferenceGnormBwdIdeal.τ).loc Cert.ReferenceGnormBwdIdeal.main_arg4)) (m ((c.tc : Thread Cert.ReferenceGnormBwdIdeal.nD Cert.ReferenceGnormBwdIdeal.τ).loc Cert.ReferenceGnormBwdIdeal.main_arg5))).1 = (fun _ => 1#1)
    ∧ (Cert.Pre_finite_gnorm.fn (F := Ideal) (m ((c.tc : Thread Cert.ReferenceGnormBwdIdeal.nD Cert.ReferenceGnormBwdIdeal.τ).loc Cert.ReferenceGnormBwdIdeal.main_arg0)) (m ((c.tc : Thread Cert.ReferenceGnormBwdIdeal.nD Cert.ReferenceGnormBwdIdeal.τ).loc Cert.ReferenceGnormBwdIdeal.main_arg1)) (m ((c.tc : Thread Cert.ReferenceGnormBwdIdeal.nD Cert.ReferenceGnormBwdIdeal.τ).loc Cert.ReferenceGnormBwdIdeal.main_arg2)) (m ((c.tc : Thread Cert.ReferenceGnormBwdIdeal.nD Cert.ReferenceGnormBwdIdeal.τ).loc Cert.ReferenceGnormBwdIdeal.main_arg3)) (m ((c.tc : Thread Cert.ReferenceGnormBwdIdeal.nD Cert.ReferenceGnormBwdIdeal.τ).loc Cert.ReferenceGnormBwdIdeal.main_arg4)) (m ((c.tc : Thread Cert.ReferenceGnormBwdIdeal.nD Cert.ReferenceGnormBwdIdeal.τ).loc Cert.ReferenceGnormBwdIdeal.main_arg5))).2.1 = (fun _ => 1#1)
    ∧ (Cert.Pre_finite_gnorm.fn (F := Ideal) (m ((c.tc : Thread Cert.ReferenceGnormBwdIdeal.nD Cert.ReferenceGnormBwdIdeal.τ).loc Cert.ReferenceGnormBwdIdeal.main_arg0)) (m ((c.tc : Thread Cert.ReferenceGnormBwdIdeal.nD Cert.ReferenceGnormBwdIdeal.τ).loc Cert.ReferenceGnormBwdIdeal.main_arg1)) (m ((c.tc : Thread Cert.ReferenceGnormBwdIdeal.nD Cert.ReferenceGnormBwdIdeal.τ).loc Cert.ReferenceGnormBwdIdeal.main_arg2)) (m ((c.tc : Thread Cert.ReferenceGnormBwdIdeal.nD Cert.ReferenceGnormBwdIdeal.τ).loc Cert.ReferenceGnormBwdIdeal.main_arg3)) (m ((c.tc : Thread Cert.ReferenceGnormBwdIdeal.nD Cert.ReferenceGnormBwdIdeal.τ).loc Cert.ReferenceGnormBwdIdeal.main_arg4)) (m ((c.tc : Thread Cert.ReferenceGnormBwdIdeal.nD Cert.ReferenceGnormBwdIdeal.τ).loc Cert.ReferenceGnormBwdIdeal.main_arg5))).2.2.1 = (fun _ => 1#1)
    ∧ (Cert.Pre_finite_gnorm.fn (F := Ideal) (m ((c.tc : Thread Cert.ReferenceGnormBwdIdeal.nD Cert.ReferenceGnormBwdIdeal.τ).loc Cert.ReferenceGnormBwdIdeal.main_arg0)) (m ((c.tc : Thread Cert.ReferenceGnormBwdIdeal.nD Cert.ReferenceGnormBwdIdeal.τ).loc Cert.ReferenceGnormBwdIdeal.main_arg1)) (m ((c.tc : Thread Cert.ReferenceGnormBwdIdeal.nD Cert.ReferenceGnormBwdIdeal.τ).loc Cert.ReferenceGnormBwdIdeal.main_arg2)) (m ((c.tc : Thread Cert.ReferenceGnormBwdIdeal.nD Cert.ReferenceGnormBwdIdeal.τ).loc Cert.ReferenceGnormBwdIdeal.main_arg3)) (m ((c.tc : Thread Cert.ReferenceGnormBwdIdeal.nD Cert.ReferenceGnormBwdIdeal.τ).loc Cert.ReferenceGnormBwdIdeal.main_arg4)) (m ((c.tc : Thread Cert.ReferenceGnormBwdIdeal.nD Cert.ReferenceGnormBwdIdeal.τ).loc Cert.ReferenceGnormBwdIdeal.main_arg5))).2.2.2.1 = (fun _ => 1#1)
    ∧ (Cert.Pre_finite_gnorm.fn (F := Ideal) (m ((c.tc : Thread Cert.ReferenceGnormBwdIdeal.nD Cert.ReferenceGnormBwdIdeal.τ).loc Cert.ReferenceGnormBwdIdeal.main_arg0)) (m ((c.tc : Thread Cert.ReferenceGnormBwdIdeal.nD Cert.ReferenceGnormBwdIdeal.τ).loc Cert.ReferenceGnormBwdIdeal.main_arg1)) (m ((c.tc : Thread Cert.ReferenceGnormBwdIdeal.nD Cert.ReferenceGnormBwdIdeal.τ).loc Cert.ReferenceGnormBwdIdeal.main_arg2)) (m ((c.tc : Thread Cert.ReferenceGnormBwdIdeal.nD Cert.ReferenceGnormBwdIdeal.τ).loc Cert.ReferenceGnormBwdIdeal.main_arg3)) (m ((c.tc : Thread Cert.ReferenceGnormBwdIdeal.nD Cert.ReferenceGnormBwdIdeal.τ).loc Cert.ReferenceGnormBwdIdeal.main_arg4)) (m ((c.tc : Thread Cert.ReferenceGnormBwdIdeal.nD Cert.ReferenceGnormBwdIdeal.τ).loc Cert.ReferenceGnormBwdIdeal.main_arg5))).2.2.2.2.1 = (fun _ => 1#1)
    ∧ (Cert.Pre_finite_gnorm.fn (F := Ideal) (m ((c.tc : Thread Cert.ReferenceGnormBwdIdeal.nD Cert.ReferenceGnormBwdIdeal.τ).loc Cert.ReferenceGnormBwdIdeal.main_arg0)) (m ((c.tc : Thread Cert.ReferenceGnormBwdIdeal.nD Cert.ReferenceGnormBwdIdeal.τ).loc Cert.ReferenceGnormBwdIdeal.main_arg1)) (m ((c.tc : Thread Cert.ReferenceGnormBwdIdeal.nD Cert.ReferenceGnormBwdIdeal.τ).loc Cert.ReferenceGnormBwdIdeal.main_arg2)) (m ((c.tc : Thread Cert.ReferenceGnormBwdIdeal.nD Cert.ReferenceGnormBwdIdeal.τ).loc Cert.ReferenceGnormBwdIdeal.main_arg3)) (m ((c.tc : Thread Cert.ReferenceGnormBwdIdeal.nD Cert.ReferenceGnormBwdIdeal.τ).loc Cert.ReferenceGnormBwdIdeal.main_arg4)) (m ((c.tc : Thread Cert.ReferenceGnormBwdIdeal.nD Cert.ReferenceGnormBwdIdeal.τ).loc Cert.ReferenceGnormBwdIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelW1 [hKernelW1 : Cert.KernelW1.Facts] : Prop :=
  ∀ (m : (ℓ : Loc Cert.KernelW1.nD Cert.KernelW1.τ Cert.KernelW1.sig) → Buf (Elt Bits) ℓ) (g : Dev Cert.KernelW1.nD → PrngReg), Pre_KernelW1 m →
    θ_run (Cert.KernelW1.defs (F := Bits)) (onTc (τ := Cert.KernelW1.τ) (Cert.KernelW1.main (F := Bits))) ⟨m, fun _ => 0, g⟩ (fun r => (∀ c : Dev Cert.KernelW1.nD,
      r.2.mem ((c.tc : Thread Cert.KernelW1.nD Cert.KernelW1.τ).loc Cert.KernelW1.main_arg0) = m ((c.tc : Thread Cert.KernelW1.nD Cert.KernelW1.τ).loc Cert.KernelW1.main_arg0)
      ∧ r.2.mem ((c.tc : Thread Cert.KernelW1.nD Cert.KernelW1.τ).loc Cert.KernelW1.main_arg1) = m ((c.tc : Thread Cert.KernelW1.nD Cert.KernelW1.τ).loc Cert.KernelW1.main_arg1))
      ∧ r.2.sem = fun _ => 0)

def quiescent_KernelW1Ideal [hKernelW1Ideal : Cert.KernelW1Ideal.Facts] : Prop :=
  ∀ (m : (ℓ : Loc Cert.KernelW1Ideal.nD Cert.KernelW1Ideal.τ Cert.KernelW1Ideal.sig) → Buf (Elt Ideal) ℓ) (g : Dev Cert.KernelW1Ideal.nD → PrngReg), Pre_KernelW1Ideal m →
    θ_run (Cert.KernelW1Ideal.defs (F := Ideal)) (onTc (τ := Cert.KernelW1Ideal.τ) (Cert.KernelW1Ideal.main (F := Ideal))) ⟨m, fun _ => 0, g⟩ (fun r => (∀ c : Dev Cert.KernelW1Ideal.nD,
      r.2.mem ((c.tc : Thread Cert.KernelW1Ideal.nD Cert.KernelW1Ideal.τ).loc Cert.KernelW1Ideal.main_arg0) = m ((c.tc : Thread Cert.KernelW1Ideal.nD Cert.KernelW1Ideal.τ).loc Cert.KernelW1Ideal.main_arg0)
      ∧ r.2.mem ((c.tc : Thread Cert.KernelW1Ideal.nD Cert.KernelW1Ideal.τ).loc Cert.KernelW1Ideal.main_arg1) = m ((c.tc : Thread Cert.KernelW1Ideal.nD Cert.KernelW1Ideal.τ).loc Cert.KernelW1Ideal.main_arg1))
      ∧ r.2.sem = fun _ => 0)

def quiescent_ReferenceW1Ideal [hReferenceW1Ideal : Cert.ReferenceW1Ideal.Facts] : Prop :=
  ∀ (m : (ℓ : Loc Cert.ReferenceW1Ideal.nD Cert.ReferenceW1Ideal.τ Cert.ReferenceW1Ideal.sig) → Buf (Elt Ideal) ℓ) (g : Dev Cert.ReferenceW1Ideal.nD → PrngReg), Pre_ReferenceW1Ideal m →
    θ_run (Cert.ReferenceW1Ideal.defs (F := Ideal)) (onTc (τ := Cert.ReferenceW1Ideal.τ) (Cert.ReferenceW1Ideal.main (F := Ideal))) ⟨m, fun _ => 0, g⟩ (fun r => (∀ c : Dev Cert.ReferenceW1Ideal.nD,
      r.2.mem ((c.tc : Thread Cert.ReferenceW1Ideal.nD Cert.ReferenceW1Ideal.τ).loc Cert.ReferenceW1Ideal.main_arg0) = m ((c.tc : Thread Cert.ReferenceW1Ideal.nD Cert.ReferenceW1Ideal.τ).loc Cert.ReferenceW1Ideal.main_arg0)
      ∧ r.2.mem ((c.tc : Thread Cert.ReferenceW1Ideal.nD Cert.ReferenceW1Ideal.τ).loc Cert.ReferenceW1Ideal.main_arg1) = m ((c.tc : Thread Cert.ReferenceW1Ideal.nD Cert.ReferenceW1Ideal.τ).loc Cert.ReferenceW1Ideal.main_arg1))
      ∧ r.2.sem = fun _ => 0)

def quiescent_KernelW2 [hKernelW2 : Cert.KernelW2.Facts] : Prop :=
  ∀ (m : (ℓ : Loc Cert.KernelW2.nD Cert.KernelW2.τ Cert.KernelW2.sig) → Buf (Elt Bits) ℓ) (g : Dev Cert.KernelW2.nD → PrngReg), Pre_KernelW2 m →
    θ_run (Cert.KernelW2.defs (F := Bits)) (onTc (τ := Cert.KernelW2.τ) (Cert.KernelW2.main (F := Bits))) ⟨m, fun _ => 0, g⟩ (fun r => (∀ c : Dev Cert.KernelW2.nD,
      r.2.mem ((c.tc : Thread Cert.KernelW2.nD Cert.KernelW2.τ).loc Cert.KernelW2.main_arg0) = m ((c.tc : Thread Cert.KernelW2.nD Cert.KernelW2.τ).loc Cert.KernelW2.main_arg0)
      ∧ r.2.mem ((c.tc : Thread Cert.KernelW2.nD Cert.KernelW2.τ).loc Cert.KernelW2.main_arg1) = m ((c.tc : Thread Cert.KernelW2.nD Cert.KernelW2.τ).loc Cert.KernelW2.main_arg1)
      ∧ r.2.mem ((c.tc : Thread Cert.KernelW2.nD Cert.KernelW2.τ).loc Cert.KernelW2.main_arg2) = m ((c.tc : Thread Cert.KernelW2.nD Cert.KernelW2.τ).loc Cert.KernelW2.main_arg2))
      ∧ r.2.sem = fun _ => 0)

def quiescent_KernelW2Ideal [hKernelW2Ideal : Cert.KernelW2Ideal.Facts] : Prop :=
  ∀ (m : (ℓ : Loc Cert.KernelW2Ideal.nD Cert.KernelW2Ideal.τ Cert.KernelW2Ideal.sig) → Buf (Elt Ideal) ℓ) (g : Dev Cert.KernelW2Ideal.nD → PrngReg), Pre_KernelW2Ideal m →
    θ_run (Cert.KernelW2Ideal.defs (F := Ideal)) (onTc (τ := Cert.KernelW2Ideal.τ) (Cert.KernelW2Ideal.main (F := Ideal))) ⟨m, fun _ => 0, g⟩ (fun r => (∀ c : Dev Cert.KernelW2Ideal.nD,
      r.2.mem ((c.tc : Thread Cert.KernelW2Ideal.nD Cert.KernelW2Ideal.τ).loc Cert.KernelW2Ideal.main_arg0) = m ((c.tc : Thread Cert.KernelW2Ideal.nD Cert.KernelW2Ideal.τ).loc Cert.KernelW2Ideal.main_arg0)
      ∧ r.2.mem ((c.tc : Thread Cert.KernelW2Ideal.nD Cert.KernelW2Ideal.τ).loc Cert.KernelW2Ideal.main_arg1) = m ((c.tc : Thread Cert.KernelW2Ideal.nD Cert.KernelW2Ideal.τ).loc Cert.KernelW2Ideal.main_arg1)
      ∧ r.2.mem ((c.tc : Thread Cert.KernelW2Ideal.nD Cert.KernelW2Ideal.τ).loc Cert.KernelW2Ideal.main_arg2) = m ((c.tc : Thread Cert.KernelW2Ideal.nD Cert.KernelW2Ideal.τ).loc Cert.KernelW2Ideal.main_arg2))
      ∧ r.2.sem = fun _ => 0)

def quiescent_ReferenceW2Ideal [hReferenceW2Ideal : Cert.ReferenceW2Ideal.Facts] : Prop :=
  ∀ (m : (ℓ : Loc Cert.ReferenceW2Ideal.nD Cert.ReferenceW2Ideal.τ Cert.ReferenceW2Ideal.sig) → Buf (Elt Ideal) ℓ) (g : Dev Cert.ReferenceW2Ideal.nD → PrngReg), Pre_ReferenceW2Ideal m →
    θ_run (Cert.ReferenceW2Ideal.defs (F := Ideal)) (onTc (τ := Cert.ReferenceW2Ideal.τ) (Cert.ReferenceW2Ideal.main (F := Ideal))) ⟨m, fun _ => 0, g⟩ (fun r => (∀ c : Dev Cert.ReferenceW2Ideal.nD,
      r.2.mem ((c.tc : Thread Cert.ReferenceW2Ideal.nD Cert.ReferenceW2Ideal.τ).loc Cert.ReferenceW2Ideal.main_arg0) = m ((c.tc : Thread Cert.ReferenceW2Ideal.nD Cert.ReferenceW2Ideal.τ).loc Cert.ReferenceW2Ideal.main_arg0)
      ∧ r.2.mem ((c.tc : Thread Cert.ReferenceW2Ideal.nD Cert.ReferenceW2Ideal.τ).loc Cert.ReferenceW2Ideal.main_arg1) = m ((c.tc : Thread Cert.ReferenceW2Ideal.nD Cert.ReferenceW2Ideal.τ).loc Cert.ReferenceW2Ideal.main_arg1)
      ∧ r.2.mem ((c.tc : Thread Cert.ReferenceW2Ideal.nD Cert.ReferenceW2Ideal.τ).loc Cert.ReferenceW2Ideal.main_arg2) = m ((c.tc : Thread Cert.ReferenceW2Ideal.nD Cert.ReferenceW2Ideal.τ).loc Cert.ReferenceW2Ideal.main_arg2))
      ∧ r.2.sem = fun _ => 0)

def quiescent_KernelDa [hKernelDa : Cert.KernelDa.Facts] : Prop :=
  ∀ (m : (ℓ : Loc Cert.KernelDa.nD Cert.KernelDa.τ Cert.KernelDa.sig) → Buf (Elt Bits) ℓ) (g : Dev Cert.KernelDa.nD → PrngReg), Pre_KernelDa m →
    θ_run (Cert.KernelDa.defs (F := Bits)) (onTc (τ := Cert.KernelDa.τ) (Cert.KernelDa.main (F := Bits))) ⟨m, fun _ => 0, g⟩ (fun r => (∀ c : Dev Cert.KernelDa.nD,
      r.2.mem ((c.tc : Thread Cert.KernelDa.nD Cert.KernelDa.τ).loc Cert.KernelDa.main_arg0) = m ((c.tc : Thread Cert.KernelDa.nD Cert.KernelDa.τ).loc Cert.KernelDa.main_arg0)
      ∧ r.2.mem ((c.tc : Thread Cert.KernelDa.nD Cert.KernelDa.τ).loc Cert.KernelDa.main_arg1) = m ((c.tc : Thread Cert.KernelDa.nD Cert.KernelDa.τ).loc Cert.KernelDa.main_arg1)
      ∧ r.2.mem ((c.tc : Thread Cert.KernelDa.nD Cert.KernelDa.τ).loc Cert.KernelDa.main_arg2) = m ((c.tc : Thread Cert.KernelDa.nD Cert.KernelDa.τ).loc Cert.KernelDa.main_arg2))
      ∧ r.2.sem = fun _ => 0)

def quiescent_KernelDaIdeal [hKernelDaIdeal : Cert.KernelDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg), Pre_KernelDaIdeal m →
    θ_run (Cert.KernelDaIdeal.defs (F := Ideal)) (onTc (τ := Cert.KernelDaIdeal.τ) (Cert.KernelDaIdeal.main (F := Ideal))) ⟨m, fun _ => 0, g⟩ (fun r => (∀ c : Dev Cert.KernelDaIdeal.nD,
      r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
      ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1)
      ∧ r.2.mem ((c.tc : Thread Cert.KernelDaIdeal.nD Cert.KernelDaIdeal.τ).loc Cert.KernelDaIdeal.main_arg2) = m ((c.tc : Thread Cert.KernelDaIdeal.nD Cert.KernelDaIdeal.τ).loc Cert.KernelDaIdeal.main_arg2))
      ∧ r.2.sem = fun _ => 0)

def quiescent_ReferenceDaIdeal [hReferenceDaIdeal : Cert.ReferenceDaIdeal.Facts] : Prop :=
  ∀ (m : (ℓ : Loc Cert.ReferenceDaIdeal.nD Cert.ReferenceDaIdeal.τ Cert.ReferenceDaIdeal.sig) → Buf (Elt Ideal) ℓ) (g : Dev Cert.ReferenceDaIdeal.nD → PrngReg), Pre_ReferenceDaIdeal m →
    θ_run (Cert.ReferenceDaIdeal.defs (F := Ideal)) (onTc (τ := Cert.ReferenceDaIdeal.τ) (Cert.ReferenceDaIdeal.main (F := Ideal))) ⟨m, fun _ => 0, g⟩ (fun r => (∀ c : Dev Cert.ReferenceDaIdeal.nD,
      r.2.mem ((c.tc : Thread Cert.ReferenceDaIdeal.nD Cert.ReferenceDaIdeal.τ).loc Cert.ReferenceDaIdeal.main_arg0) = m ((c.tc : Thread Cert.ReferenceDaIdeal.nD Cert.ReferenceDaIdeal.τ).loc Cert.ReferenceDaIdeal.main_arg0)
      ∧ r.2.mem ((c.tc : Thread Cert.ReferenceDaIdeal.nD Cert.ReferenceDaIdeal.τ).loc Cert.ReferenceDaIdeal.main_arg1) = m ((c.tc : Thread Cert.ReferenceDaIdeal.nD Cert.ReferenceDaIdeal.τ).loc Cert.ReferenceDaIdeal.main_arg1)
      ∧ r.2.mem ((c.tc : Thread Cert.ReferenceDaIdeal.nD Cert.ReferenceDaIdeal.τ).loc Cert.ReferenceDaIdeal.main_arg2) = m ((c.tc : Thread Cert.ReferenceDaIdeal.nD Cert.ReferenceDaIdeal.τ).loc Cert.ReferenceDaIdeal.main_arg2))
      ∧ r.2.sem = fun _ => 0)

def quiescent_KernelDw2 [hKernelDw2 : Cert.KernelDw2.Facts] : Prop :=
  ∀ (m : (ℓ : Loc Cert.KernelDw2.nD Cert.KernelDw2.τ Cert.KernelDw2.sig) → Buf (Elt Bits) ℓ) (g : Dev Cert.KernelDw2.nD → PrngReg), Pre_KernelDw2 m →
    θ_run (Cert.KernelDw2.defs (F := Bits)) (onTc (τ := Cert.KernelDw2.τ) (Cert.KernelDw2.main (F := Bits))) ⟨m, fun _ => 0, g⟩ (fun r => (∀ c : Dev Cert.KernelDw2.nD,
      r.2.mem ((c.tc : Thread Cert.KernelDw2.nD Cert.KernelDw2.τ).loc Cert.KernelDw2.main_arg0) = m ((c.tc : Thread Cert.KernelDw2.nD Cert.KernelDw2.τ).loc Cert.KernelDw2.main_arg0)
      ∧ r.2.mem ((c.tc : Thread Cert.KernelDw2.nD Cert.KernelDw2.τ).loc Cert.KernelDw2.main_arg1) = m ((c.tc : Thread Cert.KernelDw2.nD Cert.KernelDw2.τ).loc Cert.KernelDw2.main_arg1))
      ∧ r.2.sem = fun _ => 0)

def quiescent_KernelDw2Ideal [hKernelDw2Ideal : Cert.KernelDw2Ideal.Facts] : Prop :=
  ∀ (m : (ℓ : Loc Cert.KernelDw2Ideal.nD Cert.KernelDw2Ideal.τ Cert.KernelDw2Ideal.sig) → Buf (Elt Ideal) ℓ) (g : Dev Cert.KernelDw2Ideal.nD → PrngReg), Pre_KernelDw2Ideal m →
    θ_run (Cert.KernelDw2Ideal.defs (F := Ideal)) (onTc (τ := Cert.KernelDw2Ideal.τ) (Cert.KernelDw2Ideal.main (F := Ideal))) ⟨m, fun _ => 0, g⟩ (fun r => (∀ c : Dev Cert.KernelDw2Ideal.nD,
      r.2.mem ((c.tc : Thread Cert.KernelDw2Ideal.nD Cert.KernelDw2Ideal.τ).loc Cert.KernelDw2Ideal.main_arg0) = m ((c.tc : Thread Cert.KernelDw2Ideal.nD Cert.KernelDw2Ideal.τ).loc Cert.KernelDw2Ideal.main_arg0)
      ∧ r.2.mem ((c.tc : Thread Cert.KernelDw2Ideal.nD Cert.KernelDw2Ideal.τ).loc Cert.KernelDw2Ideal.main_arg1) = m ((c.tc : Thread Cert.KernelDw2Ideal.nD Cert.KernelDw2Ideal.τ).loc Cert.KernelDw2Ideal.main_arg1))
      ∧ r.2.sem = fun _ => 0)

def quiescent_ReferenceDw2Ideal [hReferenceDw2Ideal : Cert.ReferenceDw2Ideal.Facts] : Prop :=
  ∀ (m : (ℓ : Loc Cert.ReferenceDw2Ideal.nD Cert.ReferenceDw2Ideal.τ Cert.ReferenceDw2Ideal.sig) → Buf (Elt Ideal) ℓ) (g : Dev Cert.ReferenceDw2Ideal.nD → PrngReg), Pre_ReferenceDw2Ideal m →
    θ_run (Cert.ReferenceDw2Ideal.defs (F := Ideal)) (onTc (τ := Cert.ReferenceDw2Ideal.τ) (Cert.ReferenceDw2Ideal.main (F := Ideal))) ⟨m, fun _ => 0, g⟩ (fun r => (∀ c : Dev Cert.ReferenceDw2Ideal.nD,
      r.2.mem ((c.tc : Thread Cert.ReferenceDw2Ideal.nD Cert.ReferenceDw2Ideal.τ).loc Cert.ReferenceDw2Ideal.main_arg0) = m ((c.tc : Thread Cert.ReferenceDw2Ideal.nD Cert.ReferenceDw2Ideal.τ).loc Cert.ReferenceDw2Ideal.main_arg0)
      ∧ r.2.mem ((c.tc : Thread Cert.ReferenceDw2Ideal.nD Cert.ReferenceDw2Ideal.τ).loc Cert.ReferenceDw2Ideal.main_arg1) = m ((c.tc : Thread Cert.ReferenceDw2Ideal.nD Cert.ReferenceDw2Ideal.τ).loc Cert.ReferenceDw2Ideal.main_arg1))
      ∧ r.2.sem = fun _ => 0)

def quiescent_KernelDw1 [hKernelDw1 : Cert.KernelDw1.Facts] : Prop :=
  ∀ (m : (ℓ : Loc Cert.KernelDw1.nD Cert.KernelDw1.τ Cert.KernelDw1.sig) → Buf (Elt Bits) ℓ) (g : Dev Cert.KernelDw1.nD → PrngReg), Pre_KernelDw1 m →
    θ_run (Cert.KernelDw1.defs (F := Bits)) (onTc (τ := Cert.KernelDw1.τ) (Cert.KernelDw1.main (F := Bits))) ⟨m, fun _ => 0, g⟩ (fun r => (∀ c : Dev Cert.KernelDw1.nD,
      r.2.mem ((c.tc : Thread Cert.KernelDw1.nD Cert.KernelDw1.τ).loc Cert.KernelDw1.main_arg0) = m ((c.tc : Thread Cert.KernelDw1.nD Cert.KernelDw1.τ).loc Cert.KernelDw1.main_arg0)
      ∧ r.2.mem ((c.tc : Thread Cert.KernelDw1.nD Cert.KernelDw1.τ).loc Cert.KernelDw1.main_arg1) = m ((c.tc : Thread Cert.KernelDw1.nD Cert.KernelDw1.τ).loc Cert.KernelDw1.main_arg1))
      ∧ r.2.sem = fun _ => 0)

def quiescent_KernelDw1Ideal [hKernelDw1Ideal : Cert.KernelDw1Ideal.Facts] : Prop :=
  ∀ (m : (ℓ : Loc Cert.KernelDw1Ideal.nD Cert.KernelDw1Ideal.τ Cert.KernelDw1Ideal.sig) → Buf (Elt Ideal) ℓ) (g : Dev Cert.KernelDw1Ideal.nD → PrngReg), Pre_KernelDw1Ideal m →
    θ_run (Cert.KernelDw1Ideal.defs (F := Ideal)) (onTc (τ := Cert.KernelDw1Ideal.τ) (Cert.KernelDw1Ideal.main (F := Ideal))) ⟨m, fun _ => 0, g⟩ (fun r => (∀ c : Dev Cert.KernelDw1Ideal.nD,
      r.2.mem ((c.tc : Thread Cert.KernelDw1Ideal.nD Cert.KernelDw1Ideal.τ).loc Cert.KernelDw1Ideal.main_arg0) = m ((c.tc : Thread Cert.KernelDw1Ideal.nD Cert.KernelDw1Ideal.τ).loc Cert.KernelDw1Ideal.main_arg0)
      ∧ r.2.mem ((c.tc : Thread Cert.KernelDw1Ideal.nD Cert.KernelDw1Ideal.τ).loc Cert.KernelDw1Ideal.main_arg1) = m ((c.tc : Thread Cert.KernelDw1Ideal.nD Cert.KernelDw1Ideal.τ).loc Cert.KernelDw1Ideal.main_arg1))
      ∧ r.2.sem = fun _ => 0)

def quiescent_ReferenceDw1Ideal [hReferenceDw1Ideal : Cert.ReferenceDw1Ideal.Facts] : Prop :=
  ∀ (m : (ℓ : Loc Cert.ReferenceDw1Ideal.nD Cert.ReferenceDw1Ideal.τ Cert.ReferenceDw1Ideal.sig) → Buf (Elt Ideal) ℓ) (g : Dev Cert.ReferenceDw1Ideal.nD → PrngReg), Pre_ReferenceDw1Ideal m →
    θ_run (Cert.ReferenceDw1Ideal.defs (F := Ideal)) (onTc (τ := Cert.ReferenceDw1Ideal.τ) (Cert.ReferenceDw1Ideal.main (F := Ideal))) ⟨m, fun _ => 0, g⟩ (fun r => (∀ c : Dev Cert.ReferenceDw1Ideal.nD,
      r.2.mem ((c.tc : Thread Cert.ReferenceDw1Ideal.nD Cert.ReferenceDw1Ideal.τ).loc Cert.ReferenceDw1Ideal.main_arg0) = m ((c.tc : Thread Cert.ReferenceDw1Ideal.nD Cert.ReferenceDw1Ideal.τ).loc Cert.ReferenceDw1Ideal.main_arg0)
      ∧ r.2.mem ((c.tc : Thread Cert.ReferenceDw1Ideal.nD Cert.ReferenceDw1Ideal.τ).loc Cert.ReferenceDw1Ideal.main_arg1) = m ((c.tc : Thread Cert.ReferenceDw1Ideal.nD Cert.ReferenceDw1Ideal.τ).loc Cert.ReferenceDw1Ideal.main_arg1))
      ∧ r.2.sem = fun _ => 0)

def quiescent_KernelDu [hKernelDu : Cert.KernelDu.Facts] : Prop :=
  ∀ (m : (ℓ : Loc Cert.KernelDu.nD Cert.KernelDu.τ Cert.KernelDu.sig) → Buf (Elt Bits) ℓ) (g : Dev Cert.KernelDu.nD → PrngReg), Pre_KernelDu m →
    θ_run (Cert.KernelDu.defs (F := Bits)) (onTc (τ := Cert.KernelDu.τ) (Cert.KernelDu.main (F := Bits))) ⟨m, fun _ => 0, g⟩ (fun r => (∀ c : Dev Cert.KernelDu.nD,
      r.2.mem ((c.tc : Thread Cert.KernelDu.nD Cert.KernelDu.τ).loc Cert.KernelDu.main_arg0) = m ((c.tc : Thread Cert.KernelDu.nD Cert.KernelDu.τ).loc Cert.KernelDu.main_arg0)
      ∧ r.2.mem ((c.tc : Thread Cert.KernelDu.nD Cert.KernelDu.τ).loc Cert.KernelDu.main_arg1) = m ((c.tc : Thread Cert.KernelDu.nD Cert.KernelDu.τ).loc Cert.KernelDu.main_arg1))
      ∧ r.2.sem = fun _ => 0)

def quiescent_KernelDuIdeal [hKernelDuIdeal : Cert.KernelDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg), Pre_KernelDuIdeal m →
    θ_run (Cert.KernelDuIdeal.defs (F := Ideal)) (onTc (τ := Cert.KernelDuIdeal.τ) (Cert.KernelDuIdeal.main (F := Ideal))) ⟨m, fun _ => 0, g⟩ (fun r => (∀ c : Dev Cert.KernelDuIdeal.nD,
      r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
      ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1))
      ∧ r.2.sem = fun _ => 0)

def quiescent_ReferenceDuIdeal [hReferenceDuIdeal : Cert.ReferenceDuIdeal.Facts] : Prop :=
  ∀ (m : (ℓ : Loc Cert.ReferenceDuIdeal.nD Cert.ReferenceDuIdeal.τ Cert.ReferenceDuIdeal.sig) → Buf (Elt Ideal) ℓ) (g : Dev Cert.ReferenceDuIdeal.nD → PrngReg), Pre_ReferenceDuIdeal m →
    θ_run (Cert.ReferenceDuIdeal.defs (F := Ideal)) (onTc (τ := Cert.ReferenceDuIdeal.τ) (Cert.ReferenceDuIdeal.main (F := Ideal))) ⟨m, fun _ => 0, g⟩ (fun r => (∀ c : Dev Cert.ReferenceDuIdeal.nD,
      r.2.mem ((c.tc : Thread Cert.ReferenceDuIdeal.nD Cert.ReferenceDuIdeal.τ).loc Cert.ReferenceDuIdeal.main_arg0) = m ((c.tc : Thread Cert.ReferenceDuIdeal.nD Cert.ReferenceDuIdeal.τ).loc Cert.ReferenceDuIdeal.main_arg0)
      ∧ r.2.mem ((c.tc : Thread Cert.ReferenceDuIdeal.nD Cert.ReferenceDuIdeal.τ).loc Cert.ReferenceDuIdeal.main_arg1) = m ((c.tc : Thread Cert.ReferenceDuIdeal.nD Cert.ReferenceDuIdeal.τ).loc Cert.ReferenceDuIdeal.main_arg1))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1))
      ∧ r.2.sem = fun _ => 0)

def quiescent_KernelWo [hKernelWo : Cert.KernelWo.Facts] : Prop :=
  ∀ (m : (ℓ : Loc Cert.KernelWo.nD Cert.KernelWo.τ Cert.KernelWo.sig) → Buf (Elt Bits) ℓ) (g : Dev Cert.KernelWo.nD → PrngReg), Pre_KernelWo m →
    θ_run (Cert.KernelWo.defs (F := Bits)) (onTc (τ := Cert.KernelWo.τ) (Cert.KernelWo.main (F := Bits))) ⟨m, fun _ => 0, g⟩ (fun r => (∀ c : Dev Cert.KernelWo.nD,
      r.2.mem ((c.tc : Thread Cert.KernelWo.nD Cert.KernelWo.τ).loc Cert.KernelWo.main_arg0) = m ((c.tc : Thread Cert.KernelWo.nD Cert.KernelWo.τ).loc Cert.KernelWo.main_arg0)
      ∧ r.2.mem ((c.tc : Thread Cert.KernelWo.nD Cert.KernelWo.τ).loc Cert.KernelWo.main_arg1) = m ((c.tc : Thread Cert.KernelWo.nD Cert.KernelWo.τ).loc Cert.KernelWo.main_arg1)
      ∧ r.2.mem ((c.tc : Thread Cert.KernelWo.nD Cert.KernelWo.τ).loc Cert.KernelWo.main_arg2) = m ((c.tc : Thread Cert.KernelWo.nD Cert.KernelWo.τ).loc Cert.KernelWo.main_arg2))
      ∧ r.2.sem = fun _ => 0)

def quiescent_KernelWoIdeal [hKernelWoIdeal : Cert.KernelWoIdeal.Facts] : Prop :=
  ∀ (m : (ℓ : Loc Cert.KernelWoIdeal.nD Cert.KernelWoIdeal.τ Cert.KernelWoIdeal.sig) → Buf (Elt Ideal) ℓ) (g : Dev Cert.KernelWoIdeal.nD → PrngReg), Pre_KernelWoIdeal m →
    θ_run (Cert.KernelWoIdeal.defs (F := Ideal)) (onTc (τ := Cert.KernelWoIdeal.τ) (Cert.KernelWoIdeal.main (F := Ideal))) ⟨m, fun _ => 0, g⟩ (fun r => (∀ c : Dev Cert.KernelWoIdeal.nD,
      r.2.mem ((c.tc : Thread Cert.KernelWoIdeal.nD Cert.KernelWoIdeal.τ).loc Cert.KernelWoIdeal.main_arg0) = m ((c.tc : Thread Cert.KernelWoIdeal.nD Cert.KernelWoIdeal.τ).loc Cert.KernelWoIdeal.main_arg0)
      ∧ r.2.mem ((c.tc : Thread Cert.KernelWoIdeal.nD Cert.KernelWoIdeal.τ).loc Cert.KernelWoIdeal.main_arg1) = m ((c.tc : Thread Cert.KernelWoIdeal.nD Cert.KernelWoIdeal.τ).loc Cert.KernelWoIdeal.main_arg1)
      ∧ r.2.mem ((c.tc : Thread Cert.KernelWoIdeal.nD Cert.KernelWoIdeal.τ).loc Cert.KernelWoIdeal.main_arg2) = m ((c.tc : Thread Cert.KernelWoIdeal.nD Cert.KernelWoIdeal.τ).loc Cert.KernelWoIdeal.main_arg2))
      ∧ r.2.sem = fun _ => 0)

def quiescent_ReferenceWoIdeal [hReferenceWoIdeal : Cert.ReferenceWoIdeal.Facts] : Prop :=
  ∀ (m : (ℓ : Loc Cert.ReferenceWoIdeal.nD Cert.ReferenceWoIdeal.τ Cert.ReferenceWoIdeal.sig) → Buf (Elt Ideal) ℓ) (g : Dev Cert.ReferenceWoIdeal.nD → PrngReg), Pre_ReferenceWoIdeal m →
    θ_run (Cert.ReferenceWoIdeal.defs (F := Ideal)) (onTc (τ := Cert.ReferenceWoIdeal.τ) (Cert.ReferenceWoIdeal.main (F := Ideal))) ⟨m, fun _ => 0, g⟩ (fun r => (∀ c : Dev Cert.ReferenceWoIdeal.nD,
      r.2.mem ((c.tc : Thread Cert.ReferenceWoIdeal.nD Cert.ReferenceWoIdeal.τ).loc Cert.ReferenceWoIdeal.main_arg0) = m ((c.tc : Thread Cert.ReferenceWoIdeal.nD Cert.ReferenceWoIdeal.τ).loc Cert.ReferenceWoIdeal.main_arg0)
      ∧ r.2.mem ((c.tc : Thread Cert.ReferenceWoIdeal.nD Cert.ReferenceWoIdeal.τ).loc Cert.ReferenceWoIdeal.main_arg1) = m ((c.tc : Thread Cert.ReferenceWoIdeal.nD Cert.ReferenceWoIdeal.τ).loc Cert.ReferenceWoIdeal.main_arg1)
      ∧ r.2.mem ((c.tc : Thread Cert.ReferenceWoIdeal.nD Cert.ReferenceWoIdeal.τ).loc Cert.ReferenceWoIdeal.main_arg2) = m ((c.tc : Thread Cert.ReferenceWoIdeal.nD Cert.ReferenceWoIdeal.τ).loc Cert.ReferenceWoIdeal.main_arg2))
      ∧ r.2.sem = fun _ => 0)

def quiescent_KernelDo [hKernelDo : Cert.KernelDo.Facts] : Prop :=
  ∀ (m : (ℓ : Loc Cert.KernelDo.nD Cert.KernelDo.τ Cert.KernelDo.sig) → Buf (Elt Bits) ℓ) (g : Dev Cert.KernelDo.nD → PrngReg), Pre_KernelDo m →
    θ_run (Cert.KernelDo.defs (F := Bits)) (onTc (τ := Cert.KernelDo.τ) (Cert.KernelDo.main (F := Bits))) ⟨m, fun _ => 0, g⟩ (fun r => (∀ c : Dev Cert.KernelDo.nD,
      r.2.mem ((c.tc : Thread Cert.KernelDo.nD Cert.KernelDo.τ).loc Cert.KernelDo.main_arg0) = m ((c.tc : Thread Cert.KernelDo.nD Cert.KernelDo.τ).loc Cert.KernelDo.main_arg0)
      ∧ r.2.mem ((c.tc : Thread Cert.KernelDo.nD Cert.KernelDo.τ).loc Cert.KernelDo.main_arg1) = m ((c.tc : Thread Cert.KernelDo.nD Cert.KernelDo.τ).loc Cert.KernelDo.main_arg1))
      ∧ r.2.sem = fun _ => 0)

def quiescent_KernelDoIdeal [hKernelDoIdeal : Cert.KernelDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg), Pre_KernelDoIdeal m →
    θ_run (Cert.KernelDoIdeal.defs (F := Ideal)) (onTc (τ := Cert.KernelDoIdeal.τ) (Cert.KernelDoIdeal.main (F := Ideal))) ⟨m, fun _ => 0, g⟩ (fun r => (∀ c : Dev Cert.KernelDoIdeal.nD,
      r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
      ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1))
      ∧ r.2.sem = fun _ => 0)

def quiescent_ReferenceDoIdeal [hReferenceDoIdeal : Cert.ReferenceDoIdeal.Facts] : Prop :=
  ∀ (m : (ℓ : Loc Cert.ReferenceDoIdeal.nD Cert.ReferenceDoIdeal.τ Cert.ReferenceDoIdeal.sig) → Buf (Elt Ideal) ℓ) (g : Dev Cert.ReferenceDoIdeal.nD → PrngReg), Pre_ReferenceDoIdeal m →
    θ_run (Cert.ReferenceDoIdeal.defs (F := Ideal)) (onTc (τ := Cert.ReferenceDoIdeal.τ) (Cert.ReferenceDoIdeal.main (F := Ideal))) ⟨m, fun _ => 0, g⟩ (fun r => (∀ c : Dev Cert.ReferenceDoIdeal.nD,
      r.2.mem ((c.tc : Thread Cert.ReferenceDoIdeal.nD Cert.ReferenceDoIdeal.τ).loc Cert.ReferenceDoIdeal.main_arg0) = m ((c.tc : Thread Cert.ReferenceDoIdeal.nD Cert.ReferenceDoIdeal.τ).loc Cert.ReferenceDoIdeal.main_arg0)
      ∧ r.2.mem ((c.tc : Thread Cert.ReferenceDoIdeal.nD Cert.ReferenceDoIdeal.τ).loc Cert.ReferenceDoIdeal.main_arg1) = m ((c.tc : Thread Cert.ReferenceDoIdeal.nD Cert.ReferenceDoIdeal.τ).loc Cert.ReferenceDoIdeal.main_arg1))
      ∧ r.2.sem = fun _ => 0)

def quiescent_KernelDwo [hKernelDwo : Cert.KernelDwo.Facts] : Prop :=
  ∀ (m : (ℓ : Loc Cert.KernelDwo.nD Cert.KernelDwo.τ Cert.KernelDwo.sig) → Buf (Elt Bits) ℓ) (g : Dev Cert.KernelDwo.nD → PrngReg), Pre_KernelDwo m →
    θ_run (Cert.KernelDwo.defs (F := Bits)) (onTc (τ := Cert.KernelDwo.τ) (Cert.KernelDwo.main (F := Bits))) ⟨m, fun _ => 0, g⟩ (fun r => (∀ c : Dev Cert.KernelDwo.nD,
      r.2.mem ((c.tc : Thread Cert.KernelDwo.nD Cert.KernelDwo.τ).loc Cert.KernelDwo.main_arg0) = m ((c.tc : Thread Cert.KernelDwo.nD Cert.KernelDwo.τ).loc Cert.KernelDwo.main_arg0)
      ∧ r.2.mem ((c.tc : Thread Cert.KernelDwo.nD Cert.KernelDwo.τ).loc Cert.KernelDwo.main_arg1) = m ((c.tc : Thread Cert.KernelDwo.nD Cert.KernelDwo.τ).loc Cert.KernelDwo.main_arg1))
      ∧ r.2.sem = fun _ => 0)

def quiescent_KernelDwoIdeal [hKernelDwoIdeal : Cert.KernelDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg), Pre_KernelDwoIdeal m →
    θ_run (Cert.KernelDwoIdeal.defs (F := Ideal)) (onTc (τ := Cert.KernelDwoIdeal.τ) (Cert.KernelDwoIdeal.main (F := Ideal))) ⟨m, fun _ => 0, g⟩ (fun r => (∀ c : Dev Cert.KernelDwoIdeal.nD,
      r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
      ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1))
      ∧ r.2.sem = fun _ => 0)

def quiescent_ReferenceDwoIdeal [hReferenceDwoIdeal : Cert.ReferenceDwoIdeal.Facts] : Prop :=
  ∀ (m : (ℓ : Loc Cert.ReferenceDwoIdeal.nD Cert.ReferenceDwoIdeal.τ Cert.ReferenceDwoIdeal.sig) → Buf (Elt Ideal) ℓ) (g : Dev Cert.ReferenceDwoIdeal.nD → PrngReg), Pre_ReferenceDwoIdeal m →
    θ_run (Cert.ReferenceDwoIdeal.defs (F := Ideal)) (onTc (τ := Cert.ReferenceDwoIdeal.τ) (Cert.ReferenceDwoIdeal.main (F := Ideal))) ⟨m, fun _ => 0, g⟩ (fun r => (∀ c : Dev Cert.ReferenceDwoIdeal.nD,
      r.2.mem ((c.tc : Thread Cert.ReferenceDwoIdeal.nD Cert.ReferenceDwoIdeal.τ).loc Cert.ReferenceDwoIdeal.main_arg0) = m ((c.tc : Thread Cert.ReferenceDwoIdeal.nD Cert.ReferenceDwoIdeal.τ).loc Cert.ReferenceDwoIdeal.main_arg0)
      ∧ r.2.mem ((c.tc : Thread Cert.ReferenceDwoIdeal.nD Cert.ReferenceDwoIdeal.τ).loc Cert.ReferenceDwoIdeal.main_arg1) = m ((c.tc : Thread Cert.ReferenceDwoIdeal.nD Cert.ReferenceDwoIdeal.τ).loc Cert.ReferenceDwoIdeal.main_arg1))
      ∧ r.2.sem = fun _ => 0)

def quiescent_KernelDwqkv [hKernelDwqkv : Cert.KernelDwqkv.Facts] : Prop :=
  ∀ (m : (ℓ : Loc Cert.KernelDwqkv.nD Cert.KernelDwqkv.τ Cert.KernelDwqkv.sig) → Buf (Elt Bits) ℓ) (g : Dev Cert.KernelDwqkv.nD → PrngReg), Pre_KernelDwqkv m →
    θ_run (Cert.KernelDwqkv.defs (F := Bits)) (onTc (τ := Cert.KernelDwqkv.τ) (Cert.KernelDwqkv.main (F := Bits))) ⟨m, fun _ => 0, g⟩ (fun r => (∀ c : Dev Cert.KernelDwqkv.nD,
      r.2.mem ((c.tc : Thread Cert.KernelDwqkv.nD Cert.KernelDwqkv.τ).loc Cert.KernelDwqkv.main_arg0) = m ((c.tc : Thread Cert.KernelDwqkv.nD Cert.KernelDwqkv.τ).loc Cert.KernelDwqkv.main_arg0)
      ∧ r.2.mem ((c.tc : Thread Cert.KernelDwqkv.nD Cert.KernelDwqkv.τ).loc Cert.KernelDwqkv.main_arg1) = m ((c.tc : Thread Cert.KernelDwqkv.nD Cert.KernelDwqkv.τ).loc Cert.KernelDwqkv.main_arg1))
      ∧ r.2.sem = fun _ => 0)

def quiescent_KernelDwqkvIdeal [hKernelDwqkvIdeal : Cert.KernelDwqkvIdeal.Facts] : Prop :=
  ∀ (m : (ℓ : Loc Cert.KernelDwqkvIdeal.nD Cert.KernelDwqkvIdeal.τ Cert.KernelDwqkvIdeal.sig) → Buf (Elt Ideal) ℓ) (g : Dev Cert.KernelDwqkvIdeal.nD → PrngReg), Pre_KernelDwqkvIdeal m →
    θ_run (Cert.KernelDwqkvIdeal.defs (F := Ideal)) (onTc (τ := Cert.KernelDwqkvIdeal.τ) (Cert.KernelDwqkvIdeal.main (F := Ideal))) ⟨m, fun _ => 0, g⟩ (fun r => (∀ c : Dev Cert.KernelDwqkvIdeal.nD,
      r.2.mem ((c.tc : Thread Cert.KernelDwqkvIdeal.nD Cert.KernelDwqkvIdeal.τ).loc Cert.KernelDwqkvIdeal.main_arg0) = m ((c.tc : Thread Cert.KernelDwqkvIdeal.nD Cert.KernelDwqkvIdeal.τ).loc Cert.KernelDwqkvIdeal.main_arg0)
      ∧ r.2.mem ((c.tc : Thread Cert.KernelDwqkvIdeal.nD Cert.KernelDwqkvIdeal.τ).loc Cert.KernelDwqkvIdeal.main_arg1) = m ((c.tc : Thread Cert.KernelDwqkvIdeal.nD Cert.KernelDwqkvIdeal.τ).loc Cert.KernelDwqkvIdeal.main_arg1))
      ∧ r.2.sem = fun _ => 0)

def quiescent_ReferenceDwqkvIdeal [hReferenceDwqkvIdeal : Cert.ReferenceDwqkvIdeal.Facts] : Prop :=
  ∀ (m : (ℓ : Loc Cert.ReferenceDwqkvIdeal.nD Cert.ReferenceDwqkvIdeal.τ Cert.ReferenceDwqkvIdeal.sig) → Buf (Elt Ideal) ℓ) (g : Dev Cert.ReferenceDwqkvIdeal.nD → PrngReg), Pre_ReferenceDwqkvIdeal m →
    θ_run (Cert.ReferenceDwqkvIdeal.defs (F := Ideal)) (onTc (τ := Cert.ReferenceDwqkvIdeal.τ) (Cert.ReferenceDwqkvIdeal.main (F := Ideal))) ⟨m, fun _ => 0, g⟩ (fun r => (∀ c : Dev Cert.ReferenceDwqkvIdeal.nD,
      r.2.mem ((c.tc : Thread Cert.ReferenceDwqkvIdeal.nD Cert.ReferenceDwqkvIdeal.τ).loc Cert.ReferenceDwqkvIdeal.main_arg0) = m ((c.tc : Thread Cert.ReferenceDwqkvIdeal.nD Cert.ReferenceDwqkvIdeal.τ).loc Cert.ReferenceDwqkvIdeal.main_arg0)
      ∧ r.2.mem ((c.tc : Thread Cert.ReferenceDwqkvIdeal.nD Cert.ReferenceDwqkvIdeal.τ).loc Cert.ReferenceDwqkvIdeal.main_arg1) = m ((c.tc : Thread Cert.ReferenceDwqkvIdeal.nD Cert.ReferenceDwqkvIdeal.τ).loc Cert.ReferenceDwqkvIdeal.main_arg1))
      ∧ r.2.sem = fun _ => 0)

def quiescent_KernelDuqkv [hKernelDuqkv : Cert.KernelDuqkv.Facts] : Prop :=
  ∀ (m : (ℓ : Loc Cert.KernelDuqkv.nD Cert.KernelDuqkv.τ Cert.KernelDuqkv.sig) → Buf (Elt Bits) ℓ) (g : Dev Cert.KernelDuqkv.nD → PrngReg), Pre_KernelDuqkv m →
    θ_run (Cert.KernelDuqkv.defs (F := Bits)) (onTc (τ := Cert.KernelDuqkv.τ) (Cert.KernelDuqkv.main (F := Bits))) ⟨m, fun _ => 0, g⟩ (fun r => (∀ c : Dev Cert.KernelDuqkv.nD,
      r.2.mem ((c.tc : Thread Cert.KernelDuqkv.nD Cert.KernelDuqkv.τ).loc Cert.KernelDuqkv.main_arg0) = m ((c.tc : Thread Cert.KernelDuqkv.nD Cert.KernelDuqkv.τ).loc Cert.KernelDuqkv.main_arg0)
      ∧ r.2.mem ((c.tc : Thread Cert.KernelDuqkv.nD Cert.KernelDuqkv.τ).loc Cert.KernelDuqkv.main_arg1) = m ((c.tc : Thread Cert.KernelDuqkv.nD Cert.KernelDuqkv.τ).loc Cert.KernelDuqkv.main_arg1))
      ∧ r.2.sem = fun _ => 0)

def quiescent_KernelDuqkvIdeal [hKernelDuqkvIdeal : Cert.KernelDuqkvIdeal.Facts] : Prop :=
  ∀ (m : (ℓ : Loc Cert.KernelDuqkvIdeal.nD Cert.KernelDuqkvIdeal.τ Cert.KernelDuqkvIdeal.sig) → Buf (Elt Ideal) ℓ) (g : Dev Cert.KernelDuqkvIdeal.nD → PrngReg), Pre_KernelDuqkvIdeal m →
    θ_run (Cert.KernelDuqkvIdeal.defs (F := Ideal)) (onTc (τ := Cert.KernelDuqkvIdeal.τ) (Cert.KernelDuqkvIdeal.main (F := Ideal))) ⟨m, fun _ => 0, g⟩ (fun r => (∀ c : Dev Cert.KernelDuqkvIdeal.nD,
      r.2.mem ((c.tc : Thread Cert.KernelDuqkvIdeal.nD Cert.KernelDuqkvIdeal.τ).loc Cert.KernelDuqkvIdeal.main_arg0) = m ((c.tc : Thread Cert.KernelDuqkvIdeal.nD Cert.KernelDuqkvIdeal.τ).loc Cert.KernelDuqkvIdeal.main_arg0)
      ∧ r.2.mem ((c.tc : Thread Cert.KernelDuqkvIdeal.nD Cert.KernelDuqkvIdeal.τ).loc Cert.KernelDuqkvIdeal.main_arg1) = m ((c.tc : Thread Cert.KernelDuqkvIdeal.nD Cert.KernelDuqkvIdeal.τ).loc Cert.KernelDuqkvIdeal.main_arg1))
      ∧ r.2.sem = fun _ => 0)

def quiescent_ReferenceDuqkvIdeal [hReferenceDuqkvIdeal : Cert.ReferenceDuqkvIdeal.Facts] : Prop :=
  ∀ (m : (ℓ : Loc Cert.ReferenceDuqkvIdeal.nD Cert.ReferenceDuqkvIdeal.τ Cert.ReferenceDuqkvIdeal.sig) → Buf (Elt Ideal) ℓ) (g : Dev Cert.ReferenceDuqkvIdeal.nD → PrngReg), Pre_ReferenceDuqkvIdeal m →
    θ_run (Cert.ReferenceDuqkvIdeal.defs (F := Ideal)) (onTc (τ := Cert.ReferenceDuqkvIdeal.τ) (Cert.ReferenceDuqkvIdeal.main (F := Ideal))) ⟨m, fun _ => 0, g⟩ (fun r => (∀ c : Dev Cert.ReferenceDuqkvIdeal.nD,
      r.2.mem ((c.tc : Thread Cert.ReferenceDuqkvIdeal.nD Cert.ReferenceDuqkvIdeal.τ).loc Cert.ReferenceDuqkvIdeal.main_arg0) = m ((c.tc : Thread Cert.ReferenceDuqkvIdeal.nD Cert.ReferenceDuqkvIdeal.τ).loc Cert.ReferenceDuqkvIdeal.main_arg0)
      ∧ r.2.mem ((c.tc : Thread Cert.ReferenceDuqkvIdeal.nD Cert.ReferenceDuqkvIdeal.τ).loc Cert.ReferenceDuqkvIdeal.main_arg1) = m ((c.tc : Thread Cert.ReferenceDuqkvIdeal.nD Cert.ReferenceDuqkvIdeal.τ).loc Cert.ReferenceDuqkvIdeal.main_arg1))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3))
      ∧ r.2.sem = fun _ => 0)

def quiescent_KernelDwproj [hKernelDwproj : Cert.KernelDwproj.Facts] : Prop :=
  ∀ (m : (ℓ : Loc Cert.KernelDwproj.nD Cert.KernelDwproj.τ Cert.KernelDwproj.sig) → Buf (Elt Bits) ℓ) (g : Dev Cert.KernelDwproj.nD → PrngReg), Pre_KernelDwproj m →
    θ_run (Cert.KernelDwproj.defs (F := Bits)) (onTc (τ := Cert.KernelDwproj.τ) (Cert.KernelDwproj.main (F := Bits))) ⟨m, fun _ => 0, g⟩ (fun r => (∀ c : Dev Cert.KernelDwproj.nD,
      r.2.mem ((c.tc : Thread Cert.KernelDwproj.nD Cert.KernelDwproj.τ).loc Cert.KernelDwproj.main_arg0) = m ((c.tc : Thread Cert.KernelDwproj.nD Cert.KernelDwproj.τ).loc Cert.KernelDwproj.main_arg0)
      ∧ r.2.mem ((c.tc : Thread Cert.KernelDwproj.nD Cert.KernelDwproj.τ).loc Cert.KernelDwproj.main_arg1) = m ((c.tc : Thread Cert.KernelDwproj.nD Cert.KernelDwproj.τ).loc Cert.KernelDwproj.main_arg1))
      ∧ r.2.sem = fun _ => 0)

def quiescent_KernelDwprojIdeal [hKernelDwprojIdeal : Cert.KernelDwprojIdeal.Facts] : Prop :=
  ∀ (m : (ℓ : Loc Cert.KernelDwprojIdeal.nD Cert.KernelDwprojIdeal.τ Cert.KernelDwprojIdeal.sig) → Buf (Elt Ideal) ℓ) (g : Dev Cert.KernelDwprojIdeal.nD → PrngReg), Pre_KernelDwprojIdeal m →
    θ_run (Cert.KernelDwprojIdeal.defs (F := Ideal)) (onTc (τ := Cert.KernelDwprojIdeal.τ) (Cert.KernelDwprojIdeal.main (F := Ideal))) ⟨m, fun _ => 0, g⟩ (fun r => (∀ c : Dev Cert.KernelDwprojIdeal.nD,
      r.2.mem ((c.tc : Thread Cert.KernelDwprojIdeal.nD Cert.KernelDwprojIdeal.τ).loc Cert.KernelDwprojIdeal.main_arg0) = m ((c.tc : Thread Cert.KernelDwprojIdeal.nD Cert.KernelDwprojIdeal.τ).loc Cert.KernelDwprojIdeal.main_arg0)
      ∧ r.2.mem ((c.tc : Thread Cert.KernelDwprojIdeal.nD Cert.KernelDwprojIdeal.τ).loc Cert.KernelDwprojIdeal.main_arg1) = m ((c.tc : Thread Cert.KernelDwprojIdeal.nD Cert.KernelDwprojIdeal.τ).loc Cert.KernelDwprojIdeal.main_arg1))
      ∧ r.2.sem = fun _ => 0)

def quiescent_ReferenceDwprojIdeal [hReferenceDwprojIdeal : Cert.ReferenceDwprojIdeal.Facts] : Prop :=
  ∀ (m : (ℓ : Loc Cert.ReferenceDwprojIdeal.nD Cert.ReferenceDwprojIdeal.τ Cert.ReferenceDwprojIdeal.sig) → Buf (Elt Ideal) ℓ) (g : Dev Cert.ReferenceDwprojIdeal.nD → PrngReg), Pre_ReferenceDwprojIdeal m →
    θ_run (Cert.ReferenceDwprojIdeal.defs (F := Ideal)) (onTc (τ := Cert.ReferenceDwprojIdeal.τ) (Cert.ReferenceDwprojIdeal.main (F := Ideal))) ⟨m, fun _ => 0, g⟩ (fun r => (∀ c : Dev Cert.ReferenceDwprojIdeal.nD,
      r.2.mem ((c.tc : Thread Cert.ReferenceDwprojIdeal.nD Cert.ReferenceDwprojIdeal.τ).loc Cert.ReferenceDwprojIdeal.main_arg0) = m ((c.tc : Thread Cert.ReferenceDwprojIdeal.nD Cert.ReferenceDwprojIdeal.τ).loc Cert.ReferenceDwprojIdeal.main_arg0)
      ∧ r.2.mem ((c.tc : Thread Cert.ReferenceDwprojIdeal.nD Cert.ReferenceDwprojIdeal.τ).loc Cert.ReferenceDwprojIdeal.main_arg1) = m ((c.tc : Thread Cert.ReferenceDwprojIdeal.nD Cert.ReferenceDwprojIdeal.τ).loc Cert.ReferenceDwprojIdeal.main_arg1))
      ∧ r.2.sem = fun _ => 0)

def quiescent_KernelPw1 [hKernelPw1 : Cert.KernelPw1.Facts] : Prop :=
  ∀ (m : (ℓ : Loc Cert.KernelPw1.nD Cert.KernelPw1.τ Cert.KernelPw1.sig) → Buf (Elt Bits) ℓ) (g : Dev Cert.KernelPw1.nD → PrngReg), Pre_KernelPw1 m →
    θ_run (Cert.KernelPw1.defs (F := Bits)) (onTc (τ := Cert.KernelPw1.τ) (Cert.KernelPw1.main (F := Bits))) ⟨m, fun _ => 0, g⟩ (fun r => (∀ c : Dev Cert.KernelPw1.nD,
      r.2.mem ((c.tc : Thread Cert.KernelPw1.nD Cert.KernelPw1.τ).loc Cert.KernelPw1.main_arg0) = m ((c.tc : Thread Cert.KernelPw1.nD Cert.KernelPw1.τ).loc Cert.KernelPw1.main_arg0)
      ∧ r.2.mem ((c.tc : Thread Cert.KernelPw1.nD Cert.KernelPw1.τ).loc Cert.KernelPw1.main_arg1) = m ((c.tc : Thread Cert.KernelPw1.nD Cert.KernelPw1.τ).loc Cert.KernelPw1.main_arg1)
      ∧ r.2.mem ((c.tc : Thread Cert.KernelPw1.nD Cert.KernelPw1.τ).loc Cert.KernelPw1.main_arg2) = m ((c.tc : Thread Cert.KernelPw1.nD Cert.KernelPw1.τ).loc Cert.KernelPw1.main_arg2))
      ∧ r.2.sem = fun _ => 0)

def quiescent_KernelPw1Ideal [hKernelPw1Ideal : Cert.KernelPw1Ideal.Facts] : Prop :=
  ∀ (m : (ℓ : Loc Cert.KernelPw1Ideal.nD Cert.KernelPw1Ideal.τ Cert.KernelPw1Ideal.sig) → Buf (Elt Ideal) ℓ) (g : Dev Cert.KernelPw1Ideal.nD → PrngReg), Pre_KernelPw1Ideal m →
    θ_run (Cert.KernelPw1Ideal.defs (F := Ideal)) (onTc (τ := Cert.KernelPw1Ideal.τ) (Cert.KernelPw1Ideal.main (F := Ideal))) ⟨m, fun _ => 0, g⟩ (fun r => (∀ c : Dev Cert.KernelPw1Ideal.nD,
      r.2.mem ((c.tc : Thread Cert.KernelPw1Ideal.nD Cert.KernelPw1Ideal.τ).loc Cert.KernelPw1Ideal.main_arg0) = m ((c.tc : Thread Cert.KernelPw1Ideal.nD Cert.KernelPw1Ideal.τ).loc Cert.KernelPw1Ideal.main_arg0)
      ∧ r.2.mem ((c.tc : Thread Cert.KernelPw1Ideal.nD Cert.KernelPw1Ideal.τ).loc Cert.KernelPw1Ideal.main_arg1) = m ((c.tc : Thread Cert.KernelPw1Ideal.nD Cert.KernelPw1Ideal.τ).loc Cert.KernelPw1Ideal.main_arg1)
      ∧ r.2.mem ((c.tc : Thread Cert.KernelPw1Ideal.nD Cert.KernelPw1Ideal.τ).loc Cert.KernelPw1Ideal.main_arg2) = m ((c.tc : Thread Cert.KernelPw1Ideal.nD Cert.KernelPw1Ideal.τ).loc Cert.KernelPw1Ideal.main_arg2))
      ∧ r.2.sem = fun _ => 0)

def quiescent_ReferencePw1Ideal [hReferencePw1Ideal : Cert.ReferencePw1Ideal.Facts] : Prop :=
  ∀ (m : (ℓ : Loc Cert.ReferencePw1Ideal.nD Cert.ReferencePw1Ideal.τ Cert.ReferencePw1Ideal.sig) → Buf (Elt Ideal) ℓ) (g : Dev Cert.ReferencePw1Ideal.nD → PrngReg), Pre_ReferencePw1Ideal m →
    θ_run (Cert.ReferencePw1Ideal.defs (F := Ideal)) (onTc (τ := Cert.ReferencePw1Ideal.τ) (Cert.ReferencePw1Ideal.main (F := Ideal))) ⟨m, fun _ => 0, g⟩ (fun r => (∀ c : Dev Cert.ReferencePw1Ideal.nD,
      r.2.mem ((c.tc : Thread Cert.ReferencePw1Ideal.nD Cert.ReferencePw1Ideal.τ).loc Cert.ReferencePw1Ideal.main_arg0) = m ((c.tc : Thread Cert.ReferencePw1Ideal.nD Cert.ReferencePw1Ideal.τ).loc Cert.ReferencePw1Ideal.main_arg0)
      ∧ r.2.mem ((c.tc : Thread Cert.ReferencePw1Ideal.nD Cert.ReferencePw1Ideal.τ).loc Cert.ReferencePw1Ideal.main_arg1) = m ((c.tc : Thread Cert.ReferencePw1Ideal.nD Cert.ReferencePw1Ideal.τ).loc Cert.ReferencePw1Ideal.main_arg1)
      ∧ r.2.mem ((c.tc : Thread Cert.ReferencePw1Ideal.nD Cert.ReferencePw1Ideal.τ).loc Cert.ReferencePw1Ideal.main_arg2) = m ((c.tc : Thread Cert.ReferencePw1Ideal.nD Cert.ReferencePw1Ideal.τ).loc Cert.ReferencePw1Ideal.main_arg2))
      ∧ r.2.sem = fun _ => 0)

def quiescent_KernelPw2 [hKernelPw2 : Cert.KernelPw2.Facts] : Prop :=
  ∀ (m : (ℓ : Loc Cert.KernelPw2.nD Cert.KernelPw2.τ Cert.KernelPw2.sig) → Buf (Elt Bits) ℓ) (g : Dev Cert.KernelPw2.nD → PrngReg), Pre_KernelPw2 m →
    θ_run (Cert.KernelPw2.defs (F := Bits)) (onTc (τ := Cert.KernelPw2.τ) (Cert.KernelPw2.main (F := Bits))) ⟨m, fun _ => 0, g⟩ (fun r => (∀ c : Dev Cert.KernelPw2.nD,
      r.2.mem ((c.tc : Thread Cert.KernelPw2.nD Cert.KernelPw2.τ).loc Cert.KernelPw2.main_arg0) = m ((c.tc : Thread Cert.KernelPw2.nD Cert.KernelPw2.τ).loc Cert.KernelPw2.main_arg0)
      ∧ r.2.mem ((c.tc : Thread Cert.KernelPw2.nD Cert.KernelPw2.τ).loc Cert.KernelPw2.main_arg1) = m ((c.tc : Thread Cert.KernelPw2.nD Cert.KernelPw2.τ).loc Cert.KernelPw2.main_arg1)
      ∧ r.2.mem ((c.tc : Thread Cert.KernelPw2.nD Cert.KernelPw2.τ).loc Cert.KernelPw2.main_arg2) = m ((c.tc : Thread Cert.KernelPw2.nD Cert.KernelPw2.τ).loc Cert.KernelPw2.main_arg2)
      ∧ r.2.mem ((c.tc : Thread Cert.KernelPw2.nD Cert.KernelPw2.τ).loc Cert.KernelPw2.main_arg3) = m ((c.tc : Thread Cert.KernelPw2.nD Cert.KernelPw2.τ).loc Cert.KernelPw2.main_arg3))
      ∧ r.2.sem = fun _ => 0)

def quiescent_KernelPw2Ideal [hKernelPw2Ideal : Cert.KernelPw2Ideal.Facts] : Prop :=
  ∀ (m : (ℓ : Loc Cert.KernelPw2Ideal.nD Cert.KernelPw2Ideal.τ Cert.KernelPw2Ideal.sig) → Buf (Elt Ideal) ℓ) (g : Dev Cert.KernelPw2Ideal.nD → PrngReg), Pre_KernelPw2Ideal m →
    θ_run (Cert.KernelPw2Ideal.defs (F := Ideal)) (onTc (τ := Cert.KernelPw2Ideal.τ) (Cert.KernelPw2Ideal.main (F := Ideal))) ⟨m, fun _ => 0, g⟩ (fun r => (∀ c : Dev Cert.KernelPw2Ideal.nD,
      r.2.mem ((c.tc : Thread Cert.KernelPw2Ideal.nD Cert.KernelPw2Ideal.τ).loc Cert.KernelPw2Ideal.main_arg0) = m ((c.tc : Thread Cert.KernelPw2Ideal.nD Cert.KernelPw2Ideal.τ).loc Cert.KernelPw2Ideal.main_arg0)
      ∧ r.2.mem ((c.tc : Thread Cert.KernelPw2Ideal.nD Cert.KernelPw2Ideal.τ).loc Cert.KernelPw2Ideal.main_arg1) = m ((c.tc : Thread Cert.KernelPw2Ideal.nD Cert.KernelPw2Ideal.τ).loc Cert.KernelPw2Ideal.main_arg1)
      ∧ r.2.mem ((c.tc : Thread Cert.KernelPw2Ideal.nD Cert.KernelPw2Ideal.τ).loc Cert.KernelPw2Ideal.main_arg2) = m ((c.tc : Thread Cert.KernelPw2Ideal.nD Cert.KernelPw2Ideal.τ).loc Cert.KernelPw2Ideal.main_arg2)
      ∧ r.2.mem ((c.tc : Thread Cert.KernelPw2Ideal.nD Cert.KernelPw2Ideal.τ).loc Cert.KernelPw2Ideal.main_arg3) = m ((c.tc : Thread Cert.KernelPw2Ideal.nD Cert.KernelPw2Ideal.τ).loc Cert.KernelPw2Ideal.main_arg3))
      ∧ r.2.sem = fun _ => 0)

def quiescent_ReferencePw2Ideal [hReferencePw2Ideal : Cert.ReferencePw2Ideal.Facts] : Prop :=
  ∀ (m : (ℓ : Loc Cert.ReferencePw2Ideal.nD Cert.ReferencePw2Ideal.τ Cert.ReferencePw2Ideal.sig) → Buf (Elt Ideal) ℓ) (g : Dev Cert.ReferencePw2Ideal.nD → PrngReg), Pre_ReferencePw2Ideal m →
    θ_run (Cert.ReferencePw2Ideal.defs (F := Ideal)) (onTc (τ := Cert.ReferencePw2Ideal.τ) (Cert.ReferencePw2Ideal.main (F := Ideal))) ⟨m, fun _ => 0, g⟩ (fun r => (∀ c : Dev Cert.ReferencePw2Ideal.nD,
      r.2.mem ((c.tc : Thread Cert.ReferencePw2Ideal.nD Cert.ReferencePw2Ideal.τ).loc Cert.ReferencePw2Ideal.main_arg0) = m ((c.tc : Thread Cert.ReferencePw2Ideal.nD Cert.ReferencePw2Ideal.τ).loc Cert.ReferencePw2Ideal.main_arg0)
      ∧ r.2.mem ((c.tc : Thread Cert.ReferencePw2Ideal.nD Cert.ReferencePw2Ideal.τ).loc Cert.ReferencePw2Ideal.main_arg1) = m ((c.tc : Thread Cert.ReferencePw2Ideal.nD Cert.ReferencePw2Ideal.τ).loc Cert.ReferencePw2Ideal.main_arg1)
      ∧ r.2.mem ((c.tc : Thread Cert.ReferencePw2Ideal.nD Cert.ReferencePw2Ideal.τ).loc Cert.ReferencePw2Ideal.main_arg2) = m ((c.tc : Thread Cert.ReferencePw2Ideal.nD Cert.ReferencePw2Ideal.τ).loc Cert.ReferencePw2Ideal.main_arg2)
      ∧ r.2.mem ((c.tc : Thread Cert.ReferencePw2Ideal.nD Cert.ReferencePw2Ideal.τ).loc Cert.ReferencePw2Ideal.main_arg3) = m ((c.tc : Thread Cert.ReferencePw2Ideal.nD Cert.ReferencePw2Ideal.τ).loc Cert.ReferencePw2Ideal.main_arg3))
      ∧ r.2.sem = fun _ => 0)

def quiescent_KernelDwpw1 [hKernelDwpw1 : Cert.KernelDwpw1.Facts] : Prop :=
  ∀ (m : (ℓ : Loc Cert.KernelDwpw1.nD Cert.KernelDwpw1.τ Cert.KernelDwpw1.sig) → Buf (Elt Bits) ℓ) (g : Dev Cert.KernelDwpw1.nD → PrngReg), Pre_KernelDwpw1 m →
    θ_run (Cert.KernelDwpw1.defs (F := Bits)) (onTc (τ := Cert.KernelDwpw1.τ) (Cert.KernelDwpw1.main (F := Bits))) ⟨m, fun _ => 0, g⟩ (fun r => (∀ c : Dev Cert.KernelDwpw1.nD,
      r.2.mem ((c.tc : Thread Cert.KernelDwpw1.nD Cert.KernelDwpw1.τ).loc Cert.KernelDwpw1.main_arg0) = m ((c.tc : Thread Cert.KernelDwpw1.nD Cert.KernelDwpw1.τ).loc Cert.KernelDwpw1.main_arg0)
      ∧ r.2.mem ((c.tc : Thread Cert.KernelDwpw1.nD Cert.KernelDwpw1.τ).loc Cert.KernelDwpw1.main_arg1) = m ((c.tc : Thread Cert.KernelDwpw1.nD Cert.KernelDwpw1.τ).loc Cert.KernelDwpw1.main_arg1))
      ∧ r.2.sem = fun _ => 0)

def quiescent_KernelDwpw1Ideal [hKernelDwpw1Ideal : Cert.KernelDwpw1Ideal.Facts] : Prop :=
  ∀ (m : (ℓ : Loc Cert.KernelDwpw1Ideal.nD Cert.KernelDwpw1Ideal.τ Cert.KernelDwpw1Ideal.sig) → Buf (Elt Ideal) ℓ) (g : Dev Cert.KernelDwpw1Ideal.nD → PrngReg), Pre_KernelDwpw1Ideal m →
    θ_run (Cert.KernelDwpw1Ideal.defs (F := Ideal)) (onTc (τ := Cert.KernelDwpw1Ideal.τ) (Cert.KernelDwpw1Ideal.main (F := Ideal))) ⟨m, fun _ => 0, g⟩ (fun r => (∀ c : Dev Cert.KernelDwpw1Ideal.nD,
      r.2.mem ((c.tc : Thread Cert.KernelDwpw1Ideal.nD Cert.KernelDwpw1Ideal.τ).loc Cert.KernelDwpw1Ideal.main_arg0) = m ((c.tc : Thread Cert.KernelDwpw1Ideal.nD Cert.KernelDwpw1Ideal.τ).loc Cert.KernelDwpw1Ideal.main_arg0)
      ∧ r.2.mem ((c.tc : Thread Cert.KernelDwpw1Ideal.nD Cert.KernelDwpw1Ideal.τ).loc Cert.KernelDwpw1Ideal.main_arg1) = m ((c.tc : Thread Cert.KernelDwpw1Ideal.nD Cert.KernelDwpw1Ideal.τ).loc Cert.KernelDwpw1Ideal.main_arg1))
      ∧ r.2.sem = fun _ => 0)

def quiescent_ReferenceDwpw1Ideal [hReferenceDwpw1Ideal : Cert.ReferenceDwpw1Ideal.Facts] : Prop :=
  ∀ (m : (ℓ : Loc Cert.ReferenceDwpw1Ideal.nD Cert.ReferenceDwpw1Ideal.τ Cert.ReferenceDwpw1Ideal.sig) → Buf (Elt Ideal) ℓ) (g : Dev Cert.ReferenceDwpw1Ideal.nD → PrngReg), Pre_ReferenceDwpw1Ideal m →
    θ_run (Cert.ReferenceDwpw1Ideal.defs (F := Ideal)) (onTc (τ := Cert.ReferenceDwpw1Ideal.τ) (Cert.ReferenceDwpw1Ideal.main (F := Ideal))) ⟨m, fun _ => 0, g⟩ (fun r => (∀ c : Dev Cert.ReferenceDwpw1Ideal.nD,
      r.2.mem ((c.tc : Thread Cert.ReferenceDwpw1Ideal.nD Cert.ReferenceDwpw1Ideal.τ).loc Cert.ReferenceDwpw1Ideal.main_arg0) = m ((c.tc : Thread Cert.ReferenceDwpw1Ideal.nD Cert.ReferenceDwpw1Ideal.τ).loc Cert.ReferenceDwpw1Ideal.main_arg0)
      ∧ r.2.mem ((c.tc : Thread Cert.ReferenceDwpw1Ideal.nD Cert.ReferenceDwpw1Ideal.τ).loc Cert.ReferenceDwpw1Ideal.main_arg1) = m ((c.tc : Thread Cert.ReferenceDwpw1Ideal.nD Cert.ReferenceDwpw1Ideal.τ).loc Cert.ReferenceDwpw1Ideal.main_arg1))
      ∧ r.2.sem = fun _ => 0)

def quiescent_KernelDupw1 [hKernelDupw1 : Cert.KernelDupw1.Facts] : Prop :=
  ∀ (m : (ℓ : Loc Cert.KernelDupw1.nD Cert.KernelDupw1.τ Cert.KernelDupw1.sig) → Buf (Elt Bits) ℓ) (g : Dev Cert.KernelDupw1.nD → PrngReg), Pre_KernelDupw1 m →
    θ_run (Cert.KernelDupw1.defs (F := Bits)) (onTc (τ := Cert.KernelDupw1.τ) (Cert.KernelDupw1.main (F := Bits))) ⟨m, fun _ => 0, g⟩ (fun r => (∀ c : Dev Cert.KernelDupw1.nD,
      r.2.mem ((c.tc : Thread Cert.KernelDupw1.nD Cert.KernelDupw1.τ).loc Cert.KernelDupw1.main_arg0) = m ((c.tc : Thread Cert.KernelDupw1.nD Cert.KernelDupw1.τ).loc Cert.KernelDupw1.main_arg0)
      ∧ r.2.mem ((c.tc : Thread Cert.KernelDupw1.nD Cert.KernelDupw1.τ).loc Cert.KernelDupw1.main_arg1) = m ((c.tc : Thread Cert.KernelDupw1.nD Cert.KernelDupw1.τ).loc Cert.KernelDupw1.main_arg1))
      ∧ r.2.sem = fun _ => 0)

def quiescent_KernelDupw1Ideal [hKernelDupw1Ideal : Cert.KernelDupw1Ideal.Facts] : Prop :=
  ∀ (m : (ℓ : Loc Cert.KernelDupw1Ideal.nD Cert.KernelDupw1Ideal.τ Cert.KernelDupw1Ideal.sig) → Buf (Elt Ideal) ℓ) (g : Dev Cert.KernelDupw1Ideal.nD → PrngReg), Pre_KernelDupw1Ideal m →
    θ_run (Cert.KernelDupw1Ideal.defs (F := Ideal)) (onTc (τ := Cert.KernelDupw1Ideal.τ) (Cert.KernelDupw1Ideal.main (F := Ideal))) ⟨m, fun _ => 0, g⟩ (fun r => (∀ c : Dev Cert.KernelDupw1Ideal.nD,
      r.2.mem ((c.tc : Thread Cert.KernelDupw1Ideal.nD Cert.KernelDupw1Ideal.τ).loc Cert.KernelDupw1Ideal.main_arg0) = m ((c.tc : Thread Cert.KernelDupw1Ideal.nD Cert.KernelDupw1Ideal.τ).loc Cert.KernelDupw1Ideal.main_arg0)
      ∧ r.2.mem ((c.tc : Thread Cert.KernelDupw1Ideal.nD Cert.KernelDupw1Ideal.τ).loc Cert.KernelDupw1Ideal.main_arg1) = m ((c.tc : Thread Cert.KernelDupw1Ideal.nD Cert.KernelDupw1Ideal.τ).loc Cert.KernelDupw1Ideal.main_arg1))
      ∧ r.2.sem = fun _ => 0)

def quiescent_ReferenceDupw1Ideal [hReferenceDupw1Ideal : Cert.ReferenceDupw1Ideal.Facts] : Prop :=
  ∀ (m : (ℓ : Loc Cert.ReferenceDupw1Ideal.nD Cert.ReferenceDupw1Ideal.τ Cert.ReferenceDupw1Ideal.sig) → Buf (Elt Ideal) ℓ) (g : Dev Cert.ReferenceDupw1Ideal.nD → PrngReg), Pre_ReferenceDupw1Ideal m →
    θ_run (Cert.ReferenceDupw1Ideal.defs (F := Ideal)) (onTc (τ := Cert.ReferenceDupw1Ideal.τ) (Cert.ReferenceDupw1Ideal.main (F := Ideal))) ⟨m, fun _ => 0, g⟩ (fun r => (∀ c : Dev Cert.ReferenceDupw1Ideal.nD,
      r.2.mem ((c.tc : Thread Cert.ReferenceDupw1Ideal.nD Cert.ReferenceDupw1Ideal.τ).loc Cert.ReferenceDupw1Ideal.main_arg0) = m ((c.tc : Thread Cert.ReferenceDupw1Ideal.nD Cert.ReferenceDupw1Ideal.τ).loc Cert.ReferenceDupw1Ideal.main_arg0)
      ∧ r.2.mem ((c.tc : Thread Cert.ReferenceDupw1Ideal.nD Cert.ReferenceDupw1Ideal.τ).loc Cert.ReferenceDupw1Ideal.main_arg1) = m ((c.tc : Thread Cert.ReferenceDupw1Ideal.nD Cert.ReferenceDupw1Ideal.τ).loc Cert.ReferenceDupw1Ideal.main_arg1))
      ∧ r.2.sem = fun _ => 0)

def quiescent_KernelInz [hKernelInz : Cert.KernelInz.Facts] : Prop :=
  ∀ (m : (ℓ : Loc Cert.KernelInz.nD Cert.KernelInz.τ Cert.KernelInz.sig) → Buf (Elt Bits) ℓ) (g : Dev Cert.KernelInz.nD → PrngReg), Pre_KernelInz m →
    θ_run (Cert.KernelInz.defs (F := Bits)) (onTc (τ := Cert.KernelInz.τ) (Cert.KernelInz.main (F := Bits))) ⟨m, fun _ => 0, g⟩ (fun r => (∀ c : Dev Cert.KernelInz.nD,
      r.2.mem ((c.tc : Thread Cert.KernelInz.nD Cert.KernelInz.τ).loc Cert.KernelInz.main_arg0) = m ((c.tc : Thread Cert.KernelInz.nD Cert.KernelInz.τ).loc Cert.KernelInz.main_arg0)
      ∧ r.2.mem ((c.tc : Thread Cert.KernelInz.nD Cert.KernelInz.τ).loc Cert.KernelInz.main_arg1) = m ((c.tc : Thread Cert.KernelInz.nD Cert.KernelInz.τ).loc Cert.KernelInz.main_arg1))
      ∧ r.2.sem = fun _ => 0)

def quiescent_KernelInzIdeal [hKernelInzIdeal : Cert.KernelInzIdeal.Facts] : Prop :=
  ∀ (m : (ℓ : Loc Cert.KernelInzIdeal.nD Cert.KernelInzIdeal.τ Cert.KernelInzIdeal.sig) → Buf (Elt Ideal) ℓ) (g : Dev Cert.KernelInzIdeal.nD → PrngReg), Pre_KernelInzIdeal m →
    θ_run (Cert.KernelInzIdeal.defs (F := Ideal)) (onTc (τ := Cert.KernelInzIdeal.τ) (Cert.KernelInzIdeal.main (F := Ideal))) ⟨m, fun _ => 0, g⟩ (fun r => (∀ c : Dev Cert.KernelInzIdeal.nD,
      r.2.mem ((c.tc : Thread Cert.KernelInzIdeal.nD Cert.KernelInzIdeal.τ).loc Cert.KernelInzIdeal.main_arg0) = m ((c.tc : Thread Cert.KernelInzIdeal.nD Cert.KernelInzIdeal.τ).loc Cert.KernelInzIdeal.main_arg0)
      ∧ r.2.mem ((c.tc : Thread Cert.KernelInzIdeal.nD Cert.KernelInzIdeal.τ).loc Cert.KernelInzIdeal.main_arg1) = m ((c.tc : Thread Cert.KernelInzIdeal.nD Cert.KernelInzIdeal.τ).loc Cert.KernelInzIdeal.main_arg1))
      ∧ r.2.sem = fun _ => 0)

def quiescent_ReferenceInzIdeal [hReferenceInzIdeal : Cert.ReferenceInzIdeal.Facts] : Prop :=
  ∀ (m : (ℓ : Loc Cert.ReferenceInzIdeal.nD Cert.ReferenceInzIdeal.τ Cert.ReferenceInzIdeal.sig) → Buf (Elt Ideal) ℓ) (g : Dev Cert.ReferenceInzIdeal.nD → PrngReg), Pre_ReferenceInzIdeal m →
    θ_run (Cert.ReferenceInzIdeal.defs (F := Ideal)) (onTc (τ := Cert.ReferenceInzIdeal.τ) (Cert.ReferenceInzIdeal.main (F := Ideal))) ⟨m, fun _ => 0, g⟩ (fun r => (∀ c : Dev Cert.ReferenceInzIdeal.nD,
      r.2.mem ((c.tc : Thread Cert.ReferenceInzIdeal.nD Cert.ReferenceInzIdeal.τ).loc Cert.ReferenceInzIdeal.main_arg0) = m ((c.tc : Thread Cert.ReferenceInzIdeal.nD Cert.ReferenceInzIdeal.τ).loc Cert.ReferenceInzIdeal.main_arg0)
      ∧ r.2.mem ((c.tc : Thread Cert.ReferenceInzIdeal.nD Cert.ReferenceInzIdeal.τ).loc Cert.ReferenceInzIdeal.main_arg1) = m ((c.tc : Thread Cert.ReferenceInzIdeal.nD Cert.ReferenceInzIdeal.τ).loc Cert.ReferenceInzIdeal.main_arg1))
      ∧ r.2.sem = fun _ => 0)

def quiescent_KernelInxbc [hKernelInxbc : Cert.KernelInxbc.Facts] : Prop :=
  ∀ (m : (ℓ : Loc Cert.KernelInxbc.nD Cert.KernelInxbc.τ Cert.KernelInxbc.sig) → Buf (Elt Bits) ℓ) (g : Dev Cert.KernelInxbc.nD → PrngReg), Pre_KernelInxbc m →
    θ_run (Cert.KernelInxbc.defs (F := Bits)) (onTc (τ := Cert.KernelInxbc.τ) (Cert.KernelInxbc.main (F := Bits))) ⟨m, fun _ => 0, g⟩ (fun r => (∀ c : Dev Cert.KernelInxbc.nD,
      r.2.mem ((c.tc : Thread Cert.KernelInxbc.nD Cert.KernelInxbc.τ).loc Cert.KernelInxbc.main_arg0) = m ((c.tc : Thread Cert.KernelInxbc.nD Cert.KernelInxbc.τ).loc Cert.KernelInxbc.main_arg0)
      ∧ r.2.mem ((c.tc : Thread Cert.KernelInxbc.nD Cert.KernelInxbc.τ).loc Cert.KernelInxbc.main_arg1) = m ((c.tc : Thread Cert.KernelInxbc.nD Cert.KernelInxbc.τ).loc Cert.KernelInxbc.main_arg1))
      ∧ r.2.sem = fun _ => 0)

def quiescent_KernelInxbcIdeal [hKernelInxbcIdeal : Cert.KernelInxbcIdeal.Facts] : Prop :=
  ∀ (m : (ℓ : Loc Cert.KernelInxbcIdeal.nD Cert.KernelInxbcIdeal.τ Cert.KernelInxbcIdeal.sig) → Buf (Elt Ideal) ℓ) (g : Dev Cert.KernelInxbcIdeal.nD → PrngReg), Pre_KernelInxbcIdeal m →
    θ_run (Cert.KernelInxbcIdeal.defs (F := Ideal)) (onTc (τ := Cert.KernelInxbcIdeal.τ) (Cert.KernelInxbcIdeal.main (F := Ideal))) ⟨m, fun _ => 0, g⟩ (fun r => (∀ c : Dev Cert.KernelInxbcIdeal.nD,
      r.2.mem ((c.tc : Thread Cert.KernelInxbcIdeal.nD Cert.KernelInxbcIdeal.τ).loc Cert.KernelInxbcIdeal.main_arg0) = m ((c.tc : Thread Cert.KernelInxbcIdeal.nD Cert.KernelInxbcIdeal.τ).loc Cert.KernelInxbcIdeal.main_arg0)
      ∧ r.2.mem ((c.tc : Thread Cert.KernelInxbcIdeal.nD Cert.KernelInxbcIdeal.τ).loc Cert.KernelInxbcIdeal.main_arg1) = m ((c.tc : Thread Cert.KernelInxbcIdeal.nD Cert.KernelInxbcIdeal.τ).loc Cert.KernelInxbcIdeal.main_arg1))
      ∧ r.2.sem = fun _ => 0)

def quiescent_ReferenceInxbcIdeal [hReferenceInxbcIdeal : Cert.ReferenceInxbcIdeal.Facts] : Prop :=
  ∀ (m : (ℓ : Loc Cert.ReferenceInxbcIdeal.nD Cert.ReferenceInxbcIdeal.τ Cert.ReferenceInxbcIdeal.sig) → Buf (Elt Ideal) ℓ) (g : Dev Cert.ReferenceInxbcIdeal.nD → PrngReg), Pre_ReferenceInxbcIdeal m →
    θ_run (Cert.ReferenceInxbcIdeal.defs (F := Ideal)) (onTc (τ := Cert.ReferenceInxbcIdeal.τ) (Cert.ReferenceInxbcIdeal.main (F := Ideal))) ⟨m, fun _ => 0, g⟩ (fun r => (∀ c : Dev Cert.ReferenceInxbcIdeal.nD,
      r.2.mem ((c.tc : Thread Cert.ReferenceInxbcIdeal.nD Cert.ReferenceInxbcIdeal.τ).loc Cert.ReferenceInxbcIdeal.main_arg0) = m ((c.tc : Thread Cert.ReferenceInxbcIdeal.nD Cert.ReferenceInxbcIdeal.τ).loc Cert.ReferenceInxbcIdeal.main_arg0)
      ∧ r.2.mem ((c.tc : Thread Cert.ReferenceInxbcIdeal.nD Cert.ReferenceInxbcIdeal.τ).loc Cert.ReferenceInxbcIdeal.main_arg1) = m ((c.tc : Thread Cert.ReferenceInxbcIdeal.nD Cert.ReferenceInxbcIdeal.τ).loc Cert.ReferenceInxbcIdeal.main_arg1))
      ∧ r.2.sem = fun _ => 0)

def quiescent_KernelIndt [hKernelIndt : Cert.KernelIndt.Facts] : Prop :=
  ∀ (m : (ℓ : Loc Cert.KernelIndt.nD Cert.KernelIndt.τ Cert.KernelIndt.sig) → Buf (Elt Bits) ℓ) (g : Dev Cert.KernelIndt.nD → PrngReg), Pre_KernelIndt m →
    θ_run (Cert.KernelIndt.defs (F := Bits)) (onTc (τ := Cert.KernelIndt.τ) (Cert.KernelIndt.main (F := Bits))) ⟨m, fun _ => 0, g⟩ (fun r => (∀ c : Dev Cert.KernelIndt.nD,
      r.2.mem ((c.tc : Thread Cert.KernelIndt.nD Cert.KernelIndt.τ).loc Cert.KernelIndt.main_arg0) = m ((c.tc : Thread Cert.KernelIndt.nD Cert.KernelIndt.τ).loc Cert.KernelIndt.main_arg0)
      ∧ r.2.mem ((c.tc : Thread Cert.KernelIndt.nD Cert.KernelIndt.τ).loc Cert.KernelIndt.main_arg1) = m ((c.tc : Thread Cert.KernelIndt.nD Cert.KernelIndt.τ).loc Cert.KernelIndt.main_arg1))
      ∧ r.2.sem = fun _ => 0)

def quiescent_KernelIndtIdeal [hKernelIndtIdeal : Cert.KernelIndtIdeal.Facts] : Prop :=
  ∀ (m : (ℓ : Loc Cert.KernelIndtIdeal.nD Cert.KernelIndtIdeal.τ Cert.KernelIndtIdeal.sig) → Buf (Elt Ideal) ℓ) (g : Dev Cert.KernelIndtIdeal.nD → PrngReg), Pre_KernelIndtIdeal m →
    θ_run (Cert.KernelIndtIdeal.defs (F := Ideal)) (onTc (τ := Cert.KernelIndtIdeal.τ) (Cert.KernelIndtIdeal.main (F := Ideal))) ⟨m, fun _ => 0, g⟩ (fun r => (∀ c : Dev Cert.KernelIndtIdeal.nD,
      r.2.mem ((c.tc : Thread Cert.KernelIndtIdeal.nD Cert.KernelIndtIdeal.τ).loc Cert.KernelIndtIdeal.main_arg0) = m ((c.tc : Thread Cert.KernelIndtIdeal.nD Cert.KernelIndtIdeal.τ).loc Cert.KernelIndtIdeal.main_arg0)
      ∧ r.2.mem ((c.tc : Thread Cert.KernelIndtIdeal.nD Cert.KernelIndtIdeal.τ).loc Cert.KernelIndtIdeal.main_arg1) = m ((c.tc : Thread Cert.KernelIndtIdeal.nD Cert.KernelIndtIdeal.τ).loc Cert.KernelIndtIdeal.main_arg1))
      ∧ r.2.sem = fun _ => 0)

def quiescent_ReferenceIndtIdeal [hReferenceIndtIdeal : Cert.ReferenceIndtIdeal.Facts] : Prop :=
  ∀ (m : (ℓ : Loc Cert.ReferenceIndtIdeal.nD Cert.ReferenceIndtIdeal.τ Cert.ReferenceIndtIdeal.sig) → Buf (Elt Ideal) ℓ) (g : Dev Cert.ReferenceIndtIdeal.nD → PrngReg), Pre_ReferenceIndtIdeal m →
    θ_run (Cert.ReferenceIndtIdeal.defs (F := Ideal)) (onTc (τ := Cert.ReferenceIndtIdeal.τ) (Cert.ReferenceIndtIdeal.main (F := Ideal))) ⟨m, fun _ => 0, g⟩ (fun r => (∀ c : Dev Cert.ReferenceIndtIdeal.nD,
      r.2.mem ((c.tc : Thread Cert.ReferenceIndtIdeal.nD Cert.ReferenceIndtIdeal.τ).loc Cert.ReferenceIndtIdeal.main_arg0) = m ((c.tc : Thread Cert.ReferenceIndtIdeal.nD Cert.ReferenceIndtIdeal.τ).loc Cert.ReferenceIndtIdeal.main_arg0)
      ∧ r.2.mem ((c.tc : Thread Cert.ReferenceIndtIdeal.nD Cert.ReferenceIndtIdeal.τ).loc Cert.ReferenceIndtIdeal.main_arg1) = m ((c.tc : Thread Cert.ReferenceIndtIdeal.nD Cert.ReferenceIndtIdeal.τ).loc Cert.ReferenceIndtIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelDyn [hKernelDyn : Cert.KernelDyn.Facts] : Prop :=
  ∀ (m : (ℓ : Loc Cert.KernelDyn.nD Cert.KernelDyn.τ Cert.KernelDyn.sig) → Buf (Elt Bits) ℓ) (g : Dev Cert.KernelDyn.nD → PrngReg), Pre_KernelDyn m →
    θ_run (Cert.KernelDyn.defs (F := Bits)) (onTc (τ := Cert.KernelDyn.τ) (Cert.KernelDyn.main (F := Bits))) ⟨m, fun _ => 0, g⟩ (fun r => (∀ c : Dev Cert.KernelDyn.nD,
      r.2.mem ((c.tc : Thread Cert.KernelDyn.nD Cert.KernelDyn.τ).loc Cert.KernelDyn.main_arg0) = m ((c.tc : Thread Cert.KernelDyn.nD Cert.KernelDyn.τ).loc Cert.KernelDyn.main_arg0)
      ∧ r.2.mem ((c.tc : Thread Cert.KernelDyn.nD Cert.KernelDyn.τ).loc Cert.KernelDyn.main_arg1) = m ((c.tc : Thread Cert.KernelDyn.nD Cert.KernelDyn.τ).loc Cert.KernelDyn.main_arg1))
      ∧ r.2.sem = fun _ => 0)

def quiescent_KernelDynIdeal [hKernelDynIdeal : Cert.KernelDynIdeal.Facts] : Prop :=
  ∀ (m : (ℓ : Loc Cert.KernelDynIdeal.nD Cert.KernelDynIdeal.τ Cert.KernelDynIdeal.sig) → Buf (Elt Ideal) ℓ) (g : Dev Cert.KernelDynIdeal.nD → PrngReg), Pre_KernelDynIdeal m →
    θ_run (Cert.KernelDynIdeal.defs (F := Ideal)) (onTc (τ := Cert.KernelDynIdeal.τ) (Cert.KernelDynIdeal.main (F := Ideal))) ⟨m, fun _ => 0, g⟩ (fun r => (∀ c : Dev Cert.KernelDynIdeal.nD,
      r.2.mem ((c.tc : Thread Cert.KernelDynIdeal.nD Cert.KernelDynIdeal.τ).loc Cert.KernelDynIdeal.main_arg0) = m ((c.tc : Thread Cert.KernelDynIdeal.nD Cert.KernelDynIdeal.τ).loc Cert.KernelDynIdeal.main_arg0)
      ∧ r.2.mem ((c.tc : Thread Cert.KernelDynIdeal.nD Cert.KernelDynIdeal.τ).loc Cert.KernelDynIdeal.main_arg1) = m ((c.tc : Thread Cert.KernelDynIdeal.nD Cert.KernelDynIdeal.τ).loc Cert.KernelDynIdeal.main_arg1))
      ∧ r.2.sem = fun _ => 0)

def quiescent_ReferenceDynIdeal [hReferenceDynIdeal : Cert.ReferenceDynIdeal.Facts] : Prop :=
  ∀ (m : (ℓ : Loc Cert.ReferenceDynIdeal.nD Cert.ReferenceDynIdeal.τ Cert.ReferenceDynIdeal.sig) → Buf (Elt Ideal) ℓ) (g : Dev Cert.ReferenceDynIdeal.nD → PrngReg), Pre_ReferenceDynIdeal m →
    θ_run (Cert.ReferenceDynIdeal.defs (F := Ideal)) (onTc (τ := Cert.ReferenceDynIdeal.τ) (Cert.ReferenceDynIdeal.main (F := Ideal))) ⟨m, fun _ => 0, g⟩ (fun r => (∀ c : Dev Cert.ReferenceDynIdeal.nD,
      r.2.mem ((c.tc : Thread Cert.ReferenceDynIdeal.nD Cert.ReferenceDynIdeal.τ).loc Cert.ReferenceDynIdeal.main_arg0) = m ((c.tc : Thread Cert.ReferenceDynIdeal.nD Cert.ReferenceDynIdeal.τ).loc Cert.ReferenceDynIdeal.main_arg0)
      ∧ r.2.mem ((c.tc : Thread Cert.ReferenceDynIdeal.nD Cert.ReferenceDynIdeal.τ).loc Cert.ReferenceDynIdeal.main_arg1) = m ((c.tc : Thread Cert.ReferenceDynIdeal.nD Cert.ReferenceDynIdeal.τ).loc Cert.ReferenceDynIdeal.main_arg1))
      ∧ r.2.sem = fun _ => 0)

def quiescent_KernelDwout [hKernelDwout : Cert.KernelDwout.Facts] : Prop :=
  ∀ (m : (ℓ : Loc Cert.KernelDwout.nD Cert.KernelDwout.τ Cert.KernelDwout.sig) → Buf (Elt Bits) ℓ) (g : Dev Cert.KernelDwout.nD → PrngReg), Pre_KernelDwout m →
    θ_run (Cert.KernelDwout.defs (F := Bits)) (onTc (τ := Cert.KernelDwout.τ) (Cert.KernelDwout.main (F := Bits))) ⟨m, fun _ => 0, g⟩ (fun r => (∀ c : Dev Cert.KernelDwout.nD,
      r.2.mem ((c.tc : Thread Cert.KernelDwout.nD Cert.KernelDwout.τ).loc Cert.KernelDwout.main_arg0) = m ((c.tc : Thread Cert.KernelDwout.nD Cert.KernelDwout.τ).loc Cert.KernelDwout.main_arg0)
      ∧ r.2.mem ((c.tc : Thread Cert.KernelDwout.nD Cert.KernelDwout.τ).loc Cert.KernelDwout.main_arg1) = m ((c.tc : Thread Cert.KernelDwout.nD Cert.KernelDwout.τ).loc Cert.KernelDwout.main_arg1))
      ∧ r.2.sem = fun _ => 0)

def quiescent_KernelDwoutIdeal [hKernelDwoutIdeal : Cert.KernelDwoutIdeal.Facts] : Prop :=
  ∀ (m : (ℓ : Loc Cert.KernelDwoutIdeal.nD Cert.KernelDwoutIdeal.τ Cert.KernelDwoutIdeal.sig) → Buf (Elt Ideal) ℓ) (g : Dev Cert.KernelDwoutIdeal.nD → PrngReg), Pre_KernelDwoutIdeal m →
    θ_run (Cert.KernelDwoutIdeal.defs (F := Ideal)) (onTc (τ := Cert.KernelDwoutIdeal.τ) (Cert.KernelDwoutIdeal.main (F := Ideal))) ⟨m, fun _ => 0, g⟩ (fun r => (∀ c : Dev Cert.KernelDwoutIdeal.nD,
      r.2.mem ((c.tc : Thread Cert.KernelDwoutIdeal.nD Cert.KernelDwoutIdeal.τ).loc Cert.KernelDwoutIdeal.main_arg0) = m ((c.tc : Thread Cert.KernelDwoutIdeal.nD Cert.KernelDwoutIdeal.τ).loc Cert.KernelDwoutIdeal.main_arg0)
      ∧ r.2.mem ((c.tc : Thread Cert.KernelDwoutIdeal.nD Cert.KernelDwoutIdeal.τ).loc Cert.KernelDwoutIdeal.main_arg1) = m ((c.tc : Thread Cert.KernelDwoutIdeal.nD Cert.KernelDwoutIdeal.τ).loc Cert.KernelDwoutIdeal.main_arg1))
      ∧ r.2.sem = fun _ => 0)

def quiescent_ReferenceDwoutIdeal [hReferenceDwoutIdeal : Cert.ReferenceDwoutIdeal.Facts] : Prop :=
  ∀ (m : (ℓ : Loc Cert.ReferenceDwoutIdeal.nD Cert.ReferenceDwoutIdeal.τ Cert.ReferenceDwoutIdeal.sig) → Buf (Elt Ideal) ℓ) (g : Dev Cert.ReferenceDwoutIdeal.nD → PrngReg), Pre_ReferenceDwoutIdeal m →
    θ_run (Cert.ReferenceDwoutIdeal.defs (F := Ideal)) (onTc (τ := Cert.ReferenceDwoutIdeal.τ) (Cert.ReferenceDwoutIdeal.main (F := Ideal))) ⟨m, fun _ => 0, g⟩ (fun r => (∀ c : Dev Cert.ReferenceDwoutIdeal.nD,
      r.2.mem ((c.tc : Thread Cert.ReferenceDwoutIdeal.nD Cert.ReferenceDwoutIdeal.τ).loc Cert.ReferenceDwoutIdeal.main_arg0) = m ((c.tc : Thread Cert.ReferenceDwoutIdeal.nD Cert.ReferenceDwoutIdeal.τ).loc Cert.ReferenceDwoutIdeal.main_arg0)
      ∧ r.2.mem ((c.tc : Thread Cert.ReferenceDwoutIdeal.nD Cert.ReferenceDwoutIdeal.τ).loc Cert.ReferenceDwoutIdeal.main_arg1) = m ((c.tc : Thread Cert.ReferenceDwoutIdeal.nD Cert.ReferenceDwoutIdeal.τ).loc Cert.ReferenceDwoutIdeal.main_arg1))
      ∧ r.2.sem = fun _ => 0)

def quiescent_KernelDwinz [hKernelDwinz : Cert.KernelDwinz.Facts] : Prop :=
  ∀ (m : (ℓ : Loc Cert.KernelDwinz.nD Cert.KernelDwinz.τ Cert.KernelDwinz.sig) → Buf (Elt Bits) ℓ) (g : Dev Cert.KernelDwinz.nD → PrngReg), Pre_KernelDwinz m →
    θ_run (Cert.KernelDwinz.defs (F := Bits)) (onTc (τ := Cert.KernelDwinz.τ) (Cert.KernelDwinz.main (F := Bits))) ⟨m, fun _ => 0, g⟩ (fun r => (∀ c : Dev Cert.KernelDwinz.nD,
      r.2.mem ((c.tc : Thread Cert.KernelDwinz.nD Cert.KernelDwinz.τ).loc Cert.KernelDwinz.main_arg0) = m ((c.tc : Thread Cert.KernelDwinz.nD Cert.KernelDwinz.τ).loc Cert.KernelDwinz.main_arg0)
      ∧ r.2.mem ((c.tc : Thread Cert.KernelDwinz.nD Cert.KernelDwinz.τ).loc Cert.KernelDwinz.main_arg1) = m ((c.tc : Thread Cert.KernelDwinz.nD Cert.KernelDwinz.τ).loc Cert.KernelDwinz.main_arg1))
      ∧ r.2.sem = fun _ => 0)

def quiescent_KernelDwinzIdeal [hKernelDwinzIdeal : Cert.KernelDwinzIdeal.Facts] : Prop :=
  ∀ (m : (ℓ : Loc Cert.KernelDwinzIdeal.nD Cert.KernelDwinzIdeal.τ Cert.KernelDwinzIdeal.sig) → Buf (Elt Ideal) ℓ) (g : Dev Cert.KernelDwinzIdeal.nD → PrngReg), Pre_KernelDwinzIdeal m →
    θ_run (Cert.KernelDwinzIdeal.defs (F := Ideal)) (onTc (τ := Cert.KernelDwinzIdeal.τ) (Cert.KernelDwinzIdeal.main (F := Ideal))) ⟨m, fun _ => 0, g⟩ (fun r => (∀ c : Dev Cert.KernelDwinzIdeal.nD,
      r.2.mem ((c.tc : Thread Cert.KernelDwinzIdeal.nD Cert.KernelDwinzIdeal.τ).loc Cert.KernelDwinzIdeal.main_arg0) = m ((c.tc : Thread Cert.KernelDwinzIdeal.nD Cert.KernelDwinzIdeal.τ).loc Cert.KernelDwinzIdeal.main_arg0)
      ∧ r.2.mem ((c.tc : Thread Cert.KernelDwinzIdeal.nD Cert.KernelDwinzIdeal.τ).loc Cert.KernelDwinzIdeal.main_arg1) = m ((c.tc : Thread Cert.KernelDwinzIdeal.nD Cert.KernelDwinzIdeal.τ).loc Cert.KernelDwinzIdeal.main_arg1))
      ∧ r.2.sem = fun _ => 0)

def quiescent_ReferenceDwinzIdeal [hReferenceDwinzIdeal : Cert.ReferenceDwinzIdeal.Facts] : Prop :=
  ∀ (m : (ℓ : Loc Cert.ReferenceDwinzIdeal.nD Cert.ReferenceDwinzIdeal.τ Cert.ReferenceDwinzIdeal.sig) → Buf (Elt Ideal) ℓ) (g : Dev Cert.ReferenceDwinzIdeal.nD → PrngReg), Pre_ReferenceDwinzIdeal m →
    θ_run (Cert.ReferenceDwinzIdeal.defs (F := Ideal)) (onTc (τ := Cert.ReferenceDwinzIdeal.τ) (Cert.ReferenceDwinzIdeal.main (F := Ideal))) ⟨m, fun _ => 0, g⟩ (fun r => (∀ c : Dev Cert.ReferenceDwinzIdeal.nD,
      r.2.mem ((c.tc : Thread Cert.ReferenceDwinzIdeal.nD Cert.ReferenceDwinzIdeal.τ).loc Cert.ReferenceDwinzIdeal.main_arg0) = m ((c.tc : Thread Cert.ReferenceDwinzIdeal.nD Cert.ReferenceDwinzIdeal.τ).loc Cert.ReferenceDwinzIdeal.main_arg0)
      ∧ r.2.mem ((c.tc : Thread Cert.ReferenceDwinzIdeal.nD Cert.ReferenceDwinzIdeal.τ).loc Cert.ReferenceDwinzIdeal.main_arg1) = m ((c.tc : Thread Cert.ReferenceDwinzIdeal.nD Cert.ReferenceDwinzIdeal.τ).loc Cert.ReferenceDwinzIdeal.main_arg1))
      ∧ r.2.sem = fun _ => 0)

def quiescent_KernelDwinxbc [hKernelDwinxbc : Cert.KernelDwinxbc.Facts] : Prop :=
  ∀ (m : (ℓ : Loc Cert.KernelDwinxbc.nD Cert.KernelDwinxbc.τ Cert.KernelDwinxbc.sig) → Buf (Elt Bits) ℓ) (g : Dev Cert.KernelDwinxbc.nD → PrngReg), Pre_KernelDwinxbc m →
    θ_run (Cert.KernelDwinxbc.defs (F := Bits)) (onTc (τ := Cert.KernelDwinxbc.τ) (Cert.KernelDwinxbc.main (F := Bits))) ⟨m, fun _ => 0, g⟩ (fun r => (∀ c : Dev Cert.KernelDwinxbc.nD,
      r.2.mem ((c.tc : Thread Cert.KernelDwinxbc.nD Cert.KernelDwinxbc.τ).loc Cert.KernelDwinxbc.main_arg0) = m ((c.tc : Thread Cert.KernelDwinxbc.nD Cert.KernelDwinxbc.τ).loc Cert.KernelDwinxbc.main_arg0)
      ∧ r.2.mem ((c.tc : Thread Cert.KernelDwinxbc.nD Cert.KernelDwinxbc.τ).loc Cert.KernelDwinxbc.main_arg1) = m ((c.tc : Thread Cert.KernelDwinxbc.nD Cert.KernelDwinxbc.τ).loc Cert.KernelDwinxbc.main_arg1))
      ∧ r.2.sem = fun _ => 0)

def quiescent_KernelDwinxbcIdeal [hKernelDwinxbcIdeal : Cert.KernelDwinxbcIdeal.Facts] : Prop :=
  ∀ (m : (ℓ : Loc Cert.KernelDwinxbcIdeal.nD Cert.KernelDwinxbcIdeal.τ Cert.KernelDwinxbcIdeal.sig) → Buf (Elt Ideal) ℓ) (g : Dev Cert.KernelDwinxbcIdeal.nD → PrngReg), Pre_KernelDwinxbcIdeal m →
    θ_run (Cert.KernelDwinxbcIdeal.defs (F := Ideal)) (onTc (τ := Cert.KernelDwinxbcIdeal.τ) (Cert.KernelDwinxbcIdeal.main (F := Ideal))) ⟨m, fun _ => 0, g⟩ (fun r => (∀ c : Dev Cert.KernelDwinxbcIdeal.nD,
      r.2.mem ((c.tc : Thread Cert.KernelDwinxbcIdeal.nD Cert.KernelDwinxbcIdeal.τ).loc Cert.KernelDwinxbcIdeal.main_arg0) = m ((c.tc : Thread Cert.KernelDwinxbcIdeal.nD Cert.KernelDwinxbcIdeal.τ).loc Cert.KernelDwinxbcIdeal.main_arg0)
      ∧ r.2.mem ((c.tc : Thread Cert.KernelDwinxbcIdeal.nD Cert.KernelDwinxbcIdeal.τ).loc Cert.KernelDwinxbcIdeal.main_arg1) = m ((c.tc : Thread Cert.KernelDwinxbcIdeal.nD Cert.KernelDwinxbcIdeal.τ).loc Cert.KernelDwinxbcIdeal.main_arg1))
      ∧ r.2.sem = fun _ => 0)

def quiescent_ReferenceDwinxbcIdeal [hReferenceDwinxbcIdeal : Cert.ReferenceDwinxbcIdeal.Facts] : Prop :=
  ∀ (m : (ℓ : Loc Cert.ReferenceDwinxbcIdeal.nD Cert.ReferenceDwinxbcIdeal.τ Cert.ReferenceDwinxbcIdeal.sig) → Buf (Elt Ideal) ℓ) (g : Dev Cert.ReferenceDwinxbcIdeal.nD → PrngReg), Pre_ReferenceDwinxbcIdeal m →
    θ_run (Cert.ReferenceDwinxbcIdeal.defs (F := Ideal)) (onTc (τ := Cert.ReferenceDwinxbcIdeal.τ) (Cert.ReferenceDwinxbcIdeal.main (F := Ideal))) ⟨m, fun _ => 0, g⟩ (fun r => (∀ c : Dev Cert.ReferenceDwinxbcIdeal.nD,
      r.2.mem ((c.tc : Thread Cert.ReferenceDwinxbcIdeal.nD Cert.ReferenceDwinxbcIdeal.τ).loc Cert.ReferenceDwinxbcIdeal.main_arg0) = m ((c.tc : Thread Cert.ReferenceDwinxbcIdeal.nD Cert.ReferenceDwinxbcIdeal.τ).loc Cert.ReferenceDwinxbcIdeal.main_arg0)
      ∧ r.2.mem ((c.tc : Thread Cert.ReferenceDwinxbcIdeal.nD Cert.ReferenceDwinxbcIdeal.τ).loc Cert.ReferenceDwinxbcIdeal.main_arg1) = m ((c.tc : Thread Cert.ReferenceDwinxbcIdeal.nD Cert.ReferenceDwinxbcIdeal.τ).loc Cert.ReferenceDwinxbcIdeal.main_arg1))
      ∧ r.2.sem = fun _ => 0)

def quiescent_KernelDwindt [hKernelDwindt : Cert.KernelDwindt.Facts] : Prop :=
  ∀ (m : (ℓ : Loc Cert.KernelDwindt.nD Cert.KernelDwindt.τ Cert.KernelDwindt.sig) → Buf (Elt Bits) ℓ) (g : Dev Cert.KernelDwindt.nD → PrngReg), Pre_KernelDwindt m →
    θ_run (Cert.KernelDwindt.defs (F := Bits)) (onTc (τ := Cert.KernelDwindt.τ) (Cert.KernelDwindt.main (F := Bits))) ⟨m, fun _ => 0, g⟩ (fun r => (∀ c : Dev Cert.KernelDwindt.nD,
      r.2.mem ((c.tc : Thread Cert.KernelDwindt.nD Cert.KernelDwindt.τ).loc Cert.KernelDwindt.main_arg0) = m ((c.tc : Thread Cert.KernelDwindt.nD Cert.KernelDwindt.τ).loc Cert.KernelDwindt.main_arg0)
      ∧ r.2.mem ((c.tc : Thread Cert.KernelDwindt.nD Cert.KernelDwindt.τ).loc Cert.KernelDwindt.main_arg1) = m ((c.tc : Thread Cert.KernelDwindt.nD Cert.KernelDwindt.τ).loc Cert.KernelDwindt.main_arg1))
      ∧ r.2.sem = fun _ => 0)

def quiescent_KernelDwindtIdeal [hKernelDwindtIdeal : Cert.KernelDwindtIdeal.Facts] : Prop :=
  ∀ (m : (ℓ : Loc Cert.KernelDwindtIdeal.nD Cert.KernelDwindtIdeal.τ Cert.KernelDwindtIdeal.sig) → Buf (Elt Ideal) ℓ) (g : Dev Cert.KernelDwindtIdeal.nD → PrngReg), Pre_KernelDwindtIdeal m →
    θ_run (Cert.KernelDwindtIdeal.defs (F := Ideal)) (onTc (τ := Cert.KernelDwindtIdeal.τ) (Cert.KernelDwindtIdeal.main (F := Ideal))) ⟨m, fun _ => 0, g⟩ (fun r => (∀ c : Dev Cert.KernelDwindtIdeal.nD,
      r.2.mem ((c.tc : Thread Cert.KernelDwindtIdeal.nD Cert.KernelDwindtIdeal.τ).loc Cert.KernelDwindtIdeal.main_arg0) = m ((c.tc : Thread Cert.KernelDwindtIdeal.nD Cert.KernelDwindtIdeal.τ).loc Cert.KernelDwindtIdeal.main_arg0)
      ∧ r.2.mem ((c.tc : Thread Cert.KernelDwindtIdeal.nD Cert.KernelDwindtIdeal.τ).loc Cert.KernelDwindtIdeal.main_arg1) = m ((c.tc : Thread Cert.KernelDwindtIdeal.nD Cert.KernelDwindtIdeal.τ).loc Cert.KernelDwindtIdeal.main_arg1))
      ∧ r.2.sem = fun _ => 0)

def quiescent_ReferenceDwindtIdeal [hReferenceDwindtIdeal : Cert.ReferenceDwindtIdeal.Facts] : Prop :=
  ∀ (m : (ℓ : Loc Cert.ReferenceDwindtIdeal.nD Cert.ReferenceDwindtIdeal.τ Cert.ReferenceDwindtIdeal.sig) → Buf (Elt Ideal) ℓ) (g : Dev Cert.ReferenceDwindtIdeal.nD → PrngReg), Pre_ReferenceDwindtIdeal m →
    θ_run (Cert.ReferenceDwindtIdeal.defs (F := Ideal)) (onTc (τ := Cert.ReferenceDwindtIdeal.τ) (Cert.ReferenceDwindtIdeal.main (F := Ideal))) ⟨m, fun _ => 0, g⟩ (fun r => (∀ c : Dev Cert.ReferenceDwindtIdeal.nD,
      r.2.mem ((c.tc : Thread Cert.ReferenceDwindtIdeal.nD Cert.ReferenceDwindtIdeal.τ).loc Cert.ReferenceDwindtIdeal.main_arg0) = m ((c.tc : Thread Cert.ReferenceDwindtIdeal.nD Cert.ReferenceDwindtIdeal.τ).loc Cert.ReferenceDwindtIdeal.main_arg0)
      ∧ r.2.mem ((c.tc : Thread Cert.ReferenceDwindtIdeal.nD Cert.ReferenceDwindtIdeal.τ).loc Cert.ReferenceDwindtIdeal.main_arg1) = m ((c.tc : Thread Cert.ReferenceDwindtIdeal.nD Cert.ReferenceDwindtIdeal.τ).loc Cert.ReferenceDwindtIdeal.main_arg1))
      ∧ r.2.sem = fun _ => 0)

def quiescent_KernelDuz [hKernelDuz : Cert.KernelDuz.Facts] : Prop :=
  ∀ (m : (ℓ : Loc Cert.KernelDuz.nD Cert.KernelDuz.τ Cert.KernelDuz.sig) → Buf (Elt Bits) ℓ) (g : Dev Cert.KernelDuz.nD → PrngReg), Pre_KernelDuz m →
    θ_run (Cert.KernelDuz.defs (F := Bits)) (onTc (τ := Cert.KernelDuz.τ) (Cert.KernelDuz.main (F := Bits))) ⟨m, fun _ => 0, g⟩ (fun r => (∀ c : Dev Cert.KernelDuz.nD,
      r.2.mem ((c.tc : Thread Cert.KernelDuz.nD Cert.KernelDuz.τ).loc Cert.KernelDuz.main_arg0) = m ((c.tc : Thread Cert.KernelDuz.nD Cert.KernelDuz.τ).loc Cert.KernelDuz.main_arg0)
      ∧ r.2.mem ((c.tc : Thread Cert.KernelDuz.nD Cert.KernelDuz.τ).loc Cert.KernelDuz.main_arg1) = m ((c.tc : Thread Cert.KernelDuz.nD Cert.KernelDuz.τ).loc Cert.KernelDuz.main_arg1))
      ∧ r.2.sem = fun _ => 0)

def quiescent_KernelDuzIdeal [hKernelDuzIdeal : Cert.KernelDuzIdeal.Facts] : Prop :=
  ∀ (m : (ℓ : Loc Cert.KernelDuzIdeal.nD Cert.KernelDuzIdeal.τ Cert.KernelDuzIdeal.sig) → Buf (Elt Ideal) ℓ) (g : Dev Cert.KernelDuzIdeal.nD → PrngReg), Pre_KernelDuzIdeal m →
    θ_run (Cert.KernelDuzIdeal.defs (F := Ideal)) (onTc (τ := Cert.KernelDuzIdeal.τ) (Cert.KernelDuzIdeal.main (F := Ideal))) ⟨m, fun _ => 0, g⟩ (fun r => (∀ c : Dev Cert.KernelDuzIdeal.nD,
      r.2.mem ((c.tc : Thread Cert.KernelDuzIdeal.nD Cert.KernelDuzIdeal.τ).loc Cert.KernelDuzIdeal.main_arg0) = m ((c.tc : Thread Cert.KernelDuzIdeal.nD Cert.KernelDuzIdeal.τ).loc Cert.KernelDuzIdeal.main_arg0)
      ∧ r.2.mem ((c.tc : Thread Cert.KernelDuzIdeal.nD Cert.KernelDuzIdeal.τ).loc Cert.KernelDuzIdeal.main_arg1) = m ((c.tc : Thread Cert.KernelDuzIdeal.nD Cert.KernelDuzIdeal.τ).loc Cert.KernelDuzIdeal.main_arg1))
      ∧ r.2.sem = fun _ => 0)

def quiescent_ReferenceDuzIdeal [hReferenceDuzIdeal : Cert.ReferenceDuzIdeal.Facts] : Prop :=
  ∀ (m : (ℓ : Loc Cert.ReferenceDuzIdeal.nD Cert.ReferenceDuzIdeal.τ Cert.ReferenceDuzIdeal.sig) → Buf (Elt Ideal) ℓ) (g : Dev Cert.ReferenceDuzIdeal.nD → PrngReg), Pre_ReferenceDuzIdeal m →
    θ_run (Cert.ReferenceDuzIdeal.defs (F := Ideal)) (onTc (τ := Cert.ReferenceDuzIdeal.τ) (Cert.ReferenceDuzIdeal.main (F := Ideal))) ⟨m, fun _ => 0, g⟩ (fun r => (∀ c : Dev Cert.ReferenceDuzIdeal.nD,
      r.2.mem ((c.tc : Thread Cert.ReferenceDuzIdeal.nD Cert.ReferenceDuzIdeal.τ).loc Cert.ReferenceDuzIdeal.main_arg0) = m ((c.tc : Thread Cert.ReferenceDuzIdeal.nD Cert.ReferenceDuzIdeal.τ).loc Cert.ReferenceDuzIdeal.main_arg0)
      ∧ r.2.mem ((c.tc : Thread Cert.ReferenceDuzIdeal.nD Cert.ReferenceDuzIdeal.τ).loc Cert.ReferenceDuzIdeal.main_arg1) = m ((c.tc : Thread Cert.ReferenceDuzIdeal.nD Cert.ReferenceDuzIdeal.τ).loc Cert.ReferenceDuzIdeal.main_arg1))
      ∧ r.2.sem = fun _ => 0)

def quiescent_KernelDuxbc [hKernelDuxbc : Cert.KernelDuxbc.Facts] : Prop :=
  ∀ (m : (ℓ : Loc Cert.KernelDuxbc.nD Cert.KernelDuxbc.τ Cert.KernelDuxbc.sig) → Buf (Elt Bits) ℓ) (g : Dev Cert.KernelDuxbc.nD → PrngReg), Pre_KernelDuxbc m →
    θ_run (Cert.KernelDuxbc.defs (F := Bits)) (onTc (τ := Cert.KernelDuxbc.τ) (Cert.KernelDuxbc.main (F := Bits))) ⟨m, fun _ => 0, g⟩ (fun r => (∀ c : Dev Cert.KernelDuxbc.nD,
      r.2.mem ((c.tc : Thread Cert.KernelDuxbc.nD Cert.KernelDuxbc.τ).loc Cert.KernelDuxbc.main_arg0) = m ((c.tc : Thread Cert.KernelDuxbc.nD Cert.KernelDuxbc.τ).loc Cert.KernelDuxbc.main_arg0)
      ∧ r.2.mem ((c.tc : Thread Cert.KernelDuxbc.nD Cert.KernelDuxbc.τ).loc Cert.KernelDuxbc.main_arg1) = m ((c.tc : Thread Cert.KernelDuxbc.nD Cert.KernelDuxbc.τ).loc Cert.KernelDuxbc.main_arg1)
      ∧ r.2.mem ((c.tc : Thread Cert.KernelDuxbc.nD Cert.KernelDuxbc.τ).loc Cert.KernelDuxbc.main_arg2) = m ((c.tc : Thread Cert.KernelDuxbc.nD Cert.KernelDuxbc.τ).loc Cert.KernelDuxbc.main_arg2))
      ∧ r.2.sem = fun _ => 0)

def quiescent_KernelDuxbcIdeal [hKernelDuxbcIdeal : Cert.KernelDuxbcIdeal.Facts] : Prop :=
  ∀ (m : (ℓ : Loc Cert.KernelDuxbcIdeal.nD Cert.KernelDuxbcIdeal.τ Cert.KernelDuxbcIdeal.sig) → Buf (Elt Ideal) ℓ) (g : Dev Cert.KernelDuxbcIdeal.nD → PrngReg), Pre_KernelDuxbcIdeal m →
    θ_run (Cert.KernelDuxbcIdeal.defs (F := Ideal)) (onTc (τ := Cert.KernelDuxbcIdeal.τ) (Cert.KernelDuxbcIdeal.main (F := Ideal))) ⟨m, fun _ => 0, g⟩ (fun r => (∀ c : Dev Cert.KernelDuxbcIdeal.nD,
      r.2.mem ((c.tc : Thread Cert.KernelDuxbcIdeal.nD Cert.KernelDuxbcIdeal.τ).loc Cert.KernelDuxbcIdeal.main_arg0) = m ((c.tc : Thread Cert.KernelDuxbcIdeal.nD Cert.KernelDuxbcIdeal.τ).loc Cert.KernelDuxbcIdeal.main_arg0)
      ∧ r.2.mem ((c.tc : Thread Cert.KernelDuxbcIdeal.nD Cert.KernelDuxbcIdeal.τ).loc Cert.KernelDuxbcIdeal.main_arg1) = m ((c.tc : Thread Cert.KernelDuxbcIdeal.nD Cert.KernelDuxbcIdeal.τ).loc Cert.KernelDuxbcIdeal.main_arg1)
      ∧ r.2.mem ((c.tc : Thread Cert.KernelDuxbcIdeal.nD Cert.KernelDuxbcIdeal.τ).loc Cert.KernelDuxbcIdeal.main_arg2) = m ((c.tc : Thread Cert.KernelDuxbcIdeal.nD Cert.KernelDuxbcIdeal.τ).loc Cert.KernelDuxbcIdeal.main_arg2))
      ∧ r.2.sem = fun _ => 0)

def quiescent_ReferenceDuxbcIdeal [hReferenceDuxbcIdeal : Cert.ReferenceDuxbcIdeal.Facts] : Prop :=
  ∀ (m : (ℓ : Loc Cert.ReferenceDuxbcIdeal.nD Cert.ReferenceDuxbcIdeal.τ Cert.ReferenceDuxbcIdeal.sig) → Buf (Elt Ideal) ℓ) (g : Dev Cert.ReferenceDuxbcIdeal.nD → PrngReg), Pre_ReferenceDuxbcIdeal m →
    θ_run (Cert.ReferenceDuxbcIdeal.defs (F := Ideal)) (onTc (τ := Cert.ReferenceDuxbcIdeal.τ) (Cert.ReferenceDuxbcIdeal.main (F := Ideal))) ⟨m, fun _ => 0, g⟩ (fun r => (∀ c : Dev Cert.ReferenceDuxbcIdeal.nD,
      r.2.mem ((c.tc : Thread Cert.ReferenceDuxbcIdeal.nD Cert.ReferenceDuxbcIdeal.τ).loc Cert.ReferenceDuxbcIdeal.main_arg0) = m ((c.tc : Thread Cert.ReferenceDuxbcIdeal.nD Cert.ReferenceDuxbcIdeal.τ).loc Cert.ReferenceDuxbcIdeal.main_arg0)
      ∧ r.2.mem ((c.tc : Thread Cert.ReferenceDuxbcIdeal.nD Cert.ReferenceDuxbcIdeal.τ).loc Cert.ReferenceDuxbcIdeal.main_arg1) = m ((c.tc : Thread Cert.ReferenceDuxbcIdeal.nD Cert.ReferenceDuxbcIdeal.τ).loc Cert.ReferenceDuxbcIdeal.main_arg1)
      ∧ r.2.mem ((c.tc : Thread Cert.ReferenceDuxbcIdeal.nD Cert.ReferenceDuxbcIdeal.τ).loc Cert.ReferenceDuxbcIdeal.main_arg2) = m ((c.tc : Thread Cert.ReferenceDuxbcIdeal.nD Cert.ReferenceDuxbcIdeal.τ).loc Cert.ReferenceDuxbcIdeal.main_arg2))
      ∧ r.2.sem = fun _ => 0)

def quiescent_KernelDudt [hKernelDudt : Cert.KernelDudt.Facts] : Prop :=
  ∀ (m : (ℓ : Loc Cert.KernelDudt.nD Cert.KernelDudt.τ Cert.KernelDudt.sig) → Buf (Elt Bits) ℓ) (g : Dev Cert.KernelDudt.nD → PrngReg), Pre_KernelDudt m →
    θ_run (Cert.KernelDudt.defs (F := Bits)) (onTc (τ := Cert.KernelDudt.τ) (Cert.KernelDudt.main (F := Bits))) ⟨m, fun _ => 0, g⟩ (fun r => (∀ c : Dev Cert.KernelDudt.nD,
      r.2.mem ((c.tc : Thread Cert.KernelDudt.nD Cert.KernelDudt.τ).loc Cert.KernelDudt.main_arg0) = m ((c.tc : Thread Cert.KernelDudt.nD Cert.KernelDudt.τ).loc Cert.KernelDudt.main_arg0)
      ∧ r.2.mem ((c.tc : Thread Cert.KernelDudt.nD Cert.KernelDudt.τ).loc Cert.KernelDudt.main_arg1) = m ((c.tc : Thread Cert.KernelDudt.nD Cert.KernelDudt.τ).loc Cert.KernelDudt.main_arg1)
      ∧ r.2.mem ((c.tc : Thread Cert.KernelDudt.nD Cert.KernelDudt.τ).loc Cert.KernelDudt.main_arg2) = m ((c.tc : Thread Cert.KernelDudt.nD Cert.KernelDudt.τ).loc Cert.KernelDudt.main_arg2))
      ∧ r.2.sem = fun _ => 0)

def quiescent_KernelDudtIdeal [hKernelDudtIdeal : Cert.KernelDudtIdeal.Facts] : Prop :=
  ∀ (m : (ℓ : Loc Cert.KernelDudtIdeal.nD Cert.KernelDudtIdeal.τ Cert.KernelDudtIdeal.sig) → Buf (Elt Ideal) ℓ) (g : Dev Cert.KernelDudtIdeal.nD → PrngReg), Pre_KernelDudtIdeal m →
    θ_run (Cert.KernelDudtIdeal.defs (F := Ideal)) (onTc (τ := Cert.KernelDudtIdeal.τ) (Cert.KernelDudtIdeal.main (F := Ideal))) ⟨m, fun _ => 0, g⟩ (fun r => (∀ c : Dev Cert.KernelDudtIdeal.nD,
      r.2.mem ((c.tc : Thread Cert.KernelDudtIdeal.nD Cert.KernelDudtIdeal.τ).loc Cert.KernelDudtIdeal.main_arg0) = m ((c.tc : Thread Cert.KernelDudtIdeal.nD Cert.KernelDudtIdeal.τ).loc Cert.KernelDudtIdeal.main_arg0)
      ∧ r.2.mem ((c.tc : Thread Cert.KernelDudtIdeal.nD Cert.KernelDudtIdeal.τ).loc Cert.KernelDudtIdeal.main_arg1) = m ((c.tc : Thread Cert.KernelDudtIdeal.nD Cert.KernelDudtIdeal.τ).loc Cert.KernelDudtIdeal.main_arg1)
      ∧ r.2.mem ((c.tc : Thread Cert.KernelDudtIdeal.nD Cert.KernelDudtIdeal.τ).loc Cert.KernelDudtIdeal.main_arg2) = m ((c.tc : Thread Cert.KernelDudtIdeal.nD Cert.KernelDudtIdeal.τ).loc Cert.KernelDudtIdeal.main_arg2))
      ∧ r.2.sem = fun _ => 0)

def quiescent_ReferenceDudtIdeal [hReferenceDudtIdeal : Cert.ReferenceDudtIdeal.Facts] : Prop :=
  ∀ (m : (ℓ : Loc Cert.ReferenceDudtIdeal.nD Cert.ReferenceDudtIdeal.τ Cert.ReferenceDudtIdeal.sig) → Buf (Elt Ideal) ℓ) (g : Dev Cert.ReferenceDudtIdeal.nD → PrngReg), Pre_ReferenceDudtIdeal m →
    θ_run (Cert.ReferenceDudtIdeal.defs (F := Ideal)) (onTc (τ := Cert.ReferenceDudtIdeal.τ) (Cert.ReferenceDudtIdeal.main (F := Ideal))) ⟨m, fun _ => 0, g⟩ (fun r => (∀ c : Dev Cert.ReferenceDudtIdeal.nD,
      r.2.mem ((c.tc : Thread Cert.ReferenceDudtIdeal.nD Cert.ReferenceDudtIdeal.τ).loc Cert.ReferenceDudtIdeal.main_arg0) = m ((c.tc : Thread Cert.ReferenceDudtIdeal.nD Cert.ReferenceDudtIdeal.τ).loc Cert.ReferenceDudtIdeal.main_arg0)
      ∧ r.2.mem ((c.tc : Thread Cert.ReferenceDudtIdeal.nD Cert.ReferenceDudtIdeal.τ).loc Cert.ReferenceDudtIdeal.main_arg1) = m ((c.tc : Thread Cert.ReferenceDudtIdeal.nD Cert.ReferenceDudtIdeal.τ).loc Cert.ReferenceDudtIdeal.main_arg1)
      ∧ r.2.mem ((c.tc : Thread Cert.ReferenceDudtIdeal.nD Cert.ReferenceDudtIdeal.τ).loc Cert.ReferenceDudtIdeal.main_arg2) = m ((c.tc : Thread Cert.ReferenceDudtIdeal.nD Cert.ReferenceDudtIdeal.τ).loc Cert.ReferenceDudtIdeal.main_arg2))
      ∧ r.2.sem = fun _ => 0)

def quiescent_KernelPleBwd [hKernelPleBwd : Cert.KernelPleBwd.Facts] : Prop :=
  ∀ (m : (ℓ : Loc Cert.KernelPleBwd.nD Cert.KernelPleBwd.τ Cert.KernelPleBwd.sig) → Buf (Elt Bits) ℓ) (g : Dev Cert.KernelPleBwd.nD → PrngReg), Pre_KernelPleBwd m →
    θ_run (Cert.KernelPleBwd.defs (F := Bits)) (onTc (τ := Cert.KernelPleBwd.τ) (Cert.KernelPleBwd.main (F := Bits))) ⟨m, fun _ => 0, g⟩ (fun r => (∀ c : Dev Cert.KernelPleBwd.nD,
      r.2.mem ((c.tc : Thread Cert.KernelPleBwd.nD Cert.KernelPleBwd.τ).loc Cert.KernelPleBwd.main_arg0) = m ((c.tc : Thread Cert.KernelPleBwd.nD Cert.KernelPleBwd.τ).loc Cert.KernelPleBwd.main_arg0)
      ∧ r.2.mem ((c.tc : Thread Cert.KernelPleBwd.nD Cert.KernelPleBwd.τ).loc Cert.KernelPleBwd.main_arg1) = m ((c.tc : Thread Cert.KernelPleBwd.nD Cert.KernelPleBwd.τ).loc Cert.KernelPleBwd.main_arg1)
      ∧ r.2.mem ((c.tc : Thread Cert.KernelPleBwd.nD Cert.KernelPleBwd.τ).loc Cert.KernelPleBwd.main_arg2) = m ((c.tc : Thread Cert.KernelPleBwd.nD Cert.KernelPleBwd.τ).loc Cert.KernelPleBwd.main_arg2))
      ∧ r.2.sem = fun _ => 0)

def quiescent_KernelPleBwdIdeal [hKernelPleBwdIdeal : Cert.KernelPleBwdIdeal.Facts] : Prop :=
  ∀ (m : (ℓ : Loc Cert.KernelPleBwdIdeal.nD Cert.KernelPleBwdIdeal.τ Cert.KernelPleBwdIdeal.sig) → Buf (Elt Ideal) ℓ) (g : Dev Cert.KernelPleBwdIdeal.nD → PrngReg), Pre_KernelPleBwdIdeal m →
    θ_run (Cert.KernelPleBwdIdeal.defs (F := Ideal)) (onTc (τ := Cert.KernelPleBwdIdeal.τ) (Cert.KernelPleBwdIdeal.main (F := Ideal))) ⟨m, fun _ => 0, g⟩ (fun r => (∀ c : Dev Cert.KernelPleBwdIdeal.nD,
      r.2.mem ((c.tc : Thread Cert.KernelPleBwdIdeal.nD Cert.KernelPleBwdIdeal.τ).loc Cert.KernelPleBwdIdeal.main_arg0) = m ((c.tc : Thread Cert.KernelPleBwdIdeal.nD Cert.KernelPleBwdIdeal.τ).loc Cert.KernelPleBwdIdeal.main_arg0)
      ∧ r.2.mem ((c.tc : Thread Cert.KernelPleBwdIdeal.nD Cert.KernelPleBwdIdeal.τ).loc Cert.KernelPleBwdIdeal.main_arg1) = m ((c.tc : Thread Cert.KernelPleBwdIdeal.nD Cert.KernelPleBwdIdeal.τ).loc Cert.KernelPleBwdIdeal.main_arg1)
      ∧ r.2.mem ((c.tc : Thread Cert.KernelPleBwdIdeal.nD Cert.KernelPleBwdIdeal.τ).loc Cert.KernelPleBwdIdeal.main_arg2) = m ((c.tc : Thread Cert.KernelPleBwdIdeal.nD Cert.KernelPleBwdIdeal.τ).loc Cert.KernelPleBwdIdeal.main_arg2))
      ∧ r.2.sem = fun _ => 0)

def quiescent_ReferencePleBwdIdeal [hReferencePleBwdIdeal : Cert.ReferencePleBwdIdeal.Facts] : Prop :=
  ∀ (m : (ℓ : Loc Cert.ReferencePleBwdIdeal.nD Cert.ReferencePleBwdIdeal.τ Cert.ReferencePleBwdIdeal.sig) → Buf (Elt Ideal) ℓ) (g : Dev Cert.ReferencePleBwdIdeal.nD → PrngReg), Pre_ReferencePleBwdIdeal m →
    θ_run (Cert.ReferencePleBwdIdeal.defs (F := Ideal)) (onTc (τ := Cert.ReferencePleBwdIdeal.τ) (Cert.ReferencePleBwdIdeal.main (F := Ideal))) ⟨m, fun _ => 0, g⟩ (fun r => (∀ c : Dev Cert.ReferencePleBwdIdeal.nD,
      r.2.mem ((c.tc : Thread Cert.ReferencePleBwdIdeal.nD Cert.ReferencePleBwdIdeal.τ).loc Cert.ReferencePleBwdIdeal.main_arg0) = m ((c.tc : Thread Cert.ReferencePleBwdIdeal.nD Cert.ReferencePleBwdIdeal.τ).loc Cert.ReferencePleBwdIdeal.main_arg0)
      ∧ r.2.mem ((c.tc : Thread Cert.ReferencePleBwdIdeal.nD Cert.ReferencePleBwdIdeal.τ).loc Cert.ReferencePleBwdIdeal.main_arg1) = m ((c.tc : Thread Cert.ReferencePleBwdIdeal.nD Cert.ReferencePleBwdIdeal.τ).loc Cert.ReferencePleBwdIdeal.main_arg1)
      ∧ r.2.mem ((c.tc : Thread Cert.ReferencePleBwdIdeal.nD Cert.ReferencePleBwdIdeal.τ).loc Cert.ReferencePleBwdIdeal.main_arg2) = m ((c.tc : Thread Cert.ReferencePleBwdIdeal.nD Cert.ReferencePleBwdIdeal.τ).loc Cert.ReferencePleBwdIdeal.main_arg2))
      ∧ r.2.sem = fun _ => 0)

def quiescent_KernelGluBwd [hKernelGluBwd : Cert.KernelGluBwd.Facts] : Prop :=
  ∀ (m : (ℓ : Loc Cert.KernelGluBwd.nD Cert.KernelGluBwd.τ Cert.KernelGluBwd.sig) → Buf (Elt Bits) ℓ) (g : Dev Cert.KernelGluBwd.nD → PrngReg), Pre_KernelGluBwd m →
    θ_run (Cert.KernelGluBwd.defs (F := Bits)) (onTc (τ := Cert.KernelGluBwd.τ) (Cert.KernelGluBwd.main (F := Bits))) ⟨m, fun _ => 0, g⟩ (fun r => (∀ c : Dev Cert.KernelGluBwd.nD,
      r.2.mem ((c.tc : Thread Cert.KernelGluBwd.nD Cert.KernelGluBwd.τ).loc Cert.KernelGluBwd.main_arg0) = m ((c.tc : Thread Cert.KernelGluBwd.nD Cert.KernelGluBwd.τ).loc Cert.KernelGluBwd.main_arg0)
      ∧ r.2.mem ((c.tc : Thread Cert.KernelGluBwd.nD Cert.KernelGluBwd.τ).loc Cert.KernelGluBwd.main_arg1) = m ((c.tc : Thread Cert.KernelGluBwd.nD Cert.KernelGluBwd.τ).loc Cert.KernelGluBwd.main_arg1))
      ∧ r.2.sem = fun _ => 0)

def quiescent_KernelGluBwdIdeal [hKernelGluBwdIdeal : Cert.KernelGluBwdIdeal.Facts] : Prop :=
  ∀ (m : (ℓ : Loc Cert.KernelGluBwdIdeal.nD Cert.KernelGluBwdIdeal.τ Cert.KernelGluBwdIdeal.sig) → Buf (Elt Ideal) ℓ) (g : Dev Cert.KernelGluBwdIdeal.nD → PrngReg), Pre_KernelGluBwdIdeal m →
    θ_run (Cert.KernelGluBwdIdeal.defs (F := Ideal)) (onTc (τ := Cert.KernelGluBwdIdeal.τ) (Cert.KernelGluBwdIdeal.main (F := Ideal))) ⟨m, fun _ => 0, g⟩ (fun r => (∀ c : Dev Cert.KernelGluBwdIdeal.nD,
      r.2.mem ((c.tc : Thread Cert.KernelGluBwdIdeal.nD Cert.KernelGluBwdIdeal.τ).loc Cert.KernelGluBwdIdeal.main_arg0) = m ((c.tc : Thread Cert.KernelGluBwdIdeal.nD Cert.KernelGluBwdIdeal.τ).loc Cert.KernelGluBwdIdeal.main_arg0)
      ∧ r.2.mem ((c.tc : Thread Cert.KernelGluBwdIdeal.nD Cert.KernelGluBwdIdeal.τ).loc Cert.KernelGluBwdIdeal.main_arg1) = m ((c.tc : Thread Cert.KernelGluBwdIdeal.nD Cert.KernelGluBwdIdeal.τ).loc Cert.KernelGluBwdIdeal.main_arg1))
      ∧ r.2.sem = fun _ => 0)

def quiescent_ReferenceGluBwdIdeal [hReferenceGluBwdIdeal : Cert.ReferenceGluBwdIdeal.Facts] : Prop :=
  ∀ (m : (ℓ : Loc Cert.ReferenceGluBwdIdeal.nD Cert.ReferenceGluBwdIdeal.τ Cert.ReferenceGluBwdIdeal.sig) → Buf (Elt Ideal) ℓ) (g : Dev Cert.ReferenceGluBwdIdeal.nD → PrngReg), Pre_ReferenceGluBwdIdeal m →
    θ_run (Cert.ReferenceGluBwdIdeal.defs (F := Ideal)) (onTc (τ := Cert.ReferenceGluBwdIdeal.τ) (Cert.ReferenceGluBwdIdeal.main (F := Ideal))) ⟨m, fun _ => 0, g⟩ (fun r => (∀ c : Dev Cert.ReferenceGluBwdIdeal.nD,
      r.2.mem ((c.tc : Thread Cert.ReferenceGluBwdIdeal.nD Cert.ReferenceGluBwdIdeal.τ).loc Cert.ReferenceGluBwdIdeal.main_arg0) = m ((c.tc : Thread Cert.ReferenceGluBwdIdeal.nD Cert.ReferenceGluBwdIdeal.τ).loc Cert.ReferenceGluBwdIdeal.main_arg0)
      ∧ r.2.mem ((c.tc : Thread Cert.ReferenceGluBwdIdeal.nD Cert.ReferenceGluBwdIdeal.τ).loc Cert.ReferenceGluBwdIdeal.main_arg1) = m ((c.tc : Thread Cert.ReferenceGluBwdIdeal.nD Cert.ReferenceGluBwdIdeal.τ).loc Cert.ReferenceGluBwdIdeal.main_arg1))
      ∧ r.2.sem = fun _ => 0)

def quiescent_KernelDxs [hKernelDxs : Cert.KernelDxs.Facts] : Prop :=
  ∀ (m : (ℓ : Loc Cert.KernelDxs.nD Cert.KernelDxs.τ Cert.KernelDxs.sig) → Buf (Elt Bits) ℓ) (g : Dev Cert.KernelDxs.nD → PrngReg), Pre_KernelDxs m →
    θ_run (Cert.KernelDxs.defs (F := Bits)) (onTc (τ := Cert.KernelDxs.τ) (Cert.KernelDxs.main (F := Bits))) ⟨m, fun _ => 0, g⟩ (fun r => (∀ c : Dev Cert.KernelDxs.nD,
      r.2.mem ((c.tc : Thread Cert.KernelDxs.nD Cert.KernelDxs.τ).loc Cert.KernelDxs.main_arg0) = m ((c.tc : Thread Cert.KernelDxs.nD Cert.KernelDxs.τ).loc Cert.KernelDxs.main_arg0)
      ∧ r.2.mem ((c.tc : Thread Cert.KernelDxs.nD Cert.KernelDxs.τ).loc Cert.KernelDxs.main_arg1) = m ((c.tc : Thread Cert.KernelDxs.nD Cert.KernelDxs.τ).loc Cert.KernelDxs.main_arg1))
      ∧ r.2.sem = fun _ => 0)

def quiescent_KernelDxsIdeal [hKernelDxsIdeal : Cert.KernelDxsIdeal.Facts] : Prop :=
  ∀ (m : (ℓ : Loc Cert.KernelDxsIdeal.nD Cert.KernelDxsIdeal.τ Cert.KernelDxsIdeal.sig) → Buf (Elt Ideal) ℓ) (g : Dev Cert.KernelDxsIdeal.nD → PrngReg), Pre_KernelDxsIdeal m →
    θ_run (Cert.KernelDxsIdeal.defs (F := Ideal)) (onTc (τ := Cert.KernelDxsIdeal.τ) (Cert.KernelDxsIdeal.main (F := Ideal))) ⟨m, fun _ => 0, g⟩ (fun r => (∀ c : Dev Cert.KernelDxsIdeal.nD,
      r.2.mem ((c.tc : Thread Cert.KernelDxsIdeal.nD Cert.KernelDxsIdeal.τ).loc Cert.KernelDxsIdeal.main_arg0) = m ((c.tc : Thread Cert.KernelDxsIdeal.nD Cert.KernelDxsIdeal.τ).loc Cert.KernelDxsIdeal.main_arg0)
      ∧ r.2.mem ((c.tc : Thread Cert.KernelDxsIdeal.nD Cert.KernelDxsIdeal.τ).loc Cert.KernelDxsIdeal.main_arg1) = m ((c.tc : Thread Cert.KernelDxsIdeal.nD Cert.KernelDxsIdeal.τ).loc Cert.KernelDxsIdeal.main_arg1))
      ∧ r.2.sem = fun _ => 0)

def quiescent_ReferenceDxsIdeal [hReferenceDxsIdeal : Cert.ReferenceDxsIdeal.Facts] : Prop :=
  ∀ (m : (ℓ : Loc Cert.ReferenceDxsIdeal.nD Cert.ReferenceDxsIdeal.τ Cert.ReferenceDxsIdeal.sig) → Buf (Elt Ideal) ℓ) (g : Dev Cert.ReferenceDxsIdeal.nD → PrngReg), Pre_ReferenceDxsIdeal m →
    θ_run (Cert.ReferenceDxsIdeal.defs (F := Ideal)) (onTc (τ := Cert.ReferenceDxsIdeal.τ) (Cert.ReferenceDxsIdeal.main (F := Ideal))) ⟨m, fun _ => 0, g⟩ (fun r => (∀ c : Dev Cert.ReferenceDxsIdeal.nD,
      r.2.mem ((c.tc : Thread Cert.ReferenceDxsIdeal.nD Cert.ReferenceDxsIdeal.τ).loc Cert.ReferenceDxsIdeal.main_arg0) = m ((c.tc : Thread Cert.ReferenceDxsIdeal.nD Cert.ReferenceDxsIdeal.τ).loc Cert.ReferenceDxsIdeal.main_arg0)
      ∧ r.2.mem ((c.tc : Thread Cert.ReferenceDxsIdeal.nD Cert.ReferenceDxsIdeal.τ).loc Cert.ReferenceDxsIdeal.main_arg1) = m ((c.tc : Thread Cert.ReferenceDxsIdeal.nD Cert.ReferenceDxsIdeal.τ).loc Cert.ReferenceDxsIdeal.main_arg1))
      ∧ r.2.sem = fun _ => 0)

def quiescent_KernelRms [hKernelRms : Cert.KernelRms.Facts] : Prop :=
  ∀ (m : (ℓ : Loc Cert.KernelRms.nD Cert.KernelRms.τ Cert.KernelRms.sig) → Buf (Elt Bits) ℓ) (g : Dev Cert.KernelRms.nD → PrngReg), Pre_KernelRms m →
    θ_run (Cert.KernelRms.defs (F := Bits)) (onTc (τ := Cert.KernelRms.τ) (Cert.KernelRms.main (F := Bits))) ⟨m, fun _ => 0, g⟩ (fun r => (∀ c : Dev Cert.KernelRms.nD,
      r.2.mem ((c.tc : Thread Cert.KernelRms.nD Cert.KernelRms.τ).loc Cert.KernelRms.main_arg0) = m ((c.tc : Thread Cert.KernelRms.nD Cert.KernelRms.τ).loc Cert.KernelRms.main_arg0)
      ∧ r.2.mem ((c.tc : Thread Cert.KernelRms.nD Cert.KernelRms.τ).loc Cert.KernelRms.main_arg1) = m ((c.tc : Thread Cert.KernelRms.nD Cert.KernelRms.τ).loc Cert.KernelRms.main_arg1))
      ∧ r.2.sem = fun _ => 0)

def quiescent_KernelRmsIdeal [hKernelRmsIdeal : Cert.KernelRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg), Pre_KernelRmsIdeal m →
    θ_run (Cert.KernelRmsIdeal.defs (F := Ideal)) (onTc (τ := Cert.KernelRmsIdeal.τ) (Cert.KernelRmsIdeal.main (F := Ideal))) ⟨m, fun _ => 0, g⟩ (fun r => (∀ c : Dev Cert.KernelRmsIdeal.nD,
      r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
      ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1))
      ∧ r.2.sem = fun _ => 0)

def quiescent_ReferenceRmsIdeal [hReferenceRmsIdeal : Cert.ReferenceRmsIdeal.Facts] : Prop :=
  ∀ (m : (ℓ : Loc Cert.ReferenceRmsIdeal.nD Cert.ReferenceRmsIdeal.τ Cert.ReferenceRmsIdeal.sig) → Buf (Elt Ideal) ℓ) (g : Dev Cert.ReferenceRmsIdeal.nD → PrngReg), Pre_ReferenceRmsIdeal m →
    θ_run (Cert.ReferenceRmsIdeal.defs (F := Ideal)) (onTc (τ := Cert.ReferenceRmsIdeal.τ) (Cert.ReferenceRmsIdeal.main (F := Ideal))) ⟨m, fun _ => 0, g⟩ (fun r => (∀ c : Dev Cert.ReferenceRmsIdeal.nD,
      r.2.mem ((c.tc : Thread Cert.ReferenceRmsIdeal.nD Cert.ReferenceRmsIdeal.τ).loc Cert.ReferenceRmsIdeal.main_arg0) = m ((c.tc : Thread Cert.ReferenceRmsIdeal.nD Cert.ReferenceRmsIdeal.τ).loc Cert.ReferenceRmsIdeal.main_arg0)
      ∧ r.2.mem ((c.tc : Thread Cert.ReferenceRmsIdeal.nD Cert.ReferenceRmsIdeal.τ).loc Cert.ReferenceRmsIdeal.main_arg1) = m ((c.tc : Thread Cert.ReferenceRmsIdeal.nD Cert.ReferenceRmsIdeal.τ).loc Cert.ReferenceRmsIdeal.main_arg1))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0))
      ∧ r.2.sem = fun _ => 0)

def quiescent_KernelLn [hKernelLn : Cert.KernelLn.Facts] : Prop :=
  ∀ (m : (ℓ : Loc Cert.KernelLn.nD Cert.KernelLn.τ Cert.KernelLn.sig) → Buf (Elt Bits) ℓ) (g : Dev Cert.KernelLn.nD → PrngReg), Pre_KernelLn m →
    θ_run (Cert.KernelLn.defs (F := Bits)) (onTc (τ := Cert.KernelLn.τ) (Cert.KernelLn.main (F := Bits))) ⟨m, fun _ => 0, g⟩ (fun r => (∀ c : Dev Cert.KernelLn.nD,
      r.2.mem ((c.tc : Thread Cert.KernelLn.nD Cert.KernelLn.τ).loc Cert.KernelLn.main_arg0) = m ((c.tc : Thread Cert.KernelLn.nD Cert.KernelLn.τ).loc Cert.KernelLn.main_arg0)
      ∧ r.2.mem ((c.tc : Thread Cert.KernelLn.nD Cert.KernelLn.τ).loc Cert.KernelLn.main_arg1) = m ((c.tc : Thread Cert.KernelLn.nD Cert.KernelLn.τ).loc Cert.KernelLn.main_arg1)
      ∧ r.2.mem ((c.tc : Thread Cert.KernelLn.nD Cert.KernelLn.τ).loc Cert.KernelLn.main_arg2) = m ((c.tc : Thread Cert.KernelLn.nD Cert.KernelLn.τ).loc Cert.KernelLn.main_arg2))
      ∧ r.2.sem = fun _ => 0)

def quiescent_KernelLnIdeal [hKernelLnIdeal : Cert.KernelLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2))
      ∧ r.2.sem = fun _ => 0)

def quiescent_ReferenceLnIdeal [hReferenceLnIdeal : Cert.ReferenceLnIdeal.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2))
      ∧ r.2.sem = fun _ => 0)

def quiescent_KernelGnorm [hKernelGnorm : Cert.KernelGnorm.Facts] : Prop :=
  ∀ (m : (ℓ : Loc Cert.KernelGnorm.nD Cert.KernelGnorm.τ Cert.KernelGnorm.sig) → Buf (Elt Bits) ℓ) (g : Dev Cert.KernelGnorm.nD → PrngReg), Pre_KernelGnorm m →
    θ_run (Cert.KernelGnorm.defs (F := Bits)) (onTc (τ := Cert.KernelGnorm.τ) (Cert.KernelGnorm.main (F := Bits))) ⟨m, fun _ => 0, g⟩ (fun r => (∀ c : Dev Cert.KernelGnorm.nD,
      r.2.mem ((c.tc : Thread Cert.KernelGnorm.nD Cert.KernelGnorm.τ).loc Cert.KernelGnorm.main_arg0) = m ((c.tc : Thread Cert.KernelGnorm.nD Cert.KernelGnorm.τ).loc Cert.KernelGnorm.main_arg0)
      ∧ r.2.mem ((c.tc : Thread Cert.KernelGnorm.nD Cert.KernelGnorm.τ).loc Cert.KernelGnorm.main_arg1) = m ((c.tc : Thread Cert.KernelGnorm.nD Cert.KernelGnorm.τ).loc Cert.KernelGnorm.main_arg1)
      ∧ r.2.mem ((c.tc : Thread Cert.KernelGnorm.nD Cert.KernelGnorm.τ).loc Cert.KernelGnorm.main_arg2) = m ((c.tc : Thread Cert.KernelGnorm.nD Cert.KernelGnorm.τ).loc Cert.KernelGnorm.main_arg2)
      ∧ r.2.mem ((c.tc : Thread Cert.KernelGnorm.nD Cert.KernelGnorm.τ).loc Cert.KernelGnorm.main_arg3) = m ((c.tc : Thread Cert.KernelGnorm.nD Cert.KernelGnorm.τ).loc Cert.KernelGnorm.main_arg3)
      ∧ r.2.mem ((c.tc : Thread Cert.KernelGnorm.nD Cert.KernelGnorm.τ).loc Cert.KernelGnorm.main_arg4) = m ((c.tc : Thread Cert.KernelGnorm.nD Cert.KernelGnorm.τ).loc Cert.KernelGnorm.main_arg4))
      ∧ r.2.sem = fun _ => 0)

def quiescent_KernelGnormIdeal [hKernelGnormIdeal : Cert.KernelGnormIdeal.Facts] : Prop :=
  ∀ (m : (ℓ : Loc Cert.KernelGnormIdeal.nD Cert.KernelGnormIdeal.τ Cert.KernelGnormIdeal.sig) → Buf (Elt Ideal) ℓ) (g : Dev Cert.KernelGnormIdeal.nD → PrngReg), Pre_KernelGnormIdeal m →
    θ_run (Cert.KernelGnormIdeal.defs (F := Ideal)) (onTc (τ := Cert.KernelGnormIdeal.τ) (Cert.KernelGnormIdeal.main (F := Ideal))) ⟨m, fun _ => 0, g⟩ (fun r => (∀ c : Dev Cert.KernelGnormIdeal.nD,
      r.2.mem ((c.tc : Thread Cert.KernelGnormIdeal.nD Cert.KernelGnormIdeal.τ).loc Cert.KernelGnormIdeal.main_arg0) = m ((c.tc : Thread Cert.KernelGnormIdeal.nD Cert.KernelGnormIdeal.τ).loc Cert.KernelGnormIdeal.main_arg0)
      ∧ r.2.mem ((c.tc : Thread Cert.KernelGnormIdeal.nD Cert.KernelGnormIdeal.τ).loc Cert.KernelGnormIdeal.main_arg1) = m ((c.tc : Thread Cert.KernelGnormIdeal.nD Cert.KernelGnormIdeal.τ).loc Cert.KernelGnormIdeal.main_arg1)
      ∧ r.2.mem ((c.tc : Thread Cert.KernelGnormIdeal.nD Cert.KernelGnormIdeal.τ).loc Cert.KernelGnormIdeal.main_arg2) = m ((c.tc : Thread Cert.KernelGnormIdeal.nD Cert.KernelGnormIdeal.τ).loc Cert.KernelGnormIdeal.main_arg2)
      ∧ r.2.mem ((c.tc : Thread Cert.KernelGnormIdeal.nD Cert.KernelGnormIdeal.τ).loc Cert.KernelGnormIdeal.main_arg3) = m ((c.tc : Thread Cert.KernelGnormIdeal.nD Cert.KernelGnormIdeal.τ).loc Cert.KernelGnormIdeal.main_arg3)
      ∧ r.2.mem ((c.tc : Thread Cert.KernelGnormIdeal.nD Cert.KernelGnormIdeal.τ).loc Cert.KernelGnormIdeal.main_arg4) = m ((c.tc : Thread Cert.KernelGnormIdeal.nD Cert.KernelGnormIdeal.τ).loc Cert.KernelGnormIdeal.main_arg4))
      ∧ r.2.sem = fun _ => 0)

def quiescent_ReferenceGnormIdeal [hReferenceGnormIdeal : Cert.ReferenceGnormIdeal.Facts] : Prop :=
  ∀ (m : (ℓ : Loc Cert.ReferenceGnormIdeal.nD Cert.ReferenceGnormIdeal.τ Cert.ReferenceGnormIdeal.sig) → Buf (Elt Ideal) ℓ) (g : Dev Cert.ReferenceGnormIdeal.nD → PrngReg), Pre_ReferenceGnormIdeal m →
    θ_run (Cert.ReferenceGnormIdeal.defs (F := Ideal)) (onTc (τ := Cert.ReferenceGnormIdeal.τ) (Cert.ReferenceGnormIdeal.main (F := Ideal))) ⟨m, fun _ => 0, g⟩ (fun r => (∀ c : Dev Cert.ReferenceGnormIdeal.nD,
      r.2.mem ((c.tc : Thread Cert.ReferenceGnormIdeal.nD Cert.ReferenceGnormIdeal.τ).loc Cert.ReferenceGnormIdeal.main_arg0) = m ((c.tc : Thread Cert.ReferenceGnormIdeal.nD Cert.ReferenceGnormIdeal.τ).loc Cert.ReferenceGnormIdeal.main_arg0)
      ∧ r.2.mem ((c.tc : Thread Cert.ReferenceGnormIdeal.nD Cert.ReferenceGnormIdeal.τ).loc Cert.ReferenceGnormIdeal.main_arg1) = m ((c.tc : Thread Cert.ReferenceGnormIdeal.nD Cert.ReferenceGnormIdeal.τ).loc Cert.ReferenceGnormIdeal.main_arg1)
      ∧ r.2.mem ((c.tc : Thread Cert.ReferenceGnormIdeal.nD Cert.ReferenceGnormIdeal.τ).loc Cert.ReferenceGnormIdeal.main_arg2) = m ((c.tc : Thread Cert.ReferenceGnormIdeal.nD Cert.ReferenceGnormIdeal.τ).loc Cert.ReferenceGnormIdeal.main_arg2)
      ∧ r.2.mem ((c.tc : Thread Cert.ReferenceGnormIdeal.nD Cert.ReferenceGnormIdeal.τ).loc Cert.ReferenceGnormIdeal.main_arg3) = m ((c.tc : Thread Cert.ReferenceGnormIdeal.nD Cert.ReferenceGnormIdeal.τ).loc Cert.ReferenceGnormIdeal.main_arg3)
      ∧ r.2.mem ((c.tc : Thread Cert.ReferenceGnormIdeal.nD Cert.ReferenceGnormIdeal.τ).loc Cert.ReferenceGnormIdeal.main_arg4) = m ((c.tc : Thread Cert.ReferenceGnormIdeal.nD Cert.ReferenceGnormIdeal.τ).loc Cert.ReferenceGnormIdeal.main_arg4))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1))
      ∧ r.2.sem = fun _ => 0)

def quiescent_KernelAdamw [hKernelAdamw : Cert.KernelAdamw.Facts] : Prop :=
  ∀ (m : (ℓ : Loc Cert.KernelAdamw.nD Cert.KernelAdamw.τ Cert.KernelAdamw.sig) → Buf (Elt Bits) ℓ) (g : Dev Cert.KernelAdamw.nD → PrngReg), Pre_KernelAdamw m →
    θ_run (Cert.KernelAdamw.defs (F := Bits)) (onTc (τ := Cert.KernelAdamw.τ) (Cert.KernelAdamw.main (F := Bits))) ⟨m, fun _ => 0, g⟩ (fun r => (∀ c : Dev Cert.KernelAdamw.nD,
      r.2.mem ((c.tc : Thread Cert.KernelAdamw.nD Cert.KernelAdamw.τ).loc Cert.KernelAdamw.main_arg0) = m ((c.tc : Thread Cert.KernelAdamw.nD Cert.KernelAdamw.τ).loc Cert.KernelAdamw.main_arg0)
      ∧ r.2.mem ((c.tc : Thread Cert.KernelAdamw.nD Cert.KernelAdamw.τ).loc Cert.KernelAdamw.main_arg1) = m ((c.tc : Thread Cert.KernelAdamw.nD Cert.KernelAdamw.τ).loc Cert.KernelAdamw.main_arg1)
      ∧ r.2.mem ((c.tc : Thread Cert.KernelAdamw.nD Cert.KernelAdamw.τ).loc Cert.KernelAdamw.main_arg2) = m ((c.tc : Thread Cert.KernelAdamw.nD Cert.KernelAdamw.τ).loc Cert.KernelAdamw.main_arg2)
      ∧ r.2.mem ((c.tc : Thread Cert.KernelAdamw.nD Cert.KernelAdamw.τ).loc Cert.KernelAdamw.main_arg3) = m ((c.tc : Thread Cert.KernelAdamw.nD Cert.KernelAdamw.τ).loc Cert.KernelAdamw.main_arg3))
      ∧ r.2.sem = fun _ => 0)

def quiescent_KernelAdamwIdeal [hKernelAdamwIdeal : Cert.KernelAdamwIdeal.Facts] : Prop :=
  ∀ (m : (ℓ : Loc Cert.KernelAdamwIdeal.nD Cert.KernelAdamwIdeal.τ Cert.KernelAdamwIdeal.sig) → Buf (Elt Ideal) ℓ) (g : Dev Cert.KernelAdamwIdeal.nD → PrngReg), Pre_KernelAdamwIdeal m →
    θ_run (Cert.KernelAdamwIdeal.defs (F := Ideal)) (onTc (τ := Cert.KernelAdamwIdeal.τ) (Cert.KernelAdamwIdeal.main (F := Ideal))) ⟨m, fun _ => 0, g⟩ (fun r => (∀ c : Dev Cert.KernelAdamwIdeal.nD,
      r.2.mem ((c.tc : Thread Cert.KernelAdamwIdeal.nD Cert.KernelAdamwIdeal.τ).loc Cert.KernelAdamwIdeal.main_arg0) = m ((c.tc : Thread Cert.KernelAdamwIdeal.nD Cert.KernelAdamwIdeal.τ).loc Cert.KernelAdamwIdeal.main_arg0)
      ∧ r.2.mem ((c.tc : Thread Cert.KernelAdamwIdeal.nD Cert.KernelAdamwIdeal.τ).loc Cert.KernelAdamwIdeal.main_arg1) = m ((c.tc : Thread Cert.KernelAdamwIdeal.nD Cert.KernelAdamwIdeal.τ).loc Cert.KernelAdamwIdeal.main_arg1)
      ∧ r.2.mem ((c.tc : Thread Cert.KernelAdamwIdeal.nD Cert.KernelAdamwIdeal.τ).loc Cert.KernelAdamwIdeal.main_arg2) = m ((c.tc : Thread Cert.KernelAdamwIdeal.nD Cert.KernelAdamwIdeal.τ).loc Cert.KernelAdamwIdeal.main_arg2)
      ∧ r.2.mem ((c.tc : Thread Cert.KernelAdamwIdeal.nD Cert.KernelAdamwIdeal.τ).loc Cert.KernelAdamwIdeal.main_arg3) = m ((c.tc : Thread Cert.KernelAdamwIdeal.nD Cert.KernelAdamwIdeal.τ).loc Cert.KernelAdamwIdeal.main_arg3))
      ∧ r.2.sem = fun _ => 0)

def quiescent_ReferenceAdamwIdeal [hReferenceAdamwIdeal : Cert.ReferenceAdamwIdeal.Facts] : Prop :=
  ∀ (m : (ℓ : Loc Cert.ReferenceAdamwIdeal.nD Cert.ReferenceAdamwIdeal.τ Cert.ReferenceAdamwIdeal.sig) → Buf (Elt Ideal) ℓ) (g : Dev Cert.ReferenceAdamwIdeal.nD → PrngReg), Pre_ReferenceAdamwIdeal m →
    θ_run (Cert.ReferenceAdamwIdeal.defs (F := Ideal)) (onTc (τ := Cert.ReferenceAdamwIdeal.τ) (Cert.ReferenceAdamwIdeal.main (F := Ideal))) ⟨m, fun _ => 0, g⟩ (fun r => (∀ c : Dev Cert.ReferenceAdamwIdeal.nD,
      r.2.mem ((c.tc : Thread Cert.ReferenceAdamwIdeal.nD Cert.ReferenceAdamwIdeal.τ).loc Cert.ReferenceAdamwIdeal.main_arg0) = m ((c.tc : Thread Cert.ReferenceAdamwIdeal.nD Cert.ReferenceAdamwIdeal.τ).loc Cert.ReferenceAdamwIdeal.main_arg0)
      ∧ r.2.mem ((c.tc : Thread Cert.ReferenceAdamwIdeal.nD Cert.ReferenceAdamwIdeal.τ).loc Cert.ReferenceAdamwIdeal.main_arg1) = m ((c.tc : Thread Cert.ReferenceAdamwIdeal.nD Cert.ReferenceAdamwIdeal.τ).loc Cert.ReferenceAdamwIdeal.main_arg1)
      ∧ r.2.mem ((c.tc : Thread Cert.ReferenceAdamwIdeal.nD Cert.ReferenceAdamwIdeal.τ).loc Cert.ReferenceAdamwIdeal.main_arg2) = m ((c.tc : Thread Cert.ReferenceAdamwIdeal.nD Cert.ReferenceAdamwIdeal.τ).loc Cert.ReferenceAdamwIdeal.main_arg2)
      ∧ r.2.mem ((c.tc : Thread Cert.ReferenceAdamwIdeal.nD Cert.ReferenceAdamwIdeal.τ).loc Cert.ReferenceAdamwIdeal.main_arg3) = m ((c.tc : Thread Cert.ReferenceAdamwIdeal.nD Cert.ReferenceAdamwIdeal.τ).loc Cert.ReferenceAdamwIdeal.main_arg3))
      ∧ r.2.sem = fun _ => 0)

def quiescent_KernelRmsBwd [hKernelRmsBwd : Cert.KernelRmsBwd.Facts] : Prop :=
  ∀ (m : (ℓ : Loc Cert.KernelRmsBwd.nD Cert.KernelRmsBwd.τ Cert.KernelRmsBwd.sig) → Buf (Elt Bits) ℓ) (g : Dev Cert.KernelRmsBwd.nD → PrngReg), Pre_KernelRmsBwd m →
    θ_run (Cert.KernelRmsBwd.defs (F := Bits)) (onTc (τ := Cert.KernelRmsBwd.τ) (Cert.KernelRmsBwd.main (F := Bits))) ⟨m, fun _ => 0, g⟩ (fun r => (∀ c : Dev Cert.KernelRmsBwd.nD,
      r.2.mem ((c.tc : Thread Cert.KernelRmsBwd.nD Cert.KernelRmsBwd.τ).loc Cert.KernelRmsBwd.main_arg0) = m ((c.tc : Thread Cert.KernelRmsBwd.nD Cert.KernelRmsBwd.τ).loc Cert.KernelRmsBwd.main_arg0)
      ∧ r.2.mem ((c.tc : Thread Cert.KernelRmsBwd.nD Cert.KernelRmsBwd.τ).loc Cert.KernelRmsBwd.main_arg1) = m ((c.tc : Thread Cert.KernelRmsBwd.nD Cert.KernelRmsBwd.τ).loc Cert.KernelRmsBwd.main_arg1)
      ∧ r.2.mem ((c.tc : Thread Cert.KernelRmsBwd.nD Cert.KernelRmsBwd.τ).loc Cert.KernelRmsBwd.main_arg2) = m ((c.tc : Thread Cert.KernelRmsBwd.nD Cert.KernelRmsBwd.τ).loc Cert.KernelRmsBwd.main_arg2)
      ∧ r.2.mem ((c.tc : Thread Cert.KernelRmsBwd.nD Cert.KernelRmsBwd.τ).loc Cert.KernelRmsBwd.main_arg3) = m ((c.tc : Thread Cert.KernelRmsBwd.nD Cert.KernelRmsBwd.τ).loc Cert.KernelRmsBwd.main_arg3))
      ∧ r.2.sem = fun _ => 0)

def quiescent_KernelRmsBwdIdeal [hKernelRmsBwdIdeal : Cert.KernelRmsBwdIdeal.Facts] : Prop :=
  ∀ (m : (ℓ : Loc Cert.KernelRmsBwdIdeal.nD Cert.KernelRmsBwdIdeal.τ Cert.KernelRmsBwdIdeal.sig) → Buf (Elt Ideal) ℓ) (g : Dev Cert.KernelRmsBwdIdeal.nD → PrngReg), Pre_KernelRmsBwdIdeal m →
    θ_run (Cert.KernelRmsBwdIdeal.defs (F := Ideal)) (onTc (τ := Cert.KernelRmsBwdIdeal.τ) (Cert.KernelRmsBwdIdeal.main (F := Ideal))) ⟨m, fun _ => 0, g⟩ (fun r => (∀ c : Dev Cert.KernelRmsBwdIdeal.nD,
      r.2.mem ((c.tc : Thread Cert.KernelRmsBwdIdeal.nD Cert.KernelRmsBwdIdeal.τ).loc Cert.KernelRmsBwdIdeal.main_arg0) = m ((c.tc : Thread Cert.KernelRmsBwdIdeal.nD Cert.KernelRmsBwdIdeal.τ).loc Cert.KernelRmsBwdIdeal.main_arg0)
      ∧ r.2.mem ((c.tc : Thread Cert.KernelRmsBwdIdeal.nD Cert.KernelRmsBwdIdeal.τ).loc Cert.KernelRmsBwdIdeal.main_arg1) = m ((c.tc : Thread Cert.KernelRmsBwdIdeal.nD Cert.KernelRmsBwdIdeal.τ).loc Cert.KernelRmsBwdIdeal.main_arg1)
      ∧ r.2.mem ((c.tc : Thread Cert.KernelRmsBwdIdeal.nD Cert.KernelRmsBwdIdeal.τ).loc Cert.KernelRmsBwdIdeal.main_arg2) = m ((c.tc : Thread Cert.KernelRmsBwdIdeal.nD Cert.KernelRmsBwdIdeal.τ).loc Cert.KernelRmsBwdIdeal.main_arg2)
      ∧ r.2.mem ((c.tc : Thread Cert.KernelRmsBwdIdeal.nD Cert.KernelRmsBwdIdeal.τ).loc Cert.KernelRmsBwdIdeal.main_arg3) = m ((c.tc : Thread Cert.KernelRmsBwdIdeal.nD Cert.KernelRmsBwdIdeal.τ).loc Cert.KernelRmsBwdIdeal.main_arg3))
      ∧ r.2.sem = fun _ => 0)

def quiescent_ReferenceRmsBwdIdeal [hReferenceRmsBwdIdeal : Cert.ReferenceRmsBwdIdeal.Facts] : Prop :=
  ∀ (m : (ℓ : Loc Cert.ReferenceRmsBwdIdeal.nD Cert.ReferenceRmsBwdIdeal.τ Cert.ReferenceRmsBwdIdeal.sig) → Buf (Elt Ideal) ℓ) (g : Dev Cert.ReferenceRmsBwdIdeal.nD → PrngReg), Pre_ReferenceRmsBwdIdeal m →
    θ_run (Cert.ReferenceRmsBwdIdeal.defs (F := Ideal)) (onTc (τ := Cert.ReferenceRmsBwdIdeal.τ) (Cert.ReferenceRmsBwdIdeal.main (F := Ideal))) ⟨m, fun _ => 0, g⟩ (fun r => (∀ c : Dev Cert.ReferenceRmsBwdIdeal.nD,
      r.2.mem ((c.tc : Thread Cert.ReferenceRmsBwdIdeal.nD Cert.ReferenceRmsBwdIdeal.τ).loc Cert.ReferenceRmsBwdIdeal.main_arg0) = m ((c.tc : Thread Cert.ReferenceRmsBwdIdeal.nD Cert.ReferenceRmsBwdIdeal.τ).loc Cert.ReferenceRmsBwdIdeal.main_arg0)
      ∧ r.2.mem ((c.tc : Thread Cert.ReferenceRmsBwdIdeal.nD Cert.ReferenceRmsBwdIdeal.τ).loc Cert.ReferenceRmsBwdIdeal.main_arg1) = m ((c.tc : Thread Cert.ReferenceRmsBwdIdeal.nD Cert.ReferenceRmsBwdIdeal.τ).loc Cert.ReferenceRmsBwdIdeal.main_arg1)
      ∧ r.2.mem ((c.tc : Thread Cert.ReferenceRmsBwdIdeal.nD Cert.ReferenceRmsBwdIdeal.τ).loc Cert.ReferenceRmsBwdIdeal.main_arg2) = m ((c.tc : Thread Cert.ReferenceRmsBwdIdeal.nD Cert.ReferenceRmsBwdIdeal.τ).loc Cert.ReferenceRmsBwdIdeal.main_arg2)
      ∧ r.2.mem ((c.tc : Thread Cert.ReferenceRmsBwdIdeal.nD Cert.ReferenceRmsBwdIdeal.τ).loc Cert.ReferenceRmsBwdIdeal.main_arg3) = m ((c.tc : Thread Cert.ReferenceRmsBwdIdeal.nD Cert.ReferenceRmsBwdIdeal.τ).loc Cert.ReferenceRmsBwdIdeal.main_arg3))
      ∧ r.2.sem = fun _ => 0)

def quiescent_KernelSiluBwd [hKernelSiluBwd : Cert.KernelSiluBwd.Facts] : Prop :=
  ∀ (m : (ℓ : Loc Cert.KernelSiluBwd.nD Cert.KernelSiluBwd.τ Cert.KernelSiluBwd.sig) → Buf (Elt Bits) ℓ) (g : Dev Cert.KernelSiluBwd.nD → PrngReg), Pre_KernelSiluBwd m →
    θ_run (Cert.KernelSiluBwd.defs (F := Bits)) (onTc (τ := Cert.KernelSiluBwd.τ) (Cert.KernelSiluBwd.main (F := Bits))) ⟨m, fun _ => 0, g⟩ (fun r => (∀ c : Dev Cert.KernelSiluBwd.nD,
      r.2.mem ((c.tc : Thread Cert.KernelSiluBwd.nD Cert.KernelSiluBwd.τ).loc Cert.KernelSiluBwd.main_arg0) = m ((c.tc : Thread Cert.KernelSiluBwd.nD Cert.KernelSiluBwd.τ).loc Cert.KernelSiluBwd.main_arg0)
      ∧ r.2.mem ((c.tc : Thread Cert.KernelSiluBwd.nD Cert.KernelSiluBwd.τ).loc Cert.KernelSiluBwd.main_arg1) = m ((c.tc : Thread Cert.KernelSiluBwd.nD Cert.KernelSiluBwd.τ).loc Cert.KernelSiluBwd.main_arg1))
      ∧ r.2.sem = fun _ => 0)

def quiescent_KernelSiluBwdIdeal [hKernelSiluBwdIdeal : Cert.KernelSiluBwdIdeal.Facts] : Prop :=
  ∀ (m : (ℓ : Loc Cert.KernelSiluBwdIdeal.nD Cert.KernelSiluBwdIdeal.τ Cert.KernelSiluBwdIdeal.sig) → Buf (Elt Ideal) ℓ) (g : Dev Cert.KernelSiluBwdIdeal.nD → PrngReg), Pre_KernelSiluBwdIdeal m →
    θ_run (Cert.KernelSiluBwdIdeal.defs (F := Ideal)) (onTc (τ := Cert.KernelSiluBwdIdeal.τ) (Cert.KernelSiluBwdIdeal.main (F := Ideal))) ⟨m, fun _ => 0, g⟩ (fun r => (∀ c : Dev Cert.KernelSiluBwdIdeal.nD,
      r.2.mem ((c.tc : Thread Cert.KernelSiluBwdIdeal.nD Cert.KernelSiluBwdIdeal.τ).loc Cert.KernelSiluBwdIdeal.main_arg0) = m ((c.tc : Thread Cert.KernelSiluBwdIdeal.nD Cert.KernelSiluBwdIdeal.τ).loc Cert.KernelSiluBwdIdeal.main_arg0)
      ∧ r.2.mem ((c.tc : Thread Cert.KernelSiluBwdIdeal.nD Cert.KernelSiluBwdIdeal.τ).loc Cert.KernelSiluBwdIdeal.main_arg1) = m ((c.tc : Thread Cert.KernelSiluBwdIdeal.nD Cert.KernelSiluBwdIdeal.τ).loc Cert.KernelSiluBwdIdeal.main_arg1))
      ∧ r.2.sem = fun _ => 0)

def quiescent_KernelSiluBwdIdeal_pre_finite_silu [hKernelSiluBwdIdeal : Cert.KernelSiluBwdIdeal.Facts] [hPre_finite_silu : Cert.Pre_finite_silu.Facts] : Prop :=
  ∀ (m : (ℓ : Loc Cert.KernelSiluBwdIdeal.nD Cert.KernelSiluBwdIdeal.τ Cert.KernelSiluBwdIdeal.sig) → Buf (Elt Ideal) ℓ) (g : Dev Cert.KernelSiluBwdIdeal.nD → PrngReg), Pre_KernelSiluBwdIdeal_finite_silu m →
    θ_run (Cert.KernelSiluBwdIdeal.defs (F := Ideal)) (onTc (τ := Cert.KernelSiluBwdIdeal.τ) (Cert.KernelSiluBwdIdeal.main (F := Ideal))) ⟨m, fun _ => 0, g⟩ (fun r => (∀ c : Dev Cert.KernelSiluBwdIdeal.nD,
      r.2.mem ((c.tc : Thread Cert.KernelSiluBwdIdeal.nD Cert.KernelSiluBwdIdeal.τ).loc Cert.KernelSiluBwdIdeal.main_arg0) = m ((c.tc : Thread Cert.KernelSiluBwdIdeal.nD Cert.KernelSiluBwdIdeal.τ).loc Cert.KernelSiluBwdIdeal.main_arg0)
      ∧ r.2.mem ((c.tc : Thread Cert.KernelSiluBwdIdeal.nD Cert.KernelSiluBwdIdeal.τ).loc Cert.KernelSiluBwdIdeal.main_arg1) = m ((c.tc : Thread Cert.KernelSiluBwdIdeal.nD Cert.KernelSiluBwdIdeal.τ).loc Cert.KernelSiluBwdIdeal.main_arg1))
      ∧ r.2.sem = fun _ => 0)

def quiescent_ReferenceSiluBwdIdeal [hReferenceSiluBwdIdeal : Cert.ReferenceSiluBwdIdeal.Facts] : Prop :=
  ∀ (m : (ℓ : Loc Cert.ReferenceSiluBwdIdeal.nD Cert.ReferenceSiluBwdIdeal.τ Cert.ReferenceSiluBwdIdeal.sig) → Buf (Elt Ideal) ℓ) (g : Dev Cert.ReferenceSiluBwdIdeal.nD → PrngReg), Pre_ReferenceSiluBwdIdeal m →
    θ_run (Cert.ReferenceSiluBwdIdeal.defs (F := Ideal)) (onTc (τ := Cert.ReferenceSiluBwdIdeal.τ) (Cert.ReferenceSiluBwdIdeal.main (F := Ideal))) ⟨m, fun _ => 0, g⟩ (fun r => (∀ c : Dev Cert.ReferenceSiluBwdIdeal.nD,
      r.2.mem ((c.tc : Thread Cert.ReferenceSiluBwdIdeal.nD Cert.ReferenceSiluBwdIdeal.τ).loc Cert.ReferenceSiluBwdIdeal.main_arg0) = m ((c.tc : Thread Cert.ReferenceSiluBwdIdeal.nD Cert.ReferenceSiluBwdIdeal.τ).loc Cert.ReferenceSiluBwdIdeal.main_arg0)
      ∧ r.2.mem ((c.tc : Thread Cert.ReferenceSiluBwdIdeal.nD Cert.ReferenceSiluBwdIdeal.τ).loc Cert.ReferenceSiluBwdIdeal.main_arg1) = m ((c.tc : Thread Cert.ReferenceSiluBwdIdeal.nD Cert.ReferenceSiluBwdIdeal.τ).loc Cert.ReferenceSiluBwdIdeal.main_arg1))
      ∧ r.2.sem = fun _ => 0)

def quiescent_ReferenceSiluBwdIdeal_pre_finite_silu [hReferenceSiluBwdIdeal : Cert.ReferenceSiluBwdIdeal.Facts] [hPre_finite_silu : Cert.Pre_finite_silu.Facts] : Prop :=
  ∀ (m : (ℓ : Loc Cert.ReferenceSiluBwdIdeal.nD Cert.ReferenceSiluBwdIdeal.τ Cert.ReferenceSiluBwdIdeal.sig) → Buf (Elt Ideal) ℓ) (g : Dev Cert.ReferenceSiluBwdIdeal.nD → PrngReg), Pre_ReferenceSiluBwdIdeal_finite_silu m →
    θ_run (Cert.ReferenceSiluBwdIdeal.defs (F := Ideal)) (onTc (τ := Cert.ReferenceSiluBwdIdeal.τ) (Cert.ReferenceSiluBwdIdeal.main (F := Ideal))) ⟨m, fun _ => 0, g⟩ (fun r => (∀ c : Dev Cert.ReferenceSiluBwdIdeal.nD,
      r.2.mem ((c.tc : Thread Cert.ReferenceSiluBwdIdeal.nD Cert.ReferenceSiluBwdIdeal.τ).loc Cert.ReferenceSiluBwdIdeal.main_arg0) = m ((c.tc : Thread Cert.ReferenceSiluBwdIdeal.nD Cert.ReferenceSiluBwdIdeal.τ).loc Cert.ReferenceSiluBwdIdeal.main_arg0)
      ∧ r.2.mem ((c.tc : Thread Cert.ReferenceSiluBwdIdeal.nD Cert.ReferenceSiluBwdIdeal.τ).loc Cert.ReferenceSiluBwdIdeal.main_arg1) = m ((c.tc : Thread Cert.ReferenceSiluBwdIdeal.nD Cert.ReferenceSiluBwdIdeal.τ).loc Cert.ReferenceSiluBwdIdeal.main_arg1))
      ∧ r.2.sem = fun _ => 0)

def quiescent_KernelLnBwd [hKernelLnBwd : Cert.KernelLnBwd.Facts] : Prop :=
  ∀ (m : (ℓ : Loc Cert.KernelLnBwd.nD Cert.KernelLnBwd.τ Cert.KernelLnBwd.sig) → Buf (Elt Bits) ℓ) (g : Dev Cert.KernelLnBwd.nD → PrngReg), Pre_KernelLnBwd m →
    θ_run (Cert.KernelLnBwd.defs (F := Bits)) (onTc (τ := Cert.KernelLnBwd.τ) (Cert.KernelLnBwd.main (F := Bits))) ⟨m, fun _ => 0, g⟩ (fun r => (∀ c : Dev Cert.KernelLnBwd.nD,
      r.2.mem ((c.tc : Thread Cert.KernelLnBwd.nD Cert.KernelLnBwd.τ).loc Cert.KernelLnBwd.main_arg0) = m ((c.tc : Thread Cert.KernelLnBwd.nD Cert.KernelLnBwd.τ).loc Cert.KernelLnBwd.main_arg0)
      ∧ r.2.mem ((c.tc : Thread Cert.KernelLnBwd.nD Cert.KernelLnBwd.τ).loc Cert.KernelLnBwd.main_arg1) = m ((c.tc : Thread Cert.KernelLnBwd.nD Cert.KernelLnBwd.τ).loc Cert.KernelLnBwd.main_arg1)
      ∧ r.2.mem ((c.tc : Thread Cert.KernelLnBwd.nD Cert.KernelLnBwd.τ).loc Cert.KernelLnBwd.main_arg2) = m ((c.tc : Thread Cert.KernelLnBwd.nD Cert.KernelLnBwd.τ).loc Cert.KernelLnBwd.main_arg2)
      ∧ r.2.mem ((c.tc : Thread Cert.KernelLnBwd.nD Cert.KernelLnBwd.τ).loc Cert.KernelLnBwd.main_arg3) = m ((c.tc : Thread Cert.KernelLnBwd.nD Cert.KernelLnBwd.τ).loc Cert.KernelLnBwd.main_arg3))
      ∧ r.2.sem = fun _ => 0)

def quiescent_KernelLnBwdIdeal [hKernelLnBwdIdeal : Cert.KernelLnBwdIdeal.Facts] : Prop :=
  ∀ (m : (ℓ : Loc Cert.KernelLnBwdIdeal.nD Cert.KernelLnBwdIdeal.τ Cert.KernelLnBwdIdeal.sig) → Buf (Elt Ideal) ℓ) (g : Dev Cert.KernelLnBwdIdeal.nD → PrngReg), Pre_KernelLnBwdIdeal m →
    θ_run (Cert.KernelLnBwdIdeal.defs (F := Ideal)) (onTc (τ := Cert.KernelLnBwdIdeal.τ) (Cert.KernelLnBwdIdeal.main (F := Ideal))) ⟨m, fun _ => 0, g⟩ (fun r => (∀ c : Dev Cert.KernelLnBwdIdeal.nD,
      r.2.mem ((c.tc : Thread Cert.KernelLnBwdIdeal.nD Cert.KernelLnBwdIdeal.τ).loc Cert.KernelLnBwdIdeal.main_arg0) = m ((c.tc : Thread Cert.KernelLnBwdIdeal.nD Cert.KernelLnBwdIdeal.τ).loc Cert.KernelLnBwdIdeal.main_arg0)
      ∧ r.2.mem ((c.tc : Thread Cert.KernelLnBwdIdeal.nD Cert.KernelLnBwdIdeal.τ).loc Cert.KernelLnBwdIdeal.main_arg1) = m ((c.tc : Thread Cert.KernelLnBwdIdeal.nD Cert.KernelLnBwdIdeal.τ).loc Cert.KernelLnBwdIdeal.main_arg1)
      ∧ r.2.mem ((c.tc : Thread Cert.KernelLnBwdIdeal.nD Cert.KernelLnBwdIdeal.τ).loc Cert.KernelLnBwdIdeal.main_arg2) = m ((c.tc : Thread Cert.KernelLnBwdIdeal.nD Cert.KernelLnBwdIdeal.τ).loc Cert.KernelLnBwdIdeal.main_arg2)
      ∧ r.2.mem ((c.tc : Thread Cert.KernelLnBwdIdeal.nD Cert.KernelLnBwdIdeal.τ).loc Cert.KernelLnBwdIdeal.main_arg3) = m ((c.tc : Thread Cert.KernelLnBwdIdeal.nD Cert.KernelLnBwdIdeal.τ).loc Cert.KernelLnBwdIdeal.main_arg3))
      ∧ r.2.sem = fun _ => 0)

def quiescent_KernelLnBwdIdeal_pre_finite_ln [hKernelLnBwdIdeal : Cert.KernelLnBwdIdeal.Facts] [hPre_finite_ln : Cert.Pre_finite_ln.Facts] : Prop :=
  ∀ (m : (ℓ : Loc Cert.KernelLnBwdIdeal.nD Cert.KernelLnBwdIdeal.τ Cert.KernelLnBwdIdeal.sig) → Buf (Elt Ideal) ℓ) (g : Dev Cert.KernelLnBwdIdeal.nD → PrngReg), Pre_KernelLnBwdIdeal_finite_ln m →
    θ_run (Cert.KernelLnBwdIdeal.defs (F := Ideal)) (onTc (τ := Cert.KernelLnBwdIdeal.τ) (Cert.KernelLnBwdIdeal.main (F := Ideal))) ⟨m, fun _ => 0, g⟩ (fun r => (∀ c : Dev Cert.KernelLnBwdIdeal.nD,
      r.2.mem ((c.tc : Thread Cert.KernelLnBwdIdeal.nD Cert.KernelLnBwdIdeal.τ).loc Cert.KernelLnBwdIdeal.main_arg0) = m ((c.tc : Thread Cert.KernelLnBwdIdeal.nD Cert.KernelLnBwdIdeal.τ).loc Cert.KernelLnBwdIdeal.main_arg0)
      ∧ r.2.mem ((c.tc : Thread Cert.KernelLnBwdIdeal.nD Cert.KernelLnBwdIdeal.τ).loc Cert.KernelLnBwdIdeal.main_arg1) = m ((c.tc : Thread Cert.KernelLnBwdIdeal.nD Cert.KernelLnBwdIdeal.τ).loc Cert.KernelLnBwdIdeal.main_arg1)
      ∧ r.2.mem ((c.tc : Thread Cert.KernelLnBwdIdeal.nD Cert.KernelLnBwdIdeal.τ).loc Cert.KernelLnBwdIdeal.main_arg2) = m ((c.tc : Thread Cert.KernelLnBwdIdeal.nD Cert.KernelLnBwdIdeal.τ).loc Cert.KernelLnBwdIdeal.main_arg2)
      ∧ r.2.mem ((c.tc : Thread Cert.KernelLnBwdIdeal.nD Cert.KernelLnBwdIdeal.τ).loc Cert.KernelLnBwdIdeal.main_arg3) = m ((c.tc : Thread Cert.KernelLnBwdIdeal.nD Cert.KernelLnBwdIdeal.τ).loc Cert.KernelLnBwdIdeal.main_arg3))
      ∧ r.2.sem = fun _ => 0)

def quiescent_ReferenceLnBwdIdeal [hReferenceLnBwdIdeal : Cert.ReferenceLnBwdIdeal.Facts] : Prop :=
  ∀ (m : (ℓ : Loc Cert.ReferenceLnBwdIdeal.nD Cert.ReferenceLnBwdIdeal.τ Cert.ReferenceLnBwdIdeal.sig) → Buf (Elt Ideal) ℓ) (g : Dev Cert.ReferenceLnBwdIdeal.nD → PrngReg), Pre_ReferenceLnBwdIdeal m →
    θ_run (Cert.ReferenceLnBwdIdeal.defs (F := Ideal)) (onTc (τ := Cert.ReferenceLnBwdIdeal.τ) (Cert.ReferenceLnBwdIdeal.main (F := Ideal))) ⟨m, fun _ => 0, g⟩ (fun r => (∀ c : Dev Cert.ReferenceLnBwdIdeal.nD,
      r.2.mem ((c.tc : Thread Cert.ReferenceLnBwdIdeal.nD Cert.ReferenceLnBwdIdeal.τ).loc Cert.ReferenceLnBwdIdeal.main_arg0) = m ((c.tc : Thread Cert.ReferenceLnBwdIdeal.nD Cert.ReferenceLnBwdIdeal.τ).loc Cert.ReferenceLnBwdIdeal.main_arg0)
      ∧ r.2.mem ((c.tc : Thread Cert.ReferenceLnBwdIdeal.nD Cert.ReferenceLnBwdIdeal.τ).loc Cert.ReferenceLnBwdIdeal.main_arg1) = m ((c.tc : Thread Cert.ReferenceLnBwdIdeal.nD Cert.ReferenceLnBwdIdeal.τ).loc Cert.ReferenceLnBwdIdeal.main_arg1)
      ∧ r.2.mem ((c.tc : Thread Cert.ReferenceLnBwdIdeal.nD Cert.ReferenceLnBwdIdeal.τ).loc Cert.ReferenceLnBwdIdeal.main_arg2) = m ((c.tc : Thread Cert.ReferenceLnBwdIdeal.nD Cert.ReferenceLnBwdIdeal.τ).loc Cert.ReferenceLnBwdIdeal.main_arg2)
      ∧ r.2.mem ((c.tc : Thread Cert.ReferenceLnBwdIdeal.nD Cert.ReferenceLnBwdIdeal.τ).loc Cert.ReferenceLnBwdIdeal.main_arg3) = m ((c.tc : Thread Cert.ReferenceLnBwdIdeal.nD Cert.ReferenceLnBwdIdeal.τ).loc Cert.ReferenceLnBwdIdeal.main_arg3))
      ∧ r.2.sem = fun _ => 0)

def quiescent_ReferenceLnBwdIdeal_pre_finite_ln [hReferenceLnBwdIdeal : Cert.ReferenceLnBwdIdeal.Facts] [hPre_finite_ln : Cert.Pre_finite_ln.Facts] : Prop :=
  ∀ (m : (ℓ : Loc Cert.ReferenceLnBwdIdeal.nD Cert.ReferenceLnBwdIdeal.τ Cert.ReferenceLnBwdIdeal.sig) → Buf (Elt Ideal) ℓ) (g : Dev Cert.ReferenceLnBwdIdeal.nD → PrngReg), Pre_ReferenceLnBwdIdeal_finite_ln m →
    θ_run (Cert.ReferenceLnBwdIdeal.defs (F := Ideal)) (onTc (τ := Cert.ReferenceLnBwdIdeal.τ) (Cert.ReferenceLnBwdIdeal.main (F := Ideal))) ⟨m, fun _ => 0, g⟩ (fun r => (∀ c : Dev Cert.ReferenceLnBwdIdeal.nD,
      r.2.mem ((c.tc : Thread Cert.ReferenceLnBwdIdeal.nD Cert.ReferenceLnBwdIdeal.τ).loc Cert.ReferenceLnBwdIdeal.main_arg0) = m ((c.tc : Thread Cert.ReferenceLnBwdIdeal.nD Cert.ReferenceLnBwdIdeal.τ).loc Cert.ReferenceLnBwdIdeal.main_arg0)
      ∧ r.2.mem ((c.tc : Thread Cert.ReferenceLnBwdIdeal.nD Cert.ReferenceLnBwdIdeal.τ).loc Cert.ReferenceLnBwdIdeal.main_arg1) = m ((c.tc : Thread Cert.ReferenceLnBwdIdeal.nD Cert.ReferenceLnBwdIdeal.τ).loc Cert.ReferenceLnBwdIdeal.main_arg1)
      ∧ r.2.mem ((c.tc : Thread Cert.ReferenceLnBwdIdeal.nD Cert.ReferenceLnBwdIdeal.τ).loc Cert.ReferenceLnBwdIdeal.main_arg2) = m ((c.tc : Thread Cert.ReferenceLnBwdIdeal.nD Cert.ReferenceLnBwdIdeal.τ).loc Cert.ReferenceLnBwdIdeal.main_arg2)
      ∧ r.2.mem ((c.tc : Thread Cert.ReferenceLnBwdIdeal.nD Cert.ReferenceLnBwdIdeal.τ).loc Cert.ReferenceLnBwdIdeal.main_arg3) = m ((c.tc : Thread Cert.ReferenceLnBwdIdeal.nD Cert.ReferenceLnBwdIdeal.τ).loc Cert.ReferenceLnBwdIdeal.main_arg3))
      ∧ r.2.sem = fun _ => 0)

def quiescent_KernelGnormBwd [hKernelGnormBwd : Cert.KernelGnormBwd.Facts] : Prop :=
  ∀ (m : (ℓ : Loc Cert.KernelGnormBwd.nD Cert.KernelGnormBwd.τ Cert.KernelGnormBwd.sig) → Buf (Elt Bits) ℓ) (g : Dev Cert.KernelGnormBwd.nD → PrngReg), Pre_KernelGnormBwd m →
    θ_run (Cert.KernelGnormBwd.defs (F := Bits)) (onTc (τ := Cert.KernelGnormBwd.τ) (Cert.KernelGnormBwd.main (F := Bits))) ⟨m, fun _ => 0, g⟩ (fun r => (∀ c : Dev Cert.KernelGnormBwd.nD,
      r.2.mem ((c.tc : Thread Cert.KernelGnormBwd.nD Cert.KernelGnormBwd.τ).loc Cert.KernelGnormBwd.main_arg0) = m ((c.tc : Thread Cert.KernelGnormBwd.nD Cert.KernelGnormBwd.τ).loc Cert.KernelGnormBwd.main_arg0)
      ∧ r.2.mem ((c.tc : Thread Cert.KernelGnormBwd.nD Cert.KernelGnormBwd.τ).loc Cert.KernelGnormBwd.main_arg1) = m ((c.tc : Thread Cert.KernelGnormBwd.nD Cert.KernelGnormBwd.τ).loc Cert.KernelGnormBwd.main_arg1)
      ∧ r.2.mem ((c.tc : Thread Cert.KernelGnormBwd.nD Cert.KernelGnormBwd.τ).loc Cert.KernelGnormBwd.main_arg2) = m ((c.tc : Thread Cert.KernelGnormBwd.nD Cert.KernelGnormBwd.τ).loc Cert.KernelGnormBwd.main_arg2)
      ∧ r.2.mem ((c.tc : Thread Cert.KernelGnormBwd.nD Cert.KernelGnormBwd.τ).loc Cert.KernelGnormBwd.main_arg3) = m ((c.tc : Thread Cert.KernelGnormBwd.nD Cert.KernelGnormBwd.τ).loc Cert.KernelGnormBwd.main_arg3)
      ∧ r.2.mem ((c.tc : Thread Cert.KernelGnormBwd.nD Cert.KernelGnormBwd.τ).loc Cert.KernelGnormBwd.main_arg4) = m ((c.tc : Thread Cert.KernelGnormBwd.nD Cert.KernelGnormBwd.τ).loc Cert.KernelGnormBwd.main_arg4)
      ∧ r.2.mem ((c.tc : Thread Cert.KernelGnormBwd.nD Cert.KernelGnormBwd.τ).loc Cert.KernelGnormBwd.main_arg5) = m ((c.tc : Thread Cert.KernelGnormBwd.nD Cert.KernelGnormBwd.τ).loc Cert.KernelGnormBwd.main_arg5))
      ∧ r.2.sem = fun _ => 0)

def quiescent_KernelGnormBwdIdeal [hKernelGnormBwdIdeal : Cert.KernelGnormBwdIdeal.Facts] : Prop :=
  ∀ (m : (ℓ : Loc Cert.KernelGnormBwdIdeal.nD Cert.KernelGnormBwdIdeal.τ Cert.KernelGnormBwdIdeal.sig) → Buf (Elt Ideal) ℓ) (g : Dev Cert.KernelGnormBwdIdeal.nD → PrngReg), Pre_KernelGnormBwdIdeal m →
    θ_run (Cert.KernelGnormBwdIdeal.defs (F := Ideal)) (onTc (τ := Cert.KernelGnormBwdIdeal.τ) (Cert.KernelGnormBwdIdeal.main (F := Ideal))) ⟨m, fun _ => 0, g⟩ (fun r => (∀ c : Dev Cert.KernelGnormBwdIdeal.nD,
      r.2.mem ((c.tc : Thread Cert.KernelGnormBwdIdeal.nD Cert.KernelGnormBwdIdeal.τ).loc Cert.KernelGnormBwdIdeal.main_arg0) = m ((c.tc : Thread Cert.KernelGnormBwdIdeal.nD Cert.KernelGnormBwdIdeal.τ).loc Cert.KernelGnormBwdIdeal.main_arg0)
      ∧ r.2.mem ((c.tc : Thread Cert.KernelGnormBwdIdeal.nD Cert.KernelGnormBwdIdeal.τ).loc Cert.KernelGnormBwdIdeal.main_arg1) = m ((c.tc : Thread Cert.KernelGnormBwdIdeal.nD Cert.KernelGnormBwdIdeal.τ).loc Cert.KernelGnormBwdIdeal.main_arg1)
      ∧ r.2.mem ((c.tc : Thread Cert.KernelGnormBwdIdeal.nD Cert.KernelGnormBwdIdeal.τ).loc Cert.KernelGnormBwdIdeal.main_arg2) = m ((c.tc : Thread Cert.KernelGnormBwdIdeal.nD Cert.KernelGnormBwdIdeal.τ).loc Cert.KernelGnormBwdIdeal.main_arg2)
      ∧ r.2.mem ((c.tc : Thread Cert.KernelGnormBwdIdeal.nD Cert.KernelGnormBwdIdeal.τ).loc Cert.KernelGnormBwdIdeal.main_arg3) = m ((c.tc : Thread Cert.KernelGnormBwdIdeal.nD Cert.KernelGnormBwdIdeal.τ).loc Cert.KernelGnormBwdIdeal.main_arg3)
      ∧ r.2.mem ((c.tc : Thread Cert.KernelGnormBwdIdeal.nD Cert.KernelGnormBwdIdeal.τ).loc Cert.KernelGnormBwdIdeal.main_arg4) = m ((c.tc : Thread Cert.KernelGnormBwdIdeal.nD Cert.KernelGnormBwdIdeal.τ).loc Cert.KernelGnormBwdIdeal.main_arg4)
      ∧ r.2.mem ((c.tc : Thread Cert.KernelGnormBwdIdeal.nD Cert.KernelGnormBwdIdeal.τ).loc Cert.KernelGnormBwdIdeal.main_arg5) = m ((c.tc : Thread Cert.KernelGnormBwdIdeal.nD Cert.KernelGnormBwdIdeal.τ).loc Cert.KernelGnormBwdIdeal.main_arg5))
      ∧ r.2.sem = fun _ => 0)

def quiescent_KernelGnormBwdIdeal_pre_finite_gnorm [hKernelGnormBwdIdeal : Cert.KernelGnormBwdIdeal.Facts] [hPre_finite_gnorm : Cert.Pre_finite_gnorm.Facts] : Prop :=
  ∀ (m : (ℓ : Loc Cert.KernelGnormBwdIdeal.nD Cert.KernelGnormBwdIdeal.τ Cert.KernelGnormBwdIdeal.sig) → Buf (Elt Ideal) ℓ) (g : Dev Cert.KernelGnormBwdIdeal.nD → PrngReg), Pre_KernelGnormBwdIdeal_finite_gnorm m →
    θ_run (Cert.KernelGnormBwdIdeal.defs (F := Ideal)) (onTc (τ := Cert.KernelGnormBwdIdeal.τ) (Cert.KernelGnormBwdIdeal.main (F := Ideal))) ⟨m, fun _ => 0, g⟩ (fun r => (∀ c : Dev Cert.KernelGnormBwdIdeal.nD,
      r.2.mem ((c.tc : Thread Cert.KernelGnormBwdIdeal.nD Cert.KernelGnormBwdIdeal.τ).loc Cert.KernelGnormBwdIdeal.main_arg0) = m ((c.tc : Thread Cert.KernelGnormBwdIdeal.nD Cert.KernelGnormBwdIdeal.τ).loc Cert.KernelGnormBwdIdeal.main_arg0)
      ∧ r.2.mem ((c.tc : Thread Cert.KernelGnormBwdIdeal.nD Cert.KernelGnormBwdIdeal.τ).loc Cert.KernelGnormBwdIdeal.main_arg1) = m ((c.tc : Thread Cert.KernelGnormBwdIdeal.nD Cert.KernelGnormBwdIdeal.τ).loc Cert.KernelGnormBwdIdeal.main_arg1)
      ∧ r.2.mem ((c.tc : Thread Cert.KernelGnormBwdIdeal.nD Cert.KernelGnormBwdIdeal.τ).loc Cert.KernelGnormBwdIdeal.main_arg2) = m ((c.tc : Thread Cert.KernelGnormBwdIdeal.nD Cert.KernelGnormBwdIdeal.τ).loc Cert.KernelGnormBwdIdeal.main_arg2)
      ∧ r.2.mem ((c.tc : Thread Cert.KernelGnormBwdIdeal.nD Cert.KernelGnormBwdIdeal.τ).loc Cert.KernelGnormBwdIdeal.main_arg3) = m ((c.tc : Thread Cert.KernelGnormBwdIdeal.nD Cert.KernelGnormBwdIdeal.τ).loc Cert.KernelGnormBwdIdeal.main_arg3)
      ∧ r.2.mem ((c.tc : Thread Cert.KernelGnormBwdIdeal.nD Cert.KernelGnormBwdIdeal.τ).loc Cert.KernelGnormBwdIdeal.main_arg4) = m ((c.tc : Thread Cert.KernelGnormBwdIdeal.nD Cert.KernelGnormBwdIdeal.τ).loc Cert.KernelGnormBwdIdeal.main_arg4)
      ∧ r.2.mem ((c.tc : Thread Cert.KernelGnormBwdIdeal.nD Cert.KernelGnormBwdIdeal.τ).loc Cert.KernelGnormBwdIdeal.main_arg5) = m ((c.tc : Thread Cert.KernelGnormBwdIdeal.nD Cert.KernelGnormBwdIdeal.τ).loc Cert.KernelGnormBwdIdeal.main_arg5))
      ∧ r.2.sem = fun _ => 0)

def quiescent_ReferenceGnormBwdIdeal [hReferenceGnormBwdIdeal : Cert.ReferenceGnormBwdIdeal.Facts] : Prop :=
  ∀ (m : (ℓ : Loc Cert.ReferenceGnormBwdIdeal.nD Cert.ReferenceGnormBwdIdeal.τ Cert.ReferenceGnormBwdIdeal.sig) → Buf (Elt Ideal) ℓ) (g : Dev Cert.ReferenceGnormBwdIdeal.nD → PrngReg), Pre_ReferenceGnormBwdIdeal m →
    θ_run (Cert.ReferenceGnormBwdIdeal.defs (F := Ideal)) (onTc (τ := Cert.ReferenceGnormBwdIdeal.τ) (Cert.ReferenceGnormBwdIdeal.main (F := Ideal))) ⟨m, fun _ => 0, g⟩ (fun r => (∀ c : Dev Cert.ReferenceGnormBwdIdeal.nD,
      r.2.mem ((c.tc : Thread Cert.ReferenceGnormBwdIdeal.nD Cert.ReferenceGnormBwdIdeal.τ).loc Cert.ReferenceGnormBwdIdeal.main_arg0) = m ((c.tc : Thread Cert.ReferenceGnormBwdIdeal.nD Cert.ReferenceGnormBwdIdeal.τ).loc Cert.ReferenceGnormBwdIdeal.main_arg0)
      ∧ r.2.mem ((c.tc : Thread Cert.ReferenceGnormBwdIdeal.nD Cert.ReferenceGnormBwdIdeal.τ).loc Cert.ReferenceGnormBwdIdeal.main_arg1) = m ((c.tc : Thread Cert.ReferenceGnormBwdIdeal.nD Cert.ReferenceGnormBwdIdeal.τ).loc Cert.ReferenceGnormBwdIdeal.main_arg1)
      ∧ r.2.mem ((c.tc : Thread Cert.ReferenceGnormBwdIdeal.nD Cert.ReferenceGnormBwdIdeal.τ).loc Cert.ReferenceGnormBwdIdeal.main_arg2) = m ((c.tc : Thread Cert.ReferenceGnormBwdIdeal.nD Cert.ReferenceGnormBwdIdeal.τ).loc Cert.ReferenceGnormBwdIdeal.main_arg2)
      ∧ r.2.mem ((c.tc : Thread Cert.ReferenceGnormBwdIdeal.nD Cert.ReferenceGnormBwdIdeal.τ).loc Cert.ReferenceGnormBwdIdeal.main_arg3) = m ((c.tc : Thread Cert.ReferenceGnormBwdIdeal.nD Cert.ReferenceGnormBwdIdeal.τ).loc Cert.ReferenceGnormBwdIdeal.main_arg3)
      ∧ r.2.mem ((c.tc : Thread Cert.ReferenceGnormBwdIdeal.nD Cert.ReferenceGnormBwdIdeal.τ).loc Cert.ReferenceGnormBwdIdeal.main_arg4) = m ((c.tc : Thread Cert.ReferenceGnormBwdIdeal.nD Cert.ReferenceGnormBwdIdeal.τ).loc Cert.ReferenceGnormBwdIdeal.main_arg4)
      ∧ r.2.mem ((c.tc : Thread Cert.ReferenceGnormBwdIdeal.nD Cert.ReferenceGnormBwdIdeal.τ).loc Cert.ReferenceGnormBwdIdeal.main_arg5) = m ((c.tc : Thread Cert.ReferenceGnormBwdIdeal.nD Cert.ReferenceGnormBwdIdeal.τ).loc Cert.ReferenceGnormBwdIdeal.main_arg5))
      ∧ r.2.sem = fun _ => 0)

def quiescent_ReferenceGnormBwdIdeal_pre_finite_gnorm [hReferenceGnormBwdIdeal : Cert.ReferenceGnormBwdIdeal.Facts] [hPre_finite_gnorm : Cert.Pre_finite_gnorm.Facts] : Prop :=
  ∀ (m : (ℓ : Loc Cert.ReferenceGnormBwdIdeal.nD Cert.ReferenceGnormBwdIdeal.τ Cert.ReferenceGnormBwdIdeal.sig) → Buf (Elt Ideal) ℓ) (g : Dev Cert.ReferenceGnormBwdIdeal.nD → PrngReg), Pre_ReferenceGnormBwdIdeal_finite_gnorm m →
    θ_run (Cert.ReferenceGnormBwdIdeal.defs (F := Ideal)) (onTc (τ := Cert.ReferenceGnormBwdIdeal.τ) (Cert.ReferenceGnormBwdIdeal.main (F := Ideal))) ⟨m, fun _ => 0, g⟩ (fun r => (∀ c : Dev Cert.ReferenceGnormBwdIdeal.nD,
      r.2.mem ((c.tc : Thread Cert.ReferenceGnormBwdIdeal.nD Cert.ReferenceGnormBwdIdeal.τ).loc Cert.ReferenceGnormBwdIdeal.main_arg0) = m ((c.tc : Thread Cert.ReferenceGnormBwdIdeal.nD Cert.ReferenceGnormBwdIdeal.τ).loc Cert.ReferenceGnormBwdIdeal.main_arg0)
      ∧ r.2.mem ((c.tc : Thread Cert.ReferenceGnormBwdIdeal.nD Cert.ReferenceGnormBwdIdeal.τ).loc Cert.ReferenceGnormBwdIdeal.main_arg1) = m ((c.tc : Thread Cert.ReferenceGnormBwdIdeal.nD Cert.ReferenceGnormBwdIdeal.τ).loc Cert.ReferenceGnormBwdIdeal.main_arg1)
      ∧ r.2.mem ((c.tc : Thread Cert.ReferenceGnormBwdIdeal.nD Cert.ReferenceGnormBwdIdeal.τ).loc Cert.ReferenceGnormBwdIdeal.main_arg2) = m ((c.tc : Thread Cert.ReferenceGnormBwdIdeal.nD Cert.ReferenceGnormBwdIdeal.τ).loc Cert.ReferenceGnormBwdIdeal.main_arg2)
      ∧ r.2.mem ((c.tc : Thread Cert.ReferenceGnormBwdIdeal.nD Cert.ReferenceGnormBwdIdeal.τ).loc Cert.ReferenceGnormBwdIdeal.main_arg3) = m ((c.tc : Thread Cert.ReferenceGnormBwdIdeal.nD Cert.ReferenceGnormBwdIdeal.τ).loc Cert.ReferenceGnormBwdIdeal.main_arg3)
      ∧ r.2.mem ((c.tc : Thread Cert.ReferenceGnormBwdIdeal.nD Cert.ReferenceGnormBwdIdeal.τ).loc Cert.ReferenceGnormBwdIdeal.main_arg4) = m ((c.tc : Thread Cert.ReferenceGnormBwdIdeal.nD Cert.ReferenceGnormBwdIdeal.τ).loc Cert.ReferenceGnormBwdIdeal.main_arg4)
      ∧ r.2.mem ((c.tc : Thread Cert.ReferenceGnormBwdIdeal.nD Cert.ReferenceGnormBwdIdeal.τ).loc Cert.ReferenceGnormBwdIdeal.main_arg5) = m ((c.tc : Thread Cert.ReferenceGnormBwdIdeal.nD Cert.ReferenceGnormBwdIdeal.τ).loc Cert.ReferenceGnormBwdIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)) (v5 : (c : Dev Cert.KernelIdeal.nD) → Buf (Elt Ideal) ((c.tc : Thread Cert.KernelIdeal.nD Cert.KernelIdeal.τ).loc Cert.KernelIdeal.main_v13_5)) (v6 : (c : Dev Cert.KernelIdeal.nD) → Buf (Elt Ideal) ((c.tc : Thread Cert.KernelIdeal.nD Cert.KernelIdeal.τ).loc Cert.KernelIdeal.main_v13_6)) (v7 : (c : Dev Cert.KernelIdeal.nD) → Buf (Elt Ideal) ((c.tc : Thread Cert.KernelIdeal.nD Cert.KernelIdeal.τ).loc Cert.KernelIdeal.main_v13_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_v13_5) = v5 c
          ∧ r.2.mem ((c.tc : Thread Cert.KernelIdeal.nD Cert.KernelIdeal.τ).loc Cert.KernelIdeal.main_v13_6) = v6 c
          ∧ r.2.mem ((c.tc : Thread Cert.KernelIdeal.nD Cert.KernelIdeal.τ).loc Cert.KernelIdeal.main_v13_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v293) = v0 c
          ∧ r.2.mem ((c.tc : Thread Cert.ReferenceIdeal.nD Cert.ReferenceIdeal.τ).loc Cert.ReferenceIdeal.main_v294) = v1 c
          ∧ r.2.mem ((c.tc : Thread Cert.ReferenceIdeal.nD Cert.ReferenceIdeal.τ).loc Cert.ReferenceIdeal.main_v295) = v2 c
          ∧ r.2.mem ((c.tc : Thread Cert.ReferenceIdeal.nD Cert.ReferenceIdeal.τ).loc Cert.ReferenceIdeal.main_v296) = v3 c
          ∧ r.2.mem ((c.tc : Thread Cert.ReferenceIdeal.nD Cert.ReferenceIdeal.τ).loc Cert.ReferenceIdeal.main_v297) = v4 c
          ∧ r.2.mem ((c.tc : Thread Cert.ReferenceIdeal.nD Cert.ReferenceIdeal.τ).loc Cert.ReferenceIdeal.main_v298) = v5 c
          ∧ r.2.mem ((c.tc : Thread Cert.ReferenceIdeal.nD Cert.ReferenceIdeal.τ).loc Cert.ReferenceIdeal.main_v299) = v6 c
          ∧ r.2.mem ((c.tc : Thread Cert.ReferenceIdeal.nD Cert.ReferenceIdeal.τ).loc Cert.ReferenceIdeal.main_v301) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelW1_KernelW1Ideal : Prop :=
  True

def algebraic_KernelW1Ideal_ReferenceW1Ideal [hKernelW1Ideal : Cert.KernelW1Ideal.Facts] [hReferenceW1Ideal : Cert.ReferenceW1Ideal.Facts] : Prop :=
  ∀ (m : (ℓ : Loc Cert.KernelW1Ideal.nD Cert.KernelW1Ideal.τ Cert.KernelW1Ideal.sig) → Buf (Elt Ideal) ℓ) (g : Dev Cert.KernelW1Ideal.nD → PrngReg)
    (m' : (ℓ : Loc Cert.ReferenceW1Ideal.nD Cert.ReferenceW1Ideal.τ Cert.ReferenceW1Ideal.sig) → Buf (Elt Ideal) ℓ) (g' : Dev Cert.ReferenceW1Ideal.nD → PrngReg), Pre_KernelW1Ideal m →
    (∀ c : Dev Cert.KernelW1Ideal.nD,
      m' ((c.tc : Thread Cert.ReferenceW1Ideal.nD Cert.ReferenceW1Ideal.τ).loc Cert.ReferenceW1Ideal.main_arg0) = m ((c.tc : Thread Cert.KernelW1Ideal.nD Cert.KernelW1Ideal.τ).loc Cert.KernelW1Ideal.main_arg0)
      ∧ m' ((c.tc : Thread Cert.ReferenceW1Ideal.nD Cert.ReferenceW1Ideal.τ).loc Cert.ReferenceW1Ideal.main_arg1) = m ((c.tc : Thread Cert.KernelW1Ideal.nD Cert.KernelW1Ideal.τ).loc Cert.KernelW1Ideal.main_arg1)) →
    ∃ (v0 : (c : Dev Cert.KernelW1Ideal.nD) → Buf (Elt Ideal) ((c.tc : Thread Cert.KernelW1Ideal.nD Cert.KernelW1Ideal.τ).loc Cert.KernelW1Ideal.main_v4_0)) (v1 : (c : Dev Cert.KernelW1Ideal.nD) → Buf (Elt Ideal) ((c.tc : Thread Cert.KernelW1Ideal.nD Cert.KernelW1Ideal.τ).loc Cert.KernelW1Ideal.main_v4_1)),
      θ_run (Cert.KernelW1Ideal.defs (F := Ideal)) (onTc (τ := Cert.KernelW1Ideal.τ) (Cert.KernelW1Ideal.main (F := Ideal))) ⟨m, fun _ => 0, g⟩ (fun r => ∀ c : Dev Cert.KernelW1Ideal.nD,
          r.2.mem ((c.tc : Thread Cert.KernelW1Ideal.nD Cert.KernelW1Ideal.τ).loc Cert.KernelW1Ideal.main_v4_0) = v0 c
          ∧ r.2.mem ((c.tc : Thread Cert.KernelW1Ideal.nD Cert.KernelW1Ideal.τ).loc Cert.KernelW1Ideal.main_v4_1) = v1 c
          ∧ r.2.mem ((c.tc : Thread Cert.KernelW1Ideal.nD Cert.KernelW1Ideal.τ).loc Cert.KernelW1Ideal.main_arg0) = m ((c.tc : Thread Cert.KernelW1Ideal.nD Cert.KernelW1Ideal.τ).loc Cert.KernelW1Ideal.main_arg0)
          ∧ r.2.mem ((c.tc : Thread Cert.KernelW1Ideal.nD Cert.KernelW1Ideal.τ).loc Cert.KernelW1Ideal.main_arg1) = m ((c.tc : Thread Cert.KernelW1Ideal.nD Cert.KernelW1Ideal.τ).loc Cert.KernelW1Ideal.main_arg1))
      ∧ θ_run (Cert.ReferenceW1Ideal.defs (F := Ideal)) (onTc (τ := Cert.ReferenceW1Ideal.τ) (Cert.ReferenceW1Ideal.main (F := Ideal))) ⟨m', fun _ => 0, g'⟩ (fun r => ∀ c : Dev Cert.ReferenceW1Ideal.nD,
          r.2.mem ((c.tc : Thread Cert.ReferenceW1Ideal.nD Cert.ReferenceW1Ideal.τ).loc Cert.ReferenceW1Ideal.main_v2) = v0 c
          ∧ r.2.mem ((c.tc : Thread Cert.ReferenceW1Ideal.nD Cert.ReferenceW1Ideal.τ).loc Cert.ReferenceW1Ideal.main_v5) = v1 c
          ∧ r.2.mem ((c.tc : Thread Cert.ReferenceW1Ideal.nD Cert.ReferenceW1Ideal.τ).loc Cert.ReferenceW1Ideal.main_arg0) = m' ((c.tc : Thread Cert.ReferenceW1Ideal.nD Cert.ReferenceW1Ideal.τ).loc Cert.ReferenceW1Ideal.main_arg0)
          ∧ r.2.mem ((c.tc : Thread Cert.ReferenceW1Ideal.nD Cert.ReferenceW1Ideal.τ).loc Cert.ReferenceW1Ideal.main_arg1) = m' ((c.tc : Thread Cert.ReferenceW1Ideal.nD Cert.ReferenceW1Ideal.τ).loc Cert.ReferenceW1Ideal.main_arg1))

def preserves_KernelW2_KernelW2Ideal : Prop :=
  True

def algebraic_KernelW2Ideal_ReferenceW2Ideal [hKernelW2Ideal : Cert.KernelW2Ideal.Facts] [hReferenceW2Ideal : Cert.ReferenceW2Ideal.Facts] : Prop :=
  ∀ (m : (ℓ : Loc Cert.KernelW2Ideal.nD Cert.KernelW2Ideal.τ Cert.KernelW2Ideal.sig) → Buf (Elt Ideal) ℓ) (g : Dev Cert.KernelW2Ideal.nD → PrngReg)
    (m' : (ℓ : Loc Cert.ReferenceW2Ideal.nD Cert.ReferenceW2Ideal.τ Cert.ReferenceW2Ideal.sig) → Buf (Elt Ideal) ℓ) (g' : Dev Cert.ReferenceW2Ideal.nD → PrngReg), Pre_KernelW2Ideal m →
    (∀ c : Dev Cert.KernelW2Ideal.nD,
      m' ((c.tc : Thread Cert.ReferenceW2Ideal.nD Cert.ReferenceW2Ideal.τ).loc Cert.ReferenceW2Ideal.main_arg0) = m ((c.tc : Thread Cert.KernelW2Ideal.nD Cert.KernelW2Ideal.τ).loc Cert.KernelW2Ideal.main_arg0)
      ∧ m' ((c.tc : Thread Cert.ReferenceW2Ideal.nD Cert.ReferenceW2Ideal.τ).loc Cert.ReferenceW2Ideal.main_arg1) = m ((c.tc : Thread Cert.KernelW2Ideal.nD Cert.KernelW2Ideal.τ).loc Cert.KernelW2Ideal.main_arg1)
      ∧ m' ((c.tc : Thread Cert.ReferenceW2Ideal.nD Cert.ReferenceW2Ideal.τ).loc Cert.ReferenceW2Ideal.main_arg2) = m ((c.tc : Thread Cert.KernelW2Ideal.nD Cert.KernelW2Ideal.τ).loc Cert.KernelW2Ideal.main_arg2)) →
    ∃ (v0 : (c : Dev Cert.KernelW2Ideal.nD) → Buf (Elt Ideal) ((c.tc : Thread Cert.KernelW2Ideal.nD Cert.KernelW2Ideal.τ).loc Cert.KernelW2Ideal.main_v3)),
      θ_run (Cert.KernelW2Ideal.defs (F := Ideal)) (onTc (τ := Cert.KernelW2Ideal.τ) (Cert.KernelW2Ideal.main (F := Ideal))) ⟨m, fun _ => 0, g⟩ (fun r => ∀ c : Dev Cert.KernelW2Ideal.nD,
          r.2.mem ((c.tc : Thread Cert.KernelW2Ideal.nD Cert.KernelW2Ideal.τ).loc Cert.KernelW2Ideal.main_v3) = v0 c
          ∧ r.2.mem ((c.tc : Thread Cert.KernelW2Ideal.nD Cert.KernelW2Ideal.τ).loc Cert.KernelW2Ideal.main_arg0) = m ((c.tc : Thread Cert.KernelW2Ideal.nD Cert.KernelW2Ideal.τ).loc Cert.KernelW2Ideal.main_arg0)
          ∧ r.2.mem ((c.tc : Thread Cert.KernelW2Ideal.nD Cert.KernelW2Ideal.τ).loc Cert.KernelW2Ideal.main_arg1) = m ((c.tc : Thread Cert.KernelW2Ideal.nD Cert.KernelW2Ideal.τ).loc Cert.KernelW2Ideal.main_arg1)
          ∧ r.2.mem ((c.tc : Thread Cert.KernelW2Ideal.nD Cert.KernelW2Ideal.τ).loc Cert.KernelW2Ideal.main_arg2) = m ((c.tc : Thread Cert.KernelW2Ideal.nD Cert.KernelW2Ideal.τ).loc Cert.KernelW2Ideal.main_arg2))
      ∧ θ_run (Cert.ReferenceW2Ideal.defs (F := Ideal)) (onTc (τ := Cert.ReferenceW2Ideal.τ) (Cert.ReferenceW2Ideal.main (F := Ideal))) ⟨m', fun _ => 0, g'⟩ (fun r => ∀ c : Dev Cert.ReferenceW2Ideal.nD,
          r.2.mem ((c.tc : Thread Cert.ReferenceW2Ideal.nD Cert.ReferenceW2Ideal.τ).loc Cert.ReferenceW2Ideal.main_v2) = v0 c
          ∧ r.2.mem ((c.tc : Thread Cert.ReferenceW2Ideal.nD Cert.ReferenceW2Ideal.τ).loc Cert.ReferenceW2Ideal.main_arg0) = m' ((c.tc : Thread Cert.ReferenceW2Ideal.nD Cert.ReferenceW2Ideal.τ).loc Cert.ReferenceW2Ideal.main_arg0)
          ∧ r.2.mem ((c.tc : Thread Cert.ReferenceW2Ideal.nD Cert.ReferenceW2Ideal.τ).loc Cert.ReferenceW2Ideal.main_arg1) = m' ((c.tc : Thread Cert.ReferenceW2Ideal.nD Cert.ReferenceW2Ideal.τ).loc Cert.ReferenceW2Ideal.main_arg1)
          ∧ r.2.mem ((c.tc : Thread Cert.ReferenceW2Ideal.nD Cert.ReferenceW2Ideal.τ).loc Cert.ReferenceW2Ideal.main_arg2) = m' ((c.tc : Thread Cert.ReferenceW2Ideal.nD Cert.ReferenceW2Ideal.τ).loc Cert.ReferenceW2Ideal.main_arg2))

def preserves_KernelDa_KernelDaIdeal : Prop :=
  True

def algebraic_KernelDaIdeal_ReferenceDaIdeal [hKernelDaIdeal : Cert.KernelDaIdeal.Facts] [hReferenceDaIdeal : Cert.ReferenceDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg)
    (m' : (ℓ : Loc Cert.ReferenceDaIdeal.nD Cert.ReferenceDaIdeal.τ Cert.ReferenceDaIdeal.sig) → Buf (Elt Ideal) ℓ) (g' : Dev Cert.ReferenceDaIdeal.nD → PrngReg), Pre_KernelDaIdeal m →
    (∀ c : Dev Cert.KernelDaIdeal.nD,
      m' ((c.tc : Thread Cert.ReferenceDaIdeal.nD Cert.ReferenceDaIdeal.τ).loc Cert.ReferenceDaIdeal.main_arg0) = m ((c.tc : Thread Cert.KernelDaIdeal.nD Cert.KernelDaIdeal.τ).loc Cert.KernelDaIdeal.main_arg0)
      ∧ m' ((c.tc : Thread Cert.ReferenceDaIdeal.nD Cert.ReferenceDaIdeal.τ).loc Cert.ReferenceDaIdeal.main_arg1) = m ((c.tc : Thread Cert.KernelDaIdeal.nD Cert.KernelDaIdeal.τ).loc Cert.KernelDaIdeal.main_arg1)
      ∧ m' ((c.tc : Thread Cert.ReferenceDaIdeal.nD Cert.ReferenceDaIdeal.τ).loc Cert.ReferenceDaIdeal.main_arg2) = m ((c.tc : Thread Cert.KernelDaIdeal.nD Cert.KernelDaIdeal.τ).loc Cert.KernelDaIdeal.main_arg2)) →
    ∃ (v0 : (c : Dev Cert.KernelDaIdeal.nD) → Buf (Elt Ideal) ((c.tc : Thread Cert.KernelDaIdeal.nD Cert.KernelDaIdeal.τ).loc Cert.KernelDaIdeal.main_v3)),
      θ_run (Cert.KernelDaIdeal.defs (F := Ideal)) (onTc (τ := Cert.KernelDaIdeal.τ) (Cert.KernelDaIdeal.main (F := Ideal))) ⟨m, fun _ => 0, g⟩ (fun r => ∀ c : Dev Cert.KernelDaIdeal.nD,
          r.2.mem ((c.tc : Thread Cert.KernelDaIdeal.nD Cert.KernelDaIdeal.τ).loc Cert.KernelDaIdeal.main_v3) = v0 c
          ∧ r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
          ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1)
          ∧ r.2.mem ((c.tc : Thread Cert.KernelDaIdeal.nD Cert.KernelDaIdeal.τ).loc Cert.KernelDaIdeal.main_arg2) = m ((c.tc : Thread Cert.KernelDaIdeal.nD Cert.KernelDaIdeal.τ).loc Cert.KernelDaIdeal.main_arg2))
      ∧ θ_run (Cert.ReferenceDaIdeal.defs (F := Ideal)) (onTc (τ := Cert.ReferenceDaIdeal.τ) (Cert.ReferenceDaIdeal.main (F := Ideal))) ⟨m', fun _ => 0, g'⟩ (fun r => ∀ c : Dev Cert.ReferenceDaIdeal.nD,
          r.2.mem ((c.tc : Thread Cert.ReferenceDaIdeal.nD Cert.ReferenceDaIdeal.τ).loc Cert.ReferenceDaIdeal.main_v14) = v0 c
          ∧ r.2.mem ((c.tc : Thread Cert.ReferenceDaIdeal.nD Cert.ReferenceDaIdeal.τ).loc Cert.ReferenceDaIdeal.main_arg0) = m' ((c.tc : Thread Cert.ReferenceDaIdeal.nD Cert.ReferenceDaIdeal.τ).loc Cert.ReferenceDaIdeal.main_arg0)
          ∧ r.2.mem ((c.tc : Thread Cert.ReferenceDaIdeal.nD Cert.ReferenceDaIdeal.τ).loc Cert.ReferenceDaIdeal.main_arg1) = m' ((c.tc : Thread Cert.ReferenceDaIdeal.nD Cert.ReferenceDaIdeal.τ).loc Cert.ReferenceDaIdeal.main_arg1)
          ∧ r.2.mem ((c.tc : Thread Cert.ReferenceDaIdeal.nD Cert.ReferenceDaIdeal.τ).loc Cert.ReferenceDaIdeal.main_arg2) = m' ((c.tc : Thread Cert.ReferenceDaIdeal.nD Cert.ReferenceDaIdeal.τ).loc Cert.ReferenceDaIdeal.main_arg2))

def preserves_KernelDw2_KernelDw2Ideal : Prop :=
  True

def algebraic_KernelDw2Ideal_ReferenceDw2Ideal [hKernelDw2Ideal : Cert.KernelDw2Ideal.Facts] [hReferenceDw2Ideal : Cert.ReferenceDw2Ideal.Facts] : Prop :=
  ∀ (m : (ℓ : Loc Cert.KernelDw2Ideal.nD Cert.KernelDw2Ideal.τ Cert.KernelDw2Ideal.sig) → Buf (Elt Ideal) ℓ) (g : Dev Cert.KernelDw2Ideal.nD → PrngReg)
    (m' : (ℓ : Loc Cert.ReferenceDw2Ideal.nD Cert.ReferenceDw2Ideal.τ Cert.ReferenceDw2Ideal.sig) → Buf (Elt Ideal) ℓ) (g' : Dev Cert.ReferenceDw2Ideal.nD → PrngReg), Pre_KernelDw2Ideal m →
    (∀ c : Dev Cert.KernelDw2Ideal.nD,
      m' ((c.tc : Thread Cert.ReferenceDw2Ideal.nD Cert.ReferenceDw2Ideal.τ).loc Cert.ReferenceDw2Ideal.main_arg0) = m ((c.tc : Thread Cert.KernelDw2Ideal.nD Cert.KernelDw2Ideal.τ).loc Cert.KernelDw2Ideal.main_arg0)
      ∧ m' ((c.tc : Thread Cert.ReferenceDw2Ideal.nD Cert.ReferenceDw2Ideal.τ).loc Cert.ReferenceDw2Ideal.main_arg1) = m ((c.tc : Thread Cert.KernelDw2Ideal.nD Cert.KernelDw2Ideal.τ).loc Cert.KernelDw2Ideal.main_arg1)) →
    ∃ (v0 : (c : Dev Cert.KernelDw2Ideal.nD) → Buf (Elt Ideal) ((c.tc : Thread Cert.KernelDw2Ideal.nD Cert.KernelDw2Ideal.τ).loc Cert.KernelDw2Ideal.main_v0)),
      θ_run (Cert.KernelDw2Ideal.defs (F := Ideal)) (onTc (τ := Cert.KernelDw2Ideal.τ) (Cert.KernelDw2Ideal.main (F := Ideal))) ⟨m, fun _ => 0, g⟩ (fun r => ∀ c : Dev Cert.KernelDw2Ideal.nD,
          r.2.mem ((c.tc : Thread Cert.KernelDw2Ideal.nD Cert.KernelDw2Ideal.τ).loc Cert.KernelDw2Ideal.main_v0) = v0 c
          ∧ r.2.mem ((c.tc : Thread Cert.KernelDw2Ideal.nD Cert.KernelDw2Ideal.τ).loc Cert.KernelDw2Ideal.main_arg0) = m ((c.tc : Thread Cert.KernelDw2Ideal.nD Cert.KernelDw2Ideal.τ).loc Cert.KernelDw2Ideal.main_arg0)
          ∧ r.2.mem ((c.tc : Thread Cert.KernelDw2Ideal.nD Cert.KernelDw2Ideal.τ).loc Cert.KernelDw2Ideal.main_arg1) = m ((c.tc : Thread Cert.KernelDw2Ideal.nD Cert.KernelDw2Ideal.τ).loc Cert.KernelDw2Ideal.main_arg1))
      ∧ θ_run (Cert.ReferenceDw2Ideal.defs (F := Ideal)) (onTc (τ := Cert.ReferenceDw2Ideal.τ) (Cert.ReferenceDw2Ideal.main (F := Ideal))) ⟨m', fun _ => 0, g'⟩ (fun r => ∀ c : Dev Cert.ReferenceDw2Ideal.nD,
          r.2.mem ((c.tc : Thread Cert.ReferenceDw2Ideal.nD Cert.ReferenceDw2Ideal.τ).loc Cert.ReferenceDw2Ideal.main_v7) = v0 c
          ∧ r.2.mem ((c.tc : Thread Cert.ReferenceDw2Ideal.nD Cert.ReferenceDw2Ideal.τ).loc Cert.ReferenceDw2Ideal.main_arg0) = m' ((c.tc : Thread Cert.ReferenceDw2Ideal.nD Cert.ReferenceDw2Ideal.τ).loc Cert.ReferenceDw2Ideal.main_arg0)
          ∧ r.2.mem ((c.tc : Thread Cert.ReferenceDw2Ideal.nD Cert.ReferenceDw2Ideal.τ).loc Cert.ReferenceDw2Ideal.main_arg1) = m' ((c.tc : Thread Cert.ReferenceDw2Ideal.nD Cert.ReferenceDw2Ideal.τ).loc Cert.ReferenceDw2Ideal.main_arg1))

def preserves_KernelDw1_KernelDw1Ideal : Prop :=
  True

def algebraic_KernelDw1Ideal_ReferenceDw1Ideal [hKernelDw1Ideal : Cert.KernelDw1Ideal.Facts] [hReferenceDw1Ideal : Cert.ReferenceDw1Ideal.Facts] : Prop :=
  ∀ (m : (ℓ : Loc Cert.KernelDw1Ideal.nD Cert.KernelDw1Ideal.τ Cert.KernelDw1Ideal.sig) → Buf (Elt Ideal) ℓ) (g : Dev Cert.KernelDw1Ideal.nD → PrngReg)
    (m' : (ℓ : Loc Cert.ReferenceDw1Ideal.nD Cert.ReferenceDw1Ideal.τ Cert.ReferenceDw1Ideal.sig) → Buf (Elt Ideal) ℓ) (g' : Dev Cert.ReferenceDw1Ideal.nD → PrngReg), Pre_KernelDw1Ideal m →
    (∀ c : Dev Cert.KernelDw1Ideal.nD,
      m' ((c.tc : Thread Cert.ReferenceDw1Ideal.nD Cert.ReferenceDw1Ideal.τ).loc Cert.ReferenceDw1Ideal.main_arg0) = m ((c.tc : Thread Cert.KernelDw1Ideal.nD Cert.KernelDw1Ideal.τ).loc Cert.KernelDw1Ideal.main_arg0)
      ∧ m' ((c.tc : Thread Cert.ReferenceDw1Ideal.nD Cert.ReferenceDw1Ideal.τ).loc Cert.ReferenceDw1Ideal.main_arg1) = m ((c.tc : Thread Cert.KernelDw1Ideal.nD Cert.KernelDw1Ideal.τ).loc Cert.KernelDw1Ideal.main_arg1)) →
    ∃ (v0 : (c : Dev Cert.KernelDw1Ideal.nD) → Buf (Elt Ideal) ((c.tc : Thread Cert.KernelDw1Ideal.nD Cert.KernelDw1Ideal.τ).loc Cert.KernelDw1Ideal.main_v0)),
      θ_run (Cert.KernelDw1Ideal.defs (F := Ideal)) (onTc (τ := Cert.KernelDw1Ideal.τ) (Cert.KernelDw1Ideal.main (F := Ideal))) ⟨m, fun _ => 0, g⟩ (fun r => ∀ c : Dev Cert.KernelDw1Ideal.nD,
          r.2.mem ((c.tc : Thread Cert.KernelDw1Ideal.nD Cert.KernelDw1Ideal.τ).loc Cert.KernelDw1Ideal.main_v0) = v0 c
          ∧ r.2.mem ((c.tc : Thread Cert.KernelDw1Ideal.nD Cert.KernelDw1Ideal.τ).loc Cert.KernelDw1Ideal.main_arg0) = m ((c.tc : Thread Cert.KernelDw1Ideal.nD Cert.KernelDw1Ideal.τ).loc Cert.KernelDw1Ideal.main_arg0)
          ∧ r.2.mem ((c.tc : Thread Cert.KernelDw1Ideal.nD Cert.KernelDw1Ideal.τ).loc Cert.KernelDw1Ideal.main_arg1) = m ((c.tc : Thread Cert.KernelDw1Ideal.nD Cert.KernelDw1Ideal.τ).loc Cert.KernelDw1Ideal.main_arg1))
      ∧ θ_run (Cert.ReferenceDw1Ideal.defs (F := Ideal)) (onTc (τ := Cert.ReferenceDw1Ideal.τ) (Cert.ReferenceDw1Ideal.main (F := Ideal))) ⟨m', fun _ => 0, g'⟩ (fun r => ∀ c : Dev Cert.ReferenceDw1Ideal.nD,
          r.2.mem ((c.tc : Thread Cert.ReferenceDw1Ideal.nD Cert.ReferenceDw1Ideal.τ).loc Cert.ReferenceDw1Ideal.main_v8) = v0 c
          ∧ r.2.mem ((c.tc : Thread Cert.ReferenceDw1Ideal.nD Cert.ReferenceDw1Ideal.τ).loc Cert.ReferenceDw1Ideal.main_arg0) = m' ((c.tc : Thread Cert.ReferenceDw1Ideal.nD Cert.ReferenceDw1Ideal.τ).loc Cert.ReferenceDw1Ideal.main_arg0)
          ∧ r.2.mem ((c.tc : Thread Cert.ReferenceDw1Ideal.nD Cert.ReferenceDw1Ideal.τ).loc Cert.ReferenceDw1Ideal.main_arg1) = m' ((c.tc : Thread Cert.ReferenceDw1Ideal.nD Cert.ReferenceDw1Ideal.τ).loc Cert.ReferenceDw1Ideal.main_arg1))

def preserves_KernelDu_KernelDuIdeal : Prop :=
  True

def algebraic_KernelDuIdeal_ReferenceDuIdeal [hKernelDuIdeal : Cert.KernelDuIdeal.Facts] [hReferenceDuIdeal : Cert.ReferenceDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg)
    (m' : (ℓ : Loc Cert.ReferenceDuIdeal.nD Cert.ReferenceDuIdeal.τ Cert.ReferenceDuIdeal.sig) → Buf (Elt Ideal) ℓ) (g' : Dev Cert.ReferenceDuIdeal.nD → PrngReg), Pre_KernelDuIdeal m →
    (∀ c : Dev Cert.KernelDuIdeal.nD,
      m' ((c.tc : Thread Cert.ReferenceDuIdeal.nD Cert.ReferenceDuIdeal.τ).loc Cert.ReferenceDuIdeal.main_arg0) = m ((c.tc : Thread Cert.KernelDuIdeal.nD Cert.KernelDuIdeal.τ).loc Cert.KernelDuIdeal.main_arg0)
      ∧ m' ((c.tc : Thread Cert.ReferenceDuIdeal.nD Cert.ReferenceDuIdeal.τ).loc Cert.ReferenceDuIdeal.main_arg1) = m ((c.tc : Thread Cert.KernelDuIdeal.nD Cert.KernelDuIdeal.τ).loc Cert.KernelDuIdeal.main_arg1)) →
    ∃ (v0 : (c : Dev Cert.KernelDuIdeal.nD) → Buf (Elt Ideal) ((c.tc : Thread Cert.KernelDuIdeal.nD Cert.KernelDuIdeal.τ).loc Cert.KernelDuIdeal.main_v4)),
      θ_run (Cert.KernelDuIdeal.defs (F := Ideal)) (onTc (τ := Cert.KernelDuIdeal.τ) (Cert.KernelDuIdeal.main (F := Ideal))) ⟨m, fun _ => 0, g⟩ (fun r => ∀ c : Dev Cert.KernelDuIdeal.nD,
          r.2.mem ((c.tc : Thread Cert.KernelDuIdeal.nD Cert.KernelDuIdeal.τ).loc Cert.KernelDuIdeal.main_v4) = v0 c
          ∧ r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
          ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1))
      ∧ θ_run (Cert.ReferenceDuIdeal.defs (F := Ideal)) (onTc (τ := Cert.ReferenceDuIdeal.τ) (Cert.ReferenceDuIdeal.main (F := Ideal))) ⟨m', fun _ => 0, g'⟩ (fun r => ∀ c : Dev Cert.ReferenceDuIdeal.nD,
          r.2.mem ((c.tc : Thread Cert.ReferenceDuIdeal.nD Cert.ReferenceDuIdeal.τ).loc Cert.ReferenceDuIdeal.main_v3) = v0 c
          ∧ r.2.mem ((c.tc : Thread Cert.ReferenceDuIdeal.nD Cert.ReferenceDuIdeal.τ).loc Cert.ReferenceDuIdeal.main_arg0) = m' ((c.tc : Thread Cert.ReferenceDuIdeal.nD Cert.ReferenceDuIdeal.τ).loc Cert.ReferenceDuIdeal.main_arg0)
          ∧ r.2.mem ((c.tc : Thread Cert.ReferenceDuIdeal.nD Cert.ReferenceDuIdeal.τ).loc Cert.ReferenceDuIdeal.main_arg1) = m' ((c.tc : Thread Cert.ReferenceDuIdeal.nD Cert.ReferenceDuIdeal.τ).loc Cert.ReferenceDuIdeal.main_arg1))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)) →
    ∃ (v0 : (c : Dev Cert.KernelQkvIdeal.nD) → Buf (Elt Ideal) ((c.tc : Thread Cert.KernelQkvIdeal.nD Cert.KernelQkvIdeal.τ).loc Cert.KernelQkvIdeal.main_v5)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v5) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v1) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1))

def preserves_KernelWo_KernelWoIdeal : Prop :=
  True

def algebraic_KernelWoIdeal_ReferenceWoIdeal [hKernelWoIdeal : Cert.KernelWoIdeal.Facts] [hReferenceWoIdeal : Cert.ReferenceWoIdeal.Facts] : Prop :=
  ∀ (m : (ℓ : Loc Cert.KernelWoIdeal.nD Cert.KernelWoIdeal.τ Cert.KernelWoIdeal.sig) → Buf (Elt Ideal) ℓ) (g : Dev Cert.KernelWoIdeal.nD → PrngReg)
    (m' : (ℓ : Loc Cert.ReferenceWoIdeal.nD Cert.ReferenceWoIdeal.τ Cert.ReferenceWoIdeal.sig) → Buf (Elt Ideal) ℓ) (g' : Dev Cert.ReferenceWoIdeal.nD → PrngReg), Pre_KernelWoIdeal m →
    (∀ c : Dev Cert.KernelWoIdeal.nD,
      m' ((c.tc : Thread Cert.ReferenceWoIdeal.nD Cert.ReferenceWoIdeal.τ).loc Cert.ReferenceWoIdeal.main_arg0) = m ((c.tc : Thread Cert.KernelWoIdeal.nD Cert.KernelWoIdeal.τ).loc Cert.KernelWoIdeal.main_arg0)
      ∧ m' ((c.tc : Thread Cert.ReferenceWoIdeal.nD Cert.ReferenceWoIdeal.τ).loc Cert.ReferenceWoIdeal.main_arg1) = m ((c.tc : Thread Cert.KernelWoIdeal.nD Cert.KernelWoIdeal.τ).loc Cert.KernelWoIdeal.main_arg1)
      ∧ m' ((c.tc : Thread Cert.ReferenceWoIdeal.nD Cert.ReferenceWoIdeal.τ).loc Cert.ReferenceWoIdeal.main_arg2) = m ((c.tc : Thread Cert.KernelWoIdeal.nD Cert.KernelWoIdeal.τ).loc Cert.KernelWoIdeal.main_arg2)) →
    ∃ (v0 : (c : Dev Cert.KernelWoIdeal.nD) → Buf (Elt Ideal) ((c.tc : Thread Cert.KernelWoIdeal.nD Cert.KernelWoIdeal.τ).loc Cert.KernelWoIdeal.main_v3)),
      θ_run (Cert.KernelWoIdeal.defs (F := Ideal)) (onTc (τ := Cert.KernelWoIdeal.τ) (Cert.KernelWoIdeal.main (F := Ideal))) ⟨m, fun _ => 0, g⟩ (fun r => ∀ c : Dev Cert.KernelWoIdeal.nD,
          r.2.mem ((c.tc : Thread Cert.KernelWoIdeal.nD Cert.KernelWoIdeal.τ).loc Cert.KernelWoIdeal.main_v3) = v0 c
          ∧ r.2.mem ((c.tc : Thread Cert.KernelWoIdeal.nD Cert.KernelWoIdeal.τ).loc Cert.KernelWoIdeal.main_arg0) = m ((c.tc : Thread Cert.KernelWoIdeal.nD Cert.KernelWoIdeal.τ).loc Cert.KernelWoIdeal.main_arg0)
          ∧ r.2.mem ((c.tc : Thread Cert.KernelWoIdeal.nD Cert.KernelWoIdeal.τ).loc Cert.KernelWoIdeal.main_arg1) = m ((c.tc : Thread Cert.KernelWoIdeal.nD Cert.KernelWoIdeal.τ).loc Cert.KernelWoIdeal.main_arg1)
          ∧ r.2.mem ((c.tc : Thread Cert.KernelWoIdeal.nD Cert.KernelWoIdeal.τ).loc Cert.KernelWoIdeal.main_arg2) = m ((c.tc : Thread Cert.KernelWoIdeal.nD Cert.KernelWoIdeal.τ).loc Cert.KernelWoIdeal.main_arg2))
      ∧ θ_run (Cert.ReferenceWoIdeal.defs (F := Ideal)) (onTc (τ := Cert.ReferenceWoIdeal.τ) (Cert.ReferenceWoIdeal.main (F := Ideal))) ⟨m', fun _ => 0, g'⟩ (fun r => ∀ c : Dev Cert.ReferenceWoIdeal.nD,
          r.2.mem ((c.tc : Thread Cert.ReferenceWoIdeal.nD Cert.ReferenceWoIdeal.τ).loc Cert.ReferenceWoIdeal.main_v2) = v0 c
          ∧ r.2.mem ((c.tc : Thread Cert.ReferenceWoIdeal.nD Cert.ReferenceWoIdeal.τ).loc Cert.ReferenceWoIdeal.main_arg0) = m' ((c.tc : Thread Cert.ReferenceWoIdeal.nD Cert.ReferenceWoIdeal.τ).loc Cert.ReferenceWoIdeal.main_arg0)
          ∧ r.2.mem ((c.tc : Thread Cert.ReferenceWoIdeal.nD Cert.ReferenceWoIdeal.τ).loc Cert.ReferenceWoIdeal.main_arg1) = m' ((c.tc : Thread Cert.ReferenceWoIdeal.nD Cert.ReferenceWoIdeal.τ).loc Cert.ReferenceWoIdeal.main_arg1)
          ∧ r.2.mem ((c.tc : Thread Cert.ReferenceWoIdeal.nD Cert.ReferenceWoIdeal.τ).loc Cert.ReferenceWoIdeal.main_arg2) = m' ((c.tc : Thread Cert.ReferenceWoIdeal.nD Cert.ReferenceWoIdeal.τ).loc Cert.ReferenceWoIdeal.main_arg2))

def preserves_KernelDo_KernelDoIdeal : Prop :=
  True

def algebraic_KernelDoIdeal_ReferenceDoIdeal [hKernelDoIdeal : Cert.KernelDoIdeal.Facts] [hReferenceDoIdeal : Cert.ReferenceDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg)
    (m' : (ℓ : Loc Cert.ReferenceDoIdeal.nD Cert.ReferenceDoIdeal.τ Cert.ReferenceDoIdeal.sig) → Buf (Elt Ideal) ℓ) (g' : Dev Cert.ReferenceDoIdeal.nD → PrngReg), Pre_KernelDoIdeal m →
    (∀ c : Dev Cert.KernelDoIdeal.nD,
      m' ((c.tc : Thread Cert.ReferenceDoIdeal.nD Cert.ReferenceDoIdeal.τ).loc Cert.ReferenceDoIdeal.main_arg0) = m ((c.tc : Thread Cert.KernelDoIdeal.nD Cert.KernelDoIdeal.τ).loc Cert.KernelDoIdeal.main_arg0)
      ∧ m' ((c.tc : Thread Cert.ReferenceDoIdeal.nD Cert.ReferenceDoIdeal.τ).loc Cert.ReferenceDoIdeal.main_arg1) = m ((c.tc : Thread Cert.KernelDoIdeal.nD Cert.KernelDoIdeal.τ).loc Cert.KernelDoIdeal.main_arg1)) →
    ∃ (v0 : (c : Dev Cert.KernelDoIdeal.nD) → Buf (Elt Ideal) ((c.tc : Thread Cert.KernelDoIdeal.nD Cert.KernelDoIdeal.τ).loc Cert.KernelDoIdeal.main_v3)),
      θ_run (Cert.KernelDoIdeal.defs (F := Ideal)) (onTc (τ := Cert.KernelDoIdeal.τ) (Cert.KernelDoIdeal.main (F := Ideal))) ⟨m, fun _ => 0, g⟩ (fun r => ∀ c : Dev Cert.KernelDoIdeal.nD,
          r.2.mem ((c.tc : Thread Cert.KernelDoIdeal.nD Cert.KernelDoIdeal.τ).loc Cert.KernelDoIdeal.main_v3) = v0 c
          ∧ r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
          ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1))
      ∧ θ_run (Cert.ReferenceDoIdeal.defs (F := Ideal)) (onTc (τ := Cert.ReferenceDoIdeal.τ) (Cert.ReferenceDoIdeal.main (F := Ideal))) ⟨m', fun _ => 0, g'⟩ (fun r => ∀ c : Dev Cert.ReferenceDoIdeal.nD,
          r.2.mem ((c.tc : Thread Cert.ReferenceDoIdeal.nD Cert.ReferenceDoIdeal.τ).loc Cert.ReferenceDoIdeal.main_v3) = v0 c
          ∧ r.2.mem ((c.tc : Thread Cert.ReferenceDoIdeal.nD Cert.ReferenceDoIdeal.τ).loc Cert.ReferenceDoIdeal.main_arg0) = m' ((c.tc : Thread Cert.ReferenceDoIdeal.nD Cert.ReferenceDoIdeal.τ).loc Cert.ReferenceDoIdeal.main_arg0)
          ∧ r.2.mem ((c.tc : Thread Cert.ReferenceDoIdeal.nD Cert.ReferenceDoIdeal.τ).loc Cert.ReferenceDoIdeal.main_arg1) = m' ((c.tc : Thread Cert.ReferenceDoIdeal.nD Cert.ReferenceDoIdeal.τ).loc Cert.ReferenceDoIdeal.main_arg1))

def preserves_KernelDwo_KernelDwoIdeal : Prop :=
  True

def algebraic_KernelDwoIdeal_ReferenceDwoIdeal [hKernelDwoIdeal : Cert.KernelDwoIdeal.Facts] [hReferenceDwoIdeal : Cert.ReferenceDwoIdeal.Facts] : Prop :=
  ∀ (m : (ℓ : Loc Cert.KernelDwoIdeal.nD Cert.KernelDwoIdeal.τ Cert.KernelDwoIdeal.sig) → Buf (Elt Ideal) ℓ) (g : Dev Cert.KernelDwoIdeal.nD → PrngReg)
    (m' : (ℓ : Loc Cert.ReferenceDwoIdeal.nD Cert.ReferenceDwoIdeal.τ Cert.ReferenceDwoIdeal.sig) → Buf (Elt Ideal) ℓ) (g' : Dev Cert.ReferenceDwoIdeal.nD → PrngReg), Pre_KernelDwoIdeal m →
    (∀ c : Dev Cert.KernelDwoIdeal.nD,
      m' ((c.tc : Thread Cert.ReferenceDwoIdeal.nD Cert.ReferenceDwoIdeal.τ).loc Cert.ReferenceDwoIdeal.main_arg0) = m ((c.tc : Thread Cert.KernelDwoIdeal.nD Cert.KernelDwoIdeal.τ).loc Cert.KernelDwoIdeal.main_arg0)
      ∧ m' ((c.tc : Thread Cert.ReferenceDwoIdeal.nD Cert.ReferenceDwoIdeal.τ).loc Cert.ReferenceDwoIdeal.main_arg1) = m ((c.tc : Thread Cert.KernelDwoIdeal.nD Cert.KernelDwoIdeal.τ).loc Cert.KernelDwoIdeal.main_arg1)) →
    ∃ (v0 : (c : Dev Cert.KernelDwoIdeal.nD) → Buf (Elt Ideal) ((c.tc : Thread Cert.KernelDwoIdeal.nD Cert.KernelDwoIdeal.τ).loc Cert.KernelDwoIdeal.main_v0)),
      θ_run (Cert.KernelDwoIdeal.defs (F := Ideal)) (onTc (τ := Cert.KernelDwoIdeal.τ) (Cert.KernelDwoIdeal.main (F := Ideal))) ⟨m, fun _ => 0, g⟩ (fun r => ∀ c : Dev Cert.KernelDwoIdeal.nD,
          r.2.mem ((c.tc : Thread Cert.KernelDwoIdeal.nD Cert.KernelDwoIdeal.τ).loc Cert.KernelDwoIdeal.main_v0) = v0 c
          ∧ r.2.mem ((c.tc : Thread Cert.KernelDwoIdeal.nD Cert.KernelDwoIdeal.τ).loc Cert.KernelDwoIdeal.main_arg0) = m ((c.tc : Thread Cert.KernelDwoIdeal.nD Cert.KernelDwoIdeal.τ).loc Cert.KernelDwoIdeal.main_arg0)
          ∧ r.2.mem ((c.tc : Thread Cert.KernelDwoIdeal.nD Cert.KernelDwoIdeal.τ).loc Cert.KernelDwoIdeal.main_arg1) = m ((c.tc : Thread Cert.KernelDwoIdeal.nD Cert.KernelDwoIdeal.τ).loc Cert.KernelDwoIdeal.main_arg1))
      ∧ θ_run (Cert.ReferenceDwoIdeal.defs (F := Ideal)) (onTc (τ := Cert.ReferenceDwoIdeal.τ) (Cert.ReferenceDwoIdeal.main (F := Ideal))) ⟨m', fun _ => 0, g'⟩ (fun r => ∀ c : Dev Cert.ReferenceDwoIdeal.nD,
          r.2.mem ((c.tc : Thread Cert.ReferenceDwoIdeal.nD Cert.ReferenceDwoIdeal.τ).loc Cert.ReferenceDwoIdeal.main_v7) = v0 c
          ∧ r.2.mem ((c.tc : Thread Cert.ReferenceDwoIdeal.nD Cert.ReferenceDwoIdeal.τ).loc Cert.ReferenceDwoIdeal.main_arg0) = m' ((c.tc : Thread Cert.ReferenceDwoIdeal.nD Cert.ReferenceDwoIdeal.τ).loc Cert.ReferenceDwoIdeal.main_arg0)
          ∧ r.2.mem ((c.tc : Thread Cert.ReferenceDwoIdeal.nD Cert.ReferenceDwoIdeal.τ).loc Cert.ReferenceDwoIdeal.main_arg1) = m' ((c.tc : Thread Cert.ReferenceDwoIdeal.nD Cert.ReferenceDwoIdeal.τ).loc Cert.ReferenceDwoIdeal.main_arg1))

def preserves_KernelDwqkv_KernelDwqkvIdeal : Prop :=
  True

def algebraic_KernelDwqkvIdeal_ReferenceDwqkvIdeal [hKernelDwqkvIdeal : Cert.KernelDwqkvIdeal.Facts] [hReferenceDwqkvIdeal : Cert.ReferenceDwqkvIdeal.Facts] : Prop :=
  ∀ (m : (ℓ : Loc Cert.KernelDwqkvIdeal.nD Cert.KernelDwqkvIdeal.τ Cert.KernelDwqkvIdeal.sig) → Buf (Elt Ideal) ℓ) (g : Dev Cert.KernelDwqkvIdeal.nD → PrngReg)
    (m' : (ℓ : Loc Cert.ReferenceDwqkvIdeal.nD Cert.ReferenceDwqkvIdeal.τ Cert.ReferenceDwqkvIdeal.sig) → Buf (Elt Ideal) ℓ) (g' : Dev Cert.ReferenceDwqkvIdeal.nD → PrngReg), Pre_KernelDwqkvIdeal m →
    (∀ c : Dev Cert.KernelDwqkvIdeal.nD,
      m' ((c.tc : Thread Cert.ReferenceDwqkvIdeal.nD Cert.ReferenceDwqkvIdeal.τ).loc Cert.ReferenceDwqkvIdeal.main_arg0) = m ((c.tc : Thread Cert.KernelDwqkvIdeal.nD Cert.KernelDwqkvIdeal.τ).loc Cert.KernelDwqkvIdeal.main_arg0)
      ∧ m' ((c.tc : Thread Cert.ReferenceDwqkvIdeal.nD Cert.ReferenceDwqkvIdeal.τ).loc Cert.ReferenceDwqkvIdeal.main_arg1) = m ((c.tc : Thread Cert.KernelDwqkvIdeal.nD Cert.KernelDwqkvIdeal.τ).loc Cert.KernelDwqkvIdeal.main_arg1)) →
    ∃ (v0 : (c : Dev Cert.KernelDwqkvIdeal.nD) → Buf (Elt Ideal) ((c.tc : Thread Cert.KernelDwqkvIdeal.nD Cert.KernelDwqkvIdeal.τ).loc Cert.KernelDwqkvIdeal.main_v0)),
      θ_run (Cert.KernelDwqkvIdeal.defs (F := Ideal)) (onTc (τ := Cert.KernelDwqkvIdeal.τ) (Cert.KernelDwqkvIdeal.main (F := Ideal))) ⟨m, fun _ => 0, g⟩ (fun r => ∀ c : Dev Cert.KernelDwqkvIdeal.nD,
          r.2.mem ((c.tc : Thread Cert.KernelDwqkvIdeal.nD Cert.KernelDwqkvIdeal.τ).loc Cert.KernelDwqkvIdeal.main_v0) = v0 c
          ∧ r.2.mem ((c.tc : Thread Cert.KernelDwqkvIdeal.nD Cert.KernelDwqkvIdeal.τ).loc Cert.KernelDwqkvIdeal.main_arg0) = m ((c.tc : Thread Cert.KernelDwqkvIdeal.nD Cert.KernelDwqkvIdeal.τ).loc Cert.KernelDwqkvIdeal.main_arg0)
          ∧ r.2.mem ((c.tc : Thread Cert.KernelDwqkvIdeal.nD Cert.KernelDwqkvIdeal.τ).loc Cert.KernelDwqkvIdeal.main_arg1) = m ((c.tc : Thread Cert.KernelDwqkvIdeal.nD Cert.KernelDwqkvIdeal.τ).loc Cert.KernelDwqkvIdeal.main_arg1))
      ∧ θ_run (Cert.ReferenceDwqkvIdeal.defs (F := Ideal)) (onTc (τ := Cert.ReferenceDwqkvIdeal.τ) (Cert.ReferenceDwqkvIdeal.main (F := Ideal))) ⟨m', fun _ => 0, g'⟩ (fun r => ∀ c : Dev Cert.ReferenceDwqkvIdeal.nD,
          r.2.mem ((c.tc : Thread Cert.ReferenceDwqkvIdeal.nD Cert.ReferenceDwqkvIdeal.τ).loc Cert.ReferenceDwqkvIdeal.main_v5) = v0 c
          ∧ r.2.mem ((c.tc : Thread Cert.ReferenceDwqkvIdeal.nD Cert.ReferenceDwqkvIdeal.τ).loc Cert.ReferenceDwqkvIdeal.main_arg0) = m' ((c.tc : Thread Cert.ReferenceDwqkvIdeal.nD Cert.ReferenceDwqkvIdeal.τ).loc Cert.ReferenceDwqkvIdeal.main_arg0)
          ∧ r.2.mem ((c.tc : Thread Cert.ReferenceDwqkvIdeal.nD Cert.ReferenceDwqkvIdeal.τ).loc Cert.ReferenceDwqkvIdeal.main_arg1) = m' ((c.tc : Thread Cert.ReferenceDwqkvIdeal.nD Cert.ReferenceDwqkvIdeal.τ).loc Cert.ReferenceDwqkvIdeal.main_arg1))

def preserves_KernelDuqkv_KernelDuqkvIdeal : Prop :=
  True

def algebraic_KernelDuqkvIdeal_ReferenceDuqkvIdeal [hKernelDuqkvIdeal : Cert.KernelDuqkvIdeal.Facts] [hReferenceDuqkvIdeal : Cert.ReferenceDuqkvIdeal.Facts] : Prop :=
  ∀ (m : (ℓ : Loc Cert.KernelDuqkvIdeal.nD Cert.KernelDuqkvIdeal.τ Cert.KernelDuqkvIdeal.sig) → Buf (Elt Ideal) ℓ) (g : Dev Cert.KernelDuqkvIdeal.nD → PrngReg)
    (m' : (ℓ : Loc Cert.ReferenceDuqkvIdeal.nD Cert.ReferenceDuqkvIdeal.τ Cert.ReferenceDuqkvIdeal.sig) → Buf (Elt Ideal) ℓ) (g' : Dev Cert.ReferenceDuqkvIdeal.nD → PrngReg), Pre_KernelDuqkvIdeal m →
    (∀ c : Dev Cert.KernelDuqkvIdeal.nD,
      m' ((c.tc : Thread Cert.ReferenceDuqkvIdeal.nD Cert.ReferenceDuqkvIdeal.τ).loc Cert.ReferenceDuqkvIdeal.main_arg0) = m ((c.tc : Thread Cert.KernelDuqkvIdeal.nD Cert.KernelDuqkvIdeal.τ).loc Cert.KernelDuqkvIdeal.main_arg0)
      ∧ m' ((c.tc : Thread Cert.ReferenceDuqkvIdeal.nD Cert.ReferenceDuqkvIdeal.τ).loc Cert.ReferenceDuqkvIdeal.main_arg1) = m ((c.tc : Thread Cert.KernelDuqkvIdeal.nD Cert.KernelDuqkvIdeal.τ).loc Cert.KernelDuqkvIdeal.main_arg1)) →
    ∃ (v0 : (c : Dev Cert.KernelDuqkvIdeal.nD) → Buf (Elt Ideal) ((c.tc : Thread Cert.KernelDuqkvIdeal.nD Cert.KernelDuqkvIdeal.τ).loc Cert.KernelDuqkvIdeal.main_v5)),
      θ_run (Cert.KernelDuqkvIdeal.defs (F := Ideal)) (onTc (τ := Cert.KernelDuqkvIdeal.τ) (Cert.KernelDuqkvIdeal.main (F := Ideal))) ⟨m, fun _ => 0, g⟩ (fun r => ∀ c : Dev Cert.KernelDuqkvIdeal.nD,
          r.2.mem ((c.tc : Thread Cert.KernelDuqkvIdeal.nD Cert.KernelDuqkvIdeal.τ).loc Cert.KernelDuqkvIdeal.main_v5) = v0 c
          ∧ r.2.mem ((c.tc : Thread Cert.KernelDuqkvIdeal.nD Cert.KernelDuqkvIdeal.τ).loc Cert.KernelDuqkvIdeal.main_arg0) = m ((c.tc : Thread Cert.KernelDuqkvIdeal.nD Cert.KernelDuqkvIdeal.τ).loc Cert.KernelDuqkvIdeal.main_arg0)
          ∧ r.2.mem ((c.tc : Thread Cert.KernelDuqkvIdeal.nD Cert.KernelDuqkvIdeal.τ).loc Cert.KernelDuqkvIdeal.main_arg1) = m ((c.tc : Thread Cert.KernelDuqkvIdeal.nD Cert.KernelDuqkvIdeal.τ).loc Cert.KernelDuqkvIdeal.main_arg1))
      ∧ θ_run (Cert.ReferenceDuqkvIdeal.defs (F := Ideal)) (onTc (τ := Cert.ReferenceDuqkvIdeal.τ) (Cert.ReferenceDuqkvIdeal.main (F := Ideal))) ⟨m', fun _ => 0, g'⟩ (fun r => ∀ c : Dev Cert.ReferenceDuqkvIdeal.nD,
          r.2.mem ((c.tc : Thread Cert.ReferenceDuqkvIdeal.nD Cert.ReferenceDuqkvIdeal.τ).loc Cert.ReferenceDuqkvIdeal.main_v3) = v0 c
          ∧ r.2.mem ((c.tc : Thread Cert.ReferenceDuqkvIdeal.nD Cert.ReferenceDuqkvIdeal.τ).loc Cert.ReferenceDuqkvIdeal.main_arg0) = m' ((c.tc : Thread Cert.ReferenceDuqkvIdeal.nD Cert.ReferenceDuqkvIdeal.τ).loc Cert.ReferenceDuqkvIdeal.main_arg0)
          ∧ r.2.mem ((c.tc : Thread Cert.ReferenceDuqkvIdeal.nD Cert.ReferenceDuqkvIdeal.τ).loc Cert.ReferenceDuqkvIdeal.main_arg1) = m' ((c.tc : Thread Cert.ReferenceDuqkvIdeal.nD Cert.ReferenceDuqkvIdeal.τ).loc Cert.ReferenceDuqkvIdeal.main_arg1))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)) →
    ∃ (v0 : (c : Dev Cert.KernelGateIdeal.nD) → Buf (Elt Ideal) ((c.tc : Thread Cert.KernelGateIdeal.nD Cert.KernelGateIdeal.τ).loc Cert.KernelGateIdeal.main_v3)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v3) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v1) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)) →
    ∃ (v0 : (c : Dev Cert.KernelProjIdeal.nD) → Buf (Elt Ideal) ((c.tc : Thread Cert.KernelProjIdeal.nD Cert.KernelProjIdeal.τ).loc Cert.KernelProjIdeal.main_v4_0)) (v1 : (c : Dev Cert.KernelProjIdeal.nD) → Buf (Elt Ideal) ((c.tc : Thread Cert.KernelProjIdeal.nD Cert.KernelProjIdeal.τ).loc Cert.KernelProjIdeal.main_v4_1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v4_0) = v0 c
          ∧ r.2.mem ((c.tc : Thread Cert.KernelProjIdeal.nD Cert.KernelProjIdeal.τ).loc Cert.KernelProjIdeal.main_v4_1) = v1 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v8) = v0 c
          ∧ r.2.mem ((c.tc : Thread Cert.ReferenceProjIdeal.nD Cert.ReferenceProjIdeal.τ).loc Cert.ReferenceProjIdeal.main_v9) = v1 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3))

def preserves_KernelDwproj_KernelDwprojIdeal : Prop :=
  True

def algebraic_KernelDwprojIdeal_ReferenceDwprojIdeal [hKernelDwprojIdeal : Cert.KernelDwprojIdeal.Facts] [hReferenceDwprojIdeal : Cert.ReferenceDwprojIdeal.Facts] : Prop :=
  ∀ (m : (ℓ : Loc Cert.KernelDwprojIdeal.nD Cert.KernelDwprojIdeal.τ Cert.KernelDwprojIdeal.sig) → Buf (Elt Ideal) ℓ) (g : Dev Cert.KernelDwprojIdeal.nD → PrngReg)
    (m' : (ℓ : Loc Cert.ReferenceDwprojIdeal.nD Cert.ReferenceDwprojIdeal.τ Cert.ReferenceDwprojIdeal.sig) → Buf (Elt Ideal) ℓ) (g' : Dev Cert.ReferenceDwprojIdeal.nD → PrngReg), Pre_KernelDwprojIdeal m →
    (∀ c : Dev Cert.KernelDwprojIdeal.nD,
      m' ((c.tc : Thread Cert.ReferenceDwprojIdeal.nD Cert.ReferenceDwprojIdeal.τ).loc Cert.ReferenceDwprojIdeal.main_arg0) = m ((c.tc : Thread Cert.KernelDwprojIdeal.nD Cert.KernelDwprojIdeal.τ).loc Cert.KernelDwprojIdeal.main_arg0)
      ∧ m' ((c.tc : Thread Cert.ReferenceDwprojIdeal.nD Cert.ReferenceDwprojIdeal.τ).loc Cert.ReferenceDwprojIdeal.main_arg1) = m ((c.tc : Thread Cert.KernelDwprojIdeal.nD Cert.KernelDwprojIdeal.τ).loc Cert.KernelDwprojIdeal.main_arg1)) →
    ∃ (v0 : (c : Dev Cert.KernelDwprojIdeal.nD) → Buf (Elt Ideal) ((c.tc : Thread Cert.KernelDwprojIdeal.nD Cert.KernelDwprojIdeal.τ).loc Cert.KernelDwprojIdeal.main_v0)),
      θ_run (Cert.KernelDwprojIdeal.defs (F := Ideal)) (onTc (τ := Cert.KernelDwprojIdeal.τ) (Cert.KernelDwprojIdeal.main (F := Ideal))) ⟨m, fun _ => 0, g⟩ (fun r => ∀ c : Dev Cert.KernelDwprojIdeal.nD,
          r.2.mem ((c.tc : Thread Cert.KernelDwprojIdeal.nD Cert.KernelDwprojIdeal.τ).loc Cert.KernelDwprojIdeal.main_v0) = v0 c
          ∧ r.2.mem ((c.tc : Thread Cert.KernelDwprojIdeal.nD Cert.KernelDwprojIdeal.τ).loc Cert.KernelDwprojIdeal.main_arg0) = m ((c.tc : Thread Cert.KernelDwprojIdeal.nD Cert.KernelDwprojIdeal.τ).loc Cert.KernelDwprojIdeal.main_arg0)
          ∧ r.2.mem ((c.tc : Thread Cert.KernelDwprojIdeal.nD Cert.KernelDwprojIdeal.τ).loc Cert.KernelDwprojIdeal.main_arg1) = m ((c.tc : Thread Cert.KernelDwprojIdeal.nD Cert.KernelDwprojIdeal.τ).loc Cert.KernelDwprojIdeal.main_arg1))
      ∧ θ_run (Cert.ReferenceDwprojIdeal.defs (F := Ideal)) (onTc (τ := Cert.ReferenceDwprojIdeal.τ) (Cert.ReferenceDwprojIdeal.main (F := Ideal))) ⟨m', fun _ => 0, g'⟩ (fun r => ∀ c : Dev Cert.ReferenceDwprojIdeal.nD,
          r.2.mem ((c.tc : Thread Cert.ReferenceDwprojIdeal.nD Cert.ReferenceDwprojIdeal.τ).loc Cert.ReferenceDwprojIdeal.main_v7) = v0 c
          ∧ r.2.mem ((c.tc : Thread Cert.ReferenceDwprojIdeal.nD Cert.ReferenceDwprojIdeal.τ).loc Cert.ReferenceDwprojIdeal.main_arg0) = m' ((c.tc : Thread Cert.ReferenceDwprojIdeal.nD Cert.ReferenceDwprojIdeal.τ).loc Cert.ReferenceDwprojIdeal.main_arg0)
          ∧ r.2.mem ((c.tc : Thread Cert.ReferenceDwprojIdeal.nD Cert.ReferenceDwprojIdeal.τ).loc Cert.ReferenceDwprojIdeal.main_arg1) = m' ((c.tc : Thread Cert.ReferenceDwprojIdeal.nD Cert.ReferenceDwprojIdeal.τ).loc Cert.ReferenceDwprojIdeal.main_arg1))

def preserves_KernelPw1_KernelPw1Ideal : Prop :=
  True

def algebraic_KernelPw1Ideal_ReferencePw1Ideal [hKernelPw1Ideal : Cert.KernelPw1Ideal.Facts] [hReferencePw1Ideal : Cert.ReferencePw1Ideal.Facts] : Prop :=
  ∀ (m : (ℓ : Loc Cert.KernelPw1Ideal.nD Cert.KernelPw1Ideal.τ Cert.KernelPw1Ideal.sig) → Buf (Elt Ideal) ℓ) (g : Dev Cert.KernelPw1Ideal.nD → PrngReg)
    (m' : (ℓ : Loc Cert.ReferencePw1Ideal.nD Cert.ReferencePw1Ideal.τ Cert.ReferencePw1Ideal.sig) → Buf (Elt Ideal) ℓ) (g' : Dev Cert.ReferencePw1Ideal.nD → PrngReg), Pre_KernelPw1Ideal m →
    (∀ c : Dev Cert.KernelPw1Ideal.nD,
      m' ((c.tc : Thread Cert.ReferencePw1Ideal.nD Cert.ReferencePw1Ideal.τ).loc Cert.ReferencePw1Ideal.main_arg0) = m ((c.tc : Thread Cert.KernelPw1Ideal.nD Cert.KernelPw1Ideal.τ).loc Cert.KernelPw1Ideal.main_arg0)
      ∧ m' ((c.tc : Thread Cert.ReferencePw1Ideal.nD Cert.ReferencePw1Ideal.τ).loc Cert.ReferencePw1Ideal.main_arg1) = m ((c.tc : Thread Cert.KernelPw1Ideal.nD Cert.KernelPw1Ideal.τ).loc Cert.KernelPw1Ideal.main_arg1)
      ∧ m' ((c.tc : Thread Cert.ReferencePw1Ideal.nD Cert.ReferencePw1Ideal.τ).loc Cert.ReferencePw1Ideal.main_arg2) = m ((c.tc : Thread Cert.KernelPw1Ideal.nD Cert.KernelPw1Ideal.τ).loc Cert.KernelPw1Ideal.main_arg2)) →
    ∃ (v0 : (c : Dev Cert.KernelPw1Ideal.nD) → Buf (Elt Ideal) ((c.tc : Thread Cert.KernelPw1Ideal.nD Cert.KernelPw1Ideal.τ).loc Cert.KernelPw1Ideal.main_v5)),
      θ_run (Cert.KernelPw1Ideal.defs (F := Ideal)) (onTc (τ := Cert.KernelPw1Ideal.τ) (Cert.KernelPw1Ideal.main (F := Ideal))) ⟨m, fun _ => 0, g⟩ (fun r => ∀ c : Dev Cert.KernelPw1Ideal.nD,
          r.2.mem ((c.tc : Thread Cert.KernelPw1Ideal.nD Cert.KernelPw1Ideal.τ).loc Cert.KernelPw1Ideal.main_v5) = v0 c
          ∧ r.2.mem ((c.tc : Thread Cert.KernelPw1Ideal.nD Cert.KernelPw1Ideal.τ).loc Cert.KernelPw1Ideal.main_arg0) = m ((c.tc : Thread Cert.KernelPw1Ideal.nD Cert.KernelPw1Ideal.τ).loc Cert.KernelPw1Ideal.main_arg0)
          ∧ r.2.mem ((c.tc : Thread Cert.KernelPw1Ideal.nD Cert.KernelPw1Ideal.τ).loc Cert.KernelPw1Ideal.main_arg1) = m ((c.tc : Thread Cert.KernelPw1Ideal.nD Cert.KernelPw1Ideal.τ).loc Cert.KernelPw1Ideal.main_arg1)
          ∧ r.2.mem ((c.tc : Thread Cert.KernelPw1Ideal.nD Cert.KernelPw1Ideal.τ).loc Cert.KernelPw1Ideal.main_arg2) = m ((c.tc : Thread Cert.KernelPw1Ideal.nD Cert.KernelPw1Ideal.τ).loc Cert.KernelPw1Ideal.main_arg2))
      ∧ θ_run (Cert.ReferencePw1Ideal.defs (F := Ideal)) (onTc (τ := Cert.ReferencePw1Ideal.τ) (Cert.ReferencePw1Ideal.main (F := Ideal))) ⟨m', fun _ => 0, g'⟩ (fun r => ∀ c : Dev Cert.ReferencePw1Ideal.nD,
          r.2.mem ((c.tc : Thread Cert.ReferencePw1Ideal.nD Cert.ReferencePw1Ideal.τ).loc Cert.ReferencePw1Ideal.main_v4) = v0 c
          ∧ r.2.mem ((c.tc : Thread Cert.ReferencePw1Ideal.nD Cert.ReferencePw1Ideal.τ).loc Cert.ReferencePw1Ideal.main_arg0) = m' ((c.tc : Thread Cert.ReferencePw1Ideal.nD Cert.ReferencePw1Ideal.τ).loc Cert.ReferencePw1Ideal.main_arg0)
          ∧ r.2.mem ((c.tc : Thread Cert.ReferencePw1Ideal.nD Cert.ReferencePw1Ideal.τ).loc Cert.ReferencePw1Ideal.main_arg1) = m' ((c.tc : Thread Cert.ReferencePw1Ideal.nD Cert.ReferencePw1Ideal.τ).loc Cert.ReferencePw1Ideal.main_arg1)
          ∧ r.2.mem ((c.tc : Thread Cert.ReferencePw1Ideal.nD Cert.ReferencePw1Ideal.τ).loc Cert.ReferencePw1Ideal.main_arg2) = m' ((c.tc : Thread Cert.ReferencePw1Ideal.nD Cert.ReferencePw1Ideal.τ).loc Cert.ReferencePw1Ideal.main_arg2))

def preserves_KernelPw2_KernelPw2Ideal : Prop :=
  True

def algebraic_KernelPw2Ideal_ReferencePw2Ideal [hKernelPw2Ideal : Cert.KernelPw2Ideal.Facts] [hReferencePw2Ideal : Cert.ReferencePw2Ideal.Facts] : Prop :=
  ∀ (m : (ℓ : Loc Cert.KernelPw2Ideal.nD Cert.KernelPw2Ideal.τ Cert.KernelPw2Ideal.sig) → Buf (Elt Ideal) ℓ) (g : Dev Cert.KernelPw2Ideal.nD → PrngReg)
    (m' : (ℓ : Loc Cert.ReferencePw2Ideal.nD Cert.ReferencePw2Ideal.τ Cert.ReferencePw2Ideal.sig) → Buf (Elt Ideal) ℓ) (g' : Dev Cert.ReferencePw2Ideal.nD → PrngReg), Pre_KernelPw2Ideal m →
    (∀ c : Dev Cert.KernelPw2Ideal.nD,
      m' ((c.tc : Thread Cert.ReferencePw2Ideal.nD Cert.ReferencePw2Ideal.τ).loc Cert.ReferencePw2Ideal.main_arg0) = m ((c.tc : Thread Cert.KernelPw2Ideal.nD Cert.KernelPw2Ideal.τ).loc Cert.KernelPw2Ideal.main_arg0)
      ∧ m' ((c.tc : Thread Cert.ReferencePw2Ideal.nD Cert.ReferencePw2Ideal.τ).loc Cert.ReferencePw2Ideal.main_arg1) = m ((c.tc : Thread Cert.KernelPw2Ideal.nD Cert.KernelPw2Ideal.τ).loc Cert.KernelPw2Ideal.main_arg1)
      ∧ m' ((c.tc : Thread Cert.ReferencePw2Ideal.nD Cert.ReferencePw2Ideal.τ).loc Cert.ReferencePw2Ideal.main_arg2) = m ((c.tc : Thread Cert.KernelPw2Ideal.nD Cert.KernelPw2Ideal.τ).loc Cert.KernelPw2Ideal.main_arg2)
      ∧ m' ((c.tc : Thread Cert.ReferencePw2Ideal.nD Cert.ReferencePw2Ideal.τ).loc Cert.ReferencePw2Ideal.main_arg3) = m ((c.tc : Thread Cert.KernelPw2Ideal.nD Cert.KernelPw2Ideal.τ).loc Cert.KernelPw2Ideal.main_arg3)) →
    ∃ (v0 : (c : Dev Cert.KernelPw2Ideal.nD) → Buf (Elt Ideal) ((c.tc : Thread Cert.KernelPw2Ideal.nD Cert.KernelPw2Ideal.τ).loc Cert.KernelPw2Ideal.main_v4)),
      θ_run (Cert.KernelPw2Ideal.defs (F := Ideal)) (onTc (τ := Cert.KernelPw2Ideal.τ) (Cert.KernelPw2Ideal.main (F := Ideal))) ⟨m, fun _ => 0, g⟩ (fun r => ∀ c : Dev Cert.KernelPw2Ideal.nD,
          r.2.mem ((c.tc : Thread Cert.KernelPw2Ideal.nD Cert.KernelPw2Ideal.τ).loc Cert.KernelPw2Ideal.main_v4) = v0 c
          ∧ r.2.mem ((c.tc : Thread Cert.KernelPw2Ideal.nD Cert.KernelPw2Ideal.τ).loc Cert.KernelPw2Ideal.main_arg0) = m ((c.tc : Thread Cert.KernelPw2Ideal.nD Cert.KernelPw2Ideal.τ).loc Cert.KernelPw2Ideal.main_arg0)
          ∧ r.2.mem ((c.tc : Thread Cert.KernelPw2Ideal.nD Cert.KernelPw2Ideal.τ).loc Cert.KernelPw2Ideal.main_arg1) = m ((c.tc : Thread Cert.KernelPw2Ideal.nD Cert.KernelPw2Ideal.τ).loc Cert.KernelPw2Ideal.main_arg1)
          ∧ r.2.mem ((c.tc : Thread Cert.KernelPw2Ideal.nD Cert.KernelPw2Ideal.τ).loc Cert.KernelPw2Ideal.main_arg2) = m ((c.tc : Thread Cert.KernelPw2Ideal.nD Cert.KernelPw2Ideal.τ).loc Cert.KernelPw2Ideal.main_arg2)
          ∧ r.2.mem ((c.tc : Thread Cert.KernelPw2Ideal.nD Cert.KernelPw2Ideal.τ).loc Cert.KernelPw2Ideal.main_arg3) = m ((c.tc : Thread Cert.KernelPw2Ideal.nD Cert.KernelPw2Ideal.τ).loc Cert.KernelPw2Ideal.main_arg3))
      ∧ θ_run (Cert.ReferencePw2Ideal.defs (F := Ideal)) (onTc (τ := Cert.ReferencePw2Ideal.τ) (Cert.ReferencePw2Ideal.main (F := Ideal))) ⟨m', fun _ => 0, g'⟩ (fun r => ∀ c : Dev Cert.ReferencePw2Ideal.nD,
          r.2.mem ((c.tc : Thread Cert.ReferencePw2Ideal.nD Cert.ReferencePw2Ideal.τ).loc Cert.ReferencePw2Ideal.main_v5) = v0 c
          ∧ r.2.mem ((c.tc : Thread Cert.ReferencePw2Ideal.nD Cert.ReferencePw2Ideal.τ).loc Cert.ReferencePw2Ideal.main_arg0) = m' ((c.tc : Thread Cert.ReferencePw2Ideal.nD Cert.ReferencePw2Ideal.τ).loc Cert.ReferencePw2Ideal.main_arg0)
          ∧ r.2.mem ((c.tc : Thread Cert.ReferencePw2Ideal.nD Cert.ReferencePw2Ideal.τ).loc Cert.ReferencePw2Ideal.main_arg1) = m' ((c.tc : Thread Cert.ReferencePw2Ideal.nD Cert.ReferencePw2Ideal.τ).loc Cert.ReferencePw2Ideal.main_arg1)
          ∧ r.2.mem ((c.tc : Thread Cert.ReferencePw2Ideal.nD Cert.ReferencePw2Ideal.τ).loc Cert.ReferencePw2Ideal.main_arg2) = m' ((c.tc : Thread Cert.ReferencePw2Ideal.nD Cert.ReferencePw2Ideal.τ).loc Cert.ReferencePw2Ideal.main_arg2)
          ∧ r.2.mem ((c.tc : Thread Cert.ReferencePw2Ideal.nD Cert.ReferencePw2Ideal.τ).loc Cert.ReferencePw2Ideal.main_arg3) = m' ((c.tc : Thread Cert.ReferencePw2Ideal.nD Cert.ReferencePw2Ideal.τ).loc Cert.ReferencePw2Ideal.main_arg3))

def preserves_KernelDwpw1_KernelDwpw1Ideal : Prop :=
  True

def algebraic_KernelDwpw1Ideal_ReferenceDwpw1Ideal [hKernelDwpw1Ideal : Cert.KernelDwpw1Ideal.Facts] [hReferenceDwpw1Ideal : Cert.ReferenceDwpw1Ideal.Facts] : Prop :=
  ∀ (m : (ℓ : Loc Cert.KernelDwpw1Ideal.nD Cert.KernelDwpw1Ideal.τ Cert.KernelDwpw1Ideal.sig) → Buf (Elt Ideal) ℓ) (g : Dev Cert.KernelDwpw1Ideal.nD → PrngReg)
    (m' : (ℓ : Loc Cert.ReferenceDwpw1Ideal.nD Cert.ReferenceDwpw1Ideal.τ Cert.ReferenceDwpw1Ideal.sig) → Buf (Elt Ideal) ℓ) (g' : Dev Cert.ReferenceDwpw1Ideal.nD → PrngReg), Pre_KernelDwpw1Ideal m →
    (∀ c : Dev Cert.KernelDwpw1Ideal.nD,
      m' ((c.tc : Thread Cert.ReferenceDwpw1Ideal.nD Cert.ReferenceDwpw1Ideal.τ).loc Cert.ReferenceDwpw1Ideal.main_arg0) = m ((c.tc : Thread Cert.KernelDwpw1Ideal.nD Cert.KernelDwpw1Ideal.τ).loc Cert.KernelDwpw1Ideal.main_arg0)
      ∧ m' ((c.tc : Thread Cert.ReferenceDwpw1Ideal.nD Cert.ReferenceDwpw1Ideal.τ).loc Cert.ReferenceDwpw1Ideal.main_arg1) = m ((c.tc : Thread Cert.KernelDwpw1Ideal.nD Cert.KernelDwpw1Ideal.τ).loc Cert.KernelDwpw1Ideal.main_arg1)) →
    ∃ (v0 : (c : Dev Cert.KernelDwpw1Ideal.nD) → Buf (Elt Ideal) ((c.tc : Thread Cert.KernelDwpw1Ideal.nD Cert.KernelDwpw1Ideal.τ).loc Cert.KernelDwpw1Ideal.main_v0)),
      θ_run (Cert.KernelDwpw1Ideal.defs (F := Ideal)) (onTc (τ := Cert.KernelDwpw1Ideal.τ) (Cert.KernelDwpw1Ideal.main (F := Ideal))) ⟨m, fun _ => 0, g⟩ (fun r => ∀ c : Dev Cert.KernelDwpw1Ideal.nD,
          r.2.mem ((c.tc : Thread Cert.KernelDwpw1Ideal.nD Cert.KernelDwpw1Ideal.τ).loc Cert.KernelDwpw1Ideal.main_v0) = v0 c
          ∧ r.2.mem ((c.tc : Thread Cert.KernelDwpw1Ideal.nD Cert.KernelDwpw1Ideal.τ).loc Cert.KernelDwpw1Ideal.main_arg0) = m ((c.tc : Thread Cert.KernelDwpw1Ideal.nD Cert.KernelDwpw1Ideal.τ).loc Cert.KernelDwpw1Ideal.main_arg0)
          ∧ r.2.mem ((c.tc : Thread Cert.KernelDwpw1Ideal.nD Cert.KernelDwpw1Ideal.τ).loc Cert.KernelDwpw1Ideal.main_arg1) = m ((c.tc : Thread Cert.KernelDwpw1Ideal.nD Cert.KernelDwpw1Ideal.τ).loc Cert.KernelDwpw1Ideal.main_arg1))
      ∧ θ_run (Cert.ReferenceDwpw1Ideal.defs (F := Ideal)) (onTc (τ := Cert.ReferenceDwpw1Ideal.τ) (Cert.ReferenceDwpw1Ideal.main (F := Ideal))) ⟨m', fun _ => 0, g'⟩ (fun r => ∀ c : Dev Cert.ReferenceDwpw1Ideal.nD,
          r.2.mem ((c.tc : Thread Cert.ReferenceDwpw1Ideal.nD Cert.ReferenceDwpw1Ideal.τ).loc Cert.ReferenceDwpw1Ideal.main_v8) = v0 c
          ∧ r.2.mem ((c.tc : Thread Cert.ReferenceDwpw1Ideal.nD Cert.ReferenceDwpw1Ideal.τ).loc Cert.ReferenceDwpw1Ideal.main_arg0) = m' ((c.tc : Thread Cert.ReferenceDwpw1Ideal.nD Cert.ReferenceDwpw1Ideal.τ).loc Cert.ReferenceDwpw1Ideal.main_arg0)
          ∧ r.2.mem ((c.tc : Thread Cert.ReferenceDwpw1Ideal.nD Cert.ReferenceDwpw1Ideal.τ).loc Cert.ReferenceDwpw1Ideal.main_arg1) = m' ((c.tc : Thread Cert.ReferenceDwpw1Ideal.nD Cert.ReferenceDwpw1Ideal.τ).loc Cert.ReferenceDwpw1Ideal.main_arg1))

def preserves_KernelDupw1_KernelDupw1Ideal : Prop :=
  True

def algebraic_KernelDupw1Ideal_ReferenceDupw1Ideal [hKernelDupw1Ideal : Cert.KernelDupw1Ideal.Facts] [hReferenceDupw1Ideal : Cert.ReferenceDupw1Ideal.Facts] : Prop :=
  ∀ (m : (ℓ : Loc Cert.KernelDupw1Ideal.nD Cert.KernelDupw1Ideal.τ Cert.KernelDupw1Ideal.sig) → Buf (Elt Ideal) ℓ) (g : Dev Cert.KernelDupw1Ideal.nD → PrngReg)
    (m' : (ℓ : Loc Cert.ReferenceDupw1Ideal.nD Cert.ReferenceDupw1Ideal.τ Cert.ReferenceDupw1Ideal.sig) → Buf (Elt Ideal) ℓ) (g' : Dev Cert.ReferenceDupw1Ideal.nD → PrngReg), Pre_KernelDupw1Ideal m →
    (∀ c : Dev Cert.KernelDupw1Ideal.nD,
      m' ((c.tc : Thread Cert.ReferenceDupw1Ideal.nD Cert.ReferenceDupw1Ideal.τ).loc Cert.ReferenceDupw1Ideal.main_arg0) = m ((c.tc : Thread Cert.KernelDupw1Ideal.nD Cert.KernelDupw1Ideal.τ).loc Cert.KernelDupw1Ideal.main_arg0)
      ∧ m' ((c.tc : Thread Cert.ReferenceDupw1Ideal.nD Cert.ReferenceDupw1Ideal.τ).loc Cert.ReferenceDupw1Ideal.main_arg1) = m ((c.tc : Thread Cert.KernelDupw1Ideal.nD Cert.KernelDupw1Ideal.τ).loc Cert.KernelDupw1Ideal.main_arg1)) →
    ∃ (v0 : (c : Dev Cert.KernelDupw1Ideal.nD) → Buf (Elt Ideal) ((c.tc : Thread Cert.KernelDupw1Ideal.nD Cert.KernelDupw1Ideal.τ).loc Cert.KernelDupw1Ideal.main_v4)),
      θ_run (Cert.KernelDupw1Ideal.defs (F := Ideal)) (onTc (τ := Cert.KernelDupw1Ideal.τ) (Cert.KernelDupw1Ideal.main (F := Ideal))) ⟨m, fun _ => 0, g⟩ (fun r => ∀ c : Dev Cert.KernelDupw1Ideal.nD,
          r.2.mem ((c.tc : Thread Cert.KernelDupw1Ideal.nD Cert.KernelDupw1Ideal.τ).loc Cert.KernelDupw1Ideal.main_v4) = v0 c
          ∧ r.2.mem ((c.tc : Thread Cert.KernelDupw1Ideal.nD Cert.KernelDupw1Ideal.τ).loc Cert.KernelDupw1Ideal.main_arg0) = m ((c.tc : Thread Cert.KernelDupw1Ideal.nD Cert.KernelDupw1Ideal.τ).loc Cert.KernelDupw1Ideal.main_arg0)
          ∧ r.2.mem ((c.tc : Thread Cert.KernelDupw1Ideal.nD Cert.KernelDupw1Ideal.τ).loc Cert.KernelDupw1Ideal.main_arg1) = m ((c.tc : Thread Cert.KernelDupw1Ideal.nD Cert.KernelDupw1Ideal.τ).loc Cert.KernelDupw1Ideal.main_arg1))
      ∧ θ_run (Cert.ReferenceDupw1Ideal.defs (F := Ideal)) (onTc (τ := Cert.ReferenceDupw1Ideal.τ) (Cert.ReferenceDupw1Ideal.main (F := Ideal))) ⟨m', fun _ => 0, g'⟩ (fun r => ∀ c : Dev Cert.ReferenceDupw1Ideal.nD,
          r.2.mem ((c.tc : Thread Cert.ReferenceDupw1Ideal.nD Cert.ReferenceDupw1Ideal.τ).loc Cert.ReferenceDupw1Ideal.main_v3) = v0 c
          ∧ r.2.mem ((c.tc : Thread Cert.ReferenceDupw1Ideal.nD Cert.ReferenceDupw1Ideal.τ).loc Cert.ReferenceDupw1Ideal.main_arg0) = m' ((c.tc : Thread Cert.ReferenceDupw1Ideal.nD Cert.ReferenceDupw1Ideal.τ).loc Cert.ReferenceDupw1Ideal.main_arg0)
          ∧ r.2.mem ((c.tc : Thread Cert.ReferenceDupw1Ideal.nD Cert.ReferenceDupw1Ideal.τ).loc Cert.ReferenceDupw1Ideal.main_arg1) = m' ((c.tc : Thread Cert.ReferenceDupw1Ideal.nD Cert.ReferenceDupw1Ideal.τ).loc Cert.ReferenceDupw1Ideal.main_arg1))

def preserves_KernelInz_KernelInzIdeal : Prop :=
  True

def algebraic_KernelInzIdeal_ReferenceInzIdeal [hKernelInzIdeal : Cert.KernelInzIdeal.Facts] [hReferenceInzIdeal : Cert.ReferenceInzIdeal.Facts] : Prop :=
  ∀ (m : (ℓ : Loc Cert.KernelInzIdeal.nD Cert.KernelInzIdeal.τ Cert.KernelInzIdeal.sig) → Buf (Elt Ideal) ℓ) (g : Dev Cert.KernelInzIdeal.nD → PrngReg)
    (m' : (ℓ : Loc Cert.ReferenceInzIdeal.nD Cert.ReferenceInzIdeal.τ Cert.ReferenceInzIdeal.sig) → Buf (Elt Ideal) ℓ) (g' : Dev Cert.ReferenceInzIdeal.nD → PrngReg), Pre_KernelInzIdeal m →
    (∀ c : Dev Cert.KernelInzIdeal.nD,
      m' ((c.tc : Thread Cert.ReferenceInzIdeal.nD Cert.ReferenceInzIdeal.τ).loc Cert.ReferenceInzIdeal.main_arg0) = m ((c.tc : Thread Cert.KernelInzIdeal.nD Cert.KernelInzIdeal.τ).loc Cert.KernelInzIdeal.main_arg0)
      ∧ m' ((c.tc : Thread Cert.ReferenceInzIdeal.nD Cert.ReferenceInzIdeal.τ).loc Cert.ReferenceInzIdeal.main_arg1) = m ((c.tc : Thread Cert.KernelInzIdeal.nD Cert.KernelInzIdeal.τ).loc Cert.KernelInzIdeal.main_arg1)) →
    ∃ (v0 : (c : Dev Cert.KernelInzIdeal.nD) → Buf (Elt Ideal) ((c.tc : Thread Cert.KernelInzIdeal.nD Cert.KernelInzIdeal.τ).loc Cert.KernelInzIdeal.main_v9)),
      θ_run (Cert.KernelInzIdeal.defs (F := Ideal)) (onTc (τ := Cert.KernelInzIdeal.τ) (Cert.KernelInzIdeal.main (F := Ideal))) ⟨m, fun _ => 0, g⟩ (fun r => ∀ c : Dev Cert.KernelInzIdeal.nD,
          r.2.mem ((c.tc : Thread Cert.KernelInzIdeal.nD Cert.KernelInzIdeal.τ).loc Cert.KernelInzIdeal.main_v9) = v0 c
          ∧ r.2.mem ((c.tc : Thread Cert.KernelInzIdeal.nD Cert.KernelInzIdeal.τ).loc Cert.KernelInzIdeal.main_arg0) = m ((c.tc : Thread Cert.KernelInzIdeal.nD Cert.KernelInzIdeal.τ).loc Cert.KernelInzIdeal.main_arg0)
          ∧ r.2.mem ((c.tc : Thread Cert.KernelInzIdeal.nD Cert.KernelInzIdeal.τ).loc Cert.KernelInzIdeal.main_arg1) = m ((c.tc : Thread Cert.KernelInzIdeal.nD Cert.KernelInzIdeal.τ).loc Cert.KernelInzIdeal.main_arg1))
      ∧ θ_run (Cert.ReferenceInzIdeal.defs (F := Ideal)) (onTc (τ := Cert.ReferenceInzIdeal.τ) (Cert.ReferenceInzIdeal.main (F := Ideal))) ⟨m', fun _ => 0, g'⟩ (fun r => ∀ c : Dev Cert.ReferenceInzIdeal.nD,
          r.2.mem ((c.tc : Thread Cert.ReferenceInzIdeal.nD Cert.ReferenceInzIdeal.τ).loc Cert.ReferenceInzIdeal.main_v2) = v0 c
          ∧ r.2.mem ((c.tc : Thread Cert.ReferenceInzIdeal.nD Cert.ReferenceInzIdeal.τ).loc Cert.ReferenceInzIdeal.main_arg0) = m' ((c.tc : Thread Cert.ReferenceInzIdeal.nD Cert.ReferenceInzIdeal.τ).loc Cert.ReferenceInzIdeal.main_arg0)
          ∧ r.2.mem ((c.tc : Thread Cert.ReferenceInzIdeal.nD Cert.ReferenceInzIdeal.τ).loc Cert.ReferenceInzIdeal.main_arg1) = m' ((c.tc : Thread Cert.ReferenceInzIdeal.nD Cert.ReferenceInzIdeal.τ).loc Cert.ReferenceInzIdeal.main_arg1))

def preserves_KernelInxbc_KernelInxbcIdeal : Prop :=
  True

def algebraic_KernelInxbcIdeal_ReferenceInxbcIdeal [hKernelInxbcIdeal : Cert.KernelInxbcIdeal.Facts] [hReferenceInxbcIdeal : Cert.ReferenceInxbcIdeal.Facts] : Prop :=
  ∀ (m : (ℓ : Loc Cert.KernelInxbcIdeal.nD Cert.KernelInxbcIdeal.τ Cert.KernelInxbcIdeal.sig) → Buf (Elt Ideal) ℓ) (g : Dev Cert.KernelInxbcIdeal.nD → PrngReg)
    (m' : (ℓ : Loc Cert.ReferenceInxbcIdeal.nD Cert.ReferenceInxbcIdeal.τ Cert.ReferenceInxbcIdeal.sig) → Buf (Elt Ideal) ℓ) (g' : Dev Cert.ReferenceInxbcIdeal.nD → PrngReg), Pre_KernelInxbcIdeal m →
    (∀ c : Dev Cert.KernelInxbcIdeal.nD,
      m' ((c.tc : Thread Cert.ReferenceInxbcIdeal.nD Cert.ReferenceInxbcIdeal.τ).loc Cert.ReferenceInxbcIdeal.main_arg0) = m ((c.tc : Thread Cert.KernelInxbcIdeal.nD Cert.KernelInxbcIdeal.τ).loc Cert.KernelInxbcIdeal.main_arg0)
      ∧ m' ((c.tc : Thread Cert.ReferenceInxbcIdeal.nD Cert.ReferenceInxbcIdeal.τ).loc Cert.ReferenceInxbcIdeal.main_arg1) = m ((c.tc : Thread Cert.KernelInxbcIdeal.nD Cert.KernelInxbcIdeal.τ).loc Cert.KernelInxbcIdeal.main_arg1)) →
    ∃ (v0 : (c : Dev Cert.KernelInxbcIdeal.nD) → Buf (Elt Ideal) ((c.tc : Thread Cert.KernelInxbcIdeal.nD Cert.KernelInxbcIdeal.τ).loc Cert.KernelInxbcIdeal.main_v9)),
      θ_run (Cert.KernelInxbcIdeal.defs (F := Ideal)) (onTc (τ := Cert.KernelInxbcIdeal.τ) (Cert.KernelInxbcIdeal.main (F := Ideal))) ⟨m, fun _ => 0, g⟩ (fun r => ∀ c : Dev Cert.KernelInxbcIdeal.nD,
          r.2.mem ((c.tc : Thread Cert.KernelInxbcIdeal.nD Cert.KernelInxbcIdeal.τ).loc Cert.KernelInxbcIdeal.main_v9) = v0 c
          ∧ r.2.mem ((c.tc : Thread Cert.KernelInxbcIdeal.nD Cert.KernelInxbcIdeal.τ).loc Cert.KernelInxbcIdeal.main_arg0) = m ((c.tc : Thread Cert.KernelInxbcIdeal.nD Cert.KernelInxbcIdeal.τ).loc Cert.KernelInxbcIdeal.main_arg0)
          ∧ r.2.mem ((c.tc : Thread Cert.KernelInxbcIdeal.nD Cert.KernelInxbcIdeal.τ).loc Cert.KernelInxbcIdeal.main_arg1) = m ((c.tc : Thread Cert.KernelInxbcIdeal.nD Cert.KernelInxbcIdeal.τ).loc Cert.KernelInxbcIdeal.main_arg1))
      ∧ θ_run (Cert.ReferenceInxbcIdeal.defs (F := Ideal)) (onTc (τ := Cert.ReferenceInxbcIdeal.τ) (Cert.ReferenceInxbcIdeal.main (F := Ideal))) ⟨m', fun _ => 0, g'⟩ (fun r => ∀ c : Dev Cert.ReferenceInxbcIdeal.nD,
          r.2.mem ((c.tc : Thread Cert.ReferenceInxbcIdeal.nD Cert.ReferenceInxbcIdeal.τ).loc Cert.ReferenceInxbcIdeal.main_v2) = v0 c
          ∧ r.2.mem ((c.tc : Thread Cert.ReferenceInxbcIdeal.nD Cert.ReferenceInxbcIdeal.τ).loc Cert.ReferenceInxbcIdeal.main_arg0) = m' ((c.tc : Thread Cert.ReferenceInxbcIdeal.nD Cert.ReferenceInxbcIdeal.τ).loc Cert.ReferenceInxbcIdeal.main_arg0)
          ∧ r.2.mem ((c.tc : Thread Cert.ReferenceInxbcIdeal.nD Cert.ReferenceInxbcIdeal.τ).loc Cert.ReferenceInxbcIdeal.main_arg1) = m' ((c.tc : Thread Cert.ReferenceInxbcIdeal.nD Cert.ReferenceInxbcIdeal.τ).loc Cert.ReferenceInxbcIdeal.main_arg1))

def preserves_KernelIndt_KernelIndtIdeal : Prop :=
  True

def algebraic_KernelIndtIdeal_ReferenceIndtIdeal [hKernelIndtIdeal : Cert.KernelIndtIdeal.Facts] [hReferenceIndtIdeal : Cert.ReferenceIndtIdeal.Facts] : Prop :=
  ∀ (m : (ℓ : Loc Cert.KernelIndtIdeal.nD Cert.KernelIndtIdeal.τ Cert.KernelIndtIdeal.sig) → Buf (Elt Ideal) ℓ) (g : Dev Cert.KernelIndtIdeal.nD → PrngReg)
    (m' : (ℓ : Loc Cert.ReferenceIndtIdeal.nD Cert.ReferenceIndtIdeal.τ Cert.ReferenceIndtIdeal.sig) → Buf (Elt Ideal) ℓ) (g' : Dev Cert.ReferenceIndtIdeal.nD → PrngReg), Pre_KernelIndtIdeal m →
    (∀ c : Dev Cert.KernelIndtIdeal.nD,
      m' ((c.tc : Thread Cert.ReferenceIndtIdeal.nD Cert.ReferenceIndtIdeal.τ).loc Cert.ReferenceIndtIdeal.main_arg0) = m ((c.tc : Thread Cert.KernelIndtIdeal.nD Cert.KernelIndtIdeal.τ).loc Cert.KernelIndtIdeal.main_arg0)
      ∧ m' ((c.tc : Thread Cert.ReferenceIndtIdeal.nD Cert.ReferenceIndtIdeal.τ).loc Cert.ReferenceIndtIdeal.main_arg1) = m ((c.tc : Thread Cert.KernelIndtIdeal.nD Cert.KernelIndtIdeal.τ).loc Cert.KernelIndtIdeal.main_arg1)) →
    ∃ (v0 : (c : Dev Cert.KernelIndtIdeal.nD) → Buf (Elt Ideal) ((c.tc : Thread Cert.KernelIndtIdeal.nD Cert.KernelIndtIdeal.τ).loc Cert.KernelIndtIdeal.main_v9)),
      θ_run (Cert.KernelIndtIdeal.defs (F := Ideal)) (onTc (τ := Cert.KernelIndtIdeal.τ) (Cert.KernelIndtIdeal.main (F := Ideal))) ⟨m, fun _ => 0, g⟩ (fun r => ∀ c : Dev Cert.KernelIndtIdeal.nD,
          r.2.mem ((c.tc : Thread Cert.KernelIndtIdeal.nD Cert.KernelIndtIdeal.τ).loc Cert.KernelIndtIdeal.main_v9) = v0 c
          ∧ r.2.mem ((c.tc : Thread Cert.KernelIndtIdeal.nD Cert.KernelIndtIdeal.τ).loc Cert.KernelIndtIdeal.main_arg0) = m ((c.tc : Thread Cert.KernelIndtIdeal.nD Cert.KernelIndtIdeal.τ).loc Cert.KernelIndtIdeal.main_arg0)
          ∧ r.2.mem ((c.tc : Thread Cert.KernelIndtIdeal.nD Cert.KernelIndtIdeal.τ).loc Cert.KernelIndtIdeal.main_arg1) = m ((c.tc : Thread Cert.KernelIndtIdeal.nD Cert.KernelIndtIdeal.τ).loc Cert.KernelIndtIdeal.main_arg1))
      ∧ θ_run (Cert.ReferenceIndtIdeal.defs (F := Ideal)) (onTc (τ := Cert.ReferenceIndtIdeal.τ) (Cert.ReferenceIndtIdeal.main (F := Ideal))) ⟨m', fun _ => 0, g'⟩ (fun r => ∀ c : Dev Cert.ReferenceIndtIdeal.nD,
          r.2.mem ((c.tc : Thread Cert.ReferenceIndtIdeal.nD Cert.ReferenceIndtIdeal.τ).loc Cert.ReferenceIndtIdeal.main_v3) = v0 c
          ∧ r.2.mem ((c.tc : Thread Cert.ReferenceIndtIdeal.nD Cert.ReferenceIndtIdeal.τ).loc Cert.ReferenceIndtIdeal.main_arg0) = m' ((c.tc : Thread Cert.ReferenceIndtIdeal.nD Cert.ReferenceIndtIdeal.τ).loc Cert.ReferenceIndtIdeal.main_arg0)
          ∧ r.2.mem ((c.tc : Thread Cert.ReferenceIndtIdeal.nD Cert.ReferenceIndtIdeal.τ).loc Cert.ReferenceIndtIdeal.main_arg1) = m' ((c.tc : Thread Cert.ReferenceIndtIdeal.nD Cert.ReferenceIndtIdeal.τ).loc Cert.ReferenceIndtIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v3)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v3) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelDyn_KernelDynIdeal : Prop :=
  True

def algebraic_KernelDynIdeal_ReferenceDynIdeal [hKernelDynIdeal : Cert.KernelDynIdeal.Facts] [hReferenceDynIdeal : Cert.ReferenceDynIdeal.Facts] : Prop :=
  ∀ (m : (ℓ : Loc Cert.KernelDynIdeal.nD Cert.KernelDynIdeal.τ Cert.KernelDynIdeal.sig) → Buf (Elt Ideal) ℓ) (g : Dev Cert.KernelDynIdeal.nD → PrngReg)
    (m' : (ℓ : Loc Cert.ReferenceDynIdeal.nD Cert.ReferenceDynIdeal.τ Cert.ReferenceDynIdeal.sig) → Buf (Elt Ideal) ℓ) (g' : Dev Cert.ReferenceDynIdeal.nD → PrngReg), Pre_KernelDynIdeal m →
    (∀ c : Dev Cert.KernelDynIdeal.nD,
      m' ((c.tc : Thread Cert.ReferenceDynIdeal.nD Cert.ReferenceDynIdeal.τ).loc Cert.ReferenceDynIdeal.main_arg0) = m ((c.tc : Thread Cert.KernelDynIdeal.nD Cert.KernelDynIdeal.τ).loc Cert.KernelDynIdeal.main_arg0)
      ∧ m' ((c.tc : Thread Cert.ReferenceDynIdeal.nD Cert.ReferenceDynIdeal.τ).loc Cert.ReferenceDynIdeal.main_arg1) = m ((c.tc : Thread Cert.KernelDynIdeal.nD Cert.KernelDynIdeal.τ).loc Cert.KernelDynIdeal.main_arg1)) →
    ∃ (v0 : (c : Dev Cert.KernelDynIdeal.nD) → Buf (Elt Ideal) ((c.tc : Thread Cert.KernelDynIdeal.nD Cert.KernelDynIdeal.τ).loc Cert.KernelDynIdeal.main_v3)),
      θ_run (Cert.KernelDynIdeal.defs (F := Ideal)) (onTc (τ := Cert.KernelDynIdeal.τ) (Cert.KernelDynIdeal.main (F := Ideal))) ⟨m, fun _ => 0, g⟩ (fun r => ∀ c : Dev Cert.KernelDynIdeal.nD,
          r.2.mem ((c.tc : Thread Cert.KernelDynIdeal.nD Cert.KernelDynIdeal.τ).loc Cert.KernelDynIdeal.main_v3) = v0 c
          ∧ r.2.mem ((c.tc : Thread Cert.KernelDynIdeal.nD Cert.KernelDynIdeal.τ).loc Cert.KernelDynIdeal.main_arg0) = m ((c.tc : Thread Cert.KernelDynIdeal.nD Cert.KernelDynIdeal.τ).loc Cert.KernelDynIdeal.main_arg0)
          ∧ r.2.mem ((c.tc : Thread Cert.KernelDynIdeal.nD Cert.KernelDynIdeal.τ).loc Cert.KernelDynIdeal.main_arg1) = m ((c.tc : Thread Cert.KernelDynIdeal.nD Cert.KernelDynIdeal.τ).loc Cert.KernelDynIdeal.main_arg1))
      ∧ θ_run (Cert.ReferenceDynIdeal.defs (F := Ideal)) (onTc (τ := Cert.ReferenceDynIdeal.τ) (Cert.ReferenceDynIdeal.main (F := Ideal))) ⟨m', fun _ => 0, g'⟩ (fun r => ∀ c : Dev Cert.ReferenceDynIdeal.nD,
          r.2.mem ((c.tc : Thread Cert.ReferenceDynIdeal.nD Cert.ReferenceDynIdeal.τ).loc Cert.ReferenceDynIdeal.main_v3) = v0 c
          ∧ r.2.mem ((c.tc : Thread Cert.ReferenceDynIdeal.nD Cert.ReferenceDynIdeal.τ).loc Cert.ReferenceDynIdeal.main_arg0) = m' ((c.tc : Thread Cert.ReferenceDynIdeal.nD Cert.ReferenceDynIdeal.τ).loc Cert.ReferenceDynIdeal.main_arg0)
          ∧ r.2.mem ((c.tc : Thread Cert.ReferenceDynIdeal.nD Cert.ReferenceDynIdeal.τ).loc Cert.ReferenceDynIdeal.main_arg1) = m' ((c.tc : Thread Cert.ReferenceDynIdeal.nD Cert.ReferenceDynIdeal.τ).loc Cert.ReferenceDynIdeal.main_arg1))

def preserves_KernelDwout_KernelDwoutIdeal : Prop :=
  True

def algebraic_KernelDwoutIdeal_ReferenceDwoutIdeal [hKernelDwoutIdeal : Cert.KernelDwoutIdeal.Facts] [hReferenceDwoutIdeal : Cert.ReferenceDwoutIdeal.Facts] : Prop :=
  ∀ (m : (ℓ : Loc Cert.KernelDwoutIdeal.nD Cert.KernelDwoutIdeal.τ Cert.KernelDwoutIdeal.sig) → Buf (Elt Ideal) ℓ) (g : Dev Cert.KernelDwoutIdeal.nD → PrngReg)
    (m' : (ℓ : Loc Cert.ReferenceDwoutIdeal.nD Cert.ReferenceDwoutIdeal.τ Cert.ReferenceDwoutIdeal.sig) → Buf (Elt Ideal) ℓ) (g' : Dev Cert.ReferenceDwoutIdeal.nD → PrngReg), Pre_KernelDwoutIdeal m →
    (∀ c : Dev Cert.KernelDwoutIdeal.nD,
      m' ((c.tc : Thread Cert.ReferenceDwoutIdeal.nD Cert.ReferenceDwoutIdeal.τ).loc Cert.ReferenceDwoutIdeal.main_arg0) = m ((c.tc : Thread Cert.KernelDwoutIdeal.nD Cert.KernelDwoutIdeal.τ).loc Cert.KernelDwoutIdeal.main_arg0)
      ∧ m' ((c.tc : Thread Cert.ReferenceDwoutIdeal.nD Cert.ReferenceDwoutIdeal.τ).loc Cert.ReferenceDwoutIdeal.main_arg1) = m ((c.tc : Thread Cert.KernelDwoutIdeal.nD Cert.KernelDwoutIdeal.τ).loc Cert.KernelDwoutIdeal.main_arg1)) →
    ∃ (v0 : (c : Dev Cert.KernelDwoutIdeal.nD) → Buf (Elt Ideal) ((c.tc : Thread Cert.KernelDwoutIdeal.nD Cert.KernelDwoutIdeal.τ).loc Cert.KernelDwoutIdeal.main_v0)),
      θ_run (Cert.KernelDwoutIdeal.defs (F := Ideal)) (onTc (τ := Cert.KernelDwoutIdeal.τ) (Cert.KernelDwoutIdeal.main (F := Ideal))) ⟨m, fun _ => 0, g⟩ (fun r => ∀ c : Dev Cert.KernelDwoutIdeal.nD,
          r.2.mem ((c.tc : Thread Cert.KernelDwoutIdeal.nD Cert.KernelDwoutIdeal.τ).loc Cert.KernelDwoutIdeal.main_v0) = v0 c
          ∧ r.2.mem ((c.tc : Thread Cert.KernelDwoutIdeal.nD Cert.KernelDwoutIdeal.τ).loc Cert.KernelDwoutIdeal.main_arg0) = m ((c.tc : Thread Cert.KernelDwoutIdeal.nD Cert.KernelDwoutIdeal.τ).loc Cert.KernelDwoutIdeal.main_arg0)
          ∧ r.2.mem ((c.tc : Thread Cert.KernelDwoutIdeal.nD Cert.KernelDwoutIdeal.τ).loc Cert.KernelDwoutIdeal.main_arg1) = m ((c.tc : Thread Cert.KernelDwoutIdeal.nD Cert.KernelDwoutIdeal.τ).loc Cert.KernelDwoutIdeal.main_arg1))
      ∧ θ_run (Cert.ReferenceDwoutIdeal.defs (F := Ideal)) (onTc (τ := Cert.ReferenceDwoutIdeal.τ) (Cert.ReferenceDwoutIdeal.main (F := Ideal))) ⟨m', fun _ => 0, g'⟩ (fun r => ∀ c : Dev Cert.ReferenceDwoutIdeal.nD,
          r.2.mem ((c.tc : Thread Cert.ReferenceDwoutIdeal.nD Cert.ReferenceDwoutIdeal.τ).loc Cert.ReferenceDwoutIdeal.main_v7) = v0 c
          ∧ r.2.mem ((c.tc : Thread Cert.ReferenceDwoutIdeal.nD Cert.ReferenceDwoutIdeal.τ).loc Cert.ReferenceDwoutIdeal.main_arg0) = m' ((c.tc : Thread Cert.ReferenceDwoutIdeal.nD Cert.ReferenceDwoutIdeal.τ).loc Cert.ReferenceDwoutIdeal.main_arg0)
          ∧ r.2.mem ((c.tc : Thread Cert.ReferenceDwoutIdeal.nD Cert.ReferenceDwoutIdeal.τ).loc Cert.ReferenceDwoutIdeal.main_arg1) = m' ((c.tc : Thread Cert.ReferenceDwoutIdeal.nD Cert.ReferenceDwoutIdeal.τ).loc Cert.ReferenceDwoutIdeal.main_arg1))

def preserves_KernelDwinz_KernelDwinzIdeal : Prop :=
  True

def algebraic_KernelDwinzIdeal_ReferenceDwinzIdeal [hKernelDwinzIdeal : Cert.KernelDwinzIdeal.Facts] [hReferenceDwinzIdeal : Cert.ReferenceDwinzIdeal.Facts] : Prop :=
  ∀ (m : (ℓ : Loc Cert.KernelDwinzIdeal.nD Cert.KernelDwinzIdeal.τ Cert.KernelDwinzIdeal.sig) → Buf (Elt Ideal) ℓ) (g : Dev Cert.KernelDwinzIdeal.nD → PrngReg)
    (m' : (ℓ : Loc Cert.ReferenceDwinzIdeal.nD Cert.ReferenceDwinzIdeal.τ Cert.ReferenceDwinzIdeal.sig) → Buf (Elt Ideal) ℓ) (g' : Dev Cert.ReferenceDwinzIdeal.nD → PrngReg), Pre_KernelDwinzIdeal m →
    (∀ c : Dev Cert.KernelDwinzIdeal.nD,
      m' ((c.tc : Thread Cert.ReferenceDwinzIdeal.nD Cert.ReferenceDwinzIdeal.τ).loc Cert.ReferenceDwinzIdeal.main_arg0) = m ((c.tc : Thread Cert.KernelDwinzIdeal.nD Cert.KernelDwinzIdeal.τ).loc Cert.KernelDwinzIdeal.main_arg0)
      ∧ m' ((c.tc : Thread Cert.ReferenceDwinzIdeal.nD Cert.ReferenceDwinzIdeal.τ).loc Cert.ReferenceDwinzIdeal.main_arg1) = m ((c.tc : Thread Cert.KernelDwinzIdeal.nD Cert.KernelDwinzIdeal.τ).loc Cert.KernelDwinzIdeal.main_arg1)) →
    ∃ (v0 : (c : Dev Cert.KernelDwinzIdeal.nD) → Buf (Elt Ideal) ((c.tc : Thread Cert.KernelDwinzIdeal.nD Cert.KernelDwinzIdeal.τ).loc Cert.KernelDwinzIdeal.main_v0)),
      θ_run (Cert.KernelDwinzIdeal.defs (F := Ideal)) (onTc (τ := Cert.KernelDwinzIdeal.τ) (Cert.KernelDwinzIdeal.main (F := Ideal))) ⟨m, fun _ => 0, g⟩ (fun r => ∀ c : Dev Cert.KernelDwinzIdeal.nD,
          r.2.mem ((c.tc : Thread Cert.KernelDwinzIdeal.nD Cert.KernelDwinzIdeal.τ).loc Cert.KernelDwinzIdeal.main_v0) = v0 c
          ∧ r.2.mem ((c.tc : Thread Cert.KernelDwinzIdeal.nD Cert.KernelDwinzIdeal.τ).loc Cert.KernelDwinzIdeal.main_arg0) = m ((c.tc : Thread Cert.KernelDwinzIdeal.nD Cert.KernelDwinzIdeal.τ).loc Cert.KernelDwinzIdeal.main_arg0)
          ∧ r.2.mem ((c.tc : Thread Cert.KernelDwinzIdeal.nD Cert.KernelDwinzIdeal.τ).loc Cert.KernelDwinzIdeal.main_arg1) = m ((c.tc : Thread Cert.KernelDwinzIdeal.nD Cert.KernelDwinzIdeal.τ).loc Cert.KernelDwinzIdeal.main_arg1))
      ∧ θ_run (Cert.ReferenceDwinzIdeal.defs (F := Ideal)) (onTc (τ := Cert.ReferenceDwinzIdeal.τ) (Cert.ReferenceDwinzIdeal.main (F := Ideal))) ⟨m', fun _ => 0, g'⟩ (fun r => ∀ c : Dev Cert.ReferenceDwinzIdeal.nD,
          r.2.mem ((c.tc : Thread Cert.ReferenceDwinzIdeal.nD Cert.ReferenceDwinzIdeal.τ).loc Cert.ReferenceDwinzIdeal.main_v5) = v0 c
          ∧ r.2.mem ((c.tc : Thread Cert.ReferenceDwinzIdeal.nD Cert.ReferenceDwinzIdeal.τ).loc Cert.ReferenceDwinzIdeal.main_arg0) = m' ((c.tc : Thread Cert.ReferenceDwinzIdeal.nD Cert.ReferenceDwinzIdeal.τ).loc Cert.ReferenceDwinzIdeal.main_arg0)
          ∧ r.2.mem ((c.tc : Thread Cert.ReferenceDwinzIdeal.nD Cert.ReferenceDwinzIdeal.τ).loc Cert.ReferenceDwinzIdeal.main_arg1) = m' ((c.tc : Thread Cert.ReferenceDwinzIdeal.nD Cert.ReferenceDwinzIdeal.τ).loc Cert.ReferenceDwinzIdeal.main_arg1))

def preserves_KernelDwinxbc_KernelDwinxbcIdeal : Prop :=
  True

def algebraic_KernelDwinxbcIdeal_ReferenceDwinxbcIdeal [hKernelDwinxbcIdeal : Cert.KernelDwinxbcIdeal.Facts] [hReferenceDwinxbcIdeal : Cert.ReferenceDwinxbcIdeal.Facts] : Prop :=
  ∀ (m : (ℓ : Loc Cert.KernelDwinxbcIdeal.nD Cert.KernelDwinxbcIdeal.τ Cert.KernelDwinxbcIdeal.sig) → Buf (Elt Ideal) ℓ) (g : Dev Cert.KernelDwinxbcIdeal.nD → PrngReg)
    (m' : (ℓ : Loc Cert.ReferenceDwinxbcIdeal.nD Cert.ReferenceDwinxbcIdeal.τ Cert.ReferenceDwinxbcIdeal.sig) → Buf (Elt Ideal) ℓ) (g' : Dev Cert.ReferenceDwinxbcIdeal.nD → PrngReg), Pre_KernelDwinxbcIdeal m →
    (∀ c : Dev Cert.KernelDwinxbcIdeal.nD,
      m' ((c.tc : Thread Cert.ReferenceDwinxbcIdeal.nD Cert.ReferenceDwinxbcIdeal.τ).loc Cert.ReferenceDwinxbcIdeal.main_arg0) = m ((c.tc : Thread Cert.KernelDwinxbcIdeal.nD Cert.KernelDwinxbcIdeal.τ).loc Cert.KernelDwinxbcIdeal.main_arg0)
      ∧ m' ((c.tc : Thread Cert.ReferenceDwinxbcIdeal.nD Cert.ReferenceDwinxbcIdeal.τ).loc Cert.ReferenceDwinxbcIdeal.main_arg1) = m ((c.tc : Thread Cert.KernelDwinxbcIdeal.nD Cert.KernelDwinxbcIdeal.τ).loc Cert.KernelDwinxbcIdeal.main_arg1)) →
    ∃ (v0 : (c : Dev Cert.KernelDwinxbcIdeal.nD) → Buf (Elt Ideal) ((c.tc : Thread Cert.KernelDwinxbcIdeal.nD Cert.KernelDwinxbcIdeal.τ).loc Cert.KernelDwinxbcIdeal.main_v0)),
      θ_run (Cert.KernelDwinxbcIdeal.defs (F := Ideal)) (onTc (τ := Cert.KernelDwinxbcIdeal.τ) (Cert.KernelDwinxbcIdeal.main (F := Ideal))) ⟨m, fun _ => 0, g⟩ (fun r => ∀ c : Dev Cert.KernelDwinxbcIdeal.nD,
          r.2.mem ((c.tc : Thread Cert.KernelDwinxbcIdeal.nD Cert.KernelDwinxbcIdeal.τ).loc Cert.KernelDwinxbcIdeal.main_v0) = v0 c
          ∧ r.2.mem ((c.tc : Thread Cert.KernelDwinxbcIdeal.nD Cert.KernelDwinxbcIdeal.τ).loc Cert.KernelDwinxbcIdeal.main_arg0) = m ((c.tc : Thread Cert.KernelDwinxbcIdeal.nD Cert.KernelDwinxbcIdeal.τ).loc Cert.KernelDwinxbcIdeal.main_arg0)
          ∧ r.2.mem ((c.tc : Thread Cert.KernelDwinxbcIdeal.nD Cert.KernelDwinxbcIdeal.τ).loc Cert.KernelDwinxbcIdeal.main_arg1) = m ((c.tc : Thread Cert.KernelDwinxbcIdeal.nD Cert.KernelDwinxbcIdeal.τ).loc Cert.KernelDwinxbcIdeal.main_arg1))
      ∧ θ_run (Cert.ReferenceDwinxbcIdeal.defs (F := Ideal)) (onTc (τ := Cert.ReferenceDwinxbcIdeal.τ) (Cert.ReferenceDwinxbcIdeal.main (F := Ideal))) ⟨m', fun _ => 0, g'⟩ (fun r => ∀ c : Dev Cert.ReferenceDwinxbcIdeal.nD,
          r.2.mem ((c.tc : Thread Cert.ReferenceDwinxbcIdeal.nD Cert.ReferenceDwinxbcIdeal.τ).loc Cert.ReferenceDwinxbcIdeal.main_v5) = v0 c
          ∧ r.2.mem ((c.tc : Thread Cert.ReferenceDwinxbcIdeal.nD Cert.ReferenceDwinxbcIdeal.τ).loc Cert.ReferenceDwinxbcIdeal.main_arg0) = m' ((c.tc : Thread Cert.ReferenceDwinxbcIdeal.nD Cert.ReferenceDwinxbcIdeal.τ).loc Cert.ReferenceDwinxbcIdeal.main_arg0)
          ∧ r.2.mem ((c.tc : Thread Cert.ReferenceDwinxbcIdeal.nD Cert.ReferenceDwinxbcIdeal.τ).loc Cert.ReferenceDwinxbcIdeal.main_arg1) = m' ((c.tc : Thread Cert.ReferenceDwinxbcIdeal.nD Cert.ReferenceDwinxbcIdeal.τ).loc Cert.ReferenceDwinxbcIdeal.main_arg1))

def preserves_KernelDwindt_KernelDwindtIdeal : Prop :=
  True

def algebraic_KernelDwindtIdeal_ReferenceDwindtIdeal [hKernelDwindtIdeal : Cert.KernelDwindtIdeal.Facts] [hReferenceDwindtIdeal : Cert.ReferenceDwindtIdeal.Facts] : Prop :=
  ∀ (m : (ℓ : Loc Cert.KernelDwindtIdeal.nD Cert.KernelDwindtIdeal.τ Cert.KernelDwindtIdeal.sig) → Buf (Elt Ideal) ℓ) (g : Dev Cert.KernelDwindtIdeal.nD → PrngReg)
    (m' : (ℓ : Loc Cert.ReferenceDwindtIdeal.nD Cert.ReferenceDwindtIdeal.τ Cert.ReferenceDwindtIdeal.sig) → Buf (Elt Ideal) ℓ) (g' : Dev Cert.ReferenceDwindtIdeal.nD → PrngReg), Pre_KernelDwindtIdeal m →
    (∀ c : Dev Cert.KernelDwindtIdeal.nD,
      m' ((c.tc : Thread Cert.ReferenceDwindtIdeal.nD Cert.ReferenceDwindtIdeal.τ).loc Cert.ReferenceDwindtIdeal.main_arg0) = m ((c.tc : Thread Cert.KernelDwindtIdeal.nD Cert.KernelDwindtIdeal.τ).loc Cert.KernelDwindtIdeal.main_arg0)
      ∧ m' ((c.tc : Thread Cert.ReferenceDwindtIdeal.nD Cert.ReferenceDwindtIdeal.τ).loc Cert.ReferenceDwindtIdeal.main_arg1) = m ((c.tc : Thread Cert.KernelDwindtIdeal.nD Cert.KernelDwindtIdeal.τ).loc Cert.KernelDwindtIdeal.main_arg1)) →
    ∃ (v0 : (c : Dev Cert.KernelDwindtIdeal.nD) → Buf (Elt Ideal) ((c.tc : Thread Cert.KernelDwindtIdeal.nD Cert.KernelDwindtIdeal.τ).loc Cert.KernelDwindtIdeal.main_v0)),
      θ_run (Cert.KernelDwindtIdeal.defs (F := Ideal)) (onTc (τ := Cert.KernelDwindtIdeal.τ) (Cert.KernelDwindtIdeal.main (F := Ideal))) ⟨m, fun _ => 0, g⟩ (fun r => ∀ c : Dev Cert.KernelDwindtIdeal.nD,
          r.2.mem ((c.tc : Thread Cert.KernelDwindtIdeal.nD Cert.KernelDwindtIdeal.τ).loc Cert.KernelDwindtIdeal.main_v0) = v0 c
          ∧ r.2.mem ((c.tc : Thread Cert.KernelDwindtIdeal.nD Cert.KernelDwindtIdeal.τ).loc Cert.KernelDwindtIdeal.main_arg0) = m ((c.tc : Thread Cert.KernelDwindtIdeal.nD Cert.KernelDwindtIdeal.τ).loc Cert.KernelDwindtIdeal.main_arg0)
          ∧ r.2.mem ((c.tc : Thread Cert.KernelDwindtIdeal.nD Cert.KernelDwindtIdeal.τ).loc Cert.KernelDwindtIdeal.main_arg1) = m ((c.tc : Thread Cert.KernelDwindtIdeal.nD Cert.KernelDwindtIdeal.τ).loc Cert.KernelDwindtIdeal.main_arg1))
      ∧ θ_run (Cert.ReferenceDwindtIdeal.defs (F := Ideal)) (onTc (τ := Cert.ReferenceDwindtIdeal.τ) (Cert.ReferenceDwindtIdeal.main (F := Ideal))) ⟨m', fun _ => 0, g'⟩ (fun r => ∀ c : Dev Cert.ReferenceDwindtIdeal.nD,
          r.2.mem ((c.tc : Thread Cert.ReferenceDwindtIdeal.nD Cert.ReferenceDwindtIdeal.τ).loc Cert.ReferenceDwindtIdeal.main_v5) = v0 c
          ∧ r.2.mem ((c.tc : Thread Cert.ReferenceDwindtIdeal.nD Cert.ReferenceDwindtIdeal.τ).loc Cert.ReferenceDwindtIdeal.main_arg0) = m' ((c.tc : Thread Cert.ReferenceDwindtIdeal.nD Cert.ReferenceDwindtIdeal.τ).loc Cert.ReferenceDwindtIdeal.main_arg0)
          ∧ r.2.mem ((c.tc : Thread Cert.ReferenceDwindtIdeal.nD Cert.ReferenceDwindtIdeal.τ).loc Cert.ReferenceDwindtIdeal.main_arg1) = m' ((c.tc : Thread Cert.ReferenceDwindtIdeal.nD Cert.ReferenceDwindtIdeal.τ).loc Cert.ReferenceDwindtIdeal.main_arg1))

def preserves_KernelDuz_KernelDuzIdeal : Prop :=
  True

def algebraic_KernelDuzIdeal_ReferenceDuzIdeal [hKernelDuzIdeal : Cert.KernelDuzIdeal.Facts] [hReferenceDuzIdeal : Cert.ReferenceDuzIdeal.Facts] : Prop :=
  ∀ (m : (ℓ : Loc Cert.KernelDuzIdeal.nD Cert.KernelDuzIdeal.τ Cert.KernelDuzIdeal.sig) → Buf (Elt Ideal) ℓ) (g : Dev Cert.KernelDuzIdeal.nD → PrngReg)
    (m' : (ℓ : Loc Cert.ReferenceDuzIdeal.nD Cert.ReferenceDuzIdeal.τ Cert.ReferenceDuzIdeal.sig) → Buf (Elt Ideal) ℓ) (g' : Dev Cert.ReferenceDuzIdeal.nD → PrngReg), Pre_KernelDuzIdeal m →
    (∀ c : Dev Cert.KernelDuzIdeal.nD,
      m' ((c.tc : Thread Cert.ReferenceDuzIdeal.nD Cert.ReferenceDuzIdeal.τ).loc Cert.ReferenceDuzIdeal.main_arg0) = m ((c.tc : Thread Cert.KernelDuzIdeal.nD Cert.KernelDuzIdeal.τ).loc Cert.KernelDuzIdeal.main_arg0)
      ∧ m' ((c.tc : Thread Cert.ReferenceDuzIdeal.nD Cert.ReferenceDuzIdeal.τ).loc Cert.ReferenceDuzIdeal.main_arg1) = m ((c.tc : Thread Cert.KernelDuzIdeal.nD Cert.KernelDuzIdeal.τ).loc Cert.KernelDuzIdeal.main_arg1)) →
    ∃ (v0 : (c : Dev Cert.KernelDuzIdeal.nD) → Buf (Elt Ideal) ((c.tc : Thread Cert.KernelDuzIdeal.nD Cert.KernelDuzIdeal.τ).loc Cert.KernelDuzIdeal.main_v9)),
      θ_run (Cert.KernelDuzIdeal.defs (F := Ideal)) (onTc (τ := Cert.KernelDuzIdeal.τ) (Cert.KernelDuzIdeal.main (F := Ideal))) ⟨m, fun _ => 0, g⟩ (fun r => ∀ c : Dev Cert.KernelDuzIdeal.nD,
          r.2.mem ((c.tc : Thread Cert.KernelDuzIdeal.nD Cert.KernelDuzIdeal.τ).loc Cert.KernelDuzIdeal.main_v9) = v0 c
          ∧ r.2.mem ((c.tc : Thread Cert.KernelDuzIdeal.nD Cert.KernelDuzIdeal.τ).loc Cert.KernelDuzIdeal.main_arg0) = m ((c.tc : Thread Cert.KernelDuzIdeal.nD Cert.KernelDuzIdeal.τ).loc Cert.KernelDuzIdeal.main_arg0)
          ∧ r.2.mem ((c.tc : Thread Cert.KernelDuzIdeal.nD Cert.KernelDuzIdeal.τ).loc Cert.KernelDuzIdeal.main_arg1) = m ((c.tc : Thread Cert.KernelDuzIdeal.nD Cert.KernelDuzIdeal.τ).loc Cert.KernelDuzIdeal.main_arg1))
      ∧ θ_run (Cert.ReferenceDuzIdeal.defs (F := Ideal)) (onTc (τ := Cert.ReferenceDuzIdeal.τ) (Cert.ReferenceDuzIdeal.main (F := Ideal))) ⟨m', fun _ => 0, g'⟩ (fun r => ∀ c : Dev Cert.ReferenceDuzIdeal.nD,
          r.2.mem ((c.tc : Thread Cert.ReferenceDuzIdeal.nD Cert.ReferenceDuzIdeal.τ).loc Cert.ReferenceDuzIdeal.main_v4) = v0 c
          ∧ r.2.mem ((c.tc : Thread Cert.ReferenceDuzIdeal.nD Cert.ReferenceDuzIdeal.τ).loc Cert.ReferenceDuzIdeal.main_arg0) = m' ((c.tc : Thread Cert.ReferenceDuzIdeal.nD Cert.ReferenceDuzIdeal.τ).loc Cert.ReferenceDuzIdeal.main_arg0)
          ∧ r.2.mem ((c.tc : Thread Cert.ReferenceDuzIdeal.nD Cert.ReferenceDuzIdeal.τ).loc Cert.ReferenceDuzIdeal.main_arg1) = m' ((c.tc : Thread Cert.ReferenceDuzIdeal.nD Cert.ReferenceDuzIdeal.τ).loc Cert.ReferenceDuzIdeal.main_arg1))

def preserves_KernelDuxbc_KernelDuxbcIdeal : Prop :=
  True

def algebraic_KernelDuxbcIdeal_ReferenceDuxbcIdeal [hKernelDuxbcIdeal : Cert.KernelDuxbcIdeal.Facts] [hReferenceDuxbcIdeal : Cert.ReferenceDuxbcIdeal.Facts] : Prop :=
  ∀ (m : (ℓ : Loc Cert.KernelDuxbcIdeal.nD Cert.KernelDuxbcIdeal.τ Cert.KernelDuxbcIdeal.sig) → Buf (Elt Ideal) ℓ) (g : Dev Cert.KernelDuxbcIdeal.nD → PrngReg)
    (m' : (ℓ : Loc Cert.ReferenceDuxbcIdeal.nD Cert.ReferenceDuxbcIdeal.τ Cert.ReferenceDuxbcIdeal.sig) → Buf (Elt Ideal) ℓ) (g' : Dev Cert.ReferenceDuxbcIdeal.nD → PrngReg), Pre_KernelDuxbcIdeal m →
    (∀ c : Dev Cert.KernelDuxbcIdeal.nD,
      m' ((c.tc : Thread Cert.ReferenceDuxbcIdeal.nD Cert.ReferenceDuxbcIdeal.τ).loc Cert.ReferenceDuxbcIdeal.main_arg0) = m ((c.tc : Thread Cert.KernelDuxbcIdeal.nD Cert.KernelDuxbcIdeal.τ).loc Cert.KernelDuxbcIdeal.main_arg0)
      ∧ m' ((c.tc : Thread Cert.ReferenceDuxbcIdeal.nD Cert.ReferenceDuxbcIdeal.τ).loc Cert.ReferenceDuxbcIdeal.main_arg1) = m ((c.tc : Thread Cert.KernelDuxbcIdeal.nD Cert.KernelDuxbcIdeal.τ).loc Cert.KernelDuxbcIdeal.main_arg1)
      ∧ m' ((c.tc : Thread Cert.ReferenceDuxbcIdeal.nD Cert.ReferenceDuxbcIdeal.τ).loc Cert.ReferenceDuxbcIdeal.main_arg2) = m ((c.tc : Thread Cert.KernelDuxbcIdeal.nD Cert.KernelDuxbcIdeal.τ).loc Cert.KernelDuxbcIdeal.main_arg2)) →
    ∃ (v0 : (c : Dev Cert.KernelDuxbcIdeal.nD) → Buf (Elt Ideal) ((c.tc : Thread Cert.KernelDuxbcIdeal.nD Cert.KernelDuxbcIdeal.τ).loc Cert.KernelDuxbcIdeal.main_v9)),
      θ_run (Cert.KernelDuxbcIdeal.defs (F := Ideal)) (onTc (τ := Cert.KernelDuxbcIdeal.τ) (Cert.KernelDuxbcIdeal.main (F := Ideal))) ⟨m, fun _ => 0, g⟩ (fun r => ∀ c : Dev Cert.KernelDuxbcIdeal.nD,
          r.2.mem ((c.tc : Thread Cert.KernelDuxbcIdeal.nD Cert.KernelDuxbcIdeal.τ).loc Cert.KernelDuxbcIdeal.main_v9) = v0 c
          ∧ r.2.mem ((c.tc : Thread Cert.KernelDuxbcIdeal.nD Cert.KernelDuxbcIdeal.τ).loc Cert.KernelDuxbcIdeal.main_arg0) = m ((c.tc : Thread Cert.KernelDuxbcIdeal.nD Cert.KernelDuxbcIdeal.τ).loc Cert.KernelDuxbcIdeal.main_arg0)
          ∧ r.2.mem ((c.tc : Thread Cert.KernelDuxbcIdeal.nD Cert.KernelDuxbcIdeal.τ).loc Cert.KernelDuxbcIdeal.main_arg1) = m ((c.tc : Thread Cert.KernelDuxbcIdeal.nD Cert.KernelDuxbcIdeal.τ).loc Cert.KernelDuxbcIdeal.main_arg1)
          ∧ r.2.mem ((c.tc : Thread Cert.KernelDuxbcIdeal.nD Cert.KernelDuxbcIdeal.τ).loc Cert.KernelDuxbcIdeal.main_arg2) = m ((c.tc : Thread Cert.KernelDuxbcIdeal.nD Cert.KernelDuxbcIdeal.τ).loc Cert.KernelDuxbcIdeal.main_arg2))
      ∧ θ_run (Cert.ReferenceDuxbcIdeal.defs (F := Ideal)) (onTc (τ := Cert.ReferenceDuxbcIdeal.τ) (Cert.ReferenceDuxbcIdeal.main (F := Ideal))) ⟨m', fun _ => 0, g'⟩ (fun r => ∀ c : Dev Cert.ReferenceDuxbcIdeal.nD,
          r.2.mem ((c.tc : Thread Cert.ReferenceDuxbcIdeal.nD Cert.ReferenceDuxbcIdeal.τ).loc Cert.ReferenceDuxbcIdeal.main_v5) = v0 c
          ∧ r.2.mem ((c.tc : Thread Cert.ReferenceDuxbcIdeal.nD Cert.ReferenceDuxbcIdeal.τ).loc Cert.ReferenceDuxbcIdeal.main_arg0) = m' ((c.tc : Thread Cert.ReferenceDuxbcIdeal.nD Cert.ReferenceDuxbcIdeal.τ).loc Cert.ReferenceDuxbcIdeal.main_arg0)
          ∧ r.2.mem ((c.tc : Thread Cert.ReferenceDuxbcIdeal.nD Cert.ReferenceDuxbcIdeal.τ).loc Cert.ReferenceDuxbcIdeal.main_arg1) = m' ((c.tc : Thread Cert.ReferenceDuxbcIdeal.nD Cert.ReferenceDuxbcIdeal.τ).loc Cert.ReferenceDuxbcIdeal.main_arg1)
          ∧ r.2.mem ((c.tc : Thread Cert.ReferenceDuxbcIdeal.nD Cert.ReferenceDuxbcIdeal.τ).loc Cert.ReferenceDuxbcIdeal.main_arg2) = m' ((c.tc : Thread Cert.ReferenceDuxbcIdeal.nD Cert.ReferenceDuxbcIdeal.τ).loc Cert.ReferenceDuxbcIdeal.main_arg2))

def preserves_KernelDudt_KernelDudtIdeal : Prop :=
  True

def algebraic_KernelDudtIdeal_ReferenceDudtIdeal [hKernelDudtIdeal : Cert.KernelDudtIdeal.Facts] [hReferenceDudtIdeal : Cert.ReferenceDudtIdeal.Facts] : Prop :=
  ∀ (m : (ℓ : Loc Cert.KernelDudtIdeal.nD Cert.KernelDudtIdeal.τ Cert.KernelDudtIdeal.sig) → Buf (Elt Ideal) ℓ) (g : Dev Cert.KernelDudtIdeal.nD → PrngReg)
    (m' : (ℓ : Loc Cert.ReferenceDudtIdeal.nD Cert.ReferenceDudtIdeal.τ Cert.ReferenceDudtIdeal.sig) → Buf (Elt Ideal) ℓ) (g' : Dev Cert.ReferenceDudtIdeal.nD → PrngReg), Pre_KernelDudtIdeal m →
    (∀ c : Dev Cert.KernelDudtIdeal.nD,
      m' ((c.tc : Thread Cert.ReferenceDudtIdeal.nD Cert.ReferenceDudtIdeal.τ).loc Cert.ReferenceDudtIdeal.main_arg0) = m ((c.tc : Thread Cert.KernelDudtIdeal.nD Cert.KernelDudtIdeal.τ).loc Cert.KernelDudtIdeal.main_arg0)
      ∧ m' ((c.tc : Thread Cert.ReferenceDudtIdeal.nD Cert.ReferenceDudtIdeal.τ).loc Cert.ReferenceDudtIdeal.main_arg1) = m ((c.tc : Thread Cert.KernelDudtIdeal.nD Cert.KernelDudtIdeal.τ).loc Cert.KernelDudtIdeal.main_arg1)
      ∧ m' ((c.tc : Thread Cert.ReferenceDudtIdeal.nD Cert.ReferenceDudtIdeal.τ).loc Cert.ReferenceDudtIdeal.main_arg2) = m ((c.tc : Thread Cert.KernelDudtIdeal.nD Cert.KernelDudtIdeal.τ).loc Cert.KernelDudtIdeal.main_arg2)) →
    ∃ (v0 : (c : Dev Cert.KernelDudtIdeal.nD) → Buf (Elt Ideal) ((c.tc : Thread Cert.KernelDudtIdeal.nD Cert.KernelDudtIdeal.τ).loc Cert.KernelDudtIdeal.main_v9)),
      θ_run (Cert.KernelDudtIdeal.defs (F := Ideal)) (onTc (τ := Cert.KernelDudtIdeal.τ) (Cert.KernelDudtIdeal.main (F := Ideal))) ⟨m, fun _ => 0, g⟩ (fun r => ∀ c : Dev Cert.KernelDudtIdeal.nD,
          r.2.mem ((c.tc : Thread Cert.KernelDudtIdeal.nD Cert.KernelDudtIdeal.τ).loc Cert.KernelDudtIdeal.main_v9) = v0 c
          ∧ r.2.mem ((c.tc : Thread Cert.KernelDudtIdeal.nD Cert.KernelDudtIdeal.τ).loc Cert.KernelDudtIdeal.main_arg0) = m ((c.tc : Thread Cert.KernelDudtIdeal.nD Cert.KernelDudtIdeal.τ).loc Cert.KernelDudtIdeal.main_arg0)
          ∧ r.2.mem ((c.tc : Thread Cert.KernelDudtIdeal.nD Cert.KernelDudtIdeal.τ).loc Cert.KernelDudtIdeal.main_arg1) = m ((c.tc : Thread Cert.KernelDudtIdeal.nD Cert.KernelDudtIdeal.τ).loc Cert.KernelDudtIdeal.main_arg1)
          ∧ r.2.mem ((c.tc : Thread Cert.KernelDudtIdeal.nD Cert.KernelDudtIdeal.τ).loc Cert.KernelDudtIdeal.main_arg2) = m ((c.tc : Thread Cert.KernelDudtIdeal.nD Cert.KernelDudtIdeal.τ).loc Cert.KernelDudtIdeal.main_arg2))
      ∧ θ_run (Cert.ReferenceDudtIdeal.defs (F := Ideal)) (onTc (τ := Cert.ReferenceDudtIdeal.τ) (Cert.ReferenceDudtIdeal.main (F := Ideal))) ⟨m', fun _ => 0, g'⟩ (fun r => ∀ c : Dev Cert.ReferenceDudtIdeal.nD,
          r.2.mem ((c.tc : Thread Cert.ReferenceDudtIdeal.nD Cert.ReferenceDudtIdeal.τ).loc Cert.ReferenceDudtIdeal.main_v6) = v0 c
          ∧ r.2.mem ((c.tc : Thread Cert.ReferenceDudtIdeal.nD Cert.ReferenceDudtIdeal.τ).loc Cert.ReferenceDudtIdeal.main_arg0) = m' ((c.tc : Thread Cert.ReferenceDudtIdeal.nD Cert.ReferenceDudtIdeal.τ).loc Cert.ReferenceDudtIdeal.main_arg0)
          ∧ r.2.mem ((c.tc : Thread Cert.ReferenceDudtIdeal.nD Cert.ReferenceDudtIdeal.τ).loc Cert.ReferenceDudtIdeal.main_arg1) = m' ((c.tc : Thread Cert.ReferenceDudtIdeal.nD Cert.ReferenceDudtIdeal.τ).loc Cert.ReferenceDudtIdeal.main_arg1)
          ∧ r.2.mem ((c.tc : Thread Cert.ReferenceDudtIdeal.nD Cert.ReferenceDudtIdeal.τ).loc Cert.ReferenceDudtIdeal.main_arg2) = m' ((c.tc : Thread Cert.ReferenceDudtIdeal.nD Cert.ReferenceDudtIdeal.τ).loc Cert.ReferenceDudtIdeal.main_arg2))

def preserves_KernelPleBwd_KernelPleBwdIdeal : Prop :=
  True

def algebraic_KernelPleBwdIdeal_ReferencePleBwdIdeal [hKernelPleBwdIdeal : Cert.KernelPleBwdIdeal.Facts] [hReferencePleBwdIdeal : Cert.ReferencePleBwdIdeal.Facts] : Prop :=
  ∀ (m : (ℓ : Loc Cert.KernelPleBwdIdeal.nD Cert.KernelPleBwdIdeal.τ Cert.KernelPleBwdIdeal.sig) → Buf (Elt Ideal) ℓ) (g : Dev Cert.KernelPleBwdIdeal.nD → PrngReg)
    (m' : (ℓ : Loc Cert.ReferencePleBwdIdeal.nD Cert.ReferencePleBwdIdeal.τ Cert.ReferencePleBwdIdeal.sig) → Buf (Elt Ideal) ℓ) (g' : Dev Cert.ReferencePleBwdIdeal.nD → PrngReg), Pre_KernelPleBwdIdeal m →
    (∀ c : Dev Cert.KernelPleBwdIdeal.nD,
      m' ((c.tc : Thread Cert.ReferencePleBwdIdeal.nD Cert.ReferencePleBwdIdeal.τ).loc Cert.ReferencePleBwdIdeal.main_arg0) = m ((c.tc : Thread Cert.KernelPleBwdIdeal.nD Cert.KernelPleBwdIdeal.τ).loc Cert.KernelPleBwdIdeal.main_arg0)
      ∧ m' ((c.tc : Thread Cert.ReferencePleBwdIdeal.nD Cert.ReferencePleBwdIdeal.τ).loc Cert.ReferencePleBwdIdeal.main_arg1) = m ((c.tc : Thread Cert.KernelPleBwdIdeal.nD Cert.KernelPleBwdIdeal.τ).loc Cert.KernelPleBwdIdeal.main_arg1)
      ∧ m' ((c.tc : Thread Cert.ReferencePleBwdIdeal.nD Cert.ReferencePleBwdIdeal.τ).loc Cert.ReferencePleBwdIdeal.main_arg2) = m ((c.tc : Thread Cert.KernelPleBwdIdeal.nD Cert.KernelPleBwdIdeal.τ).loc Cert.KernelPleBwdIdeal.main_arg2)) →
    ∃ (v0 : (c : Dev Cert.KernelPleBwdIdeal.nD) → Buf (Elt Ideal) ((c.tc : Thread Cert.KernelPleBwdIdeal.nD Cert.KernelPleBwdIdeal.τ).loc Cert.KernelPleBwdIdeal.main_v0_0)) (v1 : (c : Dev Cert.KernelPleBwdIdeal.nD) → Buf (Elt Ideal) ((c.tc : Thread Cert.KernelPleBwdIdeal.nD Cert.KernelPleBwdIdeal.τ).loc Cert.KernelPleBwdIdeal.main_v0_1)),
      θ_run (Cert.KernelPleBwdIdeal.defs (F := Ideal)) (onTc (τ := Cert.KernelPleBwdIdeal.τ) (Cert.KernelPleBwdIdeal.main (F := Ideal))) ⟨m, fun _ => 0, g⟩ (fun r => ∀ c : Dev Cert.KernelPleBwdIdeal.nD,
          r.2.mem ((c.tc : Thread Cert.KernelPleBwdIdeal.nD Cert.KernelPleBwdIdeal.τ).loc Cert.KernelPleBwdIdeal.main_v0_0) = v0 c
          ∧ r.2.mem ((c.tc : Thread Cert.KernelPleBwdIdeal.nD Cert.KernelPleBwdIdeal.τ).loc Cert.KernelPleBwdIdeal.main_v0_1) = v1 c
          ∧ r.2.mem ((c.tc : Thread Cert.KernelPleBwdIdeal.nD Cert.KernelPleBwdIdeal.τ).loc Cert.KernelPleBwdIdeal.main_arg0) = m ((c.tc : Thread Cert.KernelPleBwdIdeal.nD Cert.KernelPleBwdIdeal.τ).loc Cert.KernelPleBwdIdeal.main_arg0)
          ∧ r.2.mem ((c.tc : Thread Cert.KernelPleBwdIdeal.nD Cert.KernelPleBwdIdeal.τ).loc Cert.KernelPleBwdIdeal.main_arg1) = m ((c.tc : Thread Cert.KernelPleBwdIdeal.nD Cert.KernelPleBwdIdeal.τ).loc Cert.KernelPleBwdIdeal.main_arg1)
          ∧ r.2.mem ((c.tc : Thread Cert.KernelPleBwdIdeal.nD Cert.KernelPleBwdIdeal.τ).loc Cert.KernelPleBwdIdeal.main_arg2) = m ((c.tc : Thread Cert.KernelPleBwdIdeal.nD Cert.KernelPleBwdIdeal.τ).loc Cert.KernelPleBwdIdeal.main_arg2))
      ∧ θ_run (Cert.ReferencePleBwdIdeal.defs (F := Ideal)) (onTc (τ := Cert.ReferencePleBwdIdeal.τ) (Cert.ReferencePleBwdIdeal.main (F := Ideal))) ⟨m', fun _ => 0, g'⟩ (fun r => ∀ c : Dev Cert.ReferencePleBwdIdeal.nD,
          r.2.mem ((c.tc : Thread Cert.ReferencePleBwdIdeal.nD Cert.ReferencePleBwdIdeal.τ).loc Cert.ReferencePleBwdIdeal.main_v15) = v0 c
          ∧ r.2.mem ((c.tc : Thread Cert.ReferencePleBwdIdeal.nD Cert.ReferencePleBwdIdeal.τ).loc Cert.ReferencePleBwdIdeal.main_v13) = v1 c
          ∧ r.2.mem ((c.tc : Thread Cert.ReferencePleBwdIdeal.nD Cert.ReferencePleBwdIdeal.τ).loc Cert.ReferencePleBwdIdeal.main_arg0) = m' ((c.tc : Thread Cert.ReferencePleBwdIdeal.nD Cert.ReferencePleBwdIdeal.τ).loc Cert.ReferencePleBwdIdeal.main_arg0)
          ∧ r.2.mem ((c.tc : Thread Cert.ReferencePleBwdIdeal.nD Cert.ReferencePleBwdIdeal.τ).loc Cert.ReferencePleBwdIdeal.main_arg1) = m' ((c.tc : Thread Cert.ReferencePleBwdIdeal.nD Cert.ReferencePleBwdIdeal.τ).loc Cert.ReferencePleBwdIdeal.main_arg1)
          ∧ r.2.mem ((c.tc : Thread Cert.ReferencePleBwdIdeal.nD Cert.ReferencePleBwdIdeal.τ).loc Cert.ReferencePleBwdIdeal.main_arg2) = m' ((c.tc : Thread Cert.ReferencePleBwdIdeal.nD Cert.ReferencePleBwdIdeal.τ).loc Cert.ReferencePleBwdIdeal.main_arg2))

def preserves_KernelGluBwd_KernelGluBwdIdeal : Prop :=
  True

def algebraic_KernelGluBwdIdeal_ReferenceGluBwdIdeal [hKernelGluBwdIdeal : Cert.KernelGluBwdIdeal.Facts] [hReferenceGluBwdIdeal : Cert.ReferenceGluBwdIdeal.Facts] : Prop :=
  ∀ (m : (ℓ : Loc Cert.KernelGluBwdIdeal.nD Cert.KernelGluBwdIdeal.τ Cert.KernelGluBwdIdeal.sig) → Buf (Elt Ideal) ℓ) (g : Dev Cert.KernelGluBwdIdeal.nD → PrngReg)
    (m' : (ℓ : Loc Cert.ReferenceGluBwdIdeal.nD Cert.ReferenceGluBwdIdeal.τ Cert.ReferenceGluBwdIdeal.sig) → Buf (Elt Ideal) ℓ) (g' : Dev Cert.ReferenceGluBwdIdeal.nD → PrngReg), Pre_KernelGluBwdIdeal m →
    (∀ c : Dev Cert.KernelGluBwdIdeal.nD,
      m' ((c.tc : Thread Cert.ReferenceGluBwdIdeal.nD Cert.ReferenceGluBwdIdeal.τ).loc Cert.ReferenceGluBwdIdeal.main_arg0) = m ((c.tc : Thread Cert.KernelGluBwdIdeal.nD Cert.KernelGluBwdIdeal.τ).loc Cert.KernelGluBwdIdeal.main_arg0)
      ∧ m' ((c.tc : Thread Cert.ReferenceGluBwdIdeal.nD Cert.ReferenceGluBwdIdeal.τ).loc Cert.ReferenceGluBwdIdeal.main_arg1) = m ((c.tc : Thread Cert.KernelGluBwdIdeal.nD Cert.KernelGluBwdIdeal.τ).loc Cert.KernelGluBwdIdeal.main_arg1)) →
    ∃ (v0 : (c : Dev Cert.KernelGluBwdIdeal.nD) → Buf (Elt Ideal) ((c.tc : Thread Cert.KernelGluBwdIdeal.nD Cert.KernelGluBwdIdeal.τ).loc Cert.KernelGluBwdIdeal.main_v0_0)) (v1 : (c : Dev Cert.KernelGluBwdIdeal.nD) → Buf (Elt Ideal) ((c.tc : Thread Cert.KernelGluBwdIdeal.nD Cert.KernelGluBwdIdeal.τ).loc Cert.KernelGluBwdIdeal.main_v0_1)) (v2 : (c : Dev Cert.KernelGluBwdIdeal.nD) → Buf (Elt Ideal) ((c.tc : Thread Cert.KernelGluBwdIdeal.nD Cert.KernelGluBwdIdeal.τ).loc Cert.KernelGluBwdIdeal.main_v0_2)) (v3 : (c : Dev Cert.KernelGluBwdIdeal.nD) → Buf (Elt Ideal) ((c.tc : Thread Cert.KernelGluBwdIdeal.nD Cert.KernelGluBwdIdeal.τ).loc Cert.KernelGluBwdIdeal.main_v0_3)),
      θ_run (Cert.KernelGluBwdIdeal.defs (F := Ideal)) (onTc (τ := Cert.KernelGluBwdIdeal.τ) (Cert.KernelGluBwdIdeal.main (F := Ideal))) ⟨m, fun _ => 0, g⟩ (fun r => ∀ c : Dev Cert.KernelGluBwdIdeal.nD,
          r.2.mem ((c.tc : Thread Cert.KernelGluBwdIdeal.nD Cert.KernelGluBwdIdeal.τ).loc Cert.KernelGluBwdIdeal.main_v0_0) = v0 c
          ∧ r.2.mem ((c.tc : Thread Cert.KernelGluBwdIdeal.nD Cert.KernelGluBwdIdeal.τ).loc Cert.KernelGluBwdIdeal.main_v0_1) = v1 c
          ∧ r.2.mem ((c.tc : Thread Cert.KernelGluBwdIdeal.nD Cert.KernelGluBwdIdeal.τ).loc Cert.KernelGluBwdIdeal.main_v0_2) = v2 c
          ∧ r.2.mem ((c.tc : Thread Cert.KernelGluBwdIdeal.nD Cert.KernelGluBwdIdeal.τ).loc Cert.KernelGluBwdIdeal.main_v0_3) = v3 c
          ∧ r.2.mem ((c.tc : Thread Cert.KernelGluBwdIdeal.nD Cert.KernelGluBwdIdeal.τ).loc Cert.KernelGluBwdIdeal.main_arg0) = m ((c.tc : Thread Cert.KernelGluBwdIdeal.nD Cert.KernelGluBwdIdeal.τ).loc Cert.KernelGluBwdIdeal.main_arg0)
          ∧ r.2.mem ((c.tc : Thread Cert.KernelGluBwdIdeal.nD Cert.KernelGluBwdIdeal.τ).loc Cert.KernelGluBwdIdeal.main_arg1) = m ((c.tc : Thread Cert.KernelGluBwdIdeal.nD Cert.KernelGluBwdIdeal.τ).loc Cert.KernelGluBwdIdeal.main_arg1))
      ∧ θ_run (Cert.ReferenceGluBwdIdeal.defs (F := Ideal)) (onTc (τ := Cert.ReferenceGluBwdIdeal.τ) (Cert.ReferenceGluBwdIdeal.main (F := Ideal))) ⟨m', fun _ => 0, g'⟩ (fun r => ∀ c : Dev Cert.ReferenceGluBwdIdeal.nD,
          r.2.mem ((c.tc : Thread Cert.ReferenceGluBwdIdeal.nD Cert.ReferenceGluBwdIdeal.τ).loc Cert.ReferenceGluBwdIdeal.main_v15) = v0 c
          ∧ r.2.mem ((c.tc : Thread Cert.ReferenceGluBwdIdeal.nD Cert.ReferenceGluBwdIdeal.τ).loc Cert.ReferenceGluBwdIdeal.main_v16) = v1 c
          ∧ r.2.mem ((c.tc : Thread Cert.ReferenceGluBwdIdeal.nD Cert.ReferenceGluBwdIdeal.τ).loc Cert.ReferenceGluBwdIdeal.main_v18) = v2 c
          ∧ r.2.mem ((c.tc : Thread Cert.ReferenceGluBwdIdeal.nD Cert.ReferenceGluBwdIdeal.τ).loc Cert.ReferenceGluBwdIdeal.main_v20) = v3 c
          ∧ r.2.mem ((c.tc : Thread Cert.ReferenceGluBwdIdeal.nD Cert.ReferenceGluBwdIdeal.τ).loc Cert.ReferenceGluBwdIdeal.main_arg0) = m' ((c.tc : Thread Cert.ReferenceGluBwdIdeal.nD Cert.ReferenceGluBwdIdeal.τ).loc Cert.ReferenceGluBwdIdeal.main_arg0)
          ∧ r.2.mem ((c.tc : Thread Cert.ReferenceGluBwdIdeal.nD Cert.ReferenceGluBwdIdeal.τ).loc Cert.ReferenceGluBwdIdeal.main_arg1) = m' ((c.tc : Thread Cert.ReferenceGluBwdIdeal.nD Cert.ReferenceGluBwdIdeal.τ).loc Cert.ReferenceGluBwdIdeal.main_arg1))

def preserves_KernelDxs_KernelDxsIdeal : Prop :=
  True

def algebraic_KernelDxsIdeal_ReferenceDxsIdeal [hKernelDxsIdeal : Cert.KernelDxsIdeal.Facts] [hReferenceDxsIdeal : Cert.ReferenceDxsIdeal.Facts] : Prop :=
  ∀ (m : (ℓ : Loc Cert.KernelDxsIdeal.nD Cert.KernelDxsIdeal.τ Cert.KernelDxsIdeal.sig) → Buf (Elt Ideal) ℓ) (g : Dev Cert.KernelDxsIdeal.nD → PrngReg)
    (m' : (ℓ : Loc Cert.ReferenceDxsIdeal.nD Cert.ReferenceDxsIdeal.τ Cert.ReferenceDxsIdeal.sig) → Buf (Elt Ideal) ℓ) (g' : Dev Cert.ReferenceDxsIdeal.nD → PrngReg), Pre_KernelDxsIdeal m →
    (∀ c : Dev Cert.KernelDxsIdeal.nD,
      m' ((c.tc : Thread Cert.ReferenceDxsIdeal.nD Cert.ReferenceDxsIdeal.τ).loc Cert.ReferenceDxsIdeal.main_arg0) = m ((c.tc : Thread Cert.KernelDxsIdeal.nD Cert.KernelDxsIdeal.τ).loc Cert.KernelDxsIdeal.main_arg0)
      ∧ m' ((c.tc : Thread Cert.ReferenceDxsIdeal.nD Cert.ReferenceDxsIdeal.τ).loc Cert.ReferenceDxsIdeal.main_arg1) = m ((c.tc : Thread Cert.KernelDxsIdeal.nD Cert.KernelDxsIdeal.τ).loc Cert.KernelDxsIdeal.main_arg1)) →
    ∃ (v0 : (c : Dev Cert.KernelDxsIdeal.nD) → Buf (Elt Ideal) ((c.tc : Thread Cert.KernelDxsIdeal.nD Cert.KernelDxsIdeal.τ).loc Cert.KernelDxsIdeal.main_v0)),
      θ_run (Cert.KernelDxsIdeal.defs (F := Ideal)) (onTc (τ := Cert.KernelDxsIdeal.τ) (Cert.KernelDxsIdeal.main (F := Ideal))) ⟨m, fun _ => 0, g⟩ (fun r => ∀ c : Dev Cert.KernelDxsIdeal.nD,
          r.2.mem ((c.tc : Thread Cert.KernelDxsIdeal.nD Cert.KernelDxsIdeal.τ).loc Cert.KernelDxsIdeal.main_v0) = v0 c
          ∧ r.2.mem ((c.tc : Thread Cert.KernelDxsIdeal.nD Cert.KernelDxsIdeal.τ).loc Cert.KernelDxsIdeal.main_arg0) = m ((c.tc : Thread Cert.KernelDxsIdeal.nD Cert.KernelDxsIdeal.τ).loc Cert.KernelDxsIdeal.main_arg0)
          ∧ r.2.mem ((c.tc : Thread Cert.KernelDxsIdeal.nD Cert.KernelDxsIdeal.τ).loc Cert.KernelDxsIdeal.main_arg1) = m ((c.tc : Thread Cert.KernelDxsIdeal.nD Cert.KernelDxsIdeal.τ).loc Cert.KernelDxsIdeal.main_arg1))
      ∧ θ_run (Cert.ReferenceDxsIdeal.defs (F := Ideal)) (onTc (τ := Cert.ReferenceDxsIdeal.τ) (Cert.ReferenceDxsIdeal.main (F := Ideal))) ⟨m', fun _ => 0, g'⟩ (fun r => ∀ c : Dev Cert.ReferenceDxsIdeal.nD,
          r.2.mem ((c.tc : Thread Cert.ReferenceDxsIdeal.nD Cert.ReferenceDxsIdeal.τ).loc Cert.ReferenceDxsIdeal.main_v0) = v0 c
          ∧ r.2.mem ((c.tc : Thread Cert.ReferenceDxsIdeal.nD Cert.ReferenceDxsIdeal.τ).loc Cert.ReferenceDxsIdeal.main_arg0) = m' ((c.tc : Thread Cert.ReferenceDxsIdeal.nD Cert.ReferenceDxsIdeal.τ).loc Cert.ReferenceDxsIdeal.main_arg0)
          ∧ r.2.mem ((c.tc : Thread Cert.ReferenceDxsIdeal.nD Cert.ReferenceDxsIdeal.τ).loc Cert.ReferenceDxsIdeal.main_arg1) = m' ((c.tc : Thread Cert.ReferenceDxsIdeal.nD Cert.ReferenceDxsIdeal.τ).loc Cert.ReferenceDxsIdeal.main_arg1))

def preserves_KernelRms_KernelRmsIdeal : Prop :=
  True

def algebraic_KernelRmsIdeal_ReferenceRmsIdeal [hKernelRmsIdeal : Cert.KernelRmsIdeal.Facts] [hReferenceRmsIdeal : Cert.ReferenceRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg)
    (m' : (ℓ : Loc Cert.ReferenceRmsIdeal.nD Cert.ReferenceRmsIdeal.τ Cert.ReferenceRmsIdeal.sig) → Buf (Elt Ideal) ℓ) (g' : Dev Cert.ReferenceRmsIdeal.nD → PrngReg), Pre_KernelRmsIdeal m →
    (∀ c : Dev Cert.KernelRmsIdeal.nD,
      m' ((c.tc : Thread Cert.ReferenceRmsIdeal.nD Cert.ReferenceRmsIdeal.τ).loc Cert.ReferenceRmsIdeal.main_arg0) = m ((c.tc : Thread Cert.KernelRmsIdeal.nD Cert.KernelRmsIdeal.τ).loc Cert.KernelRmsIdeal.main_arg0)
      ∧ m' ((c.tc : Thread Cert.ReferenceRmsIdeal.nD Cert.ReferenceRmsIdeal.τ).loc Cert.ReferenceRmsIdeal.main_arg1) = m ((c.tc : Thread Cert.KernelRmsIdeal.nD Cert.KernelRmsIdeal.τ).loc Cert.KernelRmsIdeal.main_arg1)) →
    ∃ (v0 : (c : Dev Cert.KernelRmsIdeal.nD) → Buf (Elt Ideal) ((c.tc : Thread Cert.KernelRmsIdeal.nD Cert.KernelRmsIdeal.τ).loc Cert.KernelRmsIdeal.main_v1)),
      θ_run (Cert.KernelRmsIdeal.defs (F := Ideal)) (onTc (τ := Cert.KernelRmsIdeal.τ) (Cert.KernelRmsIdeal.main (F := Ideal))) ⟨m, fun _ => 0, g⟩ (fun r => ∀ c : Dev Cert.KernelRmsIdeal.nD,
          r.2.mem ((c.tc : Thread Cert.KernelRmsIdeal.nD Cert.KernelRmsIdeal.τ).loc Cert.KernelRmsIdeal.main_v1) = v0 c
          ∧ r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
          ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1))
      ∧ θ_run (Cert.ReferenceRmsIdeal.defs (F := Ideal)) (onTc (τ := Cert.ReferenceRmsIdeal.τ) (Cert.ReferenceRmsIdeal.main (F := Ideal))) ⟨m', fun _ => 0, g'⟩ (fun r => ∀ c : Dev Cert.ReferenceRmsIdeal.nD,
          r.2.mem ((c.tc : Thread Cert.ReferenceRmsIdeal.nD Cert.ReferenceRmsIdeal.τ).loc Cert.ReferenceRmsIdeal.main_v13) = v0 c
          ∧ r.2.mem ((c.tc : Thread Cert.ReferenceRmsIdeal.nD Cert.ReferenceRmsIdeal.τ).loc Cert.ReferenceRmsIdeal.main_arg0) = m' ((c.tc : Thread Cert.ReferenceRmsIdeal.nD Cert.ReferenceRmsIdeal.τ).loc Cert.ReferenceRmsIdeal.main_arg0)
          ∧ r.2.mem ((c.tc : Thread Cert.ReferenceRmsIdeal.nD Cert.ReferenceRmsIdeal.τ).loc Cert.ReferenceRmsIdeal.main_arg1) = m' ((c.tc : Thread Cert.ReferenceRmsIdeal.nD Cert.ReferenceRmsIdeal.τ).loc Cert.ReferenceRmsIdeal.main_arg1))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)) →
    ∃ (v0 : (c : Dev Cert.KernelGluIdeal.nD) → Buf (Elt Ideal) ((c.tc : Thread Cert.KernelGluIdeal.nD Cert.KernelGluIdeal.τ).loc Cert.KernelGluIdeal.main_v0)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v0) = v0 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v8) = v0 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0))

def preserves_KernelLn_KernelLnIdeal : Prop :=
  True

def algebraic_KernelLnIdeal_ReferenceLnIdeal [hKernelLnIdeal : Cert.KernelLnIdeal.Facts] [hReferenceLnIdeal : Cert.ReferenceLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg)
    (m' : (ℓ : Loc Cert.ReferenceLnIdeal.nD Cert.ReferenceLnIdeal.τ Cert.ReferenceLnIdeal.sig) → Buf (Elt Ideal) ℓ) (g' : Dev Cert.ReferenceLnIdeal.nD → PrngReg), Pre_KernelLnIdeal m →
    (∀ c : Dev Cert.KernelLnIdeal.nD,
      m' ((c.tc : Thread Cert.ReferenceLnIdeal.nD Cert.ReferenceLnIdeal.τ).loc Cert.ReferenceLnIdeal.main_arg0) = m ((c.tc : Thread Cert.KernelLnIdeal.nD Cert.KernelLnIdeal.τ).loc Cert.KernelLnIdeal.main_arg0)
      ∧ m' ((c.tc : Thread Cert.ReferenceLnIdeal.nD Cert.ReferenceLnIdeal.τ).loc Cert.ReferenceLnIdeal.main_arg1) = m ((c.tc : Thread Cert.KernelLnIdeal.nD Cert.KernelLnIdeal.τ).loc Cert.KernelLnIdeal.main_arg1)
      ∧ m' ((c.tc : Thread Cert.ReferenceLnIdeal.nD Cert.ReferenceLnIdeal.τ).loc Cert.ReferenceLnIdeal.main_arg2) = m ((c.tc : Thread Cert.KernelLnIdeal.nD Cert.KernelLnIdeal.τ).loc Cert.KernelLnIdeal.main_arg2)) →
    ∃ (v0 : (c : Dev Cert.KernelLnIdeal.nD) → Buf (Elt Ideal) ((c.tc : Thread Cert.KernelLnIdeal.nD Cert.KernelLnIdeal.τ).loc Cert.KernelLnIdeal.main_v2)),
      θ_run (Cert.KernelLnIdeal.defs (F := Ideal)) (onTc (τ := Cert.KernelLnIdeal.τ) (Cert.KernelLnIdeal.main (F := Ideal))) ⟨m, fun _ => 0, g⟩ (fun r => ∀ c : Dev Cert.KernelLnIdeal.nD,
          r.2.mem ((c.tc : Thread Cert.KernelLnIdeal.nD Cert.KernelLnIdeal.τ).loc Cert.KernelLnIdeal.main_v2) = v0 c
          ∧ r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
          ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
          ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2))
      ∧ θ_run (Cert.ReferenceLnIdeal.defs (F := Ideal)) (onTc (τ := Cert.ReferenceLnIdeal.τ) (Cert.ReferenceLnIdeal.main (F := Ideal))) ⟨m', fun _ => 0, g'⟩ (fun r => ∀ c : Dev Cert.ReferenceLnIdeal.nD,
          r.2.mem ((c.tc : Thread Cert.ReferenceLnIdeal.nD Cert.ReferenceLnIdeal.τ).loc Cert.ReferenceLnIdeal.main_v25) = v0 c
          ∧ r.2.mem ((c.tc : Thread Cert.ReferenceLnIdeal.nD Cert.ReferenceLnIdeal.τ).loc Cert.ReferenceLnIdeal.main_arg0) = m' ((c.tc : Thread Cert.ReferenceLnIdeal.nD Cert.ReferenceLnIdeal.τ).loc Cert.ReferenceLnIdeal.main_arg0)
          ∧ r.2.mem ((c.tc : Thread Cert.ReferenceLnIdeal.nD Cert.ReferenceLnIdeal.τ).loc Cert.ReferenceLnIdeal.main_arg1) = m' ((c.tc : Thread Cert.ReferenceLnIdeal.nD Cert.ReferenceLnIdeal.τ).loc Cert.ReferenceLnIdeal.main_arg1)
          ∧ r.2.mem ((c.tc : Thread Cert.ReferenceLnIdeal.nD Cert.ReferenceLnIdeal.τ).loc Cert.ReferenceLnIdeal.main_arg2) = m' ((c.tc : Thread Cert.ReferenceLnIdeal.nD Cert.ReferenceLnIdeal.τ).loc Cert.ReferenceLnIdeal.main_arg2))

def preserves_KernelGnorm_KernelGnormIdeal : Prop :=
  True

def algebraic_KernelGnormIdeal_ReferenceGnormIdeal [hKernelGnormIdeal : Cert.KernelGnormIdeal.Facts] [hReferenceGnormIdeal : Cert.ReferenceGnormIdeal.Facts] : Prop :=
  ∀ (m : (ℓ : Loc Cert.KernelGnormIdeal.nD Cert.KernelGnormIdeal.τ Cert.KernelGnormIdeal.sig) → Buf (Elt Ideal) ℓ) (g : Dev Cert.KernelGnormIdeal.nD → PrngReg)
    (m' : (ℓ : Loc Cert.ReferenceGnormIdeal.nD Cert.ReferenceGnormIdeal.τ Cert.ReferenceGnormIdeal.sig) → Buf (Elt Ideal) ℓ) (g' : Dev Cert.ReferenceGnormIdeal.nD → PrngReg), Pre_KernelGnormIdeal m →
    (∀ c : Dev Cert.KernelGnormIdeal.nD,
      m' ((c.tc : Thread Cert.ReferenceGnormIdeal.nD Cert.ReferenceGnormIdeal.τ).loc Cert.ReferenceGnormIdeal.main_arg0) = m ((c.tc : Thread Cert.KernelGnormIdeal.nD Cert.KernelGnormIdeal.τ).loc Cert.KernelGnormIdeal.main_arg0)
      ∧ m' ((c.tc : Thread Cert.ReferenceGnormIdeal.nD Cert.ReferenceGnormIdeal.τ).loc Cert.ReferenceGnormIdeal.main_arg1) = m ((c.tc : Thread Cert.KernelGnormIdeal.nD Cert.KernelGnormIdeal.τ).loc Cert.KernelGnormIdeal.main_arg1)
      ∧ m' ((c.tc : Thread Cert.ReferenceGnormIdeal.nD Cert.ReferenceGnormIdeal.τ).loc Cert.ReferenceGnormIdeal.main_arg2) = m ((c.tc : Thread Cert.KernelGnormIdeal.nD Cert.KernelGnormIdeal.τ).loc Cert.KernelGnormIdeal.main_arg2)
      ∧ m' ((c.tc : Thread Cert.ReferenceGnormIdeal.nD Cert.ReferenceGnormIdeal.τ).loc Cert.ReferenceGnormIdeal.main_arg3) = m ((c.tc : Thread Cert.KernelGnormIdeal.nD Cert.KernelGnormIdeal.τ).loc Cert.KernelGnormIdeal.main_arg3)
      ∧ m' ((c.tc : Thread Cert.ReferenceGnormIdeal.nD Cert.ReferenceGnormIdeal.τ).loc Cert.ReferenceGnormIdeal.main_arg4) = m ((c.tc : Thread Cert.KernelGnormIdeal.nD Cert.KernelGnormIdeal.τ).loc Cert.KernelGnormIdeal.main_arg4)) →
    ∃ (v0 : (c : Dev Cert.KernelGnormIdeal.nD) → Buf (Elt Ideal) ((c.tc : Thread Cert.KernelGnormIdeal.nD Cert.KernelGnormIdeal.τ).loc Cert.KernelGnormIdeal.main_v4)),
      θ_run (Cert.KernelGnormIdeal.defs (F := Ideal)) (onTc (τ := Cert.KernelGnormIdeal.τ) (Cert.KernelGnormIdeal.main (F := Ideal))) ⟨m, fun _ => 0, g⟩ (fun r => ∀ c : Dev Cert.KernelGnormIdeal.nD,
          r.2.mem ((c.tc : Thread Cert.KernelGnormIdeal.nD Cert.KernelGnormIdeal.τ).loc Cert.KernelGnormIdeal.main_v4) = v0 c
          ∧ r.2.mem ((c.tc : Thread Cert.KernelGnormIdeal.nD Cert.KernelGnormIdeal.τ).loc Cert.KernelGnormIdeal.main_arg0) = m ((c.tc : Thread Cert.KernelGnormIdeal.nD Cert.KernelGnormIdeal.τ).loc Cert.KernelGnormIdeal.main_arg0)
          ∧ r.2.mem ((c.tc : Thread Cert.KernelGnormIdeal.nD Cert.KernelGnormIdeal.τ).loc Cert.KernelGnormIdeal.main_arg1) = m ((c.tc : Thread Cert.KernelGnormIdeal.nD Cert.KernelGnormIdeal.τ).loc Cert.KernelGnormIdeal.main_arg1)
          ∧ r.2.mem ((c.tc : Thread Cert.KernelGnormIdeal.nD Cert.KernelGnormIdeal.τ).loc Cert.KernelGnormIdeal.main_arg2) = m ((c.tc : Thread Cert.KernelGnormIdeal.nD Cert.KernelGnormIdeal.τ).loc Cert.KernelGnormIdeal.main_arg2)
          ∧ r.2.mem ((c.tc : Thread Cert.KernelGnormIdeal.nD Cert.KernelGnormIdeal.τ).loc Cert.KernelGnormIdeal.main_arg3) = m ((c.tc : Thread Cert.KernelGnormIdeal.nD Cert.KernelGnormIdeal.τ).loc Cert.KernelGnormIdeal.main_arg3)
          ∧ r.2.mem ((c.tc : Thread Cert.KernelGnormIdeal.nD Cert.KernelGnormIdeal.τ).loc Cert.KernelGnormIdeal.main_arg4) = m ((c.tc : Thread Cert.KernelGnormIdeal.nD Cert.KernelGnormIdeal.τ).loc Cert.KernelGnormIdeal.main_arg4))
      ∧ θ_run (Cert.ReferenceGnormIdeal.defs (F := Ideal)) (onTc (τ := Cert.ReferenceGnormIdeal.τ) (Cert.ReferenceGnormIdeal.main (F := Ideal))) ⟨m', fun _ => 0, g'⟩ (fun r => ∀ c : Dev Cert.ReferenceGnormIdeal.nD,
          r.2.mem ((c.tc : Thread Cert.ReferenceGnormIdeal.nD Cert.ReferenceGnormIdeal.τ).loc Cert.ReferenceGnormIdeal.main_v23) = v0 c
          ∧ r.2.mem ((c.tc : Thread Cert.ReferenceGnormIdeal.nD Cert.ReferenceGnormIdeal.τ).loc Cert.ReferenceGnormIdeal.main_arg0) = m' ((c.tc : Thread Cert.ReferenceGnormIdeal.nD Cert.ReferenceGnormIdeal.τ).loc Cert.ReferenceGnormIdeal.main_arg0)
          ∧ r.2.mem ((c.tc : Thread Cert.ReferenceGnormIdeal.nD Cert.ReferenceGnormIdeal.τ).loc Cert.ReferenceGnormIdeal.main_arg1) = m' ((c.tc : Thread Cert.ReferenceGnormIdeal.nD Cert.ReferenceGnormIdeal.τ).loc Cert.ReferenceGnormIdeal.main_arg1)
          ∧ r.2.mem ((c.tc : Thread Cert.ReferenceGnormIdeal.nD Cert.ReferenceGnormIdeal.τ).loc Cert.ReferenceGnormIdeal.main_arg2) = m' ((c.tc : Thread Cert.ReferenceGnormIdeal.nD Cert.ReferenceGnormIdeal.τ).loc Cert.ReferenceGnormIdeal.main_arg2)
          ∧ r.2.mem ((c.tc : Thread Cert.ReferenceGnormIdeal.nD Cert.ReferenceGnormIdeal.τ).loc Cert.ReferenceGnormIdeal.main_arg3) = m' ((c.tc : Thread Cert.ReferenceGnormIdeal.nD Cert.ReferenceGnormIdeal.τ).loc Cert.ReferenceGnormIdeal.main_arg3)
          ∧ r.2.mem ((c.tc : Thread Cert.ReferenceGnormIdeal.nD Cert.ReferenceGnormIdeal.τ).loc Cert.ReferenceGnormIdeal.main_arg4) = m' ((c.tc : Thread Cert.ReferenceGnormIdeal.nD Cert.ReferenceGnormIdeal.τ).loc Cert.ReferenceGnormIdeal.main_arg4))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v14) = v0 c
          ∧ r.2.mem ((c.tc : Thread Cert.ReferenceLossIdeal.nD Cert.ReferenceLossIdeal.τ).loc Cert.ReferenceLossIdeal.main_v18) = v1 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1))

def preserves_KernelAdamw_KernelAdamwIdeal : Prop :=
  True

def algebraic_KernelAdamwIdeal_ReferenceAdamwIdeal [hKernelAdamwIdeal : Cert.KernelAdamwIdeal.Facts] [hReferenceAdamwIdeal : Cert.ReferenceAdamwIdeal.Facts] : Prop :=
  ∀ (m : (ℓ : Loc Cert.KernelAdamwIdeal.nD Cert.KernelAdamwIdeal.τ Cert.KernelAdamwIdeal.sig) → Buf (Elt Ideal) ℓ) (g : Dev Cert.KernelAdamwIdeal.nD → PrngReg)
    (m' : (ℓ : Loc Cert.ReferenceAdamwIdeal.nD Cert.ReferenceAdamwIdeal.τ Cert.ReferenceAdamwIdeal.sig) → Buf (Elt Ideal) ℓ) (g' : Dev Cert.ReferenceAdamwIdeal.nD → PrngReg), Pre_KernelAdamwIdeal m →
    (∀ c : Dev Cert.KernelAdamwIdeal.nD,
      m' ((c.tc : Thread Cert.ReferenceAdamwIdeal.nD Cert.ReferenceAdamwIdeal.τ).loc Cert.ReferenceAdamwIdeal.main_arg0) = m ((c.tc : Thread Cert.KernelAdamwIdeal.nD Cert.KernelAdamwIdeal.τ).loc Cert.KernelAdamwIdeal.main_arg0)
      ∧ m' ((c.tc : Thread Cert.ReferenceAdamwIdeal.nD Cert.ReferenceAdamwIdeal.τ).loc Cert.ReferenceAdamwIdeal.main_arg1) = m ((c.tc : Thread Cert.KernelAdamwIdeal.nD Cert.KernelAdamwIdeal.τ).loc Cert.KernelAdamwIdeal.main_arg1)
      ∧ m' ((c.tc : Thread Cert.ReferenceAdamwIdeal.nD Cert.ReferenceAdamwIdeal.τ).loc Cert.ReferenceAdamwIdeal.main_arg2) = m ((c.tc : Thread Cert.KernelAdamwIdeal.nD Cert.KernelAdamwIdeal.τ).loc Cert.KernelAdamwIdeal.main_arg2)
      ∧ m' ((c.tc : Thread Cert.ReferenceAdamwIdeal.nD Cert.ReferenceAdamwIdeal.τ).loc Cert.ReferenceAdamwIdeal.main_arg3) = m ((c.tc : Thread Cert.KernelAdamwIdeal.nD Cert.KernelAdamwIdeal.τ).loc Cert.KernelAdamwIdeal.main_arg3)) →
    ∃ (v0 : (c : Dev Cert.KernelAdamwIdeal.nD) → Buf (Elt Ideal) ((c.tc : Thread Cert.KernelAdamwIdeal.nD Cert.KernelAdamwIdeal.τ).loc Cert.KernelAdamwIdeal.main_v4_0)) (v1 : (c : Dev Cert.KernelAdamwIdeal.nD) → Buf (Elt Ideal) ((c.tc : Thread Cert.KernelAdamwIdeal.nD Cert.KernelAdamwIdeal.τ).loc Cert.KernelAdamwIdeal.main_v4_1)) (v2 : (c : Dev Cert.KernelAdamwIdeal.nD) → Buf (Elt Ideal) ((c.tc : Thread Cert.KernelAdamwIdeal.nD Cert.KernelAdamwIdeal.τ).loc Cert.KernelAdamwIdeal.main_v4_2)),
      θ_run (Cert.KernelAdamwIdeal.defs (F := Ideal)) (onTc (τ := Cert.KernelAdamwIdeal.τ) (Cert.KernelAdamwIdeal.main (F := Ideal))) ⟨m, fun _ => 0, g⟩ (fun r => ∀ c : Dev Cert.KernelAdamwIdeal.nD,
          r.2.mem ((c.tc : Thread Cert.KernelAdamwIdeal.nD Cert.KernelAdamwIdeal.τ).loc Cert.KernelAdamwIdeal.main_v4_0) = v0 c
          ∧ r.2.mem ((c.tc : Thread Cert.KernelAdamwIdeal.nD Cert.KernelAdamwIdeal.τ).loc Cert.KernelAdamwIdeal.main_v4_1) = v1 c
          ∧ r.2.mem ((c.tc : Thread Cert.KernelAdamwIdeal.nD Cert.KernelAdamwIdeal.τ).loc Cert.KernelAdamwIdeal.main_v4_2) = v2 c
          ∧ r.2.mem ((c.tc : Thread Cert.KernelAdamwIdeal.nD Cert.KernelAdamwIdeal.τ).loc Cert.KernelAdamwIdeal.main_arg0) = m ((c.tc : Thread Cert.KernelAdamwIdeal.nD Cert.KernelAdamwIdeal.τ).loc Cert.KernelAdamwIdeal.main_arg0)
          ∧ r.2.mem ((c.tc : Thread Cert.KernelAdamwIdeal.nD Cert.KernelAdamwIdeal.τ).loc Cert.KernelAdamwIdeal.main_arg1) = m ((c.tc : Thread Cert.KernelAdamwIdeal.nD Cert.KernelAdamwIdeal.τ).loc Cert.KernelAdamwIdeal.main_arg1)
          ∧ r.2.mem ((c.tc : Thread Cert.KernelAdamwIdeal.nD Cert.KernelAdamwIdeal.τ).loc Cert.KernelAdamwIdeal.main_arg2) = m ((c.tc : Thread Cert.KernelAdamwIdeal.nD Cert.KernelAdamwIdeal.τ).loc Cert.KernelAdamwIdeal.main_arg2)
          ∧ r.2.mem ((c.tc : Thread Cert.KernelAdamwIdeal.nD Cert.KernelAdamwIdeal.τ).loc Cert.KernelAdamwIdeal.main_arg3) = m ((c.tc : Thread Cert.KernelAdamwIdeal.nD Cert.KernelAdamwIdeal.τ).loc Cert.KernelAdamwIdeal.main_arg3))
      ∧ θ_run (Cert.ReferenceAdamwIdeal.defs (F := Ideal)) (onTc (τ := Cert.ReferenceAdamwIdeal.τ) (Cert.ReferenceAdamwIdeal.main (F := Ideal))) ⟨m', fun _ => 0, g'⟩ (fun r => ∀ c : Dev Cert.ReferenceAdamwIdeal.nD,
          r.2.mem ((c.tc : Thread Cert.ReferenceAdamwIdeal.nD Cert.ReferenceAdamwIdeal.τ).loc Cert.ReferenceAdamwIdeal.main_v24) = v0 c
          ∧ r.2.mem ((c.tc : Thread Cert.ReferenceAdamwIdeal.nD Cert.ReferenceAdamwIdeal.τ).loc Cert.ReferenceAdamwIdeal.main_v25) = v1 c
          ∧ r.2.mem ((c.tc : Thread Cert.ReferenceAdamwIdeal.nD Cert.ReferenceAdamwIdeal.τ).loc Cert.ReferenceAdamwIdeal.main_v26) = v2 c
          ∧ r.2.mem ((c.tc : Thread Cert.ReferenceAdamwIdeal.nD Cert.ReferenceAdamwIdeal.τ).loc Cert.ReferenceAdamwIdeal.main_arg0) = m' ((c.tc : Thread Cert.ReferenceAdamwIdeal.nD Cert.ReferenceAdamwIdeal.τ).loc Cert.ReferenceAdamwIdeal.main_arg0)
          ∧ r.2.mem ((c.tc : Thread Cert.ReferenceAdamwIdeal.nD Cert.ReferenceAdamwIdeal.τ).loc Cert.ReferenceAdamwIdeal.main_arg1) = m' ((c.tc : Thread Cert.ReferenceAdamwIdeal.nD Cert.ReferenceAdamwIdeal.τ).loc Cert.ReferenceAdamwIdeal.main_arg1)
          ∧ r.2.mem ((c.tc : Thread Cert.ReferenceAdamwIdeal.nD Cert.ReferenceAdamwIdeal.τ).loc Cert.ReferenceAdamwIdeal.main_arg2) = m' ((c.tc : Thread Cert.ReferenceAdamwIdeal.nD Cert.ReferenceAdamwIdeal.τ).loc Cert.ReferenceAdamwIdeal.main_arg2)
          ∧ r.2.mem ((c.tc : Thread Cert.ReferenceAdamwIdeal.nD Cert.ReferenceAdamwIdeal.τ).loc Cert.ReferenceAdamwIdeal.main_arg3) = m' ((c.tc : Thread Cert.ReferenceAdamwIdeal.nD Cert.ReferenceAdamwIdeal.τ).loc Cert.ReferenceAdamwIdeal.main_arg3))

def preserves_KernelRmsBwd_KernelRmsBwdIdeal : Prop :=
  True

def algebraic_KernelRmsBwdIdeal_ReferenceRmsBwdIdeal [hKernelRmsBwdIdeal : Cert.KernelRmsBwdIdeal.Facts] [hReferenceRmsBwdIdeal : Cert.ReferenceRmsBwdIdeal.Facts] : Prop :=
  ∀ (m : (ℓ : Loc Cert.KernelRmsBwdIdeal.nD Cert.KernelRmsBwdIdeal.τ Cert.KernelRmsBwdIdeal.sig) → Buf (Elt Ideal) ℓ) (g : Dev Cert.KernelRmsBwdIdeal.nD → PrngReg)
    (m' : (ℓ : Loc Cert.ReferenceRmsBwdIdeal.nD Cert.ReferenceRmsBwdIdeal.τ Cert.ReferenceRmsBwdIdeal.sig) → Buf (Elt Ideal) ℓ) (g' : Dev Cert.ReferenceRmsBwdIdeal.nD → PrngReg), Pre_KernelRmsBwdIdeal m →
    (∀ c : Dev Cert.KernelRmsBwdIdeal.nD,
      m' ((c.tc : Thread Cert.ReferenceRmsBwdIdeal.nD Cert.ReferenceRmsBwdIdeal.τ).loc Cert.ReferenceRmsBwdIdeal.main_arg0) = m ((c.tc : Thread Cert.KernelRmsBwdIdeal.nD Cert.KernelRmsBwdIdeal.τ).loc Cert.KernelRmsBwdIdeal.main_arg0)
      ∧ m' ((c.tc : Thread Cert.ReferenceRmsBwdIdeal.nD Cert.ReferenceRmsBwdIdeal.τ).loc Cert.ReferenceRmsBwdIdeal.main_arg1) = m ((c.tc : Thread Cert.KernelRmsBwdIdeal.nD Cert.KernelRmsBwdIdeal.τ).loc Cert.KernelRmsBwdIdeal.main_arg1)
      ∧ m' ((c.tc : Thread Cert.ReferenceRmsBwdIdeal.nD Cert.ReferenceRmsBwdIdeal.τ).loc Cert.ReferenceRmsBwdIdeal.main_arg2) = m ((c.tc : Thread Cert.KernelRmsBwdIdeal.nD Cert.KernelRmsBwdIdeal.τ).loc Cert.KernelRmsBwdIdeal.main_arg2)
      ∧ m' ((c.tc : Thread Cert.ReferenceRmsBwdIdeal.nD Cert.ReferenceRmsBwdIdeal.τ).loc Cert.ReferenceRmsBwdIdeal.main_arg3) = m ((c.tc : Thread Cert.KernelRmsBwdIdeal.nD Cert.KernelRmsBwdIdeal.τ).loc Cert.KernelRmsBwdIdeal.main_arg3)) →
    ∃ (v0 : (c : Dev Cert.KernelRmsBwdIdeal.nD) → Buf (Elt Ideal) ((c.tc : Thread Cert.KernelRmsBwdIdeal.nD Cert.KernelRmsBwdIdeal.τ).loc Cert.KernelRmsBwdIdeal.main_v1_0)) (v1 : (c : Dev Cert.KernelRmsBwdIdeal.nD) → Buf (Elt Ideal) ((c.tc : Thread Cert.KernelRmsBwdIdeal.nD Cert.KernelRmsBwdIdeal.τ).loc Cert.KernelRmsBwdIdeal.main_v1_1)) (v2 : (c : Dev Cert.KernelRmsBwdIdeal.nD) → Buf (Elt Ideal) ((c.tc : Thread Cert.KernelRmsBwdIdeal.nD Cert.KernelRmsBwdIdeal.τ).loc Cert.KernelRmsBwdIdeal.main_v1_2)) (v3 : (c : Dev Cert.KernelRmsBwdIdeal.nD) → Buf (Elt Ideal) ((c.tc : Thread Cert.KernelRmsBwdIdeal.nD Cert.KernelRmsBwdIdeal.τ).loc Cert.KernelRmsBwdIdeal.main_v1_3)),
      θ_run (Cert.KernelRmsBwdIdeal.defs (F := Ideal)) (onTc (τ := Cert.KernelRmsBwdIdeal.τ) (Cert.KernelRmsBwdIdeal.main (F := Ideal))) ⟨m, fun _ => 0, g⟩ (fun r => ∀ c : Dev Cert.KernelRmsBwdIdeal.nD,
          r.2.mem ((c.tc : Thread Cert.KernelRmsBwdIdeal.nD Cert.KernelRmsBwdIdeal.τ).loc Cert.KernelRmsBwdIdeal.main_v1_0) = v0 c
          ∧ r.2.mem ((c.tc : Thread Cert.KernelRmsBwdIdeal.nD Cert.KernelRmsBwdIdeal.τ).loc Cert.KernelRmsBwdIdeal.main_v1_1) = v1 c
          ∧ r.2.mem ((c.tc : Thread Cert.KernelRmsBwdIdeal.nD Cert.KernelRmsBwdIdeal.τ).loc Cert.KernelRmsBwdIdeal.main_v1_2) = v2 c
          ∧ r.2.mem ((c.tc : Thread Cert.KernelRmsBwdIdeal.nD Cert.KernelRmsBwdIdeal.τ).loc Cert.KernelRmsBwdIdeal.main_v1_3) = v3 c
          ∧ r.2.mem ((c.tc : Thread Cert.KernelRmsBwdIdeal.nD Cert.KernelRmsBwdIdeal.τ).loc Cert.KernelRmsBwdIdeal.main_arg0) = m ((c.tc : Thread Cert.KernelRmsBwdIdeal.nD Cert.KernelRmsBwdIdeal.τ).loc Cert.KernelRmsBwdIdeal.main_arg0)
          ∧ r.2.mem ((c.tc : Thread Cert.KernelRmsBwdIdeal.nD Cert.KernelRmsBwdIdeal.τ).loc Cert.KernelRmsBwdIdeal.main_arg1) = m ((c.tc : Thread Cert.KernelRmsBwdIdeal.nD Cert.KernelRmsBwdIdeal.τ).loc Cert.KernelRmsBwdIdeal.main_arg1)
          ∧ r.2.mem ((c.tc : Thread Cert.KernelRmsBwdIdeal.nD Cert.KernelRmsBwdIdeal.τ).loc Cert.KernelRmsBwdIdeal.main_arg2) = m ((c.tc : Thread Cert.KernelRmsBwdIdeal.nD Cert.KernelRmsBwdIdeal.τ).loc Cert.KernelRmsBwdIdeal.main_arg2)
          ∧ r.2.mem ((c.tc : Thread Cert.KernelRmsBwdIdeal.nD Cert.KernelRmsBwdIdeal.τ).loc Cert.KernelRmsBwdIdeal.main_arg3) = m ((c.tc : Thread Cert.KernelRmsBwdIdeal.nD Cert.KernelRmsBwdIdeal.τ).loc Cert.KernelRmsBwdIdeal.main_arg3))
      ∧ θ_run (Cert.ReferenceRmsBwdIdeal.defs (F := Ideal)) (onTc (τ := Cert.ReferenceRmsBwdIdeal.τ) (Cert.ReferenceRmsBwdIdeal.main (F := Ideal))) ⟨m', fun _ => 0, g'⟩ (fun r => ∀ c : Dev Cert.ReferenceRmsBwdIdeal.nD,
          r.2.mem ((c.tc : Thread Cert.ReferenceRmsBwdIdeal.nD Cert.ReferenceRmsBwdIdeal.τ).loc Cert.ReferenceRmsBwdIdeal.main_v36) = v0 c
          ∧ r.2.mem ((c.tc : Thread Cert.ReferenceRmsBwdIdeal.nD Cert.ReferenceRmsBwdIdeal.τ).loc Cert.ReferenceRmsBwdIdeal.main_v37) = v1 c
          ∧ r.2.mem ((c.tc : Thread Cert.ReferenceRmsBwdIdeal.nD Cert.ReferenceRmsBwdIdeal.τ).loc Cert.ReferenceRmsBwdIdeal.main_v38) = v2 c
          ∧ r.2.mem ((c.tc : Thread Cert.ReferenceRmsBwdIdeal.nD Cert.ReferenceRmsBwdIdeal.τ).loc Cert.ReferenceRmsBwdIdeal.main_v40) = v3 c
          ∧ r.2.mem ((c.tc : Thread Cert.ReferenceRmsBwdIdeal.nD Cert.ReferenceRmsBwdIdeal.τ).loc Cert.ReferenceRmsBwdIdeal.main_arg0) = m' ((c.tc : Thread Cert.ReferenceRmsBwdIdeal.nD Cert.ReferenceRmsBwdIdeal.τ).loc Cert.ReferenceRmsBwdIdeal.main_arg0)
          ∧ r.2.mem ((c.tc : Thread Cert.ReferenceRmsBwdIdeal.nD Cert.ReferenceRmsBwdIdeal.τ).loc Cert.ReferenceRmsBwdIdeal.main_arg1) = m' ((c.tc : Thread Cert.ReferenceRmsBwdIdeal.nD Cert.ReferenceRmsBwdIdeal.τ).loc Cert.ReferenceRmsBwdIdeal.main_arg1)
          ∧ r.2.mem ((c.tc : Thread Cert.ReferenceRmsBwdIdeal.nD Cert.ReferenceRmsBwdIdeal.τ).loc Cert.ReferenceRmsBwdIdeal.main_arg2) = m' ((c.tc : Thread Cert.ReferenceRmsBwdIdeal.nD Cert.ReferenceRmsBwdIdeal.τ).loc Cert.ReferenceRmsBwdIdeal.main_arg2)
          ∧ r.2.mem ((c.tc : Thread Cert.ReferenceRmsBwdIdeal.nD Cert.ReferenceRmsBwdIdeal.τ).loc Cert.ReferenceRmsBwdIdeal.main_arg3) = m' ((c.tc : Thread Cert.ReferenceRmsBwdIdeal.nD Cert.ReferenceRmsBwdIdeal.τ).loc Cert.ReferenceRmsBwdIdeal.main_arg3))

def preserves_KernelSiluBwd_KernelSiluBwdIdeal : Prop :=
  True

def algebraic_KernelSiluBwdIdeal_ReferenceSiluBwdIdeal_pre_finite_silu [hKernelSiluBwdIdeal : Cert.KernelSiluBwdIdeal.Facts] [hReferenceSiluBwdIdeal : Cert.ReferenceSiluBwdIdeal.Facts] [hPre_finite_silu : Cert.Pre_finite_silu.Facts] : Prop :=
  ∀ (m : (ℓ : Loc Cert.KernelSiluBwdIdeal.nD Cert.KernelSiluBwdIdeal.τ Cert.KernelSiluBwdIdeal.sig) → Buf (Elt Ideal) ℓ) (g : Dev Cert.KernelSiluBwdIdeal.nD → PrngReg)
    (m' : (ℓ : Loc Cert.ReferenceSiluBwdIdeal.nD Cert.ReferenceSiluBwdIdeal.τ Cert.ReferenceSiluBwdIdeal.sig) → Buf (Elt Ideal) ℓ) (g' : Dev Cert.ReferenceSiluBwdIdeal.nD → PrngReg), Pre_KernelSiluBwdIdeal_finite_silu m →
    (∀ c : Dev Cert.KernelSiluBwdIdeal.nD,
      m' ((c.tc : Thread Cert.ReferenceSiluBwdIdeal.nD Cert.ReferenceSiluBwdIdeal.τ).loc Cert.ReferenceSiluBwdIdeal.main_arg0) = m ((c.tc : Thread Cert.KernelSiluBwdIdeal.nD Cert.KernelSiluBwdIdeal.τ).loc Cert.KernelSiluBwdIdeal.main_arg0)
      ∧ m' ((c.tc : Thread Cert.ReferenceSiluBwdIdeal.nD Cert.ReferenceSiluBwdIdeal.τ).loc Cert.ReferenceSiluBwdIdeal.main_arg1) = m ((c.tc : Thread Cert.KernelSiluBwdIdeal.nD Cert.KernelSiluBwdIdeal.τ).loc Cert.KernelSiluBwdIdeal.main_arg1)) →
    ∃ (v0 : (c : Dev Cert.KernelSiluBwdIdeal.nD) → Buf (Elt Ideal) ((c.tc : Thread Cert.KernelSiluBwdIdeal.nD Cert.KernelSiluBwdIdeal.τ).loc Cert.KernelSiluBwdIdeal.main_v0)),
      θ_run (Cert.KernelSiluBwdIdeal.defs (F := Ideal)) (onTc (τ := Cert.KernelSiluBwdIdeal.τ) (Cert.KernelSiluBwdIdeal.main (F := Ideal))) ⟨m, fun _ => 0, g⟩ (fun r => ∀ c : Dev Cert.KernelSiluBwdIdeal.nD,
          r.2.mem ((c.tc : Thread Cert.KernelSiluBwdIdeal.nD Cert.KernelSiluBwdIdeal.τ).loc Cert.KernelSiluBwdIdeal.main_v0) = v0 c
          ∧ r.2.mem ((c.tc : Thread Cert.KernelSiluBwdIdeal.nD Cert.KernelSiluBwdIdeal.τ).loc Cert.KernelSiluBwdIdeal.main_arg0) = m ((c.tc : Thread Cert.KernelSiluBwdIdeal.nD Cert.KernelSiluBwdIdeal.τ).loc Cert.KernelSiluBwdIdeal.main_arg0)
          ∧ r.2.mem ((c.tc : Thread Cert.KernelSiluBwdIdeal.nD Cert.KernelSiluBwdIdeal.τ).loc Cert.KernelSiluBwdIdeal.main_arg1) = m ((c.tc : Thread Cert.KernelSiluBwdIdeal.nD Cert.KernelSiluBwdIdeal.τ).loc Cert.KernelSiluBwdIdeal.main_arg1))
      ∧ θ_run (Cert.ReferenceSiluBwdIdeal.defs (F := Ideal)) (onTc (τ := Cert.ReferenceSiluBwdIdeal.τ) (Cert.ReferenceSiluBwdIdeal.main (F := Ideal))) ⟨m', fun _ => 0, g'⟩ (fun r => ∀ c : Dev Cert.ReferenceSiluBwdIdeal.nD,
          r.2.mem ((c.tc : Thread Cert.ReferenceSiluBwdIdeal.nD Cert.ReferenceSiluBwdIdeal.τ).loc Cert.ReferenceSiluBwdIdeal.main_v1) = v0 c
          ∧ r.2.mem ((c.tc : Thread Cert.ReferenceSiluBwdIdeal.nD Cert.ReferenceSiluBwdIdeal.τ).loc Cert.ReferenceSiluBwdIdeal.main_arg0) = m' ((c.tc : Thread Cert.ReferenceSiluBwdIdeal.nD Cert.ReferenceSiluBwdIdeal.τ).loc Cert.ReferenceSiluBwdIdeal.main_arg0)
          ∧ r.2.mem ((c.tc : Thread Cert.ReferenceSiluBwdIdeal.nD Cert.ReferenceSiluBwdIdeal.τ).loc Cert.ReferenceSiluBwdIdeal.main_arg1) = m' ((c.tc : Thread Cert.ReferenceSiluBwdIdeal.nD Cert.ReferenceSiluBwdIdeal.τ).loc Cert.ReferenceSiluBwdIdeal.main_arg1))

def preserves_KernelLnBwd_KernelLnBwdIdeal : Prop :=
  True

def algebraic_KernelLnBwdIdeal_ReferenceLnBwdIdeal_pre_finite_ln [hKernelLnBwdIdeal : Cert.KernelLnBwdIdeal.Facts] [hReferenceLnBwdIdeal : Cert.ReferenceLnBwdIdeal.Facts] [hPre_finite_ln : Cert.Pre_finite_ln.Facts] : Prop :=
  ∀ (m : (ℓ : Loc Cert.KernelLnBwdIdeal.nD Cert.KernelLnBwdIdeal.τ Cert.KernelLnBwdIdeal.sig) → Buf (Elt Ideal) ℓ) (g : Dev Cert.KernelLnBwdIdeal.nD → PrngReg)
    (m' : (ℓ : Loc Cert.ReferenceLnBwdIdeal.nD Cert.ReferenceLnBwdIdeal.τ Cert.ReferenceLnBwdIdeal.sig) → Buf (Elt Ideal) ℓ) (g' : Dev Cert.ReferenceLnBwdIdeal.nD → PrngReg), Pre_KernelLnBwdIdeal_finite_ln m →
    (∀ c : Dev Cert.KernelLnBwdIdeal.nD,
      m' ((c.tc : Thread Cert.ReferenceLnBwdIdeal.nD Cert.ReferenceLnBwdIdeal.τ).loc Cert.ReferenceLnBwdIdeal.main_arg0) = m ((c.tc : Thread Cert.KernelLnBwdIdeal.nD Cert.KernelLnBwdIdeal.τ).loc Cert.KernelLnBwdIdeal.main_arg0)
      ∧ m' ((c.tc : Thread Cert.ReferenceLnBwdIdeal.nD Cert.ReferenceLnBwdIdeal.τ).loc Cert.ReferenceLnBwdIdeal.main_arg1) = m ((c.tc : Thread Cert.KernelLnBwdIdeal.nD Cert.KernelLnBwdIdeal.τ).loc Cert.KernelLnBwdIdeal.main_arg1)
      ∧ m' ((c.tc : Thread Cert.ReferenceLnBwdIdeal.nD Cert.ReferenceLnBwdIdeal.τ).loc Cert.ReferenceLnBwdIdeal.main_arg2) = m ((c.tc : Thread Cert.KernelLnBwdIdeal.nD Cert.KernelLnBwdIdeal.τ).loc Cert.KernelLnBwdIdeal.main_arg2)
      ∧ m' ((c.tc : Thread Cert.ReferenceLnBwdIdeal.nD Cert.ReferenceLnBwdIdeal.τ).loc Cert.ReferenceLnBwdIdeal.main_arg3) = m ((c.tc : Thread Cert.KernelLnBwdIdeal.nD Cert.KernelLnBwdIdeal.τ).loc Cert.KernelLnBwdIdeal.main_arg3)) →
    ∃ (v0 : (c : Dev Cert.KernelLnBwdIdeal.nD) → Buf (Elt Ideal) ((c.tc : Thread Cert.KernelLnBwdIdeal.nD Cert.KernelLnBwdIdeal.τ).loc Cert.KernelLnBwdIdeal.main_v2_0)) (v1 : (c : Dev Cert.KernelLnBwdIdeal.nD) → Buf (Elt Ideal) ((c.tc : Thread Cert.KernelLnBwdIdeal.nD Cert.KernelLnBwdIdeal.τ).loc Cert.KernelLnBwdIdeal.main_v2_1)) (v2 : (c : Dev Cert.KernelLnBwdIdeal.nD) → Buf (Elt Ideal) ((c.tc : Thread Cert.KernelLnBwdIdeal.nD Cert.KernelLnBwdIdeal.τ).loc Cert.KernelLnBwdIdeal.main_v2_2)),
      θ_run (Cert.KernelLnBwdIdeal.defs (F := Ideal)) (onTc (τ := Cert.KernelLnBwdIdeal.τ) (Cert.KernelLnBwdIdeal.main (F := Ideal))) ⟨m, fun _ => 0, g⟩ (fun r => ∀ c : Dev Cert.KernelLnBwdIdeal.nD,
          r.2.mem ((c.tc : Thread Cert.KernelLnBwdIdeal.nD Cert.KernelLnBwdIdeal.τ).loc Cert.KernelLnBwdIdeal.main_v2_0) = v0 c
          ∧ r.2.mem ((c.tc : Thread Cert.KernelLnBwdIdeal.nD Cert.KernelLnBwdIdeal.τ).loc Cert.KernelLnBwdIdeal.main_v2_1) = v1 c
          ∧ r.2.mem ((c.tc : Thread Cert.KernelLnBwdIdeal.nD Cert.KernelLnBwdIdeal.τ).loc Cert.KernelLnBwdIdeal.main_v2_2) = v2 c
          ∧ r.2.mem ((c.tc : Thread Cert.KernelLnBwdIdeal.nD Cert.KernelLnBwdIdeal.τ).loc Cert.KernelLnBwdIdeal.main_arg0) = m ((c.tc : Thread Cert.KernelLnBwdIdeal.nD Cert.KernelLnBwdIdeal.τ).loc Cert.KernelLnBwdIdeal.main_arg0)
          ∧ r.2.mem ((c.tc : Thread Cert.KernelLnBwdIdeal.nD Cert.KernelLnBwdIdeal.τ).loc Cert.KernelLnBwdIdeal.main_arg1) = m ((c.tc : Thread Cert.KernelLnBwdIdeal.nD Cert.KernelLnBwdIdeal.τ).loc Cert.KernelLnBwdIdeal.main_arg1)
          ∧ r.2.mem ((c.tc : Thread Cert.KernelLnBwdIdeal.nD Cert.KernelLnBwdIdeal.τ).loc Cert.KernelLnBwdIdeal.main_arg2) = m ((c.tc : Thread Cert.KernelLnBwdIdeal.nD Cert.KernelLnBwdIdeal.τ).loc Cert.KernelLnBwdIdeal.main_arg2)
          ∧ r.2.mem ((c.tc : Thread Cert.KernelLnBwdIdeal.nD Cert.KernelLnBwdIdeal.τ).loc Cert.KernelLnBwdIdeal.main_arg3) = m ((c.tc : Thread Cert.KernelLnBwdIdeal.nD Cert.KernelLnBwdIdeal.τ).loc Cert.KernelLnBwdIdeal.main_arg3))
      ∧ θ_run (Cert.ReferenceLnBwdIdeal.defs (F := Ideal)) (onTc (τ := Cert.ReferenceLnBwdIdeal.τ) (Cert.ReferenceLnBwdIdeal.main (F := Ideal))) ⟨m', fun _ => 0, g'⟩ (fun r => ∀ c : Dev Cert.ReferenceLnBwdIdeal.nD,
          r.2.mem ((c.tc : Thread Cert.ReferenceLnBwdIdeal.nD Cert.ReferenceLnBwdIdeal.τ).loc Cert.ReferenceLnBwdIdeal.main_v63) = v0 c
          ∧ r.2.mem ((c.tc : Thread Cert.ReferenceLnBwdIdeal.nD Cert.ReferenceLnBwdIdeal.τ).loc Cert.ReferenceLnBwdIdeal.main_v64) = v1 c
          ∧ r.2.mem ((c.tc : Thread Cert.ReferenceLnBwdIdeal.nD Cert.ReferenceLnBwdIdeal.τ).loc Cert.ReferenceLnBwdIdeal.main_v65) = v2 c
          ∧ r.2.mem ((c.tc : Thread Cert.ReferenceLnBwdIdeal.nD Cert.ReferenceLnBwdIdeal.τ).loc Cert.ReferenceLnBwdIdeal.main_arg0) = m' ((c.tc : Thread Cert.ReferenceLnBwdIdeal.nD Cert.ReferenceLnBwdIdeal.τ).loc Cert.ReferenceLnBwdIdeal.main_arg0)
          ∧ r.2.mem ((c.tc : Thread Cert.ReferenceLnBwdIdeal.nD Cert.ReferenceLnBwdIdeal.τ).loc Cert.ReferenceLnBwdIdeal.main_arg1) = m' ((c.tc : Thread Cert.ReferenceLnBwdIdeal.nD Cert.ReferenceLnBwdIdeal.τ).loc Cert.ReferenceLnBwdIdeal.main_arg1)
          ∧ r.2.mem ((c.tc : Thread Cert.ReferenceLnBwdIdeal.nD Cert.ReferenceLnBwdIdeal.τ).loc Cert.ReferenceLnBwdIdeal.main_arg2) = m' ((c.tc : Thread Cert.ReferenceLnBwdIdeal.nD Cert.ReferenceLnBwdIdeal.τ).loc Cert.ReferenceLnBwdIdeal.main_arg2)
          ∧ r.2.mem ((c.tc : Thread Cert.ReferenceLnBwdIdeal.nD Cert.ReferenceLnBwdIdeal.τ).loc Cert.ReferenceLnBwdIdeal.main_arg3) = m' ((c.tc : Thread Cert.ReferenceLnBwdIdeal.nD Cert.ReferenceLnBwdIdeal.τ).loc Cert.ReferenceLnBwdIdeal.main_arg3))

def preserves_KernelGnormBwd_KernelGnormBwdIdeal : Prop :=
  True

def algebraic_KernelGnormBwdIdeal_ReferenceGnormBwdIdeal_pre_finite_gnorm [hKernelGnormBwdIdeal : Cert.KernelGnormBwdIdeal.Facts] [hReferenceGnormBwdIdeal : Cert.ReferenceGnormBwdIdeal.Facts] [hPre_finite_gnorm : Cert.Pre_finite_gnorm.Facts] : Prop :=
  ∀ (m : (ℓ : Loc Cert.KernelGnormBwdIdeal.nD Cert.KernelGnormBwdIdeal.τ Cert.KernelGnormBwdIdeal.sig) → Buf (Elt Ideal) ℓ) (g : Dev Cert.KernelGnormBwdIdeal.nD → PrngReg)
    (m' : (ℓ : Loc Cert.ReferenceGnormBwdIdeal.nD Cert.ReferenceGnormBwdIdeal.τ Cert.ReferenceGnormBwdIdeal.sig) → Buf (Elt Ideal) ℓ) (g' : Dev Cert.ReferenceGnormBwdIdeal.nD → PrngReg), Pre_KernelGnormBwdIdeal_finite_gnorm m →
    (∀ c : Dev Cert.KernelGnormBwdIdeal.nD,
      m' ((c.tc : Thread Cert.ReferenceGnormBwdIdeal.nD Cert.ReferenceGnormBwdIdeal.τ).loc Cert.ReferenceGnormBwdIdeal.main_arg0) = m ((c.tc : Thread Cert.KernelGnormBwdIdeal.nD Cert.KernelGnormBwdIdeal.τ).loc Cert.KernelGnormBwdIdeal.main_arg0)
      ∧ m' ((c.tc : Thread Cert.ReferenceGnormBwdIdeal.nD Cert.ReferenceGnormBwdIdeal.τ).loc Cert.ReferenceGnormBwdIdeal.main_arg1) = m ((c.tc : Thread Cert.KernelGnormBwdIdeal.nD Cert.KernelGnormBwdIdeal.τ).loc Cert.KernelGnormBwdIdeal.main_arg1)
      ∧ m' ((c.tc : Thread Cert.ReferenceGnormBwdIdeal.nD Cert.ReferenceGnormBwdIdeal.τ).loc Cert.ReferenceGnormBwdIdeal.main_arg2) = m ((c.tc : Thread Cert.KernelGnormBwdIdeal.nD Cert.KernelGnormBwdIdeal.τ).loc Cert.KernelGnormBwdIdeal.main_arg2)
      ∧ m' ((c.tc : Thread Cert.ReferenceGnormBwdIdeal.nD Cert.ReferenceGnormBwdIdeal.τ).loc Cert.ReferenceGnormBwdIdeal.main_arg3) = m ((c.tc : Thread Cert.KernelGnormBwdIdeal.nD Cert.KernelGnormBwdIdeal.τ).loc Cert.KernelGnormBwdIdeal.main_arg3)
      ∧ m' ((c.tc : Thread Cert.ReferenceGnormBwdIdeal.nD Cert.ReferenceGnormBwdIdeal.τ).loc Cert.ReferenceGnormBwdIdeal.main_arg4) = m ((c.tc : Thread Cert.KernelGnormBwdIdeal.nD Cert.KernelGnormBwdIdeal.τ).loc Cert.KernelGnormBwdIdeal.main_arg4)
      ∧ m' ((c.tc : Thread Cert.ReferenceGnormBwdIdeal.nD Cert.ReferenceGnormBwdIdeal.τ).loc Cert.ReferenceGnormBwdIdeal.main_arg5) = m ((c.tc : Thread Cert.KernelGnormBwdIdeal.nD Cert.KernelGnormBwdIdeal.τ).loc Cert.KernelGnormBwdIdeal.main_arg5)) →
    ∃ (v0 : (c : Dev Cert.KernelGnormBwdIdeal.nD) → Buf (Elt Ideal) ((c.tc : Thread Cert.KernelGnormBwdIdeal.nD Cert.KernelGnormBwdIdeal.τ).loc Cert.KernelGnormBwdIdeal.main_v4_0)) (v1 : (c : Dev Cert.KernelGnormBwdIdeal.nD) → Buf (Elt Ideal) ((c.tc : Thread Cert.KernelGnormBwdIdeal.nD Cert.KernelGnormBwdIdeal.τ).loc Cert.KernelGnormBwdIdeal.main_v4_1)) (v2 : (c : Dev Cert.KernelGnormBwdIdeal.nD) → Buf (Elt Ideal) ((c.tc : Thread Cert.KernelGnormBwdIdeal.nD Cert.KernelGnormBwdIdeal.τ).loc Cert.KernelGnormBwdIdeal.main_v4_2)) (v3 : (c : Dev Cert.KernelGnormBwdIdeal.nD) → Buf (Elt Ideal) ((c.tc : Thread Cert.KernelGnormBwdIdeal.nD Cert.KernelGnormBwdIdeal.τ).loc Cert.KernelGnormBwdIdeal.main_v4_3)) (v4 : (c : Dev Cert.KernelGnormBwdIdeal.nD) → Buf (Elt Ideal) ((c.tc : Thread Cert.KernelGnormBwdIdeal.nD Cert.KernelGnormBwdIdeal.τ).loc Cert.KernelGnormBwdIdeal.main_v4_4)),
      θ_run (Cert.KernelGnormBwdIdeal.defs (F := Ideal)) (onTc (τ := Cert.KernelGnormBwdIdeal.τ) (Cert.KernelGnormBwdIdeal.main (F := Ideal))) ⟨m, fun _ => 0, g⟩ (fun r => ∀ c : Dev Cert.KernelGnormBwdIdeal.nD,
          r.2.mem ((c.tc : Thread Cert.KernelGnormBwdIdeal.nD Cert.KernelGnormBwdIdeal.τ).loc Cert.KernelGnormBwdIdeal.main_v4_0) = v0 c
          ∧ r.2.mem ((c.tc : Thread Cert.KernelGnormBwdIdeal.nD Cert.KernelGnormBwdIdeal.τ).loc Cert.KernelGnormBwdIdeal.main_v4_1) = v1 c
          ∧ r.2.mem ((c.tc : Thread Cert.KernelGnormBwdIdeal.nD Cert.KernelGnormBwdIdeal.τ).loc Cert.KernelGnormBwdIdeal.main_v4_2) = v2 c
          ∧ r.2.mem ((c.tc : Thread Cert.KernelGnormBwdIdeal.nD Cert.KernelGnormBwdIdeal.τ).loc Cert.KernelGnormBwdIdeal.main_v4_3) = v3 c
          ∧ r.2.mem ((c.tc : Thread Cert.KernelGnormBwdIdeal.nD Cert.KernelGnormBwdIdeal.τ).loc Cert.KernelGnormBwdIdeal.main_v4_4) = v4 c
          ∧ r.2.mem ((c.tc : Thread Cert.KernelGnormBwdIdeal.nD Cert.KernelGnormBwdIdeal.τ).loc Cert.KernelGnormBwdIdeal.main_arg0) = m ((c.tc : Thread Cert.KernelGnormBwdIdeal.nD Cert.KernelGnormBwdIdeal.τ).loc Cert.KernelGnormBwdIdeal.main_arg0)
          ∧ r.2.mem ((c.tc : Thread Cert.KernelGnormBwdIdeal.nD Cert.KernelGnormBwdIdeal.τ).loc Cert.KernelGnormBwdIdeal.main_arg1) = m ((c.tc : Thread Cert.KernelGnormBwdIdeal.nD Cert.KernelGnormBwdIdeal.τ).loc Cert.KernelGnormBwdIdeal.main_arg1)
          ∧ r.2.mem ((c.tc : Thread Cert.KernelGnormBwdIdeal.nD Cert.KernelGnormBwdIdeal.τ).loc Cert.KernelGnormBwdIdeal.main_arg2) = m ((c.tc : Thread Cert.KernelGnormBwdIdeal.nD Cert.KernelGnormBwdIdeal.τ).loc Cert.KernelGnormBwdIdeal.main_arg2)
          ∧ r.2.mem ((c.tc : Thread Cert.KernelGnormBwdIdeal.nD Cert.KernelGnormBwdIdeal.τ).loc Cert.KernelGnormBwdIdeal.main_arg3) = m ((c.tc : Thread Cert.KernelGnormBwdIdeal.nD Cert.KernelGnormBwdIdeal.τ).loc Cert.KernelGnormBwdIdeal.main_arg3)
          ∧ r.2.mem ((c.tc : Thread Cert.KernelGnormBwdIdeal.nD Cert.KernelGnormBwdIdeal.τ).loc Cert.KernelGnormBwdIdeal.main_arg4) = m ((c.tc : Thread Cert.KernelGnormBwdIdeal.nD Cert.KernelGnormBwdIdeal.τ).loc Cert.KernelGnormBwdIdeal.main_arg4)
          ∧ r.2.mem ((c.tc : Thread Cert.KernelGnormBwdIdeal.nD Cert.KernelGnormBwdIdeal.τ).loc Cert.KernelGnormBwdIdeal.main_arg5) = m ((c.tc : Thread Cert.KernelGnormBwdIdeal.nD Cert.KernelGnormBwdIdeal.τ).loc Cert.KernelGnormBwdIdeal.main_arg5))
      ∧ θ_run (Cert.ReferenceGnormBwdIdeal.defs (F := Ideal)) (onTc (τ := Cert.ReferenceGnormBwdIdeal.τ) (Cert.ReferenceGnormBwdIdeal.main (F := Ideal))) ⟨m', fun _ => 0, g'⟩ (fun r => ∀ c : Dev Cert.ReferenceGnormBwdIdeal.nD,
          r.2.mem ((c.tc : Thread Cert.ReferenceGnormBwdIdeal.nD Cert.ReferenceGnormBwdIdeal.τ).loc Cert.ReferenceGnormBwdIdeal.main_v47) = v0 c
          ∧ r.2.mem ((c.tc : Thread Cert.ReferenceGnormBwdIdeal.nD Cert.ReferenceGnormBwdIdeal.τ).loc Cert.ReferenceGnormBwdIdeal.main_v55) = v1 c
          ∧ r.2.mem ((c.tc : Thread Cert.ReferenceGnormBwdIdeal.nD Cert.ReferenceGnormBwdIdeal.τ).loc Cert.ReferenceGnormBwdIdeal.main_v53) = v2 c
          ∧ r.2.mem ((c.tc : Thread Cert.ReferenceGnormBwdIdeal.nD Cert.ReferenceGnormBwdIdeal.τ).loc Cert.ReferenceGnormBwdIdeal.main_v56) = v3 c
          ∧ r.2.mem ((c.tc : Thread Cert.ReferenceGnormBwdIdeal.nD Cert.ReferenceGnormBwdIdeal.τ).loc Cert.ReferenceGnormBwdIdeal.main_v57) = v4 c
          ∧ r.2.mem ((c.tc : Thread Cert.ReferenceGnormBwdIdeal.nD Cert.ReferenceGnormBwdIdeal.τ).loc Cert.ReferenceGnormBwdIdeal.main_arg0) = m' ((c.tc : Thread Cert.ReferenceGnormBwdIdeal.nD Cert.ReferenceGnormBwdIdeal.τ).loc Cert.ReferenceGnormBwdIdeal.main_arg0)
          ∧ r.2.mem ((c.tc : Thread Cert.ReferenceGnormBwdIdeal.nD Cert.ReferenceGnormBwdIdeal.τ).loc Cert.ReferenceGnormBwdIdeal.main_arg1) = m' ((c.tc : Thread Cert.ReferenceGnormBwdIdeal.nD Cert.ReferenceGnormBwdIdeal.τ).loc Cert.ReferenceGnormBwdIdeal.main_arg1)
          ∧ r.2.mem ((c.tc : Thread Cert.ReferenceGnormBwdIdeal.nD Cert.ReferenceGnormBwdIdeal.τ).loc Cert.ReferenceGnormBwdIdeal.main_arg2) = m' ((c.tc : Thread Cert.ReferenceGnormBwdIdeal.nD Cert.ReferenceGnormBwdIdeal.τ).loc Cert.ReferenceGnormBwdIdeal.main_arg2)
          ∧ r.2.mem ((c.tc : Thread Cert.ReferenceGnormBwdIdeal.nD Cert.ReferenceGnormBwdIdeal.τ).loc Cert.ReferenceGnormBwdIdeal.main_arg3) = m' ((c.tc : Thread Cert.ReferenceGnormBwdIdeal.nD Cert.ReferenceGnormBwdIdeal.τ).loc Cert.ReferenceGnormBwdIdeal.main_arg3)
          ∧ r.2.mem ((c.tc : Thread Cert.ReferenceGnormBwdIdeal.nD Cert.ReferenceGnormBwdIdeal.τ).loc Cert.ReferenceGnormBwdIdeal.main_arg4) = m' ((c.tc : Thread Cert.ReferenceGnormBwdIdeal.nD Cert.ReferenceGnormBwdIdeal.τ).loc Cert.ReferenceGnormBwdIdeal.main_arg4)
          ∧ r.2.mem ((c.tc : Thread Cert.ReferenceGnormBwdIdeal.nD Cert.ReferenceGnormBwdIdeal.τ).loc Cert.ReferenceGnormBwdIdeal.main_arg5) = m' ((c.tc : Thread Cert.ReferenceGnormBwdIdeal.nD Cert.ReferenceGnormBwdIdeal.τ).loc Cert.ReferenceGnormBwdIdeal.main_arg5))

def Claim : Prop :=
  ∃ (hKernel : Cert.Kernel.Facts) (hKernelIdeal : Cert.KernelIdeal.Facts) (hReferenceIdeal : Cert.ReferenceIdeal.Facts) (hKernelW1 : Cert.KernelW1.Facts) (hKernelW1Ideal : Cert.KernelW1Ideal.Facts) (hReferenceW1Ideal : Cert.ReferenceW1Ideal.Facts) (hKernelW2 : Cert.KernelW2.Facts) (hKernelW2Ideal : Cert.KernelW2Ideal.Facts) (hReferenceW2Ideal : Cert.ReferenceW2Ideal.Facts) (hKernelDa : Cert.KernelDa.Facts) (hKernelDaIdeal : Cert.KernelDaIdeal.Facts) (hReferenceDaIdeal : Cert.ReferenceDaIdeal.Facts) (hKernelDw2 : Cert.KernelDw2.Facts) (hKernelDw2Ideal : Cert.KernelDw2Ideal.Facts) (hReferenceDw2Ideal : Cert.ReferenceDw2Ideal.Facts) (hKernelDw1 : Cert.KernelDw1.Facts) (hKernelDw1Ideal : Cert.KernelDw1Ideal.Facts) (hReferenceDw1Ideal : Cert.ReferenceDw1Ideal.Facts) (hKernelDu : Cert.KernelDu.Facts) (hKernelDuIdeal : Cert.KernelDuIdeal.Facts) (hReferenceDuIdeal : Cert.ReferenceDuIdeal.Facts) (hKernelQkv : Cert.KernelQkv.Facts) (hKernelQkvIdeal : Cert.KernelQkvIdeal.Facts) (hReferenceQkvIdeal : Cert.ReferenceQkvIdeal.Facts) (hKernelWo : Cert.KernelWo.Facts) (hKernelWoIdeal : Cert.KernelWoIdeal.Facts) (hReferenceWoIdeal : Cert.ReferenceWoIdeal.Facts) (hKernelDo : Cert.KernelDo.Facts) (hKernelDoIdeal : Cert.KernelDoIdeal.Facts) (hReferenceDoIdeal : Cert.ReferenceDoIdeal.Facts) (hKernelDwo : Cert.KernelDwo.Facts) (hKernelDwoIdeal : Cert.KernelDwoIdeal.Facts) (hReferenceDwoIdeal : Cert.ReferenceDwoIdeal.Facts) (hKernelDwqkv : Cert.KernelDwqkv.Facts) (hKernelDwqkvIdeal : Cert.KernelDwqkvIdeal.Facts) (hReferenceDwqkvIdeal : Cert.ReferenceDwqkvIdeal.Facts) (hKernelDuqkv : Cert.KernelDuqkv.Facts) (hKernelDuqkvIdeal : Cert.KernelDuqkvIdeal.Facts) (hReferenceDuqkvIdeal : Cert.ReferenceDuqkvIdeal.Facts) (hKernelGate : Cert.KernelGate.Facts) (hKernelGateIdeal : Cert.KernelGateIdeal.Facts) (hReferenceGateIdeal : Cert.ReferenceGateIdeal.Facts) (hKernelProj : Cert.KernelProj.Facts) (hKernelProjIdeal : Cert.KernelProjIdeal.Facts) (hReferenceProjIdeal : Cert.ReferenceProjIdeal.Facts) (hKernelDwproj : Cert.KernelDwproj.Facts) (hKernelDwprojIdeal : Cert.KernelDwprojIdeal.Facts) (hReferenceDwprojIdeal : Cert.ReferenceDwprojIdeal.Facts) (hKernelPw1 : Cert.KernelPw1.Facts) (hKernelPw1Ideal : Cert.KernelPw1Ideal.Facts) (hReferencePw1Ideal : Cert.ReferencePw1Ideal.Facts) (hKernelPw2 : Cert.KernelPw2.Facts) (hKernelPw2Ideal : Cert.KernelPw2Ideal.Facts) (hReferencePw2Ideal : Cert.ReferencePw2Ideal.Facts) (hKernelDwpw1 : Cert.KernelDwpw1.Facts) (hKernelDwpw1Ideal : Cert.KernelDwpw1Ideal.Facts) (hReferenceDwpw1Ideal : Cert.ReferenceDwpw1Ideal.Facts) (hKernelDupw1 : Cert.KernelDupw1.Facts) (hKernelDupw1Ideal : Cert.KernelDupw1Ideal.Facts) (hReferenceDupw1Ideal : Cert.ReferenceDupw1Ideal.Facts) (hKernelInz : Cert.KernelInz.Facts) (hKernelInzIdeal : Cert.KernelInzIdeal.Facts) (hReferenceInzIdeal : Cert.ReferenceInzIdeal.Facts) (hKernelInxbc : Cert.KernelInxbc.Facts) (hKernelInxbcIdeal : Cert.KernelInxbcIdeal.Facts) (hReferenceInxbcIdeal : Cert.ReferenceInxbcIdeal.Facts) (hKernelIndt : Cert.KernelIndt.Facts) (hKernelIndtIdeal : Cert.KernelIndtIdeal.Facts) (hReferenceIndtIdeal : Cert.ReferenceIndtIdeal.Facts) (hKernelOut : Cert.KernelOut.Facts) (hKernelOutIdeal : Cert.KernelOutIdeal.Facts) (hReferenceOutIdeal : Cert.ReferenceOutIdeal.Facts) (hKernelDyn : Cert.KernelDyn.Facts) (hKernelDynIdeal : Cert.KernelDynIdeal.Facts) (hReferenceDynIdeal : Cert.ReferenceDynIdeal.Facts) (hKernelDwout : Cert.KernelDwout.Facts) (hKernelDwoutIdeal : Cert.KernelDwoutIdeal.Facts) (hReferenceDwoutIdeal : Cert.ReferenceDwoutIdeal.Facts) (hKernelDwinz : Cert.KernelDwinz.Facts) (hKernelDwinzIdeal : Cert.KernelDwinzIdeal.Facts) (hReferenceDwinzIdeal : Cert.ReferenceDwinzIdeal.Facts) (hKernelDwinxbc : Cert.KernelDwinxbc.Facts) (hKernelDwinxbcIdeal : Cert.KernelDwinxbcIdeal.Facts) (hReferenceDwinxbcIdeal : Cert.ReferenceDwinxbcIdeal.Facts) (hKernelDwindt : Cert.KernelDwindt.Facts) (hKernelDwindtIdeal : Cert.KernelDwindtIdeal.Facts) (hReferenceDwindtIdeal : Cert.ReferenceDwindtIdeal.Facts) (hKernelDuz : Cert.KernelDuz.Facts) (hKernelDuzIdeal : Cert.KernelDuzIdeal.Facts) (hReferenceDuzIdeal : Cert.ReferenceDuzIdeal.Facts) (hKernelDuxbc : Cert.KernelDuxbc.Facts) (hKernelDuxbcIdeal : Cert.KernelDuxbcIdeal.Facts) (hReferenceDuxbcIdeal : Cert.ReferenceDuxbcIdeal.Facts) (hKernelDudt : Cert.KernelDudt.Facts) (hKernelDudtIdeal : Cert.KernelDudtIdeal.Facts) (hReferenceDudtIdeal : Cert.ReferenceDudtIdeal.Facts) (hKernelPleBwd : Cert.KernelPleBwd.Facts) (hKernelPleBwdIdeal : Cert.KernelPleBwdIdeal.Facts) (hReferencePleBwdIdeal : Cert.ReferencePleBwdIdeal.Facts) (hKernelGluBwd : Cert.KernelGluBwd.Facts) (hKernelGluBwdIdeal : Cert.KernelGluBwdIdeal.Facts) (hReferenceGluBwdIdeal : Cert.ReferenceGluBwdIdeal.Facts) (hKernelDxs : Cert.KernelDxs.Facts) (hKernelDxsIdeal : Cert.KernelDxsIdeal.Facts) (hReferenceDxsIdeal : Cert.ReferenceDxsIdeal.Facts) (hKernelRms : Cert.KernelRms.Facts) (hKernelRmsIdeal : Cert.KernelRmsIdeal.Facts) (hReferenceRmsIdeal : Cert.ReferenceRmsIdeal.Facts) (hKernelGlu : Cert.KernelGlu.Facts) (hKernelGluIdeal : Cert.KernelGluIdeal.Facts) (hReferenceGluIdeal : Cert.ReferenceGluIdeal.Facts) (hKernelLn : Cert.KernelLn.Facts) (hKernelLnIdeal : Cert.KernelLnIdeal.Facts) (hReferenceLnIdeal : Cert.ReferenceLnIdeal.Facts) (hKernelGnorm : Cert.KernelGnorm.Facts) (hKernelGnormIdeal : Cert.KernelGnormIdeal.Facts) (hReferenceGnormIdeal : Cert.ReferenceGnormIdeal.Facts) (hKernelLoss : Cert.KernelLoss.Facts) (hKernelLossIdeal : Cert.KernelLossIdeal.Facts) (hReferenceLossIdeal : Cert.ReferenceLossIdeal.Facts) (hKernelAdamw : Cert.KernelAdamw.Facts) (hKernelAdamwIdeal : Cert.KernelAdamwIdeal.Facts) (hReferenceAdamwIdeal : Cert.ReferenceAdamwIdeal.Facts) (hKernelRmsBwd : Cert.KernelRmsBwd.Facts) (hKernelRmsBwdIdeal : Cert.KernelRmsBwdIdeal.Facts) (hReferenceRmsBwdIdeal : Cert.ReferenceRmsBwdIdeal.Facts) (hKernelSiluBwd : Cert.KernelSiluBwd.Facts) (hKernelSiluBwdIdeal : Cert.KernelSiluBwdIdeal.Facts) (hReferenceSiluBwdIdeal : Cert.ReferenceSiluBwdIdeal.Facts) (hKernelLnBwd : Cert.KernelLnBwd.Facts) (hKernelLnBwdIdeal : Cert.KernelLnBwdIdeal.Facts) (hReferenceLnBwdIdeal : Cert.ReferenceLnBwdIdeal.Facts) (hKernelGnormBwd : Cert.KernelGnormBwd.Facts) (hKernelGnormBwdIdeal : Cert.KernelGnormBwdIdeal.Facts) (hReferenceGnormBwdIdeal : Cert.ReferenceGnormBwdIdeal.Facts) (hPre_all_finite : Cert.Pre_all_finite.Facts) (hPre_finite_silu : Cert.Pre_finite_silu.Facts) (hPre_finite_ln : Cert.Pre_finite_ln.Facts) (hPre_finite_gnorm : Cert.Pre_finite_gnorm.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_KernelW1 (hKernelW1 := hKernelW1)
    ∧ quiescent_KernelW1Ideal (hKernelW1Ideal := hKernelW1Ideal)
    ∧ quiescent_ReferenceW1Ideal (hReferenceW1Ideal := hReferenceW1Ideal)
    ∧ quiescent_KernelW2 (hKernelW2 := hKernelW2)
    ∧ quiescent_KernelW2Ideal (hKernelW2Ideal := hKernelW2Ideal)
    ∧ quiescent_ReferenceW2Ideal (hReferenceW2Ideal := hReferenceW2Ideal)
    ∧ quiescent_KernelDa (hKernelDa := hKernelDa)
    ∧ quiescent_KernelDaIdeal (hKernelDaIdeal := hKernelDaIdeal)
    ∧ quiescent_ReferenceDaIdeal (hReferenceDaIdeal := hReferenceDaIdeal)
    ∧ quiescent_KernelDw2 (hKernelDw2 := hKernelDw2)
    ∧ quiescent_KernelDw2Ideal (hKernelDw2Ideal := hKernelDw2Ideal)
    ∧ quiescent_ReferenceDw2Ideal (hReferenceDw2Ideal := hReferenceDw2Ideal)
    ∧ quiescent_KernelDw1 (hKernelDw1 := hKernelDw1)
    ∧ quiescent_KernelDw1Ideal (hKernelDw1Ideal := hKernelDw1Ideal)
    ∧ quiescent_ReferenceDw1Ideal (hReferenceDw1Ideal := hReferenceDw1Ideal)
    ∧ quiescent_KernelDu (hKernelDu := hKernelDu)
    ∧ quiescent_KernelDuIdeal (hKernelDuIdeal := hKernelDuIdeal)
    ∧ quiescent_ReferenceDuIdeal (hReferenceDuIdeal := hReferenceDuIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelWo (hKernelWo := hKernelWo)
    ∧ quiescent_KernelWoIdeal (hKernelWoIdeal := hKernelWoIdeal)
    ∧ quiescent_ReferenceWoIdeal (hReferenceWoIdeal := hReferenceWoIdeal)
    ∧ quiescent_KernelDo (hKernelDo := hKernelDo)
    ∧ quiescent_KernelDoIdeal (hKernelDoIdeal := hKernelDoIdeal)
    ∧ quiescent_ReferenceDoIdeal (hReferenceDoIdeal := hReferenceDoIdeal)
    ∧ quiescent_KernelDwo (hKernelDwo := hKernelDwo)
    ∧ quiescent_KernelDwoIdeal (hKernelDwoIdeal := hKernelDwoIdeal)
    ∧ quiescent_ReferenceDwoIdeal (hReferenceDwoIdeal := hReferenceDwoIdeal)
    ∧ quiescent_KernelDwqkv (hKernelDwqkv := hKernelDwqkv)
    ∧ quiescent_KernelDwqkvIdeal (hKernelDwqkvIdeal := hKernelDwqkvIdeal)
    ∧ quiescent_ReferenceDwqkvIdeal (hReferenceDwqkvIdeal := hReferenceDwqkvIdeal)
    ∧ quiescent_KernelDuqkv (hKernelDuqkv := hKernelDuqkv)
    ∧ quiescent_KernelDuqkvIdeal (hKernelDuqkvIdeal := hKernelDuqkvIdeal)
    ∧ quiescent_ReferenceDuqkvIdeal (hReferenceDuqkvIdeal := hReferenceDuqkvIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelDwproj (hKernelDwproj := hKernelDwproj)
    ∧ quiescent_KernelDwprojIdeal (hKernelDwprojIdeal := hKernelDwprojIdeal)
    ∧ quiescent_ReferenceDwprojIdeal (hReferenceDwprojIdeal := hReferenceDwprojIdeal)
    ∧ quiescent_KernelPw1 (hKernelPw1 := hKernelPw1)
    ∧ quiescent_KernelPw1Ideal (hKernelPw1Ideal := hKernelPw1Ideal)
    ∧ quiescent_ReferencePw1Ideal (hReferencePw1Ideal := hReferencePw1Ideal)
    ∧ quiescent_KernelPw2 (hKernelPw2 := hKernelPw2)
    ∧ quiescent_KernelPw2Ideal (hKernelPw2Ideal := hKernelPw2Ideal)
    ∧ quiescent_ReferencePw2Ideal (hReferencePw2Ideal := hReferencePw2Ideal)
    ∧ quiescent_KernelDwpw1 (hKernelDwpw1 := hKernelDwpw1)
    ∧ quiescent_KernelDwpw1Ideal (hKernelDwpw1Ideal := hKernelDwpw1Ideal)
    ∧ quiescent_ReferenceDwpw1Ideal (hReferenceDwpw1Ideal := hReferenceDwpw1Ideal)
    ∧ quiescent_KernelDupw1 (hKernelDupw1 := hKernelDupw1)
    ∧ quiescent_KernelDupw1Ideal (hKernelDupw1Ideal := hKernelDupw1Ideal)
    ∧ quiescent_ReferenceDupw1Ideal (hReferenceDupw1Ideal := hReferenceDupw1Ideal)
    ∧ quiescent_KernelInz (hKernelInz := hKernelInz)
    ∧ quiescent_KernelInzIdeal (hKernelInzIdeal := hKernelInzIdeal)
    ∧ quiescent_ReferenceInzIdeal (hReferenceInzIdeal := hReferenceInzIdeal)
    ∧ quiescent_KernelInxbc (hKernelInxbc := hKernelInxbc)
    ∧ quiescent_KernelInxbcIdeal (hKernelInxbcIdeal := hKernelInxbcIdeal)
    ∧ quiescent_ReferenceInxbcIdeal (hReferenceInxbcIdeal := hReferenceInxbcIdeal)
    ∧ quiescent_KernelIndt (hKernelIndt := hKernelIndt)
    ∧ quiescent_KernelIndtIdeal (hKernelIndtIdeal := hKernelIndtIdeal)
    ∧ quiescent_ReferenceIndtIdeal (hReferenceIndtIdeal := hReferenceIndtIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelDyn (hKernelDyn := hKernelDyn)
    ∧ quiescent_KernelDynIdeal (hKernelDynIdeal := hKernelDynIdeal)
    ∧ quiescent_ReferenceDynIdeal (hReferenceDynIdeal := hReferenceDynIdeal)
    ∧ quiescent_KernelDwout (hKernelDwout := hKernelDwout)
    ∧ quiescent_KernelDwoutIdeal (hKernelDwoutIdeal := hKernelDwoutIdeal)
    ∧ quiescent_ReferenceDwoutIdeal (hReferenceDwoutIdeal := hReferenceDwoutIdeal)
    ∧ quiescent_KernelDwinz (hKernelDwinz := hKernelDwinz)
    ∧ quiescent_KernelDwinzIdeal (hKernelDwinzIdeal := hKernelDwinzIdeal)
    ∧ quiescent_ReferenceDwinzIdeal (hReferenceDwinzIdeal := hReferenceDwinzIdeal)
    ∧ quiescent_KernelDwinxbc (hKernelDwinxbc := hKernelDwinxbc)
    ∧ quiescent_KernelDwinxbcIdeal (hKernelDwinxbcIdeal := hKernelDwinxbcIdeal)
    ∧ quiescent_ReferenceDwinxbcIdeal (hReferenceDwinxbcIdeal := hReferenceDwinxbcIdeal)
    ∧ quiescent_KernelDwindt (hKernelDwindt := hKernelDwindt)
    ∧ quiescent_KernelDwindtIdeal (hKernelDwindtIdeal := hKernelDwindtIdeal)
    ∧ quiescent_ReferenceDwindtIdeal (hReferenceDwindtIdeal := hReferenceDwindtIdeal)
    ∧ quiescent_KernelDuz (hKernelDuz := hKernelDuz)
    ∧ quiescent_KernelDuzIdeal (hKernelDuzIdeal := hKernelDuzIdeal)
    ∧ quiescent_ReferenceDuzIdeal (hReferenceDuzIdeal := hReferenceDuzIdeal)
    ∧ quiescent_KernelDuxbc (hKernelDuxbc := hKernelDuxbc)
    ∧ quiescent_KernelDuxbcIdeal (hKernelDuxbcIdeal := hKernelDuxbcIdeal)
    ∧ quiescent_ReferenceDuxbcIdeal (hReferenceDuxbcIdeal := hReferenceDuxbcIdeal)
    ∧ quiescent_KernelDudt (hKernelDudt := hKernelDudt)
    ∧ quiescent_KernelDudtIdeal (hKernelDudtIdeal := hKernelDudtIdeal)
    ∧ quiescent_ReferenceDudtIdeal (hReferenceDudtIdeal := hReferenceDudtIdeal)
    ∧ quiescent_KernelPleBwd (hKernelPleBwd := hKernelPleBwd)
    ∧ quiescent_KernelPleBwdIdeal (hKernelPleBwdIdeal := hKernelPleBwdIdeal)
    ∧ quiescent_ReferencePleBwdIdeal (hReferencePleBwdIdeal := hReferencePleBwdIdeal)
    ∧ quiescent_KernelGluBwd (hKernelGluBwd := hKernelGluBwd)
    ∧ quiescent_KernelGluBwdIdeal (hKernelGluBwdIdeal := hKernelGluBwdIdeal)
    ∧ quiescent_ReferenceGluBwdIdeal (hReferenceGluBwdIdeal := hReferenceGluBwdIdeal)
    ∧ quiescent_KernelDxs (hKernelDxs := hKernelDxs)
    ∧ quiescent_KernelDxsIdeal (hKernelDxsIdeal := hKernelDxsIdeal)
    ∧ quiescent_ReferenceDxsIdeal (hReferenceDxsIdeal := hReferenceDxsIdeal)
    ∧ quiescent_KernelRms (hKernelRms := hKernelRms)
    ∧ quiescent_KernelRmsIdeal (hKernelRmsIdeal := hKernelRmsIdeal)
    ∧ quiescent_ReferenceRmsIdeal (hReferenceRmsIdeal := hReferenceRmsIdeal)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelLn (hKernelLn := hKernelLn)
    ∧ quiescent_KernelLnIdeal (hKernelLnIdeal := hKernelLnIdeal)
    ∧ quiescent_ReferenceLnIdeal (hReferenceLnIdeal := hReferenceLnIdeal)
    ∧ quiescent_KernelGnorm (hKernelGnorm := hKernelGnorm)
    ∧ quiescent_KernelGnormIdeal (hKernelGnormIdeal := hKernelGnormIdeal)
    ∧ quiescent_ReferenceGnormIdeal (hReferenceGnormIdeal := hReferenceGnormIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelAdamw (hKernelAdamw := hKernelAdamw)
    ∧ quiescent_KernelAdamwIdeal (hKernelAdamwIdeal := hKernelAdamwIdeal)
    ∧ quiescent_ReferenceAdamwIdeal (hReferenceAdamwIdeal := hReferenceAdamwIdeal)
    ∧ quiescent_KernelRmsBwd (hKernelRmsBwd := hKernelRmsBwd)
    ∧ quiescent_KernelRmsBwdIdeal (hKernelRmsBwdIdeal := hKernelRmsBwdIdeal)
    ∧ quiescent_ReferenceRmsBwdIdeal (hReferenceRmsBwdIdeal := hReferenceRmsBwdIdeal)
    ∧ quiescent_KernelSiluBwd (hKernelSiluBwd := hKernelSiluBwd)
    ∧ quiescent_KernelSiluBwdIdeal (hKernelSiluBwdIdeal := hKernelSiluBwdIdeal)
    ∧ quiescent_KernelSiluBwdIdeal_pre_finite_silu (hKernelSiluBwdIdeal := hKernelSiluBwdIdeal) (hPre_finite_silu := hPre_finite_silu)
    ∧ quiescent_ReferenceSiluBwdIdeal (hReferenceSiluBwdIdeal := hReferenceSiluBwdIdeal)
    ∧ quiescent_ReferenceSiluBwdIdeal_pre_finite_silu (hReferenceSiluBwdIdeal := hReferenceSiluBwdIdeal) (hPre_finite_silu := hPre_finite_silu)
    ∧ quiescent_KernelLnBwd (hKernelLnBwd := hKernelLnBwd)
    ∧ quiescent_KernelLnBwdIdeal (hKernelLnBwdIdeal := hKernelLnBwdIdeal)
    ∧ quiescent_KernelLnBwdIdeal_pre_finite_ln (hKernelLnBwdIdeal := hKernelLnBwdIdeal) (hPre_finite_ln := hPre_finite_ln)
    ∧ quiescent_ReferenceLnBwdIdeal (hReferenceLnBwdIdeal := hReferenceLnBwdIdeal)
    ∧ quiescent_ReferenceLnBwdIdeal_pre_finite_ln (hReferenceLnBwdIdeal := hReferenceLnBwdIdeal) (hPre_finite_ln := hPre_finite_ln)
    ∧ quiescent_KernelGnormBwd (hKernelGnormBwd := hKernelGnormBwd)
    ∧ quiescent_KernelGnormBwdIdeal (hKernelGnormBwdIdeal := hKernelGnormBwdIdeal)
    ∧ quiescent_KernelGnormBwdIdeal_pre_finite_gnorm (hKernelGnormBwdIdeal := hKernelGnormBwdIdeal) (hPre_finite_gnorm := hPre_finite_gnorm)
    ∧ quiescent_ReferenceGnormBwdIdeal (hReferenceGnormBwdIdeal := hReferenceGnormBwdIdeal)
    ∧ quiescent_ReferenceGnormBwdIdeal_pre_finite_gnorm (hReferenceGnormBwdIdeal := hReferenceGnormBwdIdeal) (hPre_finite_gnorm := hPre_finite_gnorm)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_KernelW1_KernelW1Ideal
    ∧ algebraic_KernelW1Ideal_ReferenceW1Ideal (hKernelW1Ideal := hKernelW1Ideal) (hReferenceW1Ideal := hReferenceW1Ideal)
    ∧ preserves_KernelW2_KernelW2Ideal
    ∧ algebraic_KernelW2Ideal_ReferenceW2Ideal (hKernelW2Ideal := hKernelW2Ideal) (hReferenceW2Ideal := hReferenceW2Ideal)
    ∧ preserves_KernelDa_KernelDaIdeal
    ∧ algebraic_KernelDaIdeal_ReferenceDaIdeal (hKernelDaIdeal := hKernelDaIdeal) (hReferenceDaIdeal := hReferenceDaIdeal)
    ∧ preserves_KernelDw2_KernelDw2Ideal
    ∧ algebraic_KernelDw2Ideal_ReferenceDw2Ideal (hKernelDw2Ideal := hKernelDw2Ideal) (hReferenceDw2Ideal := hReferenceDw2Ideal)
    ∧ preserves_KernelDw1_KernelDw1Ideal
    ∧ algebraic_KernelDw1Ideal_ReferenceDw1Ideal (hKernelDw1Ideal := hKernelDw1Ideal) (hReferenceDw1Ideal := hReferenceDw1Ideal)
    ∧ preserves_KernelDu_KernelDuIdeal
    ∧ algebraic_KernelDuIdeal_ReferenceDuIdeal (hKernelDuIdeal := hKernelDuIdeal) (hReferenceDuIdeal := hReferenceDuIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelWo_KernelWoIdeal
    ∧ algebraic_KernelWoIdeal_ReferenceWoIdeal (hKernelWoIdeal := hKernelWoIdeal) (hReferenceWoIdeal := hReferenceWoIdeal)
    ∧ preserves_KernelDo_KernelDoIdeal
    ∧ algebraic_KernelDoIdeal_ReferenceDoIdeal (hKernelDoIdeal := hKernelDoIdeal) (hReferenceDoIdeal := hReferenceDoIdeal)
    ∧ preserves_KernelDwo_KernelDwoIdeal
    ∧ algebraic_KernelDwoIdeal_ReferenceDwoIdeal (hKernelDwoIdeal := hKernelDwoIdeal) (hReferenceDwoIdeal := hReferenceDwoIdeal)
    ∧ preserves_KernelDwqkv_KernelDwqkvIdeal
    ∧ algebraic_KernelDwqkvIdeal_ReferenceDwqkvIdeal (hKernelDwqkvIdeal := hKernelDwqkvIdeal) (hReferenceDwqkvIdeal := hReferenceDwqkvIdeal)
    ∧ preserves_KernelDuqkv_KernelDuqkvIdeal
    ∧ algebraic_KernelDuqkvIdeal_ReferenceDuqkvIdeal (hKernelDuqkvIdeal := hKernelDuqkvIdeal) (hReferenceDuqkvIdeal := hReferenceDuqkvIdeal)
    ∧ preserves_KernelGate_KernelGateIdeal
    ∧ algebraic_KernelGateIdeal_ReferenceGateIdeal (hKernelGateIdeal := hKernelGateIdeal) (hReferenceGateIdeal := hReferenceGateIdeal)
    ∧ preserves_KernelProj_KernelProjIdeal
    ∧ algebraic_KernelProjIdeal_ReferenceProjIdeal (hKernelProjIdeal := hKernelProjIdeal) (hReferenceProjIdeal := hReferenceProjIdeal)
    ∧ preserves_KernelDwproj_KernelDwprojIdeal
    ∧ algebraic_KernelDwprojIdeal_ReferenceDwprojIdeal (hKernelDwprojIdeal := hKernelDwprojIdeal) (hReferenceDwprojIdeal := hReferenceDwprojIdeal)
    ∧ preserves_KernelPw1_KernelPw1Ideal
    ∧ algebraic_KernelPw1Ideal_ReferencePw1Ideal (hKernelPw1Ideal := hKernelPw1Ideal) (hReferencePw1Ideal := hReferencePw1Ideal)
    ∧ preserves_KernelPw2_KernelPw2Ideal
    ∧ algebraic_KernelPw2Ideal_ReferencePw2Ideal (hKernelPw2Ideal := hKernelPw2Ideal) (hReferencePw2Ideal := hReferencePw2Ideal)
    ∧ preserves_KernelDwpw1_KernelDwpw1Ideal
    ∧ algebraic_KernelDwpw1Ideal_ReferenceDwpw1Ideal (hKernelDwpw1Ideal := hKernelDwpw1Ideal) (hReferenceDwpw1Ideal := hReferenceDwpw1Ideal)
    ∧ preserves_KernelDupw1_KernelDupw1Ideal
    ∧ algebraic_KernelDupw1Ideal_ReferenceDupw1Ideal (hKernelDupw1Ideal := hKernelDupw1Ideal) (hReferenceDupw1Ideal := hReferenceDupw1Ideal)
    ∧ preserves_KernelInz_KernelInzIdeal
    ∧ algebraic_KernelInzIdeal_ReferenceInzIdeal (hKernelInzIdeal := hKernelInzIdeal) (hReferenceInzIdeal := hReferenceInzIdeal)
    ∧ preserves_KernelInxbc_KernelInxbcIdeal
    ∧ algebraic_KernelInxbcIdeal_ReferenceInxbcIdeal (hKernelInxbcIdeal := hKernelInxbcIdeal) (hReferenceInxbcIdeal := hReferenceInxbcIdeal)
    ∧ preserves_KernelIndt_KernelIndtIdeal
    ∧ algebraic_KernelIndtIdeal_ReferenceIndtIdeal (hKernelIndtIdeal := hKernelIndtIdeal) (hReferenceIndtIdeal := hReferenceIndtIdeal)
    ∧ preserves_KernelOut_KernelOutIdeal
    ∧ algebraic_KernelOutIdeal_ReferenceOutIdeal (hKernelOutIdeal := hKernelOutIdeal) (hReferenceOutIdeal := hReferenceOutIdeal)
    ∧ preserves_KernelDyn_KernelDynIdeal
    ∧ algebraic_KernelDynIdeal_ReferenceDynIdeal (hKernelDynIdeal := hKernelDynIdeal) (hReferenceDynIdeal := hReferenceDynIdeal)
    ∧ preserves_KernelDwout_KernelDwoutIdeal
    ∧ algebraic_KernelDwoutIdeal_ReferenceDwoutIdeal (hKernelDwoutIdeal := hKernelDwoutIdeal) (hReferenceDwoutIdeal := hReferenceDwoutIdeal)
    ∧ preserves_KernelDwinz_KernelDwinzIdeal
    ∧ algebraic_KernelDwinzIdeal_ReferenceDwinzIdeal (hKernelDwinzIdeal := hKernelDwinzIdeal) (hReferenceDwinzIdeal := hReferenceDwinzIdeal)
    ∧ preserves_KernelDwinxbc_KernelDwinxbcIdeal
    ∧ algebraic_KernelDwinxbcIdeal_ReferenceDwinxbcIdeal (hKernelDwinxbcIdeal := hKernelDwinxbcIdeal) (hReferenceDwinxbcIdeal := hReferenceDwinxbcIdeal)
    ∧ preserves_KernelDwindt_KernelDwindtIdeal
    ∧ algebraic_KernelDwindtIdeal_ReferenceDwindtIdeal (hKernelDwindtIdeal := hKernelDwindtIdeal) (hReferenceDwindtIdeal := hReferenceDwindtIdeal)
    ∧ preserves_KernelDuz_KernelDuzIdeal
    ∧ algebraic_KernelDuzIdeal_ReferenceDuzIdeal (hKernelDuzIdeal := hKernelDuzIdeal) (hReferenceDuzIdeal := hReferenceDuzIdeal)
    ∧ preserves_KernelDuxbc_KernelDuxbcIdeal
    ∧ algebraic_KernelDuxbcIdeal_ReferenceDuxbcIdeal (hKernelDuxbcIdeal := hKernelDuxbcIdeal) (hReferenceDuxbcIdeal := hReferenceDuxbcIdeal)
    ∧ preserves_KernelDudt_KernelDudtIdeal
    ∧ algebraic_KernelDudtIdeal_ReferenceDudtIdeal (hKernelDudtIdeal := hKernelDudtIdeal) (hReferenceDudtIdeal := hReferenceDudtIdeal)
    ∧ preserves_KernelPleBwd_KernelPleBwdIdeal
    ∧ algebraic_KernelPleBwdIdeal_ReferencePleBwdIdeal (hKernelPleBwdIdeal := hKernelPleBwdIdeal) (hReferencePleBwdIdeal := hReferencePleBwdIdeal)
    ∧ preserves_KernelGluBwd_KernelGluBwdIdeal
    ∧ algebraic_KernelGluBwdIdeal_ReferenceGluBwdIdeal (hKernelGluBwdIdeal := hKernelGluBwdIdeal) (hReferenceGluBwdIdeal := hReferenceGluBwdIdeal)
    ∧ preserves_KernelDxs_KernelDxsIdeal
    ∧ algebraic_KernelDxsIdeal_ReferenceDxsIdeal (hKernelDxsIdeal := hKernelDxsIdeal) (hReferenceDxsIdeal := hReferenceDxsIdeal)
    ∧ preserves_KernelRms_KernelRmsIdeal
    ∧ algebraic_KernelRmsIdeal_ReferenceRmsIdeal (hKernelRmsIdeal := hKernelRmsIdeal) (hReferenceRmsIdeal := hReferenceRmsIdeal)
    ∧ preserves_KernelGlu_KernelGluIdeal
    ∧ algebraic_KernelGluIdeal_ReferenceGluIdeal (hKernelGluIdeal := hKernelGluIdeal) (hReferenceGluIdeal := hReferenceGluIdeal)
    ∧ preserves_KernelLn_KernelLnIdeal
    ∧ algebraic_KernelLnIdeal_ReferenceLnIdeal (hKernelLnIdeal := hKernelLnIdeal) (hReferenceLnIdeal := hReferenceLnIdeal)
    ∧ preserves_KernelGnorm_KernelGnormIdeal
    ∧ algebraic_KernelGnormIdeal_ReferenceGnormIdeal (hKernelGnormIdeal := hKernelGnormIdeal) (hReferenceGnormIdeal := hReferenceGnormIdeal)
    ∧ preserves_KernelLoss_KernelLossIdeal
    ∧ algebraic_KernelLossIdeal_ReferenceLossIdeal (hKernelLossIdeal := hKernelLossIdeal) (hReferenceLossIdeal := hReferenceLossIdeal)
    ∧ preserves_KernelAdamw_KernelAdamwIdeal
    ∧ algebraic_KernelAdamwIdeal_ReferenceAdamwIdeal (hKernelAdamwIdeal := hKernelAdamwIdeal) (hReferenceAdamwIdeal := hReferenceAdamwIdeal)
    ∧ preserves_KernelRmsBwd_KernelRmsBwdIdeal
    ∧ algebraic_KernelRmsBwdIdeal_ReferenceRmsBwdIdeal (hKernelRmsBwdIdeal := hKernelRmsBwdIdeal) (hReferenceRmsBwdIdeal := hReferenceRmsBwdIdeal)
    ∧ preserves_KernelSiluBwd_KernelSiluBwdIdeal
    ∧ algebraic_KernelSiluBwdIdeal_ReferenceSiluBwdIdeal_pre_finite_silu (hKernelSiluBwdIdeal := hKernelSiluBwdIdeal) (hReferenceSiluBwdIdeal := hReferenceSiluBwdIdeal) (hPre_finite_silu := hPre_finite_silu)
    ∧ preserves_KernelLnBwd_KernelLnBwdIdeal
    ∧ algebraic_KernelLnBwdIdeal_ReferenceLnBwdIdeal_pre_finite_ln (hKernelLnBwdIdeal := hKernelLnBwdIdeal) (hReferenceLnBwdIdeal := hReferenceLnBwdIdeal) (hPre_finite_ln := hPre_finite_ln)
    ∧ preserves_KernelGnormBwd_KernelGnormBwdIdeal
    ∧ algebraic_KernelGnormBwdIdeal_ReferenceGnormBwdIdeal_pre_finite_gnorm (hKernelGnormBwdIdeal := hKernelGnormBwdIdeal) (hReferenceGnormBwdIdeal := hReferenceGnormBwdIdeal) (hPre_finite_gnorm := hPre_finite_gnorm)
-- ==== Pre_all_finite.lean ====
abbrev S4096x1536 : Shape := ⟨2, ![4096, 1536]⟩
abbrev S4096x1024 : Shape := ⟨2, ![4096, 1024]⟩
abbrev S64 : Shape := ⟨1, ![64]⟩
abbrev S16 : Shape := ⟨1, ![16]⟩
abbrev S_ : Shape := ⟨0, ![]⟩

class Facts : Prop where
  bcast_S_S4096x1536 : S_.BroadcastsInDim S4096x1536 (![] : Fin 0 → Fin S4096x1536.rank)
  bcast_S_S4096x1024 : S_.BroadcastsInDim S4096x1024 (![] : Fin 0 → Fin S4096x1024.rank)
  bcast_S_S64 : S_.BroadcastsInDim S64 (![] : Fin 0 → Fin S64.rank)
  bcast_S_S16 : S_.BroadcastsInDim S16 (![] : Fin 0 → Fin S16.rank)

variable [Facts]

def fn {F : FTy → Type} [FloatOps F] (main_arg0 : FVec F S4096x1536 .f32) (main_arg1 : FVec F S4096x1024 .f32) (main_arg2 : FVec F S64 .f32) (main_arg3 : FVec F S64 .f32) (main_arg4 : FVec F S16 .f32) : IVec S4096x1536 1 × IVec S4096x1024 1 × IVec S64 1 × IVec S64 1 × IVec S16 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S16 .f32 := Host.absf main_arg4
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  (main_v2, main_v5, main_v8, main_v11, main_v14)
-- ==== Pre_finite_gnorm.lean ====
abbrev S4096x2048 : Shape := ⟨2, ![4096, 2048]⟩
abbrev S4096x4096 : Shape := ⟨2, ![4096, 4096]⟩
abbrev S32 : Shape := ⟨1, ![32]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  bcast_S_S4096x4096 : S_.BroadcastsInDim S4096x4096 (![] : Fin 0 → Fin S4096x4096.rank)
  bcast_S_S32 : S_.BroadcastsInDim S32 (![] : Fin 0 → Fin S32.rank)
  bcast_S_S2048 : S_.BroadcastsInDim S2048 (![] : Fin 0 → Fin S2048.rank)

variable [Facts]

def fn {F : FTy → Type} [FloatOps F] (main_arg0 : FVec F S4096x2048 .f32) (main_arg1 : FVec F S4096x2048 .f32) (main_arg2 : FVec F S4096x4096 .f32) (main_arg3 : FVec F S4096x2048 .f32) (main_arg4 : FVec F S32 .f32) (main_arg5 : FVec F S2048 .f32) : IVec S4096x2048 1 × IVec S4096x2048 1 × IVec S4096x4096 1 × IVec S4096x2048 1 × IVec S32 1 × IVec S2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S4096x4096 .f32 := Host.absf main_arg2
  let main_cst_1 : FVec F S_ .f32 := constant S_ .f32 0x7F800000#32
  let main_v7 : FVec F S4096x4096 .f32 := broadcastInDim S4096x4096 ![] bcast_S_S4096x4096 main_cst_1
  let main_v8 : IVec S4096x4096 1 := cmpf .olt main_v6 main_v7
  let main_v9 : FVec F S4096x2048 .f32 := Host.absf main_arg3
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_v12 : FVec F S32 .f32 := Host.absf main_arg4
  let main_cst_3 : FVec F S_ .f32 := constant S_ .f32 0x7F800000#32
  let main_v13 : FVec F S32 .f32 := broadcastInDim S32 ![] bcast_S_S32 main_cst_3
  let main_v14 : IVec S32 1 := cmpf .olt main_v12 main_v13
  let main_v15 : FVec F S2048 .f32 := Host.absf main_arg5
  let main_cst_4 : FVec F S_ .f32 := constant S_ .f32 0x7F800000#32
  let main_v16 : FVec F S2048 .f32 := broadcastInDim S2048 ![] bcast_S_S2048 main_cst_4
  let main_v17 : IVec S2048 1 := cmpf .olt main_v15 main_v16
  (main_v2, main_v5, main_v8, main_v11, main_v14, main_v17)
-- ==== Pre_finite_ln.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S1024 .f32) (main_arg3 : FVec F S1024 .f32) : IVec S4096x1024 1 × IVec S4096x1024 1 × IVec S1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_silu.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)

variable [Facts]

def fn {F : FTy → Type} [FloatOps F] (main_arg0 : FVec F S4096x4096 .f32) (main_arg1 : FVec F S4096x4096 .f32) : IVec S4096x4096 1 × IVec S4096x4096 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  (main_v2, main_v5)
-- ==== Kernel.lean ====
abbrev S4096x1536 : Shape := ⟨2, ![4096, 1536]⟩
abbrev S4096x1024 : Shape := ⟨2, ![4096, 1024]⟩
abbrev S64 : Shape := ⟨1, ![64]⟩
abbrev S16 : Shape := ⟨1, ![16]⟩
abbrev S4096x4x4x64 : Shape := ⟨4, ![4096, 4, 4, 64]⟩
abbrev S4x4x4096x64 : Shape := ⟨4, ![4, 4, 4096, 64]⟩
abbrev S4096x256 : Shape := ⟨2, ![4096, 256]⟩
abbrev S4096x4x64 : Shape := ⟨3, ![4096, 4, 64]⟩
abbrev S4x4096x64 : Shape := ⟨3, ![4, 4096, 64]⟩
abbrev S1x64 : Shape := ⟨2, ![1, 64]⟩
abbrev S4x4x128 : Shape := ⟨3, ![4, 4, 128]⟩
abbrev S1x4x128x64 : Shape := ⟨4, ![1, 4, 128, 64]⟩
abbrev S1x128x64 : Shape := ⟨3, ![1, 128, 64]⟩
abbrev S1x4x128 : Shape := ⟨3, ![1, 4, 128]⟩
abbrev S4x128x64 : Shape := ⟨3, ![4, 128, 64]⟩
abbrev S512x64 : Shape := ⟨2, ![512, 64]⟩
abbrev S128x64 : Shape := ⟨2, ![128, 64]⟩
abbrev S256x64 : Shape := ⟨2, ![256, 64]⟩
abbrev S512 : Shape := ⟨1, ![512]⟩
abbrev S512x1 : Shape := ⟨2, ![512, 1]⟩
abbrev S256 : Shape := ⟨1, ![256]⟩
abbrev S256x1 : Shape := ⟨2, ![256, 1]⟩
abbrev S512x256 : Shape := ⟨2, ![512, 256]⟩
abbrev S1x256 : Shape := ⟨2, ![1, 256]⟩
abbrev S1 : Shape := ⟨1, ![1]⟩
abbrev S4x128 : Shape := ⟨2, ![4, 128]⟩
abbrev S4x128x1 : Shape := ⟨3, ![4, 128, 1]⟩
abbrev S4x1 : Shape := ⟨2, ![4, 1]⟩

abbrev nBuf : Space → Nat
  | .hbm => 26
  | .vmem => 28
  | .smem => 1
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S64, .f32⟩
  | .hbm, ⟨3, _⟩ => ⟨S64, .f32⟩
  | .hbm, ⟨4, _⟩ => ⟨S16, .f32⟩
  | .hbm, ⟨5, _⟩ => ⟨S4096x1024, .f32⟩
  | .hbm, ⟨6, _⟩ => ⟨S4096x4x4x64, .f32⟩
  | .hbm, ⟨7, _⟩ => ⟨S4x4x4096x64, .f32⟩
  | .hbm, ⟨8, _⟩ => ⟨S4096x256, .f32⟩
  | .hbm, ⟨9, _⟩ => ⟨S4096x4x64, .f32⟩
  | .hbm, ⟨10, _⟩ => ⟨S4x4096x64, .f32⟩
  | .hbm, ⟨11, _⟩ => ⟨S4096x256, .f32⟩
  | .hbm, ⟨12, _⟩ => ⟨S4096x4x64, .f32⟩
  | .hbm, ⟨13, _⟩ => ⟨S4x4096x64, .f32⟩
  | .hbm, ⟨14, _⟩ => ⟨S4096x4x4x64, .f32⟩
  | .hbm, ⟨15, _⟩ => ⟨S4x4x4096x64, .f32⟩
  | .hbm, ⟨16, _⟩ => ⟨S1x64, .f32⟩
  | .hbm, ⟨17, _⟩ => ⟨S1x64, .f32⟩
  | .hbm, ⟨18, _⟩ => ⟨S4x4x4096x64, .f32⟩
  | .hbm, ⟨19, _⟩ => ⟨S4x4096x64, .f32⟩
  | .hbm, ⟨20, _⟩ => ⟨S4x4096x64, .f32⟩
  | .hbm, ⟨21, _⟩ => ⟨S4x4096x64, .f32⟩
  | .hbm, ⟨22, _⟩ => ⟨S4x4096x64, .f32⟩
  | .hbm, ⟨23, _⟩ => ⟨S1x64, .f32⟩
  | .hbm, ⟨24, _⟩ => ⟨S1x64, .f32⟩
  | .hbm, ⟨25, _⟩ => ⟨S4x4x128, .f32⟩
  | .local _ .vmem, ⟨0, _⟩ => ⟨S1x4x128x64, .f32⟩
  | .local _ .vmem, ⟨1, _⟩ => ⟨S1x4x128x64, .f32⟩
  | .local _ .vmem, ⟨2, _⟩ => ⟨S1x128x64, .f32⟩
  | .local _ .vmem, ⟨3, _⟩ => ⟨S1x128x64, .f32⟩
  | .local _ .vmem, ⟨4, _⟩ => ⟨S1x128x64, .f32⟩
  | .local _ .vmem, ⟨5, _⟩ => ⟨S1x128x64, .f32⟩
  | .local _ .vmem, ⟨6, _⟩ => ⟨S1x128x64, .f32⟩
  | .local _ .vmem, ⟨7, _⟩ => ⟨S1x128x64, .f32⟩
  | .local _ .vmem, ⟨8, _⟩ => ⟨S1x128x64, .f32⟩
  | .local _ .vmem, ⟨9, _⟩ => ⟨S1x128x64, .f32⟩
  | .local _ .vmem, ⟨10, _⟩ => ⟨S1x4x128x64, .f32⟩
  | .local _ .vmem, ⟨11, _⟩ => ⟨S1x4x128x64, .f32⟩
  | .local _ .vmem, ⟨12, _⟩ => ⟨S1x64, .f32⟩
  | .local _ .vmem, ⟨13, _⟩ => ⟨S1x64, .f32⟩
  | .local _ .vmem, ⟨14, _⟩ => ⟨S1x4x128x64, .f32⟩
  | .local _ .vmem, ⟨15, _⟩ => ⟨S1x4x128x64, .f32⟩
  | .local _ .vmem, ⟨16, _⟩ => ⟨S1x128x64, .f32⟩
  | .local _ .vmem, ⟨17, _⟩ => ⟨S1x128x64, .f32⟩
  | .local _ .vmem, ⟨18, _⟩ => ⟨S1x128x64, .f32⟩
  | .local _ .vmem, ⟨19, _⟩ => ⟨S1x128x64, .f32⟩
  | .local _ .vmem, ⟨20, _⟩ => ⟨S1x128x64, .f32⟩
  | .local _ .vmem, ⟨21, _⟩ => ⟨S1x128x64, .f32⟩
  | .local _ .vmem, ⟨22, _⟩ => ⟨S1x128x64, .f32⟩
  | .local _ .vmem, ⟨23, _⟩ => ⟨S1x128x64, .f32⟩
  | .local _ .vmem, ⟨24, _⟩ => ⟨S1x64, .f32⟩
  | .local _ .vmem, ⟨25, _⟩ => ⟨S1x64, .f32⟩
  | .local _ .vmem, ⟨26, _⟩ => ⟨S1x4x128, .f32⟩
  | .local _ .vmem, ⟨27, _⟩ => ⟨S1x4x128, .f32⟩
  | .local _ .smem, ⟨0, _⟩ => ⟨S16, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v13_4 : Ref sig .tc := ⟨.hbm, 22, rfl⟩
abbrev main_v13_5 : Ref sig .tc := ⟨.hbm, 23, rfl⟩
abbrev main_v13_6 : Ref sig .tc := ⟨.hbm, 24, rfl⟩
abbrev main_v13_7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![4, 32], ![false, false]⟩

def k0_off1 (i : grid0.Coords) (c0_i32_29 : BitVec 32) : Fin 1 → Nat :=
  let arg0 : BitVec 32 := BitVec.ofNat 32 (i 0).val
  let c4_i32_28 : BitVec 32 := 4#32
  let v81 : BitVec 32 := Scalar.muli arg0 c4_i32_28
  let v82 : BitVec 32 := Scalar.addi v81 c0_i32_29
  let v83 : Index := Scalar.indexCast v82
  ![v83.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .smem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x4x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x1536 : Shape := ⟨2, ![4096, 1536]⟩
abbrev S4096x1024 : Shape := ⟨2, ![4096, 1024]⟩
abbrev S64 : Shape := ⟨1, ![64]⟩
abbrev S16 : Shape := ⟨1, ![16]⟩
abbrev S4096x4x4x64 : Shape := ⟨4, ![4096, 4, 4, 64]⟩
abbrev S4096x256 : Shape := ⟨2, ![4096, 256]⟩
abbrev S4096x4x64 : Shape := ⟨3, ![4096, 4, 64]⟩
abbrev S128x4x64 : Shape := ⟨3, ![128, 4, 64]⟩
abbrev S_ : Shape := ⟨0, ![]⟩
abbrev S3968x4x64 : Shape := ⟨3, ![3968, 4, 64]⟩
abbrev S4096x4x4 : Shape := ⟨3, ![4096, 4, 4]⟩
abbrev S4096x4x4x1 : Shape := ⟨4, ![4096, 4, 4, 1]⟩
abbrev S1x1x1x64 : Shape := ⟨4, ![1, 1, 1, 64]⟩
abbrev S4096x4 : Shape := ⟨2, ![4096, 4]⟩
abbrev S4096x4x1 : Shape := ⟨3, ![4096, 4, 1]⟩
abbrev S1x1x64 : Shape := ⟨3, ![1, 1, 64]⟩
abbrev S32x128x4x4x64 : Shape := ⟨5, ![32, 128, 4, 4, 64]⟩
abbrev S32x128x4x64 : Shape := ⟨4, ![32, 128, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S4x4 : Shape := ⟨2, ![4, 4]⟩
abbrev S4x4x1x1 : Shape := ⟨4, ![4, 4, 1, 1]⟩
abbrev S1x1x128x256 : Shape := ⟨4, ![1, 1, 128, 256]⟩
abbrev S4x4x128x256 : Shape := ⟨4, ![4, 4, 128, 256]⟩
abbrev S1x4x4x128x256 : Shape := ⟨5, ![1, 4, 4, 128, 256]⟩
abbrev S32x1x1x128x256 : Shape := ⟨5, ![32, 1, 1, 128, 256]⟩
abbrev S4x4x1 : Shape := ⟨3, ![4, 4, 1]⟩
abbrev S32x4x4x128 : Shape := ⟨4, ![32, 4, 4, 128]⟩
abbrev S32x4x4x128x1 : Shape := ⟨5, ![32, 4, 4, 128, 1]⟩
abbrev S1x4x4x1 : Shape := ⟨4, ![1, 4, 4, 1]⟩
abbrev S32x4x64x4x128 : Shape := ⟨5, ![32, 4, 64, 4, 128]⟩
abbrev S32x4x64x256 : Shape := ⟨4, ![32, 4, 64, 256]⟩
abbrev S32x4x128x4x64 : Shape := ⟨5, ![32, 4, 128, 4, 64]⟩
abbrev S32x4x256x64 : Shape := ⟨4, ![32, 4, 256, 64]⟩
abbrev S4x4x4096x64 : Shape := ⟨4, ![4, 4, 4096, 64]⟩
abbrev S4x4096x64 : Shape := ⟨3, ![4, 4096, 64]⟩
abbrev S1x64 : Shape := ⟨2, ![1, 64]⟩
abbrev S4x4x128 : Shape := ⟨3, ![4, 4, 128]⟩

abbrev nBuf : Space → Nat
  | .hbm => 375
  | .vmem => 0
  | .smem => 0
  | _ => 0

abbrev hbmTy0_0 (i : Nat) : BufTy := match i % 128 with
  | 0 => ⟨S4096x1536, .f32⟩
  | 1 => ⟨S4096x1024, .f32⟩
  | 2 => ⟨S64, .f32⟩
  | 3 => ⟨S64, .f32⟩
  | 4 => ⟨S16, .f32⟩
  | 5 => ⟨S4096x1024, .f32⟩
  | 6 => ⟨S4096x4x4x64, .f32⟩
  | 7 => ⟨S4096x256, .f32⟩
  | 8 => ⟨S4096x4x64, .f32⟩
  | 9 => ⟨S4096x256, .f32⟩
  | 10 => ⟨S4096x4x64, .f32⟩
  | 11 => ⟨S128x4x64, .f32⟩
  | 12 => ⟨S_, .f32⟩
  | 13 => ⟨S128x4x64, .f32⟩
  | 14 => ⟨S3968x4x64, .f32⟩
  | 15 => ⟨S4096x4x64, .f32⟩
  | 16 => ⟨S128x4x64, .f32⟩
  | 17 => ⟨S_, .f32⟩
  | 18 => ⟨S128x4x64, .f32⟩
  | 19 => ⟨S3968x4x64, .f32⟩
  | 20 => ⟨S4096x4x64, .f32⟩
  | 21 => ⟨S4096x4x4x64, .f32⟩
  | 22 => ⟨S_, .f32⟩
  | 23 => ⟨S4096x4x4, .f32⟩
  | 24 => ⟨S4096x4x4x1, .f32⟩
  | 25 => ⟨S_, .f32⟩
  | 26 => ⟨S4096x4x4x1, .f32⟩
  | 27 => ⟨S4096x4x4x1, .f32⟩
  | 28 => ⟨S_, .f32⟩
  | 29 => ⟨S4096x4x4x1, .f32⟩
  | 30 => ⟨S4096x4x4x1, .f32⟩
  | 31 => ⟨S4096x4x4x1, .f32⟩
  | 32 => ⟨S4096x4x4x1, .f32⟩
  | 33 => ⟨S_, .f32⟩
  | 34 => ⟨S4096x4x4x1, .f32⟩
  | 35 => ⟨S4096x4x4x1, .f32⟩
  | 36 => ⟨S4096x4x4x64, .f32⟩
  | 37 => ⟨S4096x4x4x64, .f32⟩
  | 38 => ⟨S1x1x1x64, .f32⟩
  | 39 => ⟨S4096x4x4x64, .f32⟩
  | 40 => ⟨S4096x4x4x64, .f32⟩
  | 41 => ⟨S4096x4x64, .f32⟩
  | 42 => ⟨S_, .f32⟩
  | 43 => ⟨S4096x4, .f32⟩
  | 44 => ⟨S4096x4x1, .f32⟩
  | 45 => ⟨S_, .f32⟩
  | 46 => ⟨S4096x4x1, .f32⟩
  | 47 => ⟨S4096x4x1, .f32⟩
  | 48 => ⟨S_, .f32⟩
  | 49 => ⟨S4096x4x1, .f32⟩
  | 50 => ⟨S4096x4x1, .f32⟩
  | 51 => ⟨S4096x4x1, .f32⟩
  | 52 => ⟨S4096x4x1, .f32⟩
  | 53 => ⟨S_, .f32⟩
  | 54 => ⟨S4096x4x1, .f32⟩
  | 55 => ⟨S4096x4x1, .f32⟩
  | 56 => ⟨S4096x4x64, .f32⟩
  | 57 => ⟨S4096x4x64, .f32⟩
  | 58 => ⟨S1x1x64, .f32⟩
  | 59 => ⟨S4096x4x64, .f32⟩
  | 60 => ⟨S4096x4x64, .f32⟩
  | 61 => ⟨S4096x4x64, .f32⟩
  | 62 => ⟨S_, .f32⟩
  | 63 => ⟨S4096x4, .f32⟩
  | 64 => ⟨S4096x4x1, .f32⟩
  | 65 => ⟨S_, .f32⟩
  | 66 => ⟨S4096x4x1, .f32⟩
  | 67 => ⟨S4096x4x1, .f32⟩
  | 68 => ⟨S_, .f32⟩
  | 69 => ⟨S4096x4x1, .f32⟩
  | 70 => ⟨S4096x4x1, .f32⟩
  | 71 => ⟨S4096x4x1, .f32⟩
  | 72 => ⟨S4096x4x1, .f32⟩
  | 73 => ⟨S_, .f32⟩
  | 74 => ⟨S4096x4x1, .f32⟩
  | 75 => ⟨S4096x4x1, .f32⟩
  | 76 => ⟨S4096x4x64, .f32⟩
  | 77 => ⟨S4096x4x64, .f32⟩
  | 78 => ⟨S1x1x64, .f32⟩
  | 79 => ⟨S4096x4x64, .f32⟩
  | 80 => ⟨S4096x4x64, .f32⟩
  | 81 => ⟨S32x128x4x4x64, .f32⟩
  | 82 => ⟨S32x128x4x64, .f32⟩
  | 83 => ⟨S32x128x4x64, .f32⟩
  | 84 => ⟨S32x256x4x64, .f32⟩
  | 85 => ⟨S32x128x4x64, .f32⟩
  | 86 => ⟨S32x128x4x64, .f32⟩
  | 87 => ⟨S32x256x4x64, .f32⟩
  | 88 => ⟨S32x4x256x128x4, .f32⟩
  | 89 => ⟨S32x4x4x128x256, .f32⟩
  | 90 => ⟨S_, .f32⟩
  | 91 => ⟨S32x4x4x128x256, .f32⟩
  | 92 => ⟨S32x4x4x128x256, .f32⟩
  | 93 => ⟨S128, .i32⟩
  | 94 => ⟨S256, .i32⟩
  | 95 => ⟨S128x1, .i32⟩
  | 96 => ⟨S1x256, .i32⟩
  | 97 => ⟨S128x256, .i32⟩
  | 98 => ⟨S128x256, .i32⟩
  | 99 => ⟨S128x256, .i32⟩
  | 100 => ⟨S_, .i32⟩
  | 101 => ⟨S128x256, .i32⟩
  | 102 => ⟨S128x256, .i32⟩
  | 103 => ⟨S32, .i32⟩
  | 104 => ⟨S32x1, .i32⟩
  | 105 => ⟨S_, .i32⟩
  | 106 => ⟨S32x1, .i32⟩
  | 107 => ⟨S32x1, .i32⟩
  | 108 => ⟨S_, .i32⟩
  | 109 => ⟨S32x1, .i32⟩
  | 110 => ⟨S32x1, .i32⟩
  | 111 => ⟨S1x256, .i32⟩
  | 112 => ⟨S32x256, .i32⟩
  | 113 => ⟨S32x256, .i32⟩
  | 114 => ⟨S32x256, .i32⟩
  | 115 => ⟨S_, .i32⟩
  | 116 => ⟨S128x256, .i32⟩
  | 117 => ⟨S128x256, .i1⟩
  | 118 => ⟨S_, .i32⟩
  | 119 => ⟨S128x256, .i32⟩
  | 120 => ⟨S128x256, .i1⟩
  | 121 => ⟨S128x256, .i1⟩
  | 122 => ⟨S1x128x256, .i1⟩
  | 123 => ⟨S_, .i32⟩
  | 124 => ⟨S32x256, .i32⟩
  | 125 => ⟨S32x256, .i1⟩
  | 126 => ⟨S32x1x256, .i1⟩
  | 127 => ⟨S32x128x256, .i1⟩
  | _ => ⟨S4096x1536, .f32⟩

abbrev hbmTy0_1 (i : Nat) : BufTy := match i % 128 with
  | 0 => ⟨S32x128x256, .i1⟩
  | 1 => ⟨S32x128x256, .i1⟩
  | 2 => ⟨S16, .f32⟩
  | 3 => ⟨S_, .f32⟩
  | 4 => ⟨S16, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S16, .f32⟩
  | 16 => ⟨S4x4, .f32⟩
  | 17 => ⟨S4x4x1x1, .f32⟩
  | 18 => ⟨S128x256, .f32⟩
  | 19 => ⟨S1x1x128x256, .f32⟩
  | 20 => ⟨S4x4x128x256, .f32⟩
  | 21 => ⟨S4x4x128x256, .f32⟩
  | 22 => ⟨S4x4x128x256, .f32⟩
  | 23 => ⟨S1x4x4x128x256, .f32⟩
  | 24 => ⟨S32x4x4x128x256, .f32⟩
  | 25 => ⟨S32x4x4x128x256, .f32⟩
  | 26 => ⟨S32x1x1x128x256, .i1⟩
  | 27 => ⟨S_, .f32⟩
  | 28 => ⟨S_, .f32⟩
  | 29 => ⟨S32x4x4x128x256, .i1⟩
  | 30 => ⟨S32x4x4x128x256, .f32⟩
  | 31 => ⟨S32x4x4x128x256, .f32⟩
  | 32 => ⟨S_, .f32⟩
  | 33 => ⟨S32x4x4x128x256, .f32⟩
  | 34 => ⟨S4x4, .f32⟩
  | 35 => ⟨S4x4x1, .f32⟩
  | 36 => ⟨S_, .f32⟩
  | 37 => ⟨S32x4x4x128, .f32⟩
  | 38 => ⟨S32x4x4x128x1, .f32⟩
  | 39 => ⟨S32x4x4x128x256, .f32⟩
  | 40 => ⟨S32x4x4x128x256, .i1⟩
  | 41 => ⟨S32x4x4x128x256, .f32⟩
  | 42 => ⟨S_, .f32⟩
  | 43 => ⟨S32x4x4x128, .f32⟩
  | 44 => ⟨S1x4x4x1, .f32⟩
  | 45 => ⟨S32x4x4x128, .f32⟩
  | 46 => ⟨S32x4x4x128, .f32⟩
  | 47 => ⟨S32x4x4x128, .f32⟩
  | 48 => ⟨S32x4x4x128, .i1⟩
  | 49 => ⟨S32x4x4x128, .f32⟩
  | 50 => ⟨S32x4x4x128, .i1⟩
  | 51 => ⟨S_, .f32⟩
  | 52 => ⟨S32x4x4x128, .f32⟩
  | 53 => ⟨S_, .f32⟩
  | 54 => ⟨S32x4x4x128, .f32⟩
  | 55 => ⟨S_, .f32⟩
  | 56 => ⟨S32x4x4x128, .f32⟩
  | 57 => ⟨S32x4x4x128, .f32⟩
  | 58 => ⟨S32x4x4x128, .f32⟩
  | 59 => ⟨S32x4x4x128, .f32⟩
  | 60 => ⟨S32x4x4x128, .i1⟩
  | 61 => ⟨S32x4x4x128, .f32⟩
  | 62 => ⟨S32x4x4x128, .i1⟩
  | 63 => ⟨S_, .f32⟩
  | 64 => ⟨S32x4x4x128, .f32⟩
  | 65 => ⟨S_, .f32⟩
  | 66 => ⟨S32x4x4x128, .f32⟩
  | 67 => ⟨S_, .f32⟩
  | 68 => ⟨S32x4x4x128, .f32⟩
  | 69 => ⟨S32x4x4x128, .f32⟩
  | 70 => ⟨S32x4x4x128, .f32⟩
  | 71 => ⟨S32x4x4x128x1, .f32⟩
  | 72 => ⟨S32x4x4x128x256, .f32⟩
  | 73 => ⟨S32x4x4x128x256, .f32⟩
  | 74 => ⟨S32x4x4x128x256, .f32⟩
  | 75 => ⟨S_, .f32⟩
  | 76 => ⟨S32x4x4x128, .f32⟩
  | 77 => ⟨S1x4x4x1, .f32⟩
  | 78 => ⟨S32x4x4x128, .f32⟩
  | 79 => ⟨S32x4x4x128, .f32⟩
  | 80 => ⟨S32x4x4x128, .f32⟩
  | 81 => ⟨S32x4x4x128, .f32⟩
  | 82 => ⟨S32x4x4x128x1, .f32⟩
  | 83 => ⟨S32x4x4x128x256, .f32⟩
  | 84 => ⟨S32x4x4x128x256, .f32⟩
  | 85 => ⟨S32x4x4x128x1, .f32⟩
  | 86 => ⟨S_, .f32⟩
  | 87 => ⟨S32x4x4x128x1, .f32⟩
  | 88 => ⟨S32x4x4x128x1, .f32⟩
  | 89 => ⟨S32x4x64x4x128, .f32⟩
  | 90 => ⟨S32x128x4x4x64, .f32⟩
  | 91 => ⟨S4096x1024, .f32⟩
  | 92 => ⟨S32x128x4x4x64, .f32⟩
  | 93 => ⟨S32x4x64x4x128, .f32⟩
  | 94 => ⟨S32x4x4x128x256, .f32⟩
  | 95 => ⟨S32x4x64x256, .f32⟩
  | 96 => ⟨S32x256x4x64, .f32⟩
  | 97 => ⟨S32x4x4x128x256, .f32⟩
  | 98 => ⟨S32x4x4x128x256, .f32⟩
  | 99 => ⟨S32x4x4x128x256, .f32⟩
  | 100 => ⟨S_, .f32⟩
  | 101 => ⟨S32x4x4x128, .f32⟩
  | 102 => ⟨S32x4x4x128x1, .f32⟩
  | 103 => ⟨S32x4x4x128x1, .f32⟩
  | 104 => ⟨S32x4x4x128x256, .f32⟩
  | 105 => ⟨S32x4x4x128x256, .f32⟩
  | 106 => ⟨S_, .f32⟩
  | 107 => ⟨S32x4x4x128, .f32⟩
  | 108 => ⟨S32x4x4x128, .f32⟩
  | 109 => ⟨S_, .f32⟩
  | 110 => ⟨S4x4, .f32⟩
  | 111 => ⟨S1x4x4x1, .f32⟩
  | 112 => ⟨S32x4x4x128, .f32⟩
  | 113 => ⟨S_, .f32⟩
  | 114 => ⟨S4x4, .f32⟩
  | 115 => ⟨S4x4x1, .f32⟩
  | 116 => ⟨S32x4x4x128x256, .f32⟩
  | 117 => ⟨S32x4x4x128x256, .f32⟩
  | 118 => ⟨S32x4x4x128x256, .f32⟩
  | 119 => ⟨S32x4x4x128x256, .f32⟩
  | 120 => ⟨S_, .f32⟩
  | 121 => ⟨S32x4x4x128, .f32⟩
  | 122 => ⟨S32x4x4x128x1, .f32⟩
  | 123 => ⟨S_, .f32⟩
  | 124 => ⟨S32x4x4x128, .f32⟩
  | 125 => ⟨S32x4x4x128, .f32⟩
  | 126 => ⟨S32x4x4x128, .f32⟩
  | 127 => ⟨S_, .f32⟩
  | _ => ⟨S4096x1536, .f32⟩

abbrev hbmTy0_2 (i : Nat) : BufTy := match i % 128 with
  | 0 => ⟨S4x4, .f32⟩
  | 1 => ⟨S1x4x4x1, .f32⟩
  | 2 => ⟨S32x4x4x128, .f32⟩
  | 3 => ⟨S_, .f32⟩
  | 4 => ⟨S4x4, .f32⟩
  | 5 => ⟨S4x4x1, .f32⟩
  | 6 => ⟨S4x4x1, .f32⟩
  | 7 => ⟨S32x4x4x128, .f32⟩
  | 8 => ⟨S32x4x4x128x256, .f32⟩
  | 9 => ⟨S32x4x4x128x256, .f32⟩
  | 10 => ⟨S32x4x4x128x256, .f32⟩
  | 11 => ⟨S_, .f32⟩
  | 12 => ⟨S4x4, .f32⟩
  | 13 => ⟨S16, .f32⟩
  | 14 => ⟨S_, .f32⟩
  | 15 => ⟨S32x4x4x128x256, .f32⟩
  | 16 => ⟨S32x4x4x128x256, .f32⟩
  | 17 => ⟨S_, .f32⟩
  | 18 => ⟨S32x4x4x128x256, .f32⟩
  | 19 => ⟨S32x4x4x128x256, .f32⟩
  | 20 => ⟨S32x4x256x128x4, .f32⟩
  | 21 => ⟨S32x4x128x4x64, .f32⟩
  | 22 => ⟨S32x128x4x4x64, .f32⟩
  | 23 => ⟨S32x4x256x64, .f32⟩
  | 24 => ⟨S32x256x4x64, .f32⟩
  | 25 => ⟨S32x128x4x64, .f32⟩
  | 26 => ⟨S32x128x4x64, .f32⟩
  | 27 => ⟨S4096x4x64, .f32⟩
  | 28 => ⟨S4096x4x64, .f32⟩
  | 29 => ⟨S32x128x4x64, .f32⟩
  | 30 => ⟨S32x128x4x64, .f32⟩
  | 31 => ⟨S4096x4x64, .f32⟩
  | 32 => ⟨S4096x4x64, .f32⟩
  | 33 => ⟨S4096x4x4x64, .f32⟩
  | 34 => ⟨S4096x4x64, .f32⟩
  | 35 => ⟨S_, .f32⟩
  | 36 => ⟨S64, .f32⟩
  | 37 => ⟨S1x1x64, .f32⟩
  | 38 => ⟨S4096x4x64, .f32⟩
  | 39 => ⟨S4096x4x64, .f32⟩
  | 40 => ⟨S_, .f32⟩
  | 41 => ⟨S64, .f32⟩
  | 42 => ⟨S4096x4x64, .f32⟩
  | 43 => ⟨S_, .f32⟩
  | 44 => ⟨S4096x4, .f32⟩
  | 45 => ⟨S4096x4x1, .f32⟩
  | 46 => ⟨S4096x4x64, .f32⟩
  | 47 => ⟨S4096x4x64, .f32⟩
  | 48 => ⟨S4096x4x1, .f32⟩
  | 49 => ⟨S_, .f32⟩
  | 50 => ⟨S4096x4x1, .f32⟩
  | 51 => ⟨S4096x4x1, .f32⟩
  | 52 => ⟨S_, .f32⟩
  | 53 => ⟨S4096x4, .f32⟩
  | 54 => ⟨S4096x4x64, .f32⟩
  | 55 => ⟨S4096x4x64, .f32⟩
  | 56 => ⟨S4096x4x64, .f32⟩
  | 57 => ⟨S4096x4x64, .f32⟩
  | 58 => ⟨S4096x4x64, .f32⟩
  | 59 => ⟨S4096x4x64, .f32⟩
  | 60 => ⟨S_, .f32⟩
  | 61 => ⟨S64, .f32⟩
  | 62 => ⟨S1x1x64, .f32⟩
  | 63 => ⟨S4096x4x64, .f32⟩
  | 64 => ⟨S4096x4x64, .f32⟩
  | 65 => ⟨S_, .f32⟩
  | 66 => ⟨S64, .f32⟩
  | 67 => ⟨S64, .f32⟩
  | 68 => ⟨S4096x4x64, .f32⟩
  | 69 => ⟨S_, .f32⟩
  | 70 => ⟨S4096x4, .f32⟩
  | 71 => ⟨S4096x4x1, .f32⟩
  | 72 => ⟨S4096x4x64, .f32⟩
  | 73 => ⟨S4096x4x64, .f32⟩
  | 74 => ⟨S4096x4x1, .f32⟩
  | 75 => ⟨S_, .f32⟩
  | 76 => ⟨S4096x4x1, .f32⟩
  | 77 => ⟨S4096x4x1, .f32⟩
  | 78 => ⟨S_, .f32⟩
  | 79 => ⟨S4096x4, .f32⟩
  | 80 => ⟨S4096x4x64, .f32⟩
  | 81 => ⟨S4096x4x64, .f32⟩
  | 82 => ⟨S4096x4x64, .f32⟩
  | 83 => ⟨S4096x4x64, .f32⟩
  | 84 => ⟨S4096x4x64, .f32⟩
  | 85 => ⟨S4096x4x4x64, .f32⟩
  | 86 => ⟨S_, .f32⟩
  | 87 => ⟨S64, .f32⟩
  | 88 => ⟨S1x1x1x64, .f32⟩
  | 89 => ⟨S4096x4x4x64, .f32⟩
  | 90 => ⟨S4096x4x4x64, .f32⟩
  | 91 => ⟨S_, .f32⟩
  | 92 => ⟨S64, .f32⟩
  | 93 => ⟨S4096x4x4x64, .f32⟩
  | 94 => ⟨S_, .f32⟩
  | 95 => ⟨S4096x4x4, .f32⟩
  | 96 => ⟨S4096x4x4x1, .f32⟩
  | 97 => ⟨S4096x4x4x64, .f32⟩
  | 98 => ⟨S4096x4x4x64, .f32⟩
  | 99 => ⟨S4096x4x4x1, .f32⟩
  | 100 => ⟨S_, .f32⟩
  | 101 => ⟨S4096x4x4x1, .f32⟩
  | 102 => ⟨S4096x4x4x1, .f32⟩
  | 103 => ⟨S_, .f32⟩
  | 104 => ⟨S4096x4x4, .f32⟩
  | 105 => ⟨S4096x4x4x64, .f32⟩
  | 106 => ⟨S4096x4x4x64, .f32⟩
  | 107 => ⟨S4096x4x4x64, .f32⟩
  | 108 => ⟨S4096x4x4x64, .f32⟩
  | 109 => ⟨S4096x4x4x64, .f32⟩
  | 110 => ⟨S4x4x4096x64, .f32⟩
  | 111 => ⟨S4x4096x64, .f32⟩
  | 112 => ⟨S4x4096x64, .f32⟩
  | 113 => ⟨S4x4096x64, .f32⟩
  | 114 => ⟨S4x4096x64, .f32⟩
  | 115 => ⟨S1x64, .f32⟩
  | 116 => ⟨S1x64, .f32⟩
  | 117 => ⟨S4x4x1, .f32⟩
  | 118 => ⟨S4x4x128, .f32⟩
  | _ => ⟨S4096x1536, .f32⟩

abbrev hbmTy (i : Nat) : BufTy := match i / 128 with
  | 0 => hbmTy0_0 i
  | 1 => hbmTy0_1 i
  | 2 => hbmTy0_2 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_13 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_c : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_c_14 : Ref sig .tc := ⟨.hbm, 105, rfl⟩
abbrev main_v84 : Ref sig .tc := ⟨.hbm, 106, rfl⟩
abbrev main_v85 : Ref sig .tc := ⟨.hbm, 107, rfl⟩
abbrev main_c_15 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_c_16 : Ref sig .tc := ⟨.hbm, 115, rfl⟩
abbrev main_v92 : Ref sig .tc := ⟨.hbm, 116, rfl⟩
abbrev main_v93 : Ref sig .tc := ⟨.hbm, 117, rfl⟩
abbrev main_c_17 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_c_18 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_19 : Ref sig .tc := ⟨.hbm, 131, rfl⟩
abbrev main_v105 : Ref sig .tc := ⟨.hbm, 132, rfl⟩
abbrev main_v106 : Ref sig .tc := ⟨.hbm, 133, rfl⟩
abbrev main_cst_20 : Ref sig .tc := ⟨.hbm, 134, rfl⟩
abbrev main_v107 : Ref sig .tc := ⟨.hbm, 135, rfl⟩
abbrev main_v108 : Ref sig .tc := ⟨.hbm, 136, rfl⟩
abbrev main_cst_21 : Ref sig .tc := ⟨.hbm, 137, rfl⟩
abbrev main_v109 : Ref sig .tc := ⟨.hbm, 138, rfl⟩
abbrev main_v110 : Ref sig .tc := ⟨.hbm, 139, rfl⟩
abbrev main_cst_22 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_cst_23 : Ref sig .tc := ⟨.hbm, 155, rfl⟩
abbrev main_call0_v0 : Ref sig .tc := ⟨.hbm, 156, rfl⟩
abbrev main_v125_1 : Ref sig .tc := ⟨.hbm, 157, rfl⟩
abbrev main_call0_v2 : Ref sig .tc := ⟨.hbm, 158, rfl⟩
abbrev main_v125_0 : Ref sig .tc := ⟨.hbm, 159, rfl⟩
abbrev main_call0_cst : Ref sig .tc := ⟨.hbm, 160, rfl⟩
abbrev main_v125_2 : Ref sig .tc := ⟨.hbm, 161, rfl⟩
abbrev main_v126 : Ref sig .tc := ⟨.hbm, 162, rfl⟩
abbrev main_v127 : Ref sig .tc := ⟨.hbm, 163, rfl⟩
abbrev main_cst_24 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_25 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_26 : Ref sig .tc := ⟨.hbm, 179, rfl⟩
abbrev main_v141 : Ref sig .tc := ⟨.hbm, 180, rfl⟩
abbrev main_cst_27 : Ref sig .tc := ⟨.hbm, 181, rfl⟩
abbrev main_v142 : Ref sig .tc := ⟨.hbm, 182, rfl⟩
abbrev main_cst_28 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_29 : Ref sig .tc := ⟨.hbm, 191, rfl⟩
abbrev main_v150 : Ref sig .tc := ⟨.hbm, 192, rfl⟩
abbrev main_cst_30 : Ref sig .tc := ⟨.hbm, 193, rfl⟩
abbrev main_v151 : Ref sig .tc := ⟨.hbm, 194, rfl⟩
abbrev main_cst_31 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_cst_32 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_cst_33 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_cst_34 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_cst_35 : Ref sig .tc := ⟨.hbm, 234, rfl⟩
abbrev main_v187 : Ref sig .tc := ⟨.hbm, 235, rfl⟩
abbrev main_v188 : Ref sig .tc := ⟨.hbm, 236, rfl⟩
abbrev main_cst_36 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_cst_37 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_cst_38 : Ref sig .tc := ⟨.hbm, 248, rfl⟩
abbrev main_v198 : Ref sig .tc := ⟨.hbm, 249, rfl⟩
abbrev main_v199 : Ref sig .tc := ⟨.hbm, 250, rfl⟩
abbrev main_cst_39 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_cst_40 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_cst_41 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_cst_42 : Ref sig .tc := ⟨.hbm, 267, rfl⟩
abbrev main_v213 : Ref sig .tc := ⟨.hbm, 268, rfl⟩
abbrev main_v214 : Ref sig .tc := ⟨.hbm, 269, rfl⟩
abbrev main_call1_cst : Ref sig .tc := ⟨.hbm, 270, rfl⟩
abbrev main_call1_v0 : Ref sig .tc := ⟨.hbm, 271, rfl⟩
abbrev main_v215 : Ref sig .tc := ⟨.hbm, 272, rfl⟩
abbrev main_cst_43 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_cst_44 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_cst_45 : Ref sig .tc := ⟨.hbm, 296, rfl⟩
abbrev main_v237 : Ref sig .tc := ⟨.hbm, 297, rfl⟩
abbrev main_v238 : Ref sig .tc := ⟨.hbm, 298, rfl⟩
abbrev main_cst_46 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_cst_47 : Ref sig .tc := ⟨.hbm, 305, rfl⟩
abbrev main_v244 : Ref sig .tc := ⟨.hbm, 306, rfl⟩
abbrev main_v245 : Ref sig .tc := ⟨.hbm, 307, rfl⟩
abbrev main_cst_48 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_cst_49 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_cst_50 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_cst_51 : Ref sig .tc := ⟨.hbm, 325, rfl⟩
abbrev main_v260 : Ref sig .tc := ⟨.hbm, 326, rfl⟩
abbrev main_v261 : Ref sig .tc := ⟨.hbm, 327, rfl⟩
abbrev main_v262 : Ref sig .tc := ⟨.hbm, 328, rfl⟩
abbrev main_v263 : Ref sig .tc := ⟨.hbm, 329, rfl⟩
abbrev main_v264 : Ref sig .tc := ⟨.hbm, 330, rfl⟩
abbrev main_cst_52 : Ref sig .tc := ⟨.hbm, 331, rfl⟩
abbrev main_v265 : Ref sig .tc := ⟨.hbm, 332, rfl⟩
abbrev main_v266 : Ref sig .tc := ⟨.hbm, 333, rfl⟩
abbrev main_cst_53 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_cst_54 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_cst_55 : Ref sig .tc := ⟨.hbm, 347, rfl⟩
abbrev main_v278 : Ref sig .tc := ⟨.hbm, 348, rfl⟩
abbrev main_v279 : Ref sig .tc := ⟨.hbm, 349, rfl⟩
abbrev main_cst_56 : Ref sig .tc := ⟨.hbm, 350, rfl⟩
abbrev main_v280 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_v284 : Ref sig .tc := ⟨.hbm, 355, rfl⟩
abbrev main_cst_57 : Ref sig .tc := ⟨.hbm, 356, rfl⟩
abbrev main_v285 : Ref sig .tc := ⟨.hbm, 357, rfl⟩
abbrev main_v286 : Ref sig .tc := ⟨.hbm, 358, rfl⟩
abbrev main_cst_58 : Ref sig .tc := ⟨.hbm, 359, rfl⟩
abbrev main_v287 : Ref sig .tc := ⟨.hbm, 360, rfl⟩
abbrev main_v288 : Ref sig .tc := ⟨.hbm, 361, rfl⟩
abbrev main_v289 : Ref sig .tc := ⟨.hbm, 362, rfl⟩
abbrev main_v290 : Ref sig .tc := ⟨.hbm, 363, rfl⟩
abbrev main_v291 : Ref sig .tc := ⟨.hbm, 364, rfl⟩
abbrev main_v292 : Ref sig .tc := ⟨.hbm, 365, rfl⟩
abbrev main_v293 : Ref sig .tc := ⟨.hbm, 366, rfl⟩
abbrev main_v294 : Ref sig .tc := ⟨.hbm, 367, rfl⟩
abbrev main_v295 : Ref sig .tc := ⟨.hbm, 368, rfl⟩
abbrev main_v296 : Ref sig .tc := ⟨.hbm, 369, rfl⟩
abbrev main_v297 : Ref sig .tc := ⟨.hbm, 370, rfl⟩
abbrev main_v298 : Ref sig .tc := ⟨.hbm, 371, rfl⟩
abbrev main_v299 : Ref sig .tc := ⟨.hbm, 372, rfl⟩
abbrev main_v300 : Ref sig .tc := ⟨.hbm, 373, rfl⟩
abbrev main_v301 : Ref sig .tc := ⟨.hbm, 374, rfl⟩

abbrev nD : Nat := 1
abbrev τ : Topo := Topo.v7x

variable {F : FTy → Type} [FloatOps F]
-- ==== KernelW1.lean ====
abbrev S4096x1024 : Shape := ⟨2, ![4096, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S8x1x1024x512 : Shape := ⟨4, ![8, 1, 1024, 512]⟩
abbrev S4096x4096 : Shape := ⟨2, ![4096, 4096]⟩
abbrev S1024x1024 : Shape := ⟨2, ![1024, 1024]⟩
abbrev S1x1x1024x512 : Shape := ⟨4, ![1, 1, 1024, 512]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S1024x4096, .bf16⟩
  | .hbm, ⟨3, _⟩ => ⟨S1024x8x512, .bf16⟩
  | .hbm, ⟨4, _⟩ => ⟨S8x1024x512, .bf16⟩
  | .hbm, ⟨5, _⟩ => ⟨S8x1x1024x512, .bf16⟩
  | .hbm, ⟨6, _⟩ => ⟨S4096x4096, .bf16⟩
  | .hbm, ⟨7, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceW1Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x1024, .f32⟩
  | .hbm, ⟨3, _⟩ => ⟨S4096x4096, .f32⟩
  | .hbm, ⟨4, _⟩ => ⟨S4096x4096, .bf16⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelW2.lean ====
abbrev S4096x4096 : Shape := ⟨2, ![4096, 4096]⟩
abbrev S4096x1024 : Shape := ⟨2, ![4096, 1024]⟩
abbrev S8x512x1024 : Shape := ⟨3, ![8, 512, 1024]⟩
abbrev S8x1x512x1024 : Shape := ⟨4, ![8, 1, 512, 1024]⟩
abbrev S1024x4096 : Shape := ⟨2, ![1024, 4096]⟩
abbrev S8x1x512x512 : Shape := ⟨4, ![8, 1, 512, 512]⟩
abbrev S1024x512 : Shape := ⟨2, ![1024, 512]⟩
abbrev S8x512x512 : Shape := ⟨3, ![8, 512, 512]⟩
abbrev S4096x512 : Shape := ⟨2, ![4096, 512]⟩

abbrev nBuf : Space → Nat
  | .hbm => 7
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S8x512x1024, .bf16⟩
  | .hbm, ⟨5, _⟩ => ⟨S8x1x512x1024, .bf16⟩
  | .hbm, ⟨6, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S8x1x512x512, .bf16⟩
  | .local _ .vmem, ⟨3, _⟩ => ⟨S8x1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceW2Ideal.lean ====
abbrev S4096x4096 : Shape := ⟨2, ![4096, 4096]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelDa.lean ====
abbrev S4096x1024 : Shape := ⟨2, ![4096, 1024]⟩
abbrev S4096x4096 : Shape := ⟨2, ![4096, 4096]⟩
abbrev S8x512x1024 : Shape := ⟨3, ![8, 512, 1024]⟩
abbrev S8x1x512x1024 : Shape := ⟨4, ![8, 1, 512, 1024]⟩
abbrev S1024x1024 : Shape := ⟨2, ![1024, 1024]⟩
abbrev S1x1x512x1024 : Shape := ⟨4, ![1, 1, 512, 1024]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S8x512x1024, .bf16⟩
  | .hbm, ⟨5, _⟩ => ⟨S8x1x512x1024, .bf16⟩
  | .hbm, ⟨6, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDaIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x4096, .bf16⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KernelDw2.lean ====
abbrev S4096x4096 : Shape := ⟨2, ![4096, 4096]⟩
abbrev S4096x1024 : Shape := ⟨2, ![4096, 1024]⟩
abbrev S8x512x1024 : Shape := ⟨3, ![8, 512, 1024]⟩
abbrev S4096x512 : Shape := ⟨2, ![4096, 512]⟩
abbrev S2x512x512 : Shape := ⟨3, ![2, 512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S8x512x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S2x512x512, .bf16⟩
  | .local _ .vmem, ⟨5, _⟩ => ⟨S2x512x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDw2Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S8x512x1024 : Shape := ⟨3, ![8, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S8x512x1024, .f32⟩
  | .hbm, ⟨10, _⟩ => ⟨S8x512x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDw1.lean ====
abbrev S4096x1024 : Shape := ⟨2, ![4096, 1024]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDw1Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDu.lean ====
abbrev S4096x4096 : Shape := ⟨2, ![4096, 4096]⟩
abbrev S1024x4096 : Shape := ⟨2, ![1024, 4096]⟩
abbrev S1024x8x512 : Shape := ⟨3, ![1024, 8, 512]⟩
abbrev S8x1024x512 : Shape := ⟨3, ![8, 1024, 512]⟩
abbrev S8x1x1024x512 : Shape := ⟨4, ![8, 1, 1024, 512]⟩
abbrev S4096x1024 : Shape := ⟨2, ![4096, 1024]⟩
abbrev S8x1x512x512 : Shape := ⟨4, ![8, 1, 512, 512]⟩
abbrev S1024x512 : Shape := ⟨2, ![1024, 512]⟩
abbrev S1x1x512x512 : Shape := ⟨4, ![1, 1, 512, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .f32⟩
  | .hbm, ⟨2, _⟩ => ⟨S1024x4096, .bf16⟩
  | .hbm, ⟨3, _⟩ => ⟨S1024x8x512, .bf16⟩
  | .hbm, ⟨4, _⟩ => ⟨S8x1024x512, .bf16⟩
  | .hbm, ⟨5, _⟩ => ⟨S8x1x1024x512, .bf16⟩
  | .hbm, ⟨6, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S8x1x512x512, .bf16⟩
  | .local _ .vmem, ⟨3, _⟩ => ⟨S8x1x512x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDuIdeal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .f32⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x4096, .f32⟩
  | .hbm, ⟨6, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelQkv.lean ====
abbrev S4096x1024 : Shape := ⟨2, ![4096, 1024]⟩
abbrev S1024x1536 : Shape := ⟨2, ![1024, 1536]⟩
abbrev S1024x8x192 : Shape := ⟨3, ![1024, 8, 192]⟩
abbrev S8x1024x192 : Shape := ⟨3, ![8, 1024, 192]⟩
abbrev S4096x1536 : Shape := ⟨2, ![4096, 1536]⟩
abbrev S1024x1024 : Shape := ⟨2, ![1024, 1024]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .f32⟩
  | .hbm, ⟨2, _⟩ => ⟨S1024x1536, .bf16⟩
  | .hbm, ⟨3, _⟩ => ⟨S1024x8x192, .bf16⟩
  | .hbm, ⟨4, _⟩ => ⟨S8x1024x192, .bf16⟩
  | .hbm, ⟨5, _⟩ => ⟨S1024x8x192, .bf16⟩
  | .hbm, ⟨6, _⟩ => ⟨S1024x1536, .bf16⟩
  | .hbm, ⟨7, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQkvIdeal.lean ====
abbrev S4096x1024 : Shape := ⟨2, ![4096, 1024]⟩
abbrev S1024x1536 : Shape := ⟨2, ![1024, 1536]⟩
abbrev S4096x1536 : Shape := ⟨2, ![4096, 1536]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .f32⟩
  | .hbm, ⟨2, _⟩ => ⟨S4096x1024, .f32⟩
  | .hbm, ⟨3, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelWo.lean ====
abbrev S4096x1024 : Shape := ⟨2, ![4096, 1024]⟩
abbrev S1024x1024 : Shape := ⟨2, ![1024, 1024]⟩
abbrev S8x128x1024 : Shape := ⟨3, ![8, 128, 1024]⟩
abbrev S8x1x128x1024 : Shape := ⟨4, ![8, 1, 128, 1024]⟩
abbrev S8x1x128x512 : Shape := ⟨4, ![8, 1, 128, 512]⟩
abbrev S1024x512 : Shape := ⟨2, ![1024, 512]⟩
abbrev S8x128x512 : Shape := ⟨3, ![8, 128, 512]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S8x128x1024, .bf16⟩
  | .hbm, ⟨5, _⟩ => ⟨S8x1x128x1024, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x1x128x512, .bf16⟩
  | .local _ .vmem, ⟨3, _⟩ => ⟨S8x1x128x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceWoIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelDo.lean ====
abbrev S4096x1024 : Shape := ⟨2, ![4096, 1024]⟩
abbrev S1024x1024 : Shape := ⟨2, ![1024, 1024]⟩
abbrev S8x128x1024 : Shape := ⟨3, ![8, 128, 1024]⟩
abbrev S8x1x128x1024 : Shape := ⟨4, ![8, 1, 128, 1024]⟩
abbrev S4x1x128x1024 : Shape := ⟨4, ![4, 1, 128, 1024]⟩
abbrev S1024x512 : Shape := ⟨2, ![1024, 512]⟩
abbrev S4x128x1024 : Shape := ⟨3, ![4, 128, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S8x128x1024, .bf16⟩
  | .hbm, ⟨4, _⟩ => ⟨S8x1x128x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1x128x1024, .bf16⟩
  | .local _ .vmem, ⟨3, _⟩ => ⟨S4x1x128x1024, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDoIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDwo.lean ====
abbrev S4096x1024 : Shape := ⟨2, ![4096, 1024]⟩
abbrev S8x128x1024 : Shape := ⟨3, ![8, 128, 1024]⟩
abbrev S4096x512 : Shape := ⟨2, ![4096, 512]⟩
abbrev S8x128x512 : Shape := ⟨3, ![8, 128, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S8x128x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S8x128x512, .bf16⟩
  | .local _ .vmem, ⟨4, _⟩ => ⟨S8x128x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwoIdeal.lean ====
abbrev S4096x1024 : Shape := ⟨2, ![4096, 1024]⟩
abbrev S_ : Shape := ⟨0, ![]⟩
abbrev S1024x1024 : Shape := ⟨2, ![1024, 1024]⟩
abbrev S8x128x1024 : Shape := ⟨3, ![8, 128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S8x128x1024, .f32⟩
  | .hbm, ⟨10, _⟩ => ⟨S8x128x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDwqkv.lean ====
abbrev S4096x1024 : Shape := ⟨2, ![4096, 1024]⟩
abbrev S4096x1536 : Shape := ⟨2, ![4096, 1536]⟩
abbrev S1024x1536 : Shape := ⟨2, ![1024, 1536]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x1536, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwqkvIdeal.lean ====
abbrev S4096x1024 : Shape := ⟨2, ![4096, 1024]⟩
abbrev S4096x1536 : Shape := ⟨2, ![4096, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S_, .f32⟩
  | .hbm, ⟨3, _⟩ => ⟨S1024x1536, .f32⟩
  | .hbm, ⟨4, _⟩ => ⟨S4096x1024, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDuqkv.lean ====
abbrev S4096x1536 : Shape := ⟨2, ![4096, 1536]⟩
abbrev S1024x1536 : Shape := ⟨2, ![1024, 1536]⟩
abbrev S1024x8x192 : Shape := ⟨3, ![1024, 8, 192]⟩
abbrev S8x1024x192 : Shape := ⟨3, ![8, 1024, 192]⟩
abbrev S4096x1024 : Shape := ⟨2, ![4096, 1024]⟩
abbrev S512x1536 : Shape := ⟨2, ![512, 1536]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .f32⟩
  | .hbm, ⟨2, _⟩ => ⟨S1024x1536, .bf16⟩
  | .hbm, ⟨3, _⟩ => ⟨S1024x8x192, .bf16⟩
  | .hbm, ⟨4, _⟩ => ⟨S8x1024x192, .bf16⟩
  | .hbm, ⟨5, _⟩ => ⟨S1024x8x192, .bf16⟩
  | .hbm, ⟨6, _⟩ => ⟨S1024x1536, .bf16⟩
  | .hbm, ⟨7, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S512x1536, .bf16⟩
  | .local _ .vmem, ⟨3, _⟩ => ⟨S512x1536, .bf16⟩
  | .local _ .vmem, ⟨4, _⟩ => ⟨S1024x512, .f32⟩
  | .local _ .vmem, ⟨5, _⟩ => ⟨S1024x512, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDuqkvIdeal.lean ====
abbrev S4096x1536 : Shape := ⟨2, ![4096, 1536]⟩
abbrev S1024x1536 : Shape := ⟨2, ![1024, 1536]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .f32⟩
  | .hbm, ⟨2, _⟩ => ⟨S_, .f32⟩
  | .hbm, ⟨3, _⟩ => ⟨S4096x1024, .f32⟩
  | .hbm, ⟨4, _⟩ => ⟨S4096x1536, .f32⟩
  | .hbm, ⟨5, _⟩ => ⟨S4096x1536, .f32⟩
  | .hbm, ⟨6, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelGate.lean ====
abbrev S4096x1024 : Shape := ⟨2, ![4096, 1024]⟩
abbrev S1024x1024 : Shape := ⟨2, ![1024, 1024]⟩
abbrev S8x128x1024 : Shape := ⟨3, ![8, 128, 1024]⟩
abbrev S8x1x128x1024 : Shape := ⟨4, ![8, 1, 128, 1024]⟩
abbrev S8x1x128x512 : Shape := ⟨4, ![8, 1, 128, 512]⟩
abbrev S1024x512 : Shape := ⟨2, ![1024, 512]⟩
abbrev S8x128x512 : Shape := ⟨3, ![8, 128, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S8x128x1024, .bf16⟩
  | .hbm, ⟨4, _⟩ => ⟨S8x1x128x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x1x128x512, .bf16⟩
  | .local _ .vmem, ⟨3, _⟩ => ⟨S8x1x128x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGateIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelProj.lean ====
abbrev S4096x256 : Shape := ⟨2, ![4096, 256]⟩
abbrev S256x1024 : Shape := ⟨2, ![256, 1024]⟩
abbrev S4096x1024 : Shape := ⟨2, ![4096, 1024]⟩
abbrev S256x8x128 : Shape := ⟨3, ![256, 8, 128]⟩
abbrev S8x256x128 : Shape := ⟨3, ![8, 256, 128]⟩
abbrev S8x1x256x128 : Shape := ⟨4, ![8, 1, 256, 128]⟩
abbrev S1024x256 : Shape := ⟨2, ![1024, 256]⟩
abbrev S4x1x256x128 : Shape := ⟨4, ![4, 1, 256, 128]⟩
abbrev S1024x512 : Shape := ⟨2, ![1024, 512]⟩
abbrev S4x256x128 : Shape := ⟨3, ![4, 256, 128]⟩
abbrev S1x256x128 : Shape := ⟨3, ![1, 256, 128]⟩
abbrev S256x128 : Shape := ⟨2, ![256, 128]⟩
abbrev S1024x128 : Shape := ⟨2, ![1024, 128]⟩

abbrev nBuf : Space → Nat
  | .hbm => 10
  | .vmem => 12
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S4096x1024, .f32⟩
  | .hbm, ⟨4, _⟩ => ⟨S256x1024, .bf16⟩
  | .hbm, ⟨5, _⟩ => ⟨S256x8x128, .bf16⟩
  | .hbm, ⟨6, _⟩ => ⟨S8x256x128, .bf16⟩
  | .hbm, ⟨7, _⟩ => ⟨S8x1x256x128, .bf16⟩
  | .hbm, ⟨8, _⟩ => ⟨S4096x1024, .f32⟩
  | .hbm, ⟨9, _⟩ => ⟨S4096x1024, .bf16⟩
  | .local _ .vmem, ⟨0, _⟩ => ⟨S1024x256, .f32⟩
  | .local _ .vmem, ⟨1, _⟩ => ⟨S1024x256, .f32⟩
  | .local _ .vmem, ⟨2, _⟩ => ⟨S4x1x256x128, .bf16⟩
  | .local _ .vmem, ⟨3, _⟩ => ⟨S4x1x256x128, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceProjIdeal.lean ====
abbrev S4096x256 : Shape := ⟨2, ![4096, 256]⟩
abbrev S256x1024 : Shape := ⟨2, ![256, 1024]⟩
abbrev S4096x1024 : Shape := ⟨2, ![4096, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== KernelDwproj.lean ====
abbrev S4096x256 : Shape := ⟨2, ![4096, 256]⟩
abbrev S4096x1024 : Shape := ⟨2, ![4096, 1024]⟩
abbrev S8x256x128 : Shape := ⟨3, ![8, 256, 128]⟩
abbrev S4096x512 : Shape := ⟨2, ![4096, 512]⟩
abbrev S4x256x128 : Shape := ⟨3, ![4, 256, 128]⟩
abbrev S256x512 : Shape := ⟨2, ![256, 512]⟩
abbrev S256x128 : Shape := ⟨2, ![256, 128]⟩
abbrev S1x256x128 : Shape := ⟨3, ![1, 256, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S8x256x128, .bf16⟩
  | .local _ .vmem, ⟨0, _⟩ => ⟨S4096x256, .f32⟩
  | .local _ .vmem, ⟨1, _⟩ => ⟨S4096x512, .bf16⟩
  | .local _ .vmem, ⟨2, _⟩ => ⟨S4096x512, .bf16⟩
  | .local _ .vmem, ⟨3, _⟩ => ⟨S4x256x128, .bf16⟩
  | .local _ .vmem, ⟨4, _⟩ => ⟨S4x256x128, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwprojIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S1024x256, .f32⟩
  | .hbm, ⟨7, _⟩ => ⟨S256x1024, .f32⟩
  | .hbm, ⟨8, _⟩ => ⟨S256x8x128, .f32⟩
  | .hbm, ⟨9, _⟩ => ⟨S8x256x128, .f32⟩
  | .hbm, ⟨10, _⟩ => ⟨S8x256x128, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelPw1.lean ====
abbrev S4096x1024 : Shape := ⟨2, ![4096, 1024]⟩
abbrev S1024x2048 : Shape := ⟨2, ![1024, 2048]⟩
abbrev S2048 : Shape := ⟨1, ![2048]⟩
abbrev S1024x8x256 : Shape := ⟨3, ![1024, 8, 256]⟩
abbrev S8x1024x256 : Shape := ⟨3, ![8, 1024, 256]⟩
abbrev S8x1x1024x256 : Shape := ⟨4, ![8, 1, 1024, 256]⟩
abbrev S1x2048 : Shape := ⟨2, ![1, 2048]⟩
abbrev S4096x2048 : Shape := ⟨2, ![4096, 2048]⟩
abbrev S1024x1024 : Shape := ⟨2, ![1024, 1024]⟩
abbrev S2x1x1024x256 : Shape := ⟨4, ![2, 1, 1024, 256]⟩
abbrev S1x512 : Shape := ⟨2, ![1, 512]⟩
abbrev S1024x512 : Shape := ⟨2, ![1024, 512]⟩
abbrev S2x1024x256 : Shape := ⟨3, ![2, 1024, 256]⟩
abbrev S1x1024x256 : Shape := ⟨3, ![1, 1024, 256]⟩
abbrev S1024x256 : Shape := ⟨2, ![1024, 256]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S2048, .f32⟩
  | .hbm, ⟨3, _⟩ => ⟨S1024x2048, .bf16⟩
  | .hbm, ⟨4, _⟩ => ⟨S1024x8x256, .bf16⟩
  | .hbm, ⟨5, _⟩ => ⟨S8x1024x256, .bf16⟩
  | .hbm, ⟨6, _⟩ => ⟨S8x1x1024x256, .bf16⟩
  | .hbm, ⟨7, _⟩ => ⟨S1x2048, .f32⟩
  | .hbm, ⟨8, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S2x1x1024x256, .bf16⟩
  | .local _ .vmem, ⟨3, _⟩ => ⟨S2x1x1024x256, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferencePw1Ideal.lean ====
abbrev S4096x1024 : Shape := ⟨2, ![4096, 1024]⟩
abbrev S1024x2048 : Shape := ⟨2, ![1024, 2048]⟩
abbrev S2048 : Shape := ⟨1, ![2048]⟩
abbrev S4096x2048 : Shape := ⟨2, ![4096, 2048]⟩
abbrev S1x2048 : Shape := ⟨2, ![1, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S2048, .f32⟩
  | .hbm, ⟨3, _⟩ => ⟨S4096x1024, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelPw2.lean ====
abbrev S4096x1024 : Shape := ⟨2, ![4096, 1024]⟩
abbrev S1024x1024 : Shape := ⟨2, ![1024, 1024]⟩
abbrev S1024 : Shape := ⟨1, ![1024]⟩
abbrev S8x128x1024 : Shape := ⟨3, ![8, 128, 1024]⟩
abbrev S8x1x128x1024 : Shape := ⟨4, ![8, 1, 128, 1024]⟩
abbrev S1x1024 : Shape := ⟨2, ![1, 1024]⟩
abbrev S8x1x128x512 : Shape := ⟨4, ![8, 1, 128, 512]⟩
abbrev S1024x512 : Shape := ⟨2, ![1024, 512]⟩
abbrev S1x512 : Shape := ⟨2, ![1, 512]⟩
abbrev S8x128x512 : Shape := ⟨3, ![8, 128, 512]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024x1024, .bf16⟩
  | .hbm, ⟨5, _⟩ => ⟨S8x128x1024, .bf16⟩
  | .hbm, ⟨6, _⟩ => ⟨S8x1x128x1024, .bf16⟩
  | .hbm, ⟨7, _⟩ => ⟨S1x1024, .f32⟩
  | .hbm, ⟨8, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x1x128x512, .bf16⟩
  | .local _ .vmem, ⟨3, _⟩ => ⟨S8x1x128x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferencePw2Ideal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelDwpw1.lean ====
abbrev S4096x1024 : Shape := ⟨2, ![4096, 1024]⟩
abbrev S4096x2048 : Shape := ⟨2, ![4096, 2048]⟩
abbrev S8x1024x256 : Shape := ⟨3, ![8, 1024, 256]⟩
abbrev S4096x512 : Shape := ⟨2, ![4096, 512]⟩
abbrev S2x1024x256 : Shape := ⟨3, ![2, 1024, 256]⟩
abbrev S1024x512 : Shape := ⟨2, ![1024, 512]⟩
abbrev S1024x256 : Shape := ⟨2, ![1024, 256]⟩
abbrev S1x1024x256 : Shape := ⟨3, ![1, 1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x1024x256, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S2x1024x256, .bf16⟩
  | .local _ .vmem, ⟨4, _⟩ => ⟨S2x1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwpw1Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDupw1.lean ====
abbrev S4096x2048 : Shape := ⟨2, ![4096, 2048]⟩
abbrev S1024x2048 : Shape := ⟨2, ![1024, 2048]⟩
abbrev S1024x8x256 : Shape := ⟨3, ![1024, 8, 256]⟩
abbrev S8x1024x256 : Shape := ⟨3, ![8, 1024, 256]⟩
abbrev S8x1x1024x256 : Shape := ⟨4, ![8, 1, 1024, 256]⟩
abbrev S4096x1024 : Shape := ⟨2, ![4096, 1024]⟩
abbrev S8x1x512x256 : Shape := ⟨4, ![8, 1, 512, 256]⟩
abbrev S1024x512 : Shape := ⟨2, ![1024, 512]⟩
abbrev S1024x256 : Shape := ⟨2, ![1024, 256]⟩
abbrev S1x1x512x256 : Shape := ⟨4, ![1, 1, 512, 256]⟩
abbrev S512x256 : Shape := ⟨2, ![512, 256]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S1024x2048, .bf16⟩
  | .hbm, ⟨3, _⟩ => ⟨S1024x8x256, .bf16⟩
  | .hbm, ⟨4, _⟩ => ⟨S8x1024x256, .bf16⟩
  | .hbm, ⟨5, _⟩ => ⟨S8x1x1024x256, .bf16⟩
  | .hbm, ⟨6, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S8x1x512x256, .bf16⟩
  | .local _ .vmem, ⟨3, _⟩ => ⟨S8x1x512x256, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDupw1Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .f32⟩
  | .hbm, ⟨2, _⟩ => ⟨S_, .f32⟩
  | .hbm, ⟨3, _⟩ => ⟨S4096x1024, .f32⟩
  | .hbm, ⟨4, _⟩ => ⟨S4096x2048, .f32⟩
  | .hbm, ⟨5, _⟩ => ⟨S4096x2048, .f32⟩
  | .hbm, ⟨6, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelInz.lean ====
abbrev S4096x1024 : Shape := ⟨2, ![4096, 1024]⟩
abbrev S1024x6176 : Shape := ⟨2, ![1024, 6176]⟩
abbrev S1024x8x772 : Shape := ⟨3, ![1024, 8, 772]⟩
abbrev S8x1024x772 : Shape := ⟨3, ![8, 1024, 772]⟩
abbrev S1024x2048 : Shape := ⟨2, ![1024, 2048]⟩
abbrev S1024x4096 : Shape := ⟨2, ![1024, 4096]⟩
abbrev S1024x32 : Shape := ⟨2, ![1024, 32]⟩
abbrev S_ : Shape := ⟨0, ![]⟩
abbrev S1024x128 : Shape := ⟨2, ![1024, 128]⟩
abbrev S4096x2048 : Shape := ⟨2, ![4096, 2048]⟩
abbrev S1024x1024 : Shape := ⟨2, ![1024, 1024]⟩
abbrev S1024x512 : Shape := ⟨2, ![1024, 512]⟩

abbrev nBuf : Space → Nat
  | .hbm => 14
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x6176, .f32⟩
  | .hbm, ⟨2, _⟩ => ⟨S1024x6176, .bf16⟩
  | .hbm, ⟨3, _⟩ => ⟨S1024x8x772, .bf16⟩
  | .hbm, ⟨4, _⟩ => ⟨S8x1024x772, .bf16⟩
  | .hbm, ⟨5, _⟩ => ⟨S1024x8x772, .bf16⟩
  | .hbm, ⟨6, _⟩ => ⟨S1024x6176, .bf16⟩
  | .hbm, ⟨7, _⟩ => ⟨S1024x2048, .bf16⟩
  | .hbm, ⟨8, _⟩ => ⟨S1024x4096, .bf16⟩
  | .hbm, ⟨9, _⟩ => ⟨S1024x32, .bf16⟩
  | .hbm, ⟨10, _⟩ => ⟨S_, .i32⟩
  | .hbm, ⟨11, _⟩ => ⟨S_, .bf16⟩
  | .hbm, ⟨12, _⟩ => ⟨S1024x128, .bf16⟩
  | .hbm, ⟨13, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInzIdeal.lean ====
abbrev S4096x1024 : Shape := ⟨2, ![4096, 1024]⟩
abbrev S1024x6176 : Shape := ⟨2, ![1024, 6176]⟩
abbrev S4096x6176 : Shape := ⟨2, ![4096, 6176]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6176, .f32⟩
  | .hbm, ⟨2, _⟩ => ⟨S4096x1024, .f32⟩
  | .hbm, ⟨3, _⟩ => ⟨S4096x6176, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelInxbc.lean ====
abbrev S4096x1024 : Shape := ⟨2, ![4096, 1024]⟩
abbrev S1024x6176 : Shape := ⟨2, ![1024, 6176]⟩
abbrev S1024x8x772 : Shape := ⟨3, ![1024, 8, 772]⟩
abbrev S8x1024x772 : Shape := ⟨3, ![8, 1024, 772]⟩
abbrev S1024x2048 : Shape := ⟨2, ![1024, 2048]⟩
abbrev S1024x4096 : Shape := ⟨2, ![1024, 4096]⟩
abbrev S1024x32 : Shape := ⟨2, ![1024, 32]⟩
abbrev S_ : Shape := ⟨0, ![]⟩
abbrev S1024x128 : Shape := ⟨2, ![1024, 128]⟩
abbrev S4096x4096 : Shape := ⟨2, ![4096, 4096]⟩
abbrev S1024x1024 : Shape := ⟨2, ![1024, 1024]⟩
abbrev S1024x512 : Shape := ⟨2, ![1024, 512]⟩

abbrev nBuf : Space → Nat
  | .hbm => 14
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x6176, .f32⟩
  | .hbm, ⟨2, _⟩ => ⟨S1024x6176, .bf16⟩
  | .hbm, ⟨3, _⟩ => ⟨S1024x8x772, .bf16⟩
  | .hbm, ⟨4, _⟩ => ⟨S8x1024x772, .bf16⟩
  | .hbm, ⟨5, _⟩ => ⟨S1024x8x772, .bf16⟩
  | .hbm, ⟨6, _⟩ => ⟨S1024x6176, .bf16⟩
  | .hbm, ⟨7, _⟩ => ⟨S1024x2048, .bf16⟩
  | .hbm, ⟨8, _⟩ => ⟨S1024x4096, .bf16⟩
  | .hbm, ⟨9, _⟩ => ⟨S1024x32, .bf16⟩
  | .hbm, ⟨10, _⟩ => ⟨S_, .i32⟩
  | .hbm, ⟨11, _⟩ => ⟨S_, .bf16⟩
  | .hbm, ⟨12, _⟩ => ⟨S1024x128, .bf16⟩
  | .hbm, ⟨13, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInxbcIdeal.lean ====
abbrev S4096x1024 : Shape := ⟨2, ![4096, 1024]⟩
abbrev S1024x6176 : Shape := ⟨2, ![1024, 6176]⟩
abbrev S4096x6176 : Shape := ⟨2, ![4096, 6176]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6176, .f32⟩
  | .hbm, ⟨2, _⟩ => ⟨S4096x1024, .f32⟩
  | .hbm, ⟨3, _⟩ => ⟨S4096x6176, .f32⟩
  | .hbm, ⟨4, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelIndt.lean ====
abbrev S4096x1024 : Shape := ⟨2, ![4096, 1024]⟩
abbrev S1024x6176 : Shape := ⟨2, ![1024, 6176]⟩
abbrev S1024x8x772 : Shape := ⟨3, ![1024, 8, 772]⟩
abbrev S8x1024x772 : Shape := ⟨3, ![8, 1024, 772]⟩
abbrev S1024x2048 : Shape := ⟨2, ![1024, 2048]⟩
abbrev S1024x4096 : Shape := ⟨2, ![1024, 4096]⟩
abbrev S1024x32 : Shape := ⟨2, ![1024, 32]⟩
abbrev S_ : Shape := ⟨0, ![]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 14
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x6176, .f32⟩
  | .hbm, ⟨2, _⟩ => ⟨S1024x6176, .bf16⟩
  | .hbm, ⟨3, _⟩ => ⟨S1024x8x772, .bf16⟩
  | .hbm, ⟨4, _⟩ => ⟨S8x1024x772, .bf16⟩
  | .hbm, ⟨5, _⟩ => ⟨S1024x8x772, .bf16⟩
  | .hbm, ⟨6, _⟩ => ⟨S1024x6176, .bf16⟩
  | .hbm, ⟨7, _⟩ => ⟨S1024x2048, .bf16⟩
  | .hbm, ⟨8, _⟩ => ⟨S1024x4096, .bf16⟩
  | .hbm, ⟨9, _⟩ => ⟨S1024x32, .bf16⟩
  | .hbm, ⟨10, _⟩ => ⟨S_, .i32⟩
  | .hbm, ⟨11, _⟩ => ⟨S_, .bf16⟩
  | .hbm, ⟨12, _⟩ => ⟨S1024x128, .bf16⟩
  | .hbm, ⟨13, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIndtIdeal.lean ====
abbrev S4096x1024 : Shape := ⟨2, ![4096, 1024]⟩
abbrev S1024x6176 : Shape := ⟨2, ![1024, 6176]⟩
abbrev S4096x6176 : Shape := ⟨2, ![4096, 6176]⟩
abbrev S4096x32 : Shape := ⟨2, ![4096, 32]⟩
abbrev S_ : Shape := ⟨0, ![]⟩
abbrev S4096x128 : Shape := ⟨2, ![4096, 128]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6176, .f32⟩
  | .hbm, ⟨2, _⟩ => ⟨S4096x1024, .f32⟩
  | .hbm, ⟨3, _⟩ => ⟨S4096x6176, .f32⟩
  | .hbm, ⟨4, _⟩ => ⟨S4096x32, .f32⟩
  | .hbm, ⟨5, _⟩ => ⟨S_, .i32⟩
  | .hbm, ⟨6, _⟩ => ⟨S_, .f32⟩
  | .hbm, ⟨7, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelOut.lean ====
abbrev S4096x2048 : Shape := ⟨2, ![4096, 2048]⟩
abbrev S2048x1024 : Shape := ⟨2, ![2048, 1024]⟩
abbrev S4096x1024 : Shape := ⟨2, ![4096, 1024]⟩
abbrev S8x256x1024 : Shape := ⟨3, ![8, 256, 1024]⟩
abbrev S8x1x256x1024 : Shape := ⟨4, ![8, 1, 256, 1024]⟩
abbrev S1024x2048 : Shape := ⟨2, ![1024, 2048]⟩
abbrev S8x1x256x512 : Shape := ⟨4, ![8, 1, 256, 512]⟩
abbrev S1024x512 : Shape := ⟨2, ![1024, 512]⟩
abbrev S8x256x512 : Shape := ⟨3, ![8, 256, 512]⟩
abbrev S2048x512 : Shape := ⟨2, ![2048, 512]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .f32⟩
  | .hbm, ⟨2, _⟩ => ⟨S4096x1024, .f32⟩
  | .hbm, ⟨3, _⟩ => ⟨S2048x1024, .bf16⟩
  | .hbm, ⟨4, _⟩ => ⟨S8x256x1024, .bf16⟩
  | .hbm, ⟨5, _⟩ => ⟨S8x1x256x1024, .bf16⟩
  | .hbm, ⟨6, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S8x1x256x512, .bf16⟩
  | .local _ .vmem, ⟨3, _⟩ => ⟨S8x1x256x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .f32⟩
  | .hbm, ⟨2, _⟩ => ⟨S4096x1024, .f32⟩
  | .hbm, ⟨3, _⟩ => ⟨S4096x2048, .f32⟩
  | .hbm, ⟨4, _⟩ => ⟨S4096x1024, .f32⟩
  | .hbm, ⟨5, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelDyn.lean ====
abbrev S4096x1024 : Shape := ⟨2, ![4096, 1024]⟩
abbrev S2048x1024 : Shape := ⟨2, ![2048, 1024]⟩
abbrev S8x256x1024 : Shape := ⟨3, ![8, 256, 1024]⟩
abbrev S8x1x256x1024 : Shape := ⟨4, ![8, 1, 256, 1024]⟩
abbrev S4096x2048 : Shape := ⟨2, ![4096, 2048]⟩
abbrev S1024x1024 : Shape := ⟨2, ![1024, 1024]⟩
abbrev S2x1x256x1024 : Shape := ⟨4, ![2, 1, 256, 1024]⟩
abbrev S1024x512 : Shape := ⟨2, ![1024, 512]⟩
abbrev S2x256x1024 : Shape := ⟨3, ![2, 256, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .f32⟩
  | .hbm, ⟨2, _⟩ => ⟨S2048x1024, .bf16⟩
  | .hbm, ⟨3, _⟩ => ⟨S8x256x1024, .bf16⟩
  | .hbm, ⟨4, _⟩ => ⟨S8x1x256x1024, .bf16⟩
  | .hbm, ⟨5, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S2x1x256x1024, .bf16⟩
  | .local _ .vmem, ⟨3, _⟩ => ⟨S2x1x256x1024, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDynIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .f32⟩
  | .hbm, ⟨2, _⟩ => ⟨S_, .f32⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDwout.lean ====
abbrev S4096x2048 : Shape := ⟨2, ![4096, 2048]⟩
abbrev S4096x1024 : Shape := ⟨2, ![4096, 1024]⟩
abbrev S8x256x1024 : Shape := ⟨3, ![8, 256, 1024]⟩
abbrev S4096x512 : Shape := ⟨2, ![4096, 512]⟩
abbrev S4x256x512 : Shape := ⟨3, ![4, 256, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S8x256x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S4x256x512, .bf16⟩
  | .local _ .vmem, ⟨5, _⟩ => ⟨S4x256x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwoutIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩
abbrev S8x256x1024 : Shape := ⟨3, ![8, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S8x256x1024, .f32⟩
  | .hbm, ⟨10, _⟩ => ⟨S8x256x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDwinz.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelDwinzIdeal.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwinzIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwinxbc.lean ====
abbrev S4096x1024 : Shape := ⟨2, ![4096, 1024]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelDwinxbcIdeal.lean ====
abbrev S4096x1024 : Shape := ⟨2, ![4096, 1024]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwinxbcIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwindt.lean ====
abbrev S4096x1024 : Shape := ⟨2, ![4096, 1024]⟩
abbrev S4096x128 : Shape := ⟨2, ![4096, 128]⟩
abbrev S1024x128 : Shape := ⟨2, ![1024, 128]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S1024x128, .f32⟩
  | .local _ .vmem, ⟨0, _⟩ => ⟨S4096x1024, .bf16⟩
  | .local _ .vmem, ⟨1, _⟩ => ⟨S4096x128, .bf16⟩
  | .local _ .vmem, ⟨2, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== ReferenceDwindtIdeal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S4096x128, .f32⟩
  | .hbm, ⟨7, _⟩ => ⟨S128x1024, .f32⟩
  | .hbm, ⟨8, _⟩ => ⟨S1024x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDuz.lean ====
abbrev S4096x2048 : Shape := ⟨2, ![4096, 2048]⟩
abbrev S1024x6176 : Shape := ⟨2, ![1024, 6176]⟩
abbrev S1024x8x772 : Shape := ⟨3, ![1024, 8, 772]⟩
abbrev S8x1024x772 : Shape := ⟨3, ![8, 1024, 772]⟩
abbrev S1024x2048 : Shape := ⟨2, ![1024, 2048]⟩
abbrev S1024x4096 : Shape := ⟨2, ![1024, 4096]⟩
abbrev S1024x32 : Shape := ⟨2, ![1024, 32]⟩
abbrev S_ : Shape := ⟨0, ![]⟩
abbrev S1024x128 : Shape := ⟨2, ![1024, 128]⟩
abbrev S4096x1024 : Shape := ⟨2, ![4096, 1024]⟩
abbrev S512x2048 : Shape := ⟨2, ![512, 2048]⟩
abbrev S1024x512 : Shape := ⟨2, ![1024, 512]⟩

abbrev nBuf : Space → Nat
  | .hbm => 14
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1024x6176, .f32⟩
  | .hbm, ⟨2, _⟩ => ⟨S1024x6176, .bf16⟩
  | .hbm, ⟨3, _⟩ => ⟨S1024x8x772, .bf16⟩
  | .hbm, ⟨4, _⟩ => ⟨S8x1024x772, .bf16⟩
  | .hbm, ⟨5, _⟩ => ⟨S1024x8x772, .bf16⟩
  | .hbm, ⟨6, _⟩ => ⟨S1024x6176, .bf16⟩
  | .hbm, ⟨7, _⟩ => ⟨S1024x2048, .bf16⟩
  | .hbm, ⟨8, _⟩ => ⟨S1024x4096, .bf16⟩
  | .hbm, ⟨9, _⟩ => ⟨S1024x32, .bf16⟩
  | .hbm, ⟨10, _⟩ => ⟨S_, .i32⟩
  | .hbm, ⟨11, _⟩ => ⟨S_, .bf16⟩
  | .hbm, ⟨12, _⟩ => ⟨S1024x128, .bf16⟩
  | .hbm, ⟨13, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDuzIdeal.lean ====
abbrev S4096x2048 : Shape := ⟨2, ![4096, 2048]⟩
abbrev S1024x6176 : Shape := ⟨2, ![1024, 6176]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x6176, .f32⟩
  | .hbm, ⟨2, _⟩ => ⟨S1024x2048, .f32⟩
  | .hbm, ⟨3, _⟩ => ⟨S_, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDuxbc.lean ====
abbrev S4096x4096 : Shape := ⟨2, ![4096, 4096]⟩
abbrev S1024x6176 : Shape := ⟨2, ![1024, 6176]⟩
abbrev S4096x1024 : Shape := ⟨2, ![4096, 1024]⟩
abbrev S1024x8x772 : Shape := ⟨3, ![1024, 8, 772]⟩
abbrev S8x1024x772 : Shape := ⟨3, ![8, 1024, 772]⟩
abbrev S1024x2048 : Shape := ⟨2, ![1024, 2048]⟩
abbrev S1024x4096 : Shape := ⟨2, ![1024, 4096]⟩
abbrev S1024x32 : Shape := ⟨2, ![1024, 32]⟩
abbrev S_ : Shape := ⟨0, ![]⟩
abbrev S1024x128 : Shape := ⟨2, ![1024, 128]⟩
abbrev S512x4096 : Shape := ⟨2, ![512, 4096]⟩
abbrev S1024x512 : Shape := ⟨2, ![1024, 512]⟩

abbrev nBuf : Space → Nat
  | .hbm => 15
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S1024x6176, .f32⟩
  | .hbm, ⟨2, _⟩ => ⟨S4096x1024, .f32⟩
  | .hbm, ⟨3, _⟩ => ⟨S1024x6176, .bf16⟩
  | .hbm, ⟨4, _⟩ => ⟨S1024x8x772, .bf16⟩
  | .hbm, ⟨5, _⟩ => ⟨S8x1024x772, .bf16⟩
  | .hbm, ⟨6, _⟩ => ⟨S1024x8x772, .bf16⟩
  | .hbm, ⟨7, _⟩ => ⟨S1024x6176, .bf16⟩
  | .hbm, ⟨8, _⟩ => ⟨S1024x2048, .bf16⟩
  | .hbm, ⟨9, _⟩ => ⟨S1024x4096, .bf16⟩
  | .hbm, ⟨10, _⟩ => ⟨S1024x32, .bf16⟩
  | .hbm, ⟨11, _⟩ => ⟨S_, .i32⟩
  | .hbm, ⟨12, _⟩ => ⟨S_, .bf16⟩
  | .hbm, ⟨13, _⟩ => ⟨S1024x128, .bf16⟩
  | .hbm, ⟨14, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDuxbcIdeal.lean ====
abbrev S4096x4096 : Shape := ⟨2, ![4096, 4096]⟩
abbrev S1024x6176 : Shape := ⟨2, ![1024, 6176]⟩
abbrev S4096x1024 : Shape := ⟨2, ![4096, 1024]⟩
abbrev S1024x4096 : Shape := ⟨2, ![1024, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x6176, .f32⟩
  | .hbm, ⟨2, _⟩ => ⟨S4096x1024, .f32⟩
  | .hbm, ⟨3, _⟩ => ⟨S1024x4096, .f32⟩
  | .hbm, ⟨4, _⟩ => ⟨S_, .f32⟩
  | .hbm, ⟨5, _⟩ => ⟨S4096x1024, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelDudt.lean ====
abbrev S4096x128 : Shape := ⟨2, ![4096, 128]⟩
abbrev S1024x6176 : Shape := ⟨2, ![1024, 6176]⟩
abbrev S4096x1024 : Shape := ⟨2, ![4096, 1024]⟩
abbrev S1024x8x772 : Shape := ⟨3, ![1024, 8, 772]⟩
abbrev S8x1024x772 : Shape := ⟨3, ![8, 1024, 772]⟩
abbrev S1024x2048 : Shape := ⟨2, ![1024, 2048]⟩
abbrev S1024x4096 : Shape := ⟨2, ![1024, 4096]⟩
abbrev S1024x32 : Shape := ⟨2, ![1024, 32]⟩
abbrev S_ : Shape := ⟨0, ![]⟩
abbrev S1024x128 : Shape := ⟨2, ![1024, 128]⟩
abbrev S512x128 : Shape := ⟨2, ![512, 128]⟩
abbrev S1024x512 : Shape := ⟨2, ![1024, 512]⟩

abbrev nBuf : Space → Nat
  | .hbm => 15
  | .vmem => 8
  | .smem => 0
  | _ => 0

abbrev bufTy : (tb : Table) → Fin (tcTables nBuf tb) → BufTy
  | .hbm, ⟨0, _⟩ => ⟨S4096x128, .bf16⟩
  | .hbm, ⟨1, _⟩ => ⟨S1024x6176, .f32⟩
  | .hbm, ⟨2, _⟩ => ⟨S4096x1024, .f32⟩
  | .hbm, ⟨3, _⟩ => ⟨S1024x6176, .bf16⟩
  | .hbm, ⟨4, _⟩ => ⟨S1024x8x772, .bf16⟩
  | .hbm, ⟨5, _⟩ => ⟨S8x1024x772, .bf16⟩
  | .hbm, ⟨6, _⟩ => ⟨S1024x8x772, .bf16⟩
  | .hbm, ⟨7, _⟩ => ⟨S1024x6176, .bf16⟩
  | .hbm, ⟨8, _⟩ => ⟨S1024x2048, .bf16⟩
  | .hbm, ⟨9, _⟩ => ⟨S1024x4096, .bf16⟩
  | .hbm, ⟨10, _⟩ => ⟨S1024x32, .bf16⟩
  | .hbm, ⟨11, _⟩ => ⟨S_, .i32⟩
  | .hbm, ⟨12, _⟩ => ⟨S_, .bf16⟩
  | .hbm, ⟨13, _⟩ => ⟨S1024x128, .bf16⟩
  | .hbm, ⟨14, _⟩ => ⟨S4096x1024, .f32⟩
  | .local _ .vmem, ⟨0, _⟩ => ⟨S1024x128, .bf16⟩
  | .local _ .vmem, ⟨1, _⟩ => ⟨S1024x128, .bf16⟩
  | .local _ .vmem, ⟨2, _⟩ => ⟨S512x128, .bf16⟩
  | .local _ .vmem, ⟨3, _⟩ => ⟨S512x128, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDudtIdeal.lean ====
abbrev S4096x128 : Shape := ⟨2, ![4096, 128]⟩
abbrev S1024x6176 : Shape := ⟨2, ![1024, 6176]⟩
abbrev S4096x1024 : Shape := ⟨2, ![4096, 1024]⟩
abbrev S4096x32 : Shape := ⟨2, ![4096, 32]⟩
abbrev S1024x32 : Shape := ⟨2, ![1024, 32]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S1024x6176, .f32⟩
  | .hbm, ⟨2, _⟩ => ⟨S4096x1024, .f32⟩
  | .hbm, ⟨3, _⟩ => ⟨S4096x32, .bf16⟩
  | .hbm, ⟨4, _⟩ => ⟨S1024x32, .f32⟩
  | .hbm, ⟨5, _⟩ => ⟨S_, .f32⟩
  | .hbm, ⟨6, _⟩ => ⟨S4096x1024, .f32⟩
  | .hbm, ⟨7, _⟩ => ⟨S4096x32, .f32⟩
  | .hbm, ⟨8, _⟩ => ⟨S4096x32, .f32⟩
  | .hbm, ⟨9, _⟩ => ⟨S4096x1024, .f32⟩
  | .hbm, ⟨10, _⟩ => ⟨S4096x1024, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelPleBwd.lean ====
abbrev S4096x1024 : Shape := ⟨2, ![4096, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferencePleBwdIdeal.lean ====
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x1024, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelGluBwd.lean ====
abbrev S4096x1024 : Shape := ⟨2, ![4096, 1024]⟩
abbrev S4096x2048 : Shape := ⟨2, ![4096, 2048]⟩
abbrev S1x1024 : Shape := ⟨2, ![1, 1024]⟩
abbrev S512x1024 : Shape := ⟨2, ![512, 1024]⟩
abbrev S1024 : Shape := ⟨1, ![1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x1024, .bf16⟩
  | .hbm, ⟨4, _⟩ => ⟨S1x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceGluBwdIdeal.lean ====
abbrev S4096x1024 : Shape := ⟨2, ![4096, 1024]⟩
abbrev S4096x2048 : Shape := ⟨2, ![4096, 2048]⟩
abbrev S_ : Shape := ⟨0, ![]⟩
abbrev S1024 : Shape := ⟨1, ![1024]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x1024, .bf16⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S_, .f32⟩
  | .hbm, ⟨26, _⟩ => ⟨S1024, .f32⟩
  | .hbm, ⟨27, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== KernelDxs.lean ====
abbrev S4096x2048 : Shape := ⟨2, ![4096, 2048]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceDxsIdeal.lean ====
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelRms.lean ====
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceRmsIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelGlu.lean ====
abbrev S4096x2048 : Shape := ⟨2, ![4096, 2048]⟩
abbrev S4096x1024 : Shape := ⟨2, ![4096, 1024]⟩
abbrev S1024x1024 : Shape := ⟨2, ![1024, 1024]⟩

abbrev nBuf : Space → Nat
  | .hbm => 2
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceGluIdeal.lean ====
abbrev S4096x2048 : Shape := ⟨2, ![4096, 2048]⟩
abbrev S4096x1024 : Shape := ⟨2, ![4096, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelLn.lean ====
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceLnIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== KernelGnorm.lean ====
abbrev S4096x2048 : Shape := ⟨2, ![4096, 2048]⟩
abbrev S4096x4096 : Shape := ⟨2, ![4096, 4096]⟩
abbrev S32 : Shape := ⟨1, ![32]⟩
abbrev S2048 : Shape := ⟨1, ![2048]⟩
abbrev S32x64 : Shape := ⟨2, ![32, 64]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x2048, .f32⟩
  | .hbm, ⟨3, _⟩ => ⟨S32, .f32⟩
  | .hbm, ⟨4, _⟩ => ⟨S2048, .f32⟩
  | .hbm, ⟨5, _⟩ => ⟨S32x64, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceGnormIdeal.lean ====
abbrev S4096x2048 : Shape := ⟨2, ![4096, 2048]⟩
abbrev S4096x4096 : Shape := ⟨2, ![4096, 4096]⟩
abbrev S32 : Shape := ⟨1, ![32]⟩
abbrev S2048 : Shape := ⟨1, ![2048]⟩
abbrev S4096x32x64 : Shape := ⟨3, ![4096, 32, 64]⟩
abbrev S32x1 : Shape := ⟨2, ![32, 1]⟩
abbrev S1x32x1 : Shape := ⟨3, ![1, 32, 1]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x2048, .f32⟩
  | .hbm, ⟨3, _⟩ => ⟨S32, .f32⟩
  | .hbm, ⟨4, _⟩ => ⟨S2048, .f32⟩
  | .hbm, ⟨5, _⟩ => ⟨S4096x2048, .f32⟩
  | .hbm, ⟨6, _⟩ => ⟨S4096x32x64, .f32⟩
  | .hbm, ⟨7, _⟩ => ⟨S32x1, .f32⟩
  | .hbm, ⟨8, _⟩ => ⟨S1x32x1, .f32⟩
  | .hbm, ⟨9, _⟩ => ⟨S4096x32x64, .f32⟩
  | .hbm, ⟨10, _⟩ => ⟨S4096x32x64, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== KernelLoss.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceLossIdeal.lean ====
abbrev S4096x1024 : Shape := ⟨2, ![4096, 1024]⟩
abbrev S_ : Shape := ⟨0, ![]⟩
abbrev S4096 : Shape := ⟨1, ![4096]⟩
abbrev S1024 : Shape := ⟨1, ![1024]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== KernelAdamw.lean ====
abbrev S4x1024x512 : Shape := ⟨3, ![4, 1024, 512]⟩
abbrev S4096x512 : Shape := ⟨2, ![4096, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamwIdeal.lean ====
abbrev S4x1024x512 : Shape := ⟨3, ![4, 1024, 512]⟩
abbrev S_ : Shape := ⟨0, ![]⟩
abbrev S4096x512 : Shape := ⟨2, ![4096, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S_, .f32⟩
  | .hbm, ⟨5, _⟩ => ⟨S4x1024x512, .f32⟩
  | .hbm, ⟨6, _⟩ => ⟨S4x1024x512, .f32⟩
  | .hbm, ⟨7, _⟩ => ⟨S_, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S_, .f32⟩
  | .hbm, ⟨12, _⟩ => ⟨S4x1024x512, .f32⟩
  | .hbm, ⟨13, _⟩ => ⟨S4x1024x512, .f32⟩
  | .hbm, ⟨14, _⟩ => ⟨S4x1024x512, .f32⟩
  | .hbm, ⟨15, _⟩ => ⟨S_, .f32⟩
  | .hbm, ⟨16, _⟩ => ⟨S4x1024x512, .f32⟩
  | .hbm, ⟨17, _⟩ => ⟨S4x1024x512, .f32⟩
  | .hbm, ⟨18, _⟩ => ⟨S4x1024x512, .f32⟩
  | .hbm, ⟨19, _⟩ => ⟨S_, .f32⟩
  | .hbm, ⟨20, _⟩ => ⟨S4x1024x512, .f32⟩
  | .hbm, ⟨21, _⟩ => ⟨S4x1024x512, .f32⟩
  | .hbm, ⟨22, _⟩ => ⟨S_, .f32⟩
  | .hbm, ⟨23, _⟩ => ⟨S4x1024x512, .f32⟩
  | .hbm, ⟨24, _⟩ => ⟨S4x1024x512, .f32⟩
  | .hbm, ⟨25, _⟩ => ⟨S4x1024x512, .f32⟩
  | .hbm, ⟨26, _⟩ => ⟨S_, .f32⟩
  | .hbm, ⟨27, _⟩ => ⟨S4x1024x512, .f32⟩
  | .hbm, ⟨28, _⟩ => ⟨S4x1024x512, .f32⟩
  | .hbm, ⟨29, _⟩ => ⟨S4x1024x512, .f32⟩
  | .hbm, ⟨30, _⟩ => ⟨S_, .f32⟩
  | .hbm, ⟨31, _⟩ => ⟨S4x1024x512, .f32⟩
  | .hbm, ⟨32, _⟩ => ⟨S4x1024x512, .f32⟩
  | .hbm, ⟨33, _⟩ => ⟨S4x1024x512, .f32⟩
  | .hbm, ⟨34, _⟩ => ⟨S_, .f32⟩
  | .hbm, ⟨35, _⟩ => ⟨S4x1024x512, .f32⟩
  | .hbm, ⟨36, _⟩ => ⟨S4x1024x512, .f32⟩
  | .hbm, ⟨37, _⟩ => ⟨S4096x512, .f32⟩
  | .hbm, ⟨38, _⟩ => ⟨S4096x512, .f32⟩
  | .hbm, ⟨39, _⟩ => ⟨S4096x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KernelRmsBwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceRmsBwdIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | .hbm, ⟨51, _⟩ => ⟨S1x1024, .f32⟩
  | .hbm, ⟨52, _⟩ => ⟨S_, .f32⟩
  | .hbm, ⟨53, _⟩ => ⟨S1024, .f32⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== KernelSiluBwd.lean ====
abbrev S4096x4096 : Shape := ⟨2, ![4096, 4096]⟩
abbrev S256x4096 : Shape := ⟨2, ![256, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceSiluBwdIdeal.lean ====
abbrev S4096x4096 : Shape := ⟨2, ![4096, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_v1 : Ref sig .tc := ⟨.hbm, 18, rfl⟩

abbrev nD : Nat := 1
abbrev τ : Topo := Topo.v7x

variable {F : FTy → Type} [FloatOps F]
-- ==== KernelLnBwd.lean ====
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceLnBwdIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S1x1024, .f32⟩
  | .hbm, ⟨102, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v29_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v29_1 : Ref sig .tc := ⟨.hbm, 51, rfl⟩
abbrev main_v29_0 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_9 : Ref sig .tc := ⟨.hbm, 68, rfl⟩
abbrev main_v39 : Ref sig .tc := ⟨.hbm, 69, rfl⟩
abbrev main_v40 : Ref sig .tc := ⟨.hbm, 70, rfl⟩
abbrev main_cst_10 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_cst_12 : Ref sig .tc := ⟨.hbm, 81, rfl⟩
abbrev main_v49 : Ref sig .tc := ⟨.hbm, 82, rfl⟩
abbrev main_v50 : Ref sig .tc := ⟨.hbm, 83, rfl⟩
abbrev main_cst_13 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_14 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_15 : Ref sig .tc := ⟨.hbm, 94, rfl⟩
abbrev main_v59 : Ref sig .tc := ⟨.hbm, 95, rfl⟩
abbrev main_v60 : Ref sig .tc := ⟨.hbm, 96, rfl⟩
abbrev main_cst_16 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩

abbrev nD : Nat := 1
abbrev τ : Topo := Topo.v7x

variable {F : FTy → Type} [FloatOps F]
-- ==== KernelGnormBwd.lean ====
abbrev S4096x2048 : Shape := ⟨2, ![4096, 2048]⟩
abbrev S4096x4096 : Shape := ⟨2, ![4096, 4096]⟩
abbrev S32 : Shape := ⟨1, ![32]⟩
abbrev S2048 : Shape := ⟨1, ![2048]⟩
abbrev S32x64 : Shape := ⟨2, ![32, 64]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 15
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .hbm, ⟨3, _⟩ => ⟨S4096x2048, .f32⟩
  | .hbm, ⟨4, _⟩ => ⟨S32, .f32⟩
  | .hbm, ⟨5, _⟩ => ⟨S2048, .f32⟩
  | .hbm, ⟨6, _⟩ => ⟨S32x64, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S4096x2048, .f32⟩
  | .hbm, ⟨11, _⟩ => ⟨S4096x2048, .bf16⟩
  | .hbm, ⟨12, _⟩ => ⟨S4096x2048, .f32⟩
  | .hbm, ⟨13, _⟩ => ⟨S1x2048, .f32⟩
  | .hbm, ⟨14, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | .local _ .vmem, ⟨9, _⟩ => ⟨S1x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .bf16⟩
  | .local _ .vmem, ⟨13, _⟩ => ⟨S128x2048, .bf16⟩
  | .local _ .vmem, ⟨14, _⟩ => ⟨S128x2048, .f32⟩
  | .local _ .vmem, ⟨15, _⟩ => ⟨S128x2048, .f32⟩
  | .local _ .vmem, ⟨16, _⟩ => ⟨S1x2048, .f32⟩
  | .local _ .vmem, ⟨17, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceGnormBwdIdeal.lean ====
abbrev S4096x2048 : Shape := ⟨2, ![4096, 2048]⟩
abbrev S4096x4096 : Shape := ⟨2, ![4096, 4096]⟩
abbrev S32 : Shape := ⟨1, ![32]⟩
abbrev S2048 : Shape := ⟨1, ![2048]⟩
abbrev S32x1 : Shape := ⟨2, ![32, 1]⟩
abbrev S32x64 : Shape := ⟨2, ![32, 64]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 90
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .hbm, ⟨3, _⟩ => ⟨S4096x2048, .f32⟩
  | .hbm, ⟨4, _⟩ => ⟨S32, .f32⟩
  | .hbm, ⟨5, _⟩ => ⟨S2048, .f32⟩
  | .hbm, ⟨6, _⟩ => ⟨S32x1, .f32⟩
  | .hbm, ⟨7, _⟩ => ⟨S32x64, .f32⟩
  | .hbm, ⟨8, _⟩ => ⟨S2048, .f32⟩
  | .hbm, ⟨9, _⟩ => ⟨S4096x2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x2048, .f32⟩
  | .hbm, ⟨44, _⟩ => ⟨S4096x2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S2048, .f32⟩
  | .hbm, ⟨56, _⟩ => ⟨S4096x2048, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x2048, .f32⟩
  | .hbm, ⟨61, _⟩ => ⟨S4096x2048, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S_, .f32⟩
  | .hbm, ⟨81, _⟩ => ⟨S2048, .f32⟩
  | .hbm, ⟨82, _⟩ => ⟨S1x2048, .f32⟩
  | .hbm, ⟨83, _⟩ => ⟨S4096x2048, .f32⟩
  | .hbm, ⟨84, _⟩ => ⟨S4096x2048, .f32⟩
  | .hbm, ⟨85, _⟩ => ⟨S_, .f32⟩
  | .hbm, ⟨86, _⟩ => ⟨S2048, .f32⟩
  | .hbm, ⟨87, _⟩ => ⟨S4096x2048, .bf16⟩
  | .hbm, ⟨88, _⟩ => ⟨S1x2048, .f32⟩
  | .hbm, ⟨89, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v8_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v8_1 : Ref sig .tc := ⟨.hbm, 25, rfl⟩
abbrev main_v8_0 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_cst_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩

abbrev nD : Nat := 1
abbrev τ : Topo := Topo.v7x

variable {F : FTy → Type} [FloatOps F]
-- ==== Proof.Attn.Lift.lean ====
/- Extended-real arithmetic on real values: sums, products, quotients, exponentials and maxima of coerced reals are
   coerced reals, and the f32 constants of the attention backward pass. -/
module

public import Idealize.ShloMosaic.Lib.Pointwise

@[expose] public section

noncomputable section

namespace Attn

open Idealize.ShloMosaic

/-- A finite sum of coerced reals is the coerced sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_mul (a b : ℝ) : (a : EReal) * (b : EReal) = ((a * b : ℝ) : EReal) := (EReal.coe_mul a b).symm
theorem coe_add (a b : ℝ) : (a : EReal) + (b : EReal) = ((a + b : ℝ) : EReal) := (EReal.coe_add a b).symm
theorem coe_sub (a b : ℝ) : (a : EReal) - (b : EReal) = ((a - b : ℝ) : EReal) := (EReal.coe_sub a b).symm
theorem coe_neg (a : ℝ) : -(a : EReal) = ((-a : ℝ) : EReal) := (EReal.coe_neg a).symm
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- A quotient by a nonzero real. -/
theorem div_coe (a : ℝ) {b : ℝ} (h : b ≠ 0) : Ideal.div (a : EReal) (b : EReal) = ((a / b : ℝ) : EReal) := by
  rw [Ideal.div_coe h, ← EReal.coe_mul, mul_one_div]

/-- The reciprocal square root of a positive real. -/
theorem rsqrt_coe {a : ℝ} (h : 0 < a) : Ideal.rsqrt (a : EReal) = (((Real.sqrt a)⁻¹ : ℝ) : EReal) := by
  rw [Ideal.rsqrt_coe, if_neg (not_lt.2 h.le), if_neg h.ne']

theorem exp_coe (a : ℝ) : Ideal.exp (a : EReal) = ((Real.exp a : ℝ) : EReal) := rfl

theorem ite_coe (p : Prop) [Decidable p] (a b : ℝ) :
    (if p then (a : EReal) else (b : EReal)) = ((if p then a else b : ℝ) : EReal) := by split_ifs <;> rfl

/-- Zero as a coerced real. -/
theorem zero_coe : (0 : EReal) = ((0 : ℝ) : EReal) := rfl
theorem one_coe : (1 : EReal) = ((1 : ℝ) : EReal) := rfl

/-- The small constant under the square root. -/
def eps : ℝ := 8796093 * (2 : ℝ) ^ (-43 : ℤ)
theorem eps_pos : 0 < eps := by unfold eps; positivity

/-- The f32 value of the natural logarithm of two. -/
def ln2 : ℝ := 11629080 * (2 : ℝ) ^ (-24 : ℤ)

theorem c_eps : (Ideal.ofBits .f32 0x358637BD#32 : EReal) = ((eps : ℝ) : EReal) := by
  simp [Ideal.ofBits, Ideal.ieee, eps]
theorem c_64 : (Ideal.ofBits .f32 0x42800000#32 : EReal) = ((64 : ℝ) : EReal) := by
  simp [Ideal.ofBits, Ideal.ieee]; rw [← EReal.coe_mul]; norm_num
theorem c_8th : (Ideal.ofBits .f32 0x3E000000#32 : EReal) = ((1 / 8 : ℝ) : EReal) := by
  simp [Ideal.ofBits, Ideal.ieee]; rw [← EReal.coe_mul]; norm_num
theorem c_half : (Ideal.ofBits .f32 0x3F000000#32 : EReal) = ((1 / 2 : ℝ) : EReal) := by
  simp [Ideal.ofBits, Ideal.ieee]; rw [← EReal.coe_mul]; norm_num
theorem c_nhalf : (Ideal.ofBits .f32 0xBF000000#32 : EReal) = ((-(1 / 2) : ℝ) : EReal) := by
  simp [Ideal.ofBits, Ideal.ieee]; rw [← EReal.coe_mul]; norm_num
theorem c_n8 : (Ideal.ofBits .f32 0xC1000000#32 : EReal) = ((-8 : ℝ) : EReal) := by
  simp [Ideal.ofBits, Ideal.ieee]; rw [← EReal.coe_mul]; norm_num
theorem c_16 : (Ideal.ofBits .f32 0x41800000#32 : EReal) = ((16 : ℝ) : EReal) := by
  simp [Ideal.ofBits, Ideal.ieee]; rw [← EReal.coe_mul]; norm_num
theorem c_ln2 : (Ideal.ofBits .f32 0x3F317218#32 : EReal) = ((ln2 : ℝ) : EReal) := by
  simp [Ideal.ofBits, Ideal.ieee, ln2]
theorem c_step : (Ideal.ofBits .f32 0xBEB17218#32 : EReal) = ((-(ln2 / 2) : ℝ) : EReal) := by
  simp [Ideal.ofBits, Ideal.ieee, ln2]; rw [← EReal.coe_mul]; norm_num
theorem c_bot : (Ideal.ofBits .f32 0xFF800000#32 : EReal) = ⊥ := by
  simp [Ideal.ofBits, Ideal.ieee]

/-- The maximum of finitely many values, each a real or minus infinity and one of them a real, is a real. -/
theorem fold_max_real {n : ℕ} (f : Fin n → EReal) (hf : ∀ j, f j ≠ ⊤) (j : Fin n) (hj : f j ≠ ⊥) :
    ∃ M : ℝ, (Finset.univ.fold max (⊥ : EReal) f) = (M : EReal) := by
  have h : Finset.univ.fold max (⊥ : EReal) f = Finset.univ.sup f := rfl
  rw [h]
  have h1 : Finset.univ.sup f ≠ ⊥ := fun e => hj (le_bot_iff.1 (e ▸ Finset.le_sup (Finset.mem_univ j)))
  have h2 : Finset.univ.sup f ≠ ⊤ := by
    refine ne_of_lt ((Finset.sup_lt_iff (bot_lt_top)).2 fun j _ => lt_top_iff_ne_top.2 (hf j))
  exact ⟨_, (EReal.coe_toReal h2 h1).symm⟩

end Attn

end
-- ==== Proof.Attn.Spec.lean ====
/- The gradient of one block of sliding-window attention over the reals: a block of 128 query rows of the four heads
   of a group, and the 256 key and value rows of the block and of the block before it. -/
module

public import proofs.«01_k».proof.Proof.Attn.Lift

@[expose] public section

noncomputable section

namespace Attn

open Finset

/-- The data of one block: queries, keys, values, the cotangent of the output, the two norm gains, the sink logits, the
    slopes, and which key a query may see. -/
structure Blk where
  q : Fin 4 → Fin 128 → Fin 64 → ℝ
  k : Fin 256 → Fin 64 → ℝ
  v : Fin 256 → Fin 64 → ℝ
  o : Fin 4 → Fin 128 → Fin 64 → ℝ
  gq : Fin 64 → ℝ
  gk : Fin 64 → ℝ
  sk : Fin 4 → ℝ
  sl : Fin 4 → ℝ
  ok : Fin 128 → Fin 256 → Prop

namespace Blk

variable (B : Blk)

open Classical

/-- The mean square of a row plus the small constant. -/
def ms (x : Fin 64 → ℝ) : ℝ := (∑ d, x d * x d) / 64 + eps
/-- The reciprocal root mean square of a row. -/
def rs (x : Fin 64 → ℝ) : ℝ := (Real.sqrt (ms x))⁻¹

theorem ms_pos (x : Fin 64 → ℝ) : 0 < ms x :=
  add_pos_of_nonneg_of_pos (div_nonneg (sum_nonneg fun d _ => mul_self_nonneg _) (by norm_num)) eps_pos

/-- Normalised query and key rows, and the same times their gains. -/
def hq (g : Fin 4) (i : Fin 128) (d : Fin 64) : ℝ := B.q g i d * rs (B.q g i)
def nq (g : Fin 4) (i : Fin 128) (d : Fin 64) : ℝ := B.hq g i d * B.gq d
def hk (j : Fin 256) (d : Fin 64) : ℝ := B.k j d * rs (B.k j)
def nk (j : Fin 256) (d : Fin 64) : ℝ := B.hk j d * B.gk d

/-- How many positions a key lies before a query. -/
def dist (i : Fin 128) (j : Fin 256) : ℝ := (i : ℝ) - (j : ℝ) + 128

/-- The scores, before the mask. -/
def s (g : Fin 4) (i : Fin 128) (j : Fin 256) : ℝ := (∑ d, B.nq g i d * B.nk j d) * (1 / 8) - B.sl g * dist i j

/-- The masked scores. -/
def sm (g : Fin 4) (i : Fin 128) (j : Fin 256) : EReal := if B.ok i j then ((B.s g i j : ℝ) : EReal) else ⊥
/-- The row maximum of the masked scores, and with the sink. -/
def mr (g : Fin 4) (i : Fin 128) : ℝ := (univ.fold max (⊥ : EReal) (B.sm g i)).toReal
def m (g : Fin 4) (i : Fin 128) : ℝ := max (B.mr g i) (B.sk g)
def e (g : Fin 4) (i : Fin 128) (j : Fin 256) : ℝ := if B.ok i j then Real.exp (B.s g i j - B.m g i) else 0
def es (g : Fin 4) (i : Fin 128) : ℝ := Real.exp (B.sk g - B.m g i)
def z (g : Fin 4) (i : Fin 128) : ℝ := (∑ j, B.e g i j) + B.es g i
/-- The attention weights, and the weight of the sink. -/
def p (g : Fin 4) (i : Fin 128) (j : Fin 256) : ℝ := B.e g i j / B.z g i
def ps (g : Fin 4) (i : Fin 128) : ℝ := B.es g i / B.z g i

/-- The cotangents: of the weights, of the scaled scores, of values, normalised queries and normalised keys. -/
def dp (g : Fin 4) (i : Fin 128) (j : Fin 256) : ℝ := ∑ d, B.o g i d * B.v j d
def dl (g : Fin 4) (i : Fin 128) : ℝ := ∑ j, B.p g i j * B.dp g i j
def ds (g : Fin 4) (i : Fin 128) (j : Fin 256) : ℝ := B.p g i j * (B.dp g i j - B.dl g i) * (1 / 8)
def dv (j : Fin 256) (d : Fin 64) : ℝ := ∑ g, ∑ i, B.p g i j * B.o g i d
def dnq (g : Fin 4) (i : Fin 128) (d : Fin 64) : ℝ := ∑ j, B.ds g i j * B.nk j d
def dnk (j : Fin 256) (d : Fin 64) : ℝ := ∑ g, ∑ i, B.ds g i j * B.nq g i d
/-- The gradient of the norm of one row: `r` its reciprocal root mean square, `h` the normalised row, `t` the cotangent
    of the gained row times the gain. -/
def nb (r : ℝ) (h t : Fin 64 → ℝ) (d : Fin 64) : ℝ := r * (t d - h d * ((∑ c, t c * h c) / 64))
def dq (g : Fin 4) (i : Fin 128) (d : Fin 64) : ℝ := nb (rs (B.q g i)) (B.hq g i) (fun c => B.dnq g i c * B.gq c) d
def dk (j : Fin 256) (d : Fin 64) : ℝ := nb (rs (B.k j)) (B.hk j) (fun c => B.dnk j c * B.gk c) d
/-- The block's part of the gradients of the gains and of the sink logits. -/
def dgq (d : Fin 64) : ℝ := ∑ g, ∑ i, B.dnq g i d * B.hq g i d
def dgk (d : Fin 64) : ℝ := ∑ j, B.dnk j d * B.hk j d
def dsk (g : Fin 4) : ℝ := ∑ i, (0 - B.ps g i) * B.dl g i

theorem es_pos (g : Fin 4) (i : Fin 128) : 0 < B.es g i := Real.exp_pos _
theorem e_nonneg (g : Fin 4) (i : Fin 128) (j : Fin 256) : 0 ≤ B.e g i j := by
  unfold e; split_ifs
  · exact (Real.exp_pos _).le
  · exact le_rfl
theorem z_pos (g : Fin 4) (i : Fin 128) : 0 < B.z g i :=
  add_pos_of_nonneg_of_pos (sum_nonneg fun j _ => B.e_nonneg g i j) (B.es_pos g i)

/-- The row maximum is a real wherever a query sees a key. -/
theorem mr_coe (g : Fin 4) (i : Fin 128) (h : ∃ j, B.ok i j) :
    univ.fold max (⊥ : EReal) (B.sm g i) = ((B.mr g i : ℝ) : EReal) := by
  obtain ⟨j, hj⟩ := h
  obtain ⟨M, hM⟩ := fold_max_real (B.sm g i) (fun j => by unfold sm; split_ifs <;> simp) j (by unfold sm; simp [hj])
  rw [mr, hM, EReal.toReal_coe]

/-- Some masked score is the row maximum. -/
theorem mr_mem (g : Fin 4) (i : Fin 128) (h : ∃ j, B.ok i j) : ∃ j, B.sm g i j = ((B.mr g i : ℝ) : EReal) := by
  have h0 := B.mr_coe g i h
  have h1 : univ.fold max (⊥ : EReal) (B.sm g i) = univ.sup (B.sm g i) := rfl
  obtain ⟨j, _, hj⟩ := exists_mem_eq_sup univ ⟨(0 : Fin 256), mem_univ _⟩ (B.sm g i)
  exact ⟨j, by rw [← h0, h1, hj]⟩

/-- The exponentials from the masked scores. -/
theorem exp_sm (g : Fin 4) (i : Fin 128) (j : Fin 256) :
    Idealize.ShloMosaic.Ideal.exp (B.sm g i j - ((B.m g i : ℝ) : EReal)) = ((B.e g i j : ℝ) : EReal) := by
  unfold sm e
  split_ifs
  · rw [coe_sub, exp_coe]
  · rw [EReal.bot_sub]; rfl

/-- Two blocks that differ only in keys and values no query sees have the same gradients; those of the unseen rows are
    zero. -/
structure Agree (B C : Blk) : Prop where
  q : B.q = C.q
  o : B.o = C.o
  gq : B.gq = C.gq
  gk : B.gk = C.gk
  sk : B.sk = C.sk
  sl : B.sl = C.sl
  ok : B.ok = C.ok
  kv : ∀ j, (∃ i, B.ok i j) → B.k j = C.k j ∧ B.v j = C.v j

variable {B} {C : Blk}

theorem p_unseen {g : Fin 4} {i : Fin 128} {j : Fin 256} (h : ¬ B.ok i j) : B.p g i j = 0 := by simp [p, e, h]
theorem ds_unseen {g : Fin 4} {i : Fin 128} {j : Fin 256} (h : ¬ B.ok i j) : B.ds g i j = 0 := by simp [ds, p_unseen h]

theorem Agree.hq (h : Agree B C) : B.hq = C.hq := by unfold Blk.hq; rw [h.q]
theorem Agree.nq (h : Agree B C) : B.nq = C.nq := by unfold Blk.nq; rw [h.hq, h.gq]
theorem Agree.nk (h : Agree B C) {j : Fin 256} (hj : ∃ i, B.ok i j) : B.nk j = C.nk j := by
  funext d; unfold Blk.nk Blk.hk; rw [(h.kv j hj).1, h.gk]
theorem Agree.s (h : Agree B C) {g : Fin 4} {i : Fin 128} {j : Fin 256} (hj : B.ok i j) : B.s g i j = C.s g i j := by
  unfold Blk.s; rw [h.nq, h.nk ⟨i, hj⟩, h.sl]
theorem Agree.sm (h : Agree B C) : B.sm = C.sm := by
  funext g i j; unfold Blk.sm; rw [← h.ok]; split_ifs with hj
  · rw [h.s hj]
  · rfl
theorem Agree.m (h : Agree B C) : B.m = C.m := by funext g i; unfold Blk.m Blk.mr; rw [h.sm, h.sk]
theorem Agree.e (h : Agree B C) : B.e = C.e := by
  funext g i j; unfold Blk.e; rw [← h.ok]; split_ifs with hj
  · rw [h.s hj, h.m]
  · rfl
theorem Agree.es (h : Agree B C) : B.es = C.es := by funext g i; unfold Blk.es; rw [h.m, h.sk]
theorem Agree.z (h : Agree B C) : B.z = C.z := by funext g i; unfold Blk.z; rw [h.e, h.es]
theorem Agree.p (h : Agree B C) : B.p = C.p := by funext g i j; unfold Blk.p; rw [h.e, h.z]
theorem Agree.ps (h : Agree B C) : B.ps = C.ps := by funext g i; unfold Blk.ps; rw [h.es, h.z]
theorem Agree.dp (h : Agree B C) {g : Fin 4} {i : Fin 128} {j : Fin 256} (hj : B.ok i j) : B.dp g i j = C.dp g i j := by
  unfold Blk.dp; rw [h.o, (h.kv j ⟨i, hj⟩).2]
theorem Agree.dl (h : Agree B C) : B.dl = C.dl := by
  funext g i; unfold Blk.dl; refine sum_congr rfl fun j _ => ?_
  by_cases hj : B.ok i j
  · rw [h.dp hj, h.p]
  · rw [p_unseen hj, ← h.p, p_unseen hj, zero_mul, zero_mul]
theorem Agree.ds (h : Agree B C) : B.ds = C.ds := by
  funext g i j
  by_cases hj : B.ok i j
  · unfold Blk.ds; rw [h.dp hj, h.p, h.dl]
  · rw [ds_unseen hj, ds_unseen (by rwa [← h.ok])]
theorem Agree.dv (h : Agree B C) : B.dv = C.dv := by funext j d; unfold Blk.dv; rw [h.p, h.o]
theorem Agree.dnq (h : Agree B C) : B.dnq = C.dnq := by
  funext g i d; unfold Blk.dnq; refine sum_congr rfl fun j _ => ?_
  by_cases hj : B.ok i j
  · rw [h.ds, h.nk ⟨i, hj⟩]
  · rw [← h.ds, ds_unseen hj, zero_mul, zero_mul]
theorem Agree.dnk (h : Agree B C) : B.dnk = C.dnk := by funext j d; unfold Blk.dnk; rw [h.ds, h.nq]
theorem Agree.dq (h : Agree B C) : B.dq = C.dq := by funext g i d; unfold Blk.dq; rw [h.q, h.hq, h.dnq, h.gq]
theorem dnk_unseen {j : Fin 256} (hj : ¬ ∃ i, B.ok i j) (d : Fin 64) : B.dnk j d = 0 :=
  sum_eq_zero fun g _ => sum_eq_zero fun i _ => by rw [ds_unseen fun h => hj ⟨i, h⟩, zero_mul]
theorem dk_unseen {j : Fin 256} (hj : ¬ ∃ i, B.ok i j) (d : Fin 64) : B.dk j d = 0 := by
  simp [Blk.dk, nb, dnk_unseen hj]
theorem Agree.dk (h : Agree B C) : B.dk = C.dk := by
  funext j d
  by_cases hj : ∃ i, B.ok i j
  · unfold Blk.dk Blk.hk; rw [h.dnk, (h.kv j hj).1, h.gk]
  · rw [dk_unseen hj, dk_unseen (by rwa [← h.ok])]
theorem Agree.dgq (h : Agree B C) : B.dgq = C.dgq := by funext d; unfold Blk.dgq; rw [h.dnq, h.hq]
theorem Agree.dgk (h : Agree B C) : B.dgk = C.dgk := by
  funext d; unfold Blk.dgk; refine sum_congr rfl fun j _ => ?_
  by_cases hj : ∃ i, B.ok i j
  · unfold Blk.hk; rw [h.dnk, (h.kv j hj).1]
  · rw [← h.dnk, dnk_unseen hj, zero_mul, zero_mul]
theorem Agree.dsk (h : Agree B C) : B.dsk = C.dsk := by funext g; unfold Blk.dsk; rw [h.ps, h.dl]

end Blk

end Attn

end
-- ==== Proof.Attn.Words.lean ====
/- The index words of the attention kernel and of its reference, as integers: the distance of a key from a query, which
   keys a query sees, and the slope of a head. -/
module

public import proofs.«01_k».proof.Proof.Attn.Spec

@[expose] public section

noncomputable section

namespace Attn

open Idealize.ShloMosaic

theorem toInt_nat {n : ℕ} (h : n < 2147483648) : (BitVec.ofNat 32 n).toInt = (n : ℤ) := by
  rw [BitVec.toInt_ofNat', Int.bmod_def]; omega

theorem toInt_add {w v : BitVec 32} {a b : ℤ} (hw : w.toInt = a) (hv : v.toInt = b)
    (h : -2147483648 ≤ a + b ∧ a + b < 2147483648) : (IntOp.addi w v).toInt = a + b := by
  show (w + v).toInt = _
  rw [BitVec.toInt_add, hw, hv, Int.bmod_def]; omega

theorem toInt_sub {w v : BitVec 32} {a b : ℤ} (hw : w.toInt = a) (hv : v.toInt = b)
    (h : -2147483648 ≤ a - b ∧ a - b < 2147483648) : (IntOp.subi w v).toInt = a - b := by
  show (w - v).toInt = _
  rw [BitVec.toInt_sub, hw, hv, Int.bmod_def]; omega

theorem toInt_mul {w v : BitVec 32} {a b : ℤ} (hw : w.toInt = a) (hv : v.toInt = b)
    (h : -2147483648 ≤ a * b ∧ a * b < 2147483648) : (IntOp.muli w v).toInt = a * b := by
  show (w * v).toInt = _
  rw [BitVec.toInt_mul, hw, hv, Int.bmod_def]; omega

theorem ofBool_eq_one (b : Bool) : BitVec.ofBool b = 1 ↔ b = true := by cases b <;> decide

theorem sge_iff {w v : BitVec 32} {a b : ℤ} (hw : w.toInt = a) (hv : v.toInt = b) :
    IntOp.cmpi .sge w v = 1 ↔ b ≤ a := by
  rw [IntOp.cmpi, ofBool_eq_one, ← hw, ← hv]; simp [BitVec.sle]
theorem slt_iff {w v : BitVec 32} {a b : ℤ} (hw : w.toInt = a) (hv : v.toInt = b) :
    IntOp.cmpi .slt w v = 1 ↔ a < b := by
  rw [IntOp.cmpi, ofBool_eq_one, ← hw, ← hv]; simp [BitVec.slt]
theorem sgt_iff {w v : BitVec 32} {a b : ℤ} (hw : w.toInt = a) (hv : v.toInt = b) :
    Scalar.cmpi .sgt w v = 1 ↔ b < a := by
  rw [Scalar.cmpi, IntOp.cmpi, ofBool_eq_one, ← hw, ← hv]; simp [BitVec.slt]
theorem eq_iff {n k : ℕ} (hn : n < 4294967296) (hk : k < 4294967296) :
    IntOp.cmpi .eq (BitVec.ofNat 32 n) (BitVec.ofNat 32 k) = 1 ↔ n = k := by
  rw [IntOp.cmpi, ofBool_eq_one]
  simp only [beq_iff_eq]
  constructor
  · intro h
    have := congrArg BitVec.toNat h
    simp only [BitVec.toNat_ofNat] at this
    omega
  · rintro rfl; rfl
theorem andi_iff (w v : BitVec 1) : IntOp.andi w v = 1 ↔ w = 1 ∧ v = 1 := by
  revert w v; decide

/-- The distance word. -/
def distWord (i j : ℕ) : BitVec 32 := IntOp.addi (IntOp.subi (BitVec.ofNat 32 i) (BitVec.ofNat 32 j)) 128#32

theorem distWord_toInt {i j : ℕ} (hi : i < 128) (hj : j < 256) : (distWord i j).toInt = (i : ℤ) - j + 128 := by
  refine toInt_add (toInt_sub (toInt_nat (by omega)) (toInt_nat (by omega)) (by omega)) (by decide) (by omega)

/-- Which keys of the two blocks a query of block `n` sees: those of its own position and of the 127 before it, none
    before the first. -/
def vis (n : ℕ) (i : Fin 128) (j : Fin 256) : Prop := (j : ℕ) ≤ i + 128 ∧ (i : ℕ) < j ∧ (0 < n ∨ 128 ≤ (j : ℕ))

theorem vis_self (n : ℕ) (i : Fin 128) : ∃ j, vis n i j := ⟨⟨i + 128, by omega⟩, by simp [vis]⟩

theorem unseen_zero {j : Fin 256} (h : (j : ℕ) < 128) : ¬ ∃ i, vis 0 i j := by
  rintro ⟨i, _, _, h' | h'⟩ <;> omega

theorem band_iff {i j : ℕ} (hi : i < 128) (hj : j < 256) :
    IntOp.andi (IntOp.cmpi .sge (distWord i j) 0#32) (IntOp.cmpi .slt (distWord i j) 128#32) = 1 ↔ j ≤ i + 128 ∧ i < j := by
  rw [andi_iff, sge_iff (distWord_toInt hi hj) (by decide : (0#32).toInt = 0),
    slt_iff (distWord_toInt hi hj) (by decide : (128#32).toInt = 128)]
  omega

/-- The kernel's mask bit. -/
theorem kernel_mask {i j n : ℕ} (hi : i < 128) (hj : j < 256) (hn : n < 32) :
    IntOp.andi (IntOp.andi (IntOp.cmpi .sge (distWord i j) 0#32) (IntOp.cmpi .slt (distWord i j) 128#32))
      (IntOp.cmpi .sge (BitVec.ofNat 32 j) (Scalar.select (Scalar.cmpi .sgt (BitVec.ofNat 32 n) 0#32) 0#32 128#32)) = 1
      ↔ vis n ⟨i, hi⟩ ⟨j, hj⟩ := by
  rw [andi_iff, band_iff hi hj, Scalar.select]
  have hj' := toInt_nat (n := j) (by omega)
  have hn' := sgt_iff (toInt_nat (n := n) (by omega)) (by decide : (0#32).toInt = 0)
  unfold vis
  split_ifs with h
  · rw [sge_iff hj' (by decide : (0#32).toInt = 0)]
    have := hn'.1 h
    simp only
    omega
  · rw [sge_iff hj' (by decide : (128#32).toInt = 128)]
    have := mt hn'.2 h
    simp only
    omega

/-- The reference's mask bit. -/
theorem reference_mask {i j n : ℕ} (hi : i < 128) (hj : j < 256) (hn : n < 32) :
    IntOp.andi (IntOp.andi (IntOp.cmpi .sge (distWord i j) 0#32) (IntOp.cmpi .slt (distWord i j) 128#32))
      (IntOp.cmpi .sge (IntOp.addi (IntOp.subi (IntOp.muli (BitVec.ofNat 32 n) 128#32) 128#32) (BitVec.ofNat 32 j)) 0#32) = 1
      ↔ vis n ⟨i, hi⟩ ⟨j, hj⟩ := by
  rw [andi_iff, band_iff hi hj,
    sge_iff (toInt_add (toInt_sub (toInt_mul (toInt_nat (n := n) (by omega)) (by decide : (128#32).toInt = 128) (by omega))
      (by decide : (128#32).toInt = 128) (by omega)) (toInt_nat (n := j) (by omega)) (by omega)) (by decide : (0#32).toInt = 0)]
  unfold vis
  simp only
  omega

/-- The slope of head `h`. -/
def slope (h : ℕ) : ℝ := Real.exp (((h : ℝ) + 1) * (-(ln2 / 2)))

theorem dist_coe {i j : ℕ} (hi : i < 128) (hj : j < 256) :
    (((distWord i j).toInt : ℝ) : EReal) = ((Blk.dist ⟨i, hi⟩ ⟨j, hj⟩ : ℝ) : EReal) := by
  rw [distWord_toInt hi hj, Blk.dist]; push_cast; rfl

theorem row_word : ∀ r : Fin 512, IntOp.andi (BitVec.ofNat 32 (r : ℕ)) 127#32 = BitVec.ofNat 32 ((r : ℕ) % 128) := by
  decide +kernel
theorem head_word : ∀ r : Fin 512, IntOp.shrui ArithUnit.vector (BitVec.ofNat 32 (r : ℕ)) 7#32 = BitVec.ofNat 32 ((r : ℕ) / 128) := by
  decide +kernel

theorem kernel_slope {a g : ℕ} (ha : a < 4) (hg : g < 4) :
    (IntOp.addi (IntOp.addi (Scalar.muli (BitVec.ofNat 32 a) 4#32) (BitVec.ofNat 32 g)) 1#32).toInt = ((a * 4 + g : ℕ) : ℤ) + 1 := by
  show (IntOp.addi (IntOp.addi (IntOp.muli (BitVec.ofNat 32 a) 4#32) (BitVec.ofNat 32 g)) 1#32).toInt = _
  rw [toInt_add (toInt_add (toInt_mul (toInt_nat (n := a) (by omega)) (by decide : (4#32).toInt = 4) (by omega))
    (toInt_nat (n := g) (by omega)) (by omega)) (by decide : (1#32).toInt = 1) (by omega)]
  push_cast; ring

end Attn

end
-- ==== Proof.Attn.Pay.lean ====
/- What the body of the attention backward kernel computes at one grid point, read at an index: the real formulas of
   `Attn.Blk`. -/
module

public import proofs.«01_k».proof.Proof.Gen.KernelIdeal.Skeleton
public import proofs.«01_k».proof.Proof.Attn.Words

@[expose] public section

set_option maxRecDepth 16384

noncomputable section

namespace Attn.Pay

open Idealize.ShloMosaic Idealize.ShloMosaic.TcCoe Idealize.SL.Sem
open Cert.KernelIdeal Cert.KernelIdeal.Gen

/-- The head and the position of a row of the stacked query block. -/
abbrev hd (r : Fin 512) : Fin 4 := ⟨r / 128, by omega⟩
abbrev ps (r : Fin 512) : Fin 128 := ⟨r % 128, by omega⟩
/-- A row of the previous and of the own block within the band. -/
abbrev lo (i : Fin 128) : Fin 256 := ⟨i, by omega⟩
abbrev up (i : Fin 128) : Fin 256 := ⟨128 + i, by omega⟩

variable (B : Blk)
  (x0 : Vec Ideal S1x4x128x64 .f32) (h0 : ∀ g i d, x0 (ix4 0 g i d) = ((B.q g i d : ℝ) : EReal))
  (x1 : Vec Ideal S1x128x64 .f32) (h1 : ∀ (i : Fin 128) d, x1 (ix3 0 i d) = ((B.k (lo i) d : ℝ) : EReal))
  (x2 : Vec Ideal S1x128x64 .f32) (h2 : ∀ (i : Fin 128) d, x2 (ix3 0 i d) = ((B.k (up i) d : ℝ) : EReal))
  (x6 : Vec Ideal S1x64 .f32) (h6 : ∀ d, x6 (ix2 0 d) = ((B.gq d : ℝ) : EReal))
  (x7 : Vec Ideal S1x64 .f32) (h7 : ∀ d, x7 (ix2 0 d) = ((B.gk d : ℝ) : EReal))

include h0 in
theorem pay1 (r : Fin 512) (d : Fin 64) : k0_pay1 (F := Ideal) x0 (ix2 r d) = ((B.q (hd r) (ps r) d : ℝ) : EReal) := by
  pointwise [k0_pay1]
  rw [← h0]

include h0 in
theorem pay3 (r : Fin 512) : k0_pay3 (F := Ideal) x0 (ix2 r 0) = ((Blk.rs (B.q (hd r) (ps r)) : ℝ) : EReal) := by
  pointwise [k0_pay3]
  simp only [pay1 B x0 h0, coe_mul, coe_sum, c_64, c_eps, div_coe _ (by norm_num : (64 : ℝ) ≠ 0), coe_add]
  exact rsqrt_coe (Blk.ms_pos _)

include h0 in
theorem pay4 (r : Fin 512) (d : Fin 64) : k0_pay4 (F := Ideal) x0 (ix2 r d) = ((B.hq (hd r) (ps r) d : ℝ) : EReal) := by
  pointwise [k0_pay4]
  simp only [pay1 B x0 h0, pay3 B x0 h0, coe_mul, Blk.hq]

include h0 h6 in
theorem pay5 (r : Fin 512) (d : Fin 64) : k0_pay5 (F := Ideal) x0 x6 (ix2 r d) = ((B.nq (hd r) (ps r) d : ℝ) : EReal) := by
  pointwise [k0_pay5]
  simp only [pay4 B x0 h0, h6, coe_mul, Blk.nq]

include h0 h6 in
theorem pay9 (r : Fin 512) (d : Fin 64) : k0_pay9 (F := Ideal) x0 x6 (ix2 r d) = ((B.nq (hd r) (ps r) d : ℝ) : EReal) := by
  pointwise [k0_pay9]
  exact pay5 B x0 h0 x6 h6 r d

include h1 h2 in
theorem pay2 (j : Fin 256) (d : Fin 64) : k0_pay2 (F := Ideal) x1 x2 (ix2 j d) = ((B.k j d : ℝ) : EReal) := by
  pointwise [k0_pay2]
  by_cases h : (j : ℕ) < 128
  · rw [dif_pos h]
    exact h1 ⟨j, h⟩ d
  · rw [dif_neg h]
    refine (h2 ⟨(j : ℕ) - 128, by omega⟩ d).trans ?_
    refine congrArg (fun x : ℝ => (x : EReal)) ?_
    exact congrArg (fun j => B.k j d) (Fin.ext (by show 128 + ((j : ℕ) - 128) = j; omega))

include h1 h2 in
theorem pay6 (j : Fin 256) : k0_pay6 (F := Ideal) x1 x2 (ix2 j 0) = ((Blk.rs (B.k j) : ℝ) : EReal) := by
  pointwise [k0_pay6]
  simp only [pay2 B x1 h1 x2 h2, coe_mul, coe_sum, c_64, c_eps, div_coe _ (by norm_num : (64 : ℝ) ≠ 0), coe_add]
  exact rsqrt_coe (Blk.ms_pos _)

include h1 h2 in
theorem pay7 (j : Fin 256) (d : Fin 64) : k0_pay7 (F := Ideal) x1 x2 (ix2 j d) = ((B.hk j d : ℝ) : EReal) := by
  pointwise [k0_pay7]
  simp only [pay2 B x1 h1 x2 h2, pay6 B x1 h1 x2 h2, coe_mul, Blk.hk]

include h1 h2 h7 in
theorem pay8 (j : Fin 256) (d : Fin 64) : k0_pay8 (F := Ideal) x1 x2 x7 (ix2 j d) = ((B.nk j d : ℝ) : EReal) := by
  pointwise [k0_pay8]
  simp only [pay7 B x1 h1 x2 h2, h7, coe_mul, Blk.nk]

include h1 h2 h7 in
theorem pay10 (j : Fin 256) (d : Fin 64) : k0_pay10 (F := Ideal) x1 x2 x7 (ix2 j d) = ((B.nk j d : ℝ) : EReal) := by
  pointwise [k0_pay10]
  exact pay8 B x1 h1 x2 h2 x7 h7 j d

open Classical in
/-- The scores under the mask, at grid point `(a, n)`. -/
theorem pay12 (a : Fin 4) (n : Fin 32) (hok : B.ok = vis n) (hsl : ∀ g : Fin 4, B.sl g = slope (a * 4 + g))
    (v36 : FVec Ideal S512x64 .bf16) (h36 : ∀ r d, v36 (ix2 r d) = ((B.nq (hd r) (ps r) d : ℝ) : EReal))
    (v37 : FVec Ideal S256x64 .bf16) (h37 : ∀ j d, v37 (ix2 j d) = ((B.nk j d : ℝ) : EReal))
    (r : Fin 512) (j : Fin 256) :
    k0_pay12 (F := Ideal) (BitVec.ofNat 32 a) (BitVec.ofNat 32 n) v36 v37 (ix2 r j) = B.sm (hd r) (ps r) j := by
  pointwise [k0_pay12, k0_pay11]
  have hc : (Named.named (F := Ideal) κ "mask" (φ := .f32) 4048155338#32 : EReal) = ⊥ :=
    IdealRules.named_const.ideal_named_scalar κ "mask" _ _ rfl
  rw [row_word r, head_word r, hc]
  have hi : (r : ℕ) % 128 < 128 := Nat.mod_lt _ (by norm_num)
  have hg : (r : ℕ) / 128 < 4 := by omega
  have hmask := kernel_mask hi j.isLt n.isLt
  have hdist := dist_coe hi j.isLt
  have hslope := kernel_slope a.isLt hg
  unfold distWord at hmask hdist
  have hsl' := hsl (hd r)
  simp only [Scalar.select, hmask] at hmask ⊢
  have e1 : ∀ b : BitVec 32, (FloatOps.sitofp (F := Ideal) FTy.f32 b : EReal) = ((b.toInt : ℝ) : EReal) := fun _ => rfl
  rw [e1, e1, hdist, hslope, c_8th, c_step]
  unfold Blk.sm
  rw [hok]
  refine if_congr hmask ?_ rfl
  simp only [h36, h37, coe_mul, coe_sum, exp_coe, coe_sub]
  refine congrArg (fun x : ℝ => (x : EReal)) ?_
  rw [Blk.s, hsl', slope]
  push_cast
  rfl

/-! ### The weights -/

section Probs

variable (hv : ∀ i, ∃ j, B.ok i j)
  (v77 : FVec Ideal S512x256 .f32) (h77 : ∀ r j, v77 (ix2 r j) = B.sm (hd r) (ps r) j)
  (s0 s1 s2 s3 : Elt Ideal .f32) (hs0 : s0 = ((B.sk 0 : ℝ) : EReal)) (hs1 : s1 = ((B.sk 1 : ℝ) : EReal))
  (hs2 : s2 = ((B.sk 2 : ℝ) : EReal)) (hs3 : s3 = ((B.sk 3 : ℝ) : EReal))

include hs0 hs1 hs2 hs3 in
/-- The sink logit of each row's head. -/
theorem pay15 (r : Fin 512) :
    k0_pay15 (F := Ideal) k0_pay11 k0_pay13 k0_pay14 s0 s1 s2 s3 (ix2 r 0) = ((B.sk (hd r) : ℝ) : EReal) := by
  pointwise [k0_pay15, k0_pay11, k0_pay13, k0_pay14]
  rw [head_word r]
  have hg : (r : ℕ) / 128 < 4 := by omega
  simp only [Scalar.select]
  have e := fun k hk => eq_iff (n := (r : ℕ) / 128) (k := k) (by omega) hk
  have e0 := e 0 (by norm_num); have e1 := e 1 (by norm_num); have e2 := e 2 (by norm_num); have e3 := e 3 (by norm_num)
  simp only [e0, e1, e2, e3, hs0, hs1, hs2, hs3]
  split_ifs with k3 k2 k1 k0
  · rw [show hd r = 3 from Fin.ext k3]
  · rw [show hd r = 2 from Fin.ext k2]
  · rw [show hd r = 1 from Fin.ext k1]
  · rw [show hd r = 0 from Fin.ext k0]
  · omega

include hv h77 hs0 hs1 hs2 hs3 in
theorem pay16 (r : Fin 512) :
    k0_pay16 (F := Ideal) k0_pay11 v77 k0_pay13 k0_pay14 s0 s1 s2 s3 (ix2 r 0) = ((B.m (hd r) (ps r) : ℝ) : EReal) := by
  pointwise [k0_pay16]
  simp only [pay15 B s0 s1 s2 s3 hs0 hs1 hs2 hs3, h77, c_bot, B.mr_coe _ _ (hv _), coe_max, Blk.m]

include hv h77 hs0 hs1 hs2 hs3 in
theorem pay17 (r : Fin 512) (j : Fin 256) :
    k0_pay17 (F := Ideal) k0_pay11 v77 k0_pay13 k0_pay14 s0 s1 s2 s3 (ix2 r j) = ((B.e (hd r) (ps r) j : ℝ) : EReal) := by
  pointwise [k0_pay17]
  rw [pay16 B hv v77 h77 s0 s1 s2 s3 hs0 hs1 hs2 hs3, h77, B.exp_sm]

include hv h77 hs0 hs1 hs2 hs3 in
theorem pay18 (r : Fin 512) :
    k0_pay18 (F := Ideal) k0_pay11 v77 k0_pay13 k0_pay14 s0 s1 s2 s3 (ix2 r 0) = ((B.es (hd r) (ps r) : ℝ) : EReal) := by
  pointwise [k0_pay18]
  rw [pay16 B hv v77 h77 s0 s1 s2 s3 hs0 hs1 hs2 hs3, pay15 B s0 s1 s2 s3 hs0 hs1 hs2 hs3, coe_sub, exp_coe, Blk.es]

include hv h77 hs0 hs1 hs2 hs3 in
theorem pay19 (r : Fin 512) :
    k0_pay19 (F := Ideal) k0_pay11 v77 k0_pay13 k0_pay14 s0 s1 s2 s3 (ix2 r 0) = ((1 / B.z (hd r) (ps r) : ℝ) : EReal) := by
  pointwise [k0_pay19]
  simp only [pay17 B hv v77 h77 s0 s1 s2 s3 hs0 hs1 hs2 hs3, pay18 B hv v77 h77 s0 s1 s2 s3 hs0 hs1 hs2 hs3, coe_sum,
    coe_add, one_coe]
  exact div_coe 1 (B.z_pos _ _).ne'

include hv h77 hs0 hs1 hs2 hs3 in
theorem pay20 (r : Fin 512) (j : Fin 256) :
    k0_pay20 (F := Ideal) k0_pay11 v77 k0_pay13 k0_pay14 s0 s1 s2 s3 (ix2 r j) = ((B.p (hd r) (ps r) j : ℝ) : EReal) := by
  pointwise [k0_pay20]
  rw [pay17 B hv v77 h77 s0 s1 s2 s3 hs0 hs1 hs2 hs3, pay19 B hv v77 h77 s0 s1 s2 s3 hs0 hs1 hs2 hs3, coe_mul, mul_one_div, Blk.p]

include hv h77 hs0 hs1 hs2 hs3 in
theorem pay21 (r : Fin 512) :
    k0_pay21 (F := Ideal) k0_pay11 v77 k0_pay13 k0_pay14 s0 s1 s2 s3 (ix2 r 0) = ((B.ps (hd r) (ps r) : ℝ) : EReal) := by
  pointwise [k0_pay21]
  rw [pay18 B hv v77 h77 s0 s1 s2 s3 hs0 hs1 hs2 hs3, pay19 B hv v77 h77 s0 s1 s2 s3 hs0 hs1 hs2 hs3, coe_mul, mul_one_div, Blk.ps]

end Probs

/-! ### The gradients -/

section Grads

variable (x3 : Vec Ideal S1x128x64 .f32) (h3 : ∀ (i : Fin 128) d, x3 (ix3 0 i d) = ((B.v (lo i) d : ℝ) : EReal))
  (x4 : Vec Ideal S1x128x64 .f32) (h4 : ∀ (i : Fin 128) d, x4 (ix3 0 i d) = ((B.v (up i) d : ℝ) : EReal))
  (x5 : Vec Ideal S1x4x128x64 .f32) (h5 : ∀ g i d, x5 (ix4 0 g i d) = ((B.o g i d : ℝ) : EReal))
  (v125 : FVec Ideal S512x256 .f32) (h125 : ∀ r j, v125 (ix2 r j) = ((B.p (hd r) (ps r) j : ℝ) : EReal))
  (v35 : FVec Ideal S256x64 .f32) (h35 : ∀ j d, v35 (ix2 j d) = ((B.nk j d : ℝ) : EReal))
  (v33 : FVec Ideal S256x64 .f32) (h33 : ∀ j d, v33 (ix2 j d) = ((B.hk j d : ℝ) : EReal))
  (v31 : FVec Ideal S256x1 .f32) (h31 : ∀ j, v31 (ix2 j 0) = ((Blk.rs (B.k j) : ℝ) : EReal))
  (v21 : FVec Ideal S512x64 .f32) (h21 : ∀ r d, v21 (ix2 r d) = ((B.nq (hd r) (ps r) d : ℝ) : EReal))
  (v19 : FVec Ideal S512x64 .f32) (h19 : ∀ r d, v19 (ix2 r d) = ((B.hq (hd r) (ps r) d : ℝ) : EReal))
  (v17 : FVec Ideal S512x1 .f32) (h17 : ∀ r, v17 (ix2 r 0) = ((Blk.rs (B.q (hd r) (ps r)) : ℝ) : EReal))

include h5 in
theorem pay22 (r : Fin 512) (d : Fin 64) : k0_pay22 (F := Ideal) x5 (ix2 r d) = ((B.o (hd r) (ps r) d : ℝ) : EReal) := by
  pointwise [k0_pay22]
  rw [← h5]

include h3 h4 h5 in
theorem pay23 (r : Fin 512) (j : Fin 256) :
    k0_pay23 (F := Ideal) x3 x4 x5 (ix2 r j) = ((B.dp (hd r) (ps r) j : ℝ) : EReal) := by
  have hcat : ∀ (j : Fin 256) (d : Fin 64), k0_pay2 (F := Ideal) x3 x4 (ix2 j d) = ((B.v j d : ℝ) : EReal) :=
    fun j d => pay2 { B with k := B.v } x3 h3 x4 h4 j d
  have hdot : k0_pay23 (F := Ideal) x3 x4 x5 (ix2 r j) = ∑ d, k0_pay22 (F := Ideal) x5 (ix2 r d) * k0_pay2 (F := Ideal) x3 x4 (ix2 j d) := by
    pointwise [k0_pay23, k0_pay2]
  rw [hdot]
  simp only [pay22 B x5 h5, hcat, coe_mul, coe_sum, Blk.dp]

include h3 h4 h5 h125 in
theorem pay24 (r : Fin 512) : k0_pay24 (F := Ideal) v125 x3 x4 x5 (ix2 r 0) = ((B.dl (hd r) (ps r) : ℝ) : EReal) := by
  pointwise [k0_pay24]
  simp only [h125, pay23 B x3 h3 x4 h4 x5 h5, coe_mul, coe_sum, Blk.dl]

include h3 h4 h5 h125 in
theorem pay25 (r : Fin 512) (j : Fin 256) :
    k0_pay25 (F := Ideal) v125 x3 x4 x5 (ix2 r j) = ((B.ds (hd r) (ps r) j : ℝ) : EReal) := by
  pointwise [k0_pay25]
  simp only [h125, pay23 B x3 h3 x4 h4 x5 h5, pay24 B x3 h3 x4 h4 x5 h5 v125 h125, coe_mul, coe_sub, c_8th, Blk.ds]

/-- A sum over the stacked rows is the sum over heads and positions. -/
theorem sum_rows (f : Fin 4 → Fin 128 → ℝ) : ∑ r : Fin 512, f (hd r) (ps r) = ∑ g, ∑ i, f g i := by
  rw [Fin.sum_univ_tiles 4 128 rfl]
  refine Finset.sum_congr rfl fun g _ => Finset.sum_congr rfl fun i _ => ?_
  congr 1
  · exact Fin.ext (by show (g * 128 + i : ℕ) / 128 = g; omega)
  · exact Fin.ext (by show (g * 128 + i : ℕ) % 128 = i; omega)

include h5 h125 in
theorem pay26 (j : Fin 256) (d : Fin 64) : k0_pay26 (F := Ideal) v125 x5 (ix2 j d) = ((B.dv j d : ℝ) : EReal) := by
  pointwise [k0_pay26]
  simp only [h125, pay22 B x5 h5, coe_mul, coe_sum, Blk.dv]
  rw [sum_rows fun g i => B.p g i j * B.o g i d]

include h3 h4 h5 h125 h35 in
theorem pay27 (r : Fin 512) (d : Fin 64) :
    k0_pay27 (F := Ideal) v35 v125 x3 x4 x5 (ix2 r d) = ((B.dnq (hd r) (ps r) d : ℝ) : EReal) := by
  pointwise [k0_pay27]
  simp only [h35, pay25 B x3 h3 x4 h4 x5 h5 v125 h125, coe_mul, coe_sum, Blk.dnq]

include h3 h4 h5 h125 h21 in
theorem pay28 (j : Fin 256) (d : Fin 64) :
    k0_pay28 (F := Ideal) v21 v125 x3 x4 x5 (ix2 j d) = ((B.dnk j d : ℝ) : EReal) := by
  pointwise [k0_pay28]
  simp only [h21, pay25 B x3 h3 x4 h4 x5 h5 v125 h125, coe_mul, coe_sum, Blk.dnk]
  rw [sum_rows fun g i => B.ds g i j * B.nq g i d]

include h3 h4 h5 h6 h125 h35 h19 h17 in
theorem pay29 (r : Fin 512) (d : Fin 64) :
    k0_pay29 (F := Ideal) v17 v19 v35 v125 x3 x4 x5 x6 (ix2 r d) = ((B.dq (hd r) (ps r) d : ℝ) : EReal) := by
  pointwise [k0_pay29]
  simp only [h17, h19, h6, pay27 B x3 h3 x4 h4 x5 h5 v125 h125 v35 h35, coe_mul, coe_sum, coe_sub, c_64,
    div_coe _ (by norm_num : (64 : ℝ) ≠ 0), Blk.dq, Blk.nb]

include h3 h4 h5 h125 h35 h19 in
theorem pay31 (d : Fin 64) :
    k0_pay31 (F := Ideal) (k0_pay30 (F := Ideal) v19 v35 v125 x3 x4 x5) (ix2 0 d) = ((B.dgq d : ℝ) : EReal) := by
  pointwise [k0_pay31, k0_pay30]
  simp only [h19, pay27 B x3 h3 x4 h4 x5 h5 v125 h125 v35 h35, coe_mul, coe_sum, Blk.dgq]
  rw [sum_rows fun g i => B.dnq g i d * B.hq g i d]

variable (v152 : FVec Ideal S256x64 .f32) (h152 : ∀ j d, v152 (ix2 j d) = ((B.dnk j d : ℝ) : EReal))

include h7 h31 h33 h152 in
theorem pay32 (j : Fin 256) (d : Fin 64) : k0_pay32 (F := Ideal) v31 v33 v152 x7 (ix2 j d) = ((B.dk j d : ℝ) : EReal) := by
  pointwise [k0_pay32]
  simp only [h31, h33, h7, h152, coe_mul, coe_sum, coe_sub, c_64, div_coe _ (by norm_num : (64 : ℝ) ≠ 0), Blk.dk, Blk.nb]

include h33 h152 in
theorem pay33 (d : Fin 64) : k0_pay33 (F := Ideal) v33 v152 (ix2 0 d) = ((B.dgk d : ℝ) : EReal) := by
  pointwise [k0_pay33]
  simp only [h33, h152, coe_mul, coe_sum, Blk.dgk]

theorem pay34 (v166 : FVec Ideal S512x64 .f32) (h166 : ∀ r d, v166 (ix2 r d) = ((B.dq (hd r) (ps r) d : ℝ) : EReal))
    (g : Fin 4) (i : Fin 128) (d : Fin 64) : k0_pay34 (F := Ideal) v166 (ix4 0 g i d) = ((B.dq g i d : ℝ) : EReal) := by
  pointwise [k0_pay34]
  rw [h166]
  refine congrArg (fun x : ℝ => (x : EReal)) ?_
  congr 1
  · exact Fin.ext (by show (g * 128 + i : ℕ) / 128 = g; omega)
  · exact Fin.ext (by show (g * 128 + i : ℕ) % 128 = i; omega)

include h7 h31 h33 h152 in
theorem pay35 (i : Fin 128) (d : Fin 64) :
    k0_pay35 (F := Ideal) v31 v33 v152 x7 (ix3 0 i d) = ((B.dk (lo i) d : ℝ) : EReal) := by
  pointwise [k0_pay35]
  exact pay32 B x7 h7 v33 h33 v31 h31 v152 h152 _ d

include h7 h31 h33 h152 in
theorem pay36 (i : Fin 128) (d : Fin 64) :
    k0_pay36 (F := Ideal) v31 v33 v152 x7 (ix3 0 i d) = ((B.dk (up i) d : ℝ) : EReal) := by
  pointwise [k0_pay36]
  exact pay32 B x7 h7 v33 h33 v31 h31 v152 h152 _ d

variable (v148 : FVec Ideal S256x64 .f32) (h148 : ∀ j d, v148 (ix2 j d) = ((B.dv j d : ℝ) : EReal))

include h148 in
theorem pay37 (i : Fin 128) (d : Fin 64) :
    k0_pay37 (F := Ideal) v148 (ix3 0 i d) = ((B.dv (lo i) d : ℝ) : EReal) := by
  pointwise [k0_pay37]
  exact h148 _ d

include h148 in
theorem pay39 (i : Fin 128) (d : Fin 64) :
    k0_pay39 (F := Ideal) (k0_pay38 (F := Ideal) v148) (ix3 0 i d) = ((B.dv (up i) d : ℝ) : EReal) := by
  pointwise [k0_pay39, k0_pay38]
  exact h148 _ d

theorem pay45 (v126 v140 : FVec Ideal S512x1 .f32) (h126 : ∀ r, v126 (ix2 r 0) = ((B.ps (hd r) (ps r) : ℝ) : EReal))
    (h140 : ∀ r, v140 (ix2 r 0) = ((B.dl (hd r) (ps r) : ℝ) : EReal)) (acc : Vec Ideal S1x4x128 .f32) (g : Fin 4) (l : Fin 128) :
    k0_pay45 (F := Ideal) v126 v140 acc (ix3 0 g l) = acc (ix3 0 g l) + ((B.dsk g : ℝ) : EReal) := by
  pointwise [k0_pay45]
  simp only [h126, h140, zero_coe, coe_sub, coe_mul, coe_sum, Blk.dsk]
  refine congrArg (fun x : ℝ => acc (ix3 0 g l) + (x : EReal)) (Finset.sum_congr rfl fun i _ => ?_)
  have e1 : (⟨(g * 128 + i : ℕ) / 128, by omega⟩ : Fin 4) = g := Fin.ext (by show (g * 128 + i : ℕ) / 128 = g; omega)
  have e2 : (⟨(g * 128 + i : ℕ) % 128, by omega⟩ : Fin 128) = i := Fin.ext (by show (g * 128 + i : ℕ) % 128 = i; omega)
  simp only [hd, Pay.ps, e1, e2]

end Grads

end Attn.Pay

end
-- ==== Proof.Attn.Body.lean ====
/- What one grid point of the attention backward kernel leaves in each of its outputs, as a function of its input
   blocks, and its value: the gradients of the block. -/
module

public import proofs.«01_k».proof.Proof.Attn.Pay

@[expose] public section

set_option maxRecDepth 16384

noncomputable section

namespace Attn.Body

open Idealize.ShloMosaic Idealize.ShloMosaic.TcCoe Idealize.SL.Sem
open Cert.KernelIdeal Cert.KernelIdeal.Gen Attn.Pay

variable {F : FTy → Type} [FloatOps F] [Named F]

/-- The masked scores, the weights and the sink's weights, from the point's words and blocks. -/
abbrev w77 (a n : BitVec 32) (x0 : Vec F S1x4x128x64 .f32) (x1 x2 : Vec F S1x128x64 .f32) (x6 x7 : Vec F S1x64 .f32) :=
  k0_pay12 a n (k0_pay9 x0 x6) (k0_pay10 x1 x2 x7)
abbrev w125 (a n : BitVec 32) (x0 : Vec F S1x4x128x64 .f32) (x1 x2 : Vec F S1x128x64 .f32) (x6 x7 : Vec F S1x64 .f32)
    (s0 s1 s2 s3 : Elt F .f32) :=
  k0_pay20 k0_pay11 (w77 a n x0 x1 x2 x6 x7) k0_pay13 k0_pay14 s0 s1 s2 s3
abbrev w126 (a n : BitVec 32) (x0 : Vec F S1x4x128x64 .f32) (x1 x2 : Vec F S1x128x64 .f32) (x6 x7 : Vec F S1x64 .f32)
    (s0 s1 s2 s3 : Elt F .f32) :=
  k0_pay21 k0_pay11 (w77 a n x0 x1 x2 x6 x7) k0_pay13 k0_pay14 s0 s1 s2 s3

section terms
variable (a n : BitVec 32) (x0 : Vec F S1x4x128x64 .f32) (x1 x2 x3 x4 : Vec F S1x128x64 .f32) (x5 : Vec F S1x4x128x64 .f32)
  (x6 x7 : Vec F S1x64 .f32) (s0 s1 s2 s3 : Elt F .f32)

/-- The cotangent of the normalised keys. -/
abbrev w152 := k0_pay28 (k0_pay5 x0 x6) (w125 a n x0 x1 x2 x6 x7 s0 s1 s2 s3) x3 x4 x5

/-- The eight outputs; the last three over what the output held. -/
abbrev b9 := k0_pay34 (k0_pay29 (k0_pay3 x0) (k0_pay4 x0) (k0_pay8 x1 x2 x7) (w125 a n x0 x1 x2 x6 x7 s0 s1 s2 s3) x3 x4 x5 x6)
abbrev b10 := k0_pay35 (k0_pay6 x1 x2) (k0_pay7 x1 x2) (w152 a n x0 x1 x2 x3 x4 x5 x6 x7 s0 s1 s2 s3) x7
abbrev b11 := k0_pay36 (k0_pay6 x1 x2) (k0_pay7 x1 x2) (w152 a n x0 x1 x2 x3 x4 x5 x6 x7 s0 s1 s2 s3) x7
abbrev b12 := k0_pay37 (k0_pay26 (w125 a n x0 x1 x2 x6 x7 s0 s1 s2 s3) x5)
abbrev b13 := k0_pay39 (k0_pay38 (k0_pay26 (w125 a n x0 x1 x2 x6 x7 s0 s1 s2 s3) x5))
abbrev b14 (acc : Vec F S1x64 .f32) :=
  k0_pay43 (k0_pay31 (k0_pay30 (k0_pay4 x0) (k0_pay8 x1 x2 x7) (w125 a n x0 x1 x2 x6 x7 s0 s1 s2 s3) x3 x4 x5)) acc
abbrev b15 (acc : Vec F S1x64 .f32) := k0_pay44 (k0_pay33 (k0_pay7 x1 x2) (w152 a n x0 x1 x2 x3 x4 x5 x6 x7 s0 s1 s2 s3)) acc
abbrev b16 (acc : Vec F S1x4x128 .f32) :=
  k0_pay45 (w126 a n x0 x1 x2 x6 x7 s0 s1 s2 s3) (k0_pay24 (w125 a n x0 x1 x2 x6 x7 s0 s1 s2 s3) x3 x4 x5) acc

end terms

/-- The input blocks of one point hold the data of a block. -/
structure Holds (B : Blk) (a : Fin 4) (n : Fin 32) (x0 : Vec Ideal S1x4x128x64 .f32) (x1 x2 x3 x4 : Vec Ideal S1x128x64 .f32)
    (x5 : Vec Ideal S1x4x128x64 .f32) (x6 x7 : Vec Ideal S1x64 .f32) (s0 s1 s2 s3 : Elt Ideal .f32) : Prop where
  h0 : ∀ g i d, x0 (ix4 0 g i d) = ((B.q g i d : ℝ) : EReal)
  h1 : ∀ (i : Fin 128) d, x1 (ix3 0 i d) = ((B.k (lo i) d : ℝ) : EReal)
  h2 : ∀ (i : Fin 128) d, x2 (ix3 0 i d) = ((B.k (up i) d : ℝ) : EReal)
  h3 : ∀ (i : Fin 128) d, x3 (ix3 0 i d) = ((B.v (lo i) d : ℝ) : EReal)
  h4 : ∀ (i : Fin 128) d, x4 (ix3 0 i d) = ((B.v (up i) d : ℝ) : EReal)
  h5 : ∀ g i d, x5 (ix4 0 g i d) = ((B.o g i d : ℝ) : EReal)
  h6 : ∀ d, x6 (ix2 0 d) = ((B.gq d : ℝ) : EReal)
  h7 : ∀ d, x7 (ix2 0 d) = ((B.gk d : ℝ) : EReal)
  hs0 : s0 = ((B.sk 0 : ℝ) : EReal)
  hs1 : s1 = ((B.sk 1 : ℝ) : EReal)
  hs2 : s2 = ((B.sk 2 : ℝ) : EReal)
  hs3 : s3 = ((B.sk 3 : ℝ) : EReal)
  hok : B.ok = vis n
  hsl : ∀ g : Fin 4, B.sl g = slope (a * 4 + g)

namespace Holds

variable {B : Blk} {a : Fin 4} {n : Fin 32} {x0 : Vec Ideal S1x4x128x64 .f32} {x1 x2 x3 x4 : Vec Ideal S1x128x64 .f32}
    {x5 : Vec Ideal S1x4x128x64 .f32} {x6 x7 : Vec Ideal S1x64 .f32} {s0 s1 s2 s3 : Elt Ideal .f32}
  (H : Holds B a n x0 x1 x2 x3 x4 x5 x6 x7 s0 s1 s2 s3)
include H

theorem seen : ∀ i, ∃ j, B.ok i j := by rw [H.hok]; exact vis_self n

theorem v77 (r : Fin 512) (j : Fin 256) : w77 (F := Ideal) (BitVec.ofNat 32 a) (BitVec.ofNat 32 n) x0 x1 x2 x6 x7 (ix2 r j) = B.sm (hd r) (ps r) j :=
  pay12 (B := B) a n H.hok H.hsl _ (pay9 (B := B) x0 H.h0 x6 H.h6) _ (pay10 (B := B) x1 H.h1 x2 H.h2 x7 H.h7) r j

theorem v125 (r : Fin 512) (j : Fin 256) :
    w125 (F := Ideal) (BitVec.ofNat 32 a) (BitVec.ofNat 32 n) x0 x1 x2 x6 x7 s0 s1 s2 s3 (ix2 r j) = ((B.p (hd r) (ps r) j : ℝ) : EReal) :=
  pay20 (B := B) H.seen _ H.v77 s0 s1 s2 s3 H.hs0 H.hs1 H.hs2 H.hs3 r j

theorem v126 (r : Fin 512) :
    w126 (F := Ideal) (BitVec.ofNat 32 a) (BitVec.ofNat 32 n) x0 x1 x2 x6 x7 s0 s1 s2 s3 (ix2 r 0) = ((B.ps (hd r) (ps r) : ℝ) : EReal) :=
  pay21 (B := B) H.seen _ H.v77 s0 s1 s2 s3 H.hs0 H.hs1 H.hs2 H.hs3 r

theorem v152 (j : Fin 256) (d : Fin 64) :
    w152 (F := Ideal) (BitVec.ofNat 32 a) (BitVec.ofNat 32 n) x0 x1 x2 x3 x4 x5 x6 x7 s0 s1 s2 s3 (ix2 j d) = ((B.dnk j d : ℝ) : EReal) :=
  pay28 (B := B) (x3 := x3) (h3 := H.h3) (x4 := x4) (h4 := H.h4) (x5 := x5) (h5 := H.h5) (h125 := H.v125)
    (h21 := pay5 (B := B) x0 H.h0 x6 H.h6) (j := j) (d := d) ..

theorem v148 (j : Fin 256) (d : Fin 64) :
    k0_pay26 (w125 (F := Ideal) (BitVec.ofNat 32 a) (BitVec.ofNat 32 n) x0 x1 x2 x6 x7 s0 s1 s2 s3) x5 (ix2 j d) = ((B.dv j d : ℝ) : EReal) :=
  pay26 (B := B) (x5 := x5) (h5 := H.h5) (h125 := H.v125) (j := j) (d := d) ..

theorem v9 (g : Fin 4) (i : Fin 128) (d : Fin 64) :
    b9 (F := Ideal) (BitVec.ofNat 32 a) (BitVec.ofNat 32 n) x0 x1 x2 x3 x4 x5 x6 x7 s0 s1 s2 s3 (ix4 0 g i d) = ((B.dq g i d : ℝ) : EReal) :=
  pay34 (B := B) _ (fun r d => pay29 (B := B) (x3 := x3) (h3 := H.h3) (x4 := x4) (h4 := H.h4) (x5 := x5) (h5 := H.h5)
    (x6 := x6) (h6 := H.h6) (h125 := H.v125) (h35 := pay8 (B := B) x1 H.h1 x2 H.h2 x7 H.h7)
    (h17 := pay3 (B := B) x0 H.h0) (h19 := pay4 (B := B) x0 H.h0) (r := r) (d := d) ..) g i d

theorem v10 (i : Fin 128) (d : Fin 64) :
    b10 (F := Ideal) (BitVec.ofNat 32 a) (BitVec.ofNat 32 n) x0 x1 x2 x3 x4 x5 x6 x7 s0 s1 s2 s3 (ix3 0 i d) = ((B.dk (lo i) d : ℝ) : EReal) :=
  pay35 (B := B) (x7 := x7) (h7 := H.h7) (h152 := H.v152) (h31 := pay6 (B := B) x1 H.h1 x2 H.h2)
    (h33 := pay7 (B := B) x1 H.h1 x2 H.h2) (i := i) (d := d) ..

theorem v11 (i : Fin 128) (d : Fin 64) :
    b11 (F := Ideal) (BitVec.ofNat 32 a) (BitVec.ofNat 32 n) x0 x1 x2 x3 x4 x5 x6 x7 s0 s1 s2 s3 (ix3 0 i d) = ((B.dk (up i) d : ℝ) : EReal) :=
  pay36 (B := B) (x7 := x7) (h7 := H.h7) (h152 := H.v152) (h31 := pay6 (B := B) x1 H.h1 x2 H.h2)
    (h33 := pay7 (B := B) x1 H.h1 x2 H.h2) (i := i) (d := d) ..

theorem v12 (i : Fin 128) (d : Fin 64) :
    b12 (F := Ideal) (BitVec.ofNat 32 a) (BitVec.ofNat 32 n) x0 x1 x2 x5 x6 x7 s0 s1 s2 s3 (ix3 0 i d) = ((B.dv (lo i) d : ℝ) : EReal) :=
  pay37 (B := B) (h148 := H.v148) (i := i) (d := d) ..

theorem v13 (i : Fin 128) (d : Fin 64) :
    b13 (F := Ideal) (BitVec.ofNat 32 a) (BitVec.ofNat 32 n) x0 x1 x2 x5 x6 x7 s0 s1 s2 s3 (ix3 0 i d) = ((B.dv (up i) d : ℝ) : EReal) :=
  pay39 (B := B) (h148 := H.v148) (i := i) (d := d) ..

theorem v14 (acc : Vec Ideal S1x64 .f32) (d : Fin 64) :
    b14 (F := Ideal) (BitVec.ofNat 32 a) (BitVec.ofNat 32 n) x0 x1 x2 x3 x4 x5 x6 x7 s0 s1 s2 s3 acc (ix2 0 d) = acc (ix2 0 d) + ((B.dgq d : ℝ) : EReal) := by
  have h := pay31 (B := B) (x3 := x3) (h3 := H.h3) (x4 := x4) (h4 := H.h4) (x5 := x5) (h5 := H.h5) (h125 := H.v125)
    (h35 := pay8 (B := B) x1 H.h1 x2 H.h2 x7 H.h7) (h19 := pay4 (B := B) x0 H.h0) (d := d) ..
  pointwise [b14, k0_pay43]
  rw [h]

theorem v15 (acc : Vec Ideal S1x64 .f32) (d : Fin 64) :
    b15 (F := Ideal) (BitVec.ofNat 32 a) (BitVec.ofNat 32 n) x0 x1 x2 x3 x4 x5 x6 x7 s0 s1 s2 s3 acc (ix2 0 d) = acc (ix2 0 d) + ((B.dgk d : ℝ) : EReal) := by
  have h := pay33 (B := B) (h152 := H.v152) (h33 := pay7 (B := B) x1 H.h1 x2 H.h2) (d := d) ..
  pointwise [b15, k0_pay44]
  rw [h]

theorem v16 (acc : Vec Ideal S1x4x128 .f32) (g : Fin 4) (l : Fin 128) :
    b16 (F := Ideal) (BitVec.ofNat 32 a) (BitVec.ofNat 32 n) x0 x1 x2 x3 x4 x5 x6 x7 s0 s1 s2 s3 acc (ix3 0 g l) = acc (ix3 0 g l) + ((B.dsk g : ℝ) : EReal) :=
  pay45 (B := B) _ _ H.v126 (fun r => pay24 (B := B) (x3 := x3) (h3 := H.h3) (x4 := x4) (h4 := H.h4) (x5 := x5)
    (h5 := H.h5) (h125 := H.v125) (r := r) ..) acc g l

end Holds

/-- The zeros the accumulating outputs start from. -/
theorem zero14 (d : Fin 64) : k0_pay40 (F := Ideal) (ix2 0 d) = 0 := by pointwise [k0_pay40]
theorem zero15 (d : Fin 64) : k0_pay41 (F := Ideal) (ix2 0 d) = 0 := by pointwise [k0_pay41]
theorem zero16 (g : Fin 4) (l : Fin 128) : k0_pay42 (F := Ideal) (ix3 0 g l) = 0 := by pointwise [k0_pay42]

end Attn.Body

end
-- ==== Proof.Attn.Outs.lean ====
/- The contents of the eight outputs of the attention backward kernel after each grid point, as the point's functions of
   its input blocks. -/
module

public import proofs.«01_k».proof.Proof.Attn.Body
public import proofs.«01_k».proof.Proof.Gen.KernelIdeal.Frame

@[expose] public section

set_option maxRecDepth 16384

noncomputable section

namespace Attn.Outs

open Idealize.ShloMosaic Idealize.ShloMosaic.TcCoe Idealize.SL.Sem
open Cert.KernelIdeal Cert.KernelIdeal.Gen Attn.Body

variable {F : FTy → Type} [FloatOps F] [Named F]
variable (m : (ℓ : Loc nD τ sig) → Buf (Elt F) ℓ)

theorem z4 : (![0, 0, 0, 0] : Fin 4 → Nat) = fun _ => 0 := funext fun a => by fin_cases a <;> rfl
theorem z3 : (![0, 0, 0] : Fin 3 → Nat) = fun _ => 0 := funext fun a => by fin_cases a <;> rfl
theorem z2 : (![0, 0] : Fin 2 → Nat) = fun _ => 0 := funext fun a => by fin_cases a <;> rfl

/-- The words of a point's coordinates, and the sink logit of one of its heads. -/
abbrev wa (t : Fin cfg0.N) : BitVec 32 := BitVec.ofNat 32 (grid0.coords t 0).val
abbrev wn (t : Fin cfg0.N) : BitVec 32 := BitVec.ofNat 32 (grid0.coords t 1).val
abbrev sink (i : grid0.Coords) (x : Vec F S16 .f32) (h : Fin 4) : Elt F .f32 :=
  View.ld x (Rect.unit (s := S16) (k0_off1 i (BitVec.ofNat 32 h)) S1.size (k0_off1_inb i h)) (Shape.Idx.first (Nat.lt_of_sub_eq_succ rfl))

/-- What a point computes for output 9. -/
abbrev P9 (c : Dev nD) (t : Fin cfg0.N) : Vec F S1x4x128x64 .f32 :=
  b9 (wa t) (wn t) (iblk m c 0 t) (iblk m c 1 t) (iblk m c 2 t) (iblk m c 3 t) (iblk m c 4 t) (iblk m c 5 t) (iblk m c 6 t) (iblk m c 7 t)
    (sink (grid0.coords t) (iblk m c 8 t) 0) (sink (grid0.coords t) (iblk m c 8 t) 1) (sink (grid0.coords t) (iblk m c 8 t) 2) (sink (grid0.coords t) (iblk m c 8 t) 3)

theorem at9_A (c : Dev nD) (t : Fin cfg0.N) (h0 : t.val % 128 = 0) (h1 : t.val % 32 = 0) :
    (outsAt0 m c t.val t.isLt).1 = P9 m c t := by
  rw [outsAt0_A m c t h0 h1]
  dsimp only
  unfold out0_A_9
  rw [View.read_writes_eq_canon _ _ _ (fun y => by apply cover0_A_9)]
  unfold kernelRun0_A
  dsimp only
  sl_unfold_words
  rw [View.canon_unit_zero (S := S1x4x128x64) z4]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

theorem at9_B (c : Dev nD) (t : Fin cfg0.N) (h0 : ¬t.val % 128 = 0) (h1 : ¬t.val % 32 = 0) :
    (outsAt0 m c t.val t.isLt).1 = P9 m c t := by
  rw [outsAt0_B m c t h0 h1]
  dsimp only
  unfold out0_B_9
  rw [View.read_writes_eq_canon _ _ _ (fun y => by apply cover0_B_9)]
  unfold kernelRun0_B
  dsimp only
  sl_unfold_words
  rw [View.canon_unit_zero (S := S1x4x128x64) z4]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

theorem at9_C (c : Dev nD) (t : Fin cfg0.N) (h0 : ¬t.val % 128 = 0) (h1 : t.val % 32 = 0) :
    (outsAt0 m c t.val t.isLt).1 = P9 m c t := by
  rw [outsAt0_C m c t h0 h1]
  dsimp only
  unfold out0_C_9
  rw [View.read_writes_eq_canon _ _ _ (fun y => by apply cover0_C_9)]
  unfold kernelRun0_C
  dsimp only
  sl_unfold_words
  rw [View.canon_unit_zero (S := S1x4x128x64) z4]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

/-- What a point computes for output 10. -/
abbrev P10 (c : Dev nD) (t : Fin cfg0.N) : Vec F S1x128x64 .f32 :=
  b10 (wa t) (wn t) (iblk m c 0 t) (iblk m c 1 t) (iblk m c 2 t) (iblk m c 3 t) (iblk m c 4 t) (iblk m c 5 t) (iblk m c 6 t) (iblk m c 7 t)
    (sink (grid0.coords t) (iblk m c 8 t) 0) (sink (grid0.coords t) (iblk m c 8 t) 1) (sink (grid0.coords t) (iblk m c 8 t) 2) (sink (grid0.coords t) (iblk m c 8 t) 3)

theorem at10_A (c : Dev nD) (t : Fin cfg0.N) (h0 : t.val % 128 = 0) (h1 : t.val % 32 = 0) :
    (outsAt0 m c t.val t.isLt).2.1 = P10 m c t := by
  rw [outsAt0_A m c t h0 h1]
  dsimp only
  unfold out0_A_10
  rw [View.read_writes_eq_canon _ _ _ (fun y => by apply cover0_A_10)]
  unfold kernelRun0_A
  dsimp only
  sl_unfold_words
  rw [View.canon_unit_zero (S := S1x128x64) z3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

theorem at10_B (c : Dev nD) (t : Fin cfg0.N) (h0 : ¬t.val % 128 = 0) (h1 : ¬t.val % 32 = 0) :
    (outsAt0 m c t.val t.isLt).2.1 = P10 m c t := by
  rw [outsAt0_B m c t h0 h1]
  dsimp only
  unfold out0_B_10
  rw [View.read_writes_eq_canon _ _ _ (fun y => by apply cover0_B_10)]
  unfold kernelRun0_B
  dsimp only
  sl_unfold_words
  rw [View.canon_unit_zero (S := S1x128x64) z3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

theorem at10_C (c : Dev nD) (t : Fin cfg0.N) (h0 : ¬t.val % 128 = 0) (h1 : t.val % 32 = 0) :
    (outsAt0 m c t.val t.isLt).2.1 = P10 m c t := by
  rw [outsAt0_C m c t h0 h1]
  dsimp only
  unfold out0_C_10
  rw [View.read_writes_eq_canon _ _ _ (fun y => by apply cover0_C_10)]
  unfold kernelRun0_C
  dsimp only
  sl_unfold_words
  rw [View.canon_unit_zero (S := S1x128x64) z3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

/-- What a point computes for output 11. -/
abbrev P11 (c : Dev nD) (t : Fin cfg0.N) : Vec F S1x128x64 .f32 :=
  b11 (wa t) (wn t) (iblk m c 0 t) (iblk m c 1 t) (iblk m c 2 t) (iblk m c 3 t) (iblk m c 4 t) (iblk m c 5 t) (iblk m c 6 t) (iblk m c 7 t)
    (sink (grid0.coords t) (iblk m c 8 t) 0) (sink (grid0.coords t) (iblk m c 8 t) 1) (sink (grid0.coords t) (iblk m c 8 t) 2) (sink (grid0.coords t) (iblk m c 8 t) 3)

theorem at11_A (c : Dev nD) (t : Fin cfg0.N) (h0 : t.val % 128 = 0) (h1 : t.val % 32 = 0) :
    (outsAt0 m c t.val t.isLt).2.2.1 = P11 m c t := by
  rw [outsAt0_A m c t h0 h1]
  dsimp only
  unfold out0_A_11
  rw [View.read_writes_eq_canon _ _ _ (fun y => by apply cover0_A_11)]
  unfold kernelRun0_A
  dsimp only
  sl_unfold_words
  rw [View.canon_unit_zero (S := S1x128x64) z3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

theorem at11_B (c : Dev nD) (t : Fin cfg0.N) (h0 : ¬t.val % 128 = 0) (h1 : ¬t.val % 32 = 0) :
    (outsAt0 m c t.val t.isLt).2.2.1 = P11 m c t := by
  rw [outsAt0_B m c t h0 h1]
  dsimp only
  unfold out0_B_11
  rw [View.read_writes_eq_canon _ _ _ (fun y => by apply cover0_B_11)]
  unfold kernelRun0_B
  dsimp only
  sl_unfold_words
  rw [View.canon_unit_zero (S := S1x128x64) z3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

theorem at11_C (c : Dev nD) (t : Fin cfg0.N) (h0 : ¬t.val % 128 = 0) (h1 : t.val % 32 = 0) :
    (outsAt0 m c t.val t.isLt).2.2.1 = P11 m c t := by
  rw [outsAt0_C m c t h0 h1]
  dsimp only
  unfold out0_C_11
  rw [View.read_writes_eq_canon _ _ _ (fun y => by apply cover0_C_11)]
  unfold kernelRun0_C
  dsimp only
  sl_unfold_words
  rw [View.canon_unit_zero (S := S1x128x64) z3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

/-- What a point computes for output 12. -/
abbrev P12 (c : Dev nD) (t : Fin cfg0.N) : Vec F S1x128x64 .f32 :=
  b12 (wa t) (wn t) (iblk m c 0 t) (iblk m c 1 t) (iblk m c 2 t) (iblk m c 5 t) (iblk m c 6 t) (iblk m c 7 t)
    (sink (grid0.coords t) (iblk m c 8 t) 0) (sink (grid0.coords t) (iblk m c 8 t) 1) (sink (grid0.coords t) (iblk m c 8 t) 2) (sink (grid0.coords t) (iblk m c 8 t) 3)

theorem at12_A (c : Dev nD) (t : Fin cfg0.N) (h0 : t.val % 128 = 0) (h1 : t.val % 32 = 0) :
    (outsAt0 m c t.val t.isLt).2.2.2.1 = P12 m c t := by
  rw [outsAt0_A m c t h0 h1]
  dsimp only
  unfold out0_A_12
  rw [View.read_writes_eq_canon _ _ _ (fun y => by apply cover0_A_12)]
  unfold kernelRun0_A
  dsimp only
  sl_unfold_words
  rw [View.canon_unit_zero (S := S1x128x64) z3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

theorem at12_B (c : Dev nD) (t : Fin cfg0.N) (h0 : ¬t.val % 128 = 0) (h1 : ¬t.val % 32 = 0) :
    (outsAt0 m c t.val t.isLt).2.2.2.1 = P12 m c t := by
  rw [outsAt0_B m c t h0 h1]
  dsimp only
  unfold out0_B_12
  rw [View.read_writes_eq_canon _ _ _ (fun y => by apply cover0_B_12)]
  unfold kernelRun0_B
  dsimp only
  sl_unfold_words
  rw [View.canon_unit_zero (S := S1x128x64) z3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

theorem at12_C (c : Dev nD) (t : Fin cfg0.N) (h0 : ¬t.val % 128 = 0) (h1 : t.val % 32 = 0) :
    (outsAt0 m c t.val t.isLt).2.2.2.1 = P12 m c t := by
  rw [outsAt0_C m c t h0 h1]
  dsimp only
  unfold out0_C_12
  rw [View.read_writes_eq_canon _ _ _ (fun y => by apply cover0_C_12)]
  unfold kernelRun0_C
  dsimp only
  sl_unfold_words
  rw [View.canon_unit_zero (S := S1x128x64) z3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

/-- What a point computes for output 13. -/
abbrev P13 (c : Dev nD) (t : Fin cfg0.N) : Vec F S1x128x64 .f32 :=
  b13 (wa t) (wn t) (iblk m c 0 t) (iblk m c 1 t) (iblk m c 2 t) (iblk m c 5 t) (iblk m c 6 t) (iblk m c 7 t)
    (sink (grid0.coords t) (iblk m c 8 t) 0) (sink (grid0.coords t) (iblk m c 8 t) 1) (sink (grid0.coords t) (iblk m c 8 t) 2) (sink (grid0.coords t) (iblk m c 8 t) 3)

theorem at13_A (c : Dev nD) (t : Fin cfg0.N) (h0 : t.val % 128 = 0) (h1 : t.val % 32 = 0) :
    (outsAt0 m c t.val t.isLt).2.2.2.2.1 = P13 m c t := by
  rw [outsAt0_A m c t h0 h1]
  dsimp only
  unfold out0_A_13
  rw [View.read_writes_eq_canon _ _ _ (fun y => by apply cover0_A_13)]
  unfold kernelRun0_A
  dsimp only
  sl_unfold_words
  rw [View.canon_unit_zero (S := S1x128x64) z3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

theorem at13_B (c : Dev nD) (t : Fin cfg0.N) (h0 : ¬t.val % 128 = 0) (h1 : ¬t.val % 32 = 0) :
    (outsAt0 m c t.val t.isLt).2.2.2.2.1 = P13 m c t := by
  rw [outsAt0_B m c t h0 h1]
  dsimp only
  unfold out0_B_13
  rw [View.read_writes_eq_canon _ _ _ (fun y => by apply cover0_B_13)]
  unfold kernelRun0_B
  dsimp only
  sl_unfold_words
  rw [View.canon_unit_zero (S := S1x128x64) z3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

theorem at13_C (c : Dev nD) (t : Fin cfg0.N) (h0 : ¬t.val % 128 = 0) (h1 : t.val % 32 = 0) :
    (outsAt0 m c t.val t.isLt).2.2.2.2.1 = P13 m c t := by
  rw [outsAt0_C m c t h0 h1]
  dsimp only
  unfold out0_C_13
  rw [View.read_writes_eq_canon _ _ _ (fun y => by apply cover0_C_13)]
  unfold kernelRun0_C
  dsimp only
  sl_unfold_words
  rw [View.canon_unit_zero (S := S1x128x64) z3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

/-- What a point computes for output 14. -/
abbrev P14 (c : Dev nD) (t : Fin cfg0.N) (acc : Vec F S1x64 .f32) : Vec F S1x64 .f32 :=
  b14 (wa t) (wn t) (iblk m c 0 t) (iblk m c 1 t) (iblk m c 2 t) (iblk m c 3 t) (iblk m c 4 t) (iblk m c 5 t) (iblk m c 6 t) (iblk m c 7 t)
    (sink (grid0.coords t) (iblk m c 8 t) 0) (sink (grid0.coords t) (iblk m c 8 t) 1) (sink (grid0.coords t) (iblk m c 8 t) 2) (sink (grid0.coords t) (iblk m c 8 t) 3) acc

theorem at14_A (c : Dev nD) (t : Fin cfg0.N) (h0 : t.val % 128 = 0) (h1 : t.val % 32 = 0) :
    (outsAt0 m c t.val t.isLt).2.2.2.2.2.1 = P14 m c t (k0_pay40 (F := F)) := by
  rw [outsAt0_A m c t h0 h1]
  dsimp only
  unfold out0_A_14
  rw [View.read_writes_eq_canon _ _ _ (fun y => by apply cover0_A_14)]
  unfold kernelRun0_A
  dsimp only
  sl_unfold_words
  rw [View.canon_cons_unit_zero (S := S1x64) z2, View.readCov_unit_zero (S := S1x64) _ z2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

theorem at14_B (c : Dev nD) (t : Fin cfg0.N) (h0 : ¬t.val % 128 = 0) (h1 : ¬t.val % 32 = 0) :
    (outsAt0 m c t.val t.isLt).2.2.2.2.2.1 = P14 m c t (outsAt0 m c (t.val - 1) (Nat.lt_of_le_of_lt (Nat.sub_le _ _) t.isLt)).2.2.2.2.2.1 := by
  rw [outsAt0_B m c t h0 h1]
  dsimp only
  unfold out0_B_14
  rw [View.read_writes_eq_canon _ _ _ (fun y => by apply cover0_B_14)]
  unfold kernelRun0_B
  dsimp only
  sl_unfold_words
  rw [View.canon_unit_zero (S := S1x64) z2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

theorem at14_C (c : Dev nD) (t : Fin cfg0.N) (h0 : ¬t.val % 128 = 0) (h1 : t.val % 32 = 0) :
    (outsAt0 m c t.val t.isLt).2.2.2.2.2.1 = P14 m c t (outsAt0 m c (t.val - 1) (Nat.lt_of_le_of_lt (Nat.sub_le _ _) t.isLt)).2.2.2.2.2.1 := by
  rw [outsAt0_C m c t h0 h1]
  dsimp only
  unfold out0_C_14
  rw [View.read_writes_eq_canon _ _ _ (fun y => by apply cover0_C_14)]
  unfold kernelRun0_C
  dsimp only
  sl_unfold_words
  rw [View.canon_unit_zero (S := S1x64) z2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

/-- What a point computes for output 15. -/
abbrev P15 (c : Dev nD) (t : Fin cfg0.N) (acc : Vec F S1x64 .f32) : Vec F S1x64 .f32 :=
  b15 (wa t) (wn t) (iblk m c 0 t) (iblk m c 1 t) (iblk m c 2 t) (iblk m c 3 t) (iblk m c 4 t) (iblk m c 5 t) (iblk m c 6 t) (iblk m c 7 t)
    (sink (grid0.coords t) (iblk m c 8 t) 0) (sink (grid0.coords t) (iblk m c 8 t) 1) (sink (grid0.coords t) (iblk m c 8 t) 2) (sink (grid0.coords t) (iblk m c 8 t) 3) acc

theorem at15_A (c : Dev nD) (t : Fin cfg0.N) (h0 : t.val % 128 = 0) (h1 : t.val % 32 = 0) :
    (outsAt0 m c t.val t.isLt).2.2.2.2.2.2.1 = P15 m c t (k0_pay41 (F := F)) := by
  rw [outsAt0_A m c t h0 h1]
  dsimp only
  unfold out0_A_15
  rw [View.read_writes_eq_canon _ _ _ (fun y => by apply cover0_A_15)]
  unfold kernelRun0_A
  dsimp only
  sl_unfold_words
  rw [View.canon_cons_unit_zero (S := S1x64) z2, View.readCov_unit_zero (S := S1x64) _ z2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

theorem at15_B (c : Dev nD) (t : Fin cfg0.N) (h0 : ¬t.val % 128 = 0) (h1 : ¬t.val % 32 = 0) :
    (outsAt0 m c t.val t.isLt).2.2.2.2.2.2.1 = P15 m c t (outsAt0 m c (t.val - 1) (Nat.lt_of_le_of_lt (Nat.sub_le _ _) t.isLt)).2.2.2.2.2.2.1 := by
  rw [outsAt0_B m c t h0 h1]
  dsimp only
  unfold out0_B_15
  rw [View.read_writes_eq_canon _ _ _ (fun y => by apply cover0_B_15)]
  unfold kernelRun0_B
  dsimp only
  sl_unfold_words
  rw [View.canon_unit_zero (S := S1x64) z2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

theorem at15_C (c : Dev nD) (t : Fin cfg0.N) (h0 : ¬t.val % 128 = 0) (h1 : t.val % 32 = 0) :
    (outsAt0 m c t.val t.isLt).2.2.2.2.2.2.1 = P15 m c t (outsAt0 m c (t.val - 1) (Nat.lt_of_le_of_lt (Nat.sub_le _ _) t.isLt)).2.2.2.2.2.2.1 := by
  rw [outsAt0_C m c t h0 h1]
  dsimp only
  unfold out0_C_15
  rw [View.read_writes_eq_canon _ _ _ (fun y => by apply cover0_C_15)]
  unfold kernelRun0_C
  dsimp only
  sl_unfold_words
  rw [View.canon_unit_zero (S := S1x64) z2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

/-- What a point computes for output 16. -/
abbrev P16 (c : Dev nD) (t : Fin cfg0.N) (acc : Vec F S1x4x128 .f32) : Vec F S1x4x128 .f32 :=
  b16 (wa t) (wn t) (iblk m c 0 t) (iblk m c 1 t) (iblk m c 2 t) (iblk m c 3 t) (iblk m c 4 t) (iblk m c 5 t) (iblk m c 6 t) (iblk m c 7 t)
    (sink (grid0.coords t) (iblk m c 8 t) 0) (sink (grid0.coords t) (iblk m c 8 t) 1) (sink (grid0.coords t) (iblk m c 8 t) 2) (sink (grid0.coords t) (iblk m c 8 t) 3) acc

theorem at16_A (c : Dev nD) (t : Fin cfg0.N) (h0 : t.val % 128 = 0) (h1 : t.val % 32 = 0) :
    (outsAt0 m c t.val t.isLt).2.2.2.2.2.2.2 = P16 m c t (k0_pay42 (F := F)) := by
  rw [outsAt0_A m c t h0 h1]
  dsimp only
  unfold out0_A_16
  rw [View.read_writes_eq_canon _ _ _ (fun y => by apply cover0_A_16)]
  unfold kernelRun0_A
  dsimp only
  sl_unfold_words
  rw [View.canon_cons_unit_zero (S := S1x4x128) z3, View.readCov_unit_zero (S := S1x4x128) _ z3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

theorem at16_B (c : Dev nD) (t : Fin cfg0.N) (h0 : ¬t.val % 128 = 0) (h1 : ¬t.val % 32 = 0) :
    (outsAt0 m c t.val t.isLt).2.2.2.2.2.2.2 = P16 m c t (outsAt0 m c (t.val - 1) (Nat.lt_of_le_of_lt (Nat.sub_le _ _) t.isLt)).2.2.2.2.2.2.2 := by
  rw [outsAt0_B m c t h0 h1]
  dsimp only
  unfold out0_B_16
  rw [View.read_writes_eq_canon _ _ _ (fun y => by apply cover0_B_16)]
  unfold kernelRun0_B
  dsimp only
  sl_unfold_words
  rw [View.canon_unit_zero (S := S1x4x128) z3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

theorem at16_C (c : Dev nD) (t : Fin cfg0.N) (h0 : ¬t.val % 128 = 0) (h1 : t.val % 32 = 0) :
    (outsAt0 m c t.val t.isLt).2.2.2.2.2.2.2 = P16 m c t (k0_pay42 (F := F)) := by
  rw [outsAt0_C m c t h0 h1]
  dsimp only
  unfold out0_C_16
  rw [View.read_writes_eq_canon _ _ _ (fun y => by apply cover0_C_16)]
  unfold kernelRun0_C
  dsimp only
  sl_unfold_words
  rw [View.canon_cons_unit_zero (S := S1x4x128) z3, View.readCov_unit_zero (S := S1x4x128) _ z3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_14 t).read_unread, (hs0_15 t).read_unread, (hs0_16 t).read_unread,
    View.ld_unit_zero (S := S1x4x128x64) z4, View.ld_unit_zero (S := S1x128x64) z3, View.ld_unit_zero (S := S1x64) z2,
    View.ld_unit_zero (S := S1x4x128) z3, shapeCast_self]
  rfl

end Attn.Outs

end
-- ==== Proof.Attn.Data.lean ====
/- The real data of the whole call, its blocks, and what the input blocks of the kernel hold at a grid point. -/
module

public import proofs.«01_k».proof.Proof.Attn.Outs
public import Idealize.ShloMosaic.Lib.Pipeline.ValueKit
public import Idealize.ShloMosaic.Lib.Claim

@[expose] public section

set_option maxRecDepth 16384

noncomputable section

namespace Attn

/-- The arguments of the call as real arrays: heads' inputs, gradient of the heads' outputs, gains, sink logits. -/
structure Data where
  x : ℕ → ℕ → ℝ
  y : ℕ → ℕ → ℝ
  gq : ℕ → ℝ
  gk : ℕ → ℝ
  s : ℕ → ℝ

namespace Data

variable (D : Data)

/-- The block of key head `a` and query block `n`; before the first block come zeros. -/
def blk (a n : ℕ) : Blk where
  q g i d := D.x (n * 128 + i) (a * 256 + g * 64 + d)
  k j d := if (j : ℕ) < 128 then (if n = 0 then 0 else D.x ((n - 1) * 128 + j) (1024 + a * 64 + d))
    else D.x (n * 128 + (j - 128)) (1024 + a * 64 + d)
  v j d := if (j : ℕ) < 128 then (if n = 0 then 0 else D.x ((n - 1) * 128 + j) (1280 + a * 64 + d))
    else D.x (n * 128 + (j - 128)) (1280 + a * 64 + d)
  o g i d := D.y (n * 128 + i) (a * 256 + g * 64 + d)
  gq d := D.gq d
  gk d := D.gk d
  sk g := D.s (a * 4 + g)
  sl g := slope (a * 4 + g)
  ok := vis n

/-- The same block as the kernel reads it: before the first block comes the first block again. -/
def kblk (a n : ℕ) : Blk where
  q g i d := D.x (n * 128 + i) (a * 256 + g * 64 + d)
  k j d := if (j : ℕ) < 128 then D.x ((n - 1) * 128 + j) (1024 + a * 64 + d)
    else D.x (n * 128 + (j - 128)) (1024 + a * 64 + d)
  v j d := if (j : ℕ) < 128 then D.x ((n - 1) * 128 + j) (1280 + a * 64 + d)
    else D.x (n * 128 + (j - 128)) (1280 + a * 64 + d)
  o g i d := D.y (n * 128 + i) (a * 256 + g * 64 + d)
  gq d := D.gq d
  gk d := D.gk d
  sk g := D.s (a * 4 + g)
  sl g := slope (a * 4 + g)
  ok := vis n

end Data

open Idealize.ShloMosaic Idealize.ShloMosaic.TcCoe Idealize.SL.Sem
open Cert.KernelIdeal Cert.KernelIdeal.Gen Attn.Body Attn.Outs

/-- The launch's argument arrays hold the data. -/
structure Reads (D : Data) (m : (ℓ : Loc nD τ sig) → Buf (Elt Ideal) ℓ) (c : Dev nD) : Prop where
  x : ∀ (i : Fin 4096) (j : Fin 1536), (m ((c : Thread nD τ).loc main_arg0) : FVec Ideal S4096x1536 .f32) (ix2 i j) = ((D.x i j : ℝ) : EReal)
  y : ∀ (i : Fin 4096) (j : Fin 1024), (m ((c : Thread nD τ).loc main_arg1) : FVec Ideal S4096x1024 .f32) (ix2 i j) = ((D.y i j : ℝ) : EReal)
  gq : ∀ d : Fin 64, (m ((c : Thread nD τ).loc main_arg2) : FVec Ideal S64 .f32) (ix1 d) = ((D.gq d : ℝ) : EReal)
  gk : ∀ d : Fin 64, (m ((c : Thread nD τ).loc main_arg3) : FVec Ideal S64 .f32) (ix1 d) = ((D.gk d : ℝ) : EReal)
  s : ∀ h : Fin 16, (m ((c : Thread nD τ).loc main_arg4) : FVec Ideal S16 .f32) (ix1 h) = ((D.s h : ℝ) : EReal)

/-- The index maps and the coordinates of a point. -/
theorem idx_in : ∀ t : Fin cfg0.N, win0_0.index t = ![t.val / 32, 0, t.val % 32, 0] ∧ win0_1.index t = ![t.val / 32, t.val % 32 - 1, 0]
    ∧ win0_2.index t = ![t.val / 32, t.val % 32, 0] ∧ win0_3.index t = ![t.val / 32, t.val % 32 - 1, 0]
    ∧ win0_4.index t = ![t.val / 32, t.val % 32, 0] ∧ win0_5.index t = ![t.val / 32, 0, t.val % 32, 0]
    ∧ win0_6.index t = ![0, 0] ∧ win0_7.index t = ![0, 0] ∧ win0_8.index t = ![0] ∧ t.val / 32 < 4 :=
  (by decide +kernel : ∀ t : Fin grid0.N, _)

theorem idx_out : ∀ t : Fin cfg0.N, win0_9.index t = ![t.val / 32, 0, t.val % 32, 0] ∧ win0_10.index t = ![t.val / 32, t.val % 32, 0]
    ∧ win0_11.index t = ![t.val / 32, t.val % 32, 0] ∧ win0_12.index t = ![t.val / 32, t.val % 32, 0]
    ∧ win0_13.index t = ![t.val / 32, t.val % 32, 0] ∧ win0_14.index t = ![0, 0]
    ∧ win0_15.index t = ![0, 0] ∧ win0_16.index t = ![t.val / 32, 0, 0] ∧ t.val / 32 < 4 :=
  (by decide +kernel : ∀ t : Fin grid0.N, _)

theorem coords_val : ∀ t : Fin cfg0.N, (grid0.coords t 0).val = t.val / 32 ∧ (grid0.coords t 1).val = t.val % 32 :=
  (by decide +kernel : ∀ t : Fin grid0.N, _)

variable {D : Data} {m : (ℓ : Loc nD τ sig) → Buf (Elt Ideal) ℓ} {c : Dev nD} (R : Reads D m c)
include R

theorem in0 (t : Fin cfg0.N) (g : Fin 4) (i : Fin 128) (d : Fin 64) :
    (iblk m c 0 t : FVec Ideal S1x4x128x64 .f32) (ix4 0 g i d) = ((D.x (t.val % 32 * 128 + i) (t.val / 32 * 256 + g * 64 + d) : ℝ) : EReal) := by
  blk_simp [iblk]
  entry_read
  pointwise
  refine Eq.trans (R.x _ _) (congrArg _ (congrArg₂ D.x ?_ ?_))
  · blk_simp [idx_in t]
    try omega
  · blk_simp [idx_in t]
    show (t.val / 32 + 0) * 256 + g * 64 + d = _
    omega

theorem in1 (t : Fin cfg0.N) (i : Fin 128) (d : Fin 64) :
    (iblk m c 1 t : FVec Ideal S1x128x64 .f32) (ix3 0 i d) = ((D.x ((t.val % 32 - 1) * 128 + i) (1024 + t.val / 32 * 64 + d) : ℝ) : EReal) := by
  blk_simp [iblk]
  entry_read
  pointwise
  refine Eq.trans (R.x _ _) (congrArg _ (congrArg₂ D.x ?_ ?_))
  · blk_simp [idx_in t]
    try omega
  · blk_simp [idx_in t]
    show 1024 + ((t.val / 32 + 0) * 64 + d) = _
    omega

theorem in2 (t : Fin cfg0.N) (i : Fin 128) (d : Fin 64) :
    (iblk m c 2 t : FVec Ideal S1x128x64 .f32) (ix3 0 i d) = ((D.x (t.val % 32 * 128 + i) (1024 + t.val / 32 * 64 + d) : ℝ) : EReal) := by
  blk_simp [iblk]
  entry_read
  pointwise
  refine Eq.trans (R.x _ _) (congrArg _ (congrArg₂ D.x ?_ ?_))
  · blk_simp [idx_in t]
    try omega
  · blk_simp [idx_in t]
    show 1024 + ((t.val / 32 + 0) * 64 + d) = _
    omega

theorem in3 (t : Fin cfg0.N) (i : Fin 128) (d : Fin 64) :
    (iblk m c 3 t : FVec Ideal S1x128x64 .f32) (ix3 0 i d) = ((D.x ((t.val % 32 - 1) * 128 + i) (1280 + t.val / 32 * 64 + d) : ℝ) : EReal) := by
  blk_simp [iblk]
  entry_read
  pointwise
  refine Eq.trans (R.x _ _) (congrArg _ (congrArg₂ D.x ?_ ?_))
  · blk_simp [idx_in t]
    try omega
  · blk_simp [idx_in t]
    show 1280 + ((t.val / 32 + 0) * 64 + d) = _
    omega

theorem in4 (t : Fin cfg0.N) (i : Fin 128) (d : Fin 64) :
    (iblk m c 4 t : FVec Ideal S1x128x64 .f32) (ix3 0 i d) = ((D.x (t.val % 32 * 128 + i) (1280 + t.val / 32 * 64 + d) : ℝ) : EReal) := by
  blk_simp [iblk]
  entry_read
  pointwise
  refine Eq.trans (R.x _ _) (congrArg _ (congrArg₂ D.x ?_ ?_))
  · blk_simp [idx_in t]
    try omega
  · blk_simp [idx_in t]
    show 1280 + ((t.val / 32 + 0) * 64 + d) = _
    omega

theorem in5 (t : Fin cfg0.N) (g : Fin 4) (i : Fin 128) (d : Fin 64) :
    (iblk m c 5 t : FVec Ideal S1x4x128x64 .f32) (ix4 0 g i d) = ((D.y (t.val % 32 * 128 + i) (t.val / 32 * 256 + g * 64 + d) : ℝ) : EReal) := by
  blk_simp [iblk]
  entry_read
  pointwise
  refine Eq.trans (R.y _ _) (congrArg _ (congrArg₂ D.y ?_ ?_))
  · blk_simp [idx_in t]
    try omega
  · blk_simp [idx_in t]
    show (t.val / 32 + 0) * 256 + g * 64 + d = _
    omega

theorem in6 (t : Fin cfg0.N) (d : Fin 64) :
    (iblk m c 6 t : FVec Ideal S1x64 .f32) (ix2 0 d) = ((D.gq d : ℝ) : EReal) := by
  blk_simp [iblk]
  entry_read
  pointwise
  refine Eq.trans (R.gq _) (congrArg _ (congrArg D.gq ?_))
  blk_simp [idx_in t]
  try omega

theorem in7 (t : Fin cfg0.N) (d : Fin 64) :
    (iblk m c 7 t : FVec Ideal S1x64 .f32) (ix2 0 d) = ((D.gk d : ℝ) : EReal) := by
  blk_simp [iblk]
  entry_read
  pointwise
  refine Eq.trans (R.gk _) (congrArg _ (congrArg D.gk ?_))
  blk_simp [idx_in t]
  try omega

theorem in8_at (t : Fin cfg0.N) (h : Fin 16) : (iblk m c 8 t : FVec Ideal S16 .f32) (ix1 h) = ((D.s h : ℝ) : EReal) := by
  blk_simp [iblk]
  entry_read
  refine Eq.trans (congrArg _ ?_) (R.s h)
  blk_ext [idx_in t]

omit R in
theorem off1 : ∀ (i : grid0.Coords) (h : Fin 4), k0_off1 i (BitVec.ofNat 32 h) 0 = i 0 * 4 + h := by decide +kernel

omit R in
theorem sink_at (i : grid0.Coords) (x : FVec Ideal S16 .f32) (h : Fin 4) (k : Fin 16) (hk : k.val = i 0 * 4 + h) :
    sink (F := Ideal) i x h = x (ix1 k) := by
  have e := off1 i h
  unfold sink
  pointwise
  exact congrArg x (congrArg ix1 (Fin.ext (by show k0_off1 i (BitVec.ofNat 32 h) 0 = k.val; rw [e, hk])))

omit R in
theorem row_lt (t : Fin cfg0.N) : t.val / 32 < 4 := (idx_in t).2.2.2.2.2.2.2.2.2

theorem in8 (t : Fin cfg0.N) (h : Fin 4) :
    sink (F := Ideal) (grid0.coords t) (iblk m c 8 t) h = ((D.s (t.val / 32 * 4 + h) : ℝ) : EReal) := by
  have hb : t.val / 32 * 4 + h < 16 := by have := row_lt t; omega
  have e : (⟨t.val / 32 * 4 + h, hb⟩ : Fin 16).val = grid0.coords t 0 * 4 + h := by rw [(coords_val t).1]
  rw [sink_at (grid0.coords t) (iblk m c 8 t) h ⟨t.val / 32 * 4 + h, hb⟩ e]
  exact in8_at R t _

end Attn

end
-- ==== Proof.Attn.Arrays.lean ====
/- The eight result arrays of the attention backward kernel, as functions of the call's real data. -/
module

public import proofs.«01_k».proof.Proof.Attn.Data
public import proofs.«01_k».proof.Proof.Gen.KernelIdeal.Value
public import Idealize.ShloMosaic.Lib.Pipeline.ValueKit
public import Idealize.ShloMosaic.Lib.Pipeline.ValueKit
public import Idealize.ShloMosaic.Lib.Pipeline.ValueKit

@[expose] public section

set_option maxRecDepth 16384

noncomputable section

namespace Attn

/-- The position of a row within its block. -/
abbrev pos (t : Fin 4096) : Fin 128 := ⟨t % 128, by omega⟩

namespace Data

variable (D : Data)

/-- The results of the call. -/
def rdq (a g : Fin 4) (t : Fin 4096) (d : Fin 64) : ℝ := (D.blk a (t / 128)).dq g (pos t) d
def rdkp (a : Fin 4) (t : Fin 4096) (d : Fin 64) : ℝ := (D.blk a (t / 128)).dk (Pay.lo (pos t)) d
def rdkc (a : Fin 4) (t : Fin 4096) (d : Fin 64) : ℝ := (D.blk a (t / 128)).dk (Pay.up (pos t)) d
def rdvp (a : Fin 4) (t : Fin 4096) (d : Fin 64) : ℝ := (D.blk a (t / 128)).dv (Pay.lo (pos t)) d
def rdvc (a : Fin 4) (t : Fin 4096) (d : Fin 64) : ℝ := (D.blk a (t / 128)).dv (Pay.up (pos t)) d
def rdgq (d : Fin 64) : ℝ := ∑ p ∈ Finset.range 128, (D.blk (p / 32) (p % 32)).dgq d
def rdgk (d : Fin 64) : ℝ := ∑ p ∈ Finset.range 128, (D.blk (p / 32) (p % 32)).dgk d
def rdsk (a g : Fin 4) : ℝ := ∑ n ∈ Finset.range 32, (D.blk a n).dsk g

/-- What the kernel reads before the first block is seen by no query. -/
theorem agree (a n : ℕ) : Blk.Agree (D.kblk a n) (D.blk a n) where
  q := rfl
  o := rfl
  gq := rfl
  gk := rfl
  sk := rfl
  sl := rfl
  ok := rfl
  kv j hj := by
    by_cases h : n = 0
    · subst h
      have h128 : ¬ (j : ℕ) < 128 := fun h => unseen_zero h hj
      constructor <;> (funext d; simp only [kblk, blk, if_neg h128])
    · constructor <;> (funext d; simp only [kblk, blk, if_neg h])

end Data

open Idealize.ShloMosaic Idealize.ShloMosaic.TcCoe Idealize.SL.Sem
open Cert.KernelIdeal Cert.KernelIdeal.Gen Attn.Body Attn.Outs

theorem wa_eq (t : Fin cfg0.N) : wa t = BitVec.ofNat 32 (t.val / 32) := by unfold wa; rw [(coords_val t).1]
theorem wn_eq (t : Fin cfg0.N) : wn t = BitVec.ofNat 32 (t.val % 32) := by unfold wn; rw [(coords_val t).2]

variable {D : Data} {m : (ℓ : Loc nD τ sig) → Buf (Elt Ideal) ℓ} {c : Dev nD} (R : Reads D m c)
include R

theorem holds (t : Fin cfg0.N) :
    Holds (D.kblk (t.val / 32) (t.val % 32)) ⟨t.val / 32, row_lt t⟩ ⟨t.val % 32, Nat.mod_lt _ (by norm_num)⟩
      (iblk m c 0 t) (iblk m c 1 t) (iblk m c 2 t) (iblk m c 3 t) (iblk m c 4 t) (iblk m c 5 t) (iblk m c 6 t) (iblk m c 7 t)
      (sink (F := Ideal) (grid0.coords t) (iblk m c 8 t) 0) (sink (F := Ideal) (grid0.coords t) (iblk m c 8 t) 1)
      (sink (F := Ideal) (grid0.coords t) (iblk m c 8 t) 2) (sink (F := Ideal) (grid0.coords t) (iblk m c 8 t) 3) where
  h0 g i d := in0 R t g i d
  h1 i d := (in1 R t i d).trans (by simp only [Data.kblk, Pay.lo, i.isLt, if_true])
  h2 i d := (in2 R t i d).trans (by simp [Data.kblk, Pay.up])
  h3 i d := (in3 R t i d).trans (by simp only [Data.kblk, Pay.lo, i.isLt, if_true])
  h4 i d := (in4 R t i d).trans (by simp [Data.kblk, Pay.up])
  h5 g i d := in5 R t g i d
  h6 d := in6 R t d
  h7 d := in7 R t d
  hs0 := in8 R t 0
  hs1 := in8 R t 1
  hs2 := in8 R t 2
  hs3 := in8 R t 3
  hok := rfl
  hsl _ := rfl

theorem out9 (t : Fin cfg0.N) (g : Fin 4) (i : Fin 128) (d : Fin 64) :
    ((outsAt0 m c t.val t.isLt).1 : FVec Ideal S1x4x128x64 .f32) (ix4 0 g i d) = (((D.blk (t.val / 32) (t.val % 32)).dq g i d : ℝ) : EReal) := by
  have h := (holds R t).v9 g i d
  rw [(D.agree _ _).dq] at h
  by_cases h0 : t.val % 128 = 0
  · rw [at9_A m c t h0 (by omega), P9, wa_eq, wn_eq]; exact h
  · by_cases h1 : t.val % 32 = 0
    · rw [at9_C m c t h0 h1, P9, wa_eq, wn_eq]; exact h
    · rw [at9_B m c t h0 h1, P9, wa_eq, wn_eq]; exact h

theorem out10 (t : Fin cfg0.N) (i : Fin 128) (d : Fin 64) :
    ((outsAt0 m c t.val t.isLt).2.1 : FVec Ideal S1x128x64 .f32) (ix3 0 i d) = (((D.blk (t.val / 32) (t.val % 32)).dk (Pay.lo i) d : ℝ) : EReal) := by
  have h := (holds R t).v10 i d
  rw [(D.agree _ _).dk] at h
  by_cases h0 : t.val % 128 = 0
  · rw [at10_A m c t h0 (by omega), P10, wa_eq, wn_eq]; exact h
  · by_cases h1 : t.val % 32 = 0
    · rw [at10_C m c t h0 h1, P10, wa_eq, wn_eq]; exact h
    · rw [at10_B m c t h0 h1, P10, wa_eq, wn_eq]; exact h

theorem out11 (t : Fin cfg0.N) (i : Fin 128) (d : Fin 64) :
    ((outsAt0 m c t.val t.isLt).2.2.1 : FVec Ideal S1x128x64 .f32) (ix3 0 i d) = (((D.blk (t.val / 32) (t.val % 32)).dk (Pay.up i) d : ℝ) : EReal) := by
  have h := (holds R t).v11 i d
  rw [(D.agree _ _).dk] at h
  by_cases h0 : t.val % 128 = 0
  · rw [at11_A m c t h0 (by omega), P11, wa_eq, wn_eq]; exact h
  · by_cases h1 : t.val % 32 = 0
    · rw [at11_C m c t h0 h1, P11, wa_eq, wn_eq]; exact h
    · rw [at11_B m c t h0 h1, P11, wa_eq, wn_eq]; exact h

theorem out12 (t : Fin cfg0.N) (i : Fin 128) (d : Fin 64) :
    ((outsAt0 m c t.val t.isLt).2.2.2.1 : FVec Ideal S1x128x64 .f32) (ix3 0 i d) = (((D.blk (t.val / 32) (t.val % 32)).dv (Pay.lo i) d : ℝ) : EReal) := by
  have h := (holds R t).v12 i d
  rw [(D.agree _ _).dv] at h
  by_cases h0 : t.val % 128 = 0
  · rw [at12_A m c t h0 (by omega), P12, wa_eq, wn_eq]; exact h
  · by_cases h1 : t.val % 32 = 0
    · rw [at12_C m c t h0 h1, P12, wa_eq, wn_eq]; exact h
    · rw [at12_B m c t h0 h1, P12, wa_eq, wn_eq]; exact h

theorem out13 (t : Fin cfg0.N) (i : Fin 128) (d : Fin 64) :
    ((outsAt0 m c t.val t.isLt).2.2.2.2.1 : FVec Ideal S1x128x64 .f32) (ix3 0 i d) = (((D.blk (t.val / 32) (t.val % 32)).dv (Pay.up i) d : ℝ) : EReal) := by
  have h := (holds R t).v13 i d
  rw [(D.agree _ _).dv] at h
  by_cases h0 : t.val % 128 = 0
  · rw [at13_A m c t h0 (by omega), P13, wa_eq, wn_eq]; exact h
  · by_cases h1 : t.val % 32 = 0
    · rw [at13_C m c t h0 h1, P13, wa_eq, wn_eq]; exact h
    · rw [at13_B m c t h0 h1, P13, wa_eq, wn_eq]; exact h

theorem add14 (t : Fin cfg0.N) (acc : FVec Ideal S1x64 .f32) (d : Fin 64) :
    P14 m c t acc (ix2 0 d) = acc (ix2 0 d) + (((D.blk (t.val / 32) (t.val % 32)).dgq d : ℝ) : EReal) := by
  have h := (holds R t).v14 acc d
  rw [(D.agree _ _).dgq] at h
  rw [P14, wa_eq, wn_eq]; exact h

theorem acc14 (d : Fin 64) : ∀ (n : ℕ) (hn : n < cfg0.N), ((outsAt0 m c n hn).2.2.2.2.2.1 : FVec Ideal S1x64 .f32) (ix2 0 d)
    = ((∑ p ∈ Finset.range (n + 1), (D.blk (p / 32) (p % 32)).dgq d : ℝ) : EReal)
  | 0, hn => by
    rw [at14_A m c ⟨0, hn⟩ rfl rfl, add14 R, zero14, zero_add, Finset.sum_range_one]
  | n + 1, hn => by
    have hN : n + 1 < 128 := hn
    have ih := acc14 d n (Nat.lt_of_succ_lt hn)
    have h0 : ¬ (⟨n + 1, hn⟩ : Fin cfg0.N).val % 128 = 0 := by show ¬ (n + 1) % 128 = 0; omega
    rw [Finset.sum_range_succ, ← coe_add, ← ih]
    by_cases h1 : (⟨n + 1, hn⟩ : Fin cfg0.N).val % 32 = 0
    · rw [at14_C m c ⟨n + 1, hn⟩ h0 h1, add14 R]; rfl
    · rw [at14_B m c ⟨n + 1, hn⟩ h0 h1, add14 R]; rfl

theorem add15 (t : Fin cfg0.N) (acc : FVec Ideal S1x64 .f32) (d : Fin 64) :
    P15 m c t acc (ix2 0 d) = acc (ix2 0 d) + (((D.blk (t.val / 32) (t.val % 32)).dgk d : ℝ) : EReal) := by
  have h := (holds R t).v15 acc d
  rw [(D.agree _ _).dgk] at h
  rw [P15, wa_eq, wn_eq]; exact h

theorem acc15 (d : Fin 64) : ∀ (n : ℕ) (hn : n < cfg0.N), ((outsAt0 m c n hn).2.2.2.2.2.2.1 : FVec Ideal S1x64 .f32) (ix2 0 d)
    = ((∑ p ∈ Finset.range (n + 1), (D.blk (p / 32) (p % 32)).dgk d : ℝ) : EReal)
  | 0, hn => by
    rw [at15_A m c ⟨0, hn⟩ rfl rfl, add15 R, zero15, zero_add, Finset.sum_range_one]
  | n + 1, hn => by
    have hN : n + 1 < 128 := hn
    have ih := acc15 d n (Nat.lt_of_succ_lt hn)
    have h0 : ¬ (⟨n + 1, hn⟩ : Fin cfg0.N).val % 128 = 0 := by show ¬ (n + 1) % 128 = 0; omega
    rw [Finset.sum_range_succ, ← coe_add, ← ih]
    by_cases h1 : (⟨n + 1, hn⟩ : Fin cfg0.N).val % 32 = 0
    · rw [at15_C m c ⟨n + 1, hn⟩ h0 h1, add15 R]; rfl
    · rw [at15_B m c ⟨n + 1, hn⟩ h0 h1, add15 R]; rfl

theorem add16 (t : Fin cfg0.N) (acc : FVec Ideal S1x4x128 .f32) (g : Fin 4) (l : Fin 128) :
    P16 m c t acc (ix3 0 g l) = acc (ix3 0 g l) + (((D.blk (t.val / 32) (t.val % 32)).dsk g : ℝ) : EReal) := by
  have h := (holds R t).v16 acc g l
  rw [(D.agree _ _).dsk] at h
  rw [P16, wa_eq, wn_eq]; exact h

theorem acc16 (g : Fin 4) (l : Fin 128) : ∀ (n : ℕ) (hn : n < cfg0.N), ((outsAt0 m c n hn).2.2.2.2.2.2.2 : FVec Ideal S1x4x128 .f32) (ix3 0 g l)
    = ((∑ p ∈ Finset.range (n % 32 + 1), (D.blk (n / 32) p).dsk g : ℝ) : EReal)
  | 0, hn => by
    rw [at16_A m c ⟨0, hn⟩ rfl rfl, add16 R, zero16, zero_add, Nat.zero_mod, Finset.sum_range_one]
  | n + 1, hn => by
    have hN : n + 1 < 128 := hn
    have ih := acc16 g l n (Nat.lt_of_succ_lt hn)
    by_cases h1 : (n + 1) % 32 = 0
    · rw [h1, zero_add, Finset.sum_range_one]
      have key : P16 m c ⟨n + 1, hn⟩ (k0_pay42 (F := Ideal)) (ix3 0 g l) = (((D.blk ((n + 1) / 32) 0).dsk g : ℝ) : EReal) := by
        rw [add16 R, zero16, zero_add]
        show (((D.blk ((n + 1) / 32) ((n + 1) % 32)).dsk g : ℝ) : EReal) = _
        rw [h1]
      rw [at16_C m c ⟨n + 1, hn⟩ (by show ¬ (n + 1) % 128 = 0; omega) h1]; exact key
    · have e1 : (n + 1) % 32 = n % 32 + 1 := by omega
      have e2 : (n + 1) / 32 = n / 32 := by omega
      have key : ∀ acc : FVec Ideal S1x4x128 .f32, P16 m c ⟨n + 1, hn⟩ acc (ix3 0 g l)
          = acc (ix3 0 g l) + (((D.blk (n / 32) (n % 32 + 1)).dsk g : ℝ) : EReal) := by
        intro acc
        rw [← e1, ← e2]
        exact add16 R ⟨n + 1, hn⟩ acc g l
      rw [at16_B m c ⟨n + 1, hn⟩ (by show ¬ (n + 1) % 128 = 0; omega) h1, key, e1, e2, Finset.sum_range_succ, ← coe_add, ← ih]
      rfl

end Attn

end
-- ==== Proof.Attn.Final.lean ====
/- The final result arrays of the attention backward kernel. -/
module

public import proofs.«01_k».proof.Proof.Attn.Arrays

@[expose] public section

set_option maxRecDepth 16384

noncomputable section

namespace Attn

theorem pos_eq {T : Fin 4096} {i : Fin 128} {n : ℕ} (h : T.val = n * 128 + i.val) : T.val / 128 = n ∧ pos T = i :=
  ⟨by omega, Fin.ext (by show T.val % 128 = i.val; omega)⟩

namespace Data

variable (D : Data)

theorem rdq_at {a g g' : Fin 4} {T : Fin 4096} {d d' : Fin 64} {i : Fin 128} {A n : ℕ} (ha : a.val = A) (hg : g.val = g'.val)
    (hT : T.val = n * 128 + i.val) (hd : d.val = d'.val) : D.rdq a g T d = (D.blk A n).dq g' i d' := by
  obtain rfl := Fin.ext hg; obtain rfl := Fin.ext hd; subst ha
  rw [rdq, (pos_eq hT).1, (pos_eq hT).2]

theorem rdkp_at {a : Fin 4} {T : Fin 4096} {d d' : Fin 64} {i : Fin 128} {A n : ℕ} (ha : a.val = A)
    (hT : T.val = n * 128 + i.val) (hd : d.val = d'.val) : D.rdkp a T d = (D.blk A n).dk (Pay.lo i) d' := by
  obtain rfl := Fin.ext hd; subst ha
  rw [rdkp, (pos_eq hT).1, (pos_eq hT).2]

theorem rdkc_at {a : Fin 4} {T : Fin 4096} {d d' : Fin 64} {i : Fin 128} {A n : ℕ} (ha : a.val = A)
    (hT : T.val = n * 128 + i.val) (hd : d.val = d'.val) : D.rdkc a T d = (D.blk A n).dk (Pay.up i) d' := by
  obtain rfl := Fin.ext hd; subst ha
  rw [rdkc, (pos_eq hT).1, (pos_eq hT).2]

theorem rdvp_at {a : Fin 4} {T : Fin 4096} {d d' : Fin 64} {i : Fin 128} {A n : ℕ} (ha : a.val = A)
    (hT : T.val = n * 128 + i.val) (hd : d.val = d'.val) : D.rdvp a T d = (D.blk A n).dv (Pay.lo i) d' := by
  obtain rfl := Fin.ext hd; subst ha
  rw [rdvp, (pos_eq hT).1, (pos_eq hT).2]

theorem rdvc_at {a : Fin 4} {T : Fin 4096} {d d' : Fin 64} {i : Fin 128} {A n : ℕ} (ha : a.val = A)
    (hT : T.val = n * 128 + i.val) (hd : d.val = d'.val) : D.rdvc a T d = (D.blk A n).dv (Pay.up i) d' := by
  obtain rfl := Fin.ext hd; subst ha
  rw [rdvc, (pos_eq hT).1, (pos_eq hT).2]

end Data

open Idealize.ShloMosaic Idealize.ShloMosaic.TcCoe Idealize.SL.Sem
open Cert.KernelIdeal Cert.KernelIdeal.Gen Attn.Body Attn.Outs

theorem eta4 (y : S1x4x128x64.Idx) : y = ix4 0 (y 1) (y 2) (y 3) := by
  funext k; fin_cases k <;> first | exact Subsingleton.elim (α := Fin 1) _ _ | rfl
theorem eta3 (y : S1x128x64.Idx) : y = ix3 0 (y 1) (y 2) := by
  funext k; fin_cases k <;> first | exact Subsingleton.elim (α := Fin 1) _ _ | rfl
theorem eta3' (y : S1x4x128.Idx) : y = ix3 0 (y 1) (y 2) := by
  funext k; fin_cases k <;> first | exact Subsingleton.elim (α := Fin 1) _ _ | rfl
theorem eta2 (y : S1x64.Idx) : y = ix2 0 (y 1) := by
  funext k; fin_cases k <;> first | exact Subsingleton.elim (α := Fin 1) _ _ | rfl

variable {D : Data} {m : (ℓ : Loc nD τ sig) → Buf (Elt Ideal) ℓ} {c : Dev nD} (R : Reads D m c)
include R

theorem final9 : ((dats m 0 c).arrAt 9 cfg0.N : FVec Ideal S4x4x4096x64 .f32) = fun i => ((D.rdq (i 0) (i 1) (i 2) (i 3) : ℝ) : EReal) := by
  refine (dats m 0 c).arrAt_eq_of_covers 9 _ (by decide +kernel) fun t hf y => ?_
  blk_simp
  rw [after0_9]
  have e0 : ((win0_9.blk t).view.emb y 0 : ℕ) = t.val / 32 := by blk_simp [(idx_out t).1]
  have e1 : ((win0_9.blk t).view.emb y 1 : ℕ) = (y 1 : ℕ) := by blk_simp [(idx_out t).1]
  have e2 : ((win0_9.blk t).view.emb y 2 : ℕ) = t.val % 32 * 128 + (y 2 : ℕ) := by blk_simp [(idx_out t).1]
  have e3 : ((win0_9.blk t).view.emb y 3 : ℕ) = (y 3 : ℕ) := by blk_simp [(idx_out t).1]
  rw [D.rdq_at (g' := (y : S1x4x128x64.Idx) 1) (i := (y : S1x4x128x64.Idx) 2) (d' := (y : S1x4x128x64.Idx) 3) e0 e1 e2 e3]
  have h := out9 R t ((y : S1x4x128x64.Idx) 1) ((y : S1x4x128x64.Idx) 2) ((y : S1x4x128x64.Idx) 3)
  exact (congrArg (fun z : S1x4x128x64.Idx => ((outsAt0 m c t.val t.isLt).1 : FVec Ideal S1x4x128x64 .f32) z) (eta4 y)).trans h

theorem final10 : ((dats m 0 c).arrAt 10 cfg0.N : FVec Ideal S4x4096x64 .f32) = fun i => ((D.rdkp (i 0) (i 1) (i 2) : ℝ) : EReal) := by
  refine (dats m 0 c).arrAt_eq_of_covers 10 _ (by decide +kernel) fun t hf y => ?_
  blk_simp
  rw [after0_10]
  have e0 : ((win0_10.blk t).view.emb y 0 : ℕ) = t.val / 32 := by blk_simp [(idx_out t).2.1]
  have e1 : ((win0_10.blk t).view.emb y 1 : ℕ) = t.val % 32 * 128 + (y 1 : ℕ) := by blk_simp [(idx_out t).2.1]
  have e2 : ((win0_10.blk t).view.emb y 2 : ℕ) = (y 2 : ℕ) := by blk_simp [(idx_out t).2.1]
  rw [D.rdkp_at (i := (y : S1x128x64.Idx) 1) (d' := (y : S1x128x64.Idx) 2) e0 e1 e2]
  have h := out10 R t ((y : S1x128x64.Idx) 1) ((y : S1x128x64.Idx) 2)
  exact (congrArg (fun z : S1x128x64.Idx => ((outsAt0 m c t.val t.isLt).2.1 : FVec Ideal S1x128x64 .f32) z) (eta3 y)).trans h

theorem final11 : ((dats m 0 c).arrAt 11 cfg0.N : FVec Ideal S4x4096x64 .f32) = fun i => ((D.rdkc (i 0) (i 1) (i 2) : ℝ) : EReal) := by
  refine (dats m 0 c).arrAt_eq_of_covers 11 _ (by decide +kernel) fun t hf y => ?_
  blk_simp
  rw [after0_11]
  have e0 : ((win0_11.blk t).view.emb y 0 : ℕ) = t.val / 32 := by blk_simp [(idx_out t).2.2.1]
  have e1 : ((win0_11.blk t).view.emb y 1 : ℕ) = t.val % 32 * 128 + (y 1 : ℕ) := by blk_simp [(idx_out t).2.2.1]
  have e2 : ((win0_11.blk t).view.emb y 2 : ℕ) = (y 2 : ℕ) := by blk_simp [(idx_out t).2.2.1]
  rw [D.rdkc_at (i := (y : S1x128x64.Idx) 1) (d' := (y : S1x128x64.Idx) 2) e0 e1 e2]
  have h := out11 R t ((y : S1x128x64.Idx) 1) ((y : S1x128x64.Idx) 2)
  exact (congrArg (fun z : S1x128x64.Idx => ((outsAt0 m c t.val t.isLt).2.2.1 : FVec Ideal S1x128x64 .f32) z) (eta3 y)).trans h

theorem final12 : ((dats m 0 c).arrAt 12 cfg0.N : FVec Ideal S4x4096x64 .f32) = fun i => ((D.rdvp (i 0) (i 1) (i 2) : ℝ) : EReal) := by
  refine (dats m 0 c).arrAt_eq_of_covers 12 _ (by decide +kernel) fun t hf y => ?_
  blk_simp
  rw [after0_12]
  have e0 : ((win0_12.blk t).view.emb y 0 : ℕ) = t.val / 32 := by blk_simp [(idx_out t).2.2.2.1]
  have e1 : ((win0_12.blk t).view.emb y 1 : ℕ) = t.val % 32 * 128 + (y 1 : ℕ) := by blk_simp [(idx_out t).2.2.2.1]
  have e2 : ((win0_12.blk t).view.emb y 2 : ℕ) = (y 2 : ℕ) := by blk_simp [(idx_out t).2.2.2.1]
  rw [D.rdvp_at (i := (y : S1x128x64.Idx) 1) (d' := (y : S1x128x64.Idx) 2) e0 e1 e2]
  have h := out12 R t ((y : S1x128x64.Idx) 1) ((y : S1x128x64.Idx) 2)
  exact (congrArg (fun z : S1x128x64.Idx => ((outsAt0 m c t.val t.isLt).2.2.2.1 : FVec Ideal S1x128x64 .f32) z) (eta3 y)).trans h

theorem final13 : ((dats m 0 c).arrAt 13 cfg0.N : FVec Ideal S4x4096x64 .f32) = fun i => ((D.rdvc (i 0) (i 1) (i 2) : ℝ) : EReal) := by
  refine (dats m 0 c).arrAt_eq_of_covers 13 _ (by decide +kernel) fun t hf y => ?_
  blk_simp
  rw [after0_13]
  have e0 : ((win0_13.blk t).view.emb y 0 : ℕ) = t.val / 32 := by blk_simp [(idx_out t).2.2.2.2.1]
  have e1 : ((win0_13.blk t).view.emb y 1 : ℕ) = t.val % 32 * 128 + (y 1 : ℕ) := by blk_simp [(idx_out t).2.2.2.2.1]
  have e2 : ((win0_13.blk t).view.emb y 2 : ℕ) = (y 2 : ℕ) := by blk_simp [(idx_out t).2.2.2.2.1]
  rw [D.rdvc_at (i := (y : S1x128x64.Idx) 1) (d' := (y : S1x128x64.Idx) 2) e0 e1 e2]
  have h := out13 R t ((y : S1x128x64.Idx) 1) ((y : S1x128x64.Idx) 2)
  exact (congrArg (fun z : S1x128x64.Idx => ((outsAt0 m c t.val t.isLt).2.2.2.2.1 : FVec Ideal S1x128x64 .f32) z) (eta3 y)).trans h

theorem final14 : ((dats m 0 c).arrAt 14 cfg0.N : FVec Ideal S1x64 .f32) = fun i => ((D.rdgq (i 1) : ℝ) : EReal) := by
  refine (dats m 0 c).arrAt_eq_of_covers 14 _ (by decide +kernel) fun t hf y => ?_
  blk_simp
  rw [after0_14]
  have e1 : (win0_14.blk t).view.emb y 1 = (y : S1x64.Idx) 1 := Fin.ext (by blk_simp [(idx_out t).2.2.2.2.2.1])
  have ht : t.val % 128 = 127 := (flush0_14 t).mp hf
  have hN : t.val < 128 := t.isLt
  have h := acc14 R ((y : S1x64.Idx) 1) t.val t.isLt
  rw [(by omega : t.val + 1 = 128)] at h
  rw [e1]
  exact (congrArg (fun z : S1x64.Idx => ((outsAt0 m c t.val t.isLt).2.2.2.2.2.1 : FVec Ideal S1x64 .f32) z) (eta2 y)).trans h

theorem final15 : ((dats m 0 c).arrAt 15 cfg0.N : FVec Ideal S1x64 .f32) = fun i => ((D.rdgk (i 1) : ℝ) : EReal) := by
  refine (dats m 0 c).arrAt_eq_of_covers 15 _ (by decide +kernel) fun t hf y => ?_
  blk_simp
  rw [after0_15]
  have e1 : (win0_15.blk t).view.emb y 1 = (y : S1x64.Idx) 1 := Fin.ext (by blk_simp [(idx_out t).2.2.2.2.2.2.1])
  have ht : t.val % 128 = 127 := (flush0_15 t).mp hf
  have hN : t.val < 128 := t.isLt
  have h := acc15 R ((y : S1x64.Idx) 1) t.val t.isLt
  rw [(by omega : t.val + 1 = 128)] at h
  rw [e1]
  exact (congrArg (fun z : S1x64.Idx => ((outsAt0 m c t.val t.isLt).2.2.2.2.2.2.1 : FVec Ideal S1x64 .f32) z) (eta2 y)).trans h

theorem final16 : ((dats m 0 c).arrAt 16 cfg0.N : FVec Ideal S4x4x128 .f32) = fun i => ((D.rdsk (i 0) (i 1) : ℝ) : EReal) := by
  refine (dats m 0 c).arrAt_eq_of_covers 16 _ (by decide +kernel) fun t hf y => ?_
  blk_simp
  rw [after0_16]
  have e0 : ((win0_16.blk t).view.emb y 0 : ℕ) = t.val / 32 := by blk_simp [(idx_out t).2.2.2.2.2.2.2.1]
  have e1 : (win0_16.blk t).view.emb y 1 = (y : S1x4x128.Idx) 1 := Fin.ext (by blk_simp [(idx_out t).2.2.2.2.2.2.2.1])
  have ht : t.val % 32 = 31 := (flush0_16 t).mp hf
  have h := acc16 R ((y : S1x4x128.Idx) 1) ((y : S1x4x128.Idx) 2) t.val t.isLt
  rw [ht] at h
  rw [e1]
  unfold Data.rdsk
  rw [e0]
  exact (congrArg (fun z : S1x4x128.Idx => ((outsAt0 m c t.val t.isLt).2.2.2.2.2.2.2 : FVec Ideal S1x4x128 .f32) z) (eta3' y)).trans h

omit R in
/-- The run of the kernel: each result is one function of the call's data, and the arguments stay. -/
theorem run (m : (ℓ : Loc nD τ sig) → Buf (Elt Ideal) ℓ) (ρ) (D : Dev nD → Data) (R : ∀ c, Reads (D c) m c) :
    θ_run defs (onTc (τ := τ) (main (F := Ideal))) ⟨m, fun _ => 0, ρ⟩ fun r => ∀ c : Dev nD,
      r.2.mem ((c : Thread nD τ).loc main_v13_0) = (fun i => (((D c).rdq (i 0) (i 1) (i 2) (i 3) : ℝ) : EReal) : FVec Ideal S4x4x4096x64 .f32)
      ∧ r.2.mem ((c : Thread nD τ).loc main_v13_1) = (fun i => (((D c).rdkp (i 0) (i 1) (i 2) : ℝ) : EReal) : FVec Ideal S4x4096x64 .f32)
      ∧ r.2.mem ((c : Thread nD τ).loc main_v13_2) = (fun i => (((D c).rdkc (i 0) (i 1) (i 2) : ℝ) : EReal) : FVec Ideal S4x4096x64 .f32)
      ∧ r.2.mem ((c : Thread nD τ).loc main_v13_3) = (fun i => (((D c).rdvp (i 0) (i 1) (i 2) : ℝ) : EReal) : FVec Ideal S4x4096x64 .f32)
      ∧ r.2.mem ((c : Thread nD τ).loc main_v13_4) = (fun i => (((D c).rdvc (i 0) (i 1) (i 2) : ℝ) : EReal) : FVec Ideal S4x4096x64 .f32)
      ∧ r.2.mem ((c : Thread nD τ).loc main_v13_5) = (fun i => (((D c).rdgq (i 1) : ℝ) : EReal) : FVec Ideal S1x64 .f32)
      ∧ r.2.mem ((c : Thread nD τ).loc main_v13_6) = (fun i => (((D c).rdgk (i 1) : ℝ) : EReal) : FVec Ideal S1x64 .f32)
      ∧ r.2.mem ((c : Thread nD τ).loc main_v13_7) = (fun i => (((D c).rdsk (i 0) (i 1) : ℝ) : EReal) : FVec Ideal S4x4x128 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final9 (R c)), (h c).2.1.trans (final10 (R c)), (h c).2.2.1.trans (final11 (R c)),
    (h c).2.2.2.1.trans (final12 (R c)), (h c).2.2.2.2.1.trans (final13 (R c)), (h c).2.2.2.2.2.1.trans (final14 (R c)),
    (h c).2.2.2.2.2.2.1.trans (final15 (R c)), (h c).2.2.2.2.2.2.2.1.trans (final16 (R c)), (h c).2.2.2.2.2.2.2.2⟩) (Value.run_blocks m ρ)

end Attn

end
-- ==== Proof.Attn.Finite.lean ====
/- The precondition: finite inputs are real numbers. -/
module

public import proofs.«01_k».proof.Defs
public import proofs.«01_k».proof.Proof.Attn.Final
public import proofs.«01_k».proof.Proof.Gen.Pre_all_finite

@[expose] public section

noncomputable section

namespace Attn

open Idealize.ShloMosaic Idealize.ShloMosaic.TcCoe Idealize.SL.Sem
open Cert.KernelIdeal Cert.KernelIdeal.Gen

/-- A value whose magnitude lies below infinity is a real number. -/
theorem real_of_abs_lt (x : EReal) (h : max x (-x) < ⊤) : ((x.toReal : ℝ) : EReal) = x := by
  refine EReal.coe_toReal ?_ ?_
  · rintro rfl; simp at h
  · rintro rfl; simp at h

/-- An array whose test of finiteness is true at every index holds real numbers. -/
theorem real_of_test {S : Shape} (X : FVec Ideal S .f32) (hb : Cert.Pre_all_finite.S_.BroadcastsInDim S (![] : Fin 0 → Fin S.rank))
    (h : cmpf .olt (Host.absf X) (broadcastInDim S ![] hb (constant (F := Ideal) Cert.Pre_all_finite.S_ .f32 0x7F800000#32)) = fun _ => 1#1) (i : S.Idx) :
    X i = (((X i : EReal).toReal : ℝ) : EReal) := by
  refine (real_of_abs_lt _ (lt_of_lt_of_le (b := (Ideal.ofBits FTy.f32 0x7F800000#32 : EReal)) ?_ le_top)).symm
  have e := congrFun h i
  by_contra hn
  have e' : BitVec.ofBool (decide (max (X i : EReal) (-X i) < (Ideal.ofBits FTy.f32 0x7F800000#32 : EReal))) = 1#1 := e
  rw [decide_eq_false hn] at e'
  exact absurd e' (by decide)

/-- The real inputs of a device, read off its memory. -/
def read (m : (ℓ : Loc nD τ sig) → Buf (Elt Ideal) ℓ) (c : Dev nD) : Data where
  x i j := if h : i < 4096 ∧ j < 1536 then ((m ((c : Thread nD τ).loc main_arg0) : FVec Ideal S4096x1536 .f32) (ix2 ⟨i, h.1⟩ ⟨j, h.2⟩) : EReal).toReal else 0
  y i j := if h : i < 4096 ∧ j < 1024 then ((m ((c : Thread nD τ).loc main_arg1) : FVec Ideal S4096x1024 .f32) (ix2 ⟨i, h.1⟩ ⟨j, h.2⟩) : EReal).toReal else 0
  gq i := if h : i < 64 then ((m ((c : Thread nD τ).loc main_arg2) : FVec Ideal S64 .f32) (ix1 ⟨i, h⟩) : EReal).toReal else 0
  gk i := if h : i < 64 then ((m ((c : Thread nD τ).loc main_arg3) : FVec Ideal S64 .f32) (ix1 ⟨i, h⟩) : EReal).toReal else 0
  s i := if h : i < 16 then ((m ((c : Thread nD τ).loc main_arg4) : FVec Ideal S16 .f32) (ix1 ⟨i, h⟩) : EReal).toReal else 0

/-- Finite inputs read as the real numbers they are. -/
theorem reads (m : (ℓ : Loc nD τ sig) → Buf (Elt Ideal) ℓ)
    (h : @Cert.Pre_KernelIdeal_all_finite Cert.Pre_all_finite.Gen.facts m) (c : Dev nD) : Reads (read m c) m c where
  x i j := by
    refine (real_of_test _ _ (h c).1 (ix2 i j)).trans ?_
    simp only [read, i.isLt, j.isLt, and_self, dite_true]
  y i j := by
    refine (real_of_test _ _ (h c).2.1 (ix2 i j)).trans ?_
    simp only [read, i.isLt, j.isLt, and_self, dite_true]
  gq i := by
    refine (real_of_test _ _ (h c).2.2.1 (ix1 i)).trans ?_
    simp only [read, i.isLt, dite_true]
  gk i := by
    refine (real_of_test _ _ (h c).2.2.2.1 (ix1 i)).trans ?_
    simp only [read, i.isLt, dite_true]
  s i := by
    refine (real_of_test _ _ (h c).2.2.2.2 (ix1 i)).trans ?_
    simp only [read, i.isLt, dite_true]

end Attn

end
-- ==== Proof.Attn.Ref1.lean ====
/- The reference's gradient of attention: its inputs and norms as functions of the call's real data. -/
module

public import proofs.«01_k».proof.Proof.Attn.Arrays
public import proofs.«01_k».proof.Proof.Gen.ReferenceIdeal.Run
public import Idealize.ShloMosaic.Lib.Claim
public import Idealize.ShloMosaic.Lib.Tactic.CleanTypes

@[expose] public section

set_option maxRecDepth 16384

noncomputable section

namespace Attn.Ref

open Idealize.ShloMosaic Idealize.ShloMosaic.TcCoe Idealize.SL.Sem Idealize.ShloMosaic.StableHlo
open Cert.ReferenceIdeal Cert.ReferenceIdeal.Gen Cert.ReferenceIdeal.Value

/-- The block of a row. -/
abbrev bl (D : Data) (a : Fin 4) (T : Fin 4096) : Blk := D.blk a (T / 128)

theorem bl_row (D : Data) (a : Fin 4) (n : Fin 32) (i : Fin 128) (h : (n : ℕ) * 128 + i < 4096) :
    bl D a ⟨(n : ℕ) * 128 + i, h⟩ = D.blk a n := by
  show D.blk a (((n : ℕ) * 128 + i) / 128) = _
  rw [(by omega : ((n : ℕ) * 128 + i) / 128 = n)]
theorem pos_row (n : Fin 32) (i : Fin 128) (h : (n : ℕ) * 128 + i < 4096) : pos ⟨(n : ℕ) * 128 + i, h⟩ = i :=
  Fin.ext (by show ((n : ℕ) * 128 + i) % 128 = i; omega)

theorem q_row (D : Data) (a g : Fin 4) (T : Fin 4096) (d : Fin 64) :
    (bl D a T).q g (pos T) d = D.x T (a * 256 + g * 64 + d) := by
  show D.x ((T : ℕ) / 128 * 128 + (T : ℕ) % 128) _ = _
  rw [Nat.div_add_mod' T 128]

theorem kv_row (f : ℕ → ℝ) (T : Fin 4096) :
    (if ((Pay.lo (pos T) : Fin 256) : ℕ) < 128 then (if (T : ℕ) / 128 = 0 then (0 : ℝ) else f (((T : ℕ) / 128 - 1) * 128 + ((Pay.lo (pos T) : Fin 256) : ℕ)))
      else f ((T : ℕ) / 128 * 128 + (((Pay.lo (pos T) : Fin 256) : ℕ) - 128))) = if (T : ℕ) < 128 then 0 else f (T - 128) := by
  have h : ((Pay.lo (pos T) : Fin 256) : ℕ) = (T : ℕ) % 128 := rfl
  rw [h, if_pos (Nat.mod_lt _ (by norm_num))]
  by_cases h0 : (T : ℕ) < 128
  · rw [if_pos h0, if_pos (by omega)]
  · rw [if_neg h0, if_neg (by omega), (by omega : ((T : ℕ) / 128 - 1) * 128 + (T : ℕ) % 128 = T - 128)]

theorem kv_row' (f : ℕ → ℝ) (T : Fin 4096) :
    (if ((Pay.up (pos T) : Fin 256) : ℕ) < 128 then (if (T : ℕ) / 128 = 0 then (0 : ℝ) else f (((T : ℕ) / 128 - 1) * 128 + ((Pay.up (pos T) : Fin 256) : ℕ)))
      else f ((T : ℕ) / 128 * 128 + (((Pay.up (pos T) : Fin 256) : ℕ) - 128))) = f T := by
  have h : ((Pay.up (pos T) : Fin 256) : ℕ) = 128 + (T : ℕ) % 128 := rfl
  rw [h, if_neg (by omega), (by omega : (T : ℕ) / 128 * 128 + (128 + (T : ℕ) % 128 - 128) = T)]

theorem k_lo (D : Data) (a : Fin 4) (T : Fin 4096) (d : Fin 64) :
    (bl D a T).k (Pay.lo (pos T)) d = if (T : ℕ) < 128 then 0 else D.x (T - 128) (1024 + a * 64 + d) := kv_row (fun r => D.x r (1024 + a * 64 + d)) T
theorem k_up (D : Data) (a : Fin 4) (T : Fin 4096) (d : Fin 64) :
    (bl D a T).k (Pay.up (pos T)) d = D.x T (1024 + a * 64 + d) := kv_row' (fun r => D.x r (1024 + a * 64 + d)) T
theorem v_lo (D : Data) (a : Fin 4) (T : Fin 4096) (d : Fin 64) :
    (bl D a T).v (Pay.lo (pos T)) d = if (T : ℕ) < 128 then 0 else D.x (T - 128) (1280 + a * 64 + d) := kv_row (fun r => D.x r (1280 + a * 64 + d)) T
theorem v_up (D : Data) (a : Fin 4) (T : Fin 4096) (d : Fin 64) :
    (bl D a T).v (Pay.up (pos T)) d = D.x T (1280 + a * 64 + d) := kv_row' (fun r => D.x r (1280 + a * 64 + d)) T

/-- The arguments hold the data. -/
structure Reads (D : Data) (V : Valuation τ sig (Elt Ideal)) : Prop where
  x : ∀ (i : Fin 4096) (j : Fin 1536), (V (Proc.devRef .tc main_arg0) : FVec Ideal S4096x1536 .f32) (ix2 i j) = ((D.x i j : ℝ) : EReal)
  y : ∀ (i : Fin 4096) (j : Fin 1024), (V (Proc.devRef .tc main_arg1) : FVec Ideal S4096x1024 .f32) (ix2 i j) = ((D.y i j : ℝ) : EReal)
  gq : ∀ d : Fin 64, (V (Proc.devRef .tc main_arg2) : FVec Ideal S64 .f32) (ix1 d) = ((D.gq d : ℝ) : EReal)
  gk : ∀ d : Fin 64, (V (Proc.devRef .tc main_arg3) : FVec Ideal S64 .f32) (ix1 d) = ((D.gk d : ℝ) : EReal)
  s : ∀ h : Fin 16, (V (Proc.devRef .tc main_arg4) : FVec Ideal S16 .f32) (ix1 h) = ((D.s h : ℝ) : EReal)

variable {D : Data} {V : Valuation τ sig (Elt Ideal)} (R : Reads D V)
include R

theorem v1 (T : Fin 4096) (a g : Fin 4) (d : Fin 64) :
    (res_main_v1 V : FVec Ideal S4096x4x4x64 .f32) (ix4 T a g d) = (((bl D a T).q g (pos T) d : ℝ) : EReal) := by
  unfold res_main_v1; clean_types; pointwise
  rw [R.x, q_row]

theorem v3 (T : Fin 4096) (a : Fin 4) (d : Fin 64) :
    (res_main_v3 V : FVec Ideal S4096x4x64 .f32) (ix3 T a d) = (((bl D a T).k (Pay.up (pos T)) d : ℝ) : EReal) := by
  unfold res_main_v3; clean_types; pointwise
  rw [R.x, k_up]
  simp only [Nat.add_assoc]

theorem v5 (T : Fin 4096) (a : Fin 4) (d : Fin 64) :
    (res_main_v5 V : FVec Ideal S4096x4x64 .f32) (ix3 T a d) = (((bl D a T).v (Pay.up (pos T)) d : ℝ) : EReal) := by
  unfold res_main_v5; clean_types; pointwise
  rw [R.x, v_up]
  simp only [Nat.add_assoc]

theorem v9 (T : Fin 4096) (a : Fin 4) (d : Fin 64) :
    (res_main_v9 V : FVec Ideal S4096x4x64 .f32) (ix3 T a d) = (((bl D a T).k (Pay.lo (pos T)) d : ℝ) : EReal) := by
  unfold res_main_v9 res_main_v3; clean_types; pointwise
  rw [k_lo]
  split_ifs with h h2
  · rfl
  · rw [R.x]; simp only [Nat.add_assoc]
  · exact absurd rfl h2

theorem v20 (T : Fin 4096) (a g : Fin 4) (z : Fin 1) :
    (res_main_v20 V : FVec Ideal S4096x4x4x1 .f32) (ix4 T a g z) = ((Blk.ms ((bl D a T).q g (pos T)) : ℝ) : EReal) := by
  unfold res_main_v20; clean_types; pointwise
  simp only [v1 R, coe_mul, coe_sum, c_64, c_eps, coe_add, div_coe _ (by norm_num : (64 : ℝ) ≠ 0)]
  rfl

theorem v21 (T : Fin 4096) (a g : Fin 4) (z : Fin 1) :
    (res_main_v21 V : FVec Ideal S4096x4x4x1 .f32) (ix4 T a g z) = ((Blk.rs ((bl D a T).q g (pos T)) : ℝ) : EReal) := by
  unfold res_main_v21; clean_types; pointwise
  rw [v20 R, rsqrt_coe (Blk.ms_pos _)]
  rfl

theorem v26 (T : Fin 4096) (a g : Fin 4) (d : Fin 64) :
    (res_main_v26 V : FVec Ideal S4096x4x4x64 .f32) (ix4 T a g d) = (((bl D a T).hq g (pos T) d : ℝ) : EReal) := by
  unfold res_main_v26; clean_types; pointwise
  rw [v1 R, v21 R, coe_mul]
  rfl

theorem v27 (d : Fin 64) : (res_main_v27 V : FVec Ideal S1x1x1x64 .f32) (ix4 0 0 0 d) = ((D.gq d : ℝ) : EReal) := by
  unfold res_main_v27; clean_types; pointwise
  exact R.gq d

theorem v36 (T : Fin 4096) (a : Fin 4) (z : Fin 1) :
    (res_main_v36 V : FVec Ideal S4096x4x1 .f32) (ix3 T a z) = ((Blk.ms ((bl D a T).k (Pay.lo (pos T))) : ℝ) : EReal) := by
  unfold res_main_v36; clean_types; pointwise
  simp only [v9 R, coe_mul, coe_sum, c_64, c_eps, coe_add, div_coe _ (by norm_num : (64 : ℝ) ≠ 0)]
  rfl

theorem v37 (T : Fin 4096) (a : Fin 4) (z : Fin 1) :
    (res_main_v37 V : FVec Ideal S4096x4x1 .f32) (ix3 T a z) = ((Blk.rs ((bl D a T).k (Pay.lo (pos T))) : ℝ) : EReal) := by
  unfold res_main_v37; clean_types; pointwise
  rw [v36 R, rsqrt_coe (Blk.ms_pos _)]
  rfl

theorem v42 (T : Fin 4096) (a : Fin 4) (d : Fin 64) :
    (res_main_v42 V : FVec Ideal S4096x4x64 .f32) (ix3 T a d) = (((bl D a T).hk (Pay.lo (pos T)) d : ℝ) : EReal) := by
  unfold res_main_v42; clean_types; pointwise
  rw [v9 R, v37 R, coe_mul]
  rfl

theorem v43 (d : Fin 64) : (res_main_v43 V : FVec Ideal S1x1x64 .f32) (ix3 0 0 d) = ((D.gk d : ℝ) : EReal) := by
  unfold res_main_v43; clean_types; pointwise
  exact R.gk d

theorem v52 (T : Fin 4096) (a : Fin 4) (z : Fin 1) :
    (res_main_v52 V : FVec Ideal S4096x4x1 .f32) (ix3 T a z) = ((Blk.ms ((bl D a T).k (Pay.up (pos T))) : ℝ) : EReal) := by
  unfold res_main_v52; clean_types; pointwise
  simp only [v3 R, coe_mul, coe_sum, c_64, c_eps, coe_add, div_coe _ (by norm_num : (64 : ℝ) ≠ 0)]
  rfl

theorem v53 (T : Fin 4096) (a : Fin 4) (z : Fin 1) :
    (res_main_v53 V : FVec Ideal S4096x4x1 .f32) (ix3 T a z) = ((Blk.rs ((bl D a T).k (Pay.up (pos T))) : ℝ) : EReal) := by
  unfold res_main_v53; clean_types; pointwise
  rw [v52 R, rsqrt_coe (Blk.ms_pos _)]
  rfl

theorem v58 (T : Fin 4096) (a : Fin 4) (d : Fin 64) :
    (res_main_v58 V : FVec Ideal S4096x4x64 .f32) (ix3 T a d) = (((bl D a T).hk (Pay.up (pos T)) d : ℝ) : EReal) := by
  unfold res_main_v58; clean_types; pointwise
  rw [v3 R, v53 R, coe_mul]
  rfl

theorem v59 (d : Fin 64) : (res_main_v59 V : FVec Ideal S1x1x64 .f32) (ix3 0 0 d) = ((D.gk d : ℝ) : EReal) := by
  unfold res_main_v59; clean_types; pointwise
  exact R.gk d

theorem v62 (n : Fin 32) (i : Fin 128) (a g : Fin 4) (d : Fin 64) :
    (res_main_v62 V : FVec Ideal S32x128x4x4x64 .f32) (ix5 n i a g d) = (((D.blk a n).nq g i d : ℝ) : EReal) := by
  unfold res_main_v62; clean_types; pointwise
  rw [v26 R, v27 R, bl_row, pos_row, coe_mul]
  rfl

theorem v65 (n : Fin 32) (j : Fin 256) (a : Fin 4) (d : Fin 64) :
    (res_main_v65 V : FVec Ideal S32x256x4x64 .f32) (ix4 n j a d) = (((D.blk a n).nk j d : ℝ) : EReal) := by
  unfold res_main_v65; clean_types; pointwise
  have hup : ∀ h : ¬ (j : ℕ) < 128, Pay.up ⟨(j : ℕ) - 128, by omega⟩ = j :=
    fun h => Fin.ext (by show 128 + ((j : ℕ) - 128) = j; omega)
  split_ifs with h h2
  · rw [v42 R, v43 R, bl_row D a n ⟨j, h⟩, pos_row n ⟨j, h⟩, coe_mul]
    rfl
  · rw [v58 R, v59 R, bl_row D a n ⟨j - 128, by omega⟩, pos_row n ⟨j - 128, by omega⟩, hup h, coe_mul]
    rfl
  · exact absurd rfl h2

theorem v68 (n : Fin 32) (j : Fin 256) (a : Fin 4) (d : Fin 64) :
    (res_main_v68 V : FVec Ideal S32x256x4x64 .f32) (ix4 n j a d) = (((D.blk a n).v j d : ℝ) : EReal) := by
  unfold res_main_v68; clean_types; pointwise
  have hup : ∀ h : ¬ (j : ℕ) < 128, Pay.up ⟨(j : ℕ) - 128, by omega⟩ = j :=
    fun h => Fin.ext (by show 128 + ((j : ℕ) - 128) = j; omega)
  have hlo : ∀ h : (j : ℕ) < 128, (D.blk a n).v j d = if (n : ℕ) * 128 + j < 128 then 0 else D.x ((n : ℕ) * 128 + j - 128) (1280 + a * 64 + d) := by
    intro h
    have e := v_lo D a ⟨(n : ℕ) * 128 + j, by omega⟩ d
    rw [bl_row D a n ⟨j, h⟩, pos_row n ⟨j, h⟩] at e
    exact e
  split_ifs with h h2 h3 h4
  · rw [hlo h, if_pos h2]; rfl
  · rw [hlo h, if_neg h2, v5 R, v_up]
  · exact absurd rfl h3
  · rw [v5 R, bl_row D a n ⟨j - 128, by omega⟩, pos_row n ⟨j - 128, by omega⟩, hup h]
  · exact absurd rfl h4

end Attn.Ref

end
-- ==== Proof.Attn.Ref2.lean ====
/- The reference's gradient of attention: scores, softmax and its gradient. -/
module

public import proofs.«01_k».proof.Proof.Attn.Ref1

@[expose] public section

set_option maxRecDepth 16384

noncomputable section

namespace Attn.Ref

open Idealize.ShloMosaic Idealize.ShloMosaic.TcCoe Idealize.SL.Sem Idealize.ShloMosaic.StableHlo
open Cert.ReferenceIdeal Cert.ReferenceIdeal.Gen Cert.ReferenceIdeal.Value

theorem v81 (V : Valuation τ sig (Elt Ideal)) (i : Fin 128) (j : Fin 256) :
    (res_main_v81 V : IVec S128x256 32) (ix2 i j) = distWord i j := by
  unfold res_main_v81 res_main_v74; clean_types; pointwise
  rfl

theorem v125_1 (V : Valuation τ sig (Elt Ideal)) (n : Fin 32) (a g : Fin 4) (i : Fin 128) (j : Fin 256) :
    (res_main_v125_1 V : IVec S32x4x4x128x256 1) (ix5 n a g i j) = (1 : BitVec 1) ↔ vis n i j := by
  unfold res_main_v125_1 res_main_v74; clean_types; pointwise
  rw [v81]
  exact reference_mask i.isLt j.isLt n.isLt

theorem max_at (X Y : FVec Ideal S32x4x4x128 .f32) (n : Fin 32) (a g : Fin 4) (i : Fin 128) :
    maximumf X Y (ix4 n a g i) = max (X (ix4 n a g i)) (Y (ix4 n a g i)) := by pointwise

theorem sink_row (X : FVec Ideal S1x4x4x1 .f32) (n : Fin 32) (a g : Fin 4) (i : Fin 128) :
    broadcastInDim S32x4x4x128 ![0, 1, 2, 3] bcast_S1x4x4x1_S32x4x4x128_0_1_2_3 X (ix4 n a g i) = X (ix4 0 a g 0) := by pointwise

variable {D : Data} {V : Valuation τ sig (Elt Ideal)} (R : Reads D V)
include R

theorem v125_0 (n : Fin 32) (a g : Fin 4) (i : Fin 128) (j : Fin 256) :
    (res_main_v125_0 V : FVec Ideal S32x4x4x128x256 .f32) (ix5 n a g i j) = (D.blk a n).sm g i j := by
  unfold res_main_v125_0; clean_types; pointwise
  have hs : (FloatOps.sitofp (F := Ideal) .f32 (BitVec.ofNat 32 ((a : ℕ) * 4 + g)) : EReal) = ((((a * 4 + g : ℕ) : ℝ)) : EReal) := by
    show ((((BitVec.ofNat 32 ((a : ℕ) * 4 + g)).toInt : ℝ)) : EReal) = _
    rw [toInt_nat (by omega)]; push_cast; rfl
  have hd : (FloatOps.sitofp (F := Ideal) .f32 (distWord i j) : EReal) = ((Blk.dist i j : ℝ) : EReal) := dist_coe i.isLt j.isLt
  have hb : id (constant (F := Ideal) S_ .f32 0xFF800000#32) ix0 = (⊥ : EReal) := c_bot
  rw [hb, v81, hd, hs, c_8th, c_n8, c_ln2, c_16, one_coe, coe_add, coe_mul, div_coe _ (by norm_num : (16 : ℝ) ≠ 0), coe_mul, exp_coe, coe_mul]
  simp only [v65 R, v62 R, coe_mul, coe_sum, coe_sub]
  have hsl : Real.exp (ln2 * (-8 * (((a * 4 + g : ℕ) : ℝ) + 1) / 16)) = (D.blk a n).sl g := by
    show _ = Real.exp _
    congr 1; ring
  have hsum : ∑ x, (D.blk a n).nk j x * (D.blk a n).nq g i x = ∑ x, (D.blk a n).nq g i x * (D.blk a n).nk j x :=
    Finset.sum_congr rfl fun x _ => mul_comm _ _
  rw [hsl, hsum]
  have hok : (D.blk a n).ok i j ↔ vis n i j := Iff.rfl
  by_cases h : vis n i j
  · rw [Scalar.select, if_pos ((v125_1 V n a g i j).2 h), Blk.sm, if_pos (hok.2 h)]; rfl
  · rw [Scalar.select, if_neg (fun e => h ((v125_1 V n a g i j).1 e)), Blk.sm, if_neg (fun e => h (hok.1 e))]

theorem v128 (n : Fin 32) (a g : Fin 4) (i : Fin 128) :
    (res_main_v128 V : FVec Ideal S32x4x4x128 .f32) (ix4 n a g i) = (((D.blk a n).mr g i : ℝ) : EReal) := by
  unfold res_main_v128; clean_types; pointwise
  simp only [v125_0 R, c_bot]
  exact Blk.mr_coe _ g i (vis_self n i)

theorem v127 (a g : Fin 4) (z : Fin 1) :
    (res_main_v127 V : FVec Ideal S4x4x1 .f32) (ix3 a g z) = ((D.s (a * 4 + g) : ℝ) : EReal) := by
  unfold res_main_v127; clean_types; pointwise
  rw [R.s]

theorem v134 (n : Fin 32) (a g : Fin 4) (z z' : Fin 1) :
    (res_main_v134 V : FVec Ideal S1x4x4x1 .f32) (ix4 z a g z') = (((D.blk a n).sk g : ℝ) : EReal) := by
  unfold res_main_v134; clean_types; pointwise
  rw [v127 R]
  rfl

theorem v136 (n : Fin 32) (a g : Fin 4) (i : Fin 128) :
    (res_main_v136 V : FVec Ideal S32x4x4x128 .f32) (ix4 n a g i) = (((D.blk a n).m g i : ℝ) : EReal) := by
  unfold res_main_v136; clean_types
  rw [max_at, sink_row, v128 R, v134 R n, coe_max, Blk.m]

theorem v158 (n : Fin 32) (a g : Fin 4) (i : Fin 128) (j : Fin 256) :
    (res_main_v158 V : FVec Ideal S32x4x4x128x256 .f32) (ix5 n a g i j) = (((D.blk a n).e g i j : ℝ) : EReal) := by
  unfold res_main_v158; clean_types; pointwise
  rw [v125_0 R, v136 R, Blk.exp_sm]

theorem v163 (n : Fin 32) (a g : Fin 4) (i : Fin 128) :
    (res_main_v163 V : FVec Ideal S32x4x4x128 .f32) (ix4 n a g i) = (((D.blk a n).es g i : ℝ) : EReal) := by
  unfold res_main_v163; clean_types; pointwise
  rw [v127 R, v136 R, coe_sub, exp_coe]
  rfl

theorem v165 (n : Fin 32) (a g : Fin 4) (i : Fin 128) (z : Fin 1) :
    (res_main_v165 V : FVec Ideal S32x4x4x128x1 .f32) (ix5 n a g i z) = (((D.blk a n).z g i : ℝ) : EReal) := by
  unfold res_main_v165; clean_types; pointwise
  simp only [v158 R, v163 R, coe_sum, coe_add]
  rfl

theorem v167 (n : Fin 32) (a g : Fin 4) (i : Fin 128) (j : Fin 256) :
    (res_main_v167 V : FVec Ideal S32x4x4x128x256 .f32) (ix5 n a g i j) = (((D.blk a n).p g i j : ℝ) : EReal) := by
  unfold res_main_v167; clean_types; pointwise
  rw [v158 R, v165 R, div_coe _ (Blk.z_pos _ _ _).ne']
  rfl

theorem v175 (n : Fin 32) (a : Fin 4) (d : Fin 64) (g : Fin 4) (i : Fin 128) :
    (res_main_v175 V : FVec Ideal S32x4x64x4x128 .f32) (ix5 n a d g i) = (((D.blk a n).o g i d : ℝ) : EReal) := by
  unfold res_main_v175; clean_types; pointwise
  rw [R.y]
  simp only [Data.blk, Nat.add_assoc]

theorem v176 (n : Fin 32) (a g : Fin 4) (i : Fin 128) (j : Fin 256) :
    (res_main_v176 V : FVec Ideal S32x4x4x128x256 .f32) (ix5 n a g i j) = (((D.blk a n).dp g i j : ℝ) : EReal) := by
  unfold res_main_v176; clean_types; pointwise
  simp only [v175 R, v68 R, coe_mul, coe_sum]
  rfl

theorem v178 (n : Fin 32) (j : Fin 256) (a : Fin 4) (d : Fin 64) :
    (res_main_v178 V : FVec Ideal S32x256x4x64 .f32) (ix4 n j a d) = (((D.blk a n).dv j d : ℝ) : EReal) := by
  unfold res_main_v178; clean_types; pointwise
  simp only [v175 R, v167 R, coe_mul, coe_sum]
  refine congrArg _ (Finset.sum_congr rfl fun x _ => Finset.sum_congr rfl fun y _ => mul_comm _ _)

theorem v187 (n : Fin 32) (a g : Fin 4) (i : Fin 128) :
    (res_main_v187 V : FVec Ideal S32x4x4x128 .f32) (ix4 n a g i) = (((0 - (D.blk a n).dl g i / (D.blk a n).z g i : ℝ)) : EReal) := by
  unfold res_main_v187; clean_types; pointwise
  have hz := (Blk.z_pos (D.blk a n) g i).ne'
  simp only [Fin.sum_univ_one, v176 R, v165 R, v158 R, one_coe, coe_mul, div_coe _ (mul_ne_zero hz hz), coe_sum, coe_neg]
  rw [Blk.dl, Finset.sum_div, zero_sub]
  refine congrArg _ (congrArg _ (Finset.sum_congr rfl fun x _ => ?_))
  rw [Blk.p]; field_simp

theorem v188 (n : Fin 32) (a g : Fin 4) (i : Fin 128) :
    (res_main_v188 V : FVec Ideal S32x4x4x128 .f32) (ix4 n a g i) = (((0 - (D.blk a n).ps g i) * (D.blk a n).dl g i : ℝ) : EReal) := by
  unfold res_main_v188; clean_types; pointwise
  rw [v187 R, v163 R, coe_mul, Blk.ps]
  congr 1; ring

theorem v196 (n : Fin 32) (a g : Fin 4) (i : Fin 128) (j : Fin 256) :
    (res_main_v196 V : FVec Ideal S32x4x4x128x256 .f32) (ix5 n a g i j)
      = (((D.blk a n).p g i j * ((D.blk a n).dp g i j - (D.blk a n).dl g i) : ℝ) : EReal) := by
  unfold res_main_v196; clean_types; pointwise
  rw [v176 R, v165 R, v187 R, v158 R, div_coe _ (Blk.z_pos _ _ _).ne', coe_add, coe_mul, Blk.p]
  congr 1; ring

theorem v201 (n : Fin 32) (a g : Fin 4) (i : Fin 128) :
    (res_main_v201 V : FVec Ideal S32x4x4x128 .f32) (ix4 n a g i) = ((0 : ℝ) : EReal) := by
  unfold res_main_v201; clean_types; pointwise
  have hz := (Blk.z_pos (D.blk a n) g i).ne'
  simp only [v188 R, v196 R, coe_neg, coe_sum, coe_add, Fin.sum_univ_one]
  have h1 : (∑ x, (D.blk a n).p g i x) + (D.blk a n).ps g i = 1 := by
    simp only [Blk.p, Blk.ps]
    rw [← Finset.sum_div, ← add_div]
    exact div_self hz
  have h2 : ∑ x, -((D.blk a n).p g i x * ((D.blk a n).dp g i x - (D.blk a n).dl g i))
      = (∑ x, (D.blk a n).p g i x) * (D.blk a n).dl g i - (D.blk a n).dl g i := by
    rw [Finset.sum_mul, Blk.dl, ← Finset.sum_sub_distrib]
    exact Finset.sum_congr rfl fun x _ => by ring
  rw [h2, (by linarith : (D.blk a n).ps g i = 1 - ∑ x, (D.blk a n).p g i x)]
  congr 1; ring

end Attn.Ref

end
-- ==== Proof.Attn.Ref3.lean ====
/- The reference's gradient of attention: gradients of queries, keys, values. -/
module

public import proofs.«01_k».proof.Proof.Attn.Ref2
public import proofs.«01_k».proof.Proof.Attn.Final

@[expose] public section

set_option maxRecDepth 16384

noncomputable section

namespace Attn.Ref

open Idealize.ShloMosaic Idealize.ShloMosaic.TcCoe Idealize.SL.Sem Idealize.ShloMosaic.StableHlo
open Cert.ReferenceIdeal Cert.ReferenceIdeal.Gen Cert.ReferenceIdeal.Value

/-- The gradient of a norm, as its transposed linearisation writes it. -/
theorem norm_back (x t : Fin 64 → ℝ) (d : Fin 64) :
    t d * Blk.rs x + x d * ((∑ c, x c * t c) * (-(1 / 2) * (Blk.rs x / Blk.ms x)) / 64)
      + ((∑ c, x c * t c) * (-(1 / 2) * (Blk.rs x / Blk.ms x)) / 64) * x d
      = Blk.nb (Blk.rs x) (fun c => x c * Blk.rs x) t d := by
  have hm := Blk.ms_pos x
  have hs : Real.sqrt (Blk.ms x) * Real.sqrt (Blk.ms x) = Blk.ms x := Real.mul_self_sqrt hm.le
  have h2 : Blk.rs x / Blk.ms x = Blk.rs x * Blk.rs x * Blk.rs x := by
    have key : ∀ r m : ℝ, r * r = m → r⁻¹ / m = r⁻¹ * r⁻¹ * r⁻¹ := by
      rintro r _ rfl
      by_cases h : r = 0
      · simp [h]
      · field_simp
    exact key _ _ hs
  have h3 : ∑ c, t c * (x c * Blk.rs x) = (∑ c, x c * t c) * Blk.rs x := by
    rw [Finset.sum_mul]; exact Finset.sum_congr rfl fun c _ => by ring
  rw [h2, Blk.nb, h3]
  ring

theorem div_zero_left {y : EReal} (h : y ≠ 0) : Ideal.div 0 y = 0 := by
  unfold Ideal.div; rw [if_neg h, zero_mul]

theorem ds_at (M : IVec S32x4x4x128x256 1) (P I : FVec Ideal S32x4x4x128x256 .f32) (Q C : FVec Ideal S32x4x4x128 .f32)
    (n : Fin 32) (a : Fin 4) (j : Fin 256) (i : Fin 128) (g : Fin 4) :
    transpose S32x4x256x128x4 [0, 1, 4, 3, 2] (mulf (select M (addf P (mulf (broadcastInDim S32x4x4x128x256 ![0, 1, 2, 3] bcast_S32x4x4x128_S32x4x4x128x256_0_1_2_3 (Host.divf Q C)) I))
      (broadcastInDim S32x4x4x128x256 ![] bcast_S_S32x4x4x128x256 (constant S_ .f32 0x00000000#32)))
      (broadcastInDim S32x4x4x128x256 ![] bcast_S_S32x4x4x128x256 (constant S_ .f32 0x3E000000#32))) transposes_S32x4x4x128x256_S32x4x256x128x4_0_1_4_3_2 (ix5 n a j i g)
      = Scalar.select (M (ix5 n a g i j)) (P (ix5 n a g i j) + Ideal.div (Q (ix4 n a g i)) (C (ix4 n a g i)) * I (ix5 n a g i j)) 0
        * ((1 / 8 : ℝ) : EReal) := by
  pointwise
  rw [c_8th]

theorem mul_at (X Y : FVec Ideal S32x4x4x128 .f32) (n : Fin 32) (a g : Fin 4) (i : Fin 128) :
    mulf X Y (ix4 n a g i) = X (ix4 n a g i) * Y (ix4 n a g i) := by pointwise

theorem count_at (X : FVec Ideal S32x4x4x128x256 .f32) (n : Fin 32) (a g : Fin 4) (i : Fin 128) :
    Host.reduceAdd X (constant S_ .f32 0x00000000#32) reducesTo_S32x4x4x128x256_S32x4x4x128_d4 h_S_ (ix4 n a g i)
      = ∑ j, X (ix5 n a g i j) := by pointwise

variable {D : Data} {V : Valuation τ sig (Elt Ideal)} (R : Reads D V)
include R

theorem v132 (n : Fin 32) (a g : Fin 4) (i : Fin 128) (j : Fin 256) :
    (res_main_v132 V : FVec Ideal S32x4x4x128x256 .f32) (ix5 n a g i j)
      = (((BitVec.ofBool (decide ((D.blk a n).sm g i j = (((D.blk a n).mr g i : ℝ) : EReal)))).toNat : ℝ) : EReal) := by
  unfold res_main_v132; clean_types; pointwise
  rw [v125_0 R, v128 R]
  rfl

omit R in
theorem count_ne (n : Fin 32) (a g : Fin 4) (i : Fin 128) (X : FVec Ideal S32x4x4x128x256 .f32)
    (hX : ∀ j, X (ix5 n a g i j) = (((BitVec.ofBool (decide ((D.blk a n).sm g i j = (((D.blk a n).mr g i : ℝ) : EReal)))).toNat : ℝ) : EReal)) :
    ∑ j, X (ix5 n a g i j) ≠ (0 : EReal) := by
  simp only [hX, coe_sum]
  obtain ⟨j, hj⟩ := Blk.mr_mem (D.blk a n) g i (vis_self n i)
  have h : (0 : ℝ) < ∑ j, ((BitVec.ofBool (decide ((D.blk a n).sm g i j = (((D.blk a n).mr g i : ℝ) : EReal)))).toNat : ℝ) :=
    Finset.sum_pos' (fun _ _ => Nat.cast_nonneg _) ⟨j, Finset.mem_univ _, by rw [decide_eq_true hj]; show (0 : ℝ) < ((1 : ℕ) : ℝ); norm_num⟩
  exact fun e => h.ne' (EReal.coe_eq_zero.1 e)

theorem v218 (n : Fin 32) (a : Fin 4) (j : Fin 256) (i : Fin 128) (g : Fin 4) :
    (res_main_v218 V : FVec Ideal S32x4x256x128x4 .f32) (ix5 n a j i g) = (((D.blk a n).ds g i j : ℝ) : EReal) := by
  unfold res_main_v218; clean_types
  rw [ds_at, mul_at, v201 R, count_at, EReal.coe_zero, zero_mul, div_zero_left (count_ne (D := D) n a g i _ (v132 R n a g i)), zero_mul, add_zero, v196 R]
  by_cases h : vis n i j
  · rw [Scalar.select, if_pos ((v125_1 V n a g i j).2 h), coe_mul]; rfl
  · rw [Scalar.select, if_neg (fun e => h ((v125_1 V n a g i j).1 e)), zero_mul, Blk.ds_unseen h]; rfl

theorem v222 (n : Fin 32) (j : Fin 256) (a : Fin 4) (d : Fin 64) :
    (res_main_v222 V : FVec Ideal S32x256x4x64 .f32) (ix4 n j a d) = (((D.blk a n).dnk j d : ℝ) : EReal) := by
  unfold res_main_v222; clean_types; pointwise
  simp only [v218 R, v62 R, coe_mul, coe_sum]
  refine congrArg _ ?_
  rw [Blk.dnk, Finset.sum_comm]

theorem v229 (T : Fin 4096) (a : Fin 4) (d : Fin 64) :
    (res_main_v229 V : FVec Ideal S4096x4x64 .f32) (ix3 T a d) = (((bl D a T).dnk (Pay.up (pos T)) d : ℝ) : EReal) := by
  unfold res_main_v229; clean_types; pointwise
  rw [v222 R]

theorem v230 (T : Fin 4096) (a : Fin 4) (d : Fin 64) :
    (res_main_v230 V : FVec Ideal S4096x4x64 .f32) (ix3 T a d) = (((bl D a T).dnk (Pay.lo (pos T)) d : ℝ) : EReal) := by
  unfold res_main_v230; clean_types; pointwise
  rw [v222 R]

theorem v231 (T : Fin 4096) (a g : Fin 4) (d : Fin 64) :
    (res_main_v231 V : FVec Ideal S4096x4x4x64 .f32) (ix4 T a g d) = (((bl D a T).dnq g (pos T) d : ℝ) : EReal) := by
  unfold res_main_v231; clean_types; pointwise
  simp only [v218 R, v65 R, coe_mul, coe_sum]
  rfl

theorem v277 (T : Fin 4096) (a g : Fin 4) (d : Fin 64) :
    (res_main_v277 V : FVec Ideal S4096x4x4x64 .f32) (ix4 T a g d) = (((bl D a T).dnq g (pos T) d * D.gq d : ℝ) : EReal) := by
  unfold res_main_v277; clean_types; pointwise
  rw [v231 R, v27 R, coe_mul]

theorem v288 (T : Fin 4096) (a g : Fin 4) (d : Fin 64) :
    (res_main_v288 V : FVec Ideal S4096x4x4x64 .f32) (ix4 T a g d)
      = (((∑ c, ((bl D a T).q g (pos T)) c * ((bl D a T).dnq g (pos T) c * D.gq c)) * (-(1 / 2) * (Blk.rs ((bl D a T).q g (pos T)) / Blk.ms ((bl D a T).q g (pos T)))) / 64 : ℝ) : EReal) := by
  unfold res_main_v288; clean_types; pointwise
  simp only [Fin.sum_univ_one, v1 R, v277 R, v21 R, v20 R, coe_mul, coe_sum, c_nhalf, c_64, div_coe _ (Blk.ms_pos _).ne',
    div_coe _ (by norm_num : (64 : ℝ) ≠ 0)]

theorem v256 (T : Fin 4096) (a : Fin 4) (d : Fin 64) :
    (res_main_v256 V : FVec Ideal S4096x4x64 .f32) (ix3 T a d) = (((bl D a T).dnk (Pay.lo (pos T)) d * D.gk d : ℝ) : EReal) := by
  unfold res_main_v256; clean_types; pointwise
  rw [v230 R, v43 R, coe_mul]

theorem v268 (T : Fin 4096) (a : Fin 4) (d : Fin 64) :
    (res_main_v268 V : FVec Ideal S4096x4x64 .f32) (ix3 T a d)
      = (((∑ c, ((bl D a T).k (Pay.lo (pos T))) c * ((bl D a T).dnk (Pay.lo (pos T)) c * D.gk c)) * (-(1 / 2) * (Blk.rs ((bl D a T).k (Pay.lo (pos T))) / Blk.ms ((bl D a T).k (Pay.lo (pos T))))) / 64 : ℝ) : EReal) := by
  unfold res_main_v268; clean_types; pointwise
  simp only [Fin.sum_univ_one, v9 R, v256 R, v37 R, v36 R, coe_mul, coe_sum, c_nhalf, c_64, div_coe _ (Blk.ms_pos _).ne',
    div_coe _ (by norm_num : (64 : ℝ) ≠ 0)]

theorem v236 (T : Fin 4096) (a : Fin 4) (d : Fin 64) :
    (res_main_v236 V : FVec Ideal S4096x4x64 .f32) (ix3 T a d) = (((bl D a T).dnk (Pay.up (pos T)) d * D.gk d : ℝ) : EReal) := by
  unfold res_main_v236; clean_types; pointwise
  rw [v229 R, v59 R, coe_mul]

theorem v247 (T : Fin 4096) (a : Fin 4) (d : Fin 64) :
    (res_main_v247 V : FVec Ideal S4096x4x64 .f32) (ix3 T a d)
      = (((∑ c, ((bl D a T).k (Pay.up (pos T))) c * ((bl D a T).dnk (Pay.up (pos T)) c * D.gk c)) * (-(1 / 2) * (Blk.rs ((bl D a T).k (Pay.up (pos T))) / Blk.ms ((bl D a T).k (Pay.up (pos T))))) / 64 : ℝ) : EReal) := by
  unfold res_main_v247; clean_types; pointwise
  simp only [Fin.sum_univ_one, v3 R, v236 R, v53 R, v52 R, coe_mul, coe_sum, c_nhalf, c_64, div_coe _ (Blk.ms_pos _).ne',
    div_coe _ (by norm_num : (64 : ℝ) ≠ 0)]

omit R in
theorem eta4 (y : S4x4x4096x64.Idx) : y = ix4 (y 0) (y 1) (y 2) (y 3) := by funext k; fin_cases k <;> rfl
omit R in
theorem eta3 (y : S4x4096x64.Idx) : y = ix3 (y 0) (y 1) (y 2) := by funext k; fin_cases k <;> rfl

theorem dq_at (a g : Fin 4) (T : Fin 4096) (d : Fin 64) :
    (transpose S4x4x4096x64 [1, 2, 0, 3] (addf (addf (mulf (res_main_v277 V) (broadcastInDim S4096x4x4x64 ![0, 1, 2, 3] bcast_S4096x4x4x1_S4096x4x4x64_0_1_2_3 (res_main_v21 V))) (mulf (res_main_v1 V) (res_main_v288 V))) (mulf (res_main_v288 V) (res_main_v1 V))) transposes_S4096x4x4x64_S4x4x4096x64_1_2_0_3 : FVec Ideal S4x4x4096x64 .f32) (ix4 a g T d)
      = ((D.rdq a g T d : ℝ) : EReal) := by
  pointwise
  rw [v277 R, v21 R, v1 R, v288 R]
  simp only [coe_mul, coe_add]
  exact congrArg _ (norm_back ((bl D a T).q g (pos T)) (fun c => (bl D a T).dnq g (pos T) c * D.gq c) d)

theorem dkp_at (a : Fin 4) (T : Fin 4096) (d : Fin 64) :
    (transpose S4x4096x64 [1, 0, 2] (addf (addf (mulf (res_main_v256 V) (broadcastInDim S4096x4x64 ![0, 1, 2] bcast_S4096x4x1_S4096x4x64_0_1_2 (res_main_v37 V))) (mulf (res_main_v9 V) (res_main_v268 V))) (mulf (res_main_v268 V) (res_main_v9 V))) transposes_S4096x4x64_S4x4096x64_1_0_2 : FVec Ideal S4x4096x64 .f32) (ix3 a T d)
      = ((D.rdkp a T d : ℝ) : EReal) := by
  pointwise
  rw [v256 R, v37 R, v9 R, v268 R]
  simp only [coe_mul, coe_add]
  exact congrArg _ (norm_back ((bl D a T).k (Pay.lo (pos T))) (fun c => (bl D a T).dnk (Pay.lo (pos T)) c * D.gk c) d)

theorem dkc_at (a : Fin 4) (T : Fin 4096) (d : Fin 64) :
    (transpose S4x4096x64 [1, 0, 2] (addf (addf (mulf (res_main_v236 V) (broadcastInDim S4096x4x64 ![0, 1, 2] bcast_S4096x4x1_S4096x4x64_0_1_2 (res_main_v53 V))) (mulf (res_main_v3 V) (res_main_v247 V))) (mulf (res_main_v247 V) (res_main_v3 V))) transposes_S4096x4x64_S4x4096x64_1_0_2 : FVec Ideal S4x4096x64 .f32) (ix3 a T d)
      = ((D.rdkc a T d : ℝ) : EReal) := by
  pointwise
  rw [v236 R, v53 R, v3 R, v247 R]
  simp only [coe_mul, coe_add]
  exact congrArg _ (norm_back ((bl D a T).k (Pay.up (pos T))) (fun c => (bl D a T).dnk (Pay.up (pos T)) c * D.gk c) d)

theorem dvp_at (a : Fin 4) (T : Fin 4096) (d : Fin 64) :
    (transpose S4x4096x64 [1, 0, 2] (shapeCast _ (extractStridedSlice S32x128x4x64 ![0, 0, 0, 0] (res_main_v178 V) slices_S32x256x4x64_S32x128x4x64_0_0_0_0) shapeCasts_S32x128x4x64_S4096x4x64) transposes_S4096x4x64_S4x4096x64_1_0_2 : FVec Ideal S4x4096x64 .f32) (ix3 a T d)
      = ((D.rdvp a T d : ℝ) : EReal) := by
  pointwise
  rw [v178 R]
  rfl

theorem dvc_at (a : Fin 4) (T : Fin 4096) (d : Fin 64) :
    (transpose S4x4096x64 [1, 0, 2] (shapeCast _ (extractStridedSlice S32x128x4x64 ![0, 128, 0, 0] (res_main_v178 V) slices_S32x256x4x64_S32x128x4x64_0_128_0_0) shapeCasts_S32x128x4x64_S4096x4x64) transposes_S4096x4x64_S4x4096x64_1_0_2 : FVec Ideal S4x4096x64 .f32) (ix3 a T d)
      = ((D.rdvc a T d : ℝ) : EReal) := by
  pointwise
  rw [v178 R]
  rfl

end Attn.Ref

end
-- ==== Proof.Attn.Ref4.lean ====
/- The reference's gradient of attention: gradients of the gains and of the sink logits. -/
module

public import proofs.«01_k».proof.Proof.Attn.Ref3
public import Idealize.ShloMosaic.Lib.Pipeline.ValueKit

@[expose] public section

set_option maxRecDepth 16384

noncomputable section

namespace Attn.Ref

open Idealize.ShloMosaic Idealize.ShloMosaic.TcCoe Idealize.SL.Sem Idealize.ShloMosaic.StableHlo
open Cert.ReferenceIdeal Cert.ReferenceIdeal.Gen Cert.ReferenceIdeal.Value

theorem red_q (X : FVec Ideal S4096x4x4x64 .f32) (d : Fin 64) :
    Host.reduceAdd X (constant (F := Ideal) S_ .f32 0x00000000#32) reducesTo_S4096x4x4x64_S64_d0_1_2 h_S_ (ix1 d) = ∑ u, ∑ w, ∑ z, X (ix4 u w z d) := by
  have hf : ∀ i : S4096x4x4x64.Idx, reducesTo_S4096x4x4x64_S64_d0_1_2.drop i = ix1 d ↔ ∃ k : Fin 4096 × Fin 4 × Fin 4, (ix4 k.1 k.2.1 k.2.2 d : S4096x4x4x64.Idx) = i := by
    intro i
    constructor
    · intro e
      refine ⟨(i 0, i 1, i 2), ?_⟩
      funext b; apply Fin.ext
      match b with
      | ⟨0, _⟩ => rfl
      | ⟨1, _⟩ => rfl
      | ⟨2, _⟩ => rfl
      | ⟨3, _⟩ => exact (congrArg Fin.val (congrFun e ⟨0, by decide⟩)).symm
    · rintro ⟨k, rfl⟩
      funext b; apply Fin.ext
      match b with
      | ⟨0, _⟩ => rfl
  have h0 : constant (F := Ideal) S_ .f32 0x00000000#32 (Shape.Idx.first h_S_) = (0 : EReal) := by pointwise
  rw [Host.reduceAdd_apply, h0]
  show (0 : EReal) + _ = _
  rw [zero_add, Finset.sum_filter_eq_sum_of_fiber _ (fun k : Fin 4096 × Fin 4 × Fin 4 => (ix4 k.1 k.2.1 k.2.2 d : S4096x4x4x64.Idx)) (fun k l e => Prod.ext (congrFun e 0) (Prod.ext (congrFun e 1) (congrFun e 2))) hf]
  simp only [Fintype.sum_prod_type]

theorem red_q1 (X : FVec Ideal S1x1x1x64 .f32) (d : Fin 64) :
    Host.reduceAdd X (constant (F := Ideal) S_ .f32 0x00000000#32) reducesTo_S1x1x1x64_S64_d0_1_2 h_S_ (ix1 d) = ∑ u, ∑ w, ∑ z, X (ix4 u w z d) := by
  have hf : ∀ i : S1x1x1x64.Idx, reducesTo_S1x1x1x64_S64_d0_1_2.drop i = ix1 d ↔ ∃ k : Fin 1 × Fin 1 × Fin 1, (ix4 k.1 k.2.1 k.2.2 d : S1x1x1x64.Idx) = i := by
    intro i
    constructor
    · intro e
      refine ⟨(i 0, i 1, i 2), ?_⟩
      funext b; apply Fin.ext
      match b with
      | ⟨0, _⟩ => rfl
      | ⟨1, _⟩ => rfl
      | ⟨2, _⟩ => rfl
      | ⟨3, _⟩ => exact (congrArg Fin.val (congrFun e ⟨0, by decide⟩)).symm
    · rintro ⟨k, rfl⟩
      funext b; apply Fin.ext
      match b with
      | ⟨0, _⟩ => rfl
  have h0 : constant (F := Ideal) S_ .f32 0x00000000#32 (Shape.Idx.first h_S_) = (0 : EReal) := by pointwise
  rw [Host.reduceAdd_apply, h0]
  show (0 : EReal) + _ = _
  rw [zero_add, Finset.sum_filter_eq_sum_of_fiber _ (fun k : Fin 1 × Fin 1 × Fin 1 => (ix4 k.1 k.2.1 k.2.2 d : S1x1x1x64.Idx)) (fun k l e => Prod.ext (congrFun e 0) (Prod.ext (congrFun e 1) (congrFun e 2))) hf]
  simp only [Fintype.sum_prod_type]

theorem red_k (X : FVec Ideal S4096x4x64 .f32) (d : Fin 64) :
    Host.reduceAdd X (constant (F := Ideal) S_ .f32 0x00000000#32) reducesTo_S4096x4x64_S64_d0_1 h_S_ (ix1 d) = ∑ u, ∑ w, X (ix3 u w d) := by
  have hf : ∀ i : S4096x4x64.Idx, reducesTo_S4096x4x64_S64_d0_1.drop i = ix1 d ↔ ∃ k : Fin 4096 × Fin 4, (ix3 k.1 k.2 d : S4096x4x64.Idx) = i := by
    intro i
    constructor
    · intro e
      refine ⟨(i 0, i 1), ?_⟩
      funext b; apply Fin.ext
      match b with
      | ⟨0, _⟩ => rfl
      | ⟨1, _⟩ => rfl
      | ⟨2, _⟩ => exact (congrArg Fin.val (congrFun e ⟨0, by decide⟩)).symm
    · rintro ⟨k, rfl⟩
      funext b; apply Fin.ext
      match b with
      | ⟨0, _⟩ => rfl
  have h0 : constant (F := Ideal) S_ .f32 0x00000000#32 (Shape.Idx.first h_S_) = (0 : EReal) := by pointwise
  rw [Host.reduceAdd_apply, h0]
  show (0 : EReal) + _ = _
  rw [zero_add, Finset.sum_filter_eq_sum_of_fiber _ (fun k : Fin 4096 × Fin 4 => (ix3 k.1 k.2 d : S4096x4x64.Idx)) (fun k l e => Prod.ext (congrFun e 0) (congrFun e 1)) hf]
  simp only [Fintype.sum_prod_type]

theorem red_k1 (X : FVec Ideal S1x1x64 .f32) (d : Fin 64) :
    Host.reduceAdd X (constant (F := Ideal) S_ .f32 0x00000000#32) reducesTo_S1x1x64_S64_d0_1 h_S_ (ix1 d) = ∑ u, ∑ w, X (ix3 u w d) := by
  have hf : ∀ i : S1x1x64.Idx, reducesTo_S1x1x64_S64_d0_1.drop i = ix1 d ↔ ∃ k : Fin 1 × Fin 1, (ix3 k.1 k.2 d : S1x1x64.Idx) = i := by
    intro i
    constructor
    · intro e
      refine ⟨(i 0, i 1), ?_⟩
      funext b; apply Fin.ext
      match b with
      | ⟨0, _⟩ => rfl
      | ⟨1, _⟩ => rfl
      | ⟨2, _⟩ => exact (congrArg Fin.val (congrFun e ⟨0, by decide⟩)).symm
    · rintro ⟨k, rfl⟩
      funext b; apply Fin.ext
      match b with
      | ⟨0, _⟩ => rfl
  have h0 : constant (F := Ideal) S_ .f32 0x00000000#32 (Shape.Idx.first h_S_) = (0 : EReal) := by pointwise
  rw [Host.reduceAdd_apply, h0]
  show (0 : EReal) + _ = _
  rw [zero_add, Finset.sum_filter_eq_sum_of_fiber _ (fun k : Fin 1 × Fin 1 => (ix3 k.1 k.2 d : S1x1x64.Idx)) (fun k l e => Prod.ext (congrFun e 0) (congrFun e 1)) hf]
  simp only [Fintype.sum_prod_type]

theorem red_s (X : FVec Ideal S32x4x4x128 .f32) (a : Fin 4) (g : Fin 4) :
    Host.reduceAdd X (constant (F := Ideal) S_ .f32 0x00000000#32) reducesTo_S32x4x4x128_S4x4_d0_3 h_S_ (ix2 a g) = ∑ u, ∑ w, X (ix4 u a g w) := by
  have hf : ∀ i : S32x4x4x128.Idx, reducesTo_S32x4x4x128_S4x4_d0_3.drop i = ix2 a g ↔ ∃ k : Fin 32 × Fin 128, (ix4 k.1 a g k.2 : S32x4x4x128.Idx) = i := by
    intro i
    constructor
    · intro e
      refine ⟨(i 0, i 3), ?_⟩
      funext b; apply Fin.ext
      match b with
      | ⟨0, _⟩ => rfl
      | ⟨1, _⟩ => exact (congrArg Fin.val (congrFun e ⟨0, by decide⟩)).symm
      | ⟨2, _⟩ => exact (congrArg Fin.val (congrFun e ⟨1, by decide⟩)).symm
      | ⟨3, _⟩ => rfl
    · rintro ⟨k, rfl⟩
      funext b; apply Fin.ext
      match b with
      | ⟨0, _⟩ => rfl
      | ⟨1, _⟩ => rfl
  have h0 : constant (F := Ideal) S_ .f32 0x00000000#32 (Shape.Idx.first h_S_) = (0 : EReal) := by pointwise
  rw [Host.reduceAdd_apply, h0]
  show (0 : EReal) + _ = _
  rw [zero_add, Finset.sum_filter_eq_sum_of_fiber _ (fun k : Fin 32 × Fin 128 => (ix4 k.1 a g k.2 : S32x4x4x128.Idx)) (fun k l e => Prod.ext (congrFun e 0) (congrFun e 3)) hf]
  simp only [Fintype.sum_prod_type]

theorem red_s1 (X : FVec Ideal S1x4x4x1 .f32) (a : Fin 4) (g : Fin 4) :
    Host.reduceAdd X (constant (F := Ideal) S_ .f32 0x00000000#32) reducesTo_S1x4x4x1_S4x4_d0_3 h_S_ (ix2 a g) = ∑ u, ∑ w, X (ix4 u a g w) := by
  have hf : ∀ i : S1x4x4x1.Idx, reducesTo_S1x4x4x1_S4x4_d0_3.drop i = ix2 a g ↔ ∃ k : Fin 1 × Fin 1, (ix4 k.1 a g k.2 : S1x4x4x1.Idx) = i := by
    intro i
    constructor
    · intro e
      refine ⟨(i 0, i 3), ?_⟩
      funext b; apply Fin.ext
      match b with
      | ⟨0, _⟩ => rfl
      | ⟨1, _⟩ => exact (congrArg Fin.val (congrFun e ⟨0, by decide⟩)).symm
      | ⟨2, _⟩ => exact (congrArg Fin.val (congrFun e ⟨1, by decide⟩)).symm
      | ⟨3, _⟩ => rfl
    · rintro ⟨k, rfl⟩
      funext b; apply Fin.ext
      match b with
      | ⟨0, _⟩ => rfl
      | ⟨1, _⟩ => rfl
  have h0 : constant (F := Ideal) S_ .f32 0x00000000#32 (Shape.Idx.first h_S_) = (0 : EReal) := by pointwise
  rw [Host.reduceAdd_apply, h0]
  show (0 : EReal) + _ = _
  rw [zero_add, Finset.sum_filter_eq_sum_of_fiber _ (fun k : Fin 1 × Fin 1 => (ix4 k.1 a g k.2 : S1x4x4x1.Idx)) (fun k l e => Prod.ext (congrFun e 0) (congrFun e 3)) hf]
  simp only [Fintype.sum_prod_type]

theorem sum_rows (F : ℕ → Fin 128 → ℝ) : ∑ T : Fin 4096, F ((T : ℕ) / 128) (pos T) = ∑ n : Fin 32, ∑ i, F n i :=
  Fin.sum_divmod_congr (f := fun (n : Fin 32) (i : Fin 128) => F n i) (fun _ _ _ => rfl)

theorem sum_points (G : ℕ → ℕ → ℝ) : ∑ p ∈ Finset.range 128, G (p / 32) (p % 32) = ∑ a : Fin 4, ∑ n : Fin 32, G a n := by
  rw [Finset.sum_range]
  exact Fin.sum_divmod_congr (f := fun (a : Fin 4) (n : Fin 32) => G a n) (fun _ _ _ => rfl)

theorem sum_halves (H : Fin 256 → ℝ) : ∑ j, H j = (∑ i, H (Pay.lo i)) + ∑ i, H (Pay.up i) :=
  Fin.sum_univ_add (a := 128) (b := 128) H

/-- The sum over blocks of the parts of the query gain's gradient is the sum over all rows and heads. -/
theorem rdgq_eq (D : Data) (d : Fin 64) : D.rdgq d = ∑ T : Fin 4096, ∑ a : Fin 4, ∑ g, (bl D a T).hq g (pos T) d * (bl D a T).dnq g (pos T) d := by
  rw [Finset.sum_comm, Data.rdgq, sum_points fun a n => (D.blk a n).dgq d]
  refine Finset.sum_congr rfl fun a _ => ?_
  rw [sum_rows fun n i => ∑ g, (D.blk a n).hq g i d * (D.blk a n).dnq g i d]
  refine Finset.sum_congr rfl fun n _ => ?_
  rw [Finset.sum_comm]
  exact Finset.sum_congr rfl fun g _ => Finset.sum_congr rfl fun i _ => mul_comm _ _

theorem rdgk_eq (D : Data) (d : Fin 64) : D.rdgk d = (∑ T : Fin 4096, ∑ a : Fin 4, (bl D a T).hk (Pay.up (pos T)) d * (bl D a T).dnk (Pay.up (pos T)) d)
    + ∑ T : Fin 4096, ∑ a : Fin 4, (bl D a T).hk (Pay.lo (pos T)) d * (bl D a T).dnk (Pay.lo (pos T)) d := by
  rw [Finset.sum_comm, Finset.sum_comm (γ := Fin 4096), ← Finset.sum_add_distrib, Data.rdgk, sum_points fun a n => (D.blk a n).dgk d]
  refine Finset.sum_congr rfl fun a _ => ?_
  rw [sum_rows fun n i => (D.blk a n).hk (Pay.up i) d * (D.blk a n).dnk (Pay.up i) d,
    sum_rows fun n i => (D.blk a n).hk (Pay.lo i) d * (D.blk a n).dnk (Pay.lo i) d, ← Finset.sum_add_distrib]
  refine Finset.sum_congr rfl fun n _ => ?_
  rw [Blk.dgk, sum_halves, add_comm]
  exact congrArg₂ _ (Finset.sum_congr rfl fun i _ => mul_comm _ _) (Finset.sum_congr rfl fun i _ => mul_comm _ _)

theorem mulq_at (X Y : FVec Ideal S4096x4x4x64 .f32) (T : Fin 4096) (a g : Fin 4) (d : Fin 64) :
    mulf X Y (ix4 T a g d) = X (ix4 T a g d) * Y (ix4 T a g d) := by pointwise
theorem mulk_at (X Y : FVec Ideal S4096x4x64 .f32) (T : Fin 4096) (a : Fin 4) (d : Fin 64) :
    mulf X Y (ix3 T a d) = X (ix3 T a d) * Y (ix3 T a d) := by pointwise
theorem cast_q (X : FVec Ideal S64 .f32) (d : Fin 64) : shapeCast _ X shapeCasts_S64_S1x1x1x64 (ix4 0 0 0 d) = X (ix1 d) := by pointwise
theorem cast_k (X : FVec Ideal S64 .f32) (d : Fin 64) : shapeCast _ X shapeCasts_S64_S1x1x64 (ix3 0 0 d) = X (ix1 d) := by pointwise
theorem cast_s (X : FVec Ideal S4x4 .f32) (a g : Fin 4) : shapeCast _ X shapeCasts_S4x4_S1x4x4x1 (ix4 0 a g 0) = X (ix2 a g) := by pointwise
theorem row_at (X : FVec Ideal S64 .f32) (z : Fin 1) (d : Fin 64) : broadcastInDim S1x64 ![1] bcast_S64_S1x64_1 X (ix2 z d) = X (ix1 d) := by pointwise
theorem add_at (X Y : FVec Ideal S64 .f32) (d : Fin 64) : addf X Y (ix1 d) = X (ix1 d) + Y (ix1 d) := by pointwise

/-- A gain's gradient: the sum over the rows. -/
theorem gain_q (X : FVec Ideal S4096x4x4x64 .f32) (d : Fin 64) :
    Host.reduceAdd (shapeCast _ (Host.reduceAdd X (constant S_ .f32 0x00000000#32) reducesTo_S4096x4x4x64_S64_d0_1_2 h_S_) shapeCasts_S64_S1x1x1x64) (constant (F := Ideal) S_ .f32 0x00000000#32) reducesTo_S1x1x1x64_S64_d0_1_2 h_S_ (ix1 d)
      = ∑ T, ∑ a, ∑ g, X (ix4 T a g d) := by
  rw [red_q1]
  simp only [Fin.sum_univ_one]
  rw [cast_q, red_q]
theorem gain_k (X : FVec Ideal S4096x4x64 .f32) (d : Fin 64) :
    Host.reduceAdd (shapeCast _ (Host.reduceAdd X (constant S_ .f32 0x00000000#32) reducesTo_S4096x4x64_S64_d0_1 h_S_) shapeCasts_S64_S1x1x64) (constant (F := Ideal) S_ .f32 0x00000000#32) reducesTo_S1x1x64_S64_d0_1 h_S_ (ix1 d)
      = ∑ T, ∑ a, X (ix3 T a d) := by
  rw [red_k1]
  simp only [Fin.sum_univ_one]
  rw [cast_k, red_k]
theorem logit_s (X : FVec Ideal S32x4x4x128 .f32) (a g : Fin 4) :
    Host.reduceAdd (shapeCast _ (Host.reduceAdd X (constant S_ .f32 0x00000000#32) reducesTo_S32x4x4x128_S4x4_d0_3 h_S_) shapeCasts_S4x4_S1x4x4x1) (constant (F := Ideal) S_ .f32 0x00000000#32) reducesTo_S1x4x4x1_S4x4_d0_3 h_S_ (ix2 a g)
      = ∑ n, ∑ i, X (ix4 n a g i) := by
  rw [red_s1]
  simp only [Fin.sum_univ_one]
  rw [cast_s, red_s]

/-- The two parts of the sink logits' gradient, added and repeated over the lanes. -/
theorem logit_at (X Y : FVec Ideal S4x4 .f32) (a g : Fin 4) (l : Fin 128) :
    broadcastInDim S4x4x128 ![0, 1, 2] bcast_S4x4x1_S4x4x128_0_1_2 (shapeCast _ (shapeCast _ (Host.reduceAdd (addf (broadcastInDim S4x4x1 ![0, 1] bcast_S4x4_S4x4x1_0_1 X) (broadcastInDim S4x4x1 ![0, 1] bcast_S4x4_S4x4x1_0_1 Y)) (constant (F := Ideal) S_ .f32 0x00000000#32) reducesTo_S4x4x1_S4x4_d2 h_S_) shapeCasts_S4x4_S16) shapeCasts_S16_S4x4x1) (ix3 a g l)
      = X (ix2 a g) + Y (ix2 a g) := by
  pointwise
  rw [Fin.sum_univ_one]

variable {D : Data} {V : Valuation τ sig (Elt Ideal)} (R : Reads D V)
include R

theorem dgq_at (z : Fin 1) (d : Fin 64) :
    (broadcastInDim S1x64 ![1] bcast_S64_S1x64_1 (Host.reduceAdd (shapeCast _ (Host.reduceAdd (mulf (res_main_v26 V) (res_main_v231 V)) (constant S_ .f32 0x00000000#32) reducesTo_S4096x4x4x64_S64_d0_1_2 h_S_) shapeCasts_S64_S1x1x1x64) (constant S_ .f32 0x00000000#32) reducesTo_S1x1x1x64_S64_d0_1_2 h_S_) : FVec Ideal S1x64 .f32) (ix2 z d)
      = ((D.rdgq d : ℝ) : EReal) := by
  rw [row_at, gain_q, rdgq_eq]
  simp only [mulq_at, v26 R, v231 R, coe_mul, coe_sum]

theorem dgk_at (z : Fin 1) (d : Fin 64) :
    (broadcastInDim S1x64 ![1] bcast_S64_S1x64_1 (addf (Host.reduceAdd (shapeCast _ (Host.reduceAdd (mulf (res_main_v58 V) (res_main_v229 V)) (constant S_ .f32 0x00000000#32) reducesTo_S4096x4x64_S64_d0_1 h_S_) shapeCasts_S64_S1x1x64) (constant S_ .f32 0x00000000#32) reducesTo_S1x1x64_S64_d0_1 h_S_) (Host.reduceAdd (shapeCast _ (Host.reduceAdd (mulf (res_main_v42 V) (res_main_v230 V)) (constant S_ .f32 0x00000000#32) reducesTo_S4096x4x64_S64_d0_1 h_S_) shapeCasts_S64_S1x1x64) (constant S_ .f32 0x00000000#32) reducesTo_S1x1x64_S64_d0_1 h_S_)) : FVec Ideal S1x64 .f32) (ix2 z d)
      = ((D.rdgk d : ℝ) : EReal) := by
  rw [row_at, add_at, gain_k, gain_k, rdgk_eq]
  simp only [mulk_at, v58 R, v229 R, v42 R, v230 R, coe_mul, coe_sum, coe_add]

theorem dsk_at (Y : FVec Ideal S32x4x4x128 .f32) (a g : Fin 4) (l : Fin 128) :
    (broadcastInDim S4x4x128 ![0, 1, 2] bcast_S4x4x1_S4x4x128_0_1_2 (shapeCast _ (shapeCast _ (Host.reduceAdd (addf (broadcastInDim S4x4x1 ![0, 1] bcast_S4x4_S4x4x1_0_1 (Host.reduceAdd (shapeCast _ (Host.reduceAdd (res_main_v188 V) (constant S_ .f32 0x00000000#32) reducesTo_S32x4x4x128_S4x4_d0_3 h_S_) shapeCasts_S4x4_S1x4x4x1) (constant S_ .f32 0x00000000#32) reducesTo_S1x4x4x1_S4x4_d0_3 h_S_)) (broadcastInDim S4x4x1 ![0, 1] bcast_S4x4_S4x4x1_0_1 (Host.reduceAdd (shapeCast _ (Host.reduceAdd (mulf (res_main_v201 V) Y) (constant S_ .f32 0x00000000#32) reducesTo_S32x4x4x128_S4x4_d0_3 h_S_) shapeCasts_S4x4_S1x4x4x1) (constant S_ .f32 0x00000000#32) reducesTo_S1x4x4x1_S4x4_d0_3 h_S_))) (constant S_ .f32 0x00000000#32) reducesTo_S4x4x1_S4x4_d2 h_S_) shapeCasts_S4x4_S16) shapeCasts_S16_S4x4x1) : FVec Ideal S4x4x128 .f32) (ix3 a g l)
      = ((D.rdsk a g : ℝ) : EReal) := by
  rw [logit_at, logit_s, logit_s, Data.rdsk, Finset.sum_range fun n => (D.blk a n).dsk g]
  simp only [mul_at, v188 R, v201 R, EReal.coe_zero, zero_mul, Finset.sum_const_zero, add_zero, coe_sum]
  rfl

end Attn.Ref

end
-- ==== Proof.Attn.RefRun.lean ====
/- The run of the reference: each of its results as a function of the real inputs. -/
module

public import proofs.«01_k».proof.Proof.Attn.Ref4

@[expose] public section

set_option maxRecDepth 16384

noncomputable section

namespace Attn.Ref

open Idealize.ShloMosaic Idealize.ShloMosaic.TcCoe Idealize.SL.Sem Idealize.ShloMosaic.StableHlo
open Cert.ReferenceIdeal Cert.ReferenceIdeal.Gen Cert.ReferenceIdeal.Value

theorem eta2 (y : S1x64.Idx) : y = ix2 (y 0) (y 1) := by funext k; fin_cases k <;> rfl

theorem eta3' (y : S4x4x128.Idx) : y = ix3 (y 0) (y 1) (y 2) := by funext k; fin_cases k <;> rfl

/-- The reference, started on inputs that read as `D`, ends with the gradients of `D` and its arguments unchanged. -/
theorem run (m : (ℓ : Loc nD τ sig) → Buf (Elt Ideal) ℓ) (ρ : Dev nD → PrngReg) (D : Dev nD → Data)
    (R : ∀ c, Reads (D c) (launchContents m c)) :
    θ_run defs (onTc (τ := τ) (main (F := Ideal))) ⟨m, fun _ => 0, ρ⟩ fun r => ∀ c : Dev nD,
      r.2.mem ((c.tc : Thread nD τ).loc main_v293) = (fun i => (((D c).rdq (i 0) (i 1) (i 2) (i 3) : ℝ) : EReal) : FVec Ideal S4x4x4096x64 .f32)
      ∧ r.2.mem ((c.tc : Thread nD τ).loc main_v294) = (fun i => (((D c).rdkp (i 0) (i 1) (i 2) : ℝ) : EReal) : FVec Ideal S4x4096x64 .f32)
      ∧ r.2.mem ((c.tc : Thread nD τ).loc main_v295) = (fun i => (((D c).rdkc (i 0) (i 1) (i 2) : ℝ) : EReal) : FVec Ideal S4x4096x64 .f32)
      ∧ r.2.mem ((c.tc : Thread nD τ).loc main_v296) = (fun i => (((D c).rdvp (i 0) (i 1) (i 2) : ℝ) : EReal) : FVec Ideal S4x4096x64 .f32)
      ∧ r.2.mem ((c.tc : Thread nD τ).loc main_v297) = (fun i => (((D c).rdvc (i 0) (i 1) (i 2) : ℝ) : EReal) : FVec Ideal S4x4096x64 .f32)
      ∧ r.2.mem ((c.tc : Thread nD τ).loc main_v298) = (fun i => (((D c).rdgq (i 1) : ℝ) : EReal) : FVec Ideal S1x64 .f32)
      ∧ r.2.mem ((c.tc : Thread nD τ).loc main_v299) = (fun i => (((D c).rdgk (i 1) : ℝ) : EReal) : FVec Ideal S1x64 .f32)
      ∧ r.2.mem ((c.tc : Thread nD τ).loc main_v301) = (fun i => (((D c).rdsk (i 0) (i 1) : ℝ) : EReal) : FVec Ideal S4x4x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.ReferenceIdeal.Value.run (F := Ideal) m ρ)
  obtain ⟨h0, h1, h2, h3, h4, h5, h6, h7, hr⟩ := h c
  exact ⟨h0.trans (funext fun y => (congrArg _ (eta4 y)).trans (dq_at (R c) (y 0) (y 1) (y 2) (y 3))),
    h1.trans (funext fun y => (congrArg _ (eta3 y)).trans (dkp_at (R c) (y 0) (y 1) (y 2))),
    h2.trans (funext fun y => (congrArg _ (eta3 y)).trans (dkc_at (R c) (y 0) (y 1) (y 2))),
    h3.trans (funext fun y => (congrArg _ (eta3 y)).trans (dvp_at (R c) (y 0) (y 1) (y 2))),
    h4.trans (funext fun y => (congrArg _ (eta3 y)).trans (dvc_at (R c) (y 0) (y 1) (y 2))),
    h5.trans (funext fun y => (congrArg _ (eta2 y)).trans (dgq_at (R c) (y 0) (y 1))),
    h6.trans (funext fun y => (congrArg _ (eta2 y)).trans (dgk_at (R c) (y 0) (y 1))),
    h7.trans (funext fun y => (congrArg _ (eta3' y)).trans (dsk_at (R c) _ (y 0) (y 1) (y 2))), hr⟩

end Attn.Ref

end
-- ==== Proof.Mlp.Base.lean ====
/- The zero offsets of two, three and four axes, which the modules of the calls share. -/
module

public import Idealize.ShloMosaic.Lib.Pointwise
public import Idealize.ShloMosaic.Lib.Pipeline.ValueKit

@[expose] public section

namespace Mlp

theorem z4 : (![0, 0, 0, 0] : Fin 4 → Nat) = fun _ => 0 := funext fun a => by fin_cases a <;> rfl
theorem z3 : (![0, 0, 0] : Fin 3 → Nat) = fun _ => 0 := funext fun a => by fin_cases a <;> rfl
theorem z2 : (![0, 0] : Fin 2 → Nat) = fun _ => 0 := funext fun a => by fin_cases a <;> rfl

end Mlp

end
-- ==== Proof.Mlp.W1.lean ====
/- The first product of the MLP, forward: its two results as functions of the inputs. -/
module

public import proofs.«01_k».proof.Proof.Gen.KernelW1Ideal.Value
public import proofs.«01_k».proof.Proof.Gen.ReferenceW1Ideal.Run
public import proofs.«01_k».proof.Proof.Mlp.Base

@[expose] public section

set_option maxRecDepth 16384

noncomputable section

namespace Mlp.W1

open Idealize.ShloMosaic Idealize.ShloMosaic.TcCoe Idealize.SL.Sem

section Kernel

open Cert.KernelW1Ideal Cert.KernelW1Ideal.Gen

theorem eta (y : S1024x512.Idx) : y = ix2 (y 0) (y 1) := by funext k; fin_cases k <;> rfl

/-- The block of each window at a point. -/
theorem idx : ∀ t : Fin cfg0.N, win0_0.index t = ![t.val / 8, 0] ∧ win0_1.index t = ![t.val % 8, 0, 0, 0]
    ∧ win0_2.index t = ![t.val / 8, t.val % 8] ∧ win0_3.index t = ![t.val / 8, t.val % 8] ∧ t.val / 8 < 4 :=
  (by decide +kernel : ∀ t : Fin grid0.N, _)

variable (m : (ℓ : Loc nD τ sig) → Buf (Elt Ideal) ℓ) (c : Dev nD)

theorem in0 (t : Fin cfg0.N) (i : Fin 1024) (k : Fin 1024) (r : Fin 4096) (hr : r.val = t.val / 8 * 1024 + i) :
    (iblk m c 0 t : FVec Ideal S1024x1024 .bf16) (ix2 i k) = (m ((c : Thread nD τ).loc main_arg0) : FVec Ideal S4096x1024 .bf16) (ix2 r k) := by
  blk_simp [iblk]
  entry_read
  refine congrArg (m _) (funext fun a => Fin.ext ?_)
  fin_cases a <;> blk_simp [idx t] <;> simp [hr]

theorem in1 (t : Fin cfg0.N) (k : Fin 1024) (j : Fin 512) (q : Fin 4096) (hq : q.val = t.val % 8 * 512 + j) :
    (iblk m c 1 t : FVec Ideal S1x1x1024x512 .bf16) (ix4 0 0 k j) = (m ((c : Thread nD τ).loc main_arg1) : FVec Ideal S1024x4096 .f32) (ix2 k q) := by
  blk_simp [iblk]
  entry_read
  pointwise
  refine congrArg (m _) (congrArg₂ ix2 (Fin.ext ?_) (Fin.ext ?_)) <;> blk_simp [idx t] <;> simp [hq]

theorem pay1 (x : FVec Ideal S1024x1024 .bf16) (w : FVec Ideal S1x1x1024x512 .bf16) (i : Fin 1024) (j : Fin 512) :
    (k0_pay1 (F := Ideal) x w (ix2 i j) : EReal) = ∑ k : Fin 1024, (x (ix2 i k) : EReal) * (w (ix4 0 0 k j) : EReal) := by
  pointwise [k0_pay1]

theorem pay3 (x : FVec Ideal S1024x1024 .bf16) (w : FVec Ideal S1x1x1024x512 .bf16) (i : Fin 1024) (j : Fin 512) :
    (k0_pay3 (F := Ideal) x w (ix2 i j) : EReal) = max (k0_pay1 (F := Ideal) x w (ix2 i j) : EReal) 0 * max (k0_pay1 (F := Ideal) x w (ix2 i j) : EReal) 0 := by
  generalize hz : k0_pay1 (F := Ideal) x w = z
  pointwise [k0_pay3, hz]

/-- The product the call computes. -/
def val (x : FVec Ideal S4096x1024 .bf16) (w : FVec Ideal S1024x4096 .f32) (i j : Fin 4096) : EReal :=
  ∑ k : Fin 1024, (x (ix2 i k) : EReal) * (w (ix2 k j) : EReal)

theorem out (t : Fin cfg0.N) (i : Fin 1024) (j : Fin 512) (r q : Fin 4096) (hr : r.val = t.val / 8 * 1024 + i) (hq : q.val = t.val % 8 * 512 + j) :
    (k0_pay1 (F := Ideal) (iblk m c 0 t) (iblk m c 1 t) (ix2 i j) : EReal)
      = val (m ((c : Thread nD τ).loc main_arg0)) (m ((c : Thread nD τ).loc main_arg1)) r q :=
  (pay1 _ _ i j).trans (Finset.sum_congr rfl fun k _ => congrArg₂ (fun a b : EReal => a * b) (in0 m c t i k r hr) (in1 m c t k j q hq))

theorem final2 : ((dats m 0 c).arrAt 2 cfg0.N : FVec Ideal S4096x4096 .bf16)
    = fun i => val (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  have e0 : ((win0_2.blk t).view.emb y 0 : ℕ) = t.val / 8 * 1024 + (y 0 : ℕ) := by blk_simp [(idx t).2.2.1]
  have e1 : ((win0_2.blk t).view.emb y 1 : ℕ) = t.val % 8 * 512 + (y 1 : ℕ) := by blk_simp [(idx t).2.2.1]
  unfold out0_2
  rw [View.canon_unit_zero (S := S1024x512) z2, View.ld_unit_zero (S := S1024x1024) z2, View.ld_unit_zero (S := S1x1x1024x512) z4]
  refine Eq.trans (congrArg (k0_pay2 (F := Ideal) (iblk m c 0 t) (iblk m c 1 t)) (eta y)) (Eq.trans ?_ (out m c t ((y : S1024x512.Idx) 0) ((y : S1024x512.Idx) 1) _ _ e0 e1))
  rfl

theorem final3 : ((dats m 0 c).arrAt 3 cfg0.N : FVec Ideal S4096x4096 .bf16)
    = fun i => (max (val (m ((c : Thread nD τ).loc main_arg0)) (m ((c : Thread nD τ).loc main_arg1)) (i 0) (i 1)) 0
        * max (val (m ((c : Thread nD τ).loc main_arg0)) (m ((c : Thread nD τ).loc main_arg1)) (i 0) (i 1)) 0 : EReal) := by
  refine (dats m 0 c).arrAt_eq_of_covers 3 _ (by decide +kernel) fun t hf y => ?_
  blk_simp
  rw [after0_3]
  have e0 : ((win0_3.blk t).view.emb y 0 : ℕ) = t.val / 8 * 1024 + (y 0 : ℕ) := by blk_simp [(idx t).2.2.2.1]
  have e1 : ((win0_3.blk t).view.emb y 1 : ℕ) = t.val % 8 * 512 + (y 1 : ℕ) := by blk_simp [(idx t).2.2.2.1]
  unfold out0_3
  rw [View.canon_unit_zero (S := S1024x512) z2, View.ld_unit_zero (S := S1024x1024) z2, View.ld_unit_zero (S := S1x1x1024x512) z4]
  refine Eq.trans (congrArg (k0_pay3 (F := Ideal) (iblk m c 0 t) (iblk m c 1 t)) (eta y)) ((pay3 _ _ _ _).trans ?_)
  rw [out m c t ((y : S1024x512.Idx) 0) ((y : S1024x512.Idx) 1) _ _ e0 e1]

end Kernel

section Reference

open Cert.ReferenceW1Ideal Cert.ReferenceW1Ideal.Gen

theorem eta' (y : S4096x4096.Idx) : y = ix2 (y 0) (y 1) := by funext k; fin_cases k <;> rfl

theorem ref0 (x : FVec Ideal S4096x1024 .bf16) (w : FVec Ideal S1024x4096 .f32) :
    (truncf .bf16 (Host.dotGeneral dot_S4096x1024_S1024x4096_S4096x4096_1_0_0_1_n_n none (extf .f32 x bitsLt_bf16_f32) w) bitsLt_bf16_f32 : FVec Ideal S4096x4096 .bf16)
      = fun i => val x w (i 0) (i 1) := by
  funext y
  rw [eta' y]
  generalize (y : S4096x4096.Idx) 0 = i
  generalize (y : S4096x4096.Idx) 1 = j
  pointwise
  rfl

theorem ref1 (z : FVec Ideal S4096x4096 .f32) :
    (truncf .bf16 (mulf (maximumf z (broadcastInDim S4096x4096 ![] bcast_S_S4096x4096 (constant S_ .f32 0x00000000#32))) (maximumf z (broadcastInDim S4096x4096 ![] bcast_S_S4096x4096 (constant S_ .f32 0x00000000#32)))) bitsLt_bf16_f32 : FVec Ideal S4096x4096 .bf16)
      = fun i => (max (z i : EReal) 0 * max (z i : EReal) 0 : EReal) := by
  funext y
  pointwise

theorem sq (x : FVec Ideal S4096x1024 .bf16) (w : FVec Ideal S1024x4096 .f32) :
    (truncf .bf16 (mulf (maximumf (Host.dotGeneral dot_S4096x1024_S1024x4096_S4096x4096_1_0_0_1_n_n none (extf .f32 x bitsLt_bf16_f32) w) (broadcastInDim S4096x4096 ![] bcast_S_S4096x4096 (constant S_ .f32 0x00000000#32))) (maximumf (Host.dotGeneral dot_S4096x1024_S1024x4096_S4096x4096_1_0_0_1_n_n none (extf .f32 x bitsLt_bf16_f32) w) (broadcastInDim S4096x4096 ![] bcast_S_S4096x4096 (constant S_ .f32 0x00000000#32)))) bitsLt_bf16_f32 : FVec Ideal S4096x4096 .bf16)
      = fun i => (max (val x w (i 0) (i 1)) 0 * max (val x w (i 0) (i 1)) 0 : EReal) := by
  refine (ref1 _).trans (funext fun i => ?_)
  exact congrArg (fun z : EReal => max z 0 * max z 0) (congrFun (ref0 x w) i)

end Reference

end Mlp.W1

end
-- ==== Proof.Mlp.W2.lean ====
/- The second product of the MLP, forward: its result as a function of the inputs. -/
module

public import proofs.«01_k».proof.Proof.Gen.KernelW2Ideal.Value
public import proofs.«01_k».proof.Proof.Gen.ReferenceW2Ideal.Run
public import proofs.«01_k».proof.Proof.Mlp.Base

@[expose] public section

set_option maxRecDepth 16384

noncomputable section

namespace Mlp.W2

open Idealize.ShloMosaic Idealize.ShloMosaic.TcCoe Idealize.SL.Sem

section Kernel

open Cert.KernelW2Ideal Cert.KernelW2Ideal.Gen

theorem eta (y : S1024x512.Idx) : y = ix2 (y 0) (y 1) := by funext k; fin_cases k <;> rfl

/-- The block of each window at a point. -/
theorem idx : ∀ t : Fin cfg0.N, win0_0.index t = ![t.val / 2, 0] ∧ win0_1.index t = ![0, 0, 0, t.val % 2] ∧ win0_2.index t = ![t.val / 2, t.val % 2] ∧ win0_3.index t = ![t.val / 2, t.val % 2] :=
  (by decide +kernel : ∀ t : Fin grid0.N, _)

variable (m : (ℓ : Loc nD τ sig) → Buf (Elt Ideal) ℓ) (c : Dev nD)

theorem in0 (t : Fin cfg0.N) (i : Fin 1024) (k : Fin 4096) (r : Fin 4096) (hr : r.val = t.val / 2 * 1024 + i) :
    (iblk m c 0 t : FVec Ideal S1024x4096 .bf16) (ix2 i k) = (m ((c : Thread nD τ).loc main_arg0) : FVec Ideal S4096x4096 .bf16) (ix2 r k) := by
  blk_simp [iblk]
  entry_read
  refine congrArg (m _) (funext fun a => Fin.ext ?_)
  fin_cases a <;> blk_simp [idx t] <;> simp [hr]

theorem in1 (t : Fin cfg0.N) (d : Fin 8) (k j : Fin 512) (p : Fin 4096) (hp : p.val = d * 512 + k.val) (q : Fin 1024) (hq : q.val = t.val % 2 * 512 + j) :
    (iblk m c 1 t : FVec Ideal S8x1x512x512 .bf16) (ix4 d 0 k j) = (m ((c : Thread nD τ).loc main_arg1) : FVec Ideal S4096x1024 .f32) (ix2 p q) := by
  blk_simp [iblk]
  entry_read
  pointwise
  refine congrArg (m _) (congrArg₂ ix2 (Fin.ext ?_) (Fin.ext ?_)) <;> blk_simp [idx t] <;> (try simp only [hp, hq]) <;> (try omega)

theorem in2 (t : Fin cfg0.N) (i : Fin 1024) (j : Fin 512) (r : Fin 4096) (hr : r.val = t.val / 2 * 1024 + i) (q : Fin 1024) (hq : q.val = t.val % 2 * 512 + j) :
    (iblk m c 2 t : FVec Ideal S1024x512 .f32) (ix2 i j) = (m ((c : Thread nD τ).loc main_arg2) : FVec Ideal S4096x1024 .f32) (ix2 r q) := by
  blk_simp [iblk]
  entry_read
  refine congrArg (m _) (funext fun a => Fin.ext ?_)
  fin_cases a <;> blk_simp [idx t] <;> simp [hr, hq]

/-- The shard of a row of the weight, and its row there. -/
abbrev hi (k : Fin 4096) : Fin 8 := ⟨k.val / 512, by omega⟩
abbrev lo (k : Fin 4096) : Fin 512 := ⟨k.val % 512, by omega⟩

theorem pay (x : FVec Ideal S1024x4096 .bf16) (w : FVec Ideal S8x1x512x512 .bf16) (h : FVec Ideal S1024x512 .f32) (i : Fin 1024) (j : Fin 512) :
    (k0_pay1 (F := Ideal) x w h (ix2 i j) : EReal) = (∑ k : Fin 4096, (x (ix2 i k) : EReal) * (w (ix4 (hi k) 0 (lo k) j) : EReal)) + h (ix2 i j) := by
  pointwise [k0_pay1] <;> rfl

/-- The product and sum the call computes. -/
def val (x : FVec Ideal S4096x4096 .bf16) (w : FVec Ideal S4096x1024 .f32) (h : FVec Ideal S4096x1024 .f32) (i : Fin 4096) (j : Fin 1024) : EReal :=
  (∑ k : Fin 4096, (x (ix2 i k) : EReal) * (w (ix2 k j) : EReal)) + h (ix2 i j)

theorem out (t : Fin cfg0.N) (i : Fin 1024) (j : Fin 512) (r : Fin 4096) (q : Fin 1024) (hr : r.val = t.val / 2 * 1024 + i) (hq : q.val = t.val % 2 * 512 + j) :
    (k0_pay1 (F := Ideal) (iblk m c 0 t) (iblk m c 1 t) (iblk m c 2 t) (ix2 i j) : EReal) = val (m ((c : Thread nD τ).loc main_arg0)) (m ((c : Thread nD τ).loc main_arg1)) (m ((c : Thread nD τ).loc main_arg2)) r q :=
  (pay _ _ _ i j).trans (congrArg₂ (fun a b : EReal => a + b) (Finset.sum_congr rfl fun k _ => congrArg₂ (fun a b : EReal => a * b) (in0 m c t i k r hr) (in1 m c t (hi k) (lo k) j k (by show k.val = k.val / 512 * 512 + k.val % 512; omega) q hq)) (in2 m c t i j r hr q hq))

theorem final3 : ((dats m 0 c).arrAt 3 cfg0.N : FVec Ideal S4096x1024 .f32)
    = fun i => (val (m ((c : Thread nD τ).loc main_arg0)) (m ((c : Thread nD τ).loc main_arg1)) (m ((c : Thread nD τ).loc main_arg2)) (i 0) (i 1) : EReal) := by
  refine (dats m 0 c).arrAt_eq_of_covers 3 _ (by decide +kernel) fun t hf y => ?_
  blk_simp
  rw [after0_3]
  have e0 : ((win0_3.blk t).view.emb y 0 : ℕ) = t.val / 2 * 1024 + (y 0 : ℕ) := by blk_simp [(idx t).2.2.2]
  have e1 : ((win0_3.blk t).view.emb y 1 : ℕ) = t.val % 2 * 512 + (y 1 : ℕ) := by blk_simp [(idx t).2.2.2]
  unfold out0_3
  rw [View.canon_unit_zero (S := S1024x512) z2, View.ld_unit_zero (S := S1024x4096) z2, View.ld_unit_zero (S := S8x1x512x512) z4, View.ld_unit_zero (S := S1024x512) z2]
  refine Eq.trans (congrArg (k0_pay1 (F := Ideal) (iblk m c 0 t) (iblk m c 1 t) (iblk m c 2 t)) (eta y)) ?_
  exact out m c t ((y : S1024x512.Idx) 0) ((y : S1024x512.Idx) 1) _ _ e0 e1

end Kernel

section Reference

open Cert.ReferenceW2Ideal Cert.ReferenceW2Ideal.Gen

theorem eta1 (y : S4096x1024.Idx) : y = ix2 (y 0) (y 1) := by funext k; fin_cases k <;> rfl

theorem ref (x : FVec Ideal S4096x4096 .bf16) (w h : FVec Ideal S4096x1024 .f32) :
    (addf h (Host.dotGeneral dot_S4096x4096_S4096x1024_S4096x1024_1_0_0_1_n_n none (extf .f32 x bitsLt_bf16_f32) w) : FVec Ideal S4096x1024 .f32)
      = fun i => val x w h (i 0) (i 1) := by
  funext y
  rw [eta1 y]
  generalize (y : S4096x1024.Idx) 0 = i
  generalize (y : S4096x1024.Idx) 1 = j
  pointwise
  exact add_comm (G := EReal) _ _

end Reference

end Mlp.W2

end
-- ==== Proof.Mlp.Da.lean ====
/- The gradient of the MLP before its squared ReLU: the call and the reference as functions of the inputs. -/
module

public import proofs.«01_k».proof.Proof.Gen.KernelDaIdeal.Value
public import proofs.«01_k».proof.Proof.Gen.ReferenceDaIdeal.Run
public import proofs.«01_k».proof.Proof.Mlp.Base

@[expose] public section

set_option maxRecDepth 16384

noncomputable section

namespace Mlp.Da

open Idealize.ShloMosaic Idealize.ShloMosaic.TcCoe Idealize.SL.Sem

section Kernel

open Cert.KernelDaIdeal Cert.KernelDaIdeal.Gen

theorem eta (y : S1024x512.Idx) : y = ix2 (y 0) (y 1) := by funext k; fin_cases k <;> rfl

/-- The block of each window at a point. -/
theorem idx : ∀ t : Fin cfg0.N, win0_0.index t = ![t.val / 8, 0] ∧ win0_1.index t = ![t.val % 8, 0, 0, 0] ∧ win0_2.index t = ![t.val / 8, t.val % 8] ∧ win0_3.index t = ![t.val / 8, t.val % 8] :=
  (by decide +kernel : ∀ t : Fin grid0.N, _)

variable (m : (ℓ : Loc nD τ sig) → Buf (Elt Ideal) ℓ) (c : Dev nD)

theorem in0 (t : Fin cfg0.N) (i k : Fin 1024) (r : Fin 4096) (hr : r.val = t.val / 8 * 1024 + i) :
    (iblk m c 0 t : FVec Ideal S1024x1024 .bf16) (ix2 i k) = (m ((c : Thread nD τ).loc main_arg0) : FVec Ideal S4096x1024 .bf16) (ix2 r k) := by
  blk_simp [iblk]
  entry_read
  refine congrArg (m _) (funext fun a => Fin.ext ?_)
  fin_cases a <;> blk_simp [idx t] <;> simp [hr]

theorem in1 (t : Fin cfg0.N) (j : Fin 512) (k : Fin 1024) (q : Fin 4096) (hq : q.val = t.val % 8 * 512 + j) :
    (iblk m c 1 t : FVec Ideal S1x1x512x1024 .bf16) (ix4 0 0 j k) = (m ((c : Thread nD τ).loc main_arg1) : FVec Ideal S4096x1024 .f32) (ix2 q k) := by
  blk_simp [iblk]
  entry_read
  pointwise
  refine congrArg (m _) (congrArg₂ ix2 (Fin.ext ?_) (Fin.ext ?_)) <;> blk_simp [idx t] <;> (try simp only [hq]) <;> (try omega)

theorem in2 (t : Fin cfg0.N) (i : Fin 1024) (j : Fin 512) (r : Fin 4096) (hr : r.val = t.val / 8 * 1024 + i) (q : Fin 4096) (hq : q.val = t.val % 8 * 512 + j) :
    (iblk m c 2 t : FVec Ideal S1024x512 .bf16) (ix2 i j) = (m ((c : Thread nD τ).loc main_arg2) : FVec Ideal S4096x4096 .bf16) (ix2 r q) := by
  blk_simp [iblk]
  entry_read
  refine congrArg (m _) (funext fun a => Fin.ext ?_)
  fin_cases a <;> blk_simp [idx t] <;> simp [hr, hq]

theorem two : (Ideal.ofBits .f32 0x40000000#32 : EReal) = 2 := by
  simp [Ideal.ofBits, Ideal.ieee]; rw [← EReal.coe_mul]; norm_num; rfl

theorem pay (x : FVec Ideal S1024x1024 .bf16) (w : FVec Ideal S1x1x512x1024 .bf16) (a : FVec Ideal S1024x512 .bf16) (i : Fin 1024) (j : Fin 512) :
    (k0_pay1 (F := Ideal) x w a (ix2 i j) : EReal) = (∑ k : Fin 1024, (x (ix2 i k) : EReal) * (w (ix4 0 0 j k) : EReal)) * (2 * max (a (ix2 i j) : EReal) 0) := by
  pointwise [k0_pay1]
  rw [two]

/-- The gradient the call computes. -/
def val (x : FVec Ideal S4096x1024 .bf16) (w : FVec Ideal S4096x1024 .f32) (a : FVec Ideal S4096x4096 .bf16) (i j : Fin 4096) : EReal :=
  (∑ k : Fin 1024, (x (ix2 i k) : EReal) * (w (ix2 j k) : EReal)) * (2 * max (a (ix2 i j) : EReal) 0)

theorem out (t : Fin cfg0.N) (i : Fin 1024) (j : Fin 512) (r q : Fin 4096) (hr : r.val = t.val / 8 * 1024 + i) (hq : q.val = t.val % 8 * 512 + j) :
    (k0_pay1 (F := Ideal) (iblk m c 0 t) (iblk m c 1 t) (iblk m c 2 t) (ix2 i j) : EReal) = val (m ((c : Thread nD τ).loc main_arg0)) (m ((c : Thread nD τ).loc main_arg1)) (m ((c : Thread nD τ).loc main_arg2)) r q :=
  (pay _ _ _ i j).trans (congrArg₂ (fun a b : EReal => a * (2 * max b 0)) (Finset.sum_congr rfl fun k _ => congrArg₂ (fun a b : EReal => a * b) (in0 m c t i k r hr) (in1 m c t j k q hq)) (in2 m c t i j r hr q hq))

theorem final3 : ((dats m 0 c).arrAt 3 cfg0.N : FVec Ideal S4096x4096 .bf16)
    = fun i => (val (m ((c : Thread nD τ).loc main_arg0)) (m ((c : Thread nD τ).loc main_arg1)) (m ((c : Thread nD τ).loc main_arg2)) (i 0) (i 1) : EReal) := by
  refine (dats m 0 c).arrAt_eq_of_covers 3 _ (by decide +kernel) fun t hf y => ?_
  blk_simp
  rw [after0_3]
  have e0 : ((win0_3.blk t).view.emb y 0 : ℕ) = t.val / 8 * 1024 + (y 0 : ℕ) := by blk_simp [(idx t).2.2.2]
  have e1 : ((win0_3.blk t).view.emb y 1 : ℕ) = t.val % 8 * 512 + (y 1 : ℕ) := by blk_simp [(idx t).2.2.2]
  unfold out0_3
  rw [View.canon_unit_zero (S := S1024x512) z2, View.ld_unit_zero (S := S1024x1024) z2, View.ld_unit_zero (S := S1x1x512x1024) z4, View.ld_unit_zero (S := S1024x512) z2]
  refine Eq.trans (congrArg (k0_pay1 (F := Ideal) (iblk m c 0 t) (iblk m c 1 t) (iblk m c 2 t)) (eta y)) ?_
  exact out m c t ((y : S1024x512.Idx) 0) ((y : S1024x512.Idx) 1) _ _ e0 e1

end Kernel

section Reference

open Cert.ReferenceDaIdeal Cert.ReferenceDaIdeal.Gen

theorem eta1 (y : S4096x4096.Idx) : y = ix2 (y 0) (y 1) := by funext k; fin_cases k <;> rfl

theorem sel (X a : FVec Ideal S4096x4096 .f32) (i j : Fin 4096) :
    (select (cmpf .ogt a (broadcastInDim S4096x4096 ![] bcast_S_S4096x4096 (constant (F := Ideal) S_ .f32 0x00000000#32))) X (broadcastInDim S4096x4096 ![] bcast_S_S4096x4096 (constant (F := Ideal) S_ .f32 0x00000000#32)) (ix2 i j) : EReal)
      = if (0 : EReal) < a (ix2 i j) then (X (ix2 i j) : EReal) else 0 := by
  pointwise

theorem dbl (a : FVec Ideal S4096x4096 .f32) (i j : Fin 4096) :
    (mulf (broadcastInDim S4096x4096 ![] bcast_S_S4096x4096 (constant (F := Ideal) S_ .f32 0x40000000#32)) (maximumf a (broadcastInDim S4096x4096 ![] bcast_S_S4096x4096 (constant (F := Ideal) S_ .f32 0x00000000#32))) (ix2 i j) : EReal)
      = 2 * max (a (ix2 i j) : EReal) 0 := by
  pointwise
  rw [two]

theorem dotr (x : FVec Ideal S4096x1024 .bf16) (w : FVec Ideal S4096x1024 .f32) (Y : FVec Ideal S4096x4096 .f32) (i j : Fin 4096) :
    (mulf (Host.dotGeneral dot_S4096x1024_S4096x1024_S4096x4096_1_1_0_0_n_n none (extf .f32 x bitsLt_bf16_f32) w) Y (ix2 i j) : EReal)
      = (∑ k : Fin 1024, (x (ix2 i k) : EReal) * (w (ix2 j k) : EReal)) * Y (ix2 i j) := by
  pointwise

theorem ref (x : FVec Ideal S4096x1024 .bf16) (w : FVec Ideal S4096x1024 .f32) (a : FVec Ideal S4096x4096 .bf16) :
    (truncf .bf16 (select (cmpf .ogt (extf .f32 a bitsLt_bf16_f32) (broadcastInDim S4096x4096 ![] bcast_S_S4096x4096 (constant S_ .f32 0x00000000#32))) (mulf (Host.dotGeneral dot_S4096x1024_S4096x1024_S4096x4096_1_1_0_0_n_n none (extf .f32 x bitsLt_bf16_f32) w) (mulf (broadcastInDim S4096x4096 ![] bcast_S_S4096x4096 (constant S_ .f32 0x40000000#32)) (maximumf (extf .f32 a bitsLt_bf16_f32) (broadcastInDim S4096x4096 ![] bcast_S_S4096x4096 (constant S_ .f32 0x00000000#32))))) (broadcastInDim S4096x4096 ![] bcast_S_S4096x4096 (constant S_ .f32 0x00000000#32))) bitsLt_bf16_f32 : FVec Ideal S4096x4096 .bf16)
      = fun i => val x w a (i 0) (i 1) := by
  funext y
  rw [eta1 y]
  generalize (y : S4096x4096.Idx) 0 = i
  generalize (y : S4096x4096.Idx) 1 = j
  refine (sel _ (extf .f32 a bitsLt_bf16_f32) i j).trans ?_
  have e : ((extf .f32 a bitsLt_bf16_f32 : FVec Ideal S4096x4096 .f32) (ix2 i j) : EReal) = a (ix2 i j) := rfl
  rw [e]
  split_ifs with h
  · exact (dotr x w _ i j).trans (congrArg (fun z : EReal => (∑ k : Fin 1024, (x (ix2 i k) : EReal) * (w (ix2 j k) : EReal)) * z) (dbl (extf .f32 a bitsLt_bf16_f32) i j))
  · show (0 : EReal) = (∑ k : Fin 1024, (x (ix2 i k) : EReal) * (w (ix2 j k) : EReal)) * (2 * max (a (ix2 i j) : EReal) 0)
    rw [max_eq_right (not_lt.mp h), mul_zero, mul_zero]

end Reference

end Mlp.Da

end
-- ==== Proof.Mlp.Dw2.lean ====
/- The gradient of the second weight of the MLP: the call and the reference as functions of the inputs. -/
module

public import proofs.«01_k».proof.Proof.Gen.KernelDw2Ideal.Value
public import proofs.«01_k».proof.Proof.Gen.ReferenceDw2Ideal.Run
public import proofs.«01_k».proof.Proof.Mlp.Base

@[expose] public section

set_option maxRecDepth 16384

noncomputable section

namespace Mlp.Dw2

open Idealize.ShloMosaic Idealize.ShloMosaic.TcCoe Idealize.SL.Sem

section Kernel

open Cert.KernelDw2Ideal Cert.KernelDw2Ideal.Gen

theorem eta (y : S2x512x512.Idx) : y = ix3 (y 0) (y 1) (y 2) := by funext k; fin_cases k <;> rfl

/-- The block of each window at a point. -/
theorem idx : ∀ t : Fin cfg0.N, win0_0.index t = ![0, t.val / 2] ∧ win0_1.index t = ![0, t.val % 2] ∧ win0_2.index t = ![t.val / 2, 0, t.val % 2] :=
  (by decide +kernel : ∀ t : Fin grid0.N, _)

variable (m : (ℓ : Loc nD τ sig) → Buf (Elt Ideal) ℓ) (c : Dev nD)

theorem in0 (t : Fin cfg0.N) (k : Fin 4096) (i : Fin 1024) (r : Fin 4096) (hr : r.val = t.val / 2 * 1024 + i) :
    (iblk m c 0 t : FVec Ideal S4096x1024 .bf16) (ix2 k i) = (m ((c : Thread nD τ).loc main_arg0) : FVec Ideal S4096x4096 .bf16) (ix2 k r) := by
  blk_simp [iblk]
  entry_read
  refine congrArg (m _) (funext fun a => Fin.ext ?_)
  fin_cases a <;> blk_simp [idx t] <;> simp [hr]

theorem in1 (t : Fin cfg0.N) (k : Fin 4096) (j : Fin 512) (q : Fin 1024) (hq : q.val = t.val % 2 * 512 + j) :
    (iblk m c 1 t : FVec Ideal S4096x512 .bf16) (ix2 k j) = (m ((c : Thread nD τ).loc main_arg1) : FVec Ideal S4096x1024 .bf16) (ix2 k q) := by
  blk_simp [iblk]
  entry_read
  refine congrArg (m _) (funext fun a => Fin.ext ?_)
  fin_cases a <;> blk_simp [idx t] <;> simp [hq]

/-- The row of a block's shard within the block, and within the weight. -/
abbrev rowb (e : Fin 2) (i : Fin 512) : Fin 1024 := ⟨e.val * 512 + i.val, by omega⟩
abbrev row (e : Fin 8) (i : Fin 512) : Fin 4096 := ⟨e.val * 512 + i.val, by omega⟩

theorem pay (x : FVec Ideal S4096x1024 .bf16) (w : FVec Ideal S4096x512 .bf16) (e : Fin 2) (i j : Fin 512) :
    (k0_pay1 (F := Ideal) x w (ix3 e i j) : EReal) = ∑ k : Fin 4096, (x (ix2 k (rowb e i)) : EReal) * (w (ix2 k j) : EReal) := by
  pointwise [k0_pay1] <;> rfl

/-- The product the call computes. -/
def val (x : FVec Ideal S4096x4096 .bf16) (w : FVec Ideal S4096x1024 .bf16) (e : Fin 8) (i : Fin 512) (j : Fin 1024) : EReal :=
  ∑ k : Fin 4096, (x (ix2 k (row e i)) : EReal) * (w (ix2 k j) : EReal)

theorem out (t : Fin cfg0.N) (e : Fin 2) (i j : Fin 512) (E : Fin 8) (I : Fin 512) (q : Fin 1024) (hE : E.val = t.val / 2 * 2 + e) (hI : I.val = i.val) (hq : q.val = t.val % 2 * 512 + j) :
    (k0_pay1 (F := Ideal) (iblk m c 0 t) (iblk m c 1 t) (ix3 e i j) : EReal) = val (m ((c : Thread nD τ).loc main_arg0)) (m ((c : Thread nD τ).loc main_arg1)) E I q :=
  (pay _ _ e i j).trans (Finset.sum_congr rfl fun k _ => congrArg₂ (fun a b : EReal => a * b) (in0 m c t k (rowb e i) (row E I) (by show E.val * 512 + I.val = t.val / 2 * 1024 + (e.val * 512 + i.val); omega)) (in1 m c t k j q hq))

theorem final2 : ((dats m 0 c).arrAt 2 cfg0.N : FVec Ideal S8x512x1024 .bf16)
    = fun i => (val (m ((c : Thread nD τ).loc main_arg0)) (m ((c : Thread nD τ).loc main_arg1)) (i 0) (i 1) (i 2) : EReal) := by
  refine (dats m 0 c).arrAt_eq_of_covers 2 _ (by decide +kernel) fun t hf y => ?_
  blk_simp
  rw [after0_2]
  have e0 : ((win0_2.blk t).view.emb y 0 : ℕ) = t.val / 2 * 2 + (y 0 : ℕ) := by blk_simp [(idx t).2.2]
  have e1 : ((win0_2.blk t).view.emb y 1 : ℕ) = (y 1 : ℕ) := by blk_simp [(idx t).2.2]
  have e2 : ((win0_2.blk t).view.emb y 2 : ℕ) = t.val % 2 * 512 + (y 2 : ℕ) := by blk_simp [(idx t).2.2]
  unfold out0_2
  rw [View.canon_unit_zero (S := S2x512x512) z3, View.ld_unit_zero (S := S4096x1024) z2, View.ld_unit_zero (S := S4096x512) z2]
  refine Eq.trans (congrArg (k0_pay1 (F := Ideal) (iblk m c 0 t) (iblk m c 1 t)) (eta y)) ?_
  exact out m c t ((y : S2x512x512.Idx) 0) ((y : S2x512x512.Idx) 1) ((y : S2x512x512.Idx) 2) _ _ _ e0 e1 e2

end Kernel

section Reference

open Cert.ReferenceDw2Ideal Cert.ReferenceDw2Ideal.Gen

theorem eta1 (y : S8x512x1024.Idx) : y = ix3 (y 0) (y 1) (y 2) := by funext k; fin_cases k <;> rfl

theorem ref (x : FVec Ideal S4096x4096 .bf16) (w : FVec Ideal S4096x1024 .bf16) :
    (truncf .bf16 (shapeCast _ (transpose S4096x1024 [1, 0] (Host.dotGeneral dot_S4096x1024_S4096x4096_S1024x4096_0_0_1_1_n_n none (extf .f32 w bitsLt_bf16_f32) (extf .f32 x bitsLt_bf16_f32)) transposes_S1024x4096_S4096x1024_1_0) shapeCasts_S4096x1024_S8x512x1024) bitsLt_bf16_f32 : FVec Ideal S8x512x1024 .bf16)
      = fun i => val x w (i 0) (i 1) (i 2) := by
  funext y
  rw [eta1 y]
  generalize (y : S8x512x1024.Idx) 0 = e
  generalize (y : S8x512x1024.Idx) 1 = i
  generalize (y : S8x512x1024.Idx) 2 = j
  pointwise
  exact Finset.sum_congr rfl fun k _ => mul_comm (G := EReal) _ _

end Reference

end Mlp.Dw2

end
-- ==== Proof.Mlp.Dw1.lean ====
/- The gradient of the first weight of the MLP: the call and the reference as functions of the inputs. -/
module

public import proofs.«01_k».proof.Proof.Gen.KernelDw1Ideal.Value
public import proofs.«01_k».proof.Proof.Gen.ReferenceDw1Ideal.Run
public import proofs.«01_k».proof.Proof.Mlp.Base

@[expose] public section

set_option maxRecDepth 16384

noncomputable section

namespace Mlp.Dw1

open Idealize.ShloMosaic Idealize.ShloMosaic.TcCoe Idealize.SL.Sem

section Kernel

open Cert.KernelDw1Ideal Cert.KernelDw1Ideal.Gen

theorem eta (y : S1x1024x512.Idx) : y = ix3 0 (y 1) (y 2) := by funext k; fin_cases k <;> first | exact Subsingleton.elim (α := Fin 1) _ _ | rfl

/-- The block of each window at a point. -/
theorem idx : ∀ t : Fin cfg0.N, win0_0.index t = ![0, 0] ∧ win0_1.index t = ![0, t.val] ∧ win0_2.index t = ![t.val, 0, 0] :=
  (by decide +kernel : ∀ t : Fin grid0.N, _)

variable (m : (ℓ : Loc nD τ sig) → Buf (Elt Ideal) ℓ) (c : Dev nD)

theorem in0 (t : Fin cfg0.N) (k : Fin 4096) (i : Fin 1024) (r : Fin 1024) (hr : r.val = i.val) :
    (iblk m c 0 t : FVec Ideal S4096x1024 .bf16) (ix2 k i) = (m ((c : Thread nD τ).loc main_arg0) : FVec Ideal S4096x1024 .bf16) (ix2 k r) := by
  blk_simp [iblk]
  entry_read
  refine congrArg (m _) (funext fun a => Fin.ext ?_)
  fin_cases a <;> blk_simp [idx t] <;> simp [hr]

theorem in1 (t : Fin cfg0.N) (k : Fin 4096) (j : Fin 512) (q : Fin 4096) (hq : q.val = t.val * 512 + j) :
    (iblk m c 1 t : FVec Ideal S4096x512 .bf16) (ix2 k j) = (m ((c : Thread nD τ).loc main_arg1) : FVec Ideal S4096x4096 .bf16) (ix2 k q) := by
  blk_simp [iblk]
  entry_read
  refine congrArg (m _) (funext fun a => Fin.ext ?_)
  fin_cases a <;> blk_simp [idx t] <;> simp [hq]

/-- The column of the weight which a column of a shard is. -/
abbrev col (e : Fin 8) (j : Fin 512) : Fin 4096 := ⟨e.val * 512 + j.val, by omega⟩

theorem pay (x : FVec Ideal S4096x1024 .bf16) (w : FVec Ideal S4096x512 .bf16) (i : Fin 1024) (j : Fin 512) :
    (k0_pay1 (F := Ideal) x w (ix3 0 i j) : EReal) = ∑ k : Fin 4096, (x (ix2 k i) : EReal) * (w (ix2 k j) : EReal) := by
  pointwise [k0_pay1]

/-- The product the call computes. -/
def val (x : FVec Ideal S4096x1024 .bf16) (w : FVec Ideal S4096x4096 .bf16) (e : Fin 8) (i : Fin 1024) (j : Fin 512) : EReal :=
  ∑ k : Fin 4096, (x (ix2 k i) : EReal) * (w (ix2 k (col e j)) : EReal)

theorem out (t : Fin cfg0.N) (i : Fin 1024) (j : Fin 512) (E : Fin 8) (I : Fin 1024) (J : Fin 512) (hE : E.val = t.val) (hI : I.val = i.val) (hJ : J.val = j.val) :
    (k0_pay1 (F := Ideal) (iblk m c 0 t) (iblk m c 1 t) (ix3 0 i j) : EReal) = val (m ((c : Thread nD τ).loc main_arg0)) (m ((c : Thread nD τ).loc main_arg1)) E I J :=
  (pay _ _ i j).trans (Finset.sum_congr rfl fun k _ => congrArg₂ (fun a b : EReal => a * b) (in0 m c t k i I hI) (in1 m c t k j (col E J) (by show E.val * 512 + J.val = t.val * 512 + j.val; omega)))

theorem final2 : ((dats m 0 c).arrAt 2 cfg0.N : FVec Ideal S8x1024x512 .bf16)
    = fun i => (val (m ((c : Thread nD τ).loc main_arg0)) (m ((c : Thread nD τ).loc main_arg1)) (i 0) (i 1) (i 2) : EReal) := by
  refine (dats m 0 c).arrAt_eq_of_covers 2 _ (by decide +kernel) fun t hf y => ?_
  blk_simp
  rw [after0_2]
  have e0 : ((win0_2.blk t).view.emb y 0 : ℕ) = t.val := by blk_simp [(idx t).2.2]
  have e1 : ((win0_2.blk t).view.emb y 1 : ℕ) = (y 1 : ℕ) := by blk_simp [(idx t).2.2]
  have e2 : ((win0_2.blk t).view.emb y 2 : ℕ) = (y 2 : ℕ) := by blk_simp [(idx t).2.2]
  unfold out0_2
  rw [View.canon_unit_zero (S := S1x1024x512) z3, View.ld_unit_zero (S := S4096x1024) z2, View.ld_unit_zero (S := S4096x512) z2]
  refine Eq.trans (congrArg (k0_pay1 (F := Ideal) (iblk m c 0 t) (iblk m c 1 t)) (eta y)) ?_
  exact out m c t ((y : S1x1024x512.Idx) 1) ((y : S1x1024x512.Idx) 2) _ _ _ e0 e1 e2

end Kernel

section Reference

open Cert.ReferenceDw1Ideal Cert.ReferenceDw1Ideal.Gen

theorem eta1 (y : S8x1024x512.Idx) : y = ix3 (y 0) (y 1) (y 2) := by funext k; fin_cases k <;> rfl

theorem ref (x : FVec Ideal S4096x1024 .bf16) (w : FVec Ideal S4096x4096 .bf16) :
    (truncf .bf16 (transpose S8x1024x512 [1, 0, 2] (shapeCast _ (transpose S1024x4096 [1, 0] (Host.dotGeneral dot_S4096x4096_S4096x1024_S4096x1024_0_0_1_1_n_n none (extf .f32 w bitsLt_bf16_f32) (extf .f32 x bitsLt_bf16_f32)) transposes_S4096x1024_S1024x4096_1_0) shapeCasts_S1024x4096_S1024x8x512) transposes_S1024x8x512_S8x1024x512_1_0_2) bitsLt_bf16_f32 : FVec Ideal S8x1024x512 .bf16)
      = fun i => val x w (i 0) (i 1) (i 2) := by
  funext y
  rw [eta1 y]
  generalize (y : S8x1024x512.Idx) 0 = e
  generalize (y : S8x1024x512.Idx) 1 = i
  generalize (y : S8x1024x512.Idx) 2 = j
  pointwise
  exact Finset.sum_congr rfl fun k _ => mul_comm (G := EReal) _ _

end Reference

end Mlp.Dw1

end
-- ==== Proof.Mlp.Du.lean ====
/- The gradient of the input of the MLP: the call, which sums over the shards of the weight, and the reference. -/
module

public import proofs.«01_k».proof.Proof.Gen.KernelDuIdeal.Value
public import proofs.«01_k».proof.Proof.Gen.ReferenceDuIdeal.Run
public import proofs.«01_k».proof.Proof.Mlp.Base

@[expose] public section

set_option maxRecDepth 16384

noncomputable section

namespace Mlp.Du

open Idealize.ShloMosaic Idealize.ShloMosaic.TcCoe Idealize.SL.Sem

section Kernel

open Cert.KernelDuIdeal Cert.KernelDuIdeal.Gen

theorem eta (y : S1024x512.Idx) : y = ix2 (y 0) (y 1) := by funext k; fin_cases k <;> rfl

/-- The block of each window at a point. -/
theorem idx : ∀ t : Fin cfg0.N, win0_0.index t = ![t.val / 2, 0] ∧ win0_1.index t = ![0, 0, t.val % 2, 0] ∧ win0_2.index t = ![t.val / 2, t.val % 2] :=
  (by decide +kernel : ∀ t : Fin grid0.N, _)

variable (m : (ℓ : Loc nD τ sig) → Buf (Elt Ideal) ℓ) (c : Dev nD)

theorem in0 (t : Fin cfg0.N) (i : Fin 1024) (k : Fin 4096) (r : Fin 4096) (hr : r.val = t.val / 2 * 1024 + i) :
    (iblk m c 0 t : FVec Ideal S1024x4096 .bf16) (ix2 i k) = (m ((c : Thread nD τ).loc main_arg0) : FVec Ideal S4096x4096 .bf16) (ix2 r k) := by
  blk_simp [iblk]
  entry_read
  refine congrArg (m _) (funext fun a => Fin.ext ?_)
  fin_cases a <;> blk_simp [idx t] <;> simp [hr]

theorem in1 (t : Fin cfg0.N) (d : Fin 8) (j k : Fin 512) (q : Fin 1024) (hq : q.val = t.val % 2 * 512 + j) (p : Fin 4096) (hp : p.val = d * 512 + k.val) :
    (iblk m c 1 t : FVec Ideal S8x1x512x512 .bf16) (ix4 d 0 j k) = (m ((c : Thread nD τ).loc main_arg1) : FVec Ideal S1024x4096 .f32) (ix2 q p) := by
  blk_simp [iblk]
  entry_read
  pointwise
  refine congrArg (m _) (congrArg₂ ix2 (Fin.ext ?_) (Fin.ext ?_)) <;> blk_simp [idx t] <;> (try simp only [hq, hp]) <;> (try omega)

/-- The column of the weight which a column of a shard is. -/
abbrev col (d : Fin 8) (k : Fin 512) : Fin 4096 := ⟨d.val * 512 + k.val, by omega⟩

/-- A sum over the columns, shard by shard. -/
theorem shards (f : Fin 4096 → EReal) : ∑ p, f p = ∑ d : Fin 8, ∑ k : Fin 512, f (col d k) := by
  rw [← Fintype.sum_prod_type' (f := fun d k => f (col d k))]
  refine (Fintype.sum_equiv (finProdFinEquiv (m := 8) (n := 512)) _ _ fun x => congrArg f (Fin.ext ?_)).symm
  show x.1.val * 512 + x.2.val = x.2.val + 512 * x.1.val
  omega

/-- The load of one shard. -/
theorem slab (w : FVec Ideal S8x1x512x512 .bf16) (d : Fin 8) (h : ∀ a, ![d.val, 0, 0, 0] a + S1x1x512x512.size a ≤ S8x1x512x512.size a) (j k : Fin 512) :
    View.ld (Val := Elt Ideal) (e' := .bf16) w (Rect.unit (s := S8x1x512x512) ![d.val, 0, 0, 0] S1x1x512x512.size h) (ix4 (n0 := 1) (n1 := 1) (n2 := 512) (n3 := 512) 0 0 j k) = w (ix4 d 0 j k) := by
  refine congrArg w (funext fun a => Fin.ext ?_)
  fin_cases a <;> simp [Rect.unit, ix4]

theorem pay2 (x : FVec Ideal S1024x4096 .bf16) (w0 w1 w2 w3 w4 : FVec Ideal S1x1x512x512 .bf16) (i : Fin 1024) (j : Fin 512) :
    (k0_pay2 (F := Ideal) x w0 w1 w2 w3 w4 (ix2 i j) : EReal) = (∑ k : Fin 512, (x (ix2 i ⟨k.val, by omega⟩) : EReal) * (w0 (ix4 0 0 j k) : EReal)) + (∑ k : Fin 512, (x (ix2 i ⟨512 + k.val, by omega⟩) : EReal) * (w1 (ix4 0 0 j k) : EReal)) + (∑ k : Fin 512, (x (ix2 i ⟨1024 + k.val, by omega⟩) : EReal) * (w2 (ix4 0 0 j k) : EReal)) + (∑ k : Fin 512, (x (ix2 i ⟨1536 + k.val, by omega⟩) : EReal) * (w3 (ix4 0 0 j k) : EReal)) + (∑ k : Fin 512, (x (ix2 i ⟨2048 + k.val, by omega⟩) : EReal) * (w4 (ix4 0 0 j k) : EReal)) := by
  pointwise [k0_pay2]

theorem pay1 (x : FVec Ideal S1024x4096 .bf16) (z : FVec Ideal S1024x512 .f32) (w5 w6 w7 : FVec Ideal S1x1x512x512 .bf16) (i : Fin 1024) (j : Fin 512) :
    (k0_pay1 (F := Ideal) x z (k0_pay3 x) w5 w6 w7 (ix2 i j) : EReal) = z (ix2 i j) + (∑ k : Fin 512, (x (ix2 i ⟨2560 + k.val, by omega⟩) : EReal) * (w5 (ix4 0 0 j k) : EReal)) + (∑ k : Fin 512, (x (ix2 i ⟨3072 + k.val, by omega⟩) : EReal) * (w6 (ix4 0 0 j k) : EReal)) + (∑ k : Fin 512, (x (ix2 i ⟨3584 + k.val, by omega⟩) : EReal) * (w7 (ix4 0 0 j k) : EReal)) := by
  pointwise [k0_pay1, k0_pay3]

/-- The product the call computes. -/
def val (x : FVec Ideal S4096x4096 .bf16) (w : FVec Ideal S1024x4096 .f32) (i : Fin 4096) (j : Fin 1024) : EReal :=
  ∑ k : Fin 4096, (x (ix2 i k) : EReal) * (w (ix2 j k) : EReal)

/-- A product of extended reals. -/
abbrev mul (a b : EReal) : EReal := a * b

/-- One shard's part of the sum. -/
theorem part (t : Fin cfg0.N) (d : Fin 8) (h : ∀ a, ![d.val, 0, 0, 0] a + S1x1x512x512.size a ≤ S8x1x512x512.size a) (g : Fin 512 → Fin 4096) (hg : ∀ k, (g k).val = d.val * 512 + k.val) (i : Fin 1024) (j : Fin 512) (r : Fin 4096) (q : Fin 1024) (hr : r.val = t.val / 2 * 1024 + i) (hq : q.val = t.val % 2 * 512 + j) :
    (∑ k : Fin 512, mul (iblk m c 0 t (ix2 i (g k))) (View.ld (Val := Elt Ideal) (e' := .bf16) (iblk m c 1 t) (Rect.unit (s := S8x1x512x512) ![d.val, 0, 0, 0] S1x1x512x512.size h) (ix4 (n0 := 1) (n1 := 1) (n2 := 512) (n3 := 512) 0 0 j k)) : EReal)
      = ∑ k : Fin 512, mul ((m ((c : Thread nD τ).loc main_arg0)) (ix2 r (col d k))) ((m ((c : Thread nD τ).loc main_arg1)) (ix2 q (col d k))) :=
  Finset.sum_congr rfl fun k _ => congrArg₂ (fun a b : EReal => a * b) (in0 m c t i (g k) r hr |>.trans (congrArg (fun z => (m ((c : Thread nD τ).loc main_arg0)) (ix2 r z)) (Fin.ext (hg k)))) ((slab _ d h j k).trans (in1 m c t d j k q hq (col d k) rfl))

theorem out (t : Fin cfg0.N) (i : Fin 1024) (j : Fin 512) (r : Fin 4096) (q : Fin 1024) (hr : r.val = t.val / 2 * 1024 + i) (hq : q.val = t.val % 2 * 512 + j) :
    (k0_pay1 (F := Ideal) (iblk m c 0 t) (k0_pay2 (iblk m c 0 t) (View.ld (iblk m c 1 t) r0_1) (View.ld (iblk m c 1 t) r0_2) (View.ld (iblk m c 1 t) r0_3) (View.ld (iblk m c 1 t) r0_4) (View.ld (iblk m c 1 t) r0_5)) (k0_pay3 (iblk m c 0 t)) (View.ld (iblk m c 1 t) r0_6) (View.ld (iblk m c 1 t) r0_7) (View.ld (iblk m c 1 t) r0_8) (ix2 i j) : EReal) = val (m ((c : Thread nD τ).loc main_arg0)) (m ((c : Thread nD τ).loc main_arg1)) r q := by
  refine (pay1 _ _ _ _ _ i j).trans ?_
  refine (congrArg (fun z : EReal => z + _ + _ + _) (pay2 _ _ _ _ _ _ i j)).trans ?_
  unfold val
  rw [shards, Fin.sum_univ_eight]
  have P := fun d h g hg => part m c t d h g hg i j r q hr hq
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (P 0 _ _ fun k => by first | rfl | (show 0*512 + k.val = _; rfl) | (show k.val = 0 * 512 + k.val; omega)) (P 1 _ _ fun k => by first | rfl | (show 1*512 + k.val = _; rfl) | (show k.val = 0 * 512 + k.val; omega))) (P 2 _ _ fun k => by first | rfl | (show 2*512 + k.val = _; rfl) | (show k.val = 0 * 512 + k.val; omega))) (P 3 _ _ fun k => by first | rfl | (show 3*512 + k.val = _; rfl) | (show k.val = 0 * 512 + k.val; omega))) (P 4 _ _ fun k => by first | rfl | (show 4*512 + k.val = _; rfl) | (show k.val = 0 * 512 + k.val; omega))) (P 5 _ _ fun k => by first | rfl | (show 5*512 + k.val = _; rfl) | (show k.val = 0 * 512 + k.val; omega))) (P 6 _ _ fun k => by first | rfl | (show 6*512 + k.val = _; rfl) | (show k.val = 0 * 512 + k.val; omega))) (P 7 _ _ fun k => by first | rfl | (show 7*512 + k.val = _; rfl) | (show k.val = 0 * 512 + k.val; omega))

theorem final2 : ((dats m 0 c).arrAt 2 cfg0.N : FVec Ideal S4096x1024 .f32)
    = fun i => (val (m ((c : Thread nD τ).loc main_arg0)) (m ((c : Thread nD τ).loc main_arg1)) (i 0) (i 1) : EReal) := by
  refine (dats m 0 c).arrAt_eq_of_covers 2 _ (by decide +kernel) fun t hf y => ?_
  blk_simp
  rw [after0_2]
  have e0 : ((win0_2.blk t).view.emb y 0 : ℕ) = t.val / 2 * 1024 + (y 0 : ℕ) := by blk_simp [(idx t).2.2]
  have e1 : ((win0_2.blk t).view.emb y 1 : ℕ) = t.val % 2 * 512 + (y 1 : ℕ) := by blk_simp [(idx t).2.2]
  unfold out0_2
  rw [View.canon_unit_zero (S := S1024x512) z2, View.ld_unit_zero (S := S1024x4096) z2]
  refine Eq.trans (congrArg (k0_pay1 (F := Ideal) (iblk m c 0 t) (k0_pay2 (iblk m c 0 t) (View.ld (iblk m c 1 t) r0_1) (View.ld (iblk m c 1 t) r0_2) (View.ld (iblk m c 1 t) r0_3) (View.ld (iblk m c 1 t) r0_4) (View.ld (iblk m c 1 t) r0_5)) (k0_pay3 (iblk m c 0 t)) (View.ld (iblk m c 1 t) r0_6) (View.ld (iblk m c 1 t) r0_7) (View.ld (iblk m c 1 t) r0_8)) (eta y)) ?_
  exact out m c t ((y : S1024x512.Idx) 0) ((y : S1024x512.Idx) 1) _ _ e0 e1

end Kernel

section Reference

open Cert.ReferenceDuIdeal Cert.ReferenceDuIdeal.Gen

theorem eta1 (y : S4096x1024.Idx) : y = ix2 (y 0) (y 1) := by funext k; fin_cases k <;> rfl

theorem ref (x : FVec Ideal S4096x4096 .bf16) (w : FVec Ideal S1024x4096 .f32) :
    (Host.dotGeneral dot_S4096x4096_S1024x4096_S4096x1024_1_1_0_0_n_n none (extf .f32 x bitsLt_bf16_f32) w : FVec Ideal S4096x1024 .f32)
      = fun i => val x w (i 0) (i 1) := by
  funext y
  rw [eta1 y]
  generalize (y : S4096x1024.Idx) 0 = i
  generalize (y : S4096x1024.Idx) 1 = j
  pointwise <;> rfl

end Reference

end Mlp.Du

end
-- ==== Proof.Mlp.Qkv.lean ====
/- The attention's input projection: the call and the reference as functions of the inputs. -/
module

public import proofs.«01_k».proof.Proof.Gen.KernelQkvIdeal.Value
public import proofs.«01_k».proof.Proof.Gen.ReferenceQkvIdeal.Run
public import proofs.«01_k».proof.Proof.Mlp.Base

@[expose] public section

set_option maxRecDepth 16384

noncomputable section

namespace Mlp.Qkv

open Idealize.ShloMosaic Idealize.ShloMosaic.TcCoe Idealize.SL.Sem

section Kernel

open Cert.KernelQkvIdeal Cert.KernelQkvIdeal.Gen

theorem eta (y : S1024x512.Idx) : y = ix2 (y 0) (y 1) := by funext k; fin_cases k <;> rfl

/-- The block of each window at a point. -/
theorem idx : ∀ t : Fin cfg0.N, win0_0.index t = ![t.val / 3, 0] ∧ win0_1.index t = ![0, t.val % 3] ∧ win0_2.index t = ![t.val / 3, t.val % 3] :=
  (by decide +kernel : ∀ t : Fin grid0.N, _)

variable (m : (ℓ : Loc nD τ sig) → Buf (Elt Ideal) ℓ) (c : Dev nD)

theorem in0 (t : Fin cfg0.N) (i : Fin 1024) (k : Fin 1024) (r : Fin 4096) (hr : r.val = t.val / 3 * 1024 + i) :
    (iblk m c 0 t : FVec Ideal S1024x1024 .bf16) (ix2 i k) = (m ((c : Thread nD τ).loc main_arg0) : FVec Ideal S4096x1024 .bf16) (ix2 r k) := by
  blk_simp [iblk]
  entry_read
  refine congrArg (m _) (funext fun a => Fin.ext ?_)
  fin_cases a <;> blk_simp [idx t] <;> simp [hr]

theorem in1 (t : Fin cfg0.N) (k : Fin 1024) (j : Fin 512) (q : Fin 1536) (hq : q.val = t.val % 3 * 512 + j) :
    (iblk m c 1 t : FVec Ideal S1024x512 .bf16) (ix2 k j) = (m ((c : Thread nD τ).loc main_arg1) : FVec Ideal S1024x1536 .f32) (ix2 k q) := by
  blk_simp [iblk]
  entry_read
  pointwise
  refine congrArg (m _) (congrArg₂ ix2 (Fin.ext ?_) (Fin.ext ?_)) <;> blk_simp [idx t] <;> (try simp only [hq]) <;> (try omega)

theorem pay (x : FVec Ideal S1024x1024 .bf16) (w : FVec Ideal S1024x512 .bf16) (i : Fin 1024) (j : Fin 512) :
    (k0_pay1 (F := Ideal) x w  (ix2 i j) : EReal) = (∑ k : Fin 1024, (x (ix2 i k) : EReal) * (w (ix2 k j) : EReal)) := by
  pointwise [k0_pay1]

/-- The value the call computes. -/
def val (x : FVec Ideal S4096x1024 .bf16) (w : FVec Ideal S1024x1536 .f32) (i : Fin 4096) (j : Fin 1536) : EReal :=
  (∑ k : Fin 1024, (x (ix2 i k) : EReal) * (w (ix2 k j) : EReal))

theorem out (t : Fin cfg0.N) (i : Fin 1024) (j : Fin 512) (r : Fin 4096) (q : Fin 1536) (hr : r.val = t.val / 3 * 1024 + i) (hq : q.val = t.val % 3 * 512 + j) :
    (k0_pay1 (F := Ideal) (iblk m c 0 t) (iblk m c 1 t) (ix2 i j) : EReal) = val (m ((c : Thread nD τ).loc main_arg0)) (m ((c : Thread nD τ).loc main_arg1)) r q :=
  (pay _ _ i j).trans (Finset.sum_congr rfl fun k _ => congrArg₂ (fun a b : EReal => a * b) (in0 m c t i k r hr) (in1 m c t k j q hq))

theorem final2 : ((dats m 0 c).arrAt 2 cfg0.N : FVec Ideal S4096x1536 .f32)
    = fun i => (val (m ((c : Thread nD τ).loc main_arg0)) (m ((c : Thread nD τ).loc main_arg1)) (i 0) (i 1) : EReal) := by
  refine (dats m 0 c).arrAt_eq_of_covers 2 _ (by decide +kernel) fun t hf y => ?_
  blk_simp
  rw [after0_2]
  have e0 : ((win0_2.blk t).view.emb y 0 : ℕ) = t.val / 3 * 1024 + (y 0 : ℕ) := by blk_simp [(idx t).2.2]
  have e1 : ((win0_2.blk t).view.emb y 1 : ℕ) = t.val % 3 * 512 + (y 1 : ℕ) := by blk_simp [(idx t).2.2]
  unfold out0_2
  rw [View.canon_unit_zero (S := S1024x512) z2, View.ld_unit_zero (S := S1024x1024) z2, View.ld_unit_zero (S := S1024x512) z2]
  refine Eq.trans (congrArg (k0_pay1 (F := Ideal) (iblk m c 0 t) (iblk m c 1 t)) (eta y)) ?_
  exact out m c t ((y : S1024x512.Idx) 0) ((y : S1024x512.Idx) 1) _ _ e0 e1

end Kernel

section Reference

open Cert.ReferenceQkvIdeal Cert.ReferenceQkvIdeal.Gen

theorem eta1 (y : S4096x1536.Idx) : y = ix2 (y 0) (y 1) := by funext k; fin_cases k <;> rfl

theorem ref (x : FVec Ideal S4096x1024 .bf16) (w : FVec Ideal S1024x1536 .f32) :
    (Host.dotGeneral dot_S4096x1024_S1024x1536_S4096x1536_1_0_0_1_n_n none (extf .f32 x bitsLt_bf16_f32) w : FVec Ideal S4096x1536 .f32)
      = fun i => val x w  (i 0) (i 1) := by
  funext y
  rw [eta1 y]
  generalize (y : S4096x1536.Idx) 0 = i
  generalize (y : S4096x1536.Idx) 1 = j
  pointwise <;> rfl

end Reference

end Mlp.Qkv

end
-- ==== Proof.Mlp.Wo.lean ====
/- The attention's output projection: the call and the reference as functions of the inputs. -/
module

public import proofs.«01_k».proof.Proof.Gen.KernelWoIdeal.Value
public import proofs.«01_k».proof.Proof.Gen.ReferenceWoIdeal.Run
public import proofs.«01_k».proof.Proof.Mlp.Base

@[expose] public section

set_option maxRecDepth 16384

noncomputable section

namespace Mlp.Wo

open Idealize.ShloMosaic Idealize.ShloMosaic.TcCoe Idealize.SL.Sem

section Kernel

open Cert.KernelWoIdeal Cert.KernelWoIdeal.Gen

theorem eta (y : S1024x512.Idx) : y = ix2 (y 0) (y 1) := by funext k; fin_cases k <;> rfl

/-- The block of each window at a point. -/
theorem idx : ∀ t : Fin cfg0.N, win0_0.index t = ![t.val / 2, 0] ∧ win0_1.index t = ![0, 0, 0, t.val % 2] ∧ win0_2.index t = ![t.val / 2, t.val % 2] ∧ win0_3.index t = ![t.val / 2, t.val % 2] :=
  (by decide +kernel : ∀ t : Fin grid0.N, _)

variable (m : (ℓ : Loc nD τ sig) → Buf (Elt Ideal) ℓ) (c : Dev nD)

theorem in0 (t : Fin cfg0.N) (i : Fin 1024) (k : Fin 1024) (r : Fin 4096) (hr : r.val = t.val / 2 * 1024 + i) :
    (iblk m c 0 t : FVec Ideal S1024x1024 .bf16) (ix2 i k) = (m ((c : Thread nD τ).loc main_arg0) : FVec Ideal S4096x1024 .bf16) (ix2 r k) := by
  blk_simp [iblk]
  entry_read
  refine congrArg (m _) (funext fun a => Fin.ext ?_)
  fin_cases a <;> blk_simp [idx t] <;> simp [hr]

theorem in1 (t : Fin cfg0.N) (d : Fin 8) (k : Fin 128) (j : Fin 512) (p : Fin 1024) (hp : p.val = d * 128 + k.val) (q : Fin 1024) (hq : q.val = t.val % 2 * 512 + j) :
    (iblk m c 1 t : FVec Ideal S8x1x128x512 .bf16) (ix4 d 0 k j) = (m ((c : Thread nD τ).loc main_arg1) : FVec Ideal S1024x1024 .f32) (ix2 p q) := by
  blk_simp [iblk]
  entry_read
  pointwise
  refine congrArg (m _) (congrArg₂ ix2 (Fin.ext ?_) (Fin.ext ?_)) <;> blk_simp [idx t] <;> (try simp only [hp, hq]) <;> (try omega)

theorem in2 (t : Fin cfg0.N) (i : Fin 1024) (j : Fin 512) (r : Fin 4096) (hr : r.val = t.val / 2 * 1024 + i) (q : Fin 1024) (hq : q.val = t.val % 2 * 512 + j) :
    (iblk m c 2 t : FVec Ideal S1024x512 .f32) (ix2 i j) = (m ((c : Thread nD τ).loc main_arg2) : FVec Ideal S4096x1024 .f32) (ix2 r q) := by
  blk_simp [iblk]
  entry_read
  refine congrArg (m _) (funext fun a => Fin.ext ?_)
  fin_cases a <;> blk_simp [idx t] <;> simp [hr, hq]

/-- The shard of a row of the weight, and its row there. -/
abbrev hi (k : Fin 1024) : Fin 8 := ⟨k.val / 128, by omega⟩
abbrev lo (k : Fin 1024) : Fin 128 := ⟨k.val % 128, by omega⟩

theorem pay (x : FVec Ideal S1024x1024 .bf16) (w : FVec Ideal S8x1x128x512 .bf16) (h : FVec Ideal S1024x512 .f32) (i : Fin 1024) (j : Fin 512) :
    (k0_pay1 (F := Ideal) x w h (ix2 i j) : EReal) = (∑ k : Fin 1024, (x (ix2 i k) : EReal) * (w (ix4 (hi k) 0 (lo k) j) : EReal)) + h (ix2 i j) := by
  pointwise [k0_pay1] <;> rfl

/-- The value the call computes. -/
def val (x : FVec Ideal S4096x1024 .bf16) (w : FVec Ideal S1024x1024 .f32) (h : FVec Ideal S4096x1024 .f32) (i : Fin 4096) (j : Fin 1024) : EReal :=
  (∑ k : Fin 1024, (x (ix2 i k) : EReal) * (w (ix2 k j) : EReal)) + h (ix2 i j)

theorem out (t : Fin cfg0.N) (i : Fin 1024) (j : Fin 512) (r : Fin 4096) (q : Fin 1024) (hr : r.val = t.val / 2 * 1024 + i) (hq : q.val = t.val % 2 * 512 + j) :
    (k0_pay1 (F := Ideal) (iblk m c 0 t) (iblk m c 1 t) (iblk m c 2 t) (ix2 i j) : EReal) = val (m ((c : Thread nD τ).loc main_arg0)) (m ((c : Thread nD τ).loc main_arg1)) (m ((c : Thread nD τ).loc main_arg2)) r q :=
  (pay _ _ _ i j).trans (congrArg₂ (fun a b : EReal => a + b) (Finset.sum_congr rfl fun k _ => congrArg₂ (fun a b : EReal => a * b) (in0 m c t i k r hr) (in1 m c t (hi k) (lo k) j k (by show k.val = k.val / 128 * 128 + k.val % 128; omega) q hq)) (in2 m c t i j r hr q hq))

theorem final3 : ((dats m 0 c).arrAt 3 cfg0.N : FVec Ideal S4096x1024 .f32)
    = fun i => (val (m ((c : Thread nD τ).loc main_arg0)) (m ((c : Thread nD τ).loc main_arg1)) (m ((c : Thread nD τ).loc main_arg2)) (i 0) (i 1) : EReal) := by
  refine (dats m 0 c).arrAt_eq_of_covers 3 _ (by decide +kernel) fun t hf y => ?_
  blk_simp
  rw [after0_3]
  have e0 : ((win0_3.blk t).view.emb y 0 : ℕ) = t.val / 2 * 1024 + (y 0 : ℕ) := by blk_simp [(idx t).2.2.2]
  have e1 : ((win0_3.blk t).view.emb y 1 : ℕ) = t.val % 2 * 512 + (y 1 : ℕ) := by blk_simp [(idx t).2.2.2]
  unfold out0_3
  rw [View.canon_unit_zero (S := S1024x512) z2, View.ld_unit_zero (S := S1024x1024) z2, View.ld_unit_zero (S := S8x1x128x512) z4, View.ld_unit_zero (S := S1024x512) z2]
  refine Eq.trans (congrArg (k0_pay1 (F := Ideal) (iblk m c 0 t) (iblk m c 1 t) (iblk m c 2 t)) (eta y)) ?_
  exact out m c t ((y : S1024x512.Idx) 0) ((y : S1024x512.Idx) 1) _ _ e0 e1

end Kernel

section Reference

open Cert.ReferenceWoIdeal Cert.ReferenceWoIdeal.Gen

theorem eta1 (y : S4096x1024.Idx) : y = ix2 (y 0) (y 1) := by funext k; fin_cases k <;> rfl

theorem ref (x : FVec Ideal S4096x1024 .bf16) (w : FVec Ideal S1024x1024 .f32) (h : FVec Ideal S4096x1024 .f32) :
    (addf h (Host.dotGeneral dot_S4096x1024_S1024x1024_S4096x1024_1_0_0_1_n_n none (extf .f32 x bitsLt_bf16_f32) (w)) : FVec Ideal S4096x1024 .f32)
      = fun i => val x w h (i 0) (i 1) := by
  funext y
  rw [eta1 y]
  generalize (y : S4096x1024.Idx) 0 = i
  generalize (y : S4096x1024.Idx) 1 = j
  pointwise
  exact add_comm (G := EReal) _ _

end Reference

end Mlp.Wo

end
-- ==== Proof.Mlp.Do.lean ====
/- The gradient of the input of a square product whose weight is sharded over its rows: the call and the reference as functions of the inputs. -/
module

public import proofs.«01_k».proof.Proof.Gen.KernelDoIdeal.Value
public import proofs.«01_k».proof.Proof.Gen.ReferenceDoIdeal.Run
public import proofs.«01_k».proof.Proof.Mlp.Base

@[expose] public section

set_option maxRecDepth 16384

noncomputable section

namespace Mlp.Do

open Idealize.ShloMosaic Idealize.ShloMosaic.TcCoe Idealize.SL.Sem

section Kernel

open Cert.KernelDoIdeal Cert.KernelDoIdeal.Gen

theorem eta (y : S1024x512.Idx) : y = ix2 (y 0) (y 1) := by funext k; fin_cases k <;> rfl

/-- The block of each window at a point. -/
theorem idx : ∀ t : Fin cfg0.N, win0_0.index t = ![t.val / 2, 0] ∧ win0_1.index t = ![t.val % 2, 0, 0, 0] ∧ win0_2.index t = ![t.val / 2, t.val % 2] :=
  (by decide +kernel : ∀ t : Fin grid0.N, _)

variable (m : (ℓ : Loc nD τ sig) → Buf (Elt Ideal) ℓ) (c : Dev nD)

theorem in0 (t : Fin cfg0.N) (i : Fin 1024) (k : Fin 1024) (r : Fin 4096) (hr : r.val = t.val / 2 * 1024 + i) :
    (iblk m c 0 t : FVec Ideal S1024x1024 .bf16) (ix2 i k) = (m ((c : Thread nD τ).loc main_arg0) : FVec Ideal S4096x1024 .bf16) (ix2 r k) := by
  blk_simp [iblk]
  entry_read
  refine congrArg (m _) (funext fun a => Fin.ext ?_)
  fin_cases a <;> blk_simp [idx t] <;> simp [hr]

theorem in1 (t : Fin cfg0.N) (d : Fin 4) (j : Fin 128) (k : Fin 1024) (q : Fin 1024) (hq : q.val = t.val % 2 * 512 + (d * 128 + j.val)) :
    (iblk m c 1 t : FVec Ideal S4x1x128x1024 .bf16) (ix4 d 0 j k) = (m ((c : Thread nD τ).loc main_arg1) : FVec Ideal S1024x1024 .f32) (ix2 q k) := by
  blk_simp [iblk]
  entry_read
  pointwise
  refine congrArg (m _) (congrArg₂ ix2 (Fin.ext ?_) (Fin.ext ?_)) <;> blk_simp [idx t] <;> (try simp only [hq]) <;> (try omega)

/-- The shard of a row of the block, and its row there. -/
abbrev hi (j : Fin 512) : Fin 4 := ⟨j.val / 128, by omega⟩
abbrev lo (j : Fin 512) : Fin 128 := ⟨j.val % 128, by omega⟩

theorem pay (x : FVec Ideal S1024x1024 .bf16) (w : FVec Ideal S4x1x128x1024 .bf16) (i : Fin 1024) (j : Fin 512) :
    (k0_pay1 (F := Ideal) x w  (ix2 i j) : EReal) = (∑ k : Fin 1024, (x (ix2 i k) : EReal) * (w (ix4 (hi j) 0 (lo j) k) : EReal)) := by
  pointwise [k0_pay1] <;> rfl

/-- The value the call computes. -/
def val (x : FVec Ideal S4096x1024 .bf16) (w : FVec Ideal S1024x1024 .f32) (i : Fin 4096) (j : Fin 1024) : EReal :=
  (∑ k : Fin 1024, (x (ix2 i k) : EReal) * (w (ix2 j k) : EReal))

theorem out (t : Fin cfg0.N) (i : Fin 1024) (j : Fin 512) (r : Fin 4096) (q : Fin 1024) (hr : r.val = t.val / 2 * 1024 + i) (hq : q.val = t.val % 2 * 512 + j) :
    (k0_pay1 (F := Ideal) (iblk m c 0 t) (iblk m c 1 t) (ix2 i j) : EReal) = val (m ((c : Thread nD τ).loc main_arg0)) (m ((c : Thread nD τ).loc main_arg1)) r q :=
  (pay _ _ i j).trans (Finset.sum_congr rfl fun k _ => congrArg₂ (fun a b : EReal => a * b) (in0 m c t i k r hr) (in1 m c t (hi j) (lo j) k q (by show q.val = t.val % 2 * 512 + (j.val / 128 * 128 + j.val % 128); omega)))

theorem final2 : ((dats m 0 c).arrAt 2 cfg0.N : FVec Ideal S4096x1024 .f32)
    = fun i => (val (m ((c : Thread nD τ).loc main_arg0)) (m ((c : Thread nD τ).loc main_arg1)) (i 0) (i 1) : EReal) := by
  refine (dats m 0 c).arrAt_eq_of_covers 2 _ (by decide +kernel) fun t hf y => ?_
  blk_simp
  rw [after0_2]
  have e0 : ((win0_2.blk t).view.emb y 0 : ℕ) = t.val / 2 * 1024 + (y 0 : ℕ) := by blk_simp [(idx t).2.2]
  have e1 : ((win0_2.blk t).view.emb y 1 : ℕ) = t.val % 2 * 512 + (y 1 : ℕ) := by blk_simp [(idx t).2.2]
  unfold out0_2
  rw [View.canon_unit_zero (S := S1024x512) z2, View.ld_unit_zero (S := S1024x1024) z2, View.ld_unit_zero (S := S4x1x128x1024) z4]
  refine Eq.trans (congrArg (k0_pay1 (F := Ideal) (iblk m c 0 t) (iblk m c 1 t)) (eta y)) ?_
  exact out m c t ((y : S1024x512.Idx) 0) ((y : S1024x512.Idx) 1) _ _ e0 e1

end Kernel

section Reference

open Cert.ReferenceDoIdeal Cert.ReferenceDoIdeal.Gen

theorem eta1 (y : S4096x1024.Idx) : y = ix2 (y 0) (y 1) := by funext k; fin_cases k <;> rfl

theorem ref (x : FVec Ideal S4096x1024 .bf16) (w : FVec Ideal S1024x1024 .f32) :
    (Host.dotGeneral dot_S4096x1024_S1024x1024_S4096x1024_1_1_0_0_n_n none (extf .f32 x bitsLt_bf16_f32) (w) : FVec Ideal S4096x1024 .f32)
      = fun i => val x w  (i 0) (i 1) := by
  funext y
  rw [eta1 y]
  generalize (y : S4096x1024.Idx) 0 = i
  generalize (y : S4096x1024.Idx) 1 = j
  pointwise <;> rfl

end Reference

end Mlp.Do

end
-- ==== Proof.Mlp.Dwo.lean ====
/- The gradient of a square weight sharded over its rows: the call and the reference as functions of the inputs. -/
module

public import proofs.«01_k».proof.Proof.Gen.KernelDwoIdeal.Value
public import proofs.«01_k».proof.Proof.Gen.ReferenceDwoIdeal.Run
public import proofs.«01_k».proof.Proof.Mlp.Base

@[expose] public section

set_option maxRecDepth 16384

noncomputable section

namespace Mlp.Dwo

open Idealize.ShloMosaic Idealize.ShloMosaic.TcCoe Idealize.SL.Sem

section Kernel

open Cert.KernelDwoIdeal Cert.KernelDwoIdeal.Gen

theorem eta (y : S8x128x512.Idx) : y = ix3 (y 0) (y 1) (y 2) := by funext k; fin_cases k <;> rfl

/-- The block of each window at a point. -/
theorem idx : ∀ t : Fin cfg0.N, win0_0.index t = ![0, t.val / 2] ∧ win0_1.index t = ![0, t.val % 2] ∧ win0_2.index t = ![t.val / 2, 0, t.val % 2] :=
  (by decide +kernel : ∀ t : Fin grid0.N, _)

variable (m : (ℓ : Loc nD τ sig) → Buf (Elt Ideal) ℓ) (c : Dev nD)

theorem in0 (t : Fin cfg0.N) (k : Fin 4096) (i : Fin 1024) (r : Fin 1024) (hr : r.val = t.val / 2 * 1024 + i) :
    (iblk m c 0 t : FVec Ideal S4096x1024 .bf16) (ix2 k i) = (m ((c : Thread nD τ).loc main_arg0) : FVec Ideal S4096x1024 .bf16) (ix2 k r) := by
  blk_simp [iblk]
  entry_read
  refine congrArg (m _) (funext fun a => Fin.ext ?_)
  fin_cases a <;> blk_simp [idx t] <;> simp [hr]

theorem in1 (t : Fin cfg0.N) (k : Fin 4096) (j : Fin 512) (q : Fin 1024) (hq : q.val = t.val % 2 * 512 + j) :
    (iblk m c 1 t : FVec Ideal S4096x512 .bf16) (ix2 k j) = (m ((c : Thread nD τ).loc main_arg1) : FVec Ideal S4096x1024 .bf16) (ix2 k q) := by
  blk_simp [iblk]
  entry_read
  refine congrArg (m _) (funext fun a => Fin.ext ?_)
  fin_cases a <;> blk_simp [idx t] <;> simp [hq]

/-- The row of a block's shard within the block, and within the weight. -/
abbrev rowb (e : Fin 8) (i : Fin 128) : Fin 1024 := ⟨e.val * 128 + i.val, by omega⟩
abbrev row (e : Fin 8) (i : Fin 128) : Fin 1024 := ⟨e.val * 128 + i.val, by omega⟩

theorem pay (x : FVec Ideal S4096x1024 .bf16) (w : FVec Ideal S4096x512 .bf16) (e : Fin 8) (i : Fin 128) (j : Fin 512) :
    (k0_pay1 (F := Ideal) x w (ix3 e i j) : EReal) = ∑ k : Fin 4096, (x (ix2 k (rowb e i)) : EReal) * (w (ix2 k j) : EReal) := by
  pointwise [k0_pay1] <;> rfl

/-- The product the call computes. -/
def val (x : FVec Ideal S4096x1024 .bf16) (w : FVec Ideal S4096x1024 .bf16) (e : Fin 8) (i : Fin 128) (j : Fin 1024) : EReal :=
  ∑ k : Fin 4096, (x (ix2 k (row e i)) : EReal) * (w (ix2 k j) : EReal)

theorem out (t : Fin cfg0.N) (e : Fin 8) (i : Fin 128) (j : Fin 512) (E : Fin 8) (I : Fin 128) (q : Fin 1024) (hE : E.val = t.val / 2 * 8 + e) (hI : I.val = i.val) (hq : q.val = t.val % 2 * 512 + j) :
    (k0_pay1 (F := Ideal) (iblk m c 0 t) (iblk m c 1 t) (ix3 e i j) : EReal) = val (m ((c : Thread nD τ).loc main_arg0)) (m ((c : Thread nD τ).loc main_arg1)) E I q :=
  (pay _ _ e i j).trans (Finset.sum_congr rfl fun k _ => congrArg₂ (fun a b : EReal => a * b) (in0 m c t k (rowb e i) (row E I) (by show E.val * 128 + I.val = t.val / 2 * 1024 + (e.val * 128 + i.val); omega)) (in1 m c t k j q hq))

theorem final2 : ((dats m 0 c).arrAt 2 cfg0.N : FVec Ideal S8x128x1024 .bf16)
    = fun i => (val (m ((c : Thread nD τ).loc main_arg0)) (m ((c : Thread nD τ).loc main_arg1)) (i 0) (i 1) (i 2) : EReal) := by
  refine (dats m 0 c).arrAt_eq_of_covers 2 _ (by decide +kernel) fun t hf y => ?_
  blk_simp
  rw [after0_2]
  have e0 : ((win0_2.blk t).view.emb y 0 : ℕ) = t.val / 2 * 8 + (y 0 : ℕ) := by blk_simp [(idx t).2.2]
  have e1 : ((win0_2.blk t).view.emb y 1 : ℕ) = (y 1 : ℕ) := by blk_simp [(idx t).2.2]
  have e2 : ((win0_2.blk t).view.emb y 2 : ℕ) = t.val % 2 * 512 + (y 2 : ℕ) := by blk_simp [(idx t).2.2]
  unfold out0_2
  rw [View.canon_unit_zero (S := S8x128x512) z3, View.ld_unit_zero (S := S4096x1024) z2, View.ld_unit_zero (S := S4096x512) z2]
  refine Eq.trans (congrArg (k0_pay1 (F := Ideal) (iblk m c 0 t) (iblk m c 1 t)) (eta y)) ?_
  exact out m c t ((y : S8x128x512.Idx) 0) ((y : S8x128x512.Idx) 1) ((y : S8x128x512.Idx) 2) _ _ _ e0 e1 e2

end Kernel

section Reference

open Cert.ReferenceDwoIdeal Cert.ReferenceDwoIdeal.Gen

theorem eta1 (y : S8x128x1024.Idx) : y = ix3 (y 0) (y 1) (y 2) := by funext k; fin_cases k <;> rfl

theorem ref (x : FVec Ideal S4096x1024 .bf16) (w : FVec Ideal S4096x1024 .bf16) :
    (truncf .bf16 (shapeCast _ (transpose S1024x1024 [1, 0] (Host.dotGeneral dot_S4096x1024_S4096x1024_S1024x1024_0_0_1_1_n_n none (extf .f32 w bitsLt_bf16_f32) (extf .f32 x bitsLt_bf16_f32)) transposes_S1024x1024_S1024x1024_1_0) shapeCasts_S1024x1024_S8x128x1024) bitsLt_bf16_f32 : FVec Ideal S8x128x1024 .bf16)
      = fun i => val x w (i 0) (i 1) (i 2) := by
  funext y
  rw [eta1 y]
  generalize (y : S8x128x1024.Idx) 0 = e
  generalize (y : S8x128x1024.Idx) 1 = i
  generalize (y : S8x128x1024.Idx) 2 = j
  pointwise
  exact Finset.sum_congr rfl fun k _ => mul_comm (G := EReal) _ _

end Reference

end Mlp.Dwo

end
-- ==== Proof.Mlp.Dwqkv.lean ====
/- The gradient of the attention's input weight: the call and the reference as functions of the inputs. -/
module

public import proofs.«01_k».proof.Proof.Gen.KernelDwqkvIdeal.Value
public import proofs.«01_k».proof.Proof.Gen.ReferenceDwqkvIdeal.Run
public import proofs.«01_k».proof.Proof.Mlp.Base

@[expose] public section

set_option maxRecDepth 16384

noncomputable section

namespace Mlp.Dwqkv

open Idealize.ShloMosaic Idealize.ShloMosaic.TcCoe Idealize.SL.Sem

section Kernel

open Cert.KernelDwqkvIdeal Cert.KernelDwqkvIdeal.Gen

theorem eta (y : S1024x512.Idx) : y = ix2 (y 0) (y 1) := by funext k; fin_cases k <;> rfl

/-- The block of each window at a point. -/
theorem idx : ∀ t : Fin cfg0.N, win0_0.index t = ![0, t.val / 3] ∧ win0_1.index t = ![0, t.val % 3] ∧ win0_2.index t = ![t.val / 3, t.val % 3] :=
  (by decide +kernel : ∀ t : Fin grid0.N, _)

variable (m : (ℓ : Loc nD τ sig) → Buf (Elt Ideal) ℓ) (c : Dev nD)

theorem in0 (t : Fin cfg0.N) (k : Fin 4096) (i : Fin 1024) (r : Fin 1024) (hr : r.val = t.val / 3 * 1024 + i) :
    (iblk m c 0 t : FVec Ideal S4096x1024 .bf16) (ix2 k i) = (m ((c : Thread nD τ).loc main_arg0) : FVec Ideal S4096x1024 .bf16) (ix2 k r) := by
  blk_simp [iblk]
  entry_read
  refine congrArg (m _) (funext fun a => Fin.ext ?_)
  fin_cases a <;> blk_simp [idx t] <;> simp [hr]

theorem in1 (t : Fin cfg0.N) (k : Fin 4096) (j : Fin 512) (q : Fin 1536) (hq : q.val = t.val % 3 * 512 + j) :
    (iblk m c 1 t : FVec Ideal S4096x512 .bf16) (ix2 k j) = (m ((c : Thread nD τ).loc main_arg1) : FVec Ideal S4096x1536 .bf16) (ix2 k q) := by
  blk_simp [iblk]
  entry_read
  refine congrArg (m _) (funext fun a => Fin.ext ?_)
  fin_cases a <;> blk_simp [idx t] <;> simp [hq]

theorem pay (x : FVec Ideal S4096x1024 .bf16) (w : FVec Ideal S4096x512 .bf16) (i : Fin 1024) (j : Fin 512) :
    (k0_pay1 (F := Ideal) x w (ix2 i j) : EReal) = ∑ k : Fin 4096, (x (ix2 k i) : EReal) * (w (ix2 k j) : EReal) := by
  pointwise [k0_pay1]

/-- The product the call computes. -/
def val (x : FVec Ideal S4096x1024 .bf16) (w : FVec Ideal S4096x1536 .bf16) (i : Fin 1024) (j : Fin 1536) : EReal :=
  ∑ k : Fin 4096, (x (ix2 k i) : EReal) * (w (ix2 k j) : EReal)

theorem out (t : Fin cfg0.N) (i : Fin 1024) (j : Fin 512) (r : Fin 1024) (q : Fin 1536) (hr : r.val = t.val / 3 * 1024 + i) (hq : q.val = t.val % 3 * 512 + j) :
    (k0_pay1 (F := Ideal) (iblk m c 0 t) (iblk m c 1 t) (ix2 i j) : EReal) = val (m ((c : Thread nD τ).loc main_arg0)) (m ((c : Thread nD τ).loc main_arg1)) r q :=
  (pay _ _ i j).trans (Finset.sum_congr rfl fun k _ => congrArg₂ (fun a b : EReal => a * b) (in0 m c t k i r hr) (in1 m c t k j q hq))

theorem final2 : ((dats m 0 c).arrAt 2 cfg0.N : FVec Ideal S1024x1536 .f32)
    = fun i => (val (m ((c : Thread nD τ).loc main_arg0)) (m ((c : Thread nD τ).loc main_arg1)) (i 0) (i 1) : EReal) := by
  refine (dats m 0 c).arrAt_eq_of_covers 2 _ (by decide +kernel) fun t hf y => ?_
  blk_simp
  rw [after0_2]
  have e0 : ((win0_2.blk t).view.emb y 0 : ℕ) = t.val / 3 * 1024 + (y 0 : ℕ) := by blk_simp [(idx t).2.2]
  have e1 : ((win0_2.blk t).view.emb y 1 : ℕ) = t.val % 3 * 512 + (y 1 : ℕ) := by blk_simp [(idx t).2.2]
  unfold out0_2
  rw [View.canon_unit_zero (S := S1024x512) z2, View.ld_unit_zero (S := S4096x1024) z2, View.ld_unit_zero (S := S4096x512) z2]
  refine Eq.trans (congrArg (k0_pay1 (F := Ideal) (iblk m c 0 t) (iblk m c 1 t)) (eta y)) ?_
  exact out m c t ((y : S1024x512.Idx) 0) ((y : S1024x512.Idx) 1) _ _ e0 e1

end Kernel

section Reference

open Cert.ReferenceDwqkvIdeal Cert.ReferenceDwqkvIdeal.Gen

theorem eta1 (y : S1024x1536.Idx) : y = ix2 (y 0) (y 1) := by funext k; fin_cases k <;> rfl

theorem ref (x : FVec Ideal S4096x1024 .bf16) (w : FVec Ideal S4096x1536 .bf16) :
    (transpose S1024x1536 [1, 0] (Host.dotGeneral dot_S4096x1536_S4096x1024_S1536x1024_0_0_1_1_n_n none (extf .f32 w bitsLt_bf16_f32) (extf .f32 x bitsLt_bf16_f32)) transposes_S1536x1024_S1024x1536_1_0 : FVec Ideal S1024x1536 .f32)
      = fun i => val x w (i 0) (i 1) := by
  funext y
  rw [eta1 y]
  generalize (y : S1024x1536.Idx) 0 = i
  generalize (y : S1024x1536.Idx) 1 = j
  pointwise
  exact Finset.sum_congr rfl fun k _ => mul_comm (G := EReal) _ _

end Reference

end Mlp.Dwqkv

end
-- ==== Proof.Mlp.Duqkv.lean ====
/- The gradient of the attention's input: the call and the reference as functions of the inputs. -/
module

public import proofs.«01_k».proof.Proof.Gen.KernelDuqkvIdeal.Value
public import proofs.«01_k».proof.Proof.Gen.ReferenceDuqkvIdeal.Run
public import proofs.«01_k».proof.Proof.Mlp.Base

@[expose] public section

set_option maxRecDepth 16384

noncomputable section

namespace Mlp.Duqkv

open Idealize.ShloMosaic Idealize.ShloMosaic.TcCoe Idealize.SL.Sem

section Kernel

open Cert.KernelDuqkvIdeal Cert.KernelDuqkvIdeal.Gen

theorem eta (y : S1024x512.Idx) : y = ix2 (y 0) (y 1) := by funext k; fin_cases k <;> rfl

/-- The block of each window at a point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

variable (m : (ℓ : Loc nD τ sig) → Buf (Elt Ideal) ℓ) (c : Dev nD)

theorem in0 (t : Fin cfg0.N) (i : Fin 1024) (k : Fin 1536) (r : Fin 4096) (hr : r.val = t.val / 2 * 1024 + i) :
    (iblk m c 0 t : FVec Ideal S1024x1536 .bf16) (ix2 i k) = (m ((c : Thread nD τ).loc main_arg0) : FVec Ideal S4096x1536 .bf16) (ix2 r k) := by
  blk_simp [iblk]
  entry_read
  refine congrArg (m _) (funext fun a => Fin.ext ?_)
  fin_cases a <;> blk_simp [idx t] <;> simp [hr]

theorem in1 (t : Fin cfg0.N) (j : Fin 512) (k : Fin 1536) (q : Fin 1024) (hq : q.val = t.val % 2 * 512 + j) (p : Fin 1536) (hp : p.val = k.val) :
    (iblk m c 1 t : FVec Ideal S512x1536 .bf16) (ix2 j k) = (m ((c : Thread nD τ).loc main_arg1) : FVec Ideal S1024x1536 .f32) (ix2 q p) := by
  blk_simp [iblk]
  entry_read
  pointwise
  refine congrArg (m _) (congrArg₂ ix2 (Fin.ext ?_) (Fin.ext ?_)) <;> blk_simp [idx t] <;> (try simp only [hq, hp]) <;> (try omega)

theorem pay (x : FVec Ideal S1024x1536 .bf16) (w : FVec Ideal S512x1536 .bf16) (i : Fin 1024) (j : Fin 512) :
    (k0_pay1 (F := Ideal) x w  (ix2 i j) : EReal) = (∑ k : Fin 1536, (x (ix2 i k) : EReal) * (w (ix2 j k) : EReal)) := by
  pointwise [k0_pay1]

/-- The value the call computes. -/
def val (x : FVec Ideal S4096x1536 .bf16) (w : FVec Ideal S1024x1536 .f32) (i : Fin 4096) (j : Fin 1024) : EReal :=
  (∑ k : Fin 1536, (x (ix2 i k) : EReal) * (w (ix2 j k) : EReal))

theorem out (t : Fin cfg0.N) (i : Fin 1024) (j : Fin 512) (r : Fin 4096) (q : Fin 1024) (hr : r.val = t.val / 2 * 1024 + i) (hq : q.val = t.val % 2 * 512 + j) :
    (k0_pay1 (F := Ideal) (iblk m c 0 t) (iblk m c 1 t) (ix2 i j) : EReal) = val (m ((c : Thread nD τ).loc main_arg0)) (m ((c : Thread nD τ).loc main_arg1)) r q :=
  (pay _ _ i j).trans (Finset.sum_congr rfl fun k _ => congrArg₂ (fun a b : EReal => a * b) (in0 m c t i k r hr) (in1 m c t j k q hq k rfl))

theorem final2 : ((dats m 0 c).arrAt 2 cfg0.N : FVec Ideal S4096x1024 .f32)
    = fun i => (val (m ((c : Thread nD τ).loc main_arg0)) (m ((c : Thread nD τ).loc main_arg1)) (i 0) (i 1) : EReal) := by
  refine (dats m 0 c).arrAt_eq_of_covers 2 _ (by decide +kernel) fun t hf y => ?_
  blk_simp
  rw [after0_2]
  have e0 : ((win0_2.blk t).view.emb y 0 : ℕ) = t.val / 2 * 1024 + (y 0 : ℕ) := by blk_simp [(idx t).2.2]
  have e1 : ((win0_2.blk t).view.emb y 1 : ℕ) = t.val % 2 * 512 + (y 1 : ℕ) := by blk_simp [(idx t).2.2]
  unfold out0_2
  rw [View.canon_unit_zero (S := S1024x512) z2, View.ld_unit_zero (S := S1024x1536) z2, View.ld_unit_zero (S := S512x1536) z2]
  refine Eq.trans (congrArg (k0_pay1 (F := Ideal) (iblk m c 0 t) (iblk m c 1 t)) (eta y)) ?_
  exact out m c t ((y : S1024x512.Idx) 0) ((y : S1024x512.Idx) 1) _ _ e0 e1

end Kernel

section Reference

open Cert.ReferenceDuqkvIdeal Cert.ReferenceDuqkvIdeal.Gen

theorem eta1 (y : S4096x1024.Idx) : y = ix2 (y 0) (y 1) := by funext k; fin_cases k <;> rfl

theorem ref (x : FVec Ideal S4096x1536 .bf16) (w : FVec Ideal S1024x1536 .f32) :
    (Host.dotGeneral dot_S4096x1536_S1024x1536_S4096x1024_1_1_0_0_n_n none (extf .f32 x bitsLt_bf16_f32) (w) : FVec Ideal S4096x1024 .f32)
      = fun i => val x w  (i 0) (i 1) := by
  funext y
  rw [eta1 y]
  generalize (y : S4096x1024.Idx) 0 = i
  generalize (y : S4096x1024.Idx) 1 = j
  pointwise <;> rfl

end Reference

end Mlp.Duqkv

end
-- ==== Proof.Mlp.Gate.lean ====
/- The gate of the per-layer embedding: the call and the reference as functions of the inputs. -/
module

public import proofs.«01_k».proof.Proof.Gen.KernelGateIdeal.Value
public import proofs.«01_k».proof.Proof.Gen.ReferenceGateIdeal.Run
public import proofs.«01_k».proof.Proof.Mlp.Base

@[expose] public section

set_option maxRecDepth 16384

noncomputable section

namespace Mlp.Gate

open Idealize.ShloMosaic Idealize.ShloMosaic.TcCoe Idealize.SL.Sem

section Kernel

open Cert.KernelGateIdeal Cert.KernelGateIdeal.Gen

theorem eta (y : S1024x512.Idx) : y = ix2 (y 0) (y 1) := by funext k; fin_cases k <;> rfl

/-- The block of each window at a point. -/
theorem idx : ∀ t : Fin cfg0.N, win0_0.index t = ![t.val / 2, 0] ∧ win0_1.index t = ![0, 0, 0, t.val % 2] ∧ win0_2.index t = ![t.val / 2, t.val % 2] :=
  (by decide +kernel : ∀ t : Fin grid0.N, _)

variable (m : (ℓ : Loc nD τ sig) → Buf (Elt Ideal) ℓ) (c : Dev nD)

theorem in0 (t : Fin cfg0.N) (i : Fin 1024) (k : Fin 1024) (r : Fin 4096) (hr : r.val = t.val / 2 * 1024 + i) :
    (iblk m c 0 t : FVec Ideal S1024x1024 .bf16) (ix2 i k) = (m ((c : Thread nD τ).loc main_arg0) : FVec Ideal S4096x1024 .bf16) (ix2 r k) := by
  blk_simp [iblk]
  entry_read
  refine congrArg (m _) (funext fun a => Fin.ext ?_)
  fin_cases a <;> blk_simp [idx t] <;> simp [hr]

theorem in1 (t : Fin cfg0.N) (d : Fin 8) (k : Fin 128) (j : Fin 512) (p : Fin 1024) (hp : p.val = d * 128 + k.val) (q : Fin 1024) (hq : q.val = t.val % 2 * 512 + j) :
    (iblk m c 1 t : FVec Ideal S8x1x128x512 .bf16) (ix4 d 0 k j) = (m ((c : Thread nD τ).loc main_arg1) : FVec Ideal S1024x1024 .f32) (ix2 p q) := by
  blk_simp [iblk]
  entry_read
  pointwise
  refine congrArg (m _) (congrArg₂ ix2 (Fin.ext ?_) (Fin.ext ?_)) <;> blk_simp [idx t] <;> (try simp only [hp, hq]) <;> (try omega)

/-- The shard of a row of the weight, and its row there. -/
abbrev hi (k : Fin 1024) : Fin 8 := ⟨k.val / 128, by omega⟩
abbrev lo (k : Fin 1024) : Fin 128 := ⟨k.val % 128, by omega⟩

theorem pay (x : FVec Ideal S1024x1024 .bf16) (w : FVec Ideal S8x1x128x512 .bf16) (i : Fin 1024) (j : Fin 512) :
    (k0_pay1 (F := Ideal) x w  (ix2 i j) : EReal) = (∑ k : Fin 1024, (x (ix2 i k) : EReal) * (w (ix4 (hi k) 0 (lo k) j) : EReal)) := by
  pointwise [k0_pay1] <;> rfl

/-- The value the call computes. -/
def val (x : FVec Ideal S4096x1024 .bf16) (w : FVec Ideal S1024x1024 .f32) (i : Fin 4096) (j : Fin 1024) : EReal :=
  (∑ k : Fin 1024, (x (ix2 i k) : EReal) * (w (ix2 k j) : EReal))

theorem out (t : Fin cfg0.N) (i : Fin 1024) (j : Fin 512) (r : Fin 4096) (q : Fin 1024) (hr : r.val = t.val / 2 * 1024 + i) (hq : q.val = t.val % 2 * 512 + j) :
    (k0_pay1 (F := Ideal) (iblk m c 0 t) (iblk m c 1 t) (ix2 i j) : EReal) = val (m ((c : Thread nD τ).loc main_arg0)) (m ((c : Thread nD τ).loc main_arg1)) r q :=
  (pay _ _ i j).trans (Finset.sum_congr rfl fun k _ => congrArg₂ (fun a b : EReal => a * b) (in0 m c t i k r hr) (in1 m c t (hi k) (lo k) j k (by show k.val = k.val / 128 * 128 + k.val % 128; omega) q hq))

theorem final2 : ((dats m 0 c).arrAt 2 cfg0.N : FVec Ideal S4096x1024 .f32)
    = fun i => (val (m ((c : Thread nD τ).loc main_arg0)) (m ((c : Thread nD τ).loc main_arg1)) (i 0) (i 1) : EReal) := by
  refine (dats m 0 c).arrAt_eq_of_covers 2 _ (by decide +kernel) fun t hf y => ?_
  blk_simp
  rw [after0_2]
  have e0 : ((win0_2.blk t).view.emb y 0 : ℕ) = t.val / 2 * 1024 + (y 0 : ℕ) := by blk_simp [(idx t).2.2]
  have e1 : ((win0_2.blk t).view.emb y 1 : ℕ) = t.val % 2 * 512 + (y 1 : ℕ) := by blk_simp [(idx t).2.2]
  unfold out0_2
  rw [View.canon_unit_zero (S := S1024x512) z2, View.ld_unit_zero (S := S1024x1024) z2, View.ld_unit_zero (S := S8x1x128x512) z4]
  refine Eq.trans (congrArg (k0_pay1 (F := Ideal) (iblk m c 0 t) (iblk m c 1 t)) (eta y)) ?_
  exact out m c t ((y : S1024x512.Idx) 0) ((y : S1024x512.Idx) 1) _ _ e0 e1

end Kernel

section Reference

open Cert.ReferenceGateIdeal Cert.ReferenceGateIdeal.Gen

theorem eta1 (y : S4096x1024.Idx) : y = ix2 (y 0) (y 1) := by funext k; fin_cases k <;> rfl

theorem ref (x : FVec Ideal S4096x1024 .bf16) (w : FVec Ideal S1024x1024 .f32) :
    (Host.dotGeneral dot_S4096x1024_S1024x1024_S4096x1024_1_0_0_1_n_n none (extf .f32 x bitsLt_bf16_f32) (w) : FVec Ideal S4096x1024 .f32)
      = fun i => val x w  (i 0) (i 1) := by
  funext y
  rw [eta1 y]
  generalize (y : S4096x1024.Idx) 0 = i
  generalize (y : S4096x1024.Idx) 1 = j
  pointwise <;> rfl

end Reference

end Mlp.Gate

end
-- ==== Proof.Mlp.Proj.lean ====
/- The projection of the per-layer embedding and its gated sum: the call and the reference as functions of the inputs. -/
module

public import proofs.«01_k».proof.Proof.Gen.KernelProjIdeal.Value
public import proofs.«01_k».proof.Proof.Gen.ReferenceProjIdeal.Run
public import proofs.«01_k».proof.Proof.Mlp.Base

@[expose] public section

set_option maxRecDepth 16384

noncomputable section

namespace Mlp.Proj

open Idealize.ShloMosaic Idealize.ShloMosaic.TcCoe Idealize.SL.Sem

section Kernel

open Cert.KernelProjIdeal Cert.KernelProjIdeal.Gen

theorem eta (y : S1024x512.Idx) : y = ix2 (y 0) (y 1) := by funext k; fin_cases k <;> rfl

/-- The block of each window at a point. -/
theorem idx : ∀ t : Fin cfg0.N, win0_0.index t = ![t.val / 2, 0] ∧ win0_1.index t = ![t.val % 2, 0, 0, 0] ∧ win0_2.index t = ![t.val / 2, t.val % 2] ∧ win0_3.index t = ![t.val / 2, t.val % 2] ∧ win0_4.index t = ![t.val / 2, t.val % 2] ∧ win0_5.index t = ![t.val / 2, t.val % 2] :=
  (by decide +kernel : ∀ t : Fin grid0.N, _)

variable (m : (ℓ : Loc nD τ sig) → Buf (Elt Ideal) ℓ) (c : Dev nD)

theorem in0 (t : Fin cfg0.N) (i : Fin 1024) (k : Fin 256) (r : Fin 4096) (hr : r.val = t.val / 2 * 1024 + i) :
    (iblk m c 0 t : FVec Ideal S1024x256 .f32) (ix2 i k) = (m ((c : Thread nD τ).loc main_arg0) : FVec Ideal S4096x256 .f32) (ix2 r k) := by
  blk_simp [iblk]
  entry_read
  refine congrArg (m _) (funext fun a => Fin.ext ?_)
  fin_cases a <;> blk_simp [idx t] <;> simp [hr]

theorem in1 (t : Fin cfg0.N) (d : Fin 4) (k : Fin 256) (j : Fin 128) (q : Fin 1024) (hq : q.val = t.val % 2 * 512 + (d * 128 + j.val)) :
    (iblk m c 1 t : FVec Ideal S4x1x256x128 .bf16) (ix4 d 0 k j) = (m ((c : Thread nD τ).loc main_arg1) : FVec Ideal S256x1024 .f32) (ix2 k q) := by
  blk_simp [iblk]
  entry_read
  pointwise
  refine congrArg (m _) (congrArg₂ ix2 (Fin.ext ?_) (Fin.ext ?_)) <;> blk_simp [idx t] <;> (try simp only [hq]) <;> (try omega)

theorem in2 (t : Fin cfg0.N) (i : Fin 1024) (j : Fin 512) (r : Fin 4096) (hr : r.val = t.val / 2 * 1024 + i) (q : Fin 1024) (hq : q.val = t.val % 2 * 512 + j) :
    (iblk m c 2 t : FVec Ideal S1024x512 .f32) (ix2 i j) = (m ((c : Thread nD τ).loc main_arg2) : FVec Ideal S4096x1024 .f32) (ix2 r q) := by
  blk_simp [iblk]
  entry_read
  refine congrArg (m _) (funext fun a => Fin.ext ?_)
  fin_cases a <;> blk_simp [idx t] <;> simp [hr, hq]

theorem in3 (t : Fin cfg0.N) (i : Fin 1024) (j : Fin 512) (r : Fin 4096) (hr : r.val = t.val / 2 * 1024 + i) (q : Fin 1024) (hq : q.val = t.val % 2 * 512 + j) :
    (iblk m c 3 t : FVec Ideal S1024x512 .f32) (ix2 i j) = (m ((c : Thread nD τ).loc main_arg3) : FVec Ideal S4096x1024 .f32) (ix2 r q) := by
  blk_simp [iblk]
  entry_read
  refine congrArg (m _) (funext fun a => Fin.ext ?_)
  fin_cases a <;> blk_simp [idx t] <;> simp [hr, hq]

/-- The shard of a column of the block, and its column there. -/
abbrev hi (j : Fin 512) : Fin 4 := ⟨j.val / 128, by omega⟩
abbrev lo (j : Fin 512) : Fin 128 := ⟨j.val % 128, by omega⟩

theorem pay1 (x : FVec Ideal S1024x256 .f32) (w : FVec Ideal S4x1x256x128 .bf16) (i : Fin 1024) (j : Fin 512) :
    (k0_pay1 (F := Ideal) x w (ix2 i j) : EReal) = ∑ k : Fin 256, (x (ix2 i k) : EReal) * (w (ix4 (hi j) 0 k (lo j)) : EReal) := by
  pointwise [k0_pay1]
  have e (d : Fin 4) (l : Fin 128) (h : j.val = d.val * 128 + l.val) : (∑ k : Fin 256, (x (ix2 i k) : EReal) * (w (ix4 d 0 k l) : EReal)) = ∑ k : Fin 256, (x (ix2 i k) : EReal) * (w (ix4 (hi j) 0 k (lo j)) : EReal) := by
    have h1 : hi j = d := Fin.ext (by show j.val / 128 = d.val; omega)
    have h2 : lo j = l := Fin.ext (by show j.val % 128 = l.val; omega)
    rw [h1, h2]
  split_ifs <;> first | exact e 0 _ (by show j.val = 0 * 128 + _; simp only []; omega) | exact e 1 _ (by show j.val = 1 * 128 + _; simp only []; omega) | exact e 2 _ (by show j.val = 2 * 128 + _; simp only []; omega) | exact e 3 _ (by show j.val = 3 * 128 + _; simp only []; omega)

theorem pay3 (x : FVec Ideal S1024x256 .f32) (w : FVec Ideal S4x1x256x128 .bf16) (i : Fin 1024) (j : Fin 512) :
    (k0_pay3 (F := Ideal) x w (ix2 i j) : EReal) = ∑ k : Fin 256, (x (ix2 i k) : EReal) * (w (ix4 (hi j) 0 k (lo j)) : EReal) :=
  (show (k0_pay3 (F := Ideal) x w (ix2 i j) : EReal) = (k0_pay1 (F := Ideal) x w (ix2 i j) : EReal) by
    unfold k0_pay3
    generalize k0_pay1 (F := Ideal) x w = a
    pointwise).trans (pay1 x w i j)

/-- The logistic function. -/
def logistic (g : EReal) : EReal := Ideal.div 1 (1 + Ideal.exp (-g))

theorem pay2 (x : FVec Ideal S1024x256 .f32) (w : FVec Ideal S4x1x256x128 .bf16) (h g : FVec Ideal S1024x512 .f32) (i : Fin 1024) (j : Fin 512) :
    (k0_pay2 (F := Ideal) x w h g (ix2 i j) : EReal) = h (ix2 i j) + logistic (g (ix2 i j)) * ∑ k : Fin 256, (x (ix2 i k) : EReal) * (w (ix4 (hi j) 0 k (lo j)) : EReal) := by
  rw [← pay1]
  unfold k0_pay2
  generalize k0_pay1 (F := Ideal) x w = a
  pointwise
  exact congrArg (fun z : EReal => h (ix2 i j) + Ideal.div 1 (1 + Ideal.exp z) * a (ix2 i j)) (zero_sub _)

/-- The product the call computes. -/
def val (x : FVec Ideal S4096x256 .f32) (w : FVec Ideal S256x1024 .f32) (i : Fin 4096) (j : Fin 1024) : EReal :=
  ∑ k : Fin 256, (x (ix2 i k) : EReal) * (w (ix2 k j) : EReal)

/-- A product of extended reals. -/
abbrev mul (a b : EReal) : EReal := a * b

/-- The sum the call computes. -/
def sum (x : FVec Ideal S4096x256 .f32) (w : FVec Ideal S256x1024 .f32) (h g : FVec Ideal S4096x1024 .f32) (i : Fin 4096) (j : Fin 1024) : EReal :=
  h (ix2 i j) + logistic (g (ix2 i j)) * val x w i j

theorem acc (t : Fin cfg0.N) (i : Fin 1024) (j : Fin 512) (r : Fin 4096) (q : Fin 1024) (hr : r.val = t.val / 2 * 1024 + i) (hq : q.val = t.val % 2 * 512 + j) :
    (∑ k : Fin 256, mul (iblk m c 0 t (ix2 i k)) (iblk m c 1 t (ix4 (hi j) 0 k (lo j))) : EReal) = val (m ((c : Thread nD τ).loc main_arg0)) (m ((c : Thread nD τ).loc main_arg1)) r q :=
  Finset.sum_congr rfl fun k _ => congrArg₂ (fun a b : EReal => a * b) (in0 m c t i k r hr) (in1 m c t (hi j) k (lo j) q (by show q.val = t.val % 2 * 512 + (j.val / 128 * 128 + j.val % 128); omega))

theorem out (t : Fin cfg0.N) (i : Fin 1024) (j : Fin 512) (r : Fin 4096) (q : Fin 1024) (hr : r.val = t.val / 2 * 1024 + i) (hq : q.val = t.val % 2 * 512 + j) :
    (k0_pay2 (F := Ideal) (iblk m c 0 t) (iblk m c 1 t) (iblk m c 2 t) (iblk m c 3 t) (ix2 i j) : EReal) = sum (m ((c : Thread nD τ).loc main_arg0)) (m ((c : Thread nD τ).loc main_arg1)) (m ((c : Thread nD τ).loc main_arg2)) (m ((c : Thread nD τ).loc main_arg3)) r q :=
  (pay2 _ _ _ _ i j).trans (congrArg₂ (fun a b : EReal => a + b) (in2 m c t i j r hr q hq) (congrArg₂ (fun a b : EReal => a * b) (congrArg logistic (in3 m c t i j r hr q hq)) (acc m c t i j r q hr hq)))

theorem out' (t : Fin cfg0.N) (i : Fin 1024) (j : Fin 512) (r : Fin 4096) (q : Fin 1024) (hr : r.val = t.val / 2 * 1024 + i) (hq : q.val = t.val % 2 * 512 + j) :
    (k0_pay3 (F := Ideal) (iblk m c 0 t) (iblk m c 1 t) (ix2 i j) : EReal) = val (m ((c : Thread nD τ).loc main_arg0)) (m ((c : Thread nD τ).loc main_arg1)) r q :=
  (pay3 _ _ i j).trans (acc m c t i j r q hr hq)

theorem final4 : ((dats m 0 c).arrAt 4 cfg0.N : FVec Ideal S4096x1024 .f32)
    = fun i => (sum (m ((c : Thread nD τ).loc main_arg0)) (m ((c : Thread nD τ).loc main_arg1)) (m ((c : Thread nD τ).loc main_arg2)) (m ((c : Thread nD τ).loc main_arg3)) (i 0) (i 1) : EReal) := by
  refine (dats m 0 c).arrAt_eq_of_covers 4 _ (by decide +kernel) fun t hf y => ?_
  blk_simp
  rw [after0_4]
  have e0 : ((win0_4.blk t).view.emb y 0 : ℕ) = t.val / 2 * 1024 + (y 0 : ℕ) := by blk_simp [(idx t).2.2.2.2.1]
  have e1 : ((win0_4.blk t).view.emb y 1 : ℕ) = t.val % 2 * 512 + (y 1 : ℕ) := by blk_simp [(idx t).2.2.2.2.1]
  unfold out0_4
  rw [View.canon_unit_zero (S := S1024x512) z2, View.ld_unit_zero (S := S1024x256) z2, View.ld_unit_zero (S := S4x1x256x128) z4, View.ld_unit_zero (S := S1024x512) z2, View.ld_unit_zero (S := S1024x512) z2]
  refine Eq.trans (congrArg (k0_pay2 (F := Ideal) (iblk m c 0 t) (iblk m c 1 t) (iblk m c 2 t) (iblk m c 3 t)) (eta y)) ?_
  exact out m c t ((y : S1024x512.Idx) 0) ((y : S1024x512.Idx) 1) _ _ e0 e1

theorem final5 : ((dats m 0 c).arrAt 5 cfg0.N : FVec Ideal S4096x1024 .bf16)
    = fun i => (val (m ((c : Thread nD τ).loc main_arg0)) (m ((c : Thread nD τ).loc main_arg1)) (i 0) (i 1) : EReal) := by
  refine (dats m 0 c).arrAt_eq_of_covers 5 _ (by decide +kernel) fun t hf y => ?_
  blk_simp
  rw [after0_5]
  have e0 : ((win0_5.blk t).view.emb y 0 : ℕ) = t.val / 2 * 1024 + (y 0 : ℕ) := by blk_simp [(idx t).2.2.2.2.2]
  have e1 : ((win0_5.blk t).view.emb y 1 : ℕ) = t.val % 2 * 512 + (y 1 : ℕ) := by blk_simp [(idx t).2.2.2.2.2]
  unfold out0_5
  rw [View.canon_unit_zero (S := S1024x512) z2, View.ld_unit_zero (S := S1024x256) z2, View.ld_unit_zero (S := S4x1x256x128) z4]
  refine Eq.trans (congrArg (k0_pay3 (F := Ideal) (iblk m c 0 t) (iblk m c 1 t)) (eta y)) ?_
  exact out' m c t ((y : S1024x512.Idx) 0) ((y : S1024x512.Idx) 1) _ _ e0 e1

end Kernel

section Reference

open Cert.ReferenceProjIdeal Cert.ReferenceProjIdeal.Gen

theorem eta1 (y : S4096x1024.Idx) : y = ix2 (y 0) (y 1) := by funext k; fin_cases k <;> rfl

theorem ref' (x : FVec Ideal S4096x256 .f32) (w : FVec Ideal S256x1024 .f32) :
    (truncf .bf16 (Host.dotGeneral dot_S4096x256_S256x1024_S4096x1024_1_0_0_1_n_n none x w) bitsLt_bf16_f32 : FVec Ideal S4096x1024 .bf16)
      = fun i => val x w (i 0) (i 1) := by
  funext y
  rw [eta1 y]
  generalize (y : S4096x1024.Idx) 0 = i
  generalize (y : S4096x1024.Idx) 1 = j
  pointwise <;> rfl

theorem ref (x : FVec Ideal S4096x256 .f32) (w : FVec Ideal S256x1024 .f32) (h g : FVec Ideal S4096x1024 .f32) :
    (addf h (mulf (Host.divf (broadcastInDim S4096x1024 ![] bcast_S_S4096x1024 (constant (F := Ideal) S_ .f32 0x3F800000#32)) (addf (broadcastInDim S4096x1024 ![] bcast_S_S4096x1024 (constant (F := Ideal) S_ .f32 0x3F800000#32)) (Host.exp (Host.negf g)))) (Host.dotGeneral dot_S4096x256_S256x1024_S4096x1024_1_0_0_1_n_n none x w)) : FVec Ideal S4096x1024 .f32)
      = fun i => sum x w h g (i 0) (i 1) := by
  funext y
  rw [eta1 y]
  generalize (y : S4096x1024.Idx) 0 = i
  generalize (y : S4096x1024.Idx) 1 = j
  pointwise <;> rfl

end Reference

end Mlp.Proj

end
-- ==== Proof.Mlp.Dwproj.lean ====
/- The gradient of the weight of the projection of the per-layer embedding: the call and the reference as functions of the inputs. -/
module

public import proofs.«01_k».proof.Proof.Gen.KernelDwprojIdeal.Value
public import proofs.«01_k».proof.Proof.Gen.ReferenceDwprojIdeal.Run
public import proofs.«01_k».proof.Proof.Mlp.Base

@[expose] public section

set_option maxRecDepth 16384

noncomputable section

namespace Mlp.Dwproj

open Idealize.ShloMosaic Idealize.ShloMosaic.TcCoe Idealize.SL.Sem

section Kernel

open Cert.KernelDwprojIdeal Cert.KernelDwprojIdeal.Gen

theorem eta (y : S1x256x128.Idx) : y = ix3 0 (y 1) (y 2) := by funext k; fin_cases k <;> first | exact Subsingleton.elim (α := Fin 1) _ _ | rfl

/-- The block of each window at a point. -/
theorem idx : ∀ t : Fin cfg0.N, win0_0.index t = ![0, t.val / 2] ∧ win0_1.index t = ![0, t.val % 2] ∧ win0_2.index t = ![t.val % 2, t.val / 2, 0] :=
  (by decide +kernel : ∀ t : Fin grid0.N, _)

variable (m : (ℓ : Loc nD τ sig) → Buf (Elt Ideal) ℓ) (c : Dev nD)

theorem in0 (t : Fin cfg0.N) (k : Fin 4096) (i : Fin 256) (r : Fin 256) (hr : r.val = t.val / 2 * 256 + i) :
    (iblk m c 0 t : FVec Ideal S4096x256 .f32) (ix2 k i) = (m ((c : Thread nD τ).loc main_arg0) : FVec Ideal S4096x256 .f32) (ix2 k r) := by
  blk_simp [iblk]
  entry_read
  refine congrArg (m _) (funext fun a => Fin.ext ?_)
  fin_cases a <;> blk_simp [idx t] <;> simp [hr]

theorem in1 (t : Fin cfg0.N) (k : Fin 4096) (j : Fin 512) (q : Fin 1024) (hq : q.val = t.val % 2 * 512 + j) :
    (iblk m c 1 t : FVec Ideal S4096x512 .bf16) (ix2 k j) = (m ((c : Thread nD τ).loc main_arg1) : FVec Ideal S4096x1024 .bf16) (ix2 k q) := by
  blk_simp [iblk]
  entry_read
  refine congrArg (m _) (funext fun a => Fin.ext ?_)
  fin_cases a <;> blk_simp [idx t] <;> simp [hq]

/-- The column of a block's shard within the block, and within the weight. -/
abbrev colb (e : Fin 4) (j : Fin 128) : Fin 512 := ⟨e.val * 128 + j.val, by omega⟩
abbrev col (e : Fin 8) (j : Fin 128) : Fin 1024 := ⟨e.val * 128 + j.val, by omega⟩

/-- The block's product, shard by shard. -/
def tile (x : FVec Ideal S4096x256 .f32) (w : FVec Ideal S4096x512 .bf16) (e : Fin 4) (i : Fin 256) (j : Fin 128) : EReal :=
  ∑ k : Fin 4096, (x (ix2 k i) : EReal) * (w (ix2 k (colb e j)) : EReal)

theorem same (x : FVec Ideal S4096x256 .f32) (w : FVec Ideal S4096x512 .bf16) (e e' : Fin 4) (i i' : Fin 256) (j j' : Fin 128) (he : e.val = e'.val) (hi : i.val = i'.val) (hj : j.val = j'.val) :
    tile x w e i j = tile x w e' i' j' := by
  obtain rfl := Fin.ext he
  obtain rfl := Fin.ext hi
  obtain rfl := Fin.ext hj
  rfl

/-- What the stores leave, at an index of the block. -/
abbrev block (x : FVec Ideal S4096x256 .f32) (w : FVec Ideal S4096x512 .bf16) (y : S4x256x128.Idx) : EReal := tile x w (y 0) (y 1) (y 2)

theorem pay0 (x : FVec Ideal S4096x256 .f32) (w : FVec Ideal S4096x512 .bf16) (i : Fin 256) (j : Fin 128) :
    (k0_pay2 (F := Ideal) x w (ix3 0 i j) : EReal) = tile x w 0 i j := by
  pointwise [k0_pay2, k0_pay1]
  unfold tile
  refine Finset.sum_congr rfl fun k _ => congrArg (fun z => (x (ix2 k i) : EReal) * (w (ix2 k z) : EReal)) (Fin.ext ?_)
  show _ = 0 * 128 + j.val
  simp

theorem piece0 (x : FVec Ideal S4096x256 .f32) (w : FVec Ideal S4096x512 .bf16) (z : S1x256x128.Idx) (i : Fin 256) (j : Fin 128) (h : z = ix3 0 i j) :
    (k0_pay2 (F := Ideal) x w z : EReal) = block x w (r0_2.emb z) := by
  have h1 : (z 1).val = i.val := by rw [h]; rfl
  have h2 : (z 2).val = j.val := by rw [h]; rfl
  refine Eq.trans (congrArg (k0_pay2 (F := Ideal) x w) h) ?_
  refine Eq.trans (pay0 x w i j) ?_
  have h0 : (z 0).val < 1 := (z 0).isLt
  refine same x w _ _ _ _ _ _ ?_ ?_ ?_
  · show 0 = 0 + 1 * (z 0).val
    omega
  · show i.val = 0 + 1 * (z 1).val
    omega
  · show j.val = 0 + 1 * (z 2).val
    omega

theorem pay1 (x : FVec Ideal S4096x256 .f32) (w : FVec Ideal S4096x512 .bf16) (i : Fin 256) (j : Fin 128) :
    (k0_pay3 (F := Ideal) x w (ix3 0 i j) : EReal) = tile x w 1 i j := by
  pointwise [k0_pay3, k0_pay1]
  unfold tile
  refine Finset.sum_congr rfl fun k _ => congrArg (fun z => (x (ix2 k i) : EReal) * (w (ix2 k z) : EReal)) (Fin.ext ?_)
  show _ = 1 * 128 + j.val
  simp

theorem piece1 (x : FVec Ideal S4096x256 .f32) (w : FVec Ideal S4096x512 .bf16) (z : S1x256x128.Idx) (i : Fin 256) (j : Fin 128) (h : z = ix3 0 i j) :
    (k0_pay3 (F := Ideal) x w z : EReal) = block x w (r0_3.emb z) := by
  have h1 : (z 1).val = i.val := by rw [h]; rfl
  have h2 : (z 2).val = j.val := by rw [h]; rfl
  refine Eq.trans (congrArg (k0_pay3 (F := Ideal) x w) h) ?_
  refine Eq.trans (pay1 x w i j) ?_
  have h0 : (z 0).val < 1 := (z 0).isLt
  refine same x w _ _ _ _ _ _ ?_ ?_ ?_
  · show 1 = 1 + 1 * (z 0).val
    omega
  · show i.val = 0 + 1 * (z 1).val
    omega
  · show j.val = 0 + 1 * (z 2).val
    omega

theorem pay2 (x : FVec Ideal S4096x256 .f32) (w : FVec Ideal S4096x512 .bf16) (i : Fin 256) (j : Fin 128) :
    (k0_pay4 (F := Ideal) x w (ix3 0 i j) : EReal) = tile x w 2 i j := by
  pointwise [k0_pay4, k0_pay1]
  unfold tile
  refine Finset.sum_congr rfl fun k _ => congrArg (fun z => (x (ix2 k i) : EReal) * (w (ix2 k z) : EReal)) (Fin.ext ?_)
  show _ = 2 * 128 + j.val
  simp

theorem piece2 (x : FVec Ideal S4096x256 .f32) (w : FVec Ideal S4096x512 .bf16) (z : S1x256x128.Idx) (i : Fin 256) (j : Fin 128) (h : z = ix3 0 i j) :
    (k0_pay4 (F := Ideal) x w z : EReal) = block x w (r0_4.emb z) := by
  have h1 : (z 1).val = i.val := by rw [h]; rfl
  have h2 : (z 2).val = j.val := by rw [h]; rfl
  refine Eq.trans (congrArg (k0_pay4 (F := Ideal) x w) h) ?_
  refine Eq.trans (pay2 x w i j) ?_
  have h0 : (z 0).val < 1 := (z 0).isLt
  refine same x w _ _ _ _ _ _ ?_ ?_ ?_
  · show 2 = 2 + 1 * (z 0).val
    omega
  · show i.val = 0 + 1 * (z 1).val
    omega
  · show j.val = 0 + 1 * (z 2).val
    omega

theorem pay3 (x : FVec Ideal S4096x256 .f32) (w : FVec Ideal S4096x512 .bf16) (i : Fin 256) (j : Fin 128) :
    (k0_pay5 (F := Ideal) x w (ix3 0 i j) : EReal) = tile x w 3 i j := by
  pointwise [k0_pay5, k0_pay1]
  unfold tile
  refine Finset.sum_congr rfl fun k _ => congrArg (fun z => (x (ix2 k i) : EReal) * (w (ix2 k z) : EReal)) (Fin.ext ?_)
  show _ = 3 * 128 + j.val
  simp

theorem piece3 (x : FVec Ideal S4096x256 .f32) (w : FVec Ideal S4096x512 .bf16) (z : S1x256x128.Idx) (i : Fin 256) (j : Fin 128) (h : z = ix3 0 i j) :
    (k0_pay5 (F := Ideal) x w z : EReal) = block x w (r0_5.emb z) := by
  have h1 : (z 1).val = i.val := by rw [h]; rfl
  have h2 : (z 2).val = j.val := by rw [h]; rfl
  refine Eq.trans (congrArg (k0_pay5 (F := Ideal) x w) h) ?_
  refine Eq.trans (pay3 x w i j) ?_
  have h0 : (z 0).val < 1 := (z 0).isLt
  refine same x w _ _ _ _ _ _ ?_ ?_ ?_
  · show 3 = 3 + 1 * (z 0).val
    omega
  · show i.val = 0 + 1 * (z 1).val
    omega
  · show j.val = 0 + 1 * (z 2).val
    omega

/-- The product the call computes. -/
def val (x : FVec Ideal S4096x256 .f32) (w : FVec Ideal S4096x1024 .bf16) (e : Fin 8) (i : Fin 256) (j : Fin 128) : EReal :=
  ∑ k : Fin 4096, (x (ix2 k i) : EReal) * (w (ix2 k (col e j)) : EReal)

theorem out (t : Fin cfg0.N) (e : Fin 4) (i : Fin 256) (j : Fin 128) (E : Fin 8) (I : Fin 256) (J : Fin 128) (hE : E.val = t.val % 2 * 4 + e) (hI : I.val = t.val / 2 * 256 + i.val) (hJ : J.val = j.val) :
    tile (iblk m c 0 t) (iblk m c 1 t) e i j = val (m ((c : Thread nD τ).loc main_arg0)) (m ((c : Thread nD τ).loc main_arg1)) E I J :=
  Finset.sum_congr rfl fun k _ => congrArg₂ (fun a b : EReal => a * b) (in0 m c t k i I hI) (in1 m c t k (colb e j) (col E J) (by show E.val * 128 + J.val = t.val % 2 * 512 + (e.val * 128 + j.val); omega))

theorem final2 : ((dats m 0 c).arrAt 2 cfg0.N : FVec Ideal S8x256x128 .bf16)
    = fun i => (val (m ((c : Thread nD τ).loc main_arg0)) (m ((c : Thread nD τ).loc main_arg1)) (i 0) (i 1) (i 2) : EReal) := by
  refine (dats m 0 c).arrAt_eq_of_covers 2 _ (by decide +kernel) fun t hf y => ?_
  blk_simp
  rw [after0_2]
  have e0 : ((win0_2.blk t).view.emb y 0 : ℕ) = t.val % 2 * 4 + (y 0 : ℕ) := by blk_simp [(idx t).2.2]
  have e1 : ((win0_2.blk t).view.emb y 1 : ℕ) = t.val / 2 * 256 + (y 1 : ℕ) := by blk_simp [(idx t).2.2]
  have e2 : ((win0_2.blk t).view.emb y 2 : ℕ) = (y 2 : ℕ) := by blk_simp [(idx t).2.2]
  unfold out0_2
  rw [View.ld_unit_zero (S := S4096x256) z2, View.ld_unit_zero (S := S4096x512) z2]
  refine (View.canon_apply_of_pieces (Val := Elt Ideal) (S := S4x256x128) (e := .bf16) (block (iblk m c 0 t) (iblk m c 1 t)) _ ?_ y (cover0_2 _ _ _ _ y)).trans ?_
  · intro p hp z
    simp only [List.mem_cons, List.not_mem_nil, or_false] at hp
    rcases hp with rfl | rfl | rfl | rfl
    · exact piece3 _ _ z _ _ (eta z)
    · exact piece2 _ _ z _ _ (eta z)
    · exact piece1 _ _ z _ _ (eta z)
    · exact piece0 _ _ z _ _ (eta z)
  · exact out m c t ((y : S4x256x128.Idx) 0) ((y : S4x256x128.Idx) 1) ((y : S4x256x128.Idx) 2) _ _ _ e0 e1 e2

end Kernel

section Reference

open Cert.ReferenceDwprojIdeal Cert.ReferenceDwprojIdeal.Gen

theorem eta1 (y : S8x256x128.Idx) : y = ix3 (y 0) (y 1) (y 2) := by funext k; fin_cases k <;> rfl

theorem ref (x : FVec Ideal S4096x256 .f32) (w : FVec Ideal S4096x1024 .bf16) :
    (truncf .bf16 (transpose S8x256x128 [1, 0, 2] (shapeCast _ (transpose S256x1024 [1, 0] (Host.dotGeneral dot_S4096x1024_S4096x256_S1024x256_0_0_1_1_n_n none (extf .f32 w bitsLt_bf16_f32) x) transposes_S1024x256_S256x1024_1_0) shapeCasts_S256x1024_S256x8x128) transposes_S256x8x128_S8x256x128_1_0_2) bitsLt_bf16_f32 : FVec Ideal S8x256x128 .bf16)
      = fun i => val x w (i 0) (i 1) (i 2) := by
  funext y
  rw [eta1 y]
  generalize (y : S8x256x128.Idx) 0 = e
  generalize (y : S8x256x128.Idx) 1 = i
  generalize (y : S8x256x128.Idx) 2 = j
  pointwise
  exact Finset.sum_congr rfl fun k _ => mul_comm (G := EReal) _ _

end Reference

end Mlp.Dwproj

end
-- ==== Proof.Mlp.Pw1.lean ====
/- The conformer's first product: the call and the reference as functions of the inputs. -/
module

public import proofs.«01_k».proof.Proof.Gen.KernelPw1Ideal.Value
public import proofs.«01_k».proof.Proof.Gen.ReferencePw1Ideal.Run
public import proofs.«01_k».proof.Proof.Mlp.Base

@[expose] public section

set_option maxRecDepth 16384

noncomputable section

namespace Mlp.Pw1

open Idealize.ShloMosaic Idealize.ShloMosaic.TcCoe Idealize.SL.Sem

section Kernel

open Cert.KernelPw1Ideal Cert.KernelPw1Ideal.Gen

theorem eta (y : S1024x512.Idx) : y = ix2 (y 0) (y 1) := by funext k; fin_cases k <;> rfl

/-- The block of each window at a point. -/
theorem idx : ∀ t : Fin cfg0.N, win0_0.index t = ![t.val / 4, 0] ∧ win0_1.index t = ![t.val % 4, 0, 0, 0] ∧ win0_2.index t = ![0, t.val % 4] ∧ win0_3.index t = ![t.val / 4, t.val % 4] :=
  (by decide +kernel : ∀ t : Fin grid0.N, _)

variable (m : (ℓ : Loc nD τ sig) → Buf (Elt Ideal) ℓ) (c : Dev nD)

theorem in0 (t : Fin cfg0.N) (i : Fin 1024) (k : Fin 1024) (r : Fin 4096) (hr : r.val = t.val / 4 * 1024 + i) :
    (iblk m c 0 t : FVec Ideal S1024x1024 .bf16) (ix2 i k) = (m ((c : Thread nD τ).loc main_arg0) : FVec Ideal S4096x1024 .bf16) (ix2 r k) := by
  blk_simp [iblk]
  entry_read
  refine congrArg (m _) (funext fun a => Fin.ext ?_)
  fin_cases a <;> blk_simp [idx t] <;> simp [hr]

theorem in1 (t : Fin cfg0.N) (d : Fin 2) (k : Fin 1024) (j : Fin 256) (q : Fin 2048) (hq : q.val = t.val % 4 * 512 + (d * 256 + j.val)) :
    (iblk m c 1 t : FVec Ideal S2x1x1024x256 .bf16) (ix4 d 0 k j) = (m ((c : Thread nD τ).loc main_arg1) : FVec Ideal S1024x2048 .f32) (ix2 k q) := by
  blk_simp [iblk]
  entry_read
  pointwise
  refine congrArg (m _) (congrArg₂ ix2 (Fin.ext ?_) (Fin.ext ?_)) <;> blk_simp [idx t] <;> (try simp only [hq]) <;> (try omega)

theorem in2 (t : Fin cfg0.N) (j : Fin 512) (q : Fin 2048) (hq : q.val = t.val % 4 * 512 + j) :
    (iblk m c 2 t : FVec Ideal S1x512 .f32) (ix2 0 j) = (m ((c : Thread nD τ).loc main_arg2) : FVec Ideal S2048 .f32) (ix1 q) := by
  blk_simp [iblk]
  entry_read
  pointwise
  refine congrArg (m _) (congrArg ix1 (Fin.ext ?_)) <;> blk_simp [idx t] <;> (try simp only [hq]) <;> (try omega)

/-- The shard of a column of the block, and its column there. -/
abbrev hi (j : Fin 512) : Fin 2 := ⟨j.val / 256, by omega⟩
abbrev lo (j : Fin 512) : Fin 256 := ⟨j.val % 256, by omega⟩

theorem pay (x : FVec Ideal S1024x1024 .bf16) (w : FVec Ideal S2x1x1024x256 .bf16) (b : FVec Ideal S1x512 .f32) (i : Fin 1024) (j : Fin 512) :
    (k0_pay1 (F := Ideal) x w b (ix2 i j) : EReal) = (∑ k : Fin 1024, (x (ix2 i k) : EReal) * (w (ix4 (hi j) 0 k (lo j)) : EReal)) + b (ix2 0 j) := by
  pointwise [k0_pay1]
  have e (d : Fin 2) (l : Fin 256) (h : j.val = d.val * 256 + l.val) : (∑ k : Fin 1024, (x (ix2 i k) : EReal) * (w (ix4 d 0 k l) : EReal)) = ∑ k : Fin 1024, (x (ix2 i k) : EReal) * (w (ix4 (hi j) 0 k (lo j)) : EReal) := by
    have h1 : hi j = d := Fin.ext (by show j.val / 256 = d.val; omega)
    have h2 : lo j = l := Fin.ext (by show j.val % 256 = l.val; omega)
    rw [h1, h2]
  refine congrArg (fun z : EReal => z + _) ?_
  split_ifs <;> first | exact e 0 _ (by show j.val = 0 * 256 + _; simp only []; omega) | exact e 1 _ (by show j.val = 1 * 256 + _; simp only []; omega)

/-- The value the call computes. -/
def val (x : FVec Ideal S4096x1024 .bf16) (w : FVec Ideal S1024x2048 .f32) (b : FVec Ideal S2048 .f32) (i : Fin 4096) (j : Fin 2048) : EReal :=
  (∑ k : Fin 1024, (x (ix2 i k) : EReal) * (w (ix2 k j) : EReal)) + b (ix1 j)

theorem out (t : Fin cfg0.N) (i : Fin 1024) (j : Fin 512) (r : Fin 4096) (q : Fin 2048) (hr : r.val = t.val / 4 * 1024 + i) (hq : q.val = t.val % 4 * 512 + j) :
    (k0_pay1 (F := Ideal) (iblk m c 0 t) (iblk m c 1 t) (iblk m c 2 t) (ix2 i j) : EReal) = val (m ((c : Thread nD τ).loc main_arg0)) (m ((c : Thread nD τ).loc main_arg1)) (m ((c : Thread nD τ).loc main_arg2)) r q :=
  (pay _ _ _ i j).trans (congrArg₂ (fun a b : EReal => a + b) (Finset.sum_congr rfl fun k _ => congrArg₂ (fun a b : EReal => a * b) (in0 m c t i k r hr) (in1 m c t (hi j) k (lo j) q (by show q.val = t.val % 4 * 512 + (j.val / 256 * 256 + j.val % 256); omega))) (in2 m c t j q hq))

theorem final3 : ((dats m 0 c).arrAt 3 cfg0.N : FVec Ideal S4096x2048 .f32)
    = fun i => (val (m ((c : Thread nD τ).loc main_arg0)) (m ((c : Thread nD τ).loc main_arg1)) (m ((c : Thread nD τ).loc main_arg2)) (i 0) (i 1) : EReal) := by
  refine (dats m 0 c).arrAt_eq_of_covers 3 _ (by decide +kernel) fun t hf y => ?_
  blk_simp
  rw [after0_3]
  have e0 : ((win0_3.blk t).view.emb y 0 : ℕ) = t.val / 4 * 1024 + (y 0 : ℕ) := by blk_simp [(idx t).2.2.2]
  have e1 : ((win0_3.blk t).view.emb y 1 : ℕ) = t.val % 4 * 512 + (y 1 : ℕ) := by blk_simp [(idx t).2.2.2]
  unfold out0_3
  rw [View.canon_unit_zero (S := S1024x512) z2, View.ld_unit_zero (S := S1024x1024) z2, View.ld_unit_zero (S := S2x1x1024x256) z4, View.ld_unit_zero (S := S1x512) z2]
  refine Eq.trans (congrArg (k0_pay1 (F := Ideal) (iblk m c 0 t) (iblk m c 1 t) (iblk m c 2 t)) (eta y)) ?_
  exact out m c t ((y : S1024x512.Idx) 0) ((y : S1024x512.Idx) 1) _ _ e0 e1

end Kernel

section Reference

open Cert.ReferencePw1Ideal Cert.ReferencePw1Ideal.Gen

theorem eta1 (y : S4096x2048.Idx) : y = ix2 (y 0) (y 1) := by funext k; fin_cases k <;> rfl

theorem ref (x : FVec Ideal S4096x1024 .bf16) (w : FVec Ideal S1024x2048 .f32) (b : FVec Ideal S2048 .f32) :
    (addf (Host.dotGeneral dot_S4096x1024_S1024x2048_S4096x2048_1_0_0_1_n_n none (extf .f32 x bitsLt_bf16_f32) (w)) (broadcastInDim S4096x2048 ![0, 1] bcast_S1x2048_S4096x2048_0_1 (broadcastInDim S1x2048 ![1] bcast_S2048_S1x2048_1 b)) : FVec Ideal S4096x2048 .f32)
      = fun i => val x w b (i 0) (i 1) := by
  funext y
  rw [eta1 y]
  generalize (y : S4096x2048.Idx) 0 = i
  generalize (y : S4096x2048.Idx) 1 = j
  pointwise <;> rfl

end Reference

end Mlp.Pw1

end
-- ==== Proof.Mlp.Pw2.lean ====
/- The conformer's second product: the call and the reference as functions of the inputs. -/
module

public import proofs.«01_k».proof.Proof.Gen.KernelPw2Ideal.Value
public import proofs.«01_k».proof.Proof.Gen.ReferencePw2Ideal.Run
public import proofs.«01_k».proof.Proof.Mlp.Base

@[expose] public section

set_option maxRecDepth 16384

noncomputable section

namespace Mlp.Pw2

open Idealize.ShloMosaic Idealize.ShloMosaic.TcCoe Idealize.SL.Sem

section Kernel

open Cert.KernelPw2Ideal Cert.KernelPw2Ideal.Gen

theorem eta (y : S1024x512.Idx) : y = ix2 (y 0) (y 1) := by funext k; fin_cases k <;> rfl

/-- The block of each window at a point. -/
theorem idx : ∀ t : Fin cfg0.N, win0_0.index t = ![t.val / 2, 0] ∧ win0_1.index t = ![0, 0, 0, t.val % 2] ∧ win0_2.index t = ![t.val / 2, t.val % 2] ∧ win0_3.index t = ![0, t.val % 2] ∧ win0_4.index t = ![t.val / 2, t.val % 2] :=
  (by decide +kernel : ∀ t : Fin grid0.N, _)

variable (m : (ℓ : Loc nD τ sig) → Buf (Elt Ideal) ℓ) (c : Dev nD)

theorem in0 (t : Fin cfg0.N) (i : Fin 1024) (k : Fin 1024) (r : Fin 4096) (hr : r.val = t.val / 2 * 1024 + i) :
    (iblk m c 0 t : FVec Ideal S1024x1024 .bf16) (ix2 i k) = (m ((c : Thread nD τ).loc main_arg0) : FVec Ideal S4096x1024 .bf16) (ix2 r k) := by
  blk_simp [iblk]
  entry_read
  refine congrArg (m _) (funext fun a => Fin.ext ?_)
  fin_cases a <;> blk_simp [idx t] <;> simp [hr]

theorem in1 (t : Fin cfg0.N) (d : Fin 8) (k : Fin 128) (j : Fin 512) (p : Fin 1024) (hp : p.val = d * 128 + k.val) (q : Fin 1024) (hq : q.val = t.val % 2 * 512 + j) :
    (iblk m c 1 t : FVec Ideal S8x1x128x512 .bf16) (ix4 d 0 k j) = (m ((c : Thread nD τ).loc main_arg1) : FVec Ideal S1024x1024 .f32) (ix2 p q) := by
  blk_simp [iblk]
  entry_read
  pointwise
  refine congrArg (m _) (congrArg₂ ix2 (Fin.ext ?_) (Fin.ext ?_)) <;> blk_simp [idx t] <;> (try simp only [hp, hq]) <;> (try omega)

theorem in2 (t : Fin cfg0.N) (i : Fin 1024) (j : Fin 512) (r : Fin 4096) (hr : r.val = t.val / 2 * 1024 + i) (q : Fin 1024) (hq : q.val = t.val % 2 * 512 + j) :
    (iblk m c 2 t : FVec Ideal S1024x512 .f32) (ix2 i j) = (m ((c : Thread nD τ).loc main_arg2) : FVec Ideal S4096x1024 .f32) (ix2 r q) := by
  blk_simp [iblk]
  entry_read
  refine congrArg (m _) (funext fun a => Fin.ext ?_)
  fin_cases a <;> blk_simp [idx t] <;> simp [hr, hq]

theorem in3 (t : Fin cfg0.N) (j : Fin 512) (q : Fin 1024) (hq : q.val = t.val % 2 * 512 + j) :
    (iblk m c 3 t : FVec Ideal S1x512 .f32) (ix2 0 j) = (m ((c : Thread nD τ).loc main_arg3) : FVec Ideal S1024 .f32) (ix1 q) := by
  blk_simp [iblk]
  entry_read
  pointwise
  refine congrArg (m _) (congrArg ix1 (Fin.ext ?_)) <;> blk_simp [idx t] <;> (try simp only [hq]) <;> (try omega)

/-- The shard of a row of the weight, and its row there. -/
abbrev hi (k : Fin 1024) : Fin 8 := ⟨k.val / 128, by omega⟩
abbrev lo (k : Fin 1024) : Fin 128 := ⟨k.val % 128, by omega⟩

theorem pay (x : FVec Ideal S1024x1024 .bf16) (w : FVec Ideal S8x1x128x512 .bf16) (h : FVec Ideal S1024x512 .f32) (b : FVec Ideal S1x512 .f32) (i : Fin 1024) (j : Fin 512) :
    (k0_pay1 (F := Ideal) x w h b (ix2 i j) : EReal) = (∑ k : Fin 1024, (x (ix2 i k) : EReal) * (w (ix4 (hi k) 0 (lo k) j) : EReal)) + h (ix2 i j) + b (ix2 0 j) := by
  pointwise [k0_pay1] <;> rfl

/-- The value the call computes. -/
def val (x : FVec Ideal S4096x1024 .bf16) (w : FVec Ideal S1024x1024 .f32) (h : FVec Ideal S4096x1024 .f32) (b : FVec Ideal S1024 .f32) (i : Fin 4096) (j : Fin 1024) : EReal :=
  (∑ k : Fin 1024, (x (ix2 i k) : EReal) * (w (ix2 k j) : EReal)) + h (ix2 i j) + b (ix1 j)

theorem out (t : Fin cfg0.N) (i : Fin 1024) (j : Fin 512) (r : Fin 4096) (q : Fin 1024) (hr : r.val = t.val / 2 * 1024 + i) (hq : q.val = t.val % 2 * 512 + j) :
    (k0_pay1 (F := Ideal) (iblk m c 0 t) (iblk m c 1 t) (iblk m c 2 t) (iblk m c 3 t) (ix2 i j) : EReal) = val (m ((c : Thread nD τ).loc main_arg0)) (m ((c : Thread nD τ).loc main_arg1)) (m ((c : Thread nD τ).loc main_arg2)) (m ((c : Thread nD τ).loc main_arg3)) r q :=
  (pay _ _ _ _ i j).trans (congrArg₂ (fun a b : EReal => a + b) (congrArg₂ (fun a b : EReal => a + b) (Finset.sum_congr rfl fun k _ => congrArg₂ (fun a b : EReal => a * b) (in0 m c t i k r hr) (in1 m c t (hi k) (lo k) j k (by show k.val = k.val / 128 * 128 + k.val % 128; omega) q hq)) (in2 m c t i j r hr q hq)) (in3 m c t j q hq))

theorem final4 : ((dats m 0 c).arrAt 4 cfg0.N : FVec Ideal S4096x1024 .f32)
    = fun i => (val (m ((c : Thread nD τ).loc main_arg0)) (m ((c : Thread nD τ).loc main_arg1)) (m ((c : Thread nD τ).loc main_arg2)) (m ((c : Thread nD τ).loc main_arg3)) (i 0) (i 1) : EReal) := by
  refine (dats m 0 c).arrAt_eq_of_covers 4 _ (by decide +kernel) fun t hf y => ?_
  blk_simp
  rw [after0_4]
  have e0 : ((win0_4.blk t).view.emb y 0 : ℕ) = t.val / 2 * 1024 + (y 0 : ℕ) := by blk_simp [(idx t).2.2.2.2]
  have e1 : ((win0_4.blk t).view.emb y 1 : ℕ) = t.val % 2 * 512 + (y 1 : ℕ) := by blk_simp [(idx t).2.2.2.2]
  unfold out0_4
  rw [View.canon_unit_zero (S := S1024x512) z2, View.ld_unit_zero (S := S1024x1024) z2, View.ld_unit_zero (S := S8x1x128x512) z4, View.ld_unit_zero (S := S1024x512) z2, View.ld_unit_zero (S := S1x512) z2]
  refine Eq.trans (congrArg (k0_pay1 (F := Ideal) (iblk m c 0 t) (iblk m c 1 t) (iblk m c 2 t) (iblk m c 3 t)) (eta y)) ?_
  exact out m c t ((y : S1024x512.Idx) 0) ((y : S1024x512.Idx) 1) _ _ e0 e1

end Kernel

section Reference

open Cert.ReferencePw2Ideal Cert.ReferencePw2Ideal.Gen

theorem eta1 (y : S4096x1024.Idx) : y = ix2 (y 0) (y 1) := by funext k; fin_cases k <;> rfl

theorem ref (x : FVec Ideal S4096x1024 .bf16) (w : FVec Ideal S1024x1024 .f32) (h : FVec Ideal S4096x1024 .f32) (b : FVec Ideal S1024 .f32) :
    (addf h (addf (Host.dotGeneral dot_S4096x1024_S1024x1024_S4096x1024_1_0_0_1_n_n none (extf .f32 x bitsLt_bf16_f32) (w)) (broadcastInDim S4096x1024 ![0, 1] bcast_S1x1024_S4096x1024_0_1 (broadcastInDim S1x1024 ![1] bcast_S1024_S1x1024_1 b))) : FVec Ideal S4096x1024 .f32)
      = fun i => val x w h b (i 0) (i 1) := by
  funext y
  rw [eta1 y]
  generalize (y : S4096x1024.Idx) 0 = i
  generalize (y : S4096x1024.Idx) 1 = j
  pointwise
  exact (add_left_comm (G := EReal) _ _ _).trans (add_assoc (G := EReal) _ _ _).symm

end Reference

end Mlp.Pw2

end
-- ==== Proof.Mlp.Dwpw1.lean ====
/- The gradient of the weight of the conformer's first product: the call and the reference as functions of the inputs. -/
module

public import proofs.«01_k».proof.Proof.Gen.KernelDwpw1Ideal.Value
public import proofs.«01_k».proof.Proof.Gen.ReferenceDwpw1Ideal.Run
public import proofs.«01_k».proof.Proof.Mlp.Base

@[expose] public section

set_option maxRecDepth 16384

noncomputable section

namespace Mlp.Dwpw1

open Idealize.ShloMosaic Idealize.ShloMosaic.TcCoe Idealize.SL.Sem

section Kernel

open Cert.KernelDwpw1Ideal Cert.KernelDwpw1Ideal.Gen

theorem eta (y : S1x1024x256.Idx) : y = ix3 0 (y 1) (y 2) := by funext k; fin_cases k <;> first | exact Subsingleton.elim (α := Fin 1) _ _ | rfl

/-- The block of each window at a point. -/
theorem idx : ∀ t : Fin cfg0.N, win0_0.index t = ![0, t.val / 4] ∧ win0_1.index t = ![0, t.val % 4] ∧ win0_2.index t = ![t.val % 4, t.val / 4, 0] :=
  (by decide +kernel : ∀ t : Fin grid0.N, _)

variable (m : (ℓ : Loc nD τ sig) → Buf (Elt Ideal) ℓ) (c : Dev nD)

theorem in0 (t : Fin cfg0.N) (k : Fin 4096) (i : Fin 1024) (r : Fin 1024) (hr : r.val = t.val / 4 * 1024 + i) :
    (iblk m c 0 t : FVec Ideal S4096x1024 .bf16) (ix2 k i) = (m ((c : Thread nD τ).loc main_arg0) : FVec Ideal S4096x1024 .bf16) (ix2 k r) := by
  blk_simp [iblk]
  entry_read
  refine congrArg (m _) (funext fun a => Fin.ext ?_)
  fin_cases a <;> blk_simp [idx t] <;> simp [hr]

theorem in1 (t : Fin cfg0.N) (k : Fin 4096) (j : Fin 512) (q : Fin 2048) (hq : q.val = t.val % 4 * 512 + j) :
    (iblk m c 1 t : FVec Ideal S4096x512 .bf16) (ix2 k j) = (m ((c : Thread nD τ).loc main_arg1) : FVec Ideal S4096x2048 .bf16) (ix2 k q) := by
  blk_simp [iblk]
  entry_read
  refine congrArg (m _) (funext fun a => Fin.ext ?_)
  fin_cases a <;> blk_simp [idx t] <;> simp [hq]

/-- The column of a block's shard within the block, and within the weight. -/
abbrev colb (e : Fin 2) (j : Fin 256) : Fin 512 := ⟨e.val * 256 + j.val, by omega⟩
abbrev col (e : Fin 8) (j : Fin 256) : Fin 2048 := ⟨e.val * 256 + j.val, by omega⟩

/-- The block's product, shard by shard. -/
def tile (x : FVec Ideal S4096x1024 .bf16) (w : FVec Ideal S4096x512 .bf16) (e : Fin 2) (i : Fin 1024) (j : Fin 256) : EReal :=
  ∑ k : Fin 4096, (x (ix2 k i) : EReal) * (w (ix2 k (colb e j)) : EReal)

theorem same (x : FVec Ideal S4096x1024 .bf16) (w : FVec Ideal S4096x512 .bf16) (e e' : Fin 2) (i i' : Fin 1024) (j j' : Fin 256) (he : e.val = e'.val) (hi : i.val = i'.val) (hj : j.val = j'.val) :
    tile x w e i j = tile x w e' i' j' := by
  obtain rfl := Fin.ext he
  obtain rfl := Fin.ext hi
  obtain rfl := Fin.ext hj
  rfl

/-- What the stores leave, at an index of the block. -/
abbrev block (x : FVec Ideal S4096x1024 .bf16) (w : FVec Ideal S4096x512 .bf16) (y : S2x1024x256.Idx) : EReal := tile x w (y 0) (y 1) (y 2)

theorem pay0 (x : FVec Ideal S4096x1024 .bf16) (w : FVec Ideal S4096x512 .bf16) (i : Fin 1024) (j : Fin 256) :
    (k0_pay2 (F := Ideal) x w (ix3 0 i j) : EReal) = tile x w 0 i j := by
  pointwise [k0_pay2, k0_pay1]
  unfold tile
  refine Finset.sum_congr rfl fun k _ => congrArg (fun z => (x (ix2 k i) : EReal) * (w (ix2 k z) : EReal)) (Fin.ext ?_)
  show _ = 0 * 256 + j.val
  simp

theorem piece0 (x : FVec Ideal S4096x1024 .bf16) (w : FVec Ideal S4096x512 .bf16) (z : S1x1024x256.Idx) (i : Fin 1024) (j : Fin 256) (h : z = ix3 0 i j) :
    (k0_pay2 (F := Ideal) x w z : EReal) = block x w (r0_2.emb z) := by
  have h1 : (z 1).val = i.val := by rw [h]; rfl
  have h2 : (z 2).val = j.val := by rw [h]; rfl
  refine Eq.trans (congrArg (k0_pay2 (F := Ideal) x w) h) ?_
  refine Eq.trans (pay0 x w i j) ?_
  have h0 : (z 0).val < 1 := (z 0).isLt
  refine same x w _ _ _ _ _ _ ?_ ?_ ?_
  · show 0 = 0 + 1 * (z 0).val
    omega
  · show i.val = 0 + 1 * (z 1).val
    omega
  · show j.val = 0 + 1 * (z 2).val
    omega

theorem pay1 (x : FVec Ideal S4096x1024 .bf16) (w : FVec Ideal S4096x512 .bf16) (i : Fin 1024) (j : Fin 256) :
    (k0_pay3 (F := Ideal) x w (ix3 0 i j) : EReal) = tile x w 1 i j := by
  pointwise [k0_pay3, k0_pay1]
  unfold tile
  refine Finset.sum_congr rfl fun k _ => congrArg (fun z => (x (ix2 k i) : EReal) * (w (ix2 k z) : EReal)) (Fin.ext ?_)
  show _ = 1 * 256 + j.val
  simp

theorem piece1 (x : FVec Ideal S4096x1024 .bf16) (w : FVec Ideal S4096x512 .bf16) (z : S1x1024x256.Idx) (i : Fin 1024) (j : Fin 256) (h : z = ix3 0 i j) :
    (k0_pay3 (F := Ideal) x w z : EReal) = block x w (r0_3.emb z) := by
  have h1 : (z 1).val = i.val := by rw [h]; rfl
  have h2 : (z 2).val = j.val := by rw [h]; rfl
  refine Eq.trans (congrArg (k0_pay3 (F := Ideal) x w) h) ?_
  refine Eq.trans (pay1 x w i j) ?_
  have h0 : (z 0).val < 1 := (z 0).isLt
  refine same x w _ _ _ _ _ _ ?_ ?_ ?_
  · show 1 = 1 + 1 * (z 0).val
    omega
  · show i.val = 0 + 1 * (z 1).val
    omega
  · show j.val = 0 + 1 * (z 2).val
    omega

/-- The product the call computes. -/
def val (x : FVec Ideal S4096x1024 .bf16) (w : FVec Ideal S4096x2048 .bf16) (e : Fin 8) (i : Fin 1024) (j : Fin 256) : EReal :=
  ∑ k : Fin 4096, (x (ix2 k i) : EReal) * (w (ix2 k (col e j)) : EReal)

theorem out (t : Fin cfg0.N) (e : Fin 2) (i : Fin 1024) (j : Fin 256) (E : Fin 8) (I : Fin 1024) (J : Fin 256) (hE : E.val = t.val % 4 * 2 + e) (hI : I.val = t.val / 4 * 1024 + i.val) (hJ : J.val = j.val) :
    tile (iblk m c 0 t) (iblk m c 1 t) e i j = val (m ((c : Thread nD τ).loc main_arg0)) (m ((c : Thread nD τ).loc main_arg1)) E I J :=
  Finset.sum_congr rfl fun k _ => congrArg₂ (fun a b : EReal => a * b) (in0 m c t k i I hI) (in1 m c t k (colb e j) (col E J) (by show E.val * 256 + J.val = t.val % 4 * 512 + (e.val * 256 + j.val); omega))

theorem final2 : ((dats m 0 c).arrAt 2 cfg0.N : FVec Ideal S8x1024x256 .bf16)
    = fun i => (val (m ((c : Thread nD τ).loc main_arg0)) (m ((c : Thread nD τ).loc main_arg1)) (i 0) (i 1) (i 2) : EReal) := by
  refine (dats m 0 c).arrAt_eq_of_covers 2 _ (by decide +kernel) fun t hf y => ?_
  blk_simp
  rw [after0_2]
  have e0 : ((win0_2.blk t).view.emb y 0 : ℕ) = t.val % 4 * 2 + (y 0 : ℕ) := by blk_simp [(idx t).2.2]
  have e1 : ((win0_2.blk t).view.emb y 1 : ℕ) = t.val / 4 * 1024 + (y 1 : ℕ) := by blk_simp [(idx t).2.2]
  have e2 : ((win0_2.blk t).view.emb y 2 : ℕ) = (y 2 : ℕ) := by blk_simp [(idx t).2.2]
  unfold out0_2
  rw [View.ld_unit_zero (S := S4096x1024) z2, View.ld_unit_zero (S := S4096x512) z2]
  refine (View.canon_apply_of_pieces (Val := Elt Ideal) (S := S2x1024x256) (e := .bf16) (block (iblk m c 0 t) (iblk m c 1 t)) _ ?_ y (cover0_2 _ _ y)).trans ?_
  · intro p hp z
    simp only [List.mem_cons, List.not_mem_nil, or_false] at hp
    rcases hp with rfl | rfl
    · exact piece1 _ _ z _ _ (eta z)
    · exact piece0 _ _ z _ _ (eta z)
  · exact out m c t ((y : S2x1024x256.Idx) 0) ((y : S2x1024x256.Idx) 1) ((y : S2x1024x256.Idx) 2) _ _ _ e0 e1 e2

end Kernel

section Reference

open Cert.ReferenceDwpw1Ideal Cert.ReferenceDwpw1Ideal.Gen

theorem eta1 (y : S8x1024x256.Idx) : y = ix3 (y 0) (y 1) (y 2) := by funext k; fin_cases k <;> rfl

theorem ref (x : FVec Ideal S4096x1024 .bf16) (w : FVec Ideal S4096x2048 .bf16) :
    (truncf .bf16 (transpose S8x1024x256 [1, 0, 2] (shapeCast _ (transpose S1024x2048 [1, 0] (Host.dotGeneral dot_S4096x2048_S4096x1024_S2048x1024_0_0_1_1_n_n none (extf .f32 w bitsLt_bf16_f32) (extf .f32 x bitsLt_bf16_f32)) transposes_S2048x1024_S1024x2048_1_0) shapeCasts_S1024x2048_S1024x8x256) transposes_S1024x8x256_S8x1024x256_1_0_2) bitsLt_bf16_f32 : FVec Ideal S8x1024x256 .bf16)
      = fun i => val x w (i 0) (i 1) (i 2) := by
  funext y
  rw [eta1 y]
  generalize (y : S8x1024x256.Idx) 0 = e
  generalize (y : S8x1024x256.Idx) 1 = i
  generalize (y : S8x1024x256.Idx) 2 = j
  pointwise
  exact Finset.sum_congr rfl fun k _ => mul_comm (G := EReal) _ _

end Reference

end Mlp.Dwpw1

end
-- ==== Proof.Mlp.Dupw1.lean ====
/- The gradient of the conformer's first product: the call, which sums over the shards of the weight, and the reference. -/
module

public import proofs.«01_k».proof.Proof.Gen.KernelDupw1Ideal.Value
public import proofs.«01_k».proof.Proof.Gen.ReferenceDupw1Ideal.Run
public import proofs.«01_k».proof.Proof.Mlp.Base

@[expose] public section

set_option maxRecDepth 16384

noncomputable section

namespace Mlp.Dupw1

open Idealize.ShloMosaic Idealize.ShloMosaic.TcCoe Idealize.SL.Sem

section Kernel

open Cert.KernelDupw1Ideal Cert.KernelDupw1Ideal.Gen

theorem eta (y : S1024x512.Idx) : y = ix2 (y 0) (y 1) := by funext k; fin_cases k <;> rfl

/-- The block of each window at a point. -/
theorem idx : ∀ t : Fin cfg0.N, win0_0.index t = ![t.val / 2, 0] ∧ win0_1.index t = ![0, 0, t.val % 2, 0] ∧ win0_2.index t = ![t.val / 2, t.val % 2] :=
  (by decide +kernel : ∀ t : Fin grid0.N, _)

variable (m : (ℓ : Loc nD τ sig) → Buf (Elt Ideal) ℓ) (c : Dev nD)

theorem in0 (t : Fin cfg0.N) (i : Fin 1024) (k : Fin 2048) (r : Fin 4096) (hr : r.val = t.val / 2 * 1024 + i) :
    (iblk m c 0 t : FVec Ideal S1024x2048 .bf16) (ix2 i k) = (m ((c : Thread nD τ).loc main_arg0) : FVec Ideal S4096x2048 .bf16) (ix2 r k) := by
  blk_simp [iblk]
  entry_read
  refine congrArg (m _) (funext fun a => Fin.ext ?_)
  fin_cases a <;> blk_simp [idx t] <;> simp [hr]

theorem in1 (t : Fin cfg0.N) (d : Fin 8) (j : Fin 512) (k : Fin 256) (q : Fin 1024) (hq : q.val = t.val % 2 * 512 + j) (p : Fin 2048) (hp : p.val = d * 256 + k.val) :
    (iblk m c 1 t : FVec Ideal S8x1x512x256 .bf16) (ix4 d 0 j k) = (m ((c : Thread nD τ).loc main_arg1) : FVec Ideal S1024x2048 .f32) (ix2 q p) := by
  blk_simp [iblk]
  entry_read
  pointwise
  refine congrArg (m _) (congrArg₂ ix2 (Fin.ext ?_) (Fin.ext ?_)) <;> blk_simp [idx t] <;> (try simp only [hq, hp]) <;> (try omega)

/-- The column of the weight which a column of a shard is. -/
abbrev col (d : Fin 8) (k : Fin 256) : Fin 2048 := ⟨d.val * 256 + k.val, by omega⟩

/-- A sum over the columns, shard by shard. -/
theorem shards (f : Fin 2048 → EReal) : ∑ p, f p = ∑ d : Fin 8, ∑ k : Fin 256, f (col d k) := by
  rw [← Fintype.sum_prod_type' (f := fun d k => f (col d k))]
  refine (Fintype.sum_equiv (finProdFinEquiv (m := 8) (n := 256)) _ _ fun x => congrArg f (Fin.ext ?_)).symm
  show x.1.val * 256 + x.2.val = x.2.val + 256 * x.1.val
  omega

/-- The load of one shard. -/
theorem slab (w : FVec Ideal S8x1x512x256 .bf16) (d : Fin 8) (h : ∀ a, ![d.val, 0, 0, 0] a + S1x1x512x256.size a ≤ S8x1x512x256.size a) (j : Fin 512) (k : Fin 256) :
    View.ld (Val := Elt Ideal) (e' := .bf16) w (Rect.unit (s := S8x1x512x256) ![d.val, 0, 0, 0] S1x1x512x256.size h) (ix4 (n0 := 1) (n1 := 1) (n2 := 512) (n3 := 256) 0 0 j k) = w (ix4 d 0 j k) := by
  refine congrArg w (funext fun a => Fin.ext ?_)
  fin_cases a <;> simp [Rect.unit, ix4]

theorem pay2 (x : FVec Ideal S1024x2048 .bf16) (w0 w1 w2 w3 w4 : FVec Ideal S1x1x512x256 .bf16) (i : Fin 1024) (j : Fin 512) :
    (k0_pay2 (F := Ideal) x w0 w1 w2 w3 w4 (ix2 i j) : EReal) = (∑ k : Fin 256, (x (ix2 i ⟨k.val, by omega⟩) : EReal) * (w0 (ix4 0 0 j k) : EReal)) + (∑ k : Fin 256, (x (ix2 i ⟨256 + k.val, by omega⟩) : EReal) * (w1 (ix4 0 0 j k) : EReal)) + (∑ k : Fin 256, (x (ix2 i ⟨512 + k.val, by omega⟩) : EReal) * (w2 (ix4 0 0 j k) : EReal)) + (∑ k : Fin 256, (x (ix2 i ⟨768 + k.val, by omega⟩) : EReal) * (w3 (ix4 0 0 j k) : EReal)) + (∑ k : Fin 256, (x (ix2 i ⟨1024 + k.val, by omega⟩) : EReal) * (w4 (ix4 0 0 j k) : EReal)) := by
  pointwise [k0_pay2]

theorem pay1 (x : FVec Ideal S1024x2048 .bf16) (z : FVec Ideal S1024x512 .f32) (w5 w6 w7 : FVec Ideal S1x1x512x256 .bf16) (i : Fin 1024) (j : Fin 512) :
    (k0_pay1 (F := Ideal) x z (k0_pay3 x) w5 w6 w7 (ix2 i j) : EReal) = z (ix2 i j) + (∑ k : Fin 256, (x (ix2 i ⟨1280 + k.val, by omega⟩) : EReal) * (w5 (ix4 0 0 j k) : EReal)) + (∑ k : Fin 256, (x (ix2 i ⟨1536 + k.val, by omega⟩) : EReal) * (w6 (ix4 0 0 j k) : EReal)) + (∑ k : Fin 256, (x (ix2 i ⟨1792 + k.val, by omega⟩) : EReal) * (w7 (ix4 0 0 j k) : EReal)) := by
  pointwise [k0_pay1, k0_pay3]

/-- The product the call computes. -/
def val (x : FVec Ideal S4096x2048 .bf16) (w : FVec Ideal S1024x2048 .f32) (i : Fin 4096) (j : Fin 1024) : EReal :=
  ∑ k : Fin 2048, (x (ix2 i k) : EReal) * (w (ix2 j k) : EReal)

/-- A product of extended reals. -/
abbrev mul (a b : EReal) : EReal := a * b

/-- One shard's part of the sum. -/
theorem part (t : Fin cfg0.N) (d : Fin 8) (h : ∀ a, ![d.val, 0, 0, 0] a + S1x1x512x256.size a ≤ S8x1x512x256.size a) (g : Fin 256 → Fin 2048) (hg : ∀ k, (g k).val = d.val * 256 + k.val) (i : Fin 1024) (j : Fin 512) (r : Fin 4096) (q : Fin 1024) (hr : r.val = t.val / 2 * 1024 + i) (hq : q.val = t.val % 2 * 512 + j) :
    (∑ k : Fin 256, mul (iblk m c 0 t (ix2 i (g k))) (View.ld (Val := Elt Ideal) (e' := .bf16) (iblk m c 1 t) (Rect.unit (s := S8x1x512x256) ![d.val, 0, 0, 0] S1x1x512x256.size h) (ix4 (n0 := 1) (n1 := 1) (n2 := 512) (n3 := 256) 0 0 j k)) : EReal)
      = ∑ k : Fin 256, mul ((m ((c : Thread nD τ).loc main_arg0)) (ix2 r (col d k))) ((m ((c : Thread nD τ).loc main_arg1)) (ix2 q (col d k))) :=
  Finset.sum_congr rfl fun k _ => congrArg₂ (fun a b : EReal => a * b) (in0 m c t i (g k) r hr |>.trans (congrArg (fun z => (m ((c : Thread nD τ).loc main_arg0)) (ix2 r z)) (Fin.ext (hg k)))) ((slab _ d h j k).trans (in1 m c t d j k q hq (col d k) rfl))

theorem out (t : Fin cfg0.N) (i : Fin 1024) (j : Fin 512) (r : Fin 4096) (q : Fin 1024) (hr : r.val = t.val / 2 * 1024 + i) (hq : q.val = t.val % 2 * 512 + j) :
    (k0_pay1 (F := Ideal) (iblk m c 0 t) (k0_pay2 (iblk m c 0 t) (View.ld (iblk m c 1 t) r0_1) (View.ld (iblk m c 1 t) r0_2) (View.ld (iblk m c 1 t) r0_3) (View.ld (iblk m c 1 t) r0_4) (View.ld (iblk m c 1 t) r0_5)) (k0_pay3 (iblk m c 0 t)) (View.ld (iblk m c 1 t) r0_6) (View.ld (iblk m c 1 t) r0_7) (View.ld (iblk m c 1 t) r0_8) (ix2 i j) : EReal) = val (m ((c : Thread nD τ).loc main_arg0)) (m ((c : Thread nD τ).loc main_arg1)) r q := by
  refine (pay1 _ _ _ _ _ i j).trans ?_
  refine (congrArg (fun z : EReal => z + _ + _ + _) (pay2 _ _ _ _ _ _ i j)).trans ?_
  unfold val
  rw [shards, Fin.sum_univ_eight]
  have P := fun d h g hg => part m c t d h g hg i j r q hr hq
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (P 0 _ _ fun k => by first | rfl | (show 0*256 + k.val = _; rfl) | (show k.val = 0 * 256 + k.val; omega)) (P 1 _ _ fun k => by first | rfl | (show 1*256 + k.val = _; rfl) | (show k.val = 0 * 256 + k.val; omega))) (P 2 _ _ fun k => by first | rfl | (show 2*256 + k.val = _; rfl) | (show k.val = 0 * 256 + k.val; omega))) (P 3 _ _ fun k => by first | rfl | (show 3*256 + k.val = _; rfl) | (show k.val = 0 * 256 + k.val; omega))) (P 4 _ _ fun k => by first | rfl | (show 4*256 + k.val = _; rfl) | (show k.val = 0 * 256 + k.val; omega))) (P 5 _ _ fun k => by first | rfl | (show 5*256 + k.val = _; rfl) | (show k.val = 0 * 256 + k.val; omega))) (P 6 _ _ fun k => by first | rfl | (show 6*256 + k.val = _; rfl) | (show k.val = 0 * 256 + k.val; omega))) (P 7 _ _ fun k => by first | rfl | (show 7*256 + k.val = _; rfl) | (show k.val = 0 * 256 + k.val; omega))

theorem final2 : ((dats m 0 c).arrAt 2 cfg0.N : FVec Ideal S4096x1024 .f32)
    = fun i => (val (m ((c : Thread nD τ).loc main_arg0)) (m ((c : Thread nD τ).loc main_arg1)) (i 0) (i 1) : EReal) := by
  refine (dats m 0 c).arrAt_eq_of_covers 2 _ (by decide +kernel) fun t hf y => ?_
  blk_simp
  rw [after0_2]
  have e0 : ((win0_2.blk t).view.emb y 0 : ℕ) = t.val / 2 * 1024 + (y 0 : ℕ) := by blk_simp [(idx t).2.2]
  have e1 : ((win0_2.blk t).view.emb y 1 : ℕ) = t.val % 2 * 512 + (y 1 : ℕ) := by blk_simp [(idx t).2.2]
  unfold out0_2
  rw [View.canon_unit_zero (S := S1024x512) z2, View.ld_unit_zero (S := S1024x2048) z2]
  refine Eq.trans (congrArg (k0_pay1 (F := Ideal) (iblk m c 0 t) (k0_pay2 (iblk m c 0 t) (View.ld (iblk m c 1 t) r0_1) (View.ld (iblk m c 1 t) r0_2) (View.ld (iblk m c 1 t) r0_3) (View.ld (iblk m c 1 t) r0_4) (View.ld (iblk m c 1 t) r0_5)) (k0_pay3 (iblk m c 0 t)) (View.ld (iblk m c 1 t) r0_6) (View.ld (iblk m c 1 t) r0_7) (View.ld (iblk m c 1 t) r0_8)) (eta y)) ?_
  exact out m c t ((y : S1024x512.Idx) 0) ((y : S1024x512.Idx) 1) _ _ e0 e1

end Kernel

section Reference

open Cert.ReferenceDupw1Ideal Cert.ReferenceDupw1Ideal.Gen

theorem eta1 (y : S4096x1024.Idx) : y = ix2 (y 0) (y 1) := by funext k; fin_cases k <;> rfl

theorem ref (x : FVec Ideal S4096x2048 .bf16) (w : FVec Ideal S1024x2048 .f32) :
    (Host.dotGeneral dot_S4096x2048_S1024x2048_S4096x1024_1_1_0_0_n_n none (extf .f32 x bitsLt_bf16_f32) w : FVec Ideal S4096x1024 .f32)
      = fun i => val x w (i 0) (i 1) := by
  funext y
  rw [eta1 y]
  generalize (y : S4096x1024.Idx) 0 = i
  generalize (y : S4096x1024.Idx) 1 = j
  pointwise <;> rfl

end Reference

end Mlp.Dupw1

end
-- ==== Proof.Mlp.Inz.lean ====
/- The Mamba mixer's input projection, gate part: the call and the reference as functions of the inputs. -/
module

public import proofs.«01_k».proof.Proof.Gen.KernelInzIdeal.Value
public import proofs.«01_k».proof.Proof.Gen.ReferenceInzIdeal.Run
public import proofs.«01_k».proof.Proof.Mlp.Base

@[expose] public section

set_option maxRecDepth 16384

noncomputable section

namespace Mlp.Inz

open Idealize.ShloMosaic Idealize.ShloMosaic.TcCoe Idealize.SL.Sem

section Kernel

open Cert.KernelInzIdeal Cert.KernelInzIdeal.Gen

theorem eta (y : S1024x512.Idx) : y = ix2 (y 0) (y 1) := by funext k; fin_cases k <;> rfl

/-- The block of each window at a point. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

variable (m : (ℓ : Loc nD τ sig) → Buf (Elt Ideal) ℓ) (c : Dev nD)

theorem in0 (t : Fin cfg0.N) (i : Fin 1024) (k : Fin 1024) (r : Fin 4096) (hr : r.val = t.val / 4 * 1024 + i) :
    (iblk m c 0 t : FVec Ideal S1024x1024 .bf16) (ix2 i k) = (m ((c : Thread nD τ).loc main_arg0) : FVec Ideal S4096x1024 .bf16) (ix2 r k) := by
  blk_simp [iblk]
  entry_read
  refine congrArg (m _) (funext fun a => Fin.ext ?_)
  fin_cases a <;> blk_simp [idx t] <;> simp [hr]

/-- Splitting the columns into shards and joining them again changes no index. -/
theorem back (i : S1024x6176.Idx) : (Shape.reshapeEquiv shapeCasts_S1024x6176_S1024x8x772) (transposes_S1024x8x772_S8x1024x772_1_0_2.src
    (transposes_S8x1024x772_S1024x8x772_1_0_2.src ((Shape.reshapeEquiv shapeCasts_S1024x8x772_S1024x6176) i))) = i := by
  have e (z : S1024x8x772.Idx) : transposes_S1024x8x772_S8x1024x772_1_0_2.src (transposes_S8x1024x772_S1024x8x772_1_0_2.src z) = z :=
    funext fun a => by fin_cases a <;> rfl
  rw [e, Shape.reshapeEquiv_reshapeEquiv, Shape.reshapeEquiv_self]

theorem in1 (t : Fin cfg0.N) (k : Fin 1024) (j : Fin 512) (q : Fin 6176) (hq : q.val = t.val % 4 * 512 + j) :
    (iblk m c 1 t : FVec Ideal S1024x512 .bf16) (ix2 k j) = (m ((c : Thread nD τ).loc main_arg1) : FVec Ideal S1024x6176 .f32) (ix2 k q) := by
  blk_simp [iblk]
  entry_read
  pointwise
  refine congrArg (m _) ((back _).trans (funext fun a => Fin.ext ?_))
  fin_cases a <;> blk_simp [idx t] <;> (try simp [hq]) <;> (try rfl) <;> (try omega)

theorem pay (x : FVec Ideal S1024x1024 .bf16) (w : FVec Ideal S1024x512 .bf16) (i : Fin 1024) (j : Fin 512) :
    (k0_pay1 (F := Ideal) x w  (ix2 i j) : EReal) = (∑ k : Fin 1024, (x (ix2 i k) : EReal) * (w (ix2 k j) : EReal)) := by
  pointwise [k0_pay1]

/-- The value the call computes. -/
def val (x : FVec Ideal S4096x1024 .bf16) (w : FVec Ideal S1024x6176 .f32) (i : Fin 4096) (j : Fin 2048) : EReal :=
  (∑ k : Fin 1024, (x (ix2 i k) : EReal) * (w (ix2 k ⟨j.val, by omega⟩) : EReal))

theorem out (t : Fin cfg0.N) (i : Fin 1024) (j : Fin 512) (r : Fin 4096) (q : Fin 2048) (hr : r.val = t.val / 4 * 1024 + i) (hq : q.val = t.val % 4 * 512 + j) :
    (k0_pay1 (F := Ideal) (iblk m c 0 t) (iblk m c 1 t) (ix2 i j) : EReal) = val (m ((c : Thread nD τ).loc main_arg0)) (m ((c : Thread nD τ).loc main_arg1)) r q :=
  (pay _ _ i j).trans (Finset.sum_congr rfl fun k _ => congrArg₂ (fun a b : EReal => a * b) (in0 m c t i k r hr) (in1 m c t k j ⟨q.val, by omega⟩ hq))

theorem final2 : ((dats m 0 c).arrAt 2 cfg0.N : FVec Ideal S4096x2048 .f32)
    = fun i => (val (m ((c : Thread nD τ).loc main_arg0)) (m ((c : Thread nD τ).loc main_arg1)) (i 0) (i 1) : EReal) := by
  refine (dats m 0 c).arrAt_eq_of_covers 2 _ (by decide +kernel) fun t hf y => ?_
  blk_simp
  rw [after0_2]
  have e0 : ((win0_2.blk t).view.emb y 0 : ℕ) = t.val / 4 * 1024 + (y 0 : ℕ) := by blk_simp [(idx t).2.2]
  have e1 : ((win0_2.blk t).view.emb y 1 : ℕ) = t.val % 4 * 512 + (y 1 : ℕ) := by blk_simp [(idx t).2.2]
  unfold out0_2
  rw [View.canon_unit_zero (S := S1024x512) z2, View.ld_unit_zero (S := S1024x1024) z2, View.ld_unit_zero (S := S1024x512) z2]
  refine Eq.trans (congrArg (k0_pay1 (F := Ideal) (iblk m c 0 t) (iblk m c 1 t)) (eta y)) ?_
  exact out m c t ((y : S1024x512.Idx) 0) ((y : S1024x512.Idx) 1) _ _ e0 e1

end Kernel

section Reference

open Cert.ReferenceInzIdeal Cert.ReferenceInzIdeal.Gen

theorem eta1 (y : S4096x2048.Idx) : y = ix2 (y 0) (y 1) := by funext k; fin_cases k <;> rfl

theorem ref (x : FVec Ideal S4096x1024 .bf16) (w : FVec Ideal S1024x6176 .f32) :
    (extractStridedSlice S4096x2048 ![0, 0] (Host.dotGeneral dot_S4096x1024_S1024x6176_S4096x6176_1_0_0_1_n_n none (extf .f32 x bitsLt_bf16_f32) w) slices_S4096x6176_S4096x2048_0_0 : FVec Ideal S4096x2048 .f32)
      = fun i => val x w  (i 0) (i 1) := by
  funext y
  rw [eta1 y]
  generalize (y : S4096x2048.Idx) 0 = i
  generalize (y : S4096x2048.Idx) 1 = j
  pointwise <;> rfl

end Reference

end Mlp.Inz

end
-- ==== Proof.Mlp.Inxbc.lean ====
/- The Mamba mixer's input projection, convolved part: the call and the reference as functions of the inputs. -/
module

public import proofs.«01_k».proof.Proof.Gen.KernelInxbcIdeal.Value
public import proofs.«01_k».proof.Proof.Gen.ReferenceInxbcIdeal.Run
public import proofs.«01_k».proof.Proof.Mlp.Base

@[expose] public section

set_option maxRecDepth 16384

noncomputable section

namespace Mlp.Inxbc

open Idealize.ShloMosaic Idealize.ShloMosaic.TcCoe Idealize.SL.Sem

section Kernel

open Cert.KernelInxbcIdeal Cert.KernelInxbcIdeal.Gen

theorem eta (y : S1024x512.Idx) : y = ix2 (y 0) (y 1) := by funext k; fin_cases k <;> rfl

/-- The block of each window at a point. -/
theorem idx : ∀ t : Fin cfg0.N, win0_0.index t = ![t.val / 8, 0] ∧ win0_1.index t = ![0, t.val % 8] ∧ win0_2.index t = ![t.val / 8, t.val % 8] :=
  (by decide +kernel : ∀ t : Fin grid0.N, _)

variable (m : (ℓ : Loc nD τ sig) → Buf (Elt Ideal) ℓ) (c : Dev nD)

theorem in0 (t : Fin cfg0.N) (i : Fin 1024) (k : Fin 1024) (r : Fin 4096) (hr : r.val = t.val / 8 * 1024 + i) :
    (iblk m c 0 t : FVec Ideal S1024x1024 .bf16) (ix2 i k) = (m ((c : Thread nD τ).loc main_arg0) : FVec Ideal S4096x1024 .bf16) (ix2 r k) := by
  blk_simp [iblk]
  entry_read
  refine congrArg (m _) (funext fun a => Fin.ext ?_)
  fin_cases a <;> blk_simp [idx t] <;> simp [hr]

/-- Splitting the columns into shards and joining them again changes no index. -/
theorem back (i : S1024x6176.Idx) : (Shape.reshapeEquiv shapeCasts_S1024x6176_S1024x8x772) (transposes_S1024x8x772_S8x1024x772_1_0_2.src
    (transposes_S8x1024x772_S1024x8x772_1_0_2.src ((Shape.reshapeEquiv shapeCasts_S1024x8x772_S1024x6176) i))) = i := by
  have e (z : S1024x8x772.Idx) : transposes_S1024x8x772_S8x1024x772_1_0_2.src (transposes_S8x1024x772_S1024x8x772_1_0_2.src z) = z :=
    funext fun a => by fin_cases a <;> rfl
  rw [e, Shape.reshapeEquiv_reshapeEquiv, Shape.reshapeEquiv_self]

theorem in1 (t : Fin cfg0.N) (k : Fin 1024) (j : Fin 512) (q : Fin 6176) (hq : q.val = 2048 + (t.val % 8 * 512 + j)) :
    (iblk m c 1 t : FVec Ideal S1024x512 .bf16) (ix2 k j) = (m ((c : Thread nD τ).loc main_arg1) : FVec Ideal S1024x6176 .f32) (ix2 k q) := by
  blk_simp [iblk]
  entry_read
  pointwise
  refine congrArg (m _) ((back _).trans (funext fun a => Fin.ext ?_))
  fin_cases a <;> blk_simp [idx t] <;> (try simp [hq]) <;> (try rfl) <;> (try omega)

theorem pay (x : FVec Ideal S1024x1024 .bf16) (w : FVec Ideal S1024x512 .bf16) (i : Fin 1024) (j : Fin 512) :
    (k0_pay1 (F := Ideal) x w  (ix2 i j) : EReal) = (∑ k : Fin 1024, (x (ix2 i k) : EReal) * (w (ix2 k j) : EReal)) := by
  pointwise [k0_pay1]

/-- The value the call computes. -/
def val (x : FVec Ideal S4096x1024 .bf16) (w : FVec Ideal S1024x6176 .f32) (i : Fin 4096) (j : Fin 4096) : EReal :=
  (∑ k : Fin 1024, (x (ix2 i k) : EReal) * (w (ix2 k ⟨2048 + j.val, by omega⟩) : EReal))

theorem out (t : Fin cfg0.N) (i : Fin 1024) (j : Fin 512) (r : Fin 4096) (q : Fin 4096) (hr : r.val = t.val / 8 * 1024 + i) (hq : q.val = t.val % 8 * 512 + j) :
    (k0_pay1 (F := Ideal) (iblk m c 0 t) (iblk m c 1 t) (ix2 i j) : EReal) = val (m ((c : Thread nD τ).loc main_arg0)) (m ((c : Thread nD τ).loc main_arg1)) r q :=
  (pay _ _ i j).trans (Finset.sum_congr rfl fun k _ => congrArg₂ (fun a b : EReal => a * b) (in0 m c t i k r hr) (in1 m c t k j ⟨2048 + q.val, by omega⟩ (by show 2048 + q.val = _; rw [hq])))

theorem final2 : ((dats m 0 c).arrAt 2 cfg0.N : FVec Ideal S4096x4096 .f32)
    = fun i => (val (m ((c : Thread nD τ).loc main_arg0)) (m ((c : Thread nD τ).loc main_arg1)) (i 0) (i 1) : EReal) := by
  refine (dats m 0 c).arrAt_eq_of_covers 2 _ (by decide +kernel) fun t hf y => ?_
  blk_simp
  rw [after0_2]
  have e0 : ((win0_2.blk t).view.emb y 0 : ℕ) = t.val / 8 * 1024 + (y 0 : ℕ) := by blk_simp [(idx t).2.2]
  have e1 : ((win0_2.blk t).view.emb y 1 : ℕ) = t.val % 8 * 512 + (y 1 : ℕ) := by blk_simp [(idx t).2.2]
  unfold out0_2
  rw [View.canon_unit_zero (S := S1024x512) z2, View.ld_unit_zero (S := S1024x1024) z2, View.ld_unit_zero (S := S1024x512) z2]
  refine Eq.trans (congrArg (k0_pay1 (F := Ideal) (iblk m c 0 t) (iblk m c 1 t)) (eta y)) ?_
  exact out m c t ((y : S1024x512.Idx) 0) ((y : S1024x512.Idx) 1) _ _ e0 e1

end Kernel

section Reference

open Cert.ReferenceInxbcIdeal Cert.ReferenceInxbcIdeal.Gen

theorem eta1 (y : S4096x4096.Idx) : y = ix2 (y 0) (y 1) := by funext k; fin_cases k <;> rfl

theorem ref (x : FVec Ideal S4096x1024 .bf16) (w : FVec Ideal S1024x6176 .f32) :
    (extractStridedSlice S4096x4096 ![0, 2048] (Host.dotGeneral dot_S4096x1024_S1024x6176_S4096x6176_1_0_0_1_n_n none (extf .f32 x bitsLt_bf16_f32) w) slices_S4096x6176_S4096x4096_0_2048 : FVec Ideal S4096x4096 .f32)
      = fun i => val x w  (i 0) (i 1) := by
  funext y
  rw [eta1 y]
  generalize (y : S4096x4096.Idx) 0 = i
  generalize (y : S4096x4096.Idx) 1 = j
  pointwise <;> rfl

end Reference

end Mlp.Inxbc

end
-- ==== Proof.Mlp.Indt.lean ====
/- The Mamba mixer's input projection, time step part: the call and the reference as functions of the inputs. -/
module

public import proofs.«01_k».proof.Proof.Gen.KernelIndtIdeal.Value
public import proofs.«01_k».proof.Proof.Gen.ReferenceIndtIdeal.Run
public import proofs.«01_k».proof.Proof.Mlp.Base

@[expose] public section

set_option maxRecDepth 16384

noncomputable section

namespace Mlp.Indt

open Idealize.ShloMosaic Idealize.ShloMosaic.TcCoe Idealize.SL.Sem

section Kernel

open Cert.KernelIndtIdeal Cert.KernelIndtIdeal.Gen

theorem eta (y : S1024x128.Idx) : y = ix2 (y 0) (y 1) := by funext k; fin_cases k <;> rfl

/-- The block of each window at a point. -/
theorem idx : ∀ t : Fin cfg0.N, win0_0.index t = ![t.val / 1, 0] ∧ win0_1.index t = ![0, 0] ∧ win0_2.index t = ![t.val / 1, t.val % 1] :=
  (by decide +kernel : ∀ t : Fin grid0.N, _)

variable (m : (ℓ : Loc nD τ sig) → Buf (Elt Ideal) ℓ) (c : Dev nD)

theorem in0 (t : Fin cfg0.N) (i : Fin 1024) (k : Fin 1024) (r : Fin 4096) (hr : r.val = t.val / 1 * 1024 + i) :
    (iblk m c 0 t : FVec Ideal S1024x1024 .bf16) (ix2 i k) = (m ((c : Thread nD τ).loc main_arg0) : FVec Ideal S4096x1024 .bf16) (ix2 r k) := by
  blk_simp [iblk]
  entry_read
  refine congrArg (m _) (funext fun a => Fin.ext ?_)
  fin_cases a <;> blk_simp [idx t] <;> simp [hr]

/-- The time step columns of the weight, followed by zeros. -/
def cols (w : FVec Ideal S1024x6176 .f32) (k : Fin 1024) (j : Fin 128) : EReal :=
  if h : j.val < 32 then (w (ix2 k ⟨6144 + j.val, by omega⟩) : EReal) else 0

theorem cols_lo (w : FVec Ideal S1024x6176 .f32) (k : Fin 1024) (j : Fin 128) (h : j.val < 32) : cols w k j = (w (ix2 k ⟨6144 + j.val, by omega⟩) : EReal) := dif_pos h

theorem cols_hi (w : FVec Ideal S1024x6176 .f32) (k : Fin 1024) (j : Fin 128) (h : ¬ j.val < 32) : cols w k j = 0 := dif_neg h

/-- The host's zero, which fills the padding. -/
theorem zero (f : FTy) : (FloatOps.sitofp (F := Ideal) f (0#32 : BitVec 32) : EReal) = 0 := by
  show ((((0#32 : BitVec 32).toInt : ℤ) : ℝ) : EReal) = 0
  simp

/-- The weight as the host hands it to the call. -/
def given (w : FVec Ideal S1024x6176 .f32) : FVec Ideal S1024x128 .bf16 :=
  pad S1024x128 ![0, 0] ![0, 96] ![0, 0] (extractStridedSlice S1024x32 ![0, 6144] (shapeCast S1024x6176 (transpose S1024x8x772 [1, 0, 2] (transpose S8x1024x772 [1, 0, 2] (shapeCast S1024x8x772 (truncf .bf16 w bitsLt_bf16_f32) shapeCasts_S1024x6176_S1024x8x772) transposes_S1024x8x772_S8x1024x772_1_0_2) transposes_S8x1024x772_S1024x8x772_1_0_2) shapeCasts_S1024x8x772_S1024x6176) slices_S1024x6176_S1024x32_0_6144) (sitofp .bf16 (constantI S_ 32 0#32)) pads_S1024x32_S1024x128_000_0960 h_S_

theorem given_at (w : FVec Ideal S1024x6176 .f32) (k : Fin 1024) (j : Fin 128) : (given w (ix2 k j) : EReal) = cols w k j := by
  pointwise [given]
  unfold cols
  split_ifs with h
  · exact congrArg (fun z => (w (ix2 k z) : EReal)) (Fin.ext (by show (6144 + j.val) / 772 * 772 + (6144 + j.val) % 772 = 6144 + j.val; omega))
  · exact zero _

theorem host : (StableHlo.after [hostOps0 (F := Ideal), hostOps0_1].flatten (fun b => m (c, b)) (Proc.tc.devRef main_v8) : FVec Ideal S1024x128 .bf16) = given (m ((c : Thread nD τ).loc main_arg1)) := by
  rfl

theorem in1 (t : Fin cfg0.N) (j : Fin 1024) (k : Fin 128) (q : Fin 128) (hq : q.val = t.val % 1 * 128 + k):
    (iblk m c 1 t : FVec Ideal S1024x128 .bf16) (ix2 j k) = cols (m ((c : Thread nD τ).loc main_arg1)) j q := by
  blk_simp [iblk]
  entry_read
  refine (congrFun (host m c) _).trans ((congrArg (given _) (funext fun a => Fin.ext ?_)).trans (given_at _ j q))
  fin_cases a <;> blk_simp [idx t] <;> (try simp [hq]) <;> (try rfl) <;> (try omega)

theorem pay (x : FVec Ideal S1024x1024 .bf16) (w : FVec Ideal S1024x128 .bf16) (i : Fin 1024) (j : Fin 128) :
    (k0_pay1 (F := Ideal) x w  (ix2 i j) : EReal) = (∑ k : Fin 1024, (x (ix2 i k) : EReal) * (w (ix2 k j) : EReal)) := by
  pointwise [k0_pay1]

/-- The value the call computes. -/
def val (x : FVec Ideal S4096x1024 .bf16) (w : FVec Ideal S1024x6176 .f32) (i : Fin 4096) (j : Fin 128) : EReal :=
  (∑ k : Fin 1024, (x (ix2 i k) : EReal) * cols w k j)

theorem out (t : Fin cfg0.N) (i : Fin 1024) (j : Fin 128) (r : Fin 4096) (q : Fin 128) (hr : r.val = t.val / 1 * 1024 + i) (hq : q.val = t.val % 1 * 128 + j) :
    (k0_pay1 (F := Ideal) (iblk m c 0 t) (iblk m c 1 t) (ix2 i j) : EReal) = val (m ((c : Thread nD τ).loc main_arg0)) (m ((c : Thread nD τ).loc main_arg1)) r q :=
  (pay _ _ i j).trans (Finset.sum_congr rfl fun k _ => congrArg₂ (fun a b : EReal => a * b) (in0 m c t i k r hr) (in1 m c t k j q hq))

theorem final2 : ((dats m 0 c).arrAt 2 cfg0.N : FVec Ideal S4096x128 .f32)
    = fun i => (val (m ((c : Thread nD τ).loc main_arg0)) (m ((c : Thread nD τ).loc main_arg1)) (i 0) (i 1) : EReal) := by
  refine (dats m 0 c).arrAt_eq_of_covers 2 _ (by decide +kernel) fun t hf y => ?_
  blk_simp
  rw [after0_2]
  have e0 : ((win0_2.blk t).view.emb y 0 : ℕ) = t.val / 1 * 1024 + (y 0 : ℕ) := by blk_simp [(idx t).2.2]
  have e1 : ((win0_2.blk t).view.emb y 1 : ℕ) = t.val % 1 * 128 + (y 1 : ℕ) := by blk_simp [(idx t).2.2]
  unfold out0_2
  rw [View.canon_unit_zero (S := S1024x128) z2, View.ld_unit_zero (S := S1024x1024) z2, View.ld_unit_zero (S := S1024x128) z2]
  refine Eq.trans (congrArg (k0_pay1 (F := Ideal) (iblk m c 0 t) (iblk m c 1 t)) (eta y)) ?_
  exact out m c t ((y : S1024x128.Idx) 0) ((y : S1024x128.Idx) 1) _ _ e0 e1

end Kernel

section Reference

open Cert.ReferenceIndtIdeal Cert.ReferenceIndtIdeal.Gen

theorem eta1 (y : S4096x128.Idx) : y = ix2 (y 0) (y 1) := by funext k; fin_cases k <;> rfl

theorem ref (x : FVec Ideal S4096x1024 .bf16) (w : FVec Ideal S1024x6176 .f32) :
    (pad S4096x128 ![0, 0] ![0, 96] ![0, 0] (extractStridedSlice S4096x32 ![0, 6144] (Host.dotGeneral dot_S4096x1024_S1024x6176_S4096x6176_1_0_0_1_n_n none (extf .f32 x bitsLt_bf16_f32) w) slices_S4096x6176_S4096x32_0_6144) (sitofp .f32 (constantI S_ 32 0#32)) pads_S4096x32_S4096x128_000_0960 h_S_ : FVec Ideal S4096x128 .f32)
      = fun i => val x w  (i 0) (i 1) := by
  funext y
  rw [eta1 y]
  generalize (y : S4096x128.Idx) 0 = i
  generalize (y : S4096x128.Idx) 1 = j
  pointwise
  unfold val
  split_ifs with h
  · exact Finset.sum_congr rfl fun k _ => congrArg (fun z : EReal => (x (ix2 i k) : EReal) * z) (cols_lo w k j h).symm
  · rw [zero]
    exact (Finset.sum_eq_zero fun k _ => (congrArg (fun z : EReal => (x (ix2 i k) : EReal) * z) (cols_hi w k j h)).trans (mul_zero _)).symm

end Reference

end Mlp.Indt

end
-- ==== Proof.Mlp.Out.lean ====
/- The Mamba mixer's output projection: the call and the reference as functions of the inputs. -/
module

public import proofs.«01_k».proof.Proof.Gen.KernelOutIdeal.Value
public import proofs.«01_k».proof.Proof.Gen.ReferenceOutIdeal.Run
public import proofs.«01_k».proof.Proof.Mlp.Base

@[expose] public section

set_option maxRecDepth 16384

noncomputable section

namespace Mlp.Out

open Idealize.ShloMosaic Idealize.ShloMosaic.TcCoe Idealize.SL.Sem

section Kernel

open Cert.KernelOutIdeal Cert.KernelOutIdeal.Gen

theorem eta (y : S1024x512.Idx) : y = ix2 (y 0) (y 1) := by funext k; fin_cases k <;> rfl

/-- The block of each window at a point. -/
theorem idx : ∀ t : Fin cfg0.N, win0_0.index t = ![t.val / 2, 0] ∧ win0_1.index t = ![0, 0, 0, t.val % 2] ∧ win0_2.index t = ![t.val / 2, t.val % 2] ∧ win0_3.index t = ![t.val / 2, t.val % 2] :=
  (by decide +kernel : ∀ t : Fin grid0.N, _)

variable (m : (ℓ : Loc nD τ sig) → Buf (Elt Ideal) ℓ) (c : Dev nD)

theorem in0 (t : Fin cfg0.N) (i : Fin 1024) (k : Fin 2048) (r : Fin 4096) (hr : r.val = t.val / 2 * 1024 + i) :
    (iblk m c 0 t : FVec Ideal S1024x2048 .bf16) (ix2 i k) = (m ((c : Thread nD τ).loc main_arg0) : FVec Ideal S4096x2048 .bf16) (ix2 r k) := by
  blk_simp [iblk]
  entry_read
  refine congrArg (m _) (funext fun a => Fin.ext ?_)
  fin_cases a <;> blk_simp [idx t] <;> simp [hr]

theorem in1 (t : Fin cfg0.N) (d : Fin 8) (k : Fin 256) (j : Fin 512) (p : Fin 2048) (hp : p.val = d * 256 + k.val) (q : Fin 1024) (hq : q.val = t.val % 2 * 512 + j) :
    (iblk m c 1 t : FVec Ideal S8x1x256x512 .bf16) (ix4 d 0 k j) = (m ((c : Thread nD τ).loc main_arg1) : FVec Ideal S2048x1024 .f32) (ix2 p q) := by
  blk_simp [iblk]
  entry_read
  pointwise
  refine congrArg (m _) (congrArg₂ ix2 (Fin.ext ?_) (Fin.ext ?_)) <;> blk_simp [idx t] <;> (try simp only [hp, hq]) <;> (try omega)

theorem in2 (t : Fin cfg0.N) (i : Fin 1024) (j : Fin 512) (r : Fin 4096) (hr : r.val = t.val / 2 * 1024 + i) (q : Fin 1024) (hq : q.val = t.val % 2 * 512 + j) :
    (iblk m c 2 t : FVec Ideal S1024x512 .f32) (ix2 i j) = (m ((c : Thread nD τ).loc main_arg2) : FVec Ideal S4096x1024 .f32) (ix2 r q) := by
  blk_simp [iblk]
  entry_read
  refine congrArg (m _) (funext fun a => Fin.ext ?_)
  fin_cases a <;> blk_simp [idx t] <;> simp [hr, hq]

/-- The shard of a row of the weight, and its row there. -/
abbrev hi (k : Fin 2048) : Fin 8 := ⟨k.val / 256, by omega⟩
abbrev lo (k : Fin 2048) : Fin 256 := ⟨k.val % 256, by omega⟩

theorem pay (x : FVec Ideal S1024x2048 .bf16) (w : FVec Ideal S8x1x256x512 .bf16) (h : FVec Ideal S1024x512 .f32) (i : Fin 1024) (j : Fin 512) :
    (k0_pay1 (F := Ideal) x w h (ix2 i j) : EReal) = (∑ k : Fin 2048, (x (ix2 i k) : EReal) * (w (ix4 (hi k) 0 (lo k) j) : EReal)) + h (ix2 i j) := by
  pointwise [k0_pay1] <;> rfl

/-- The value the call computes. -/
def val (x : FVec Ideal S4096x2048 .bf16) (w : FVec Ideal S2048x1024 .f32) (h : FVec Ideal S4096x1024 .f32) (i : Fin 4096) (j : Fin 1024) : EReal :=
  (∑ k : Fin 2048, (x (ix2 i k) : EReal) * (w (ix2 k j) : EReal)) + h (ix2 i j)

theorem out (t : Fin cfg0.N) (i : Fin 1024) (j : Fin 512) (r : Fin 4096) (q : Fin 1024) (hr : r.val = t.val / 2 * 1024 + i) (hq : q.val = t.val % 2 * 512 + j) :
    (k0_pay1 (F := Ideal) (iblk m c 0 t) (iblk m c 1 t) (iblk m c 2 t) (ix2 i j) : EReal) = val (m ((c : Thread nD τ).loc main_arg0)) (m ((c : Thread nD τ).loc main_arg1)) (m ((c : Thread nD τ).loc main_arg2)) r q :=
  (pay _ _ _ i j).trans (congrArg₂ (fun a b : EReal => a + b) (Finset.sum_congr rfl fun k _ => congrArg₂ (fun a b : EReal => a * b) (in0 m c t i k r hr) (in1 m c t (hi k) (lo k) j k (by show k.val = k.val / 256 * 256 + k.val % 256; omega) q hq)) (in2 m c t i j r hr q hq))

theorem final3 : ((dats m 0 c).arrAt 3 cfg0.N : FVec Ideal S4096x1024 .f32)
    = fun i => (val (m ((c : Thread nD τ).loc main_arg0)) (m ((c : Thread nD τ).loc main_arg1)) (m ((c : Thread nD τ).loc main_arg2)) (i 0) (i 1) : EReal) := by
  refine (dats m 0 c).arrAt_eq_of_covers 3 _ (by decide +kernel) fun t hf y => ?_
  blk_simp
  rw [after0_3]
  have e0 : ((win0_3.blk t).view.emb y 0 : ℕ) = t.val / 2 * 1024 + (y 0 : ℕ) := by blk_simp [(idx t).2.2.2]
  have e1 : ((win0_3.blk t).view.emb y 1 : ℕ) = t.val % 2 * 512 + (y 1 : ℕ) := by blk_simp [(idx t).2.2.2]
  unfold out0_3
  rw [View.canon_unit_zero (S := S1024x512) z2, View.ld_unit_zero (S := S1024x2048) z2, View.ld_unit_zero (S := S8x1x256x512) z4, View.ld_unit_zero (S := S1024x512) z2]
  refine Eq.trans (congrArg (k0_pay1 (F := Ideal) (iblk m c 0 t) (iblk m c 1 t) (iblk m c 2 t)) (eta y)) ?_
  exact out m c t ((y : S1024x512.Idx) 0) ((y : S1024x512.Idx) 1) _ _ e0 e1

end Kernel

section Reference

open Cert.ReferenceOutIdeal Cert.ReferenceOutIdeal.Gen

theorem eta1 (y : S4096x1024.Idx) : y = ix2 (y 0) (y 1) := by funext k; fin_cases k <;> rfl

theorem ref (x : FVec Ideal S4096x2048 .bf16) (w : FVec Ideal S2048x1024 .f32) (h : FVec Ideal S4096x1024 .f32) :
    (addf h (Host.dotGeneral dot_S4096x2048_S2048x1024_S4096x1024_1_0_0_1_n_n none (extf .f32 x bitsLt_bf16_f32) (w)) : FVec Ideal S4096x1024 .f32)
      = fun i => val x w h (i 0) (i 1) := by
  funext y
  rw [eta1 y]
  generalize (y : S4096x1024.Idx) 0 = i
  generalize (y : S4096x1024.Idx) 1 = j
  pointwise
  exact add_comm (G := EReal) _ _

end Reference

end Mlp.Out

end
-- ==== Proof.Mlp.Dyn.lean ====
/- The gradient of the input of the Mamba mixer's output projection: the call and the reference as functions of the inputs. -/
module

public import proofs.«01_k».proof.Proof.Gen.KernelDynIdeal.Value
public import proofs.«01_k».proof.Proof.Gen.ReferenceDynIdeal.Run
public import proofs.«01_k».proof.Proof.Mlp.Base

@[expose] public section

set_option maxRecDepth 16384

noncomputable section

namespace Mlp.Dyn

open Idealize.ShloMosaic Idealize.ShloMosaic.TcCoe Idealize.SL.Sem

section Kernel

open Cert.KernelDynIdeal Cert.KernelDynIdeal.Gen

theorem eta (y : S1024x512.Idx) : y = ix2 (y 0) (y 1) := by funext k; fin_cases k <;> rfl

/-- The block of each window at a point. -/
theorem idx : ∀ t : Fin cfg0.N, win0_0.index t = ![t.val / 4, 0] ∧ win0_1.index t = ![t.val % 4, 0, 0, 0] ∧ win0_2.index t = ![t.val / 4, t.val % 4] :=
  (by decide +kernel : ∀ t : Fin grid0.N, _)

variable (m : (ℓ : Loc nD τ sig) → Buf (Elt Ideal) ℓ) (c : Dev nD)

theorem in0 (t : Fin cfg0.N) (i : Fin 1024) (k : Fin 1024) (r : Fin 4096) (hr : r.val = t.val / 4 * 1024 + i) :
    (iblk m c 0 t : FVec Ideal S1024x1024 .bf16) (ix2 i k) = (m ((c : Thread nD τ).loc main_arg0) : FVec Ideal S4096x1024 .bf16) (ix2 r k) := by
  blk_simp [iblk]
  entry_read
  refine congrArg (m _) (funext fun a => Fin.ext ?_)
  fin_cases a <;> blk_simp [idx t] <;> simp [hr]

theorem in1 (t : Fin cfg0.N) (d : Fin 2) (j : Fin 256) (k : Fin 1024) (q : Fin 2048) (hq : q.val = t.val % 4 * 512 + (d * 256 + j.val)) :
    (iblk m c 1 t : FVec Ideal S2x1x256x1024 .bf16) (ix4 d 0 j k) = (m ((c : Thread nD τ).loc main_arg1) : FVec Ideal S2048x1024 .f32) (ix2 q k) := by
  blk_simp [iblk]
  entry_read
  pointwise
  refine congrArg (m _) (congrArg₂ ix2 (Fin.ext ?_) (Fin.ext ?_)) <;> blk_simp [idx t] <;> (try simp only [hq]) <;> (try omega)

/-- The shard of a row of the block, and its row there. -/
abbrev hi (j : Fin 512) : Fin 2 := ⟨j.val / 256, by omega⟩
abbrev lo (j : Fin 512) : Fin 256 := ⟨j.val % 256, by omega⟩

theorem pay (x : FVec Ideal S1024x1024 .bf16) (w : FVec Ideal S2x1x256x1024 .bf16) (i : Fin 1024) (j : Fin 512) :
    (k0_pay1 (F := Ideal) x w  (ix2 i j) : EReal) = (∑ k : Fin 1024, (x (ix2 i k) : EReal) * (w (ix4 (hi j) 0 (lo j) k) : EReal)) := by
  pointwise [k0_pay1] <;> rfl

/-- The value the call computes. -/
def val (x : FVec Ideal S4096x1024 .bf16) (w : FVec Ideal S2048x1024 .f32) (i : Fin 4096) (j : Fin 2048) : EReal :=
  (∑ k : Fin 1024, (x (ix2 i k) : EReal) * (w (ix2 j k) : EReal))

theorem out (t : Fin cfg0.N) (i : Fin 1024) (j : Fin 512) (r : Fin 4096) (q : Fin 2048) (hr : r.val = t.val / 4 * 1024 + i) (hq : q.val = t.val % 4 * 512 + j) :
    (k0_pay1 (F := Ideal) (iblk m c 0 t) (iblk m c 1 t) (ix2 i j) : EReal) = val (m ((c : Thread nD τ).loc main_arg0)) (m ((c : Thread nD τ).loc main_arg1)) r q :=
  (pay _ _ i j).trans (Finset.sum_congr rfl fun k _ => congrArg₂ (fun a b : EReal => a * b) (in0 m c t i k r hr) (in1 m c t (hi j) (lo j) k q (by show q.val = t.val % 4 * 512 + (j.val / 256 * 256 + j.val % 256); omega)))

theorem final2 : ((dats m 0 c).arrAt 2 cfg0.N : FVec Ideal S4096x2048 .f32)
    = fun i => (val (m ((c : Thread nD τ).loc main_arg0)) (m ((c : Thread nD τ).loc main_arg1)) (i 0) (i 1) : EReal) := by
  refine (dats m 0 c).arrAt_eq_of_covers 2 _ (by decide +kernel) fun t hf y => ?_
  blk_simp
  rw [after0_2]
  have e0 : ((win0_2.blk t).view.emb y 0 : ℕ) = t.val / 4 * 1024 + (y 0 : ℕ) := by blk_simp [(idx t).2.2]
  have e1 : ((win0_2.blk t).view.emb y 1 : ℕ) = t.val % 4 * 512 + (y 1 : ℕ) := by blk_simp [(idx t).2.2]
  unfold out0_2
  rw [View.canon_unit_zero (S := S1024x512) z2, View.ld_unit_zero (S := S1024x1024) z2, View.ld_unit_zero (S := S2x1x256x1024) z4]
  refine Eq.trans (congrArg (k0_pay1 (F := Ideal) (iblk m c 0 t) (iblk m c 1 t)) (eta y)) ?_
  exact out m c t ((y : S1024x512.Idx) 0) ((y : S1024x512.Idx) 1) _ _ e0 e1

end Kernel

section Reference

open Cert.ReferenceDynIdeal Cert.ReferenceDynIdeal.Gen

theorem eta1 (y : S4096x2048.Idx) : y = ix2 (y 0) (y 1) := by funext k; fin_cases k <;> rfl

theorem ref (x : FVec Ideal S4096x1024 .bf16) (w : FVec Ideal S2048x1024 .f32) :
    (Host.dotGeneral dot_S4096x1024_S2048x1024_S4096x2048_1_1_0_0_n_n none (extf .f32 x bitsLt_bf16_f32) (w) : FVec Ideal S4096x2048 .f32)
      = fun i => val x w  (i 0) (i 1) := by
  funext y
  rw [eta1 y]
  generalize (y : S4096x2048.Idx) 0 = i
  generalize (y : S4096x2048.Idx) 1 = j
  pointwise <;> rfl

end Reference

end Mlp.Dyn

end
-- ==== Proof.Mlp.Dwout.lean ====
/- The gradient of the Mamba mixer's output weight: the call and the reference as functions of the inputs. -/
module

public import proofs.«01_k».proof.Proof.Gen.KernelDwoutIdeal.Value
public import proofs.«01_k».proof.Proof.Gen.ReferenceDwoutIdeal.Run
public import proofs.«01_k».proof.Proof.Mlp.Base

@[expose] public section

set_option maxRecDepth 16384

noncomputable section

namespace Mlp.Dwout

open Idealize.ShloMosaic Idealize.ShloMosaic.TcCoe Idealize.SL.Sem

section Kernel

open Cert.KernelDwoutIdeal Cert.KernelDwoutIdeal.Gen

theorem eta (y : S4x256x512.Idx) : y = ix3 (y 0) (y 1) (y 2) := by funext k; fin_cases k <;> rfl

/-- The block of each window at a point. -/
theorem idx : ∀ t : Fin cfg0.N, win0_0.index t = ![0, t.val / 2] ∧ win0_1.index t = ![0, t.val % 2] ∧ win0_2.index t = ![t.val / 2, 0, t.val % 2] :=
  (by decide +kernel : ∀ t : Fin grid0.N, _)

variable (m : (ℓ : Loc nD τ sig) → Buf (Elt Ideal) ℓ) (c : Dev nD)

theorem in0 (t : Fin cfg0.N) (k : Fin 4096) (i : Fin 1024) (r : Fin 2048) (hr : r.val = t.val / 2 * 1024 + i) :
    (iblk m c 0 t : FVec Ideal S4096x1024 .bf16) (ix2 k i) = (m ((c : Thread nD τ).loc main_arg0) : FVec Ideal S4096x2048 .bf16) (ix2 k r) := by
  blk_simp [iblk]
  entry_read
  refine congrArg (m _) (funext fun a => Fin.ext ?_)
  fin_cases a <;> blk_simp [idx t] <;> simp [hr]

theorem in1 (t : Fin cfg0.N) (k : Fin 4096) (j : Fin 512) (q : Fin 1024) (hq : q.val = t.val % 2 * 512 + j) :
    (iblk m c 1 t : FVec Ideal S4096x512 .bf16) (ix2 k j) = (m ((c : Thread nD τ).loc main_arg1) : FVec Ideal S4096x1024 .bf16) (ix2 k q) := by
  blk_simp [iblk]
  entry_read
  refine congrArg (m _) (funext fun a => Fin.ext ?_)
  fin_cases a <;> blk_simp [idx t] <;> simp [hq]

/-- The row of a block's shard within the block, and within the weight. -/
abbrev rowb (e : Fin 4) (i : Fin 256) : Fin 1024 := ⟨e.val * 256 + i.val, by omega⟩
abbrev row (e : Fin 8) (i : Fin 256) : Fin 2048 := ⟨e.val * 256 + i.val, by omega⟩

theorem pay (x : FVec Ideal S4096x1024 .bf16) (w : FVec Ideal S4096x512 .bf16) (e : Fin 4) (i : Fin 256) (j : Fin 512) :
    (k0_pay1 (F := Ideal) x w (ix3 e i j) : EReal) = ∑ k : Fin 4096, (x (ix2 k (rowb e i)) : EReal) * (w (ix2 k j) : EReal) := by
  pointwise [k0_pay1] <;> rfl

/-- The product the call computes. -/
def val (x : FVec Ideal S4096x2048 .bf16) (w : FVec Ideal S4096x1024 .bf16) (e : Fin 8) (i : Fin 256) (j : Fin 1024) : EReal :=
  ∑ k : Fin 4096, (x (ix2 k (row e i)) : EReal) * (w (ix2 k j) : EReal)

theorem out (t : Fin cfg0.N) (e : Fin 4) (i : Fin 256) (j : Fin 512) (E : Fin 8) (I : Fin 256) (q : Fin 1024) (hE : E.val = t.val / 2 * 4 + e) (hI : I.val = i.val) (hq : q.val = t.val % 2 * 512 + j) :
    (k0_pay1 (F := Ideal) (iblk m c 0 t) (iblk m c 1 t) (ix3 e i j) : EReal) = val (m ((c : Thread nD τ).loc main_arg0)) (m ((c : Thread nD τ).loc main_arg1)) E I q :=
  (pay _ _ e i j).trans (Finset.sum_congr rfl fun k _ => congrArg₂ (fun a b : EReal => a * b) (in0 m c t k (rowb e i) (row E I) (by show E.val * 256 + I.val = t.val / 2 * 1024 + (e.val * 256 + i.val); omega)) (in1 m c t k j q hq))

theorem final2 : ((dats m 0 c).arrAt 2 cfg0.N : FVec Ideal S8x256x1024 .bf16)
    = fun i => (val (m ((c : Thread nD τ).loc main_arg0)) (m ((c : Thread nD τ).loc main_arg1)) (i 0) (i 1) (i 2) : EReal) := by
  refine (dats m 0 c).arrAt_eq_of_covers 2 _ (by decide +kernel) fun t hf y => ?_
  blk_simp
  rw [after0_2]
  have e0 : ((win0_2.blk t).view.emb y 0 : ℕ) = t.val / 2 * 4 + (y 0 : ℕ) := by blk_simp [(idx t).2.2]
  have e1 : ((win0_2.blk t).view.emb y 1 : ℕ) = (y 1 : ℕ) := by blk_simp [(idx t).2.2]
  have e2 : ((win0_2.blk t).view.emb y 2 : ℕ) = t.val % 2 * 512 + (y 2 : ℕ) := by blk_simp [(idx t).2.2]
  unfold out0_2
  rw [View.canon_unit_zero (S := S4x256x512) z3, View.ld_unit_zero (S := S4096x1024) z2, View.ld_unit_zero (S := S4096x512) z2]
  refine Eq.trans (congrArg (k0_pay1 (F := Ideal) (iblk m c 0 t) (iblk m c 1 t)) (eta y)) ?_
  exact out m c t ((y : S4x256x512.Idx) 0) ((y : S4x256x512.Idx) 1) ((y : S4x256x512.Idx) 2) _ _ _ e0 e1 e2

end Kernel

section Reference

open Cert.ReferenceDwoutIdeal Cert.ReferenceDwoutIdeal.Gen

theorem eta1 (y : S8x256x1024.Idx) : y = ix3 (y 0) (y 1) (y 2) := by funext k; fin_cases k <;> rfl

theorem ref (x : FVec Ideal S4096x2048 .bf16) (w : FVec Ideal S4096x1024 .bf16) :
    (truncf .bf16 (shapeCast _ (transpose S2048x1024 [1, 0] (Host.dotGeneral dot_S4096x1024_S4096x2048_S1024x2048_0_0_1_1_n_n none (extf .f32 w bitsLt_bf16_f32) (extf .f32 x bitsLt_bf16_f32)) transposes_S1024x2048_S2048x1024_1_0) shapeCasts_S2048x1024_S8x256x1024) bitsLt_bf16_f32 : FVec Ideal S8x256x1024 .bf16)
      = fun i => val x w (i 0) (i 1) (i 2) := by
  funext y
  rw [eta1 y]
  generalize (y : S8x256x1024.Idx) 0 = e
  generalize (y : S8x256x1024.Idx) 1 = i
  generalize (y : S8x256x1024.Idx) 2 = j
  pointwise
  exact Finset.sum_congr rfl fun k _ => mul_comm (G := EReal) _ _

end Reference

end Mlp.Dwout

end
-- ==== Proof.Mlp.Dwinz.lean ====
/- The gradient of the Mamba mixer's input weight, gate part: the call and the reference as functions of the inputs. -/
module

public import proofs.«01_k».proof.Proof.Gen.KernelDwinzIdeal.Value
public import proofs.«01_k».proof.Proof.Gen.ReferenceDwinzIdeal.Run
public import proofs.«01_k».proof.Proof.Mlp.Base

@[expose] public section

set_option maxRecDepth 16384

noncomputable section

namespace Mlp.Dwinz

open Idealize.ShloMosaic Idealize.ShloMosaic.TcCoe Idealize.SL.Sem

section Kernel

open Cert.KernelDwinzIdeal Cert.KernelDwinzIdeal.Gen

theorem eta (y : S1024x512.Idx) : y = ix2 (y 0) (y 1) := by funext k; fin_cases k <;> rfl

/-- The block of each window at a point. -/
theorem idx : ∀ t : Fin cfg0.N, win0_0.index t = ![0, t.val / 4] ∧ win0_1.index t = ![0, t.val % 4] ∧ win0_2.index t = ![t.val / 4, t.val % 4] :=
  (by decide +kernel : ∀ t : Fin grid0.N, _)

variable (m : (ℓ : Loc nD τ sig) → Buf (Elt Ideal) ℓ) (c : Dev nD)

theorem in0 (t : Fin cfg0.N) (k : Fin 4096) (i : Fin 1024) (r : Fin 1024) (hr : r.val = t.val / 4 * 1024 + i) :
    (iblk m c 0 t : FVec Ideal S4096x1024 .bf16) (ix2 k i) = (m ((c : Thread nD τ).loc main_arg0) : FVec Ideal S4096x1024 .bf16) (ix2 k r) := by
  blk_simp [iblk]
  entry_read
  refine congrArg (m _) (funext fun a => Fin.ext ?_)
  fin_cases a <;> blk_simp [idx t] <;> simp [hr]

theorem in1 (t : Fin cfg0.N) (k : Fin 4096) (j : Fin 512) (q : Fin 2048) (hq : q.val = t.val % 4 * 512 + j) :
    (iblk m c 1 t : FVec Ideal S4096x512 .bf16) (ix2 k j) = (m ((c : Thread nD τ).loc main_arg1) : FVec Ideal S4096x2048 .bf16) (ix2 k q) := by
  blk_simp [iblk]
  entry_read
  refine congrArg (m _) (funext fun a => Fin.ext ?_)
  fin_cases a <;> blk_simp [idx t] <;> simp [hq]

theorem pay (x : FVec Ideal S4096x1024 .bf16) (w : FVec Ideal S4096x512 .bf16) (i : Fin 1024) (j : Fin 512) :
    (k0_pay1 (F := Ideal) x w (ix2 i j) : EReal) = ∑ k : Fin 4096, (x (ix2 k i) : EReal) * (w (ix2 k j) : EReal) := by
  pointwise [k0_pay1]

/-- The product the call computes. -/
def val (x : FVec Ideal S4096x1024 .bf16) (w : FVec Ideal S4096x2048 .bf16) (i : Fin 1024) (j : Fin 2048) : EReal :=
  ∑ k : Fin 4096, (x (ix2 k i) : EReal) * (w (ix2 k j) : EReal)

theorem out (t : Fin cfg0.N) (i : Fin 1024) (j : Fin 512) (r : Fin 1024) (q : Fin 2048) (hr : r.val = t.val / 4 * 1024 + i) (hq : q.val = t.val % 4 * 512 + j) :
    (k0_pay1 (F := Ideal) (iblk m c 0 t) (iblk m c 1 t) (ix2 i j) : EReal) = val (m ((c : Thread nD τ).loc main_arg0)) (m ((c : Thread nD τ).loc main_arg1)) r q :=
  (pay _ _ i j).trans (Finset.sum_congr rfl fun k _ => congrArg₂ (fun a b : EReal => a * b) (in0 m c t k i r hr) (in1 m c t k j q hq))

theorem final2 : ((dats m 0 c).arrAt 2 cfg0.N : FVec Ideal S1024x2048 .f32)
    = fun i => (val (m ((c : Thread nD τ).loc main_arg0)) (m ((c : Thread nD τ).loc main_arg1)) (i 0) (i 1) : EReal) := by
  refine (dats m 0 c).arrAt_eq_of_covers 2 _ (by decide +kernel) fun t hf y => ?_
  blk_simp
  rw [after0_2]
  have e0 : ((win0_2.blk t).view.emb y 0 : ℕ) = t.val / 4 * 1024 + (y 0 : ℕ) := by blk_simp [(idx t).2.2]
  have e1 : ((win0_2.blk t).view.emb y 1 : ℕ) = t.val % 4 * 512 + (y 1 : ℕ) := by blk_simp [(idx t).2.2]
  unfold out0_2
  rw [View.canon_unit_zero (S := S1024x512) z2, View.ld_unit_zero (S := S4096x1024) z2, View.ld_unit_zero (S := S4096x512) z2]
  refine Eq.trans (congrArg (k0_pay1 (F := Ideal) (iblk m c 0 t) (iblk m c 1 t)) (eta y)) ?_
  exact out m c t ((y : S1024x512.Idx) 0) ((y : S1024x512.Idx) 1) _ _ e0 e1

end Kernel

section Reference

open Cert.ReferenceDwinzIdeal Cert.ReferenceDwinzIdeal.Gen

theorem eta1 (y : S1024x2048.Idx) : y = ix2 (y 0) (y 1) := by funext k; fin_cases k <;> rfl

theorem ref (x : FVec Ideal S4096x1024 .bf16) (w : FVec Ideal S4096x2048 .bf16) :
    (transpose S1024x2048 [1, 0] (Host.dotGeneral dot_S4096x2048_S4096x1024_S2048x1024_0_0_1_1_n_n none (extf .f32 w bitsLt_bf16_f32) (extf .f32 x bitsLt_bf16_f32)) transposes_S2048x1024_S1024x2048_1_0 : FVec Ideal S1024x2048 .f32)
      = fun i => val x w (i 0) (i 1) := by
  funext y
  rw [eta1 y]
  generalize (y : S1024x2048.Idx) 0 = i
  generalize (y : S1024x2048.Idx) 1 = j
  pointwise
  exact Finset.sum_congr rfl fun k _ => mul_comm (G := EReal) _ _

end Reference

end Mlp.Dwinz

end
-- ==== Proof.Mlp.Dwinxbc.lean ====
/- The gradient of the Mamba mixer's input weight, convolved part: the call and the reference as functions of the inputs. -/
module

public import proofs.«01_k».proof.Proof.Gen.KernelDwinxbcIdeal.Value
public import proofs.«01_k».proof.Proof.Gen.ReferenceDwinxbcIdeal.Run
public import proofs.«01_k».proof.Proof.Mlp.Base

@[expose] public section

set_option maxRecDepth 16384

noncomputable section

namespace Mlp.Dwinxbc

open Idealize.ShloMosaic Idealize.ShloMosaic.TcCoe Idealize.SL.Sem

section Kernel

open Cert.KernelDwinxbcIdeal Cert.KernelDwinxbcIdeal.Gen

theorem eta (y : S1024x512.Idx) : y = ix2 (y 0) (y 1) := by funext k; fin_cases k <;> rfl

/-- The block of each window at a point. -/
theorem idx : ∀ t : Fin cfg0.N, win0_0.index t = ![0, t.val / 8] ∧ win0_1.index t = ![0, t.val % 8] ∧ win0_2.index t = ![t.val / 8, t.val % 8] :=
  (by decide +kernel : ∀ t : Fin grid0.N, _)

variable (m : (ℓ : Loc nD τ sig) → Buf (Elt Ideal) ℓ) (c : Dev nD)

theorem in0 (t : Fin cfg0.N) (k : Fin 4096) (i : Fin 1024) (r : Fin 1024) (hr : r.val = t.val / 8 * 1024 + i) :
    (iblk m c 0 t : FVec Ideal S4096x1024 .bf16) (ix2 k i) = (m ((c : Thread nD τ).loc main_arg0) : FVec Ideal S4096x1024 .bf16) (ix2 k r) := by
  blk_simp [iblk]
  entry_read
  refine congrArg (m _) (funext fun a => Fin.ext ?_)
  fin_cases a <;> blk_simp [idx t] <;> simp [hr]

theorem in1 (t : Fin cfg0.N) (k : Fin 4096) (j : Fin 512) (q : Fin 4096) (hq : q.val = t.val % 8 * 512 + j) :
    (iblk m c 1 t : FVec Ideal S4096x512 .bf16) (ix2 k j) = (m ((c : Thread nD τ).loc main_arg1) : FVec Ideal S4096x4096 .bf16) (ix2 k q) := by
  blk_simp [iblk]
  entry_read
  refine congrArg (m _) (funext fun a => Fin.ext ?_)
  fin_cases a <;> blk_simp [idx t] <;> simp [hq]

theorem pay (x : FVec Ideal S4096x1024 .bf16) (w : FVec Ideal S4096x512 .bf16) (i : Fin 1024) (j : Fin 512) :
    (k0_pay1 (F := Ideal) x w (ix2 i j) : EReal) = ∑ k : Fin 4096, (x (ix2 k i) : EReal) * (w (ix2 k j) : EReal) := by
  pointwise [k0_pay1]

/-- The product the call computes. -/
def val (x : FVec Ideal S4096x1024 .bf16) (w : FVec Ideal S4096x4096 .bf16) (i : Fin 1024) (j : Fin 4096) : EReal :=
  ∑ k : Fin 4096, (x (ix2 k i) : EReal) * (w (ix2 k j) : EReal)

theorem out (t : Fin cfg0.N) (i : Fin 1024) (j : Fin 512) (r : Fin 1024) (q : Fin 4096) (hr : r.val = t.val / 8 * 1024 + i) (hq : q.val = t.val % 8 * 512 + j) :
    (k0_pay1 (F := Ideal) (iblk m c 0 t) (iblk m c 1 t) (ix2 i j) : EReal) = val (m ((c : Thread nD τ).loc main_arg0)) (m ((c : Thread nD τ).loc main_arg1)) r q :=
  (pay _ _ i j).trans (Finset.sum_congr rfl fun k _ => congrArg₂ (fun a b : EReal => a * b) (in0 m c t k i r hr) (in1 m c t k j q hq))

theorem final2 : ((dats m 0 c).arrAt 2 cfg0.N : FVec Ideal S1024x4096 .f32)
    = fun i => (val (m ((c : Thread nD τ).loc main_arg0)) (m ((c : Thread nD τ).loc main_arg1)) (i 0) (i 1) : EReal) := by
  refine (dats m 0 c).arrAt_eq_of_covers 2 _ (by decide +kernel) fun t hf y => ?_
  blk_simp
  rw [after0_2]
  have e0 : ((win0_2.blk t).view.emb y 0 : ℕ) = t.val / 8 * 1024 + (y 0 : ℕ) := by blk_simp [(idx t).2.2]
  have e1 : ((win0_2.blk t).view.emb y 1 : ℕ) = t.val % 8 * 512 + (y 1 : ℕ) := by blk_simp [(idx t).2.2]
  unfold out0_2
  rw [View.canon_unit_zero (S := S1024x512) z2, View.ld_unit_zero (S := S4096x1024) z2, View.ld_unit_zero (S := S4096x512) z2]
  refine Eq.trans (congrArg (k0_pay1 (F := Ideal) (iblk m c 0 t) (iblk m c 1 t)) (eta y)) ?_
  exact out m c t ((y : S1024x512.Idx) 0) ((y : S1024x512.Idx) 1) _ _ e0 e1

end Kernel

section Reference

open Cert.ReferenceDwinxbcIdeal Cert.ReferenceDwinxbcIdeal.Gen

theorem eta1 (y : S1024x4096.Idx) : y = ix2 (y 0) (y 1) := by funext k; fin_cases k <;> rfl

theorem ref (x : FVec Ideal S4096x1024 .bf16) (w : FVec Ideal S4096x4096 .bf16) :
    (transpose S1024x4096 [1, 0] (Host.dotGeneral dot_S4096x4096_S4096x1024_S4096x1024_0_0_1_1_n_n none (extf .f32 w bitsLt_bf16_f32) (extf .f32 x bitsLt_bf16_f32)) transposes_S4096x1024_S1024x4096_1_0 : FVec Ideal S1024x4096 .f32)
      = fun i => val x w (i 0) (i 1) := by
  funext y
  rw [eta1 y]
  generalize (y : S1024x4096.Idx) 0 = i
  generalize (y : S1024x4096.Idx) 1 = j
  pointwise
  exact Finset.sum_congr rfl fun k _ => mul_comm (G := EReal) _ _

end Reference

end Mlp.Dwinxbc

end
-- ==== Proof.Mlp.Dwindt.lean ====
/- The gradient of the Mamba mixer's input weight, time step part: the call and the reference as functions of the inputs. -/
module

public import proofs.«01_k».proof.Proof.Gen.KernelDwindtIdeal.Value
public import proofs.«01_k».proof.Proof.Gen.ReferenceDwindtIdeal.Run
public import proofs.«01_k».proof.Proof.Mlp.Base

@[expose] public section

set_option maxRecDepth 16384

noncomputable section

namespace Mlp.Dwindt

open Idealize.ShloMosaic Idealize.ShloMosaic.TcCoe Idealize.SL.Sem

section Kernel

open Cert.KernelDwindtIdeal Cert.KernelDwindtIdeal.Gen

theorem eta (y : S1024x128.Idx) : y = ix2 (y 0) (y 1) := by funext k; fin_cases k <;> rfl

/-- The block of each window at a point. -/
theorem idx : ∀ t : Fin cfg0.N, win0_0.index t = ![0, t.val / 1] ∧ win0_1.index t = ![0, t.val % 1] ∧ win0_2.index t = ![t.val / 1, t.val % 1] :=
  (by decide +kernel : ∀ t : Fin grid0.N, _)

variable (m : (ℓ : Loc nD τ sig) → Buf (Elt Ideal) ℓ) (c : Dev nD)

theorem in0 (t : Fin cfg0.N) (k : Fin 4096) (i : Fin 1024) (r : Fin 1024) (hr : r.val = t.val / 1 * 1024 + i) :
    (iblk m c 0 t : FVec Ideal S4096x1024 .bf16) (ix2 k i) = (m ((c : Thread nD τ).loc main_arg0) : FVec Ideal S4096x1024 .bf16) (ix2 k r) := by
  blk_simp [iblk]
  entry_read
  refine congrArg (m _) (funext fun a => Fin.ext ?_)
  fin_cases a <;> blk_simp [idx t] <;> simp [hr]

theorem in1 (t : Fin cfg0.N) (k : Fin 4096) (j : Fin 128) (q : Fin 128) (hq : q.val = t.val % 1 * 128 + j) :
    (iblk m c 1 t : FVec Ideal S4096x128 .bf16) (ix2 k j) = (m ((c : Thread nD τ).loc main_arg1) : FVec Ideal S4096x128 .bf16) (ix2 k q) := by
  blk_simp [iblk]
  entry_read
  refine congrArg (m _) (funext fun a => Fin.ext ?_)
  fin_cases a <;> blk_simp [idx t] <;> simp [hq]

theorem pay (x : FVec Ideal S4096x1024 .bf16) (w : FVec Ideal S4096x128 .bf16) (i : Fin 1024) (j : Fin 128) :
    (k0_pay1 (F := Ideal) x w (ix2 i j) : EReal) = ∑ k : Fin 4096, (x (ix2 k i) : EReal) * (w (ix2 k j) : EReal) := by
  pointwise [k0_pay1]

/-- The product the call computes. -/
def val (x : FVec Ideal S4096x1024 .bf16) (w : FVec Ideal S4096x128 .bf16) (i : Fin 1024) (j : Fin 128) : EReal :=
  ∑ k : Fin 4096, (x (ix2 k i) : EReal) * (w (ix2 k j) : EReal)

theorem out (t : Fin cfg0.N) (i : Fin 1024) (j : Fin 128) (r : Fin 1024) (q : Fin 128) (hr : r.val = t.val / 1 * 1024 + i) (hq : q.val = t.val % 1 * 128 + j) :
    (k0_pay1 (F := Ideal) (iblk m c 0 t) (iblk m c 1 t) (ix2 i j) : EReal) = val (m ((c : Thread nD τ).loc main_arg0)) (m ((c : Thread nD τ).loc main_arg1)) r q :=
  (pay _ _ i j).trans (Finset.sum_congr rfl fun k _ => congrArg₂ (fun a b : EReal => a * b) (in0 m c t k i r hr) (in1 m c t k j q hq))

theorem final2 : ((dats m 0 c).arrAt 2 cfg0.N : FVec Ideal S1024x128 .f32)
    = fun i => (val (m ((c : Thread nD τ).loc main_arg0)) (m ((c : Thread nD τ).loc main_arg1)) (i 0) (i 1) : EReal) := by
  refine (dats m 0 c).arrAt_eq_of_covers 2 _ (by decide +kernel) fun t hf y => ?_
  blk_simp
  rw [after0_2]
  have e0 : ((win0_2.blk t).view.emb y 0 : ℕ) = t.val / 1 * 1024 + (y 0 : ℕ) := by blk_simp [(idx t).2.2]
  have e1 : ((win0_2.blk t).view.emb y 1 : ℕ) = t.val % 1 * 128 + (y 1 : ℕ) := by blk_simp [(idx t).2.2]
  unfold out0_2
  rw [View.canon_unit_zero (S := S1024x128) z2, View.ld_unit_zero (S := S4096x1024) z2, View.ld_unit_zero (S := S4096x128) z2]
  refine Eq.trans (congrArg (k0_pay1 (F := Ideal) (iblk m c 0 t) (iblk m c 1 t)) (eta y)) ?_
  exact out m c t ((y : S1024x128.Idx) 0) ((y : S1024x128.Idx) 1) _ _ e0 e1

end Kernel

section Reference

open Cert.ReferenceDwindtIdeal Cert.ReferenceDwindtIdeal.Gen

theorem eta1 (y : S1024x128.Idx) : y = ix2 (y 0) (y 1) := by funext k; fin_cases k <;> rfl

theorem ref (x : FVec Ideal S4096x1024 .bf16) (w : FVec Ideal S4096x128 .bf16) :
    (transpose S1024x128 [1, 0] (Host.dotGeneral dot_S4096x128_S4096x1024_S128x1024_0_0_1_1_n_n none (extf .f32 w bitsLt_bf16_f32) (extf .f32 x bitsLt_bf16_f32)) transposes_S128x1024_S1024x128_1_0 : FVec Ideal S1024x128 .f32)
      = fun i => val x w (i 0) (i 1) := by
  funext y
  rw [eta1 y]
  generalize (y : S1024x128.Idx) 0 = i
  generalize (y : S1024x128.Idx) 1 = j
  pointwise
  exact Finset.sum_congr rfl fun k _ => mul_comm (G := EReal) _ _

end Reference

end Mlp.Dwindt

end
-- ==== Proof.Mlp.Duz.lean ====
/- The gradient of the Mamba mixer's input, gate part: the call and the reference as functions of the inputs. -/
module

public import proofs.«01_k».proof.Proof.Gen.KernelDuzIdeal.Value
public import proofs.«01_k».proof.Proof.Gen.ReferenceDuzIdeal.Run
public import proofs.«01_k».proof.Proof.Mlp.Base

@[expose] public section

set_option maxRecDepth 16384

noncomputable section

namespace Mlp.Duz

open Idealize.ShloMosaic Idealize.ShloMosaic.TcCoe Idealize.SL.Sem

section Kernel

open Cert.KernelDuzIdeal Cert.KernelDuzIdeal.Gen

theorem eta (y : S1024x512.Idx) : y = ix2 (y 0) (y 1) := by funext k; fin_cases k <;> rfl

/-- The block of each window at a point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

variable (m : (ℓ : Loc nD τ sig) → Buf (Elt Ideal) ℓ) (c : Dev nD)

theorem in0 (t : Fin cfg0.N) (i : Fin 1024) (k : Fin 2048) (r : Fin 4096) (hr : r.val = t.val / 2 * 1024 + i) :
    (iblk m c 0 t : FVec Ideal S1024x2048 .bf16) (ix2 i k) = (m ((c : Thread nD τ).loc main_arg0) : FVec Ideal S4096x2048 .bf16) (ix2 r k) := by
  blk_simp [iblk]
  entry_read
  refine congrArg (m _) (funext fun a => Fin.ext ?_)
  fin_cases a <;> blk_simp [idx t] <;> simp [hr]

/-- Splitting the columns into shards and joining them again changes no index. -/
theorem back (i : S1024x6176.Idx) : (Shape.reshapeEquiv shapeCasts_S1024x6176_S1024x8x772) (transposes_S1024x8x772_S8x1024x772_1_0_2.src
    (transposes_S8x1024x772_S1024x8x772_1_0_2.src ((Shape.reshapeEquiv shapeCasts_S1024x8x772_S1024x6176) i))) = i := by
  have e (z : S1024x8x772.Idx) : transposes_S1024x8x772_S8x1024x772_1_0_2.src (transposes_S8x1024x772_S1024x8x772_1_0_2.src z) = z :=
    funext fun a => by fin_cases a <;> rfl
  rw [e, Shape.reshapeEquiv_reshapeEquiv, Shape.reshapeEquiv_self]

theorem in1 (t : Fin cfg0.N) (j : Fin 512) (k : Fin 2048) (q : Fin 1024) (hq : q.val = t.val % 2 * 512 + j) (p : Fin 6176) (hp : p.val = k.val) :
    (iblk m c 1 t : FVec Ideal S512x2048 .bf16) (ix2 j k) = (m ((c : Thread nD τ).loc main_arg1) : FVec Ideal S1024x6176 .f32) (ix2 q p) := by
  blk_simp [iblk]
  entry_read
  pointwise
  refine congrArg (m _) ((back _).trans (funext fun a => Fin.ext ?_))
  fin_cases a <;> blk_simp [idx t] <;> (try simp [hq, hp]) <;> (try rfl) <;> (try omega)

theorem pay (x : FVec Ideal S1024x2048 .bf16) (w : FVec Ideal S512x2048 .bf16) (i : Fin 1024) (j : Fin 512) :
    (k0_pay1 (F := Ideal) x w  (ix2 i j) : EReal) = (∑ k : Fin 2048, (x (ix2 i k) : EReal) * (w (ix2 j k) : EReal)) := by
  pointwise [k0_pay1]

/-- The value the call computes. -/
def val (x : FVec Ideal S4096x2048 .bf16) (w : FVec Ideal S1024x6176 .f32) (i : Fin 4096) (j : Fin 1024) : EReal :=
  (∑ k : Fin 2048, (x (ix2 i k) : EReal) * (w (ix2 j ⟨k.val, by omega⟩) : EReal))

theorem out (t : Fin cfg0.N) (i : Fin 1024) (j : Fin 512) (r : Fin 4096) (q : Fin 1024) (hr : r.val = t.val / 2 * 1024 + i) (hq : q.val = t.val % 2 * 512 + j) :
    (k0_pay1 (F := Ideal) (iblk m c 0 t) (iblk m c 1 t) (ix2 i j) : EReal) = val (m ((c : Thread nD τ).loc main_arg0)) (m ((c : Thread nD τ).loc main_arg1)) r q :=
  (pay _ _ i j).trans (Finset.sum_congr rfl fun k _ => congrArg₂ (fun a b : EReal => a * b) (in0 m c t i k r hr) (in1 m c t j k q hq ⟨k.val, by omega⟩ rfl))

theorem final2 : ((dats m 0 c).arrAt 2 cfg0.N : FVec Ideal S4096x1024 .f32)
    = fun i => (val (m ((c : Thread nD τ).loc main_arg0)) (m ((c : Thread nD τ).loc main_arg1)) (i 0) (i 1) : EReal) := by
  refine (dats m 0 c).arrAt_eq_of_covers 2 _ (by decide +kernel) fun t hf y => ?_
  blk_simp
  rw [after0_2]
  have e0 : ((win0_2.blk t).view.emb y 0 : ℕ) = t.val / 2 * 1024 + (y 0 : ℕ) := by blk_simp [(idx t).2.2]
  have e1 : ((win0_2.blk t).view.emb y 1 : ℕ) = t.val % 2 * 512 + (y 1 : ℕ) := by blk_simp [(idx t).2.2]
  unfold out0_2
  rw [View.canon_unit_zero (S := S1024x512) z2, View.ld_unit_zero (S := S1024x2048) z2, View.ld_unit_zero (S := S512x2048) z2]
  refine Eq.trans (congrArg (k0_pay1 (F := Ideal) (iblk m c 0 t) (iblk m c 1 t)) (eta y)) ?_
  exact out m c t ((y : S1024x512.Idx) 0) ((y : S1024x512.Idx) 1) _ _ e0 e1

end Kernel

section Reference

open Cert.ReferenceDuzIdeal Cert.ReferenceDuzIdeal.Gen

theorem eta1 (y : S4096x1024.Idx) : y = ix2 (y 0) (y 1) := by funext k; fin_cases k <;> rfl

theorem ref (x : FVec Ideal S4096x2048 .bf16) (w : FVec Ideal S1024x6176 .f32) :
    (Host.dotGeneral dot_S4096x2048_S1024x2048_S4096x1024_1_1_0_0_n_n none (extf .f32 x bitsLt_bf16_f32) (extractStridedSlice S1024x2048 ![0, 0] w slices_S1024x6176_S1024x2048_0_0) : FVec Ideal S4096x1024 .f32)
      = fun i => val x w  (i 0) (i 1) := by
  funext y
  rw [eta1 y]
  generalize (y : S4096x1024.Idx) 0 = i
  generalize (y : S4096x1024.Idx) 1 = j
  pointwise <;> rfl

end Reference

end Mlp.Duz

end
-- ==== Proof.Mlp.Duxbc.lean ====
/- The gradient of the Mamba mixer's input, convolved part added: the call and the reference as functions of the inputs. -/
module

public import proofs.«01_k».proof.Proof.Gen.KernelDuxbcIdeal.Value
public import proofs.«01_k».proof.Proof.Gen.ReferenceDuxbcIdeal.Run
public import proofs.«01_k».proof.Proof.Mlp.Base

@[expose] public section

set_option maxRecDepth 16384

noncomputable section

namespace Mlp.Duxbc

open Idealize.ShloMosaic Idealize.ShloMosaic.TcCoe Idealize.SL.Sem

section Kernel

open Cert.KernelDuxbcIdeal Cert.KernelDuxbcIdeal.Gen

theorem eta (y : S1024x512.Idx) : y = ix2 (y 0) (y 1) := by funext k; fin_cases k <;> rfl

/-- The block of each window at a point. -/
theorem idx : ∀ t : Fin cfg0.N, win0_0.index t = ![t.val / 2, 0] ∧ win0_1.index t = ![t.val % 2, 0] ∧ win0_2.index t = ![t.val / 2, t.val % 2] ∧ win0_3.index t = ![t.val / 2, t.val % 2] :=
  (by decide +kernel : ∀ t : Fin grid0.N, _)

variable (m : (ℓ : Loc nD τ sig) → Buf (Elt Ideal) ℓ) (c : Dev nD)

theorem in0 (t : Fin cfg0.N) (i : Fin 1024) (k : Fin 4096) (r : Fin 4096) (hr : r.val = t.val / 2 * 1024 + i) :
    (iblk m c 0 t : FVec Ideal S1024x4096 .bf16) (ix2 i k) = (m ((c : Thread nD τ).loc main_arg0) : FVec Ideal S4096x4096 .bf16) (ix2 r k) := by
  blk_simp [iblk]
  entry_read
  refine congrArg (m _) (funext fun a => Fin.ext ?_)
  fin_cases a <;> blk_simp [idx t] <;> simp [hr]

/-- Splitting the columns into shards and joining them again changes no index. -/
theorem back (i : S1024x6176.Idx) : (Shape.reshapeEquiv shapeCasts_S1024x6176_S1024x8x772) (transposes_S1024x8x772_S8x1024x772_1_0_2.src
    (transposes_S8x1024x772_S1024x8x772_1_0_2.src ((Shape.reshapeEquiv shapeCasts_S1024x8x772_S1024x6176) i))) = i := by
  have e (z : S1024x8x772.Idx) : transposes_S1024x8x772_S8x1024x772_1_0_2.src (transposes_S8x1024x772_S1024x8x772_1_0_2.src z) = z :=
    funext fun a => by fin_cases a <;> rfl
  rw [e, Shape.reshapeEquiv_reshapeEquiv, Shape.reshapeEquiv_self]

theorem in1 (t : Fin cfg0.N) (j : Fin 512) (k : Fin 4096) (q : Fin 1024) (hq : q.val = t.val % 2 * 512 + j) (p : Fin 6176) (hp : p.val = 2048 + k.val) :
    (iblk m c 1 t : FVec Ideal S512x4096 .bf16) (ix2 j k) = (m ((c : Thread nD τ).loc main_arg1) : FVec Ideal S1024x6176 .f32) (ix2 q p) := by
  blk_simp [iblk]
  entry_read
  pointwise
  refine congrArg (m _) ((back _).trans (funext fun a => Fin.ext ?_))
  fin_cases a <;> blk_simp [idx t] <;> (try simp [hq, hp]) <;> (try rfl) <;> (try omega)

theorem in2 (t : Fin cfg0.N) (i : Fin 1024) (j : Fin 512) (r : Fin 4096) (hr : r.val = t.val / 2 * 1024 + i) (q : Fin 1024) (hq : q.val = t.val % 2 * 512 + j) :
    (iblk m c 2 t : FVec Ideal S1024x512 .f32) (ix2 i j) = (m ((c : Thread nD τ).loc main_arg2) : FVec Ideal S4096x1024 .f32) (ix2 r q) := by
  blk_simp [iblk]
  entry_read
  refine congrArg (m _) (funext fun a => Fin.ext ?_)
  fin_cases a <;> blk_simp [idx t] <;> simp [hr, hq]

theorem pay (x : FVec Ideal S1024x4096 .bf16) (w : FVec Ideal S512x4096 .bf16) (h : FVec Ideal S1024x512 .f32) (i : Fin 1024) (j : Fin 512) :
    (k0_pay1 (F := Ideal) x w h (ix2 i j) : EReal) = (∑ k : Fin 4096, (x (ix2 i k) : EReal) * (w (ix2 j k) : EReal)) + h (ix2 i j) := by
  pointwise [k0_pay1]

/-- The value the call computes. -/
def val (x : FVec Ideal S4096x4096 .bf16) (w : FVec Ideal S1024x6176 .f32) (h : FVec Ideal S4096x1024 .f32) (i : Fin 4096) (j : Fin 1024) : EReal :=
  (∑ k : Fin 4096, (x (ix2 i k) : EReal) * (w (ix2 j ⟨2048 + k.val, by omega⟩) : EReal)) + h (ix2 i j)

theorem out (t : Fin cfg0.N) (i : Fin 1024) (j : Fin 512) (r : Fin 4096) (q : Fin 1024) (hr : r.val = t.val / 2 * 1024 + i) (hq : q.val = t.val % 2 * 512 + j) :
    (k0_pay1 (F := Ideal) (iblk m c 0 t) (iblk m c 1 t) (iblk m c 2 t) (ix2 i j) : EReal) = val (m ((c : Thread nD τ).loc main_arg0)) (m ((c : Thread nD τ).loc main_arg1)) (m ((c : Thread nD τ).loc main_arg2)) r q :=
  (pay _ _ _ i j).trans (congrArg₂ (fun a b : EReal => a + b) (Finset.sum_congr rfl fun k _ => congrArg₂ (fun a b : EReal => a * b) (in0 m c t i k r hr) (in1 m c t j k q hq ⟨2048 + k.val, by omega⟩ rfl)) (in2 m c t i j r hr q hq))

theorem final3 : ((dats m 0 c).arrAt 3 cfg0.N : FVec Ideal S4096x1024 .f32)
    = fun i => (val (m ((c : Thread nD τ).loc main_arg0)) (m ((c : Thread nD τ).loc main_arg1)) (m ((c : Thread nD τ).loc main_arg2)) (i 0) (i 1) : EReal) := by
  refine (dats m 0 c).arrAt_eq_of_covers 3 _ (by decide +kernel) fun t hf y => ?_
  blk_simp
  rw [after0_3]
  have e0 : ((win0_3.blk t).view.emb y 0 : ℕ) = t.val / 2 * 1024 + (y 0 : ℕ) := by blk_simp [(idx t).2.2.2]
  have e1 : ((win0_3.blk t).view.emb y 1 : ℕ) = t.val % 2 * 512 + (y 1 : ℕ) := by blk_simp [(idx t).2.2.2]
  unfold out0_3
  rw [View.canon_unit_zero (S := S1024x512) z2, View.ld_unit_zero (S := S1024x4096) z2, View.ld_unit_zero (S := S512x4096) z2, View.ld_unit_zero (S := S1024x512) z2]
  refine Eq.trans (congrArg (k0_pay1 (F := Ideal) (iblk m c 0 t) (iblk m c 1 t) (iblk m c 2 t)) (eta y)) ?_
  exact out m c t ((y : S1024x512.Idx) 0) ((y : S1024x512.Idx) 1) _ _ e0 e1

end Kernel

section Reference

open Cert.ReferenceDuxbcIdeal Cert.ReferenceDuxbcIdeal.Gen

theorem eta1 (y : S4096x1024.Idx) : y = ix2 (y 0) (y 1) := by funext k; fin_cases k <;> rfl

theorem ref (x : FVec Ideal S4096x4096 .bf16) (w : FVec Ideal S1024x6176 .f32) (h : FVec Ideal S4096x1024 .f32) :
    (addf h (Host.dotGeneral dot_S4096x4096_S1024x4096_S4096x1024_1_1_0_0_n_n none (extf .f32 x bitsLt_bf16_f32) (extractStridedSlice S1024x4096 ![0, 2048] w slices_S1024x6176_S1024x4096_0_2048)) : FVec Ideal S4096x1024 .f32)
      = fun i => val x w h (i 0) (i 1) := by
  funext y
  rw [eta1 y]
  generalize (y : S4096x1024.Idx) 0 = i
  generalize (y : S4096x1024.Idx) 1 = j
  pointwise
  exact add_comm (G := EReal) _ _

end Reference

end Mlp.Duxbc

end
-- ==== Proof.Mlp.Dudt.lean ====
/- The gradient of the Mamba mixer's input, time step part added: the call and the reference as functions of the inputs. -/
module

public import proofs.«01_k».proof.Proof.Gen.KernelDudtIdeal.Value
public import proofs.«01_k».proof.Proof.Gen.ReferenceDudtIdeal.Run
public import proofs.«01_k».proof.Proof.Mlp.Base

@[expose] public section

set_option maxRecDepth 16384

noncomputable section

namespace Mlp.Dudt

open Idealize.ShloMosaic Idealize.ShloMosaic.TcCoe Idealize.SL.Sem

section Kernel

open Cert.KernelDudtIdeal Cert.KernelDudtIdeal.Gen

theorem eta (y : S1024x512.Idx) : y = ix2 (y 0) (y 1) := by funext k; fin_cases k <;> rfl

/-- The block of each window at a point. -/
theorem idx : ∀ t : Fin cfg0.N, win0_0.index t = ![t.val / 2, 0] ∧ win0_1.index t = ![t.val % 2, 0] ∧ win0_2.index t = ![t.val / 2, t.val % 2] ∧ win0_3.index t = ![t.val / 2, t.val % 2] :=
  (by decide +kernel : ∀ t : Fin grid0.N, _)

variable (m : (ℓ : Loc nD τ sig) → Buf (Elt Ideal) ℓ) (c : Dev nD)

theorem in0 (t : Fin cfg0.N) (i : Fin 1024) (k : Fin 128) (r : Fin 4096) (hr : r.val = t.val / 2 * 1024 + i) :
    (iblk m c 0 t : FVec Ideal S1024x128 .bf16) (ix2 i k) = (m ((c : Thread nD τ).loc main_arg0) : FVec Ideal S4096x128 .bf16) (ix2 r k) := by
  blk_simp [iblk]
  entry_read
  refine congrArg (m _) (funext fun a => Fin.ext ?_)
  fin_cases a <;> blk_simp [idx t] <;> simp [hr]

/-- The time step columns of the weight, followed by zeros. -/
def cols (w : FVec Ideal S1024x6176 .f32) (k : Fin 1024) (j : Fin 128) : EReal :=
  if h : j.val < 32 then (w (ix2 k ⟨6144 + j.val, by omega⟩) : EReal) else 0

theorem cols_lo (w : FVec Ideal S1024x6176 .f32) (k : Fin 1024) (j : Fin 128) (h : j.val < 32) : cols w k j = (w (ix2 k ⟨6144 + j.val, by omega⟩) : EReal) := dif_pos h

theorem cols_hi (w : FVec Ideal S1024x6176 .f32) (k : Fin 1024) (j : Fin 128) (h : ¬ j.val < 32) : cols w k j = 0 := dif_neg h

/-- The host's zero, which fills the padding. -/
theorem zero (f : FTy) : (FloatOps.sitofp (F := Ideal) f (0#32 : BitVec 32) : EReal) = 0 := by
  show ((((0#32 : BitVec 32).toInt : ℤ) : ℝ) : EReal) = 0
  simp

/-- The weight as the host hands it to the call. -/
def given (w : FVec Ideal S1024x6176 .f32) : FVec Ideal S1024x128 .bf16 :=
  pad S1024x128 ![0, 0] ![0, 96] ![0, 0] (extractStridedSlice S1024x32 ![0, 6144] (shapeCast S1024x6176 (transpose S1024x8x772 [1, 0, 2] (transpose S8x1024x772 [1, 0, 2] (shapeCast S1024x8x772 (truncf .bf16 w bitsLt_bf16_f32) shapeCasts_S1024x6176_S1024x8x772) transposes_S1024x8x772_S8x1024x772_1_0_2) transposes_S8x1024x772_S1024x8x772_1_0_2) shapeCasts_S1024x8x772_S1024x6176) slices_S1024x6176_S1024x32_0_6144) (sitofp .bf16 (constantI S_ 32 0#32)) pads_S1024x32_S1024x128_000_0960 h_S_

theorem given_at (w : FVec Ideal S1024x6176 .f32) (k : Fin 1024) (j : Fin 128) : (given w (ix2 k j) : EReal) = cols w k j := by
  pointwise [given]
  unfold cols
  split_ifs with h
  · exact congrArg (fun z => (w (ix2 k z) : EReal)) (Fin.ext (by show (6144 + j.val) / 772 * 772 + (6144 + j.val) % 772 = 6144 + j.val; omega))
  · exact zero _

theorem host : (StableHlo.after [hostOps0 (F := Ideal), hostOps0_1].flatten (fun b => m (c, b)) (Proc.tc.devRef main_v8) : FVec Ideal S1024x128 .bf16) = given (m ((c : Thread nD τ).loc main_arg1)) := by
  rfl

theorem in1 (t : Fin cfg0.N) (j : Fin 512) (k : Fin 128) (q : Fin 1024) (hq : q.val = t.val % 2 * 512 + j):
    (iblk m c 1 t : FVec Ideal S512x128 .bf16) (ix2 j k) = cols (m ((c : Thread nD τ).loc main_arg1)) q k := by
  blk_simp [iblk]
  entry_read
  refine (congrFun (host m c) _).trans ((congrArg (given _) (funext fun a => Fin.ext ?_)).trans (given_at _ q k))
  fin_cases a <;> blk_simp [idx t] <;> (try simp [hq]) <;> (try rfl) <;> (try omega)

theorem in2 (t : Fin cfg0.N) (i : Fin 1024) (j : Fin 512) (r : Fin 4096) (hr : r.val = t.val / 2 * 1024 + i) (q : Fin 1024) (hq : q.val = t.val % 2 * 512 + j) :
    (iblk m c 2 t : FVec Ideal S1024x512 .f32) (ix2 i j) = (m ((c : Thread nD τ).loc main_arg2) : FVec Ideal S4096x1024 .f32) (ix2 r q) := by
  blk_simp [iblk]
  entry_read
  refine congrArg (m _) (funext fun a => Fin.ext ?_)
  fin_cases a <;> blk_simp [idx t] <;> simp [hr, hq]

theorem pay (x : FVec Ideal S1024x128 .bf16) (w : FVec Ideal S512x128 .bf16) (h : FVec Ideal S1024x512 .f32) (i : Fin 1024) (j : Fin 512) :
    (k0_pay1 (F := Ideal) x w h (ix2 i j) : EReal) = (∑ k : Fin 128, (x (ix2 i k) : EReal) * (w (ix2 j k) : EReal)) + h (ix2 i j) := by
  pointwise [k0_pay1]

/-- The value the call computes. -/
def val (x : FVec Ideal S4096x128 .bf16) (w : FVec Ideal S1024x6176 .f32) (h : FVec Ideal S4096x1024 .f32) (i : Fin 4096) (j : Fin 1024) : EReal :=
  (∑ k : Fin 128, (x (ix2 i k) : EReal) * cols w j k) + h (ix2 i j)

theorem out (t : Fin cfg0.N) (i : Fin 1024) (j : Fin 512) (r : Fin 4096) (q : Fin 1024) (hr : r.val = t.val / 2 * 1024 + i) (hq : q.val = t.val % 2 * 512 + j) :
    (k0_pay1 (F := Ideal) (iblk m c 0 t) (iblk m c 1 t) (iblk m c 2 t) (ix2 i j) : EReal) = val (m ((c : Thread nD τ).loc main_arg0)) (m ((c : Thread nD τ).loc main_arg1)) (m ((c : Thread nD τ).loc main_arg2)) r q :=
  (pay _ _ _ i j).trans (congrArg₂ (fun a b : EReal => a + b) (Finset.sum_congr rfl fun k _ => congrArg₂ (fun a b : EReal => a * b) (in0 m c t i k r hr) (in1 m c t j k q hq)) (in2 m c t i j r hr q hq))

theorem final3 : ((dats m 0 c).arrAt 3 cfg0.N : FVec Ideal S4096x1024 .f32)
    = fun i => (val (m ((c : Thread nD τ).loc main_arg0)) (m ((c : Thread nD τ).loc main_arg1)) (m ((c : Thread nD τ).loc main_arg2)) (i 0) (i 1) : EReal) := by
  refine (dats m 0 c).arrAt_eq_of_covers 3 _ (by decide +kernel) fun t hf y => ?_
  blk_simp
  rw [after0_3]
  have e0 : ((win0_3.blk t).view.emb y 0 : ℕ) = t.val / 2 * 1024 + (y 0 : ℕ) := by blk_simp [(idx t).2.2.2]
  have e1 : ((win0_3.blk t).view.emb y 1 : ℕ) = t.val % 2 * 512 + (y 1 : ℕ) := by blk_simp [(idx t).2.2.2]
  unfold out0_3
  rw [View.canon_unit_zero (S := S1024x512) z2, View.ld_unit_zero (S := S1024x128) z2, View.ld_unit_zero (S := S512x128) z2, View.ld_unit_zero (S := S1024x512) z2]
  refine Eq.trans (congrArg (k0_pay1 (F := Ideal) (iblk m c 0 t) (iblk m c 1 t) (iblk m c 2 t)) (eta y)) ?_
  exact out m c t ((y : S1024x512.Idx) 0) ((y : S1024x512.Idx) 1) _ _ e0 e1

end Kernel

/-- A sum over 128 lanes of which all but the first 32 are zero. -/
theorem lanes (f : Fin 128 → EReal) (h : ∀ k : Fin 128, 32 ≤ k.val → f k = 0) : ∑ k, f k = ∑ k : Fin 32, f ⟨k.val, by omega⟩ := by
  refine (Fin.sum_univ_add (a := 32) (b := 96) f).trans ?_
  rw [show (∑ k : Fin 96, f (Fin.natAdd 32 k)) = 0 from Finset.sum_eq_zero fun k _ => h _ (by simp)]
  exact add_zero _

section Reference

open Cert.ReferenceDudtIdeal Cert.ReferenceDudtIdeal.Gen

theorem eta1 (y : S4096x1024.Idx) : y = ix2 (y 0) (y 1) := by funext k; fin_cases k <;> rfl

theorem ref (x : FVec Ideal S4096x128 .bf16) (w : FVec Ideal S1024x6176 .f32) (h : FVec Ideal S4096x1024 .f32) :
    (addf h (Host.dotGeneral dot_S4096x32_S1024x32_S4096x1024_1_1_0_0_n_n none (extf .f32 (extractStridedSlice S4096x32 ![0, 0] x slices_S4096x128_S4096x32_0_0) bitsLt_bf16_f32) (extractStridedSlice S1024x32 ![0, 6144] w slices_S1024x6176_S1024x32_0_6144)) : FVec Ideal S4096x1024 .f32)
      = fun i => val x w h (i 0) (i 1) := by
  funext y
  rw [eta1 y]
  generalize (y : S4096x1024.Idx) 0 = i
  generalize (y : S4096x1024.Idx) 1 = j
  pointwise
  unfold val
  rw [lanes (fun k : Fin 128 => (x (ix2 i k) : EReal) * cols w j k)]
  · refine (add_comm (G := EReal) _ _).trans (congrArg (fun z : EReal => z + _) (Finset.sum_congr rfl fun k _ => ?_))
    refine congrArg (fun z : EReal => (x (ix2 i ⟨k.val, by omega⟩) : EReal) * z) ?_
    exact (cols_lo w j ⟨k.val, by omega⟩ k.isLt).symm
  · intro k hk
    exact (congrArg (fun z : EReal => (x (ix2 i k) : EReal) * z) (cols_hi w j k (by omega))).trans (mul_zero _)

end Reference

end Mlp.Dudt

end
-- ==== Proof.Mlp.PleBwd.lean ====
/- The backward pass of the gated embedding: the call and the reference as functions of the inputs. -/
module

public import proofs.«01_k».proof.Proof.Gen.KernelPleBwdIdeal.Value
public import proofs.«01_k».proof.Proof.Gen.ReferencePleBwdIdeal.Run
public import proofs.«01_k».proof.Proof.Mlp.Base

@[expose] public section

set_option maxRecDepth 16384

noncomputable section

namespace Mlp.PleBwd

open Idealize.ShloMosaic Idealize.ShloMosaic.TcCoe Idealize.SL.Sem

section Kernel

open Cert.KernelPleBwdIdeal Cert.KernelPleBwdIdeal.Gen

theorem eta1024 (y : S512x1024.Idx) : y = ix2 (y 0) (y 1) := by funext k; fin_cases k <;> rfl

/-- The block of each window at a point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] :=
  (by decide +kernel : ∀ t : Fin grid0.N, _)

variable (m : (ℓ : Loc nD τ sig) → Buf (Elt Ideal) ℓ) (c : Dev nD)

theorem in0 (t : Fin cfg0.N) (i : Fin 512) (r : Fin 4096) (hr : r.val = t.val * 512 + i) (k : Fin 1024) :
    (iblk m c 0 t : FVec Ideal S512x1024 .f32) (ix2 i k) = (m ((c : Thread nD τ).loc main_arg0) : FVec Ideal S4096x1024 .f32) (ix2 r k) := by
  blk_simp [iblk]
  entry_read
  refine congrArg (m _) (funext fun a => Fin.ext ?_)
  fin_cases a <;> blk_simp [idx t] <;> simp [hr]

theorem in1 (t : Fin cfg0.N) (i : Fin 512) (r : Fin 4096) (hr : r.val = t.val * 512 + i) (k : Fin 1024) :
    (iblk m c 1 t : FVec Ideal S512x1024 .f32) (ix2 i k) = (m ((c : Thread nD τ).loc main_arg1) : FVec Ideal S4096x1024 .f32) (ix2 r k) := by
  blk_simp [iblk]
  entry_read
  refine congrArg (m _) (funext fun a => Fin.ext ?_)
  fin_cases a <;> blk_simp [idx t] <;> simp [hr]

theorem in2 (t : Fin cfg0.N) (i : Fin 512) (r : Fin 4096) (hr : r.val = t.val * 512 + i) (k : Fin 1024) :
    (iblk m c 2 t : FVec Ideal S512x1024 .bf16) (ix2 i k) = (m ((c : Thread nD τ).loc main_arg2) : FVec Ideal S4096x1024 .bf16) (ix2 r k) := by
  blk_simp [iblk]
  entry_read
  refine congrArg (m _) (funext fun a => Fin.ext ?_)
  fin_cases a <;> blk_simp [idx t] <;> simp [hr]

/-- The logistic function. -/
def logistic (x : EReal) : EReal := Ideal.div 1 (1 + Ideal.exp (-x))

/-- A row of result 0, from the rows of the inputs. -/
def f3 (a0 : Fin 1024 → EReal) (a1 : Fin 1024 → EReal) (a2 : Fin 1024 → EReal) (j : Fin 1024) : EReal := a0 j * a2 j * logistic (a1 j) * (1 - logistic (a1 j))

theorem pay_3 (a0 : FVec Ideal S512x1024 .f32) (a1 : FVec Ideal S512x1024 .f32) (a2 : FVec Ideal S512x1024 .bf16) (i : Fin 512) (j : Fin 1024) :
    (k0_pay2 (F := Ideal) a0 a1 a2 (ix2 i j) : EReal) = f3 (fun k => a0 (ix2 i k)) (fun k => a1 (ix2 i k)) (fun k => a2 (ix2 i k))  j := by
  unfold f3
  pointwise [k0_pay2, k0_pay1]
  unfold logistic; simp only [zero_sub]

/-- Result 0 at an index. -/
def val3 (x0 : FVec Ideal S4096x1024 .f32) (x1 : FVec Ideal S4096x1024 .f32) (x2 : FVec Ideal S4096x1024 .bf16) (r : Fin 4096) (j : Fin 1024) : EReal :=
  f3 (fun k : Fin 1024 => x0 (ix2 r k)) (fun k : Fin 1024 => x1 (ix2 r k)) (fun k : Fin 1024 => x2 (ix2 r k)) j

theorem out3 (t : Fin cfg0.N) (i : Fin 512) (r : Fin 4096) (hr : r.val = t.val * 512 + i) (j q : Fin 1024) (hq : q.val = j) :
    (k0_pay2 (F := Ideal) (iblk m c 0 t) (iblk m c 1 t) (iblk m c 2 t) (ix2 i j) : EReal) = val3 (m ((c : Thread nD τ).loc main_arg0)) (m ((c : Thread nD τ).loc main_arg1)) (m ((c : Thread nD τ).loc main_arg2)) r q := by
  obtain rfl := Fin.ext hq
  exact (pay_3 (iblk m c 0 t) (iblk m c 1 t) (iblk m c 2 t) i q).trans (congrFun (congr (congr (congrArg (f3) (funext fun k => in0 m c t i r hr k)) (funext fun k => in1 m c t i r hr k)) (funext fun k => in2 m c t i r hr k)) q)

theorem final3 : ((dats m 0 c).arrAt 3 cfg0.N : FVec Ideal S4096x1024 .bf16)
    = fun i => (val3 (m ((c : Thread nD τ).loc main_arg0)) (m ((c : Thread nD τ).loc main_arg1)) (m ((c : Thread nD τ).loc main_arg2)) (i 0) (i 1) : EReal) := by
  refine (dats m 0 c).arrAt_eq_of_covers 3 _ (by decide +kernel) fun t hf y => ?_
  blk_simp
  rw [after0_3]
  have e0 : ((win0_3.blk t).view.emb y 0 : ℕ) = t.val * 512 + (y 0 : ℕ) := by blk_simp [(idx t).2.2.2.1]
  have e1 : ((win0_3.blk t).view.emb y 1 : ℕ) = (y 1 : ℕ) := by blk_simp [(idx t).2.2.2.1]
  unfold out0_3
  rw [View.canon_unit_zero (S := S512x1024) z2, View.ld_unit_zero (S := S512x1024) z2, View.ld_unit_zero (S := S512x1024) z2, View.ld_unit_zero (S := S512x1024) z2]
  refine Eq.trans (congrArg (k0_pay2 (F := Ideal) (iblk m c 0 t) (iblk m c 1 t) (iblk m c 2 t)) (eta1024 y)) ?_
  exact out3 m c t ((y : S512x1024.Idx) 0) _ e0 ((y : S512x1024.Idx) 1) _ e1

/-- A row of result 1, from the rows of the inputs. -/
def f4 (a0 : Fin 1024 → EReal) (a1 : Fin 1024 → EReal) (a2 : Fin 1024 → EReal) (j : Fin 1024) : EReal := a0 j * logistic (a1 j)

theorem pay_4 (a0 : FVec Ideal S512x1024 .f32) (a1 : FVec Ideal S512x1024 .f32) (a2 : FVec Ideal S512x1024 .bf16) (i : Fin 512) (j : Fin 1024) :
    (k0_pay3 (F := Ideal) a0 a1 (ix2 i j) : EReal) = f4 (fun k => a0 (ix2 i k)) (fun k => a1 (ix2 i k)) (fun k => a2 (ix2 i k))  j := by
  unfold f4
  pointwise [k0_pay3, k0_pay1]
  unfold logistic; simp only [zero_sub]

/-- Result 1 at an index. -/
def val4 (x0 : FVec Ideal S4096x1024 .f32) (x1 : FVec Ideal S4096x1024 .f32) (x2 : FVec Ideal S4096x1024 .bf16) (r : Fin 4096) (j : Fin 1024) : EReal :=
  f4 (fun k : Fin 1024 => x0 (ix2 r k)) (fun k : Fin 1024 => x1 (ix2 r k)) (fun k : Fin 1024 => x2 (ix2 r k)) j

theorem out4 (t : Fin cfg0.N) (i : Fin 512) (r : Fin 4096) (hr : r.val = t.val * 512 + i) (j q : Fin 1024) (hq : q.val = j) :
    (k0_pay3 (F := Ideal) (iblk m c 0 t) (iblk m c 1 t) (ix2 i j) : EReal) = val4 (m ((c : Thread nD τ).loc main_arg0)) (m ((c : Thread nD τ).loc main_arg1)) (m ((c : Thread nD τ).loc main_arg2)) r q := by
  obtain rfl := Fin.ext hq
  exact (pay_4 (iblk m c 0 t) (iblk m c 1 t) (iblk m c 2 t) i q).trans (congrFun (congr (congr (congrArg (f4) (funext fun k => in0 m c t i r hr k)) (funext fun k => in1 m c t i r hr k)) (funext fun k => in2 m c t i r hr k)) q)

theorem final4 : ((dats m 0 c).arrAt 4 cfg0.N : FVec Ideal S4096x1024 .bf16)
    = fun i => (val4 (m ((c : Thread nD τ).loc main_arg0)) (m ((c : Thread nD τ).loc main_arg1)) (m ((c : Thread nD τ).loc main_arg2)) (i 0) (i 1) : EReal) := by
  refine (dats m 0 c).arrAt_eq_of_covers 4 _ (by decide +kernel) fun t hf y => ?_
  blk_simp
  rw [after0_4]
  have e0 : ((win0_4.blk t).view.emb y 0 : ℕ) = t.val * 512 + (y 0 : ℕ) := by blk_simp [(idx t).2.2.2.2]
  have e1 : ((win0_4.blk t).view.emb y 1 : ℕ) = (y 1 : ℕ) := by blk_simp [(idx t).2.2.2.2]
  unfold out0_4
  rw [View.canon_unit_zero (S := S512x1024) z2, View.ld_unit_zero (S := S512x1024) z2, View.ld_unit_zero (S := S512x1024) z2]
  refine Eq.trans (congrArg (k0_pay3 (F := Ideal) (iblk m c 0 t) (iblk m c 1 t)) (eta1024 y)) ?_
  exact out4 m c t ((y : S512x1024.Idx) 0) _ e0 ((y : S512x1024.Idx) 1) _ e1

end Kernel

section Reference

open Cert.ReferencePleBwdIdeal Cert.ReferencePleBwdIdeal.Gen

theorem etar1024 (y : S4096x1024.Idx) : y = ix2 (y 0) (y 1) := by funext k; fin_cases k <;> rfl

theorem ref3 (x0 : FVec Ideal S4096x1024 .f32) (x1 : FVec Ideal S4096x1024 .f32) (x2 : FVec Ideal S4096x1024 .bf16) :
    (truncf .bf16 (mulf (mulf x0 (extf .f32 x2 bitsLt_bf16_f32)) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf x1)))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf x1))))))) bitsLt_bf16_f32 : FVec Ideal S4096x1024 .bf16)
      = fun i => val3 x0 x1 x2 (i 0) (i 1) := by
  funext y
  rw [etar1024 y]
  generalize (y : S4096x1024.Idx) 0 = i
  generalize (y : S4096x1024.Idx) 1 = j
  unfold val3 f3
  pointwise
  unfold logistic; simp only [mul_assoc (G := EReal)]

theorem ref4 (x0 : FVec Ideal S4096x1024 .f32) (x1 : FVec Ideal S4096x1024 .f32) (x2 : FVec Ideal S4096x1024 .bf16) :
    (truncf .bf16 (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf x1)))) x0) bitsLt_bf16_f32 : FVec Ideal S4096x1024 .bf16)
      = fun i => val4 x0 x1 x2 (i 0) (i 1) := by
  funext y
  rw [etar1024 y]
  generalize (y : S4096x1024.Idx) 0 = i
  generalize (y : S4096x1024.Idx) 1 = j
  unfold val4 f4
  pointwise
  unfold logistic; exact mul_comm (G := EReal) _ _

end Reference

end Mlp.PleBwd

end
-- ==== Proof.Mlp.GluBwd.lean ====
/- The backward pass of the gated linear unit: the call and the reference as functions of the inputs. -/
module

public import proofs.«01_k».proof.Proof.Gen.KernelGluBwdIdeal.Value
public import proofs.«01_k».proof.Proof.Gen.ReferenceGluBwdIdeal.Run
public import proofs.«01_k».proof.Proof.Mlp.Base

@[expose] public section

set_option maxRecDepth 16384

noncomputable section

namespace Mlp.GluBwd

open Idealize.ShloMosaic Idealize.ShloMosaic.TcCoe Idealize.SL.Sem

section Kernel

open Cert.KernelGluBwdIdeal Cert.KernelGluBwdIdeal.Gen

theorem eta1024 (y : S512x1024.Idx) : y = ix2 (y 0) (y 1) := by funext k; fin_cases k <;> rfl

/-- The block of each window at a point. -/
theorem idx : ∀ t : Fin cfg0.N, win0_0.index t = ![t.val, 0] ∧ win0_1.index t = ![t.val, 0] ∧ win0_2.index t = ![t.val, 1] ∧ win0_3.index t = ![t.val, 0] ∧ win0_4.index t = ![t.val, 0] ∧ win0_5.index t = ![0, 0] ∧ win0_6.index t = ![0, 0] :=
  (by decide +kernel : ∀ t : Fin grid0.N, _)

variable (m : (ℓ : Loc nD τ sig) → Buf (Elt Ideal) ℓ) (c : Dev nD)

theorem in0 (t : Fin cfg0.N) (i : Fin 512) (r : Fin 4096) (hr : r.val = t.val * 512 + i) (k : Fin 1024) :
    (iblk m c 0 t : FVec Ideal S512x1024 .f32) (ix2 i k) = (m ((c : Thread nD τ).loc main_arg0) : FVec Ideal S4096x1024 .f32) (ix2 r k) := by
  blk_simp [iblk]
  entry_read
  refine congrArg (m _) (funext fun a => Fin.ext ?_)
  fin_cases a <;> blk_simp [idx t] <;> simp [hr]

theorem in1 (t : Fin cfg0.N) (i : Fin 512) (r : Fin 4096) (hr : r.val = t.val * 512 + i) (k : Fin 1024) :
    (iblk m c 1 t : FVec Ideal S512x1024 .f32) (ix2 i k) = (m ((c : Thread nD τ).loc main_arg1) : FVec Ideal S4096x2048 .f32) (ix2 r ⟨k.val, by omega⟩) := by
  blk_simp [iblk]
  entry_read
  refine congrArg (m _) (funext fun a => Fin.ext ?_)
  fin_cases a <;> blk_simp [idx t] <;> simp [hr]

theorem in2 (t : Fin cfg0.N) (i : Fin 512) (r : Fin 4096) (hr : r.val = t.val * 512 + i) (k : Fin 1024) :
    (iblk m c 2 t : FVec Ideal S512x1024 .f32) (ix2 i k) = (m ((c : Thread nD τ).loc main_arg1) : FVec Ideal S4096x2048 .f32) (ix2 r ⟨1024 + k.val, by omega⟩) := by
  blk_simp [iblk]
  entry_read
  refine congrArg (m _) (funext fun a => Fin.ext ?_)
  fin_cases a <;> blk_simp [idx t] <;> simp [hr]

/-- The logistic function. -/
def logistic (x : EReal) : EReal := Ideal.div 1 (1 + Ideal.exp (-x))

/-- The two orders of a product of four. -/
theorem swap (a b c d : EReal) : a * b * (c * d) = b * a * c * d := by rw [mul_comm a b, mul_assoc (b * a)]

/-- A row of result 0, from the rows of the inputs. -/
def f3 (a0 : Fin 1024 → EReal) (a1 : Fin 1024 → EReal) (a2 : Fin 1024 → EReal) (j : Fin 1024) : EReal := a0 j * logistic (a2 j)

theorem pay_3 (a0 : FVec Ideal S512x1024 .f32) (a1 : FVec Ideal S512x1024 .f32) (a2 : FVec Ideal S512x1024 .f32) (i : Fin 512) (j : Fin 1024) :
    (k0_pay6 (F := Ideal) a0 a2 (ix2 i j) : EReal) = f3 (fun k => a0 (ix2 i k)) (fun k => a1 (ix2 i k)) (fun k => a2 (ix2 i k))  j := by
  unfold f3
  pointwise [k0_pay6, k0_pay3, k0_pay2]
  unfold logistic; simp only [zero_sub] <;> rfl

/-- Result 0 at an index. -/
def val3 (x0 : FVec Ideal S4096x1024 .f32) (x1 : FVec Ideal S4096x2048 .f32) (r : Fin 4096) (j : Fin 1024) : EReal :=
  f3 (fun k : Fin 1024 => x0 (ix2 r k)) (fun k : Fin 1024 => x1 (ix2 r ⟨k.val, by omega⟩)) (fun k : Fin 1024 => x1 (ix2 r ⟨1024 + k.val, by omega⟩)) j

theorem out3 (t : Fin cfg0.N) (i : Fin 512) (r : Fin 4096) (hr : r.val = t.val * 512 + i) (j q : Fin 1024) (hq : q.val = j) :
    (k0_pay6 (F := Ideal) (iblk m c 0 t) (iblk m c 2 t) (ix2 i j) : EReal) = val3 (m ((c : Thread nD τ).loc main_arg0)) (m ((c : Thread nD τ).loc main_arg1)) r q := by
  obtain rfl := Fin.ext hq
  exact (pay_3 (iblk m c 0 t) (iblk m c 1 t) (iblk m c 2 t) i q).trans (congrFun (congr (congr (congrArg (f3) (funext fun k => in0 m c t i r hr k)) (funext fun k => in1 m c t i r hr k)) (funext fun k => in2 m c t i r hr k)) q)

/-- A row of result 1, from the rows of the inputs. -/
def f4 (a0 : Fin 1024 → EReal) (a1 : Fin 1024 → EReal) (a2 : Fin 1024 → EReal) (j : Fin 1024) : EReal := a0 j * a1 j * logistic (a2 j) * (1 - logistic (a2 j))

theorem pay_4 (a0 : FVec Ideal S512x1024 .f32) (a1 : FVec Ideal S512x1024 .f32) (a2 : FVec Ideal S512x1024 .f32) (i : Fin 512) (j : Fin 1024) :
    (k0_pay7 (F := Ideal) a0 a1 a2 (ix2 i j) : EReal) = f4 (fun k => a0 (ix2 i k)) (fun k => a1 (ix2 i k)) (fun k => a2 (ix2 i k))  j := by
  unfold f4
  pointwise [k0_pay7, k0_pay4, k0_pay2]
  unfold logistic; simp only [zero_sub] <;> rfl

/-- Result 1 at an index. -/
def val4 (x0 : FVec Ideal S4096x1024 .f32) (x1 : FVec Ideal S4096x2048 .f32) (r : Fin 4096) (j : Fin 1024) : EReal :=
  f4 (fun k : Fin 1024 => x0 (ix2 r k)) (fun k : Fin 1024 => x1 (ix2 r ⟨k.val, by omega⟩)) (fun k : Fin 1024 => x1 (ix2 r ⟨1024 + k.val, by omega⟩)) j

theorem out4 (t : Fin cfg0.N) (i : Fin 512) (r : Fin 4096) (hr : r.val = t.val * 512 + i) (j q : Fin 1024) (hq : q.val = j) :
    (k0_pay7 (F := Ideal) (iblk m c 0 t) (iblk m c 1 t) (iblk m c 2 t) (ix2 i j) : EReal) = val4 (m ((c : Thread nD τ).loc main_arg0)) (m ((c : Thread nD τ).loc main_arg1)) r q := by
  obtain rfl := Fin.ext hq
  exact (pay_4 (iblk m c 0 t) (iblk m c 1 t) (iblk m c 2 t) i q).trans (congrFun (congr (congr (congrArg (f4) (funext fun k => in0 m c t i r hr k)) (funext fun k => in1 m c t i r hr k)) (funext fun k => in2 m c t i r hr k)) q)

theorem at3_A (t : Fin cfg0.N) (h0 : t.val % 8 = 0) : (outsAt0 m c t.val t.isLt).1 = k0_pay6 (iblk m c 0 t) (iblk m c 2 t) := by
  rw [outsAt0_A m c t h0]
  dsimp only
  unfold out0_A_3
  rw [View.read_writes_eq_canon _ _ _ (fun y => by apply cover0_A_3)]
  unfold kernelRun0_A
  dsimp only
  sl_unfold_words
  rw [View.canon_unit_zero (S := S512x1024) z2]
  simp only [View.readAt_eq_ld, (hs0_0 t).read_unread, (hs0_1 t).read_unread, (hs0_2 t).read_unread, (hs0_5 t).read_unread, (hs0_6 t).read_unread, View.ld_unit_zero (S := S1x1024) z2, View.ld_unit_zero (S := S512x1024) z2, shapeCast_self]

theorem at3_B (t : Fin cfg0.N) (h0 : ¬ t.val % 8 = 0) : (outsAt0 m c t.val t.isLt).1 = k0_pay6 (iblk m c 0 t) (iblk m c 2 t) := by
  rw [outsAt0_B m c t h0]
  dsimp only
  unfold out0_B_3
  rw [View.read_writes_eq_canon _ _ _ (fun y => by apply cover0_B_3)]
  unfold kernelRun0_B
  dsimp only
  sl_unfold_words
  rw [View.canon_unit_zero (S := S512x1024) z2]
  simp only [View.readAt_eq_ld, (hs0_0 t).read_unread, (hs0_1 t).read_unread, (hs0_2 t).read_unread, (hs0_5 t).read_unread, (hs0_6 t).read_unread, View.ld_unit_zero (S := S1x1024) z2, View.ld_unit_zero (S := S512x1024) z2, shapeCast_self]

theorem at3 (t : Fin cfg0.N) : (outsAt0 m c t.val t.isLt).1 = k0_pay6 (iblk m c 0 t) (iblk m c 2 t) := by
  by_cases h0 : t.val % 8 = 0
  · exact at3_A m c t h0
  · exact at3_B m c t h0

theorem final3 : ((dats m 0 c).arrAt 3 cfg0.N : FVec Ideal S4096x1024 .bf16)
    = fun i => (val3 (m ((c : Thread nD τ).loc main_arg0)) (m ((c : Thread nD τ).loc main_arg1)) (i 0) (i 1) : EReal) := by
  refine (dats m 0 c).arrAt_eq_of_covers 3 _ (by decide +kernel) fun t hf y => ?_
  blk_simp
  rw [after0_3]
  have e0 : ((win0_3.blk t).view.emb y 0 : ℕ) = t.val * 512 + (y 0 : ℕ) := by blk_simp [(idx t).2.2.2.1]
  have e1 : ((win0_3.blk t).view.emb y 1 : ℕ) = (y 1 : ℕ) := by blk_simp [(idx t).2.2.2.1]
  rw [at3 m c t]
  refine Eq.trans (congrArg (k0_pay6 (F := Ideal) (iblk m c 0 t) (iblk m c 2 t)) (eta1024 y)) ?_
  exact out3 m c t ((y : S512x1024.Idx) 0) _ e0 ((y : S512x1024.Idx) 1) _ e1

theorem at4_A (t : Fin cfg0.N) (h0 : t.val % 8 = 0) : (outsAt0 m c t.val t.isLt).2.1 = k0_pay7 (iblk m c 0 t) (iblk m c 1 t) (iblk m c 2 t) := by
  rw [outsAt0_A m c t h0]
  dsimp only
  unfold out0_A_4
  rw [View.read_writes_eq_canon _ _ _ (fun y => by apply cover0_A_4)]
  unfold kernelRun0_A
  dsimp only
  sl_unfold_words
  rw [View.canon_unit_zero (S := S512x1024) z2]
  simp only [View.readAt_eq_ld, (hs0_0 t).read_unread, (hs0_1 t).read_unread, (hs0_2 t).read_unread, (hs0_5 t).read_unread, (hs0_6 t).read_unread, View.ld_unit_zero (S := S1x1024) z2, View.ld_unit_zero (S := S512x1024) z2, shapeCast_self]

theorem at4_B (t : Fin cfg0.N) (h0 : ¬ t.val % 8 = 0) : (outsAt0 m c t.val t.isLt).2.1 = k0_pay7 (iblk m c 0 t) (iblk m c 1 t) (iblk m c 2 t) := by
  rw [outsAt0_B m c t h0]
  dsimp only
  unfold out0_B_4
  rw [View.read_writes_eq_canon _ _ _ (fun y => by apply cover0_B_4)]
  unfold kernelRun0_B
  dsimp only
  sl_unfold_words
  rw [View.canon_unit_zero (S := S512x1024) z2]
  simp only [View.readAt_eq_ld, (hs0_0 t).read_unread, (hs0_1 t).read_unread, (hs0_2 t).read_unread, (hs0_5 t).read_unread, (hs0_6 t).read_unread, View.ld_unit_zero (S := S1x1024) z2, View.ld_unit_zero (S := S512x1024) z2, shapeCast_self]

theorem at4 (t : Fin cfg0.N) : (outsAt0 m c t.val t.isLt).2.1 = k0_pay7 (iblk m c 0 t) (iblk m c 1 t) (iblk m c 2 t) := by
  by_cases h0 : t.val % 8 = 0
  · exact at4_A m c t h0
  · exact at4_B m c t h0

theorem final4 : ((dats m 0 c).arrAt 4 cfg0.N : FVec Ideal S4096x1024 .bf16)
    = fun i => (val4 (m ((c : Thread nD τ).loc main_arg0)) (m ((c : Thread nD τ).loc main_arg1)) (i 0) (i 1) : EReal) := by
  refine (dats m 0 c).arrAt_eq_of_covers 4 _ (by decide +kernel) fun t hf y => ?_
  blk_simp
  rw [after0_4]
  have e0 : ((win0_4.blk t).view.emb y 0 : ℕ) = t.val * 512 + (y 0 : ℕ) := by blk_simp [(idx t).2.2.2.2.1]
  have e1 : ((win0_4.blk t).view.emb y 1 : ℕ) = (y 1 : ℕ) := by blk_simp [(idx t).2.2.2.2.1]
  rw [at4 m c t]
  refine Eq.trans (congrArg (k0_pay7 (F := Ideal) (iblk m c 0 t) (iblk m c 1 t) (iblk m c 2 t)) (eta1024 y)) ?_
  exact out4 m c t ((y : S512x1024.Idx) 0) _ e0 ((y : S512x1024.Idx) 1) _ e1

theorem etas (y : S1x1024.Idx) : y = ix2 0 (y 1) := by
  funext k; fin_cases k
  · first | exact Subsingleton.elim (α := Fin 1) _ _ | rfl
  · rfl

theorem at5_A (t : Fin cfg0.N) (h0 : t.val % 8 = 0) : (outsAt0 m c t.val t.isLt).2.2.1 = k0_pay10 (F := Ideal) (iblk m c 0 t) (iblk m c 2 t) (k0_pay8 (F := Ideal)) := by
  rw [outsAt0_A m c t h0]
  dsimp only
  unfold out0_A_5
  rw [View.read_writes_eq_canon _ _ _ (fun y => by apply cover0_A_5)]
  unfold kernelRun0_A
  dsimp only
  sl_unfold_words
  rw [View.canon_cons_unit_zero (S := S1x1024) z2, View.readCov_unit_zero (S := S1x1024) _ z2]
  simp only [View.readAt_eq_ld, (hs0_0 t).read_unread, (hs0_1 t).read_unread, (hs0_2 t).read_unread, (hs0_5 t).read_unread, (hs0_6 t).read_unread, View.ld_unit_zero (S := S1x1024) z2, View.ld_unit_zero (S := S512x1024) z2, shapeCast_self]

theorem at5_B (t : Fin cfg0.N) (h0 : ¬ t.val % 8 = 0) : (outsAt0 m c t.val t.isLt).2.2.1 = k0_pay10 (F := Ideal) (iblk m c 0 t) (iblk m c 2 t) (outsAt0 m c (t.val - 1) (Nat.lt_of_le_of_lt (Nat.sub_le _ _) t.isLt)).2.2.1 := by
  rw [outsAt0_B m c t h0]
  dsimp only
  unfold out0_B_5
  rw [View.read_writes_eq_canon _ _ _ (fun y => by apply cover0_B_5)]
  unfold kernelRun0_B
  dsimp only
  sl_unfold_words
  rw [View.canon_unit_zero (S := S1x1024) z2]
  simp only [View.readAt_eq_ld, (hs0_0 t).read_unread, (hs0_1 t).read_unread, (hs0_2 t).read_unread, (hs0_5 t).read_unread, (hs0_6 t).read_unread, View.ld_unit_zero (S := S1x1024) z2, View.ld_unit_zero (S := S512x1024) z2, shapeCast_self]

/-- The summand of result 2, from a row of the inputs. -/
def f5 (a0 : Fin 1024 → EReal) (a1 : Fin 1024 → EReal) (a2 : Fin 1024 → EReal) (j : Fin 1024) : EReal := a0 j * logistic (a2 j)

def val5 (x0 : FVec Ideal S4096x1024 .f32) (x1 : FVec Ideal S4096x2048 .f32) (r : Fin 4096) (j : Fin 1024) : EReal :=
  f5 (fun k : Fin 1024 => x0 (ix2 r k)) (fun k : Fin 1024 => x1 (ix2 r ⟨k.val, by omega⟩)) (fun k : Fin 1024 => x1 (ix2 r ⟨1024 + k.val, by omega⟩)) j

theorem pay_5 (a0 : FVec Ideal S512x1024 .f32) (a1 : FVec Ideal S512x1024 .f32) (a2 : FVec Ideal S512x1024 .f32) (acc : FVec Ideal S1x1024 .f32) (j : Fin 1024) :
    (k0_pay10 (F := Ideal) a0 a2 acc (ix2 0 j) : EReal) = acc (ix2 0 j) + ∑ i : Fin 512, f5 (fun k => a0 (ix2 i k)) (fun k => a1 (ix2 i k)) (fun k => a2 (ix2 i k)) j := by
  unfold f5
  pointwise [k0_pay10, k0_pay3, k0_pay2]
  unfold logistic; simp only [zero_sub] <;> rfl

theorem zero5 (j : Fin 1024) : (k0_pay8 (F := Ideal) (ix2 0 j) : EReal) = 0 := by
  pointwise [k0_pay8]

/-- The summand of a row, by the row's number. -/
def num5 (j : Fin 1024) (r : ℕ) : EReal := if h : r < 4096 then val5 (m ((c : Thread nD τ).loc main_arg0)) (m ((c : Thread nD τ).loc main_arg1)) ⟨r, h⟩ j else 0

theorem add5 (t : Fin cfg0.N) (acc : FVec Ideal S1x1024 .f32) (j : Fin 1024) :
    (k0_pay10 (F := Ideal) (iblk m c 0 t) (iblk m c 2 t) acc (ix2 0 j) : EReal) = acc (ix2 0 j) + ∑ i ∈ Finset.range 512, num5 m c j (t.val * 512 + i) := by
  have hN : t.val < 8 := t.isLt
  rw [Finset.sum_range]
  refine (pay_5 (iblk m c 0 t) (iblk m c 1 t) (iblk m c 2 t) acc j).trans (congrArg (fun b : EReal => (acc (ix2 0 j) : EReal) + b) (Finset.sum_congr rfl fun i _ => ?_))
  have hr : t.val * 512 + i.val < 4096 := by have := i.isLt; omega
  refine Eq.trans ?_ (dif_pos hr).symm
  exact congrFun (congr (congr (congrArg (f5) (funext fun k => in0 m c t i ⟨t.val * 512 + i.val, hr⟩ rfl k)) (funext fun k => in1 m c t i ⟨t.val * 512 + i.val, hr⟩ rfl k)) (funext fun k => in2 m c t i ⟨t.val * 512 + i.val, hr⟩ rfl k)) j

theorem acc5 (j : Fin 1024) : ∀ (n : ℕ) (hn : n < cfg0.N), ((outsAt0 m c n hn).2.2.1 : FVec Ideal S1x1024 .f32) (ix2 0 j)
    = ∑ r ∈ Finset.range ((n + 1) * 512), num5 m c j r
  | 0, hn => by
    rw [at5_A m c ⟨0, hn⟩ rfl, add5 m c ⟨0, hn⟩, zero5, zero_add]
    simp only [Nat.zero_mul, Nat.zero_add, Nat.one_mul]
  | n + 1, hn => by
    have hN : n + 1 < 8 := hn
    have ih := acc5 j n (Nat.lt_of_succ_lt hn)
    have h0 : ¬ (⟨n + 1, hn⟩ : Fin cfg0.N).val % 8 = 0 := by show ¬ (n + 1) % 8 = 0; omega
    rw [Nat.succ_mul (n + 1), Finset.sum_range_add, ← ih, at5_B m c ⟨n + 1, hn⟩ h0, add5 m c ⟨n + 1, hn⟩]
    rfl

theorem final5 : ((dats m 0 c).arrAt 5 cfg0.N : FVec Ideal S1x1024 .f32)
    = fun i => (∑ r : Fin 4096, val5 (m ((c : Thread nD τ).loc main_arg0)) (m ((c : Thread nD τ).loc main_arg1)) r (i 1) : EReal) := by
  refine (dats m 0 c).arrAt_eq_of_covers 5 _ (by decide +kernel) fun t hf y => ?_
  blk_simp
  rw [after0_5]
  have e1 : (win0_5.blk t).view.emb y 1 = (y : S1x1024.Idx) 1 := Fin.ext (by blk_simp [(idx t).2.2.2.2.2.1])
  have ht : t.val % 8 = 7 := (flush0_5 t).mp hf
  have hN : t.val < 8 := t.isLt
  have h := acc5 m c ((y : S1x1024.Idx) 1) t.val t.isLt
  rw [(by omega : (t.val + 1) * 512 = 4096), Finset.sum_range] at h
  rw [e1]
  refine (congrArg (fun z : S1x1024.Idx => ((outsAt0 m c t.val t.isLt).2.2.1 : FVec Ideal S1x1024 .f32) z) (etas y)).trans (h.trans (Finset.sum_congr rfl fun r _ => ?_))
  exact dif_pos r.isLt

theorem at6_A (t : Fin cfg0.N) (h0 : t.val % 8 = 0) : (outsAt0 m c t.val t.isLt).2.2.2 = k0_pay1 (F := Ideal) (k0_pay5 (iblk m c 0 t) (iblk m c 1 t) (iblk m c 2 t)) (k0_pay9 (F := Ideal)) := by
  rw [outsAt0_A m c t h0]
  dsimp only
  unfold out0_A_6
  rw [View.read_writes_eq_canon _ _ _ (fun y => by apply cover0_A_6)]
  unfold kernelRun0_A
  dsimp only
  sl_unfold_words
  rw [View.canon_cons_unit_zero (S := S1x1024) z2, View.readCov_unit_zero (S := S1x1024) _ z2]
  simp only [View.readAt_eq_ld, (hs0_0 t).read_unread, (hs0_1 t).read_unread, (hs0_2 t).read_unread, (hs0_5 t).read_unread, (hs0_6 t).read_unread, View.ld_unit_zero (S := S1x1024) z2, View.ld_unit_zero (S := S512x1024) z2, shapeCast_self]

theorem at6_B (t : Fin cfg0.N) (h0 : ¬ t.val % 8 = 0) : (outsAt0 m c t.val t.isLt).2.2.2 = k0_pay1 (F := Ideal) (k0_pay5 (iblk m c 0 t) (iblk m c 1 t) (iblk m c 2 t)) (outsAt0 m c (t.val - 1) (Nat.lt_of_le_of_lt (Nat.sub_le _ _) t.isLt)).2.2.2 := by
  rw [outsAt0_B m c t h0]
  dsimp only
  unfold out0_B_6
  rw [View.read_writes_eq_canon _ _ _ (fun y => by apply cover0_B_6)]
  unfold kernelRun0_B
  dsimp only
  sl_unfold_words
  rw [View.canon_unit_zero (S := S1x1024) z2]
  simp only [View.readAt_eq_ld, (hs0_0 t).read_unread, (hs0_1 t).read_unread, (hs0_2 t).read_unread, (hs0_5 t).read_unread, (hs0_6 t).read_unread, View.ld_unit_zero (S := S1x1024) z2, View.ld_unit_zero (S := S512x1024) z2, shapeCast_self]

/-- The summand of result 3, from a row of the inputs. -/
def f6 (a0 : Fin 1024 → EReal) (a1 : Fin 1024 → EReal) (a2 : Fin 1024 → EReal) (j : Fin 1024) : EReal := a0 j * a1 j * logistic (a2 j) * (1 - logistic (a2 j))

def val6 (x0 : FVec Ideal S4096x1024 .f32) (x1 : FVec Ideal S4096x2048 .f32) (r : Fin 4096) (j : Fin 1024) : EReal :=
  f6 (fun k : Fin 1024 => x0 (ix2 r k)) (fun k : Fin 1024 => x1 (ix2 r ⟨k.val, by omega⟩)) (fun k : Fin 1024 => x1 (ix2 r ⟨1024 + k.val, by omega⟩)) j

theorem pay_6 (a0 : FVec Ideal S512x1024 .f32) (a1 : FVec Ideal S512x1024 .f32) (a2 : FVec Ideal S512x1024 .f32) (acc : FVec Ideal S1x1024 .f32) (j : Fin 1024) :
    (k0_pay1 (F := Ideal) (k0_pay5 a0 a1 a2) acc (ix2 0 j) : EReal) = acc (ix2 0 j) + ∑ i : Fin 512, f6 (fun k => a0 (ix2 i k)) (fun k => a1 (ix2 i k)) (fun k => a2 (ix2 i k)) j := by
  unfold f6
  pointwise [k0_pay1, k0_pay5, k0_pay4, k0_pay2]
  unfold logistic; simp only [zero_sub] <;> rfl

theorem zero6 (j : Fin 1024) : (k0_pay9 (F := Ideal) (ix2 0 j) : EReal) = 0 := by
  pointwise [k0_pay9]

/-- The summand of a row, by the row's number. -/
def num6 (j : Fin 1024) (r : ℕ) : EReal := if h : r < 4096 then val6 (m ((c : Thread nD τ).loc main_arg0)) (m ((c : Thread nD τ).loc main_arg1)) ⟨r, h⟩ j else 0

theorem add6 (t : Fin cfg0.N) (acc : FVec Ideal S1x1024 .f32) (j : Fin 1024) :
    (k0_pay1 (F := Ideal) (k0_pay5 (iblk m c 0 t) (iblk m c 1 t) (iblk m c 2 t)) acc (ix2 0 j) : EReal) = acc (ix2 0 j) + ∑ i ∈ Finset.range 512, num6 m c j (t.val * 512 + i) := by
  have hN : t.val < 8 := t.isLt
  rw [Finset.sum_range]
  refine (pay_6 (iblk m c 0 t) (iblk m c 1 t) (iblk m c 2 t) acc j).trans (congrArg (fun b : EReal => (acc (ix2 0 j) : EReal) + b) (Finset.sum_congr rfl fun i _ => ?_))
  have hr : t.val * 512 + i.val < 4096 := by have := i.isLt; omega
  refine Eq.trans ?_ (dif_pos hr).symm
  exact congrFun (congr (congr (congrArg (f6) (funext fun k => in0 m c t i ⟨t.val * 512 + i.val, hr⟩ rfl k)) (funext fun k => in1 m c t i ⟨t.val * 512 + i.val, hr⟩ rfl k)) (funext fun k => in2 m c t i ⟨t.val * 512 + i.val, hr⟩ rfl k)) j

theorem acc6 (j : Fin 1024) : ∀ (n : ℕ) (hn : n < cfg0.N), ((outsAt0 m c n hn).2.2.2 : FVec Ideal S1x1024 .f32) (ix2 0 j)
    = ∑ r ∈ Finset.range ((n + 1) * 512), num6 m c j r
  | 0, hn => by
    rw [at6_A m c ⟨0, hn⟩ rfl, add6 m c ⟨0, hn⟩, zero6, zero_add]
    simp only [Nat.zero_mul, Nat.zero_add, Nat.one_mul]
  | n + 1, hn => by
    have hN : n + 1 < 8 := hn
    have ih := acc6 j n (Nat.lt_of_succ_lt hn)
    have h0 : ¬ (⟨n + 1, hn⟩ : Fin cfg0.N).val % 8 = 0 := by show ¬ (n + 1) % 8 = 0; omega
    rw [Nat.succ_mul (n + 1), Finset.sum_range_add, ← ih, at6_B m c ⟨n + 1, hn⟩ h0, add6 m c ⟨n + 1, hn⟩]
    rfl

theorem final6 : ((dats m 0 c).arrAt 6 cfg0.N : FVec Ideal S1x1024 .f32)
    = fun i => (∑ r : Fin 4096, val6 (m ((c : Thread nD τ).loc main_arg0)) (m ((c : Thread nD τ).loc main_arg1)) r (i 1) : EReal) := by
  refine (dats m 0 c).arrAt_eq_of_covers 6 _ (by decide +kernel) fun t hf y => ?_
  blk_simp
  rw [after0_6]
  have e1 : (win0_6.blk t).view.emb y 1 = (y : S1x1024.Idx) 1 := Fin.ext (by blk_simp [(idx t).2.2.2.2.2.2])
  have ht : t.val % 8 = 7 := (flush0_6 t).mp hf
  have hN : t.val < 8 := t.isLt
  have h := acc6 m c ((y : S1x1024.Idx) 1) t.val t.isLt
  rw [(by omega : (t.val + 1) * 512 = 4096), Finset.sum_range] at h
  rw [e1]
  refine (congrArg (fun z : S1x1024.Idx => ((outsAt0 m c t.val t.isLt).2.2.2 : FVec Ideal S1x1024 .f32) z) (etas y)).trans (h.trans (Finset.sum_congr rfl fun r _ => ?_))
  exact dif_pos r.isLt

end Kernel

section Reference

open Cert.ReferenceGluBwdIdeal Cert.ReferenceGluBwdIdeal.Gen

theorem etar1024 (y : S4096x1024.Idx) : y = ix2 (y 0) (y 1) := by funext k; fin_cases k <;> rfl

theorem ref3 (x0 : FVec Ideal S4096x1024 .f32) (x1 : FVec Ideal S4096x2048 .f32) :
    (truncf .bf16 (mulf x0 (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] x1 slices_S4096x2048_S4096x1024_0_1024)))))) bitsLt_bf16_f32 : FVec Ideal S4096x1024 .bf16)
      = fun i => val3 x0 x1 (i 0) (i 1) := by
  funext y
  rw [etar1024 y]
  generalize (y : S4096x1024.Idx) 0 = i
  generalize (y : S4096x1024.Idx) 1 = j
  unfold val3 f3
  pointwise
  unfold logistic; rfl

theorem ref4 (x0 : FVec Ideal S4096x1024 .f32) (x1 : FVec Ideal S4096x2048 .f32) :
    (truncf .bf16 (mulf (mulf (extractStridedSlice S4096x1024 ![0, 0] x1 slices_S4096x2048_S4096x1024_0_0) x0) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] x1 slices_S4096x2048_S4096x1024_0_1024))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] x1 slices_S4096x2048_S4096x1024_0_1024)))))))) bitsLt_bf16_f32 : FVec Ideal S4096x1024 .bf16)
      = fun i => val4 x0 x1 (i 0) (i 1) := by
  funext y
  rw [etar1024 y]
  generalize (y : S4096x1024.Idx) 0 = i
  generalize (y : S4096x1024.Idx) 1 = j
  unfold val4 f4
  pointwise
  exact swap _ _ _ _

theorem etasr (y : S1x1024.Idx) : y = ix2 0 (y 1) := by
  funext k; fin_cases k
  · first | exact Subsingleton.elim (α := Fin 1) _ _ | rfl
  · rfl

theorem ref5 (x0 : FVec Ideal S4096x1024 .f32) (x1 : FVec Ideal S4096x2048 .f32) :
    (broadcastInDim S1x1024 ![1] bcast_S1024_S1x1024_1 (Host.reduceAdd (mulf x0 (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] x1 slices_S4096x2048_S4096x1024_0_1024)))))) (constant S_ .f32 0x00000000#32) reducesTo_S4096x1024_S1024_d0 h_S_) : FVec Ideal S1x1024 .f32)
      = fun i => ∑ r : Fin 4096, val5 x0 x1 r (i 1) := by
  funext y
  rw [etasr y]
  generalize (y : S1x1024.Idx) 1 = j
  unfold val5 f5
  pointwise
  unfold logistic; rfl

theorem ref6 (x0 : FVec Ideal S4096x1024 .f32) (x1 : FVec Ideal S4096x2048 .f32) :
    (broadcastInDim S1x1024 ![1] bcast_S1024_S1x1024_1 (Host.reduceAdd (mulf (mulf (extractStridedSlice S4096x1024 ![0, 0] x1 slices_S4096x2048_S4096x1024_0_0) x0) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] x1 slices_S4096x2048_S4096x1024_0_1024))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] x1 slices_S4096x2048_S4096x1024_0_1024)))))))) (constant S_ .f32 0x00000000#32) reducesTo_S4096x1024_S1024_d0 h_S_) : FVec Ideal S1x1024 .f32)
      = fun i => ∑ r : Fin 4096, val6 x0 x1 r (i 1) := by
  funext y
  rw [etasr y]
  generalize (y : S1x1024.Idx) 1 = j
  unfold val6 f6
  pointwise
  exact Finset.sum_congr rfl fun r _ => swap _ _ _ _

end Reference

end Mlp.GluBwd

end
-- ==== Proof.Mlp.Dxs.lean ====
/- The sum of the two parts of a gradient: the call and the reference as functions of the inputs. -/
module

public import proofs.«01_k».proof.Proof.Gen.KernelDxsIdeal.Value
public import proofs.«01_k».proof.Proof.Gen.ReferenceDxsIdeal.Run
public import proofs.«01_k».proof.Proof.Mlp.Base

@[expose] public section

set_option maxRecDepth 16384

noncomputable section

namespace Mlp.Dxs

open Idealize.ShloMosaic Idealize.ShloMosaic.TcCoe Idealize.SL.Sem

section Kernel

open Cert.KernelDxsIdeal Cert.KernelDxsIdeal.Gen

theorem eta2048 (y : S512x2048.Idx) : y = ix2 (y 0) (y 1) := by funext k; fin_cases k <;> rfl

/-- The block of each window at a point. -/
theorem idx : ∀ t : Fin cfg0.N, win0_0.index t = ![t.val, 0] ∧ win0_1.index t = ![t.val, 0] ∧ win0_2.index t = ![t.val, 0] :=
  (by decide +kernel : ∀ t : Fin grid0.N, _)

variable (m : (ℓ : Loc nD τ sig) → Buf (Elt Ideal) ℓ) (c : Dev nD)

theorem in0 (t : Fin cfg0.N) (i : Fin 512) (r : Fin 4096) (hr : r.val = t.val * 512 + i) (k : Fin 2048) :
    (iblk m c 0 t : FVec Ideal S512x2048 .f32) (ix2 i k) = (m ((c : Thread nD τ).loc main_arg0) : FVec Ideal S4096x2048 .f32) (ix2 r k) := by
  blk_simp [iblk]
  entry_read
  refine congrArg (m _) (funext fun a => Fin.ext ?_)
  fin_cases a <;> blk_simp [idx t] <;> simp [hr]

theorem in1 (t : Fin cfg0.N) (i : Fin 512) (r : Fin 4096) (hr : r.val = t.val * 512 + i) (k : Fin 2048) :
    (iblk m c 1 t : FVec Ideal S512x2048 .f32) (ix2 i k) = (m ((c : Thread nD τ).loc main_arg1) : FVec Ideal S4096x2048 .f32) (ix2 r k) := by
  blk_simp [iblk]
  entry_read
  refine congrArg (m _) (funext fun a => Fin.ext ?_)
  fin_cases a <;> blk_simp [idx t] <;> simp [hr]

/-- A row of result 0, from the rows of the inputs. -/
def f2 (a0 : Fin 2048 → EReal) (a1 : Fin 2048 → EReal) (j : Fin 2048) : EReal := a0 j + a1 j

theorem pay_2 (a0 : FVec Ideal S512x2048 .f32) (a1 : FVec Ideal S512x2048 .f32) (i : Fin 512) (j : Fin 2048) :
    (k0_pay1 (F := Ideal) a0 a1 (ix2 i j) : EReal) = f2 (fun k => a0 (ix2 i k)) (fun k => a1 (ix2 i k))  j := by
  unfold f2
  pointwise [k0_pay1]

/-- Result 0 at an index. -/
def val2 (x0 : FVec Ideal S4096x2048 .f32) (x1 : FVec Ideal S4096x2048 .f32) (r : Fin 4096) (j : Fin 2048) : EReal :=
  f2 (fun k : Fin 2048 => x0 (ix2 r k)) (fun k : Fin 2048 => x1 (ix2 r k)) j

theorem out2 (t : Fin cfg0.N) (i : Fin 512) (r : Fin 4096) (hr : r.val = t.val * 512 + i) (j q : Fin 2048) (hq : q.val = j) :
    (k0_pay1 (F := Ideal) (iblk m c 0 t) (iblk m c 1 t) (ix2 i j) : EReal) = val2 (m ((c : Thread nD τ).loc main_arg0)) (m ((c : Thread nD τ).loc main_arg1)) r q := by
  obtain rfl := Fin.ext hq
  exact (pay_2 (iblk m c 0 t) (iblk m c 1 t) i q).trans (congrFun (congr (congrArg (f2) (funext fun k => in0 m c t i r hr k)) (funext fun k => in1 m c t i r hr k)) q)

theorem final2 : ((dats m 0 c).arrAt 2 cfg0.N : FVec Ideal S4096x2048 .f32)
    = fun i => (val2 (m ((c : Thread nD τ).loc main_arg0)) (m ((c : Thread nD τ).loc main_arg1)) (i 0) (i 1) : EReal) := by
  refine (dats m 0 c).arrAt_eq_of_covers 2 _ (by decide +kernel) fun t hf y => ?_
  blk_simp
  rw [after0_2]
  have e0 : ((win0_2.blk t).view.emb y 0 : ℕ) = t.val * 512 + (y 0 : ℕ) := by blk_simp [(idx t).2.2]
  have e1 : ((win0_2.blk t).view.emb y 1 : ℕ) = (y 1 : ℕ) := by blk_simp [(idx t).2.2]
  unfold out0_2
  rw [View.canon_unit_zero (S := S512x2048) z2, View.ld_unit_zero (S := S512x2048) z2, View.ld_unit_zero (S := S512x2048) z2]
  refine Eq.trans (congrArg (k0_pay1 (F := Ideal) (iblk m c 0 t) (iblk m c 1 t)) (eta2048 y)) ?_
  exact out2 m c t ((y : S512x2048.Idx) 0) _ e0 ((y : S512x2048.Idx) 1) _ e1

end Kernel

section Reference

open Cert.ReferenceDxsIdeal Cert.ReferenceDxsIdeal.Gen

theorem etar2048 (y : S4096x2048.Idx) : y = ix2 (y 0) (y 1) := by funext k; fin_cases k <;> rfl

theorem ref2 (x0 : FVec Ideal S4096x2048 .f32) (x1 : FVec Ideal S4096x2048 .f32) :
    (addf x0 x1 : FVec Ideal S4096x2048 .f32)
      = fun i => val2 x0 x1 (i 0) (i 1) := by
  funext y
  rw [etar2048 y]
  generalize (y : S4096x2048.Idx) 0 = i
  generalize (y : S4096x2048.Idx) 1 = j
  unfold val2 f2
  pointwise

end Reference

end Mlp.Dxs

end
-- ==== Proof.Mlp.Rms.lean ====
/- The norm of rows by their root mean square: the call and the reference as functions of the inputs. -/
module

public import proofs.«01_k».proof.Proof.Gen.KernelRmsIdeal.Value
public import proofs.«01_k».proof.Proof.Gen.ReferenceRmsIdeal.Run
public import proofs.«01_k».proof.Proof.Mlp.Base

@[expose] public section

set_option maxRecDepth 16384

noncomputable section

namespace Mlp.Rms

open Idealize.ShloMosaic Idealize.ShloMosaic.TcCoe Idealize.SL.Sem

section Kernel

open Cert.KernelRmsIdeal Cert.KernelRmsIdeal.Gen

theorem eta1024 (y : S1024x1024.Idx) : y = ix2 (y 0) (y 1) := by funext k; fin_cases k <;> rfl

/-- The block of each window at a point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

theorem in0 (t : Fin cfg0.N) (i : Fin 1024) (r : Fin 4096) (hr : r.val = t.val * 1024 + i) (k : Fin 1024) :
    (iblk m c 0 t : FVec Ideal S1024x1024 .f32) (ix2 i k) = (m ((c : Thread nD τ).loc main_arg0) : FVec Ideal S4096x1024 .f32) (ix2 r k) := by
  blk_simp [iblk]
  entry_read
  refine congrArg (m _) (funext fun a => Fin.ext ?_)
  fin_cases a <;> blk_simp [idx t] <;> simp [hr]

theorem in1 (t : Fin cfg0.N) (k : Fin 1024) :
    (iblk m c 1 t : FVec Ideal S1x1024 .f32) (ix2 0 k) = (m ((c : Thread nD τ).loc main_arg1) : FVec Ideal S1024 .f32) (ix1 k) := by
  blk_simp [iblk]
  entry_read
  pointwise
  refine congrArg (m _) (congrArg ix1 (Fin.ext ?_)) <;> blk_simp [idx t] <;> (try omega)

/-- A row of result 0, from the rows of the inputs. -/
def f2 (a0 : Fin 1024 → EReal) (p0 : Fin 1024 → EReal) (j : Fin 1024) : EReal := a0 j * Ideal.rsqrt (Ideal.div (∑ k, a0 k * a0 k) (Ideal.ofBits .f32 0x44800000#32 : EReal) + (Ideal.ofBits .f32 0x358637BD#32 : EReal)) * p0 j

theorem pay_2 (a0 : FVec Ideal S1024x1024 .f32) (p0 : FVec Ideal S1x1024 .f32) (i : Fin 1024) (j : Fin 1024) :
    (k0_pay1 (F := Ideal) a0 p0 (ix2 i j) : EReal) = f2 (fun k => a0 (ix2 i k)) (fun k => p0 (ix2 0 k)) j := by
  unfold f2
  pointwise [k0_pay1]

/-- Result 0 at an index. -/
def val2 (x0 : FVec Ideal S4096x1024 .f32) (x1 : FVec Ideal S1024 .f32) (r : Fin 4096) (j : Fin 1024) : EReal :=
  f2 (fun k : Fin 1024 => x0 (ix2 r k)) (fun k : Fin 1024 => x1 (ix1 k)) j

theorem out2 (t : Fin cfg0.N) (i : Fin 1024) (r : Fin 4096) (hr : r.val = t.val * 1024 + i) (j q : Fin 1024) (hq : q.val = j) :
    (k0_pay1 (F := Ideal) (iblk m c 0 t) (iblk m c 1 t) (ix2 i j) : EReal) = val2 (m ((c : Thread nD τ).loc main_arg0)) (m ((c : Thread nD τ).loc main_arg1)) r q := by
  obtain rfl := Fin.ext hq
  exact (pay_2 (iblk m c 0 t) (iblk m c 1 t) i q).trans (congrFun (congr (congrArg (f2) (funext fun k => in0 m c t i r hr k)) (funext fun k => in1 m c t k)) q)

theorem final2 : ((dats m 0 c).arrAt 2 cfg0.N : FVec Ideal S4096x1024 .bf16)
    = fun i => (val2 (m ((c : Thread nD τ).loc main_arg0)) (m ((c : Thread nD τ).loc main_arg1)) (i 0) (i 1) : EReal) := by
  refine (dats m 0 c).arrAt_eq_of_covers 2 _ (by decide +kernel) fun t hf y => ?_
  blk_simp
  rw [after0_2]
  have e0 : ((win0_2.blk t).view.emb y 0 : ℕ) = t.val * 1024 + (y 0 : ℕ) := by blk_simp [(idx t).2.2]
  have e1 : ((win0_2.blk t).view.emb y 1 : ℕ) = (y 1 : ℕ) := by blk_simp [(idx t).2.2]
  unfold out0_2
  rw [View.canon_unit_zero (S := S1024x1024) z2, View.ld_unit_zero (S := S1024x1024) z2, View.ld_unit_zero (S := S1x1024) z2]
  refine Eq.trans (congrArg (k0_pay1 (F := Ideal) (iblk m c 0 t) (iblk m c 1 t)) (eta1024 y)) ?_
  exact out2 m c t ((y : S1024x1024.Idx) 0) _ e0 ((y : S1024x1024.Idx) 1) _ e1

end Kernel

section Reference

open Cert.ReferenceRmsIdeal Cert.ReferenceRmsIdeal.Gen

theorem etar1024 (y : S4096x1024.Idx) : y = ix2 (y 0) (y 1) := by funext k; fin_cases k <;> rfl

theorem ref2 (x0 : FVec Ideal S4096x1024 .f32) (x1 : FVec Ideal S1024 .f32) :
    (truncf .bf16 (mulf (mulf x0 (broadcastInDim S4096x1024 ![0, 1] bcast_S4096x1_S4096x1024_0_1 (Host.rsqrt (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 x1))) bitsLt_bf16_f32 : FVec Ideal S4096x1024 .bf16)
      = fun i => val2 x0 x1 (i 0) (i 1) := by
  funext y
  rw [etar1024 y]
  generalize (y : S4096x1024.Idx) 0 = i
  generalize (y : S4096x1024.Idx) 1 = j
  unfold val2 f2
  pointwise

end Reference

end Mlp.Rms

end
-- ==== Proof.Mlp.Glu.lean ====
/- The gated linear unit: the call and the reference as functions of the inputs. -/
module

public import proofs.«01_k».proof.Proof.Gen.KernelGluIdeal.Value
public import proofs.«01_k».proof.Proof.Gen.ReferenceGluIdeal.Run
public import proofs.«01_k».proof.Proof.Mlp.Base

@[expose] public section

set_option maxRecDepth 16384

noncomputable section

namespace Mlp.Glu

open Idealize.ShloMosaic Idealize.ShloMosaic.TcCoe Idealize.SL.Sem

section Kernel

open Cert.KernelGluIdeal Cert.KernelGluIdeal.Gen

theorem eta1024 (y : S1024x1024.Idx) : y = ix2 (y 0) (y 1) := by funext k; fin_cases k <;> rfl

/-- The block of each window at a point. -/
theorem idx : ∀ t : Fin cfg0.N, win0_0.index t = ![t.val, 0] ∧ win0_1.index t = ![t.val, 1] ∧ win0_2.index t = ![t.val, 0] :=
  (by decide +kernel : ∀ t : Fin grid0.N, _)

variable (m : (ℓ : Loc nD τ sig) → Buf (Elt Ideal) ℓ) (c : Dev nD)

theorem in0 (t : Fin cfg0.N) (i : Fin 1024) (r : Fin 4096) (hr : r.val = t.val * 1024 + i) (k : Fin 1024) :
    (iblk m c 0 t : FVec Ideal S1024x1024 .f32) (ix2 i k) = (m ((c : Thread nD τ).loc main_arg0) : FVec Ideal S4096x2048 .f32) (ix2 r ⟨k.val, by omega⟩) := by
  blk_simp [iblk]
  entry_read
  refine congrArg (m _) (funext fun a => Fin.ext ?_)
  fin_cases a <;> blk_simp [idx t] <;> simp [hr]

theorem in1 (t : Fin cfg0.N) (i : Fin 1024) (r : Fin 4096) (hr : r.val = t.val * 1024 + i) (k : Fin 1024) :
    (iblk m c 1 t : FVec Ideal S1024x1024 .f32) (ix2 i k) = (m ((c : Thread nD τ).loc main_arg0) : FVec Ideal S4096x2048 .f32) (ix2 r ⟨1024 + k.val, by omega⟩) := by
  blk_simp [iblk]
  entry_read
  refine congrArg (m _) (funext fun a => Fin.ext ?_)
  fin_cases a <;> blk_simp [idx t] <;> simp [hr]

/-- The logistic function. -/
def logistic (x : EReal) : EReal := Ideal.div 1 (1 + Ideal.exp (-x))

/-- A row of result 0, from the rows of the inputs. -/
def f2 (a0 : Fin 1024 → EReal) (a1 : Fin 1024 → EReal) (j : Fin 1024) : EReal := a0 j * logistic (a1 j)

theorem pay_2 (a0 : FVec Ideal S1024x1024 .f32) (a1 : FVec Ideal S1024x1024 .f32) (i : Fin 1024) (j : Fin 1024) :
    (k0_pay1 (F := Ideal) a0 a1 (ix2 i j) : EReal) = f2 (fun k => a0 (ix2 i k)) (fun k => a1 (ix2 i k))  j := by
  unfold f2
  pointwise [k0_pay1]
  unfold logistic; simp only [zero_sub]

/-- Result 0 at an index. -/
def val2 (x0 : FVec Ideal S4096x2048 .f32) (r : Fin 4096) (j : Fin 1024) : EReal :=
  f2 (fun k : Fin 1024 => x0 (ix2 r ⟨k.val, by omega⟩)) (fun k : Fin 1024 => x0 (ix2 r ⟨1024 + k.val, by omega⟩)) j

theorem out2 (t : Fin cfg0.N) (i : Fin 1024) (r : Fin 4096) (hr : r.val = t.val * 1024 + i) (j q : Fin 1024) (hq : q.val = j) :
    (k0_pay1 (F := Ideal) (iblk m c 0 t) (iblk m c 1 t) (ix2 i j) : EReal) = val2 (m ((c : Thread nD τ).loc main_arg0)) r q := by
  obtain rfl := Fin.ext hq
  exact (pay_2 (iblk m c 0 t) (iblk m c 1 t) i q).trans (congrFun (congr (congrArg (f2) (funext fun k => in0 m c t i r hr k)) (funext fun k => in1 m c t i r hr k)) q)

theorem final2 : ((dats m 0 c).arrAt 2 cfg0.N : FVec Ideal S4096x1024 .f32)
    = fun i => (val2 (m ((c : Thread nD τ).loc main_arg0)) (i 0) (i 1) : EReal) := by
  refine (dats m 0 c).arrAt_eq_of_covers 2 _ (by decide +kernel) fun t hf y => ?_
  blk_simp
  rw [after0_2]
  have e0 : ((win0_2.blk t).view.emb y 0 : ℕ) = t.val * 1024 + (y 0 : ℕ) := by blk_simp [(idx t).2.2]
  have e1 : ((win0_2.blk t).view.emb y 1 : ℕ) = (y 1 : ℕ) := by blk_simp [(idx t).2.2]
  unfold out0_2
  rw [View.canon_unit_zero (S := S1024x1024) z2, View.ld_unit_zero (S := S1024x1024) z2, View.ld_unit_zero (S := S1024x1024) z2]
  refine Eq.trans (congrArg (k0_pay1 (F := Ideal) (iblk m c 0 t) (iblk m c 1 t)) (eta1024 y)) ?_
  exact out2 m c t ((y : S1024x1024.Idx) 0) _ e0 ((y : S1024x1024.Idx) 1) _ e1

end Kernel

section Reference

open Cert.ReferenceGluIdeal Cert.ReferenceGluIdeal.Gen

theorem etar1024 (y : S4096x1024.Idx) : y = ix2 (y 0) (y 1) := by funext k; fin_cases k <;> rfl

theorem ref2 (x0 : FVec Ideal S4096x2048 .f32) :
    (mulf (extractStridedSlice S4096x1024 ![0, 0] x0 slices_S4096x2048_S4096x1024_0_0) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] x0 slices_S4096x2048_S4096x1024_0_1024))))) : FVec Ideal S4096x1024 .f32)
      = fun i => val2 x0 (i 0) (i 1) := by
  funext y
  rw [etar1024 y]
  generalize (y : S4096x1024.Idx) 0 = i
  generalize (y : S4096x1024.Idx) 1 = j
  unfold val2 f2
  pointwise
  unfold logistic; rfl

end Reference

end Mlp.Glu

end
-- ==== Proof.Mlp.Ln.lean ====
/- The normalised rows through the SiLU: the call and the reference as functions of the inputs. -/
module

public import proofs.«01_k».proof.Proof.Gen.KernelLnIdeal.Value
public import proofs.«01_k».proof.Proof.Gen.ReferenceLnIdeal.Run
public import proofs.«01_k».proof.Proof.Mlp.Base

@[expose] public section

set_option maxRecDepth 16384

noncomputable section

namespace Mlp.Ln

open Idealize.ShloMosaic Idealize.ShloMosaic.TcCoe Idealize.SL.Sem

section Kernel

open Cert.KernelLnIdeal Cert.KernelLnIdeal.Gen

theorem eta1024 (y : S1024x1024.Idx) : y = ix2 (y 0) (y 1) := by funext k; fin_cases k <;> rfl

/-- The block of each window at a point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

variable (m : (ℓ : Loc nD τ sig) → Buf (Elt Ideal) ℓ) (c : Dev nD)

theorem in0 (t : Fin cfg0.N) (i : Fin 1024) (r : Fin 4096) (hr : r.val = t.val * 1024 + i) (k : Fin 1024) :
    (iblk m c 0 t : FVec Ideal S1024x1024 .f32) (ix2 i k) = (m ((c : Thread nD τ).loc main_arg0) : FVec Ideal S4096x1024 .f32) (ix2 r k) := by
  blk_simp [iblk]
  entry_read
  refine congrArg (m _) (funext fun a => Fin.ext ?_)
  fin_cases a <;> blk_simp [idx t] <;> simp [hr]

theorem in1 (t : Fin cfg0.N) (k : Fin 1024) :
    (iblk m c 1 t : FVec Ideal S1x1024 .f32) (ix2 0 k) = (m ((c : Thread nD τ).loc main_arg1) : FVec Ideal S1024 .f32) (ix1 k) := by
  blk_simp [iblk]
  entry_read
  pointwise
  refine congrArg (m _) (congrArg ix1 (Fin.ext ?_)) <;> blk_simp [idx t] <;> (try omega)

theorem in2 (t : Fin cfg0.N) (k : Fin 1024) :
    (iblk m c 2 t : FVec Ideal S1x1024 .f32) (ix2 0 k) = (m ((c : Thread nD τ).loc main_arg2) : FVec Ideal S1024 .f32) (ix1 k) := by
  blk_simp [iblk]
  entry_read
  pointwise
  refine congrArg (m _) (congrArg ix1 (Fin.ext ?_)) <;> blk_simp [idx t] <;> (try omega)

/-- The logistic function. -/
def logistic (x : EReal) : EReal := Ideal.div 1 (1 + Ideal.exp (-x))

/-- The mean of a row, its mean square about the mean, and the row normalised, scaled and shifted. -/
def mean (a : Fin 1024 → EReal) : EReal := Ideal.div (∑ k, a k) (Ideal.ofBits .f32 0x44800000#32 : EReal)
def var (a : Fin 1024 → EReal) : EReal := Ideal.div (∑ k, (a k - mean a) * (a k - mean a)) (Ideal.ofBits .f32 0x44800000#32 : EReal)
def lin (a g b : Fin 1024 → EReal) (j : Fin 1024) : EReal := (a j - mean a) * Ideal.rsqrt (var a + (Ideal.ofBits .f32 0x358637BD#32 : EReal)) * g j + b j

/-- A row of result 0, from the rows of the inputs. -/
def f3 (a0 : Fin 1024 → EReal) (p0 : Fin 1024 → EReal) (p1 : Fin 1024 → EReal) (j : Fin 1024) : EReal := lin a0 p0 p1 j * logistic (lin a0 p0 p1 j)

theorem pay_3 (a0 : FVec Ideal S1024x1024 .f32) (p0 : FVec Ideal S1x1024 .f32) (p1 : FVec Ideal S1x1024 .f32) (i : Fin 1024) (j : Fin 1024) :
    (k0_pay1 (F := Ideal) a0 p0 p1 (ix2 i j) : EReal) = f3 (fun k => a0 (ix2 i k)) (fun k => p0 (ix2 0 k)) (fun k => p1 (ix2 0 k)) j := by
  unfold f3
  pointwise [k0_pay1]
  unfold logistic; simp only [zero_sub] <;> rfl

/-- Result 0 at an index. -/
def val3 (x0 : FVec Ideal S4096x1024 .f32) (x1 : FVec Ideal S1024 .f32) (x2 : FVec Ideal S1024 .f32) (r : Fin 4096) (j : Fin 1024) : EReal :=
  f3 (fun k : Fin 1024 => x0 (ix2 r k)) (fun k : Fin 1024 => x1 (ix1 k)) (fun k : Fin 1024 => x2 (ix1 k)) j

theorem out3 (t : Fin cfg0.N) (i : Fin 1024) (r : Fin 4096) (hr : r.val = t.val * 1024 + i) (j q : Fin 1024) (hq : q.val = j) :
    (k0_pay1 (F := Ideal) (iblk m c 0 t) (iblk m c 1 t) (iblk m c 2 t) (ix2 i j) : EReal) = val3 (m ((c : Thread nD τ).loc main_arg0)) (m ((c : Thread nD τ).loc main_arg1)) (m ((c : Thread nD τ).loc main_arg2)) r q := by
  obtain rfl := Fin.ext hq
  exact (pay_3 (iblk m c 0 t) (iblk m c 1 t) (iblk m c 2 t) i q).trans (congrFun (congr (congr (congrArg (f3) (funext fun k => in0 m c t i r hr k)) (funext fun k => in1 m c t k)) (funext fun k => in2 m c t k)) q)

theorem final3 : ((dats m 0 c).arrAt 3 cfg0.N : FVec Ideal S4096x1024 .bf16)
    = fun i => (val3 (m ((c : Thread nD τ).loc main_arg0)) (m ((c : Thread nD τ).loc main_arg1)) (m ((c : Thread nD τ).loc main_arg2)) (i 0) (i 1) : EReal) := by
  refine (dats m 0 c).arrAt_eq_of_covers 3 _ (by decide +kernel) fun t hf y => ?_
  blk_simp
  rw [after0_3]
  have e0 : ((win0_3.blk t).view.emb y 0 : ℕ) = t.val * 1024 + (y 0 : ℕ) := by blk_simp [(idx t).2.2.2]
  have e1 : ((win0_3.blk t).view.emb y 1 : ℕ) = (y 1 : ℕ) := by blk_simp [(idx t).2.2.2]
  unfold out0_3
  rw [View.canon_unit_zero (S := S1024x1024) z2, View.ld_unit_zero (S := S1024x1024) z2, View.ld_unit_zero (S := S1x1024) z2, View.ld_unit_zero (S := S1x1024) z2]
  refine Eq.trans (congrArg (k0_pay1 (F := Ideal) (iblk m c 0 t) (iblk m c 1 t) (iblk m c 2 t)) (eta1024 y)) ?_
  exact out3 m c t ((y : S1024x1024.Idx) 0) _ e0 ((y : S1024x1024.Idx) 1) _ e1

end Kernel

section Reference

open Cert.ReferenceLnIdeal Cert.ReferenceLnIdeal.Gen

theorem etar1024 (y : S4096x1024.Idx) : y = ix2 (y 0) (y 1) := by funext k; fin_cases k <;> rfl

theorem ref3 (x0 : FVec Ideal S4096x1024 .f32) (x1 : FVec Ideal S1024 .f32) (x2 : FVec Ideal S1024 .f32) :
    (truncf .bf16 (mulf (addf (mulf (mulf (subf x0 (broadcastInDim S4096x1024 ![0, 1] bcast_S4096x1_S4096x1024_0_1 (Host.divf (broadcastInDim S4096x1 ![0] bcast_S4096_S4096x1_0 (Host.reduceAdd x0 (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf x0 (broadcastInDim S4096x1024 ![0, 1] bcast_S4096x1_S4096x1024_0_1 (Host.divf (broadcastInDim S4096x1 ![0] bcast_S4096_S4096x1_0 (Host.reduceAdd x0 (constant S_ .f32 0x00000000#32) reducesTo_S4096x1024_S4096_d1 h_S_)) (broadcastInDim S4096x1 ![] bcast_S_S4096x1 (constant S_ .f32 0x44800000#32))))) (subf x0 (broadcastInDim S4096x1024 ![0, 1] bcast_S4096x1_S4096x1024_0_1 (Host.divf (broadcastInDim S4096x1 ![0] bcast_S4096_S4096x1_0 (Host.reduceAdd x0 (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 x1))) (broadcastInDim S4096x1024 ![0, 1] bcast_S1x1024_S4096x1024_0_1 (broadcastInDim S1x1024 ![1] bcast_S1024_S1x1024_1 x2))) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (mulf (mulf (subf x0 (broadcastInDim S4096x1024 ![0, 1] bcast_S4096x1_S4096x1024_0_1 (Host.divf (broadcastInDim S4096x1 ![0] bcast_S4096_S4096x1_0 (Host.reduceAdd x0 (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf x0 (broadcastInDim S4096x1024 ![0, 1] bcast_S4096x1_S4096x1024_0_1 (Host.divf (broadcastInDim S4096x1 ![0] bcast_S4096_S4096x1_0 (Host.reduceAdd x0 (constant S_ .f32 0x00000000#32) reducesTo_S4096x1024_S4096_d1 h_S_)) (broadcastInDim S4096x1 ![] bcast_S_S4096x1 (constant S_ .f32 0x44800000#32))))) (subf x0 (broadcastInDim S4096x1024 ![0, 1] bcast_S4096x1_S4096x1024_0_1 (Host.divf (broadcastInDim S4096x1 ![0] bcast_S4096_S4096x1_0 (Host.reduceAdd x0 (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 x1))) (broadcastInDim S4096x1024 ![0, 1] bcast_S1x1024_S4096x1024_0_1 (broadcastInDim S1x1024 ![1] bcast_S1024_S1x1024_1 x2)))))))) bitsLt_bf16_f32 : FVec Ideal S4096x1024 .bf16)
      = fun i => val3 x0 x1 x2 (i 0) (i 1) := by
  funext y
  rw [etar1024 y]
  generalize (y : S4096x1024.Idx) 0 = i
  generalize (y : S4096x1024.Idx) 1 = j
  unfold val3 f3
  pointwise
  unfold logistic; rfl

end Reference

end Mlp.Ln

end
-- ==== Proof.Mlp.Gnorm.lean ====
/- The gated norm of the state-space mixer: the call and the reference as functions of the inputs. -/
module

public import proofs.«01_k».proof.Proof.Gen.KernelGnormIdeal.Value
public import proofs.«01_k».proof.Proof.Gen.ReferenceGnormIdeal.Run
public import proofs.«01_k».proof.Proof.Mlp.Base

@[expose] public section

set_option maxRecDepth 16384

noncomputable section

namespace Mlp.Gnorm

open Idealize.ShloMosaic Idealize.ShloMosaic.TcCoe Idealize.SL.Sem

section Kernel

open Cert.KernelGnormIdeal Cert.KernelGnormIdeal.Gen

theorem eta2048 (y : S256x2048.Idx) : y = ix2 (y 0) (y 1) := by funext k; fin_cases k <;> rfl

/-- The block of each window at a point. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] :=
  (by decide +kernel : ∀ t : Fin grid0.N, _)

variable (m : (ℓ : Loc nD τ sig) → Buf (Elt Ideal) ℓ) (c : Dev nD)

theorem in0 (t : Fin cfg0.N) (i : Fin 256) (r : Fin 4096) (hr : r.val = t.val * 256 + i) (k : Fin 2048) :
    (iblk m c 0 t : FVec Ideal S256x2048 .f32) (ix2 i k) = (m ((c : Thread nD τ).loc main_arg0) : FVec Ideal S4096x2048 .f32) (ix2 r k) := by
  blk_simp [iblk]
  entry_read
  refine congrArg (m _) (funext fun a => Fin.ext ?_)
  fin_cases a <;> blk_simp [idx t] <;> simp [hr]

theorem in1 (t : Fin cfg0.N) (i : Fin 256) (r : Fin 4096) (hr : r.val = t.val * 256 + i) (k : Fin 2048) :
    (iblk m c 1 t : FVec Ideal S256x2048 .f32) (ix2 i k) = (m ((c : Thread nD τ).loc main_arg1) : FVec Ideal S4096x4096 .f32) (ix2 r ⟨k.val, by omega⟩) := by
  blk_simp [iblk]
  entry_read
  refine congrArg (m _) (funext fun a => Fin.ext ?_)
  fin_cases a <;> blk_simp [idx t] <;> simp [hr]

theorem in2 (t : Fin cfg0.N) (i : Fin 256) (r : Fin 4096) (hr : r.val = t.val * 256 + i) (k : Fin 2048) :
    (iblk m c 2 t : FVec Ideal S256x2048 .f32) (ix2 i k) = (m ((c : Thread nD τ).loc main_arg2) : FVec Ideal S4096x2048 .f32) (ix2 r k) := by
  blk_simp [iblk]
  entry_read
  refine congrArg (m _) (funext fun a => Fin.ext ?_)
  fin_cases a <;> blk_simp [idx t] <;> simp [hr]

theorem in3 (t : Fin cfg0.N) (k : Fin 2048) :
    (iblk m c 3 t : FVec Ideal S1x2048 .f32) (ix2 0 k) = (m ((c : Thread nD τ).loc main_arg3) : FVec Ideal S32 .f32) (ix1 ⟨k.val / 64, by omega⟩) := by
  blk_simp [iblk]
  entry_read
  pointwise
  refine congrArg (m _) (congrArg ix1 (Fin.ext ?_)) <;> blk_simp [idx t] <;> (try omega)

theorem in4 (t : Fin cfg0.N) (k : Fin 2048) :
    (iblk m c 4 t : FVec Ideal S1x2048 .f32) (ix2 0 k) = (m ((c : Thread nD τ).loc main_arg4) : FVec Ideal S2048 .f32) (ix1 k) := by
  blk_simp [iblk]
  entry_read
  pointwise
  refine congrArg (m _) (congrArg ix1 (Fin.ext ?_)) <;> blk_simp [idx t] <;> (try omega)

/-- The logistic function. -/
def logistic (x : EReal) : EReal := Ideal.div 1 (1 + Ideal.exp (-x))

/-- The gated row. -/
def gat (y x z d : Fin 2048 → EReal) (j : Fin 2048) : EReal := (y j + x j * d j) * (z j * logistic (z j))

/-- A row of result 0, from the rows of the inputs. -/
def f5 (a0 : Fin 2048 → EReal) (a1 : Fin 2048 → EReal) (a2 : Fin 2048 → EReal) (p0 : Fin 2048 → EReal) (p1 : Fin 2048 → EReal) (j : Fin 2048) : EReal := gat a0 a1 a2 p0 j * Ideal.rsqrt (Ideal.div (∑ k, gat a0 a1 a2 p0 k * gat a0 a1 a2 p0 k) (Ideal.ofBits .f32 0x45000000#32 : EReal) + (Ideal.ofBits .f32 0x358637BD#32 : EReal)) * p1 j

theorem pay_5 (a0 : FVec Ideal S256x2048 .f32) (a1 : FVec Ideal S256x2048 .f32) (a2 : FVec Ideal S256x2048 .f32) (p0 : FVec Ideal S1x2048 .f32) (p1 : FVec Ideal S1x2048 .f32) (i : Fin 256) (j : Fin 2048) :
    (k0_pay1 (F := Ideal) a0 a1 a2 p0 p1 (ix2 i j) : EReal) = f5 (fun k => a0 (ix2 i k)) (fun k => a1 (ix2 i k)) (fun k => a2 (ix2 i k)) (fun k => p0 (ix2 0 k)) (fun k => p1 (ix2 0 k)) j := by
  unfold f5
  pointwise [k0_pay1]
  unfold gat logistic; simp only [zero_sub] <;> rfl

/-- Result 0 at an index. -/
def val5 (x0 : FVec Ideal S4096x2048 .f32) (x1 : FVec Ideal S4096x4096 .f32) (x2 : FVec Ideal S4096x2048 .f32) (x3 : FVec Ideal S32 .f32) (x4 : FVec Ideal S2048 .f32) (r : Fin 4096) (j : Fin 2048) : EReal :=
  f5 (fun k : Fin 2048 => x0 (ix2 r k)) (fun k : Fin 2048 => x1 (ix2 r ⟨k.val, by omega⟩)) (fun k : Fin 2048 => x2 (ix2 r k)) (fun k : Fin 2048 => x3 (ix1 ⟨k.val / 64, by omega⟩)) (fun k : Fin 2048 => x4 (ix1 k)) j

theorem out5 (t : Fin cfg0.N) (i : Fin 256) (r : Fin 4096) (hr : r.val = t.val * 256 + i) (j q : Fin 2048) (hq : q.val = j) :
    (k0_pay1 (F := Ideal) (iblk m c 0 t) (iblk m c 1 t) (iblk m c 2 t) (iblk m c 3 t) (iblk m c 4 t) (ix2 i j) : EReal) = val5 (m ((c : Thread nD τ).loc main_arg0)) (m ((c : Thread nD τ).loc main_arg1)) (m ((c : Thread nD τ).loc main_arg2)) (m ((c : Thread nD τ).loc main_arg3)) (m ((c : Thread nD τ).loc main_arg4)) r q := by
  obtain rfl := Fin.ext hq
  exact (pay_5 (iblk m c 0 t) (iblk m c 1 t) (iblk m c 2 t) (iblk m c 3 t) (iblk m c 4 t) i q).trans (congrFun (congr (congr (congr (congr (congrArg (f5) (funext fun k => in0 m c t i r hr k)) (funext fun k => in1 m c t i r hr k)) (funext fun k => in2 m c t i r hr k)) (funext fun k => in3 m c t k)) (funext fun k => in4 m c t k)) q)

theorem final5 : ((dats m 0 c).arrAt 5 cfg0.N : FVec Ideal S4096x2048 .bf16)
    = fun i => (val5 (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) : EReal) := by
  refine (dats m 0 c).arrAt_eq_of_covers 5 _ (by decide +kernel) fun t hf y => ?_
  blk_simp
  rw [after0_5]
  have e0 : ((win0_5.blk t).view.emb y 0 : ℕ) = t.val * 256 + (y 0 : ℕ) := by blk_simp [(idx t).2.2.2.2.2]
  have e1 : ((win0_5.blk t).view.emb y 1 : ℕ) = (y 1 : ℕ) := by blk_simp [(idx t).2.2.2.2.2]
  unfold out0_5
  rw [View.canon_unit_zero (S := S256x2048) z2, View.ld_unit_zero (S := S256x2048) z2, View.ld_unit_zero (S := S256x2048) z2, View.ld_unit_zero (S := S256x2048) z2, View.ld_unit_zero (S := S1x2048) z2, View.ld_unit_zero (S := S1x2048) z2]
  refine Eq.trans (congrArg (k0_pay1 (F := Ideal) (iblk m c 0 t) (iblk m c 1 t) (iblk m c 2 t) (iblk m c 3 t) (iblk m c 4 t)) (eta2048 y)) ?_
  exact out5 m c t ((y : S256x2048.Idx) 0) _ e0 ((y : S256x2048.Idx) 1) _ e1

end Kernel

section Reference

open Cert.ReferenceGnormIdeal Cert.ReferenceGnormIdeal.Gen

theorem etar2048 (y : S4096x2048.Idx) : y = ix2 (y 0) (y 1) := by funext k; fin_cases k <;> rfl

theorem ref5 (x0 : FVec Ideal S4096x2048 .f32) (x1 : FVec Ideal S4096x4096 .f32) (x2 : FVec Ideal S4096x2048 .f32) (x3 : FVec Ideal S32 .f32) (x4 : FVec Ideal S2048 .f32) :
    (truncf .bf16 (mulf (mulf (mulf (addf x0 (shapeCast _ (mulf (shapeCast _ (extractStridedSlice S4096x2048 ![0, 0] x1 slices_S4096x4096_S4096x2048_0_0) shapeCasts_S4096x2048_S4096x32x64) (broadcastInDim S4096x32x64 ![0, 1, 2] bcast_S1x32x1_S4096x32x64_0_1_2 (broadcastInDim S1x32x1 ![1, 2] bcast_S32x1_S1x32x1_1_2 (broadcastInDim S32x1 ![0] bcast_S32_S32x1_0 x3)))) shapeCasts_S4096x32x64_S4096x2048)) (mulf x2 (Host.divf (broadcastInDim S4096x2048 ![] bcast_S_S4096x2048 (constant S_ .f32 0x3F800000#32)) (addf (broadcastInDim S4096x2048 ![] bcast_S_S4096x2048 (constant S_ .f32 0x3F800000#32)) (Host.exp (Host.negf x2)))))) (broadcastInDim S4096x2048 ![0, 1] bcast_S4096x1_S4096x2048_0_1 (Host.rsqrt (addf (Host.divf (broadcastInDim S4096x1 ![0] bcast_S4096_S4096x1_0 (Host.reduceAdd (mulf (mulf (addf x0 (shapeCast _ (mulf (shapeCast _ (extractStridedSlice S4096x2048 ![0, 0] x1 slices_S4096x4096_S4096x2048_0_0) shapeCasts_S4096x2048_S4096x32x64) (broadcastInDim S4096x32x64 ![0, 1, 2] bcast_S1x32x1_S4096x32x64_0_1_2 (broadcastInDim S1x32x1 ![1, 2] bcast_S32x1_S1x32x1_1_2 (broadcastInDim S32x1 ![0] bcast_S32_S32x1_0 x3)))) shapeCasts_S4096x32x64_S4096x2048)) (mulf x2 (Host.divf (broadcastInDim S4096x2048 ![] bcast_S_S4096x2048 (constant S_ .f32 0x3F800000#32)) (addf (broadcastInDim S4096x2048 ![] bcast_S_S4096x2048 (constant S_ .f32 0x3F800000#32)) (Host.exp (Host.negf x2)))))) (mulf (addf x0 (shapeCast _ (mulf (shapeCast _ (extractStridedSlice S4096x2048 ![0, 0] x1 slices_S4096x4096_S4096x2048_0_0) shapeCasts_S4096x2048_S4096x32x64) (broadcastInDim S4096x32x64 ![0, 1, 2] bcast_S1x32x1_S4096x32x64_0_1_2 (broadcastInDim S1x32x1 ![1, 2] bcast_S32x1_S1x32x1_1_2 (broadcastInDim S32x1 ![0] bcast_S32_S32x1_0 x3)))) shapeCasts_S4096x32x64_S4096x2048)) (mulf x2 (Host.divf (broadcastInDim S4096x2048 ![] bcast_S_S4096x2048 (constant S_ .f32 0x3F800000#32)) (addf (broadcastInDim S4096x2048 ![] bcast_S_S4096x2048 (constant S_ .f32 0x3F800000#32)) (Host.exp (Host.negf x2))))))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 x4))) bitsLt_bf16_f32 : FVec Ideal S4096x2048 .bf16)
      = fun i => val5 x0 x1 x2 x3 x4 (i 0) (i 1) := by
  funext y
  rw [etar2048 y]
  generalize (y : S4096x2048.Idx) 0 = i
  generalize (y : S4096x2048.Idx) 1 = j
  unfold val5 f5
  pointwise
  unfold gat logistic; rfl

end Reference

end Mlp.Gnorm

end
-- ==== Proof.Mlp.Loss.lean ====
/- The loss head: the call and the reference as functions of the inputs. -/
module

public import proofs.«01_k».proof.Proof.Gen.KernelLossIdeal.Value
public import proofs.«01_k».proof.Proof.Gen.ReferenceLossIdeal.Run
public import proofs.«01_k».proof.Proof.Mlp.Base

@[expose] public section

set_option maxRecDepth 16384

noncomputable section

namespace Mlp.Loss

open Idealize.ShloMosaic Idealize.ShloMosaic.TcCoe Idealize.SL.Sem

section Kernel

open Cert.KernelLossIdeal Cert.KernelLossIdeal.Gen

theorem eta1024 (y : S1024x1024.Idx) : y = ix2 (y 0) (y 1) := by funext k; fin_cases k <;> rfl

/-- The block of each window at a point. -/
theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

variable (m : (ℓ : Loc nD τ sig) → Buf (Elt Ideal) ℓ) (c : Dev nD)

theorem in0 (t : Fin cfg0.N) (i : Fin 1024) (r : Fin 4096) (hr : r.val = t.val * 1024 + i) (k : Fin 1024) :
    (iblk m c 0 t : FVec Ideal S1024x1024 .f32) (ix2 i k) = (m ((c : Thread nD τ).loc main_arg0) : FVec Ideal S4096x1024 .f32) (ix2 r k) := by
  blk_simp [iblk]
  entry_read
  refine congrArg (m _) (funext fun a => Fin.ext ?_)
  fin_cases a <;> blk_simp [idx t] <;> simp [hr]

theorem in1 (t : Fin cfg0.N) (i : Fin 1024) (r : Fin 4096) (hr : r.val = t.val * 1024 + i) (k : Fin 1024) :
    (iblk m c 1 t : FVec Ideal S1024x1024 .f32) (ix2 i k) = (m ((c : Thread nD τ).loc main_arg1) : FVec Ideal S4096x1024 .f32) (ix2 r k) := by
  blk_simp [iblk]
  entry_read
  refine congrArg (m _) (funext fun a => Fin.ext ?_)
  fin_cases a <;> blk_simp [idx t] <;> simp [hr]

/-- The factor of the gradient: one half over the number of columns, twice. -/
theorem scale (e : EReal) : Ideal.div (Ideal.ofBits .f32 0x3F000000#32 : EReal) (Ideal.ofBits .f32 0x44800000#32 : EReal) * ((Ideal.ofBits .f32 0x40000000#32 : EReal) * e) = e * (Ideal.ofBits .f32 0x3A800000#32 : EReal) := by
  have h1 : (Ideal.ofBits .f32 0x3F000000#32 : EReal) = ((1 / 2 : ℝ) : EReal) := by simp [Ideal.ofBits, Ideal.ieee]; rw [← EReal.coe_mul]; norm_num
  have h2 : (Ideal.ofBits .f32 0x44800000#32 : EReal) = ((1024 : ℝ) : EReal) := by simp [Ideal.ofBits, Ideal.ieee]; rw [← EReal.coe_mul]; norm_num
  have h3 : (Ideal.ofBits .f32 0x40000000#32 : EReal) = ((2 : ℝ) : EReal) := by simp [Ideal.ofBits, Ideal.ieee]; rw [← EReal.coe_mul]; norm_num
  have h4 : (Ideal.ofBits .f32 0x3A800000#32 : EReal) = ((1 / 1024 : ℝ) : EReal) := by simp [Ideal.ofBits, Ideal.ieee]; rw [← EReal.coe_mul]; norm_num
  rw [h1, h2, h3, h4, ← mul_assoc, mul_comm _ e, Ideal.div_coe (by norm_num), ← EReal.coe_mul, ← EReal.coe_mul]
  norm_num

/-- A row of result 0, from the rows of the inputs. -/
def f2 (a0 : Fin 1024 → EReal) (a1 : Fin 1024 → EReal) (j : Fin 1024) : EReal := (a0 j - a1 j) * (Ideal.ofBits .f32 0x3A800000#32 : EReal)

theorem pay_2 (a0 : FVec Ideal S1024x1024 .f32) (a1 : FVec Ideal S1024x1024 .f32) (i : Fin 1024) (j : Fin 1024) :
    (k0_pay2 (F := Ideal) a0 a1 (ix2 i j) : EReal) = f2 (fun k => a0 (ix2 i k)) (fun k => a1 (ix2 i k))  j := by
  unfold f2
  pointwise [k0_pay2, k0_pay1]

/-- Result 0 at an index. -/
def val2 (x0 : FVec Ideal S4096x1024 .f32) (x1 : FVec Ideal S4096x1024 .f32) (r : Fin 4096) (j : Fin 1024) : EReal :=
  f2 (fun k : Fin 1024 => x0 (ix2 r k)) (fun k : Fin 1024 => x1 (ix2 r k)) j

theorem out2 (t : Fin cfg0.N) (i : Fin 1024) (r : Fin 4096) (hr : r.val = t.val * 1024 + i) (j q : Fin 1024) (hq : q.val = j) :
    (k0_pay2 (F := Ideal) (iblk m c 0 t) (iblk m c 1 t) (ix2 i j) : EReal) = val2 (m ((c : Thread nD τ).loc main_arg0)) (m ((c : Thread nD τ).loc main_arg1)) r q := by
  obtain rfl := Fin.ext hq
  exact (pay_2 (iblk m c 0 t) (iblk m c 1 t) i q).trans (congrFun (congr (congrArg (f2) (funext fun k => in0 m c t i r hr k)) (funext fun k => in1 m c t i r hr k)) q)

theorem at2_A (t : Fin cfg0.N) (h0 : t.val % 4 = 0) : (outsAt0 m c t.val t.isLt).1 = k0_pay2 (iblk m c 0 t) (iblk m c 1 t) := by
  rw [outsAt0_A m c t h0]
  dsimp only
  unfold out0_A_2
  rw [View.read_writes_eq_canon _ _ _ (fun y => by apply cover0_A_2)]
  unfold kernelRun0_A
  dsimp only
  sl_unfold_words
  rw [View.canon_unit_zero (S := S1024x1024) z2]
  simp only [View.readAt_eq_ld, (hs0_0 t).read_unread, (hs0_1 t).read_unread, (hs0_3 t).read_unread, View.ld_unit_zero (S := S1x1024) z2, View.ld_unit_zero (S := S1024x1024) z2, shapeCast_self]

theorem at2_B (t : Fin cfg0.N) (h0 : ¬ t.val % 4 = 0) : (outsAt0 m c t.val t.isLt).1 = k0_pay2 (iblk m c 0 t) (iblk m c 1 t) := by
  rw [outsAt0_B m c t h0]
  dsimp only
  unfold out0_B_2
  rw [View.read_writes_eq_canon _ _ _ (fun y => by apply cover0_B_2)]
  unfold kernelRun0_B
  dsimp only
  sl_unfold_words
  rw [View.canon_unit_zero (S := S1024x1024) z2]
  simp only [View.readAt_eq_ld, (hs0_0 t).read_unread, (hs0_1 t).read_unread, (hs0_3 t).read_unread, View.ld_unit_zero (S := S1x1024) z2, View.ld_unit_zero (S := S1024x1024) z2, shapeCast_self]

theorem at2 (t : Fin cfg0.N) : (outsAt0 m c t.val t.isLt).1 = k0_pay2 (iblk m c 0 t) (iblk m c 1 t) := by
  by_cases h0 : t.val % 4 = 0
  · exact at2_A m c t h0
  · exact at2_B m c t h0

theorem final2 : ((dats m 0 c).arrAt 2 cfg0.N : FVec Ideal S4096x1024 .f32)
    = fun i => (val2 (m ((c : Thread nD τ).loc main_arg0)) (m ((c : Thread nD τ).loc main_arg1)) (i 0) (i 1) : EReal) := by
  refine (dats m 0 c).arrAt_eq_of_covers 2 _ (by decide +kernel) fun t hf y => ?_
  blk_simp
  rw [after0_2]
  have e0 : ((win0_2.blk t).view.emb y 0 : ℕ) = t.val * 1024 + (y 0 : ℕ) := by blk_simp [(idx t).2.2.1]
  have e1 : ((win0_2.blk t).view.emb y 1 : ℕ) = (y 1 : ℕ) := by blk_simp [(idx t).2.2.1]
  rw [at2 m c t]
  refine Eq.trans (congrArg (k0_pay2 (F := Ideal) (iblk m c 0 t) (iblk m c 1 t)) (eta1024 y)) ?_
  exact out2 m c t ((y : S1024x1024.Idx) 0) _ e0 ((y : S1024x1024.Idx) 1) _ e1

theorem etas (y : S1x1024.Idx) : y = ix2 0 (y 1) := by
  funext k; fin_cases k
  · first | exact Subsingleton.elim (α := Fin 1) _ _ | rfl
  · rfl

theorem at3_A (t : Fin cfg0.N) (h0 : t.val % 4 = 0) : (outsAt0 m c t.val t.isLt).2 = k0_pay4 (F := Ideal) (iblk m c 0 t) (iblk m c 1 t) (k0_pay3 (F := Ideal)) := by
  rw [outsAt0_A m c t h0]
  dsimp only
  unfold out0_A_3
  rw [View.read_writes_eq_canon _ _ _ (fun y => by apply cover0_A_3)]
  unfold kernelRun0_A
  dsimp only
  sl_unfold_words
  rw [View.canon_cons_unit_zero (S := S1x1024) z2, View.readCov_unit_zero (S := S1x1024) _ z2]
  simp only [View.readAt_eq_ld, (hs0_0 t).read_unread, (hs0_1 t).read_unread, (hs0_3 t).read_unread, View.ld_unit_zero (S := S1x1024) z2, View.ld_unit_zero (S := S1024x1024) z2, shapeCast_self]

theorem at3_B (t : Fin cfg0.N) (h0 : ¬ t.val % 4 = 0) : (outsAt0 m c t.val t.isLt).2 = k0_pay4 (F := Ideal) (iblk m c 0 t) (iblk m c 1 t) (outsAt0 m c (t.val - 1) (Nat.lt_of_le_of_lt (Nat.sub_le _ _) t.isLt)).2 := by
  rw [outsAt0_B m c t h0]
  dsimp only
  unfold out0_B_3
  rw [View.read_writes_eq_canon _ _ _ (fun y => by apply cover0_B_3)]
  unfold kernelRun0_B
  dsimp only
  sl_unfold_words
  rw [View.canon_unit_zero (S := S1x1024) z2]
  simp only [View.readAt_eq_ld, (hs0_0 t).read_unread, (hs0_1 t).read_unread, (hs0_3 t).read_unread, View.ld_unit_zero (S := S1x1024) z2, View.ld_unit_zero (S := S1024x1024) z2, shapeCast_self]

/-- The summand of result 1, from a row of the inputs. -/
def f3 (a0 : Fin 1024 → EReal) (a1 : Fin 1024 → EReal) (j : Fin 1024) : EReal := (a0 j - a1 j) * (a0 j - a1 j)

def val3 (x0 : FVec Ideal S4096x1024 .f32) (x1 : FVec Ideal S4096x1024 .f32) (r : Fin 4096) (j : Fin 1024) : EReal :=
  f3 (fun k : Fin 1024 => x0 (ix2 r k)) (fun k : Fin 1024 => x1 (ix2 r k)) j

theorem pay_3 (a0 : FVec Ideal S1024x1024 .f32) (a1 : FVec Ideal S1024x1024 .f32) (acc : FVec Ideal S1x1024 .f32) (j : Fin 1024) :
    (k0_pay4 (F := Ideal) a0 a1 acc (ix2 0 j) : EReal) = acc (ix2 0 j) + ∑ i : Fin 1024, f3 (fun k => a0 (ix2 i k)) (fun k => a1 (ix2 i k)) j := by
  unfold f3
  pointwise [k0_pay4, k0_pay1]

theorem zero3 (j : Fin 1024) : (k0_pay3 (F := Ideal) (ix2 0 j) : EReal) = 0 := by
  pointwise [k0_pay3]

/-- The summand of a row, by the row's number. -/
def num3 (j : Fin 1024) (r : ℕ) : EReal := if h : r < 4096 then val3 (m ((c : Thread nD τ).loc main_arg0)) (m ((c : Thread nD τ).loc main_arg1)) ⟨r, h⟩ j else 0

theorem add3 (t : Fin cfg0.N) (acc : FVec Ideal S1x1024 .f32) (j : Fin 1024) :
    (k0_pay4 (F := Ideal) (iblk m c 0 t) (iblk m c 1 t) acc (ix2 0 j) : EReal) = acc (ix2 0 j) + ∑ i ∈ Finset.range 1024, num3 m c j (t.val * 1024 + i) := by
  have hN : t.val < 4 := t.isLt
  rw [Finset.sum_range]
  refine (pay_3 (iblk m c 0 t) (iblk m c 1 t) acc j).trans (congrArg (fun b : EReal => (acc (ix2 0 j) : EReal) + b) (Finset.sum_congr rfl fun i _ => ?_))
  have hr : t.val * 1024 + i.val < 4096 := by have := i.isLt; omega
  refine Eq.trans ?_ (dif_pos hr).symm
  exact congrFun (congr (congrArg (f3) (funext fun k => in0 m c t i ⟨t.val * 1024 + i.val, hr⟩ rfl k)) (funext fun k => in1 m c t i ⟨t.val * 1024 + i.val, hr⟩ rfl k)) j

theorem acc3 (j : Fin 1024) : ∀ (n : ℕ) (hn : n < cfg0.N), ((outsAt0 m c n hn).2 : FVec Ideal S1x1024 .f32) (ix2 0 j)
    = ∑ r ∈ Finset.range ((n + 1) * 1024), num3 m c j r
  | 0, hn => by
    rw [at3_A m c ⟨0, hn⟩ rfl, add3 m c ⟨0, hn⟩, zero3, zero_add]
    simp only [Nat.zero_mul, Nat.zero_add, Nat.one_mul]
  | n + 1, hn => by
    have hN : n + 1 < 4 := hn
    have ih := acc3 j n (Nat.lt_of_succ_lt hn)
    have h0 : ¬ (⟨n + 1, hn⟩ : Fin cfg0.N).val % 4 = 0 := by show ¬ (n + 1) % 4 = 0; omega
    rw [Nat.succ_mul (n + 1), Finset.sum_range_add, ← ih, at3_B m c ⟨n + 1, hn⟩ h0, add3 m c ⟨n + 1, hn⟩]
    rfl

theorem final3 : ((dats m 0 c).arrAt 3 cfg0.N : FVec Ideal S1x1024 .f32)
    = fun i => (∑ r : Fin 4096, val3 (m ((c : Thread nD τ).loc main_arg0)) (m ((c : Thread nD τ).loc main_arg1)) r (i 1) : EReal) := by
  refine (dats m 0 c).arrAt_eq_of_covers 3 _ (by decide +kernel) fun t hf y => ?_
  blk_simp
  rw [after0_3]
  have e1 : (win0_3.blk t).view.emb y 1 = (y : S1x1024.Idx) 1 := Fin.ext (by blk_simp [(idx t).2.2.2])
  have ht : t.val % 4 = 3 := (flush0_3 t).mp hf
  have hN : t.val < 4 := t.isLt
  have h := acc3 m c ((y : S1x1024.Idx) 1) t.val t.isLt
  rw [(by omega : (t.val + 1) * 1024 = 4096), Finset.sum_range] at h
  rw [e1]
  refine (congrArg (fun z : S1x1024.Idx => ((outsAt0 m c t.val t.isLt).2 : FVec Ideal S1x1024 .f32) z) (etas y)).trans (h.trans (Finset.sum_congr rfl fun r _ => ?_))
  exact dif_pos r.isLt

end Kernel

section Reference

open Cert.ReferenceLossIdeal Cert.ReferenceLossIdeal.Gen

theorem etar1024 (y : S4096x1024.Idx) : y = ix2 (y 0) (y 1) := by funext k; fin_cases k <;> rfl

theorem ref2 (x0 : FVec Ideal S4096x1024 .f32) (x1 : FVec Ideal S4096x1024 .f32) :
    (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf x0 x1)) : FVec Ideal S4096x1024 .f32)
      = fun i => val2 x0 x1 (i 0) (i 1) := by
  funext y
  rw [etar1024 y]
  generalize (y : S4096x1024.Idx) 0 = i
  generalize (y : S4096x1024.Idx) 1 = j
  unfold val2 f2
  pointwise
  exact scale _

theorem etasr (y : S1x1024.Idx) : y = ix2 0 (y 1) := by
  funext k; fin_cases k
  · first | exact Subsingleton.elim (α := Fin 1) _ _ | rfl
  · rfl

theorem ref3 (x0 : FVec Ideal S4096x1024 .f32) (x1 : FVec Ideal S4096x1024 .f32) :
    (broadcastInDim S1x1024 ![1] bcast_S1024_S1x1024_1 (Host.reduceAdd (mulf (subf x0 x1) (subf x0 x1)) (constant S_ .f32 0x00000000#32) reducesTo_S4096x1024_S1024_d0 h_S_) : FVec Ideal S1x1024 .f32)
      = fun i => ∑ r : Fin 4096, val3 x0 x1 r (i 1) := by
  funext y
  rw [etasr y]
  generalize (y : S1x1024.Idx) 1 = j
  unfold val3 f3
  pointwise

end Reference

end Mlp.Loss

end
-- ==== Proof.Mlp.Adamw.lean ====
/- The update of the optimiser: the call and the reference as functions of the inputs. -/
module

public import proofs.«01_k».proof.Proof.Gen.KernelAdamwIdeal.Value
public import proofs.«01_k».proof.Proof.Gen.ReferenceAdamwIdeal.Run
public import proofs.«01_k».proof.Proof.Mlp.Base

@[expose] public section

set_option maxRecDepth 16384

noncomputable section

namespace Mlp.Adamw

open Idealize.ShloMosaic Idealize.ShloMosaic.TcCoe Idealize.SL.Sem

section Kernel

open Cert.KernelAdamwIdeal Cert.KernelAdamwIdeal.Gen

theorem eta512 (y : S512x512.Idx) : y = ix2 (y 0) (y 1) := by funext k; fin_cases k <;> rfl

/-- The block of each window at a point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The layer of a row, and its row there. -/
abbrev up (r : Fin 4096) : Fin 4 := ⟨r.val / 1024, by omega⟩
abbrev lo (r : Fin 4096) : Fin 1024 := ⟨r.val % 1024, by omega⟩

theorem in0 (t : Fin cfg0.N) (i : Fin 512) (r : Fin 4096) (hr : r.val = t.val * 512 + i) (k : Fin 512) :
    (iblk m c 0 t : FVec Ideal S512x512 .f32) (ix2 i k) = (m ((c : Thread nD τ).loc main_arg0) : FVec Ideal S4x1024x512 .f32) (ix3 (up r) (lo r) k) := by
  blk_simp [iblk]
  entry_read
  pointwise
  refine congrArg (m _) (congr (congrArg₂ ix3 (Fin.ext ?_) (Fin.ext ?_)) (Fin.ext ?_)) <;> blk_simp [idx t] <;> (try simp only [hr]) <;> (try omega)

theorem in1 (t : Fin cfg0.N) (i : Fin 512) (r : Fin 4096) (hr : r.val = t.val * 512 + i) (k : Fin 512) :
    (iblk m c 1 t : FVec Ideal S512x512 .f32) (ix2 i k) = (m ((c : Thread nD τ).loc main_arg1) : FVec Ideal S4x1024x512 .f32) (ix3 (up r) (lo r) k) := by
  blk_simp [iblk]
  entry_read
  pointwise
  refine congrArg (m _) (congr (congrArg₂ ix3 (Fin.ext ?_) (Fin.ext ?_)) (Fin.ext ?_)) <;> blk_simp [idx t] <;> (try simp only [hr]) <;> (try omega)

theorem in2 (t : Fin cfg0.N) (i : Fin 512) (r : Fin 4096) (hr : r.val = t.val * 512 + i) (k : Fin 512) :
    (iblk m c 2 t : FVec Ideal S512x512 .f32) (ix2 i k) = (m ((c : Thread nD τ).loc main_arg2) : FVec Ideal S4x1024x512 .f32) (ix3 (up r) (lo r) k) := by
  blk_simp [iblk]
  entry_read
  pointwise
  refine congrArg (m _) (congr (congrArg₂ ix3 (Fin.ext ?_) (Fin.ext ?_)) (Fin.ext ?_)) <;> blk_simp [idx t] <;> (try simp only [hr]) <;> (try omega)

theorem in3 (t : Fin cfg0.N) (i : Fin 512) (r : Fin 4096) (hr : r.val = t.val * 512 + i) (k : Fin 512) :
    (iblk m c 3 t : FVec Ideal S512x512 .f32) (ix2 i k) = (m ((c : Thread nD τ).loc main_arg3) : FVec Ideal S4x1024x512 .f32) (ix3 (up r) (lo r) k) := by
  blk_simp [iblk]
  entry_read
  pointwise
  refine congrArg (m _) (congr (congrArg₂ ix3 (Fin.ext ?_) (Fin.ext ?_)) (Fin.ext ?_)) <;> blk_simp [idx t] <;> (try simp only [hr]) <;> (try omega)

/-- A row of result 0, from the rows of the inputs. -/
def f4 (a0 : Fin 512 → EReal) (a1 : Fin 512 → EReal) (a2 : Fin 512 → EReal) (a3 : Fin 512 → EReal) (j : Fin 512) : EReal := (Ideal.ofBits .f32 0xBA83126F#32 : EReal) * (Ideal.div (Ideal.div ((Ideal.ofBits .f32 0x3F666666#32 : EReal) * a2 j + (Ideal.ofBits .f32 0x3DCCCCCD#32 : EReal) * a1 j) (Ideal.ofBits .f32 0x3F26BD02#32 : EReal)) (Ideal.sqrt (Ideal.div ((Ideal.ofBits .f32 0x3F7FBE77#32 : EReal) * a3 j + (Ideal.ofBits .f32 0x3A83126F#32 : EReal) * (a1 j * a1 j)) (Ideal.ofBits .f32 0x3C231ACC#32 : EReal)) + (Ideal.ofBits .f32 0x322BCC77#32 : EReal)) + (Ideal.ofBits .f32 0x3C23D70A#32 : EReal) * a0 j)

theorem pay_4 (a0 : FVec Ideal S512x512 .f32) (a1 : FVec Ideal S512x512 .f32) (a2 : FVec Ideal S512x512 .f32) (a3 : FVec Ideal S512x512 .f32) (i : Fin 512) (j : Fin 512) :
    (k0_pay4 (F := Ideal) a0 a1 a2 a3 (ix2 i j) : EReal) = f4 (fun k => a0 (ix2 i k)) (fun k => a1 (ix2 i k)) (fun k => a2 (ix2 i k)) (fun k => a3 (ix2 i k))  j := by
  unfold f4
  pointwise [k0_pay4, k0_pay3, k0_pay2, k0_pay1]

/-- Result 0 at an index. -/
def val4 (x0 : FVec Ideal S4x1024x512 .f32) (x1 : FVec Ideal S4x1024x512 .f32) (x2 : FVec Ideal S4x1024x512 .f32) (x3 : FVec Ideal S4x1024x512 .f32) (r : Fin 4096) (j : Fin 512) : EReal :=
  f4 (fun k => x0 (ix3 (up r) (lo r) k)) (fun k => x1 (ix3 (up r) (lo r) k)) (fun k => x2 (ix3 (up r) (lo r) k)) (fun k => x3 (ix3 (up r) (lo r) k)) j

theorem out4 (t : Fin cfg0.N) (i : Fin 512) (r : Fin 4096) (hr : r.val = t.val * 512 + i) (j q : Fin 512) (hq : q.val = j) :
    (k0_pay4 (F := Ideal) (iblk m c 0 t) (iblk m c 1 t) (iblk m c 2 t) (iblk m c 3 t) (ix2 i j) : EReal) = val4 (m ((c : Thread nD τ).loc main_arg0)) (m ((c : Thread nD τ).loc main_arg1)) (m ((c : Thread nD τ).loc main_arg2)) (m ((c : Thread nD τ).loc main_arg3)) r q := by
  obtain rfl := Fin.ext hq
  exact (pay_4 (iblk m c 0 t) (iblk m c 1 t) (iblk m c 2 t) (iblk m c 3 t) i q).trans (congrFun (congr (congr (congr (congrArg (f4) (funext fun k => in0 m c t i r hr k)) (funext fun k => in1 m c t i r hr k)) (funext fun k => in2 m c t i r hr k)) (funext fun k => in3 m c t i r hr k)) q)

theorem final4 : ((dats m 0 c).arrAt 4 cfg0.N : FVec Ideal S4096x512 .f32)
    = fun i => (val4 (m ((c : Thread nD τ).loc main_arg0)) (m ((c : Thread nD τ).loc main_arg1)) (m ((c : Thread nD τ).loc main_arg2)) (m ((c : Thread nD τ).loc main_arg3)) (i 0) (i 1) : EReal) := by
  refine (dats m 0 c).arrAt_eq_of_covers 4 _ (by decide +kernel) fun t hf y => ?_
  blk_simp
  rw [after0_4]
  have e0 : ((win0_4.blk t).view.emb y 0 : ℕ) = t.val * 512 + (y 0 : ℕ) := by blk_simp [(idx t).2.2.2.2.1]
  have e1 : ((win0_4.blk t).view.emb y 1 : ℕ) = (y 1 : ℕ) := by blk_simp [(idx t).2.2.2.2.1]
  unfold out0_4
  rw [View.canon_unit_zero (S := S512x512) z2, View.ld_unit_zero (S := S512x512) z2, View.ld_unit_zero (S := S512x512) z2, View.ld_unit_zero (S := S512x512) z2, View.ld_unit_zero (S := S512x512) z2]
  refine Eq.trans (congrArg (k0_pay4 (F := Ideal) (iblk m c 0 t) (iblk m c 1 t) (iblk m c 2 t) (iblk m c 3 t)) (eta512 y)) ?_
  exact out4 m c t ((y : S512x512.Idx) 0) _ e0 ((y : S512x512.Idx) 1) _ e1

/-- A row of result 1, from the rows of the inputs. -/
def f5 (a0 : Fin 512 → EReal) (a1 : Fin 512 → EReal) (a2 : Fin 512 → EReal) (a3 : Fin 512 → EReal) (j : Fin 512) : EReal := (Ideal.ofBits .f32 0x3F666666#32 : EReal) * a2 j + (Ideal.ofBits .f32 0x3DCCCCCD#32 : EReal) * a1 j

theorem pay_5 (a0 : FVec Ideal S512x512 .f32) (a1 : FVec Ideal S512x512 .f32) (a2 : FVec Ideal S512x512 .f32) (a3 : FVec Ideal S512x512 .f32) (i : Fin 512) (j : Fin 512) :
    (k0_pay2 (F := Ideal) a1 a2 (ix2 i j) : EReal) = f5 (fun k => a0 (ix2 i k)) (fun k => a1 (ix2 i k)) (fun k => a2 (ix2 i k)) (fun k => a3 (ix2 i k))  j := by
  unfold f5
  pointwise [k0_pay2, k0_pay1]

/-- Result 1 at an index. -/
def val5 (x0 : FVec Ideal S4x1024x512 .f32) (x1 : FVec Ideal S4x1024x512 .f32) (x2 : FVec Ideal S4x1024x512 .f32) (x3 : FVec Ideal S4x1024x512 .f32) (r : Fin 4096) (j : Fin 512) : EReal :=
  f5 (fun k => x0 (ix3 (up r) (lo r) k)) (fun k => x1 (ix3 (up r) (lo r) k)) (fun k => x2 (ix3 (up r) (lo r) k)) (fun k => x3 (ix3 (up r) (lo r) k)) j

theorem out5 (t : Fin cfg0.N) (i : Fin 512) (r : Fin 4096) (hr : r.val = t.val * 512 + i) (j q : Fin 512) (hq : q.val = j) :
    (k0_pay2 (F := Ideal) (iblk m c 1 t) (iblk m c 2 t) (ix2 i j) : EReal) = val5 (m ((c : Thread nD τ).loc main_arg0)) (m ((c : Thread nD τ).loc main_arg1)) (m ((c : Thread nD τ).loc main_arg2)) (m ((c : Thread nD τ).loc main_arg3)) r q := by
  obtain rfl := Fin.ext hq
  exact (pay_5 (iblk m c 0 t) (iblk m c 1 t) (iblk m c 2 t) (iblk m c 3 t) i q).trans (congrFun (congr (congr (congr (congrArg (f5) (funext fun k => in0 m c t i r hr k)) (funext fun k => in1 m c t i r hr k)) (funext fun k => in2 m c t i r hr k)) (funext fun k => in3 m c t i r hr k)) q)

theorem final5 : ((dats m 0 c).arrAt 5 cfg0.N : FVec Ideal S4096x512 .f32)
    = fun i => (val5 (m ((c : Thread nD τ).loc main_arg0)) (m ((c : Thread nD τ).loc main_arg1)) (m ((c : Thread nD τ).loc main_arg2)) (m ((c : Thread nD τ).loc main_arg3)) (i 0) (i 1) : EReal) := by
  refine (dats m 0 c).arrAt_eq_of_covers 5 _ (by decide +kernel) fun t hf y => ?_
  blk_simp
  rw [after0_5]
  have e0 : ((win0_5.blk t).view.emb y 0 : ℕ) = t.val * 512 + (y 0 : ℕ) := by blk_simp [(idx t).2.2.2.2.2.1]
  have e1 : ((win0_5.blk t).view.emb y 1 : ℕ) = (y 1 : ℕ) := by blk_simp [(idx t).2.2.2.2.2.1]
  unfold out0_5
  rw [View.canon_unit_zero (S := S512x512) z2, View.ld_unit_zero (S := S512x512) z2, View.ld_unit_zero (S := S512x512) z2]
  refine Eq.trans (congrArg (k0_pay2 (F := Ideal) (iblk m c 1 t) (iblk m c 2 t)) (eta512 y)) ?_
  exact out5 m c t ((y : S512x512.Idx) 0) _ e0 ((y : S512x512.Idx) 1) _ e1

/-- A row of result 2, from the rows of the inputs. -/
def f6 (a0 : Fin 512 → EReal) (a1 : Fin 512 → EReal) (a2 : Fin 512 → EReal) (a3 : Fin 512 → EReal) (j : Fin 512) : EReal := (Ideal.ofBits .f32 0x3F7FBE77#32 : EReal) * a3 j + (Ideal.ofBits .f32 0x3A83126F#32 : EReal) * (a1 j * a1 j)

theorem pay_6 (a0 : FVec Ideal S512x512 .f32) (a1 : FVec Ideal S512x512 .f32) (a2 : FVec Ideal S512x512 .f32) (a3 : FVec Ideal S512x512 .f32) (i : Fin 512) (j : Fin 512) :
    (k0_pay3 (F := Ideal) a1 a3 (ix2 i j) : EReal) = f6 (fun k => a0 (ix2 i k)) (fun k => a1 (ix2 i k)) (fun k => a2 (ix2 i k)) (fun k => a3 (ix2 i k))  j := by
  unfold f6
  pointwise [k0_pay3, k0_pay1]

/-- Result 2 at an index. -/
def val6 (x0 : FVec Ideal S4x1024x512 .f32) (x1 : FVec Ideal S4x1024x512 .f32) (x2 : FVec Ideal S4x1024x512 .f32) (x3 : FVec Ideal S4x1024x512 .f32) (r : Fin 4096) (j : Fin 512) : EReal :=
  f6 (fun k => x0 (ix3 (up r) (lo r) k)) (fun k => x1 (ix3 (up r) (lo r) k)) (fun k => x2 (ix3 (up r) (lo r) k)) (fun k => x3 (ix3 (up r) (lo r) k)) j

theorem out6 (t : Fin cfg0.N) (i : Fin 512) (r : Fin 4096) (hr : r.val = t.val * 512 + i) (j q : Fin 512) (hq : q.val = j) :
    (k0_pay3 (F := Ideal) (iblk m c 1 t) (iblk m c 3 t) (ix2 i j) : EReal) = val6 (m ((c : Thread nD τ).loc main_arg0)) (m ((c : Thread nD τ).loc main_arg1)) (m ((c : Thread nD τ).loc main_arg2)) (m ((c : Thread nD τ).loc main_arg3)) r q := by
  obtain rfl := Fin.ext hq
  exact (pay_6 (iblk m c 0 t) (iblk m c 1 t) (iblk m c 2 t) (iblk m c 3 t) i q).trans (congrFun (congr (congr (congr (congrArg (f6) (funext fun k => in0 m c t i r hr k)) (funext fun k => in1 m c t i r hr k)) (funext fun k => in2 m c t i r hr k)) (funext fun k => in3 m c t i r hr k)) q)

theorem final6 : ((dats m 0 c).arrAt 6 cfg0.N : FVec Ideal S4096x512 .f32)
    = fun i => (val6 (m ((c : Thread nD τ).loc main_arg0)) (m ((c : Thread nD τ).loc main_arg1)) (m ((c : Thread nD τ).loc main_arg2)) (m ((c : Thread nD τ).loc main_arg3)) (i 0) (i 1) : EReal) := by
  refine (dats m 0 c).arrAt_eq_of_covers 6 _ (by decide +kernel) fun t hf y => ?_
  blk_simp
  rw [after0_6]
  have e0 : ((win0_6.blk t).view.emb y 0 : ℕ) = t.val * 512 + (y 0 : ℕ) := by blk_simp [(idx t).2.2.2.2.2.2]
  have e1 : ((win0_6.blk t).view.emb y 1 : ℕ) = (y 1 : ℕ) := by blk_simp [(idx t).2.2.2.2.2.2]
  unfold out0_6
  rw [View.canon_unit_zero (S := S512x512) z2, View.ld_unit_zero (S := S512x512) z2, View.ld_unit_zero (S := S512x512) z2]
  refine Eq.trans (congrArg (k0_pay3 (F := Ideal) (iblk m c 1 t) (iblk m c 3 t)) (eta512 y)) ?_
  exact out6 m c t ((y : S512x512.Idx) 0) _ e0 ((y : S512x512.Idx) 1) _ e1

end Kernel

section Reference

open Cert.ReferenceAdamwIdeal Cert.ReferenceAdamwIdeal.Gen

theorem etar512 (y : S4096x512.Idx) : y = ix2 (y 0) (y 1) := by funext k; fin_cases k <;> rfl

theorem ref4 (x0 : FVec Ideal S4x1024x512 .f32) (x1 : FVec Ideal S4x1024x512 .f32) (x2 : FVec Ideal S4x1024x512 .f32) (x3 : FVec Ideal S4x1024x512 .f32) :
    (shapeCast _ (mulf (broadcastInDim S4x1024x512 ![] bcast_S_S4x1024x512 (constant S_ .f32 0xBA83126F#32)) (addf (Host.divf (Host.divf (addf (mulf (broadcastInDim S4x1024x512 ![] bcast_S_S4x1024x512 (constant S_ .f32 0x3F666666#32)) x2) (mulf (broadcastInDim S4x1024x512 ![] bcast_S_S4x1024x512 (constant S_ .f32 0x3DCCCCCD#32)) x1)) (broadcastInDim S4x1024x512 ![] bcast_S_S4x1024x512 (constant S_ .f32 0x3F26BD02#32))) (addf (Host.sqrt (Host.divf (addf (mulf (broadcastInDim S4x1024x512 ![] bcast_S_S4x1024x512 (constant S_ .f32 0x3F7FBE77#32)) x3) (mulf (broadcastInDim S4x1024x512 ![] bcast_S_S4x1024x512 (constant S_ .f32 0x3A83126F#32)) (mulf x1 x1))) (broadcastInDim S4x1024x512 ![] bcast_S_S4x1024x512 (constant S_ .f32 0x3C231ACC#32)))) (broadcastInDim S4x1024x512 ![] bcast_S_S4x1024x512 (constant S_ .f32 0x322BCC77#32)))) (mulf (broadcastInDim S4x1024x512 ![] bcast_S_S4x1024x512 (constant S_ .f32 0x3C23D70A#32)) x0))) shapeCasts_S4x1024x512_S4096x512 : FVec Ideal S4096x512 .f32)
      = fun i => val4 x0 x1 x2 x3 (i 0) (i 1) := by
  funext y
  rw [etar512 y]
  generalize (y : S4096x512.Idx) 0 = i
  generalize (y : S4096x512.Idx) 1 = j
  unfold val4 f4
  pointwise

theorem ref5 (x0 : FVec Ideal S4x1024x512 .f32) (x1 : FVec Ideal S4x1024x512 .f32) (x2 : FVec Ideal S4x1024x512 .f32) (x3 : FVec Ideal S4x1024x512 .f32) :
    (shapeCast _ (addf (mulf (broadcastInDim S4x1024x512 ![] bcast_S_S4x1024x512 (constant S_ .f32 0x3F666666#32)) x2) (mulf (broadcastInDim S4x1024x512 ![] bcast_S_S4x1024x512 (constant S_ .f32 0x3DCCCCCD#32)) x1)) shapeCasts_S4x1024x512_S4096x512 : FVec Ideal S4096x512 .f32)
      = fun i => val5 x0 x1 x2 x3 (i 0) (i 1) := by
  funext y
  rw [etar512 y]
  generalize (y : S4096x512.Idx) 0 = i
  generalize (y : S4096x512.Idx) 1 = j
  unfold val5 f5
  pointwise

theorem ref6 (x0 : FVec Ideal S4x1024x512 .f32) (x1 : FVec Ideal S4x1024x512 .f32) (x2 : FVec Ideal S4x1024x512 .f32) (x3 : FVec Ideal S4x1024x512 .f32) :
    (shapeCast _ (addf (mulf (broadcastInDim S4x1024x512 ![] bcast_S_S4x1024x512 (constant S_ .f32 0x3F7FBE77#32)) x3) (mulf (broadcastInDim S4x1024x512 ![] bcast_S_S4x1024x512 (constant S_ .f32 0x3A83126F#32)) (mulf x1 x1))) shapeCasts_S4x1024x512_S4096x512 : FVec Ideal S4096x512 .f32)
      = fun i => val6 x0 x1 x2 x3 (i 0) (i 1) := by
  funext y
  rw [etar512 y]
  generalize (y : S4096x512.Idx) 0 = i
  generalize (y : S4096x512.Idx) 1 = j
  unfold val6 f6
  pointwise

end Reference

end Mlp.Adamw

end
-- ==== Proof.Mlp.Reals.lean ====
/- Real values through the operations of the norms' backward passes. -/
module

public import proofs.«01_k».proof.Proof.Attn.Lift

@[expose] public section

noncomputable section

namespace Mlp.Reals

open Idealize.ShloMosaic

/-- The logistic function of a real. -/
theorem sig (x : ℝ) : Ideal.div ((1 : ℝ) : EReal) ((1 + Real.exp x : ℝ) : EReal) = ((1 / (1 + Real.exp x) : ℝ) : EReal) :=
  Attn.div_coe 1 (by positivity)

theorem c_1024 : (Ideal.ofBits .f32 0x44800000#32 : EReal) = ((1024 : ℝ) : EReal) := by
  simp [Ideal.ofBits, Ideal.ieee]; rw [← EReal.coe_mul]; norm_num
theorem c_2048 : (Ideal.ofBits .f32 0x45000000#32 : EReal) = ((2048 : ℝ) : EReal) := by
  simp [Ideal.ofBits, Ideal.ieee]; rw [← EReal.coe_mul]; norm_num
theorem c_2 : (Ideal.ofBits .f32 0x40000000#32 : EReal) = ((2 : ℝ) : EReal) := by
  simp [Ideal.ofBits, Ideal.ieee]; rw [← EReal.coe_mul]; norm_num
theorem d1024 (a : ℝ) : Ideal.div (a : EReal) ((1024 : ℝ) : EReal) = ((a / 1024 : ℝ) : EReal) := Attn.div_coe a (by norm_num)
theorem d2048 (a : ℝ) : Ideal.div (a : EReal) ((2048 : ℝ) : EReal) = ((a / 2048 : ℝ) : EReal) := Attn.div_coe a (by norm_num)

/-- A mean of squares and the small constant are positive together. -/
theorem pos {n : ℕ} (F : Fin n → ℝ) (d : ℝ) (hd : 0 < d) : 0 < (∑ k, F k * F k) / d + Attn.eps :=
  add_pos_of_nonneg_of_pos (div_nonneg (Finset.sum_nonneg fun k _ => mul_self_nonneg _) hd.le) Attn.eps_pos

/-- The factor of a norm, and a quotient by the value under its root. -/
theorem rsq1 {n : ℕ} (F : Fin n → ℝ) : Ideal.rsqrt (((∑ k, F k * F k) / 1024 + Attn.eps : ℝ) : EReal)
    = (((Real.sqrt ((∑ k, F k * F k) / 1024 + Attn.eps))⁻¹ : ℝ) : EReal) := Attn.rsqrt_coe (pos F _ (by norm_num))
theorem rsq2 {n : ℕ} (F : Fin n → ℝ) : Ideal.rsqrt (((∑ k, F k * F k) / 2048 + Attn.eps : ℝ) : EReal)
    = (((Real.sqrt ((∑ k, F k * F k) / 2048 + Attn.eps))⁻¹ : ℝ) : EReal) := Attn.rsqrt_coe (pos F _ (by norm_num))
theorem quo1 {n : ℕ} (F : Fin n → ℝ) (a : ℝ) : Ideal.div (a : EReal) (((∑ k, F k * F k) / 1024 + Attn.eps : ℝ) : EReal)
    = ((a / ((∑ k, F k * F k) / 1024 + Attn.eps) : ℝ) : EReal) := Attn.div_coe a (pos F _ (by norm_num)).ne'
theorem quo2 {n : ℕ} (F : Fin n → ℝ) (a : ℝ) : Ideal.div (a : EReal) (((∑ k, F k * F k) / 2048 + Attn.eps : ℝ) : EReal)
    = ((a / ((∑ k, F k * F k) / 2048 + Attn.eps) : ℝ) : EReal) := Attn.div_coe a (pos F _ (by norm_num)).ne'

/-- The derivative of the SiLU, two ways. -/
theorem silu_grad (D L s : ℝ) : D * s + L * D * (s * (1 - s)) = D * (s * (1 + L * (1 - s))) := by ring

/-- The cube of a reciprocal root. -/
theorem cube {v : ℝ} (hv : 0 < v) : (Real.sqrt v)⁻¹ / v = (Real.sqrt v)⁻¹ * (Real.sqrt v)⁻¹ * (Real.sqrt v)⁻¹ := by
  have := Real.mul_self_sqrt hv.le
  rw [div_eq_mul_inv, ← this, mul_inv, Real.sqrt_mul_self (Real.sqrt_nonneg v)]; ring

/-- The gradient of a row through the norm by its root mean square, two ways. -/
theorem norm_bwd {n : ℕ} (x w : Fin n → ℝ) (j : Fin n) :
    w j * (Real.sqrt ((∑ k, x k * x k) / 2048 + Attn.eps))⁻¹
      + x j * ((∑ k, x k * w k) * (-(1 / 2) * ((Real.sqrt ((∑ k, x k * x k) / 2048 + Attn.eps))⁻¹ / ((∑ k, x k * x k) / 2048 + Attn.eps))) / 2048)
      + (∑ k, x k * w k) * (-(1 / 2) * ((Real.sqrt ((∑ k, x k * x k) / 2048 + Attn.eps))⁻¹ / ((∑ k, x k * x k) / 2048 + Attn.eps))) / 2048 * x j
    = (Real.sqrt ((∑ k, x k * x k) / 2048 + Attn.eps))⁻¹
      * (w j - x j * (Real.sqrt ((∑ k, x k * x k) / 2048 + Attn.eps))⁻¹ * ((∑ k, w k * (x k * (Real.sqrt ((∑ k, x k * x k) / 2048 + Attn.eps))⁻¹)) / 2048)) := by
  rw [cube (pos x 2048 (by norm_num))]
  generalize (Real.sqrt ((∑ k, x k * x k) / 2048 + Attn.eps))⁻¹ = r
  have h : ∑ k, w k * (x k * r) = (∑ k, x k * w k) * r := by
    rw [Finset.sum_mul]; exact Finset.sum_congr rfl fun k _ => by ring
  rw [h]; ring

/-- The gradient of a row through the norm about its mean, two ways. -/
theorem ln_bwd (y w : Fin 1024 → ℝ) (j : Fin 1024) : let μ := (∑ k, y k) / 1024
    let v := (∑ k, (y k - μ) * (y k - μ)) / 1024 + Attn.eps
    w j * (Real.sqrt v)⁻¹ + (∑ k, (y k - μ) * w k) * (-(1 / 2) * ((Real.sqrt v)⁻¹ / v)) / 1024 * (2 * (y j - μ))
      + (∑ k, -(w k * (Real.sqrt v)⁻¹) + ∑ k, -((∑ k, (y k - μ) * w k) * (-(1 / 2) * ((Real.sqrt v)⁻¹ / v)) / 1024 * (2 * (y k - μ)))) / 1024
    = (Real.sqrt v)⁻¹ * (w j - (∑ k, w k) / 1024 - (y j - μ) * (Real.sqrt v)⁻¹ * ((∑ k, w k * ((y k - μ) * (Real.sqrt v)⁻¹)) / 1024)) := by
  intro μ v
  rw [cube (pos (fun k => y k - μ) 1024 (by norm_num) : 0 < v)]
  have h0 : ∑ k, (y k - μ) = 0 := by
    rw [Finset.sum_sub_distrib, Finset.sum_const, Finset.card_univ, Fintype.card_fin, nsmul_eq_mul]
    show ∑ k, y k - ((1024 : ℕ) : ℝ) * ((∑ k, y k) / 1024) = 0
    push_cast; ring
  generalize (Real.sqrt v)⁻¹ = r
  have h1 : ∑ k, w k * ((y k - μ) * r) = (∑ k, (y k - μ) * w k) * r := by
    rw [Finset.sum_mul]; exact Finset.sum_congr rfl fun k _ => by ring
  have h2 : ∑ k, -(w k * r) = -((∑ k, w k) * r) := by rw [Finset.sum_neg_distrib, Finset.sum_mul]
  have h3 : ∀ C : ℝ, ∑ k, -(C * (2 * (y k - μ))) = 0 := fun C => by
    rw [Finset.sum_neg_distrib, ← Finset.mul_sum, ← Finset.mul_sum, h0]; ring
  rw [h1, h2, h3]; ring

end Mlp.Reals

end
-- ==== Proof.Mlp.RmsBwd.lean ====
/- The backward pass of the norm by the root mean square: the call and the reference as functions of the inputs. -/
module

public import proofs.«01_k».proof.Proof.Gen.KernelRmsBwdIdeal.Value
public import proofs.«01_k».proof.Proof.Gen.ReferenceRmsBwdIdeal.Run
public import proofs.«01_k».proof.Proof.Mlp.Base
public import proofs.«01_k».proof.Proof.Mlp.Reals

@[expose] public section

set_option maxRecDepth 16384

noncomputable section

namespace Mlp.RmsBwd

open Idealize.ShloMosaic Idealize.ShloMosaic.TcCoe Idealize.SL.Sem

section Kernel

open Cert.KernelRmsBwdIdeal Cert.KernelRmsBwdIdeal.Gen

theorem eta1024 (y : S512x1024.Idx) : y = ix2 (y 0) (y 1) := by funext k; fin_cases k <;> rfl

/-- The block of each window at a point. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0] ∧ win0_6.index t = ![0, 0] ∧ win0_7.index t = ![0, 0] :=
  (by decide +kernel : ∀ t : Fin grid0.N, _)

variable (m : (ℓ : Loc nD τ sig) → Buf (Elt Ideal) ℓ) (c : Dev nD)

theorem in0 (t : Fin cfg0.N) (i : Fin 512) (r : Fin 4096) (hr : r.val = t.val * 512 + i) (k : Fin 1024) :
    (iblk m c 0 t : FVec Ideal S512x1024 .f32) (ix2 i k) = (m ((c : Thread nD τ).loc main_arg0) : FVec Ideal S4096x1024 .f32) (ix2 r k) := by
  blk_simp [iblk]
  entry_read
  refine congrArg (m _) (funext fun a => Fin.ext ?_)
  fin_cases a <;> blk_simp [idx t] <;> simp [hr]

theorem in1 (t : Fin cfg0.N) (i : Fin 512) (r : Fin 4096) (hr : r.val = t.val * 512 + i) (k : Fin 1024) :
    (iblk m c 1 t : FVec Ideal S512x1024 .f32) (ix2 i k) = (m ((c : Thread nD τ).loc main_arg1) : FVec Ideal S4096x1024 .f32) (ix2 r k) := by
  blk_simp [iblk]
  entry_read
  refine congrArg (m _) (funext fun a => Fin.ext ?_)
  fin_cases a <;> blk_simp [idx t] <;> simp [hr]

theorem in2 (t : Fin cfg0.N) (i : Fin 512) (r : Fin 4096) (hr : r.val = t.val * 512 + i) (k : Fin 1024) :
    (iblk m c 2 t : FVec Ideal S512x1024 .f32) (ix2 i k) = (m ((c : Thread nD τ).loc main_arg3) : FVec Ideal S4096x1024 .f32) (ix2 r k) := by
  blk_simp [iblk]
  entry_read
  refine congrArg (m _) (funext fun a => Fin.ext ?_)
  fin_cases a <;> blk_simp [idx t] <;> simp [hr]

theorem in3 (t : Fin cfg0.N) (k : Fin 1024) :
    (iblk m c 3 t : FVec Ideal S1x1024 .f32) (ix2 0 k) = (m ((c : Thread nD τ).loc main_arg2) : FVec Ideal S1024 .f32) (ix1 k) := by
  blk_simp [iblk]
  entry_read
  pointwise
  refine congrArg (m _) (congrArg ix1 (Fin.ext ?_)) <;> blk_simp [idx t] <;> (try omega)

/-- The factor of the norm, the row normalised, and the gradient with that of the residual stream. -/
def rs (x : Fin 1024 → EReal) : EReal := Ideal.rsqrt (Ideal.div (∑ k, x k * x k) (Ideal.ofBits .f32 0x44800000#32 : EReal) + (Ideal.ofBits .f32 0x358637BD#32 : EReal))
def tot (d x e g : Fin 1024 → EReal) (j : Fin 1024) : EReal :=
  e j + rs x * (d j * g j - x j * rs x * Ideal.div (∑ k, d k * g k * (x k * rs x)) (Ideal.ofBits .f32 0x44800000#32 : EReal))

/-- An extended real added to itself. -/
theorem twice (a : EReal) : a + a = ((2 : ℝ) : EReal) * a := by
  induction a with
  | bot => rw [EReal.coe_mul_bot_of_pos (by norm_num)]; rfl
  | top => rw [EReal.coe_mul_top_of_pos (by norm_num)]; rfl
  | coe b => rw [← EReal.coe_add, ← EReal.coe_mul, two_mul]

/-- A nonnegative real factor comes out of a sum of extended reals. -/
theorem out_sum {ι : Type*} (s : Finset ι) (f : ι → EReal) (R : ℝ) (hR : 0 ≤ R) : ∑ k ∈ s, f k * (R : EReal) = (∑ k ∈ s, f k) * (R : EReal) := by
  classical
  induction s using Finset.induction_on with
  | empty => simp
  | insert a s ha ih =>
    rw [Finset.sum_insert ha, Finset.sum_insert ha, ih,
      EReal.right_distrib_of_nonneg_of_ne_top (EReal.coe_nonneg.2 hR) (EReal.coe_ne_top R)]

/-- A row with an infinity has an infinite sum of squares. -/
theorem sum_top (x : Fin 1024 → EReal) (k : Fin 1024) (h : x k * x k = ⊤) : ∑ k, x k * x k = ⊤ := by
  have hn : ∀ k, 0 ≤ x k * x k := fun k => by
    rcases le_total 0 (x k) with h | h
    · exact mul_nonneg h h
    · rw [← neg_mul_neg]; exact mul_nonneg (EReal.neg_nonneg.2 h) (EReal.neg_nonneg.2 h)
  exact top_le_iff.1 (h ▸ Finset.single_le_sum (fun k _ => hn k) (Finset.mem_univ k))

/-- The two ways to differentiate the norm agree, infinities included. -/
theorem core (x w : Fin 1024 → EReal) (j : Fin 1024) :
    w j * rs x + x j * Ideal.div ((∑ k, x k * w k) * ((Ideal.ofBits .f32 0xBF000000#32 : EReal) * Ideal.div (rs x) (Ideal.div (∑ k, x k * x k) (Ideal.ofBits .f32 0x44800000#32 : EReal) + (Ideal.ofBits .f32 0x358637BD#32 : EReal)))) (Ideal.ofBits .f32 0x44800000#32 : EReal)
      + Ideal.div ((∑ k, x k * w k) * ((Ideal.ofBits .f32 0xBF000000#32 : EReal) * Ideal.div (rs x) (Ideal.div (∑ k, x k * x k) (Ideal.ofBits .f32 0x44800000#32 : EReal) + (Ideal.ofBits .f32 0x358637BD#32 : EReal)))) (Ideal.ofBits .f32 0x44800000#32 : EReal) * x j
    = rs x * (w j - x j * rs x * Ideal.div (∑ k, w k * (x k * rs x)) (Ideal.ofBits .f32 0x44800000#32 : EReal)) := by
  by_cases hx : ∀ k, x k = (((x k).toReal : ℝ) : EReal)
  · have hS : ∀ R : ℝ, 0 ≤ R → ∑ k, w k * (x k * (R : EReal)) = (∑ k, x k * w k) * (R : EReal) := fun R hR => by
      rw [← out_sum _ _ R hR]
      exact Finset.sum_congr rfl fun k _ => by rw [mul_comm (x k) (w k), mul_assoc]
    have hv := Reals.pos (fun k => (x k).toReal) 1024 (by norm_num)
    have hV : (Ideal.div (∑ k, x k * x k) (Ideal.ofBits .f32 0x44800000#32 : EReal) + (Ideal.ofBits .f32 0x358637BD#32 : EReal)) = (((∑ k, (x k).toReal * (x k).toReal) / 1024 + Attn.eps : ℝ) : EReal) := by
      rw [Finset.sum_congr rfl fun k _ => congrArg (fun b : EReal => b * b) (hx k)]
      simp only [Attn.coe_mul, Attn.coe_sum, Reals.c_1024, Reals.d1024, Attn.c_eps, Attn.coe_add]
    unfold rs
    rw [hV, hx j]
    generalize (∑ k, (x k).toReal * (x k).toReal) / 1024 + Attn.eps = v at hv ⊢
    generalize (x j).toReal = X
    rw [Attn.rsqrt_coe hv, Attn.div_coe _ hv.ne', hS _ (by positivity), Reals.c_1024, Attn.c_nhalf]
    have hR : 0 ≤ (Real.sqrt v)⁻¹ := by positivity
    have h3 : (Real.sqrt v)⁻¹ / v = (Real.sqrt v)⁻¹ * (Real.sqrt v)⁻¹ * (Real.sqrt v)⁻¹ := by
      have := Real.mul_self_sqrt hv.le
      rw [div_eq_mul_inv, ← this, mul_inv, Real.sqrt_mul_self (Real.sqrt_nonneg v)]; ring
    rw [h3]
    generalize (Real.sqrt v)⁻¹ = R at hR ⊢
    generalize ∑ k, x k * w k = S
    generalize w j = W
    rw [Ideal.div_coe (by norm_num), Ideal.div_coe (by norm_num), sub_eq_add_neg,
      EReal.left_distrib_of_nonneg_of_ne_top (EReal.coe_nonneg.2 hR) (EReal.coe_ne_top R), mul_comm W, add_assoc]
    refine congrArg (fun b : EReal => (R : EReal) * W + b) ?_
    rw [mul_comm (X : EReal), twice, Attn.coe_mul, mul_assoc S, mul_assoc S, Attn.coe_mul, Attn.coe_mul, mul_left_comm, Attn.coe_mul,
      mul_assoc S, Attn.coe_mul, Attn.coe_mul, mul_left_comm ((X * R : ℝ) : EReal), Attn.coe_mul, ← mul_neg, Attn.coe_neg]
    rw [mul_left_comm (R : EReal) S, Attn.coe_mul]
    exact congrArg (fun b : ℝ => S * (b : EReal)) (by ring)
  · obtain ⟨k, hk⟩ := not_forall.1 hx
    have hkk : x k * x k = ⊤ := by
      induction h : x k with
      | bot => rfl
      | top => rfl
      | coe b => rw [h] at hk; exact absurd (by rw [EReal.toReal_coe]) hk
    have hV : (Ideal.div (∑ k, x k * x k) (Ideal.ofBits .f32 0x44800000#32 : EReal) + (Ideal.ofBits .f32 0x358637BD#32 : EReal)) = ⊤ := by
      rw [sum_top x k hkk, Reals.c_1024, Ideal.div_coe (by norm_num), EReal.top_mul_coe_of_pos (by norm_num), Attn.c_eps]
      exact EReal.top_add_coe _
    unfold rs
    rw [hV]
    have h0 : Ideal.rsqrt (⊤ : EReal) = 0 := rfl
    have h1 : Ideal.div (0 : EReal) (⊤ : EReal) = 0 := by simp [Ideal.div]
    rw [h0, h1, Reals.c_1024]
    simp only [mul_zero, zero_mul, zero_add, Ideal.div_coe (show (1024 : ℝ) ≠ 0 by norm_num)]

theorem step (d x e g : Fin 1024 → EReal) (j : Fin 1024) :
    e j + (d j * g j * rs x + x j * Ideal.div ((∑ k, x k * (d k * g k)) * ((Ideal.ofBits .f32 0xBF000000#32 : EReal) * Ideal.div (rs x) (Ideal.div (∑ k, x k * x k) (Ideal.ofBits .f32 0x44800000#32 : EReal) + (Ideal.ofBits .f32 0x358637BD#32 : EReal)))) (Ideal.ofBits .f32 0x44800000#32 : EReal) + Ideal.div ((∑ k, x k * (d k * g k)) * ((Ideal.ofBits .f32 0xBF000000#32 : EReal) * Ideal.div (rs x) (Ideal.div (∑ k, x k * x k) (Ideal.ofBits .f32 0x44800000#32 : EReal) + (Ideal.ofBits .f32 0x358637BD#32 : EReal)))) (Ideal.ofBits .f32 0x44800000#32 : EReal) * x j) = tot d x e g j :=
  congrArg (fun b : EReal => e j + b) (core x (fun k => d k * g k) j)

/-- A row of result 0, from the rows of the inputs. -/
def f4 (a0 : Fin 1024 → EReal) (a1 : Fin 1024 → EReal) (a2 : Fin 1024 → EReal) (p0 : Fin 1024 → EReal) (j : Fin 1024) : EReal := tot a0 a1 a2 p0 j

theorem pay_4 (a0 : FVec Ideal S512x1024 .f32) (a1 : FVec Ideal S512x1024 .f32) (a2 : FVec Ideal S512x1024 .f32) (p0 : FVec Ideal S1x1024 .f32) (i : Fin 512) (j : Fin 1024) :
    (k0_pay7 (F := Ideal) a0 a1 a2 p0 (ix2 i j) : EReal) = f4 (fun k => a0 (ix2 i k)) (fun k => a1 (ix2 i k)) (fun k => a2 (ix2 i k)) (fun k => p0 (ix2 0 k)) j := by
  unfold f4
  pointwise [k0_pay5, k0_pay6, k0_pay7, k0_pay8, k0_pay9, k0_pay10]
  unfold tot rs; rfl

/-- Result 0 at an index. -/
def val4 (x0 : FVec Ideal S4096x1024 .f32) (x1 : FVec Ideal S4096x1024 .f32) (x2 : FVec Ideal S1024 .f32) (x3 : FVec Ideal S4096x1024 .f32) (r : Fin 4096) (j : Fin 1024) : EReal :=
  f4 (fun k : Fin 1024 => x0 (ix2 r k)) (fun k : Fin 1024 => x1 (ix2 r k)) (fun k : Fin 1024 => x3 (ix2 r k)) (fun k : Fin 1024 => x2 (ix1 k)) j

/-- Result 0's block at a point. -/
abbrev o4 (t : Fin cfg0.N) : FVec Ideal S512x1024 .f32 := k0_pay7 (F := Ideal) (iblk m c 0 t) (iblk m c 1 t) (iblk m c 2 t) (iblk m c 3 t)

theorem out4 (t : Fin cfg0.N) (i : Fin 512) (r : Fin 4096) (hr : r.val = t.val * 512 + i) (j q : Fin 1024) (hq : q.val = j) :
    (o4 m c t (ix2 i j) : EReal) = val4 (m ((c : Thread nD τ).loc main_arg0)) (m ((c : Thread nD τ).loc main_arg1)) (m ((c : Thread nD τ).loc main_arg2)) (m ((c : Thread nD τ).loc main_arg3)) r q := by
  obtain rfl := Fin.ext hq
  exact (pay_4 (iblk m c 0 t) (iblk m c 1 t) (iblk m c 2 t) (iblk m c 3 t) i q).trans (congrFun (congr (congr (congr (congrArg (f4) (funext fun k => in0 m c t i r hr k)) (funext fun k => in1 m c t i r hr k)) (funext fun k => in2 m c t i r hr k)) (funext fun k => in3 m c t k)) q)

/-- A row of result 1, from the rows of the inputs. -/
def f5 (a0 : Fin 1024 → EReal) (a1 : Fin 1024 → EReal) (a2 : Fin 1024 → EReal) (p0 : Fin 1024 → EReal) (j : Fin 1024) : EReal := tot a0 a1 a2 p0 j

theorem pay_5 (a0 : FVec Ideal S512x1024 .f32) (a1 : FVec Ideal S512x1024 .f32) (a2 : FVec Ideal S512x1024 .f32) (p0 : FVec Ideal S1x1024 .f32) (i : Fin 512) (j : Fin 1024) :
    (k0_pay10 (F := Ideal) a0 a1 a2 p0 (ix2 i j) : EReal) = f5 (fun k => a0 (ix2 i k)) (fun k => a1 (ix2 i k)) (fun k => a2 (ix2 i k)) (fun k => p0 (ix2 0 k)) j := by
  unfold f5
  pointwise [k0_pay5, k0_pay6, k0_pay7, k0_pay8, k0_pay9, k0_pay10]
  unfold tot rs; rfl

/-- Result 1 at an index. -/
def val5 (x0 : FVec Ideal S4096x1024 .f32) (x1 : FVec Ideal S4096x1024 .f32) (x2 : FVec Ideal S1024 .f32) (x3 : FVec Ideal S4096x1024 .f32) (r : Fin 4096) (j : Fin 1024) : EReal :=
  f5 (fun k : Fin 1024 => x0 (ix2 r k)) (fun k : Fin 1024 => x1 (ix2 r k)) (fun k : Fin 1024 => x3 (ix2 r k)) (fun k : Fin 1024 => x2 (ix1 k)) j

/-- Result 1's block at a point. -/
abbrev o5 (t : Fin cfg0.N) : FVec Ideal S512x1024 .bf16 := k0_pay10 (F := Ideal) (iblk m c 0 t) (iblk m c 1 t) (iblk m c 2 t) (iblk m c 3 t)

theorem out5 (t : Fin cfg0.N) (i : Fin 512) (r : Fin 4096) (hr : r.val = t.val * 512 + i) (j q : Fin 1024) (hq : q.val = j) :
    (o5 m c t (ix2 i j) : EReal) = val5 (m ((c : Thread nD τ).loc main_arg0)) (m ((c : Thread nD τ).loc main_arg1)) (m ((c : Thread nD τ).loc main_arg2)) (m ((c : Thread nD τ).loc main_arg3)) r q := by
  obtain rfl := Fin.ext hq
  exact (pay_5 (iblk m c 0 t) (iblk m c 1 t) (iblk m c 2 t) (iblk m c 3 t) i q).trans (congrFun (congr (congr (congr (congrArg (f5) (funext fun k => in0 m c t i r hr k)) (funext fun k => in1 m c t i r hr k)) (funext fun k => in2 m c t i r hr k)) (funext fun k => in3 m c t k)) q)

theorem at4 (t : Fin cfg0.N) : (outsAt0 m c t.val t.isLt).1 = o4 m c t := by
  by_cases h0 : t.val % 8 = 0
  all_goals
    first
      | rw [outsAt0_A m c t h0]; dsimp only; unfold out0_A_4
        rw [View.read_writes_eq_canon _ _ _ (fun y => by apply cover0_A_4)]; unfold kernelRun0_A
      | rw [outsAt0_B m c t h0]; dsimp only; unfold out0_B_4
        rw [View.read_writes_eq_canon _ _ _ (fun y => by apply cover0_B_4)]; unfold kernelRun0_B
    dsimp only
    sl_unfold_words
    rw [View.canon_unit_zero (S := S512x1024) z2]
    simp only [o4, View.readAt_eq_ld, (hs0_0 t).read_unread, (hs0_1 t).read_unread, (hs0_2 t).read_unread, (hs0_3 t).read_unread, (hs0_6 t).read_unread, (hs0_7 t).read_unread, View.ld_unit_zero (S := S1x1024) z2, View.ld_unit_zero (S := S512x1024) z2, shapeCast_self]

theorem final4 : ((dats m 0 c).arrAt 4 cfg0.N : FVec Ideal S4096x1024 .f32)
    = fun i => (val4 (m ((c : Thread nD τ).loc main_arg0)) (m ((c : Thread nD τ).loc main_arg1)) (m ((c : Thread nD τ).loc main_arg2)) (m ((c : Thread nD τ).loc main_arg3)) (i 0) (i 1) : EReal) := by
  refine (dats m 0 c).arrAt_eq_of_covers 4 _ (by decide +kernel) fun t hf y => ?_
  blk_simp
  rw [after0_4]
  have e0 : ((win0_4.blk t).view.emb y 0 : ℕ) = t.val * 512 + (y 0 : ℕ) := by blk_simp [(idx t).2.2.2.2.1]
  have e1 : ((win0_4.blk t).view.emb y 1 : ℕ) = (y 1 : ℕ) := by blk_simp [(idx t).2.2.2.2.1]
  rw [at4 m c t]
  refine Eq.trans (congrArg (o4 m c t) (eta1024 y)) ?_
  exact out4 m c t ((y : S512x1024.Idx) 0) _ e0 ((y : S512x1024.Idx) 1) _ e1

theorem at5 (t : Fin cfg0.N) : (outsAt0 m c t.val t.isLt).2.1 = o5 m c t := by
  by_cases h0 : t.val % 8 = 0
  all_goals
    first
      | rw [outsAt0_A m c t h0]; dsimp only; unfold out0_A_5
        rw [View.read_writes_eq_canon _ _ _ (fun y => by apply cover0_A_5)]; unfold kernelRun0_A
      | rw [outsAt0_B m c t h0]; dsimp only; unfold out0_B_5
        rw [View.read_writes_eq_canon _ _ _ (fun y => by apply cover0_B_5)]; unfold kernelRun0_B
    dsimp only
    sl_unfold_words
    rw [View.canon_unit_zero (S := S512x1024) z2]
    simp only [o5, View.readAt_eq_ld, (hs0_0 t).read_unread, (hs0_1 t).read_unread, (hs0_2 t).read_unread, (hs0_3 t).read_unread, (hs0_6 t).read_unread, (hs0_7 t).read_unread, View.ld_unit_zero (S := S1x1024) z2, View.ld_unit_zero (S := S512x1024) z2, shapeCast_self]

theorem final5 : ((dats m 0 c).arrAt 5 cfg0.N : FVec Ideal S4096x1024 .bf16)
    = fun i => (val5 (m ((c : Thread nD τ).loc main_arg0)) (m ((c : Thread nD τ).loc main_arg1)) (m ((c : Thread nD τ).loc main_arg2)) (m ((c : Thread nD τ).loc main_arg3)) (i 0) (i 1) : EReal) := by
  refine (dats m 0 c).arrAt_eq_of_covers 5 _ (by decide +kernel) fun t hf y => ?_
  blk_simp
  rw [after0_5]
  have e0 : ((win0_5.blk t).view.emb y 0 : ℕ) = t.val * 512 + (y 0 : ℕ) := by blk_simp [(idx t).2.2.2.2.2.1]
  have e1 : ((win0_5.blk t).view.emb y 1 : ℕ) = (y 1 : ℕ) := by blk_simp [(idx t).2.2.2.2.2.1]
  rw [at5 m c t]
  refine Eq.trans (congrArg (o5 m c t) (eta1024 y)) ?_
  exact out5 m c t ((y : S512x1024.Idx) 0) _ e0 ((y : S512x1024.Idx) 1) _ e1

theorem etas (y : S1x1024.Idx) : y = ix2 0 (y 1) := by
  funext k; fin_cases k
  · first | exact Subsingleton.elim (α := Fin 1) _ _ | rfl
  · rfl

theorem at6_A (t : Fin cfg0.N) (h0 : t.val % 8 = 0) : (outsAt0 m c t.val t.isLt).2.2.1 = k0_pay3 (F := Ideal) (k0_pay8 (iblk m c 0 t) (iblk m c 1 t)) (k0_pay1 (F := Ideal)) := by
  rw [outsAt0_A m c t h0]
  dsimp only
  unfold out0_A_6
  rw [View.read_writes_eq_canon _ _ _ (fun y => by apply cover0_A_6)]
  unfold kernelRun0_A
  dsimp only
  sl_unfold_words
  rw [View.canon_cons_unit_zero (S := S1x1024) z2, View.readCov_unit_zero (S := S1x1024) _ z2]
  simp only [View.readAt_eq_ld, (hs0_0 t).read_unread, (hs0_1 t).read_unread, (hs0_2 t).read_unread, (hs0_3 t).read_unread, (hs0_6 t).read_unread, (hs0_7 t).read_unread, View.ld_unit_zero (S := S1x1024) z2, View.ld_unit_zero (S := S512x1024) z2, shapeCast_self]

theorem at6_B (t : Fin cfg0.N) (h0 : ¬ t.val % 8 = 0) : (outsAt0 m c t.val t.isLt).2.2.1 = k0_pay3 (F := Ideal) (k0_pay8 (iblk m c 0 t) (iblk m c 1 t)) (outsAt0 m c (t.val - 1) (Nat.lt_of_le_of_lt (Nat.sub_le _ _) t.isLt)).2.2.1 := by
  rw [outsAt0_B m c t h0]
  dsimp only
  unfold out0_B_6
  rw [View.read_writes_eq_canon _ _ _ (fun y => by apply cover0_B_6)]
  unfold kernelRun0_B
  dsimp only
  sl_unfold_words
  rw [View.canon_unit_zero (S := S1x1024) z2]
  simp only [View.readAt_eq_ld, (hs0_0 t).read_unread, (hs0_1 t).read_unread, (hs0_2 t).read_unread, (hs0_3 t).read_unread, (hs0_6 t).read_unread, (hs0_7 t).read_unread, View.ld_unit_zero (S := S1x1024) z2, View.ld_unit_zero (S := S512x1024) z2, shapeCast_self]

/-- The summand of result 2, from a row of the inputs. -/
def f6 (a0 : Fin 1024 → EReal) (a1 : Fin 1024 → EReal) (a2 : Fin 1024 → EReal) (p0 : Fin 1024 → EReal) (j : Fin 1024) : EReal := a0 j * (a1 j * rs a1)

def val6 (x0 : FVec Ideal S4096x1024 .f32) (x1 : FVec Ideal S4096x1024 .f32) (x2 : FVec Ideal S1024 .f32) (x3 : FVec Ideal S4096x1024 .f32) (r : Fin 4096) (j : Fin 1024) : EReal :=
  f6 (fun k : Fin 1024 => x0 (ix2 r k)) (fun k : Fin 1024 => x1 (ix2 r k)) (fun k : Fin 1024 => x3 (ix2 r k)) (fun k : Fin 1024 => x2 (ix1 k)) j

theorem pay_6 (a0 : FVec Ideal S512x1024 .f32) (a1 : FVec Ideal S512x1024 .f32) (a2 : FVec Ideal S512x1024 .f32) (p0 : FVec Ideal S1x1024 .f32) (acc : FVec Ideal S1x1024 .f32) (j : Fin 1024) :
    (k0_pay3 (F := Ideal) (k0_pay8 a0 a1) acc (ix2 0 j) : EReal) = acc (ix2 0 j) + ∑ i : Fin 512, f6 (fun k => a0 (ix2 i k)) (fun k => a1 (ix2 i k)) (fun k => a2 (ix2 i k)) (fun k => p0 (ix2 0 k)) j := by
  unfold f6
  pointwise [k0_pay3, k0_pay5, k0_pay6, k0_pay7, k0_pay8, k0_pay9, k0_pay10]
  unfold rs; rfl

theorem zero6 (j : Fin 1024) : (k0_pay1 (F := Ideal) (ix2 0 j) : EReal) = 0 := by
  pointwise [k0_pay1]

/-- The summand of a row, by the row's number. -/
def num6 (j : Fin 1024) (r : ℕ) : EReal := if h : r < 4096 then val6 (m ((c : Thread nD τ).loc main_arg0)) (m ((c : Thread nD τ).loc main_arg1)) (m ((c : Thread nD τ).loc main_arg2)) (m ((c : Thread nD τ).loc main_arg3)) ⟨r, h⟩ j else 0

theorem add6 (t : Fin cfg0.N) (acc : FVec Ideal S1x1024 .f32) (j : Fin 1024) :
    (k0_pay3 (F := Ideal) (k0_pay8 (iblk m c 0 t) (iblk m c 1 t)) acc (ix2 0 j) : EReal) = acc (ix2 0 j) + ∑ i ∈ Finset.range 512, num6 m c j (t.val * 512 + i) := by
  have hN : t.val < 8 := t.isLt
  rw [Finset.sum_range]
  refine (pay_6 (iblk m c 0 t) (iblk m c 1 t) (iblk m c 2 t) (iblk m c 3 t) acc j).trans (congrArg (fun b : EReal => (acc (ix2 0 j) : EReal) + b) (Finset.sum_congr rfl fun i _ => ?_))
  have hr : t.val * 512 + i.val < 4096 := by have := i.isLt; omega
  refine Eq.trans ?_ (dif_pos hr).symm
  exact congrFun (congr (congr (congr (congrArg (f6) (funext fun k => in0 m c t i ⟨t.val * 512 + i.val, hr⟩ rfl k)) (funext fun k => in1 m c t i ⟨t.val * 512 + i.val, hr⟩ rfl k)) (funext fun k => in2 m c t i ⟨t.val * 512 + i.val, hr⟩ rfl k)) (funext fun k => in3 m c t k)) j

theorem acc6 (j : Fin 1024) : ∀ (n : ℕ) (hn : n < cfg0.N), ((outsAt0 m c n hn).2.2.1 : FVec Ideal S1x1024 .f32) (ix2 0 j)
    = ∑ r ∈ Finset.range ((n + 1) * 512), num6 m c j r
  | 0, hn => by
    rw [at6_A m c ⟨0, hn⟩ rfl, add6 m c ⟨0, hn⟩, zero6, zero_add]
    simp only [Nat.zero_mul, Nat.zero_add, Nat.one_mul]
  | n + 1, hn => by
    have hN : n + 1 < 8 := hn
    have ih := acc6 j n (Nat.lt_of_succ_lt hn)
    have h0 : ¬ (⟨n + 1, hn⟩ : Fin cfg0.N).val % 8 = 0 := by show ¬ (n + 1) % 8 = 0; omega
    rw [Nat.succ_mul (n + 1), Finset.sum_range_add, ← ih, at6_B m c ⟨n + 1, hn⟩ h0, add6 m c ⟨n + 1, hn⟩]
    rfl

theorem final6 : ((dats m 0 c).arrAt 6 cfg0.N : FVec Ideal S1x1024 .f32)
    = fun i => (∑ r : Fin 4096, val6 (m ((c : Thread nD τ).loc main_arg0)) (m ((c : Thread nD τ).loc main_arg1)) (m ((c : Thread nD τ).loc main_arg2)) (m ((c : Thread nD τ).loc main_arg3)) r (i 1) : EReal) := by
  refine (dats m 0 c).arrAt_eq_of_covers 6 _ (by decide +kernel) fun t hf y => ?_
  blk_simp
  rw [after0_6]
  have e1 : (win0_6.blk t).view.emb y 1 = (y : S1x1024.Idx) 1 := Fin.ext (by blk_simp [(idx t).2.2.2.2.2.2.1])
  have ht : t.val % 8 = 7 := (flush0_6 t).mp hf
  have hN : t.val < 8 := t.isLt
  have h := acc6 m c ((y : S1x1024.Idx) 1) t.val t.isLt
  rw [(by omega : (t.val + 1) * 512 = 4096), Finset.sum_range] at h
  rw [e1]
  refine (congrArg (fun z : S1x1024.Idx => ((outsAt0 m c t.val t.isLt).2.2.1 : FVec Ideal S1x1024 .f32) z) (etas y)).trans (h.trans (Finset.sum_congr rfl fun r _ => ?_))
  exact dif_pos r.isLt

theorem at7_A (t : Fin cfg0.N) (h0 : t.val % 8 = 0) : (outsAt0 m c t.val t.isLt).2.2.2 = k0_pay4 (F := Ideal) (k0_pay9 (iblk m c 0 t) (iblk m c 1 t) (iblk m c 2 t) (iblk m c 3 t)) (k0_pay2 (F := Ideal)) := by
  rw [outsAt0_A m c t h0]
  dsimp only
  unfold out0_A_7
  rw [View.read_writes_eq_canon _ _ _ (fun y => by apply cover0_A_7)]
  unfold kernelRun0_A
  dsimp only
  sl_unfold_words
  rw [View.canon_cons_unit_zero (S := S1x1024) z2, View.readCov_unit_zero (S := S1x1024) _ z2]
  simp only [View.readAt_eq_ld, (hs0_0 t).read_unread, (hs0_1 t).read_unread, (hs0_2 t).read_unread, (hs0_3 t).read_unread, (hs0_6 t).read_unread, (hs0_7 t).read_unread, View.ld_unit_zero (S := S1x1024) z2, View.ld_unit_zero (S := S512x1024) z2, shapeCast_self]

theorem at7_B (t : Fin cfg0.N) (h0 : ¬ t.val % 8 = 0) : (outsAt0 m c t.val t.isLt).2.2.2 = k0_pay4 (F := Ideal) (k0_pay9 (iblk m c 0 t) (iblk m c 1 t) (iblk m c 2 t) (iblk m c 3 t)) (outsAt0 m c (t.val - 1) (Nat.lt_of_le_of_lt (Nat.sub_le _ _) t.isLt)).2.2.2 := by
  rw [outsAt0_B m c t h0]
  dsimp only
  unfold out0_B_7
  rw [View.read_writes_eq_canon _ _ _ (fun y => by apply cover0_B_7)]
  unfold kernelRun0_B
  dsimp only
  sl_unfold_words
  rw [View.canon_unit_zero (S := S1x1024) z2]
  simp only [View.readAt_eq_ld, (hs0_0 t).read_unread, (hs0_1 t).read_unread, (hs0_2 t).read_unread, (hs0_3 t).read_unread, (hs0_6 t).read_unread, (hs0_7 t).read_unread, View.ld_unit_zero (S := S1x1024) z2, View.ld_unit_zero (S := S512x1024) z2, shapeCast_self]

/-- The summand of result 3, from a row of the inputs. -/
def f7 (a0 : Fin 1024 → EReal) (a1 : Fin 1024 → EReal) (a2 : Fin 1024 → EReal) (p0 : Fin 1024 → EReal) (j : Fin 1024) : EReal := tot a0 a1 a2 p0 j

def val7 (x0 : FVec Ideal S4096x1024 .f32) (x1 : FVec Ideal S4096x1024 .f32) (x2 : FVec Ideal S1024 .f32) (x3 : FVec Ideal S4096x1024 .f32) (r : Fin 4096) (j : Fin 1024) : EReal :=
  f7 (fun k : Fin 1024 => x0 (ix2 r k)) (fun k : Fin 1024 => x1 (ix2 r k)) (fun k : Fin 1024 => x3 (ix2 r k)) (fun k : Fin 1024 => x2 (ix1 k)) j

theorem pay_7 (a0 : FVec Ideal S512x1024 .f32) (a1 : FVec Ideal S512x1024 .f32) (a2 : FVec Ideal S512x1024 .f32) (p0 : FVec Ideal S1x1024 .f32) (acc : FVec Ideal S1x1024 .f32) (j : Fin 1024) :
    (k0_pay4 (F := Ideal) (k0_pay9 a0 a1 a2 p0) acc (ix2 0 j) : EReal) = acc (ix2 0 j) + ∑ i : Fin 512, f7 (fun k => a0 (ix2 i k)) (fun k => a1 (ix2 i k)) (fun k => a2 (ix2 i k)) (fun k => p0 (ix2 0 k)) j := by
  unfold f7
  pointwise [k0_pay4, k0_pay5, k0_pay6, k0_pay7, k0_pay8, k0_pay9, k0_pay10]
  unfold tot rs; rfl

theorem zero7 (j : Fin 1024) : (k0_pay2 (F := Ideal) (ix2 0 j) : EReal) = 0 := by
  pointwise [k0_pay2]

/-- The summand of a row, by the row's number. -/
def num7 (j : Fin 1024) (r : ℕ) : EReal := if h : r < 4096 then val7 (m ((c : Thread nD τ).loc main_arg0)) (m ((c : Thread nD τ).loc main_arg1)) (m ((c : Thread nD τ).loc main_arg2)) (m ((c : Thread nD τ).loc main_arg3)) ⟨r, h⟩ j else 0

theorem add7 (t : Fin cfg0.N) (acc : FVec Ideal S1x1024 .f32) (j : Fin 1024) :
    (k0_pay4 (F := Ideal) (k0_pay9 (iblk m c 0 t) (iblk m c 1 t) (iblk m c 2 t) (iblk m c 3 t)) acc (ix2 0 j) : EReal) = acc (ix2 0 j) + ∑ i ∈ Finset.range 512, num7 m c j (t.val * 512 + i) := by
  have hN : t.val < 8 := t.isLt
  rw [Finset.sum_range]
  refine (pay_7 (iblk m c 0 t) (iblk m c 1 t) (iblk m c 2 t) (iblk m c 3 t) acc j).trans (congrArg (fun b : EReal => (acc (ix2 0 j) : EReal) + b) (Finset.sum_congr rfl fun i _ => ?_))
  have hr : t.val * 512 + i.val < 4096 := by have := i.isLt; omega
  refine Eq.trans ?_ (dif_pos hr).symm
  exact congrFun (congr (congr (congr (congrArg (f7) (funext fun k => in0 m c t i ⟨t.val * 512 + i.val, hr⟩ rfl k)) (funext fun k => in1 m c t i ⟨t.val * 512 + i.val, hr⟩ rfl k)) (funext fun k => in2 m c t i ⟨t.val * 512 + i.val, hr⟩ rfl k)) (funext fun k => in3 m c t k)) j

theorem acc7 (j : Fin 1024) : ∀ (n : ℕ) (hn : n < cfg0.N), ((outsAt0 m c n hn).2.2.2 : FVec Ideal S1x1024 .f32) (ix2 0 j)
    = ∑ r ∈ Finset.range ((n + 1) * 512), num7 m c j r
  | 0, hn => by
    rw [at7_A m c ⟨0, hn⟩ rfl, add7 m c ⟨0, hn⟩, zero7, zero_add]
    simp only [Nat.zero_mul, Nat.zero_add, Nat.one_mul]
  | n + 1, hn => by
    have hN : n + 1 < 8 := hn
    have ih := acc7 j n (Nat.lt_of_succ_lt hn)
    have h0 : ¬ (⟨n + 1, hn⟩ : Fin cfg0.N).val % 8 = 0 := by show ¬ (n + 1) % 8 = 0; omega
    rw [Nat.succ_mul (n + 1), Finset.sum_range_add, ← ih, at7_B m c ⟨n + 1, hn⟩ h0, add7 m c ⟨n + 1, hn⟩]
    rfl

theorem final7 : ((dats m 0 c).arrAt 7 cfg0.N : FVec Ideal S1x1024 .f32)
    = fun i => (∑ r : Fin 4096, val7 (m ((c : Thread nD τ).loc main_arg0)) (m ((c : Thread nD τ).loc main_arg1)) (m ((c : Thread nD τ).loc main_arg2)) (m ((c : Thread nD τ).loc main_arg3)) r (i 1) : EReal) := by
  refine (dats m 0 c).arrAt_eq_of_covers 7 _ (by decide +kernel) fun t hf y => ?_
  blk_simp
  rw [after0_7]
  have e1 : (win0_7.blk t).view.emb y 1 = (y : S1x1024.Idx) 1 := Fin.ext (by blk_simp [(idx t).2.2.2.2.2.2.2])
  have ht : t.val % 8 = 7 := (flush0_7 t).mp hf
  have hN : t.val < 8 := t.isLt
  have h := acc7 m c ((y : S1x1024.Idx) 1) t.val t.isLt
  rw [(by omega : (t.val + 1) * 512 = 4096), Finset.sum_range] at h
  rw [e1]
  refine (congrArg (fun z : S1x1024.Idx => ((outsAt0 m c t.val t.isLt).2.2.2 : FVec Ideal S1x1024 .f32) z) (etas y)).trans (h.trans (Finset.sum_congr rfl fun r _ => ?_))
  exact dif_pos r.isLt

end Kernel

section Reference

open Cert.ReferenceRmsBwdIdeal Cert.ReferenceRmsBwdIdeal.Gen

theorem etar1024 (y : S4096x1024.Idx) : y = ix2 (y 0 : Fin 4096) (y 1 : Fin 1024) := by funext k; fin_cases k <;> rfl

theorem etasr (y : S1x1024.Idx) : y = ix2 0 (y 1 : Fin 1024) := by
  funext k; fin_cases k
  · first | exact Subsingleton.elim (α := Fin 1) _ _ | rfl
  · rfl

theorem ref4 (x0 : FVec Ideal S4096x1024 .f32) (x1 : FVec Ideal S4096x1024 .f32) (x2 : FVec Ideal S1024 .f32) (x3 : FVec Ideal S4096x1024 .f32) :
    (addf x3 (addf (addf (mulf (mulf x0 (broadcastInDim S4096x1024 ![0, 1] bcast_S1x1024_S4096x1024_0_1 (broadcastInDim S1x1024 ![1] bcast_S1024_S1x1024_1 x2))) (broadcastInDim S4096x1024 ![0, 1] bcast_S4096x1_S4096x1024_0_1 (Host.rsqrt (addf (Host.divf (broadcastInDim S4096x1 ![0] bcast_S4096_S4096x1_0 (Host.reduceAdd (mulf x1 x1) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf x1 (broadcastInDim S4096x1024 ![0] bcast_S4096_S4096x1024_0 (Host.reduceAdd (Host.divf (mulf (shapeCast _ (Host.reduceAdd (mulf x1 (mulf x0 (broadcastInDim S4096x1024 ![0, 1] bcast_S1x1024_S4096x1024_0_1 (broadcastInDim S1x1024 ![1] bcast_S1024_S1x1024_1 x2)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x1 x1) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x1 x1) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf x1 (mulf x0 (broadcastInDim S4096x1024 ![0, 1] bcast_S1x1024_S4096x1024_0_1 (broadcastInDim S1x1024 ![1] bcast_S1024_S1x1024_1 x2)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x1 x1) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf x1 x1) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) x1)) : FVec Ideal S4096x1024 .f32)
      = fun i => val4 x0 x1 x2 x3 (i 0) (i 1) := by
  funext y
  rw [etar1024 y]
  generalize (y : S4096x1024.Idx) 0 = i
  generalize (y : S4096x1024.Idx) 1 = j
  revert i j; intro (i : Fin 4096) (j : Fin 1024)
  unfold val4 f4
  pointwise
  simp only [Finset.univ_unique, Finset.sum_singleton]
  exact step (fun k => x0 (ix2 i k)) (fun k => x1 (ix2 i k)) (fun k => x3 (ix2 i k)) (fun k => x2 (ix1 k)) j

theorem ref5 (x0 : FVec Ideal S4096x1024 .f32) (x1 : FVec Ideal S4096x1024 .f32) (x2 : FVec Ideal S1024 .f32) (x3 : FVec Ideal S4096x1024 .f32) (X : FVec Ideal S4096x1024 .f32)
    (h : X = fun i => val4 x0 x1 x2 x3 (i 0) (i 1)) : (truncf .bf16 X bitsLt_bf16_f32 : FVec Ideal S4096x1024 .bf16) = fun i => val5 x0 x1 x2 x3 (i 0) (i 1) := h

theorem ref6 (x0 : FVec Ideal S4096x1024 .f32) (x1 : FVec Ideal S4096x1024 .f32) (x2 : FVec Ideal S1024 .f32) (x3 : FVec Ideal S4096x1024 .f32) :
    (broadcastInDim S1x1024 ![1] bcast_S1024_S1x1024_1 (Host.reduceAdd (shapeCast _ (Host.reduceAdd (mulf (mulf x1 (broadcastInDim S4096x1024 ![0, 1] bcast_S4096x1_S4096x1024_0_1 (Host.rsqrt (addf (Host.divf (broadcastInDim S4096x1 ![0] bcast_S4096_S4096x1_0 (Host.reduceAdd (mulf x1 x1) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) x0) (constant S_ .f32 0x00000000#32) reducesTo_S4096x1024_S1024_d0 h_S_) shapeCasts_S1024_S1x1024) (constant S_ .f32 0x00000000#32) reducesTo_S1x1024_S1024_d0 h_S_) : FVec Ideal S1x1024 .f32)
      = fun i => ∑ r : Fin 4096, val6 x0 x1 x2 x3 r (i 1) := by
  funext y
  rw [etasr y]
  generalize (y : S1x1024.Idx) 1 = j
  revert j; intro (j : Fin 1024)
  unfold val6 f6
  pointwise
  simp only [Finset.univ_unique, Finset.sum_singleton]
  exact Finset.sum_congr rfl fun r _ => mul_comm (G := EReal) _ _

theorem ref7 (m : (ℓ : Loc nD τ sig) → Buf (Elt Ideal) ℓ) (c : Dev nD) :
    (Cert.ReferenceRmsBwdIdeal.Value.res_main_v40 m c : FVec Ideal S1x1024 .f32)
      = fun i => ∑ r : Fin 4096, val7 (m ((c.tc : Thread nD τ).loc main_arg0)) (m ((c.tc : Thread nD τ).loc main_arg1)) (m ((c.tc : Thread nD τ).loc main_arg2)) (m ((c.tc : Thread nD τ).loc main_arg3)) r (i 1) := by
  funext y
  rw [etasr y]
  generalize (y : S1x1024.Idx) 1 = j
  revert j; intro (j : Fin 1024)
  unfold val7 f7
  pointwise [Cert.ReferenceRmsBwdIdeal.Value.res_main_v40]
  refine (Finset.sum_congr rfl fun r _ => ?_ : (∑ r : Fin 4096, (_ : EReal)) = _)
  simp only [Finset.univ_unique, Finset.sum_singleton]
  exact step (fun k => (m ((c.tc : Thread nD τ).loc main_arg0) : FVec Ideal S4096x1024 .f32) (ix2 r k)) (fun k => (m ((c.tc : Thread nD τ).loc main_arg1) : FVec Ideal S4096x1024 .f32) (ix2 r k)) (fun k => (m ((c.tc : Thread nD τ).loc main_arg3) : FVec Ideal S4096x1024 .f32) (ix2 r k)) (fun k => (m ((c.tc : Thread nD τ).loc main_arg2) : FVec Ideal S1024 .f32) (ix1 k)) j

end Reference

end Mlp.RmsBwd

end
-- ==== Proof.Mlp.SiluBwd.lean ====
/- The backward pass of the SiLU: the call and the reference as functions of the inputs. -/
module

public import proofs.«01_k».proof.Proof.Gen.KernelSiluBwdIdeal.Value
public import proofs.«01_k».proof.Proof.Gen.ReferenceSiluBwdIdeal.Run
public import proofs.«01_k».proof.Proof.Mlp.Base
public import proofs.«01_k».proof.Proof.Mlp.Reals

@[expose] public section

set_option maxRecDepth 16384

noncomputable section

namespace Mlp.SiluBwd

open Idealize.ShloMosaic Idealize.ShloMosaic.TcCoe Idealize.SL.Sem

section Kernel

open Cert.KernelSiluBwdIdeal Cert.KernelSiluBwdIdeal.Gen

theorem eta4096 (y : S256x4096.Idx) : y = ix2 (y 0) (y 1) := by funext k; fin_cases k <;> rfl

/-- The block of each window at a point. -/
theorem idx : ∀ t : Fin cfg0.N, win0_0.index t = ![t.val, 0] ∧ win0_1.index t = ![t.val, 0] ∧ win0_2.index t = ![t.val, 0] :=
  (by decide +kernel : ∀ t : Fin grid0.N, _)

variable (m : (ℓ : Loc nD τ sig) → Buf (Elt Ideal) ℓ) (c : Dev nD)

theorem in0 (t : Fin cfg0.N) (i : Fin 256) (r : Fin 4096) (hr : r.val = t.val * 256 + i) (k : Fin 4096) :
    (iblk m c 0 t : FVec Ideal S256x4096 .f32) (ix2 i k) = (m ((c : Thread nD τ).loc main_arg0) : FVec Ideal S4096x4096 .f32) (ix2 r k) := by
  blk_simp [iblk]
  entry_read
  refine congrArg (m _) (funext fun a => Fin.ext ?_)
  fin_cases a <;> blk_simp [idx t] <;> simp [hr]

theorem in1 (t : Fin cfg0.N) (i : Fin 256) (r : Fin 4096) (hr : r.val = t.val * 256 + i) (k : Fin 4096) :
    (iblk m c 1 t : FVec Ideal S256x4096 .f32) (ix2 i k) = (m ((c : Thread nD τ).loc main_arg1) : FVec Ideal S4096x4096 .f32) (ix2 r k) := by
  blk_simp [iblk]
  entry_read
  refine congrArg (m _) (funext fun a => Fin.ext ?_)
  fin_cases a <;> blk_simp [idx t] <;> simp [hr]

/-- The logistic function. -/
def logistic (x : EReal) : EReal := Ideal.div 1 (1 + Ideal.exp (-x))

/-- A row of result 0, from the rows of the inputs. -/
def f2 (a0 : Fin 4096 → EReal) (a1 : Fin 4096 → EReal) (j : Fin 4096) : EReal := a0 j * (logistic (a1 j) * (1 + a1 j * (1 - logistic (a1 j))))

theorem pay_2 (a0 : FVec Ideal S256x4096 .f32) (a1 : FVec Ideal S256x4096 .f32) (i : Fin 256) (j : Fin 4096) :
    (k0_pay1 (F := Ideal) a0 a1 (ix2 i j) : EReal) = f2 (fun k => a0 (ix2 i k)) (fun k => a1 (ix2 i k))  j := by
  unfold f2
  pointwise [k0_pay1]
  unfold logistic; simp only [zero_sub]

/-- Result 0 at an index. -/
def val2 (x0 : FVec Ideal S4096x4096 .f32) (x1 : FVec Ideal S4096x4096 .f32) (r : Fin 4096) (j : Fin 4096) : EReal :=
  f2 (fun k : Fin 4096 => x0 (ix2 r k)) (fun k : Fin 4096 => x1 (ix2 r k)) j

theorem out2 (t : Fin cfg0.N) (i : Fin 256) (r : Fin 4096) (hr : r.val = t.val * 256 + i) (j q : Fin 4096) (hq : q.val = j) :
    (k0_pay1 (F := Ideal) (iblk m c 0 t) (iblk m c 1 t) (ix2 i j) : EReal) = val2 (m ((c : Thread nD τ).loc main_arg0)) (m ((c : Thread nD τ).loc main_arg1)) r q := by
  obtain rfl := Fin.ext hq
  exact (pay_2 (iblk m c 0 t) (iblk m c 1 t) i q).trans (congrFun (congr (congrArg (f2) (funext fun k => in0 m c t i r hr k)) (funext fun k => in1 m c t i r hr k)) q)

theorem final2 : ((dats m 0 c).arrAt 2 cfg0.N : FVec Ideal S4096x4096 .f32)
    = fun i => (val2 (m ((c : Thread nD τ).loc main_arg0)) (m ((c : Thread nD τ).loc main_arg1)) (i 0) (i 1) : EReal) := by
  refine (dats m 0 c).arrAt_eq_of_covers 2 _ (by decide +kernel) fun t hf y => ?_
  blk_simp
  rw [after0_2]
  have e0 : ((win0_2.blk t).view.emb y 0 : ℕ) = t.val * 256 + (y 0 : ℕ) := by blk_simp [(idx t).2.2]
  have e1 : ((win0_2.blk t).view.emb y 1 : ℕ) = (y 1 : ℕ) := by blk_simp [(idx t).2.2]
  unfold out0_2
  rw [View.canon_unit_zero (S := S256x4096) z2, View.ld_unit_zero (S := S256x4096) z2, View.ld_unit_zero (S := S256x4096) z2]
  refine Eq.trans (congrArg (k0_pay1 (F := Ideal) (iblk m c 0 t) (iblk m c 1 t)) (eta4096 y)) ?_
  exact out2 m c t ((y : S256x4096.Idx) 0) _ e0 ((y : S256x4096.Idx) 1) _ e1

end Kernel

section Reference

open Cert.ReferenceSiluBwdIdeal Cert.ReferenceSiluBwdIdeal.Gen

theorem etar4096 (y : S4096x4096.Idx) : y = ix2 (y 0 : Fin 4096) (y 1 : Fin 4096) := by funext k; fin_cases k <;> rfl

theorem ref2 (x0 : FVec Ideal S4096x4096 .f32) (x1 : FVec Ideal S4096x4096 .f32)
    (X0 : Fin 4096 → Fin 4096 → ℝ)
    (X1 : Fin 4096 → Fin 4096 → ℝ)
    (h0 : ∀ i j, ((x0 : FVec Ideal S4096x4096 .f32) (ix2 i j) : EReal) = ((X0 i j : ℝ) : EReal))
    (h1 : ∀ i j, ((x1 : FVec Ideal S4096x4096 .f32) (ix2 i j) : EReal) = ((X1 i j : ℝ) : EReal)) :
    (addf (mulf x0 (Host.divf (broadcastInDim S4096x4096 ![] bcast_S_S4096x4096 (constant S_ .f32 0x3F800000#32)) (addf (broadcastInDim S4096x4096 ![] bcast_S_S4096x4096 (constant S_ .f32 0x3F800000#32)) (Host.exp (Host.negf x1))))) (mulf (mulf x1 x0) (mulf (Host.divf (broadcastInDim S4096x4096 ![] bcast_S_S4096x4096 (constant S_ .f32 0x3F800000#32)) (addf (broadcastInDim S4096x4096 ![] bcast_S_S4096x4096 (constant S_ .f32 0x3F800000#32)) (Host.exp (Host.negf x1)))) (subf (broadcastInDim S4096x4096 ![] bcast_S_S4096x4096 (constant S_ .f32 0x3F800000#32)) (Host.divf (broadcastInDim S4096x4096 ![] bcast_S_S4096x4096 (constant S_ .f32 0x3F800000#32)) (addf (broadcastInDim S4096x4096 ![] bcast_S_S4096x4096 (constant S_ .f32 0x3F800000#32)) (Host.exp (Host.negf x1))))))) : FVec Ideal S4096x4096 .f32)
      = fun i => val2 x0 x1 (i 0) (i 1) := by
  funext y
  rw [etar4096 y]
  generalize (y : S4096x4096.Idx) 0 = i
  generalize (y : S4096x4096.Idx) 1 = j
  revert i j; intro (i : Fin 4096) (j : Fin 4096)
  unfold val2 f2
  pointwise
  unfold logistic
  simp only [h0, h1, Attn.one_coe, Attn.coe_neg, Attn.exp_coe, Attn.coe_add, Reals.sig, Attn.coe_sub, Attn.coe_mul]
  exact congrArg Real.toEReal (by ring)

end Reference

end Mlp.SiluBwd

end
-- ==== Proof.Mlp.LnBwd.lean ====
/- The backward pass of the norm with SiLU: the call and the reference as functions of the inputs. -/
module

public import proofs.«01_k».proof.Proof.Gen.KernelLnBwdIdeal.Value
public import proofs.«01_k».proof.Proof.Gen.ReferenceLnBwdIdeal.Run
public import proofs.«01_k».proof.Proof.Mlp.Base
public import proofs.«01_k».proof.Proof.Mlp.Reals

@[expose] public section

set_option maxRecDepth 16384

noncomputable section

namespace Mlp.LnBwd

open Idealize.ShloMosaic Idealize.ShloMosaic.TcCoe Idealize.SL.Sem

section Kernel

open Cert.KernelLnBwdIdeal Cert.KernelLnBwdIdeal.Gen

theorem eta1024 (y : S1024x1024.Idx) : y = ix2 (y 0) (y 1) := by funext k; fin_cases k <;> rfl

/-- The block of each window at a point. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![0, 0] ∧ win0_6.index t = ![0, 0] :=
  (by decide +kernel : ∀ t : Fin grid0.N, _)

variable (m : (ℓ : Loc nD τ sig) → Buf (Elt Ideal) ℓ) (c : Dev nD)

theorem in0 (t : Fin cfg0.N) (i : Fin 1024) (r : Fin 4096) (hr : r.val = t.val * 1024 + i) (k : Fin 1024) :
    (iblk m c 0 t : FVec Ideal S1024x1024 .f32) (ix2 i k) = (m ((c : Thread nD τ).loc main_arg0) : FVec Ideal S4096x1024 .f32) (ix2 r k) := by
  blk_simp [iblk]
  entry_read
  refine congrArg (m _) (funext fun a => Fin.ext ?_)
  fin_cases a <;> blk_simp [idx t] <;> simp [hr]

theorem in1 (t : Fin cfg0.N) (i : Fin 1024) (r : Fin 4096) (hr : r.val = t.val * 1024 + i) (k : Fin 1024) :
    (iblk m c 1 t : FVec Ideal S1024x1024 .f32) (ix2 i k) = (m ((c : Thread nD τ).loc main_arg1) : FVec Ideal S4096x1024 .f32) (ix2 r k) := by
  blk_simp [iblk]
  entry_read
  refine congrArg (m _) (funext fun a => Fin.ext ?_)
  fin_cases a <;> blk_simp [idx t] <;> simp [hr]

theorem in2 (t : Fin cfg0.N) (k : Fin 1024) :
    (iblk m c 2 t : FVec Ideal S1x1024 .f32) (ix2 0 k) = (m ((c : Thread nD τ).loc main_arg2) : FVec Ideal S1024 .f32) (ix1 k) := by
  blk_simp [iblk]
  entry_read
  pointwise
  refine congrArg (m _) (congrArg ix1 (Fin.ext ?_)) <;> blk_simp [idx t] <;> (try omega)

theorem in3 (t : Fin cfg0.N) (k : Fin 1024) :
    (iblk m c 3 t : FVec Ideal S1x1024 .f32) (ix2 0 k) = (m ((c : Thread nD τ).loc main_arg3) : FVec Ideal S1024 .f32) (ix1 k) := by
  blk_simp [iblk]
  entry_read
  pointwise
  refine congrArg (m _) (congrArg ix1 (Fin.ext ?_)) <;> blk_simp [idx t] <;> (try omega)

/-- The logistic function. -/
def logistic (x : EReal) : EReal := Ideal.div 1 (1 + Ideal.exp (-x))

/-- The mean of a row, its mean square about the mean, and the row normalised. -/
def mean (a : Fin 1024 → EReal) : EReal := Ideal.div (∑ k, a k) (Ideal.ofBits .f32 0x44800000#32 : EReal)
def rs (a : Fin 1024 → EReal) : EReal := Ideal.rsqrt (Ideal.div (∑ k, (a k - mean a) * (a k - mean a)) (Ideal.ofBits .f32 0x44800000#32 : EReal) + (Ideal.ofBits .f32 0x358637BD#32 : EReal))
def hat (a : Fin 1024 → EReal) (j : Fin 1024) : EReal := (a j - mean a) * rs a
/-- The gradient before the SiLU, and scaled by the gain. -/
def act (d a g b : Fin 1024 → EReal) (j : Fin 1024) : EReal :=
  d j * (logistic (hat a j * g j + b j) * (1 + (hat a j * g j + b j) * (1 - logistic (hat a j * g j + b j))))
def sc (d a g b : Fin 1024 → EReal) (j : Fin 1024) : EReal := act d a g b j * g j

/-- A row of result 0, from the rows of the inputs. -/
def f4 (a0 : Fin 1024 → EReal) (a1 : Fin 1024 → EReal) (p0 : Fin 1024 → EReal) (p1 : Fin 1024 → EReal) (j : Fin 1024) : EReal := rs a1 * (sc a0 a1 p0 p1 j - mean (sc a0 a1 p0 p1) - hat a1 j * mean (fun k => sc a0 a1 p0 p1 k * hat a1 k))

theorem pay_4 (a0 : FVec Ideal S1024x1024 .f32) (a1 : FVec Ideal S1024x1024 .f32) (p0 : FVec Ideal S1x1024 .f32) (p1 : FVec Ideal S1x1024 .f32) (i : Fin 1024) (j : Fin 1024) :
    (k0_pay1 (F := Ideal) (k0_pay8 a1) (k0_pay9 a1) (k0_pay10 a0 a1 p0 p1) (k0_pay11 p0) (ix2 i j) : EReal) = f4 (fun k => a0 (ix2 i k)) (fun k => a1 (ix2 i k)) (fun k => p0 (ix2 0 k)) (fun k => p1 (ix2 0 k)) j := by
  unfold f4
  pointwise [k0_pay1, k0_pay6, k0_pay7, k0_pay8, k0_pay9, k0_pay10, k0_pay11]
  unfold sc act hat logistic; simp only [zero_sub] <;> rfl

/-- Result 0 at an index. -/
def val4 (x0 : FVec Ideal S4096x1024 .f32) (x1 : FVec Ideal S4096x1024 .f32) (x2 : FVec Ideal S1024 .f32) (x3 : FVec Ideal S1024 .f32) (r : Fin 4096) (j : Fin 1024) : EReal :=
  f4 (fun k : Fin 1024 => x0 (ix2 r k)) (fun k : Fin 1024 => x1 (ix2 r k)) (fun k : Fin 1024 => x2 (ix1 k)) (fun k : Fin 1024 => x3 (ix1 k)) j

/-- Result 0's block at a point. -/
abbrev o4 (t : Fin cfg0.N) : FVec Ideal S1024x1024 .f32 := k0_pay1 (F := Ideal) (k0_pay8 (iblk m c 1 t)) (k0_pay9 (iblk m c 1 t)) (k0_pay10 (iblk m c 0 t) (iblk m c 1 t) (iblk m c 2 t) (iblk m c 3 t)) (k0_pay11 (iblk m c 2 t))

theorem out4 (t : Fin cfg0.N) (i : Fin 1024) (r : Fin 4096) (hr : r.val = t.val * 1024 + i) (j q : Fin 1024) (hq : q.val = j) :
    (o4 m c t (ix2 i j) : EReal) = val4 (m ((c : Thread nD τ).loc main_arg0)) (m ((c : Thread nD τ).loc main_arg1)) (m ((c : Thread nD τ).loc main_arg2)) (m ((c : Thread nD τ).loc main_arg3)) r q := by
  obtain rfl := Fin.ext hq
  exact (pay_4 (iblk m c 0 t) (iblk m c 1 t) (iblk m c 2 t) (iblk m c 3 t) i q).trans (congrFun (congr (congr (congr (congrArg (f4) (funext fun k => in0 m c t i r hr k)) (funext fun k => in1 m c t i r hr k)) (funext fun k => in2 m c t k)) (funext fun k => in3 m c t k)) q)

theorem at4 (t : Fin cfg0.N) : (outsAt0 m c t.val t.isLt).1 = o4 m c t := by
  by_cases h0 : t.val % 4 = 0
  all_goals
    first
      | rw [outsAt0_A m c t h0]; dsimp only; unfold out0_A_4
        rw [View.read_writes_eq_canon _ _ _ (fun y => by apply cover0_A_4)]; unfold kernelRun0_A
      | rw [outsAt0_B m c t h0]; dsimp only; unfold out0_B_4
        rw [View.read_writes_eq_canon _ _ _ (fun y => by apply cover0_B_4)]; unfold kernelRun0_B
    dsimp only
    sl_unfold_words
    rw [View.canon_unit_zero (S := S1024x1024) z2]
    simp only [o4, View.readAt_eq_ld, (hs0_0 t).read_unread, (hs0_1 t).read_unread, (hs0_2 t).read_unread, (hs0_3 t).read_unread, (hs0_5 t).read_unread, (hs0_6 t).read_unread, View.ld_unit_zero (S := S1x1024) z2, View.ld_unit_zero (S := S1024x1024) z2, shapeCast_self]

theorem final4 : ((dats m 0 c).arrAt 4 cfg0.N : FVec Ideal S4096x1024 .f32)
    = fun i => (val4 (m ((c : Thread nD τ).loc main_arg0)) (m ((c : Thread nD τ).loc main_arg1)) (m ((c : Thread nD τ).loc main_arg2)) (m ((c : Thread nD τ).loc main_arg3)) (i 0) (i 1) : EReal) := by
  refine (dats m 0 c).arrAt_eq_of_covers 4 _ (by decide +kernel) fun t hf y => ?_
  blk_simp
  rw [after0_4]
  have e0 : ((win0_4.blk t).view.emb y 0 : ℕ) = t.val * 1024 + (y 0 : ℕ) := by blk_simp [(idx t).2.2.2.2.1]
  have e1 : ((win0_4.blk t).view.emb y 1 : ℕ) = (y 1 : ℕ) := by blk_simp [(idx t).2.2.2.2.1]
  rw [at4 m c t]
  refine Eq.trans (congrArg (o4 m c t) (eta1024 y)) ?_
  exact out4 m c t ((y : S1024x1024.Idx) 0) _ e0 ((y : S1024x1024.Idx) 1) _ e1

theorem etas (y : S1x1024.Idx) : y = ix2 0 (y 1) := by
  funext k; fin_cases k
  · first | exact Subsingleton.elim (α := Fin 1) _ _ | rfl
  · rfl

theorem at5_A (t : Fin cfg0.N) (h0 : t.val % 4 = 0) : (outsAt0 m c t.val t.isLt).2.1 = k0_pay4 (F := Ideal) (k0_pay9 (iblk m c 1 t)) (k0_pay10 (iblk m c 0 t) (iblk m c 1 t) (iblk m c 2 t) (iblk m c 3 t)) (k0_pay2 (F := Ideal)) := by
  rw [outsAt0_A m c t h0]
  dsimp only
  unfold out0_A_5
  rw [View.read_writes_eq_canon _ _ _ (fun y => by apply cover0_A_5)]
  unfold kernelRun0_A
  dsimp only
  sl_unfold_words
  rw [View.canon_cons_unit_zero (S := S1x1024) z2, View.readCov_unit_zero (S := S1x1024) _ z2]
  simp only [View.readAt_eq_ld, (hs0_0 t).read_unread, (hs0_1 t).read_unread, (hs0_2 t).read_unread, (hs0_3 t).read_unread, (hs0_5 t).read_unread, (hs0_6 t).read_unread, View.ld_unit_zero (S := S1x1024) z2, View.ld_unit_zero (S := S1024x1024) z2, shapeCast_self]

theorem at5_B (t : Fin cfg0.N) (h0 : ¬ t.val % 4 = 0) : (outsAt0 m c t.val t.isLt).2.1 = k0_pay4 (F := Ideal) (k0_pay9 (iblk m c 1 t)) (k0_pay10 (iblk m c 0 t) (iblk m c 1 t) (iblk m c 2 t) (iblk m c 3 t)) (outsAt0 m c (t.val - 1) (Nat.lt_of_le_of_lt (Nat.sub_le _ _) t.isLt)).2.1 := by
  rw [outsAt0_B m c t h0]
  dsimp only
  unfold out0_B_5
  rw [View.read_writes_eq_canon _ _ _ (fun y => by apply cover0_B_5)]
  unfold kernelRun0_B
  dsimp only
  sl_unfold_words
  rw [View.canon_unit_zero (S := S1x1024) z2]
  simp only [View.readAt_eq_ld, (hs0_0 t).read_unread, (hs0_1 t).read_unread, (hs0_2 t).read_unread, (hs0_3 t).read_unread, (hs0_5 t).read_unread, (hs0_6 t).read_unread, View.ld_unit_zero (S := S1x1024) z2, View.ld_unit_zero (S := S1024x1024) z2, shapeCast_self]

/-- The summand of result 1, from a row of the inputs. -/
def f5 (a0 : Fin 1024 → EReal) (a1 : Fin 1024 → EReal) (p0 : Fin 1024 → EReal) (p1 : Fin 1024 → EReal) (j : Fin 1024) : EReal := act a0 a1 p0 p1 j * hat a1 j

def val5 (x0 : FVec Ideal S4096x1024 .f32) (x1 : FVec Ideal S4096x1024 .f32) (x2 : FVec Ideal S1024 .f32) (x3 : FVec Ideal S1024 .f32) (r : Fin 4096) (j : Fin 1024) : EReal :=
  f5 (fun k : Fin 1024 => x0 (ix2 r k)) (fun k : Fin 1024 => x1 (ix2 r k)) (fun k : Fin 1024 => x2 (ix1 k)) (fun k : Fin 1024 => x3 (ix1 k)) j

theorem pay_5 (a0 : FVec Ideal S1024x1024 .f32) (a1 : FVec Ideal S1024x1024 .f32) (p0 : FVec Ideal S1x1024 .f32) (p1 : FVec Ideal S1x1024 .f32) (acc : FVec Ideal S1x1024 .f32) (j : Fin 1024) :
    (k0_pay4 (F := Ideal) (k0_pay9 a1) (k0_pay10 a0 a1 p0 p1) acc (ix2 0 j) : EReal) = acc (ix2 0 j) + ∑ i : Fin 1024, f5 (fun k => a0 (ix2 i k)) (fun k => a1 (ix2 i k)) (fun k => p0 (ix2 0 k)) (fun k => p1 (ix2 0 k)) j := by
  unfold f5
  pointwise [k0_pay4, k0_pay6, k0_pay7, k0_pay8, k0_pay9, k0_pay10, k0_pay11]
  unfold act hat logistic; simp only [zero_sub] <;> rfl

theorem zero5 (j : Fin 1024) : (k0_pay2 (F := Ideal) (ix2 0 j) : EReal) = 0 := by
  pointwise [k0_pay2]

/-- The summand of a row, by the row's number. -/
def num5 (j : Fin 1024) (r : ℕ) : EReal := if h : r < 4096 then val5 (m ((c : Thread nD τ).loc main_arg0)) (m ((c : Thread nD τ).loc main_arg1)) (m ((c : Thread nD τ).loc main_arg2)) (m ((c : Thread nD τ).loc main_arg3)) ⟨r, h⟩ j else 0

theorem add5 (t : Fin cfg0.N) (acc : FVec Ideal S1x1024 .f32) (j : Fin 1024) :
    (k0_pay4 (F := Ideal) (k0_pay9 (iblk m c 1 t)) (k0_pay10 (iblk m c 0 t) (iblk m c 1 t) (iblk m c 2 t) (iblk m c 3 t)) acc (ix2 0 j) : EReal) = acc (ix2 0 j) + ∑ i ∈ Finset.range 1024, num5 m c j (t.val * 1024 + i) := by
  have hN : t.val < 4 := t.isLt
  rw [Finset.sum_range]
  refine (pay_5 (iblk m c 0 t) (iblk m c 1 t) (iblk m c 2 t) (iblk m c 3 t) acc j).trans (congrArg (fun b : EReal => (acc (ix2 0 j) : EReal) + b) (Finset.sum_congr rfl fun i _ => ?_))
  have hr : t.val * 1024 + i.val < 4096 := by have := i.isLt; omega
  refine Eq.trans ?_ (dif_pos hr).symm
  exact congrFun (congr (congr (congr (congrArg (f5) (funext fun k => in0 m c t i ⟨t.val * 1024 + i.val, hr⟩ rfl k)) (funext fun k => in1 m c t i ⟨t.val * 1024 + i.val, hr⟩ rfl k)) (funext fun k => in2 m c t k)) (funext fun k => in3 m c t k)) j

theorem acc5 (j : Fin 1024) : ∀ (n : ℕ) (hn : n < cfg0.N), ((outsAt0 m c n hn).2.1 : FVec Ideal S1x1024 .f32) (ix2 0 j)
    = ∑ r ∈ Finset.range ((n + 1) * 1024), num5 m c j r
  | 0, hn => by
    rw [at5_A m c ⟨0, hn⟩ rfl, add5 m c ⟨0, hn⟩, zero5, zero_add]
    simp only [Nat.zero_mul, Nat.zero_add, Nat.one_mul]
  | n + 1, hn => by
    have hN : n + 1 < 4 := hn
    have ih := acc5 j n (Nat.lt_of_succ_lt hn)
    have h0 : ¬ (⟨n + 1, hn⟩ : Fin cfg0.N).val % 4 = 0 := by show ¬ (n + 1) % 4 = 0; omega
    rw [Nat.succ_mul (n + 1), Finset.sum_range_add, ← ih, at5_B m c ⟨n + 1, hn⟩ h0, add5 m c ⟨n + 1, hn⟩]
    rfl

theorem final5 : ((dats m 0 c).arrAt 5 cfg0.N : FVec Ideal S1x1024 .f32)
    = fun i => (∑ r : Fin 4096, val5 (m ((c : Thread nD τ).loc main_arg0)) (m ((c : Thread nD τ).loc main_arg1)) (m ((c : Thread nD τ).loc main_arg2)) (m ((c : Thread nD τ).loc main_arg3)) r (i 1) : EReal) := by
  refine (dats m 0 c).arrAt_eq_of_covers 5 _ (by decide +kernel) fun t hf y => ?_
  blk_simp
  rw [after0_5]
  have e1 : (win0_5.blk t).view.emb y 1 = (y : S1x1024.Idx) 1 := Fin.ext (by blk_simp [(idx t).2.2.2.2.2.1])
  have ht : t.val % 4 = 3 := (flush0_5 t).mp hf
  have hN : t.val < 4 := t.isLt
  have h := acc5 m c ((y : S1x1024.Idx) 1) t.val t.isLt
  rw [(by omega : (t.val + 1) * 1024 = 4096), Finset.sum_range] at h
  rw [e1]
  refine (congrArg (fun z : S1x1024.Idx => ((outsAt0 m c t.val t.isLt).2.1 : FVec Ideal S1x1024 .f32) z) (etas y)).trans (h.trans (Finset.sum_congr rfl fun r _ => ?_))
  exact dif_pos r.isLt

theorem at6_A (t : Fin cfg0.N) (h0 : t.val % 4 = 0) : (outsAt0 m c t.val t.isLt).2.2 = k0_pay5 (F := Ideal) (k0_pay10 (iblk m c 0 t) (iblk m c 1 t) (iblk m c 2 t) (iblk m c 3 t)) (k0_pay3 (F := Ideal)) := by
  rw [outsAt0_A m c t h0]
  dsimp only
  unfold out0_A_6
  rw [View.read_writes_eq_canon _ _ _ (fun y => by apply cover0_A_6)]
  unfold kernelRun0_A
  dsimp only
  sl_unfold_words
  rw [View.canon_cons_unit_zero (S := S1x1024) z2, View.readCov_unit_zero (S := S1x1024) _ z2]
  simp only [View.readAt_eq_ld, (hs0_0 t).read_unread, (hs0_1 t).read_unread, (hs0_2 t).read_unread, (hs0_3 t).read_unread, (hs0_5 t).read_unread, (hs0_6 t).read_unread, View.ld_unit_zero (S := S1x1024) z2, View.ld_unit_zero (S := S1024x1024) z2, shapeCast_self]

theorem at6_B (t : Fin cfg0.N) (h0 : ¬ t.val % 4 = 0) : (outsAt0 m c t.val t.isLt).2.2 = k0_pay5 (F := Ideal) (k0_pay10 (iblk m c 0 t) (iblk m c 1 t) (iblk m c 2 t) (iblk m c 3 t)) (outsAt0 m c (t.val - 1) (Nat.lt_of_le_of_lt (Nat.sub_le _ _) t.isLt)).2.2 := by
  rw [outsAt0_B m c t h0]
  dsimp only
  unfold out0_B_6
  rw [View.read_writes_eq_canon _ _ _ (fun y => by apply cover0_B_6)]
  unfold kernelRun0_B
  dsimp only
  sl_unfold_words
  rw [View.canon_unit_zero (S := S1x1024) z2]
  simp only [View.readAt_eq_ld, (hs0_0 t).read_unread, (hs0_1 t).read_unread, (hs0_2 t).read_unread, (hs0_3 t).read_unread, (hs0_5 t).read_unread, (hs0_6 t).read_unread, View.ld_unit_zero (S := S1x1024) z2, View.ld_unit_zero (S := S1024x1024) z2, shapeCast_self]

/-- The summand of result 2, from a row of the inputs. -/
def f6 (a0 : Fin 1024 → EReal) (a1 : Fin 1024 → EReal) (p0 : Fin 1024 → EReal) (p1 : Fin 1024 → EReal) (j : Fin 1024) : EReal := act a0 a1 p0 p1 j

def val6 (x0 : FVec Ideal S4096x1024 .f32) (x1 : FVec Ideal S4096x1024 .f32) (x2 : FVec Ideal S1024 .f32) (x3 : FVec Ideal S1024 .f32) (r : Fin 4096) (j : Fin 1024) : EReal :=
  f6 (fun k : Fin 1024 => x0 (ix2 r k)) (fun k : Fin 1024 => x1 (ix2 r k)) (fun k : Fin 1024 => x2 (ix1 k)) (fun k : Fin 1024 => x3 (ix1 k)) j

theorem pay_6 (a0 : FVec Ideal S1024x1024 .f32) (a1 : FVec Ideal S1024x1024 .f32) (p0 : FVec Ideal S1x1024 .f32) (p1 : FVec Ideal S1x1024 .f32) (acc : FVec Ideal S1x1024 .f32) (j : Fin 1024) :
    (k0_pay5 (F := Ideal) (k0_pay10 a0 a1 p0 p1) acc (ix2 0 j) : EReal) = acc (ix2 0 j) + ∑ i : Fin 1024, f6 (fun k => a0 (ix2 i k)) (fun k => a1 (ix2 i k)) (fun k => p0 (ix2 0 k)) (fun k => p1 (ix2 0 k)) j := by
  unfold f6
  pointwise [k0_pay5, k0_pay6, k0_pay7, k0_pay8, k0_pay9, k0_pay10, k0_pay11]
  unfold act hat logistic; simp only [zero_sub] <;> rfl

theorem zero6 (j : Fin 1024) : (k0_pay3 (F := Ideal) (ix2 0 j) : EReal) = 0 := by
  pointwise [k0_pay3]

/-- The summand of a row, by the row's number. -/
def num6 (j : Fin 1024) (r : ℕ) : EReal := if h : r < 4096 then val6 (m ((c : Thread nD τ).loc main_arg0)) (m ((c : Thread nD τ).loc main_arg1)) (m ((c : Thread nD τ).loc main_arg2)) (m ((c : Thread nD τ).loc main_arg3)) ⟨r, h⟩ j else 0

theorem add6 (t : Fin cfg0.N) (acc : FVec Ideal S1x1024 .f32) (j : Fin 1024) :
    (k0_pay5 (F := Ideal) (k0_pay10 (iblk m c 0 t) (iblk m c 1 t) (iblk m c 2 t) (iblk m c 3 t)) acc (ix2 0 j) : EReal) = acc (ix2 0 j) + ∑ i ∈ Finset.range 1024, num6 m c j (t.val * 1024 + i) := by
  have hN : t.val < 4 := t.isLt
  rw [Finset.sum_range]
  refine (pay_6 (iblk m c 0 t) (iblk m c 1 t) (iblk m c 2 t) (iblk m c 3 t) acc j).trans (congrArg (fun b : EReal => (acc (ix2 0 j) : EReal) + b) (Finset.sum_congr rfl fun i _ => ?_))
  have hr : t.val * 1024 + i.val < 4096 := by have := i.isLt; omega
  refine Eq.trans ?_ (dif_pos hr).symm
  exact congrFun (congr (congr (congr (congrArg (f6) (funext fun k => in0 m c t i ⟨t.val * 1024 + i.val, hr⟩ rfl k)) (funext fun k => in1 m c t i ⟨t.val * 1024 + i.val, hr⟩ rfl k)) (funext fun k => in2 m c t k)) (funext fun k => in3 m c t k)) j

theorem acc6 (j : Fin 1024) : ∀ (n : ℕ) (hn : n < cfg0.N), ((outsAt0 m c n hn).2.2 : FVec Ideal S1x1024 .f32) (ix2 0 j)
    = ∑ r ∈ Finset.range ((n + 1) * 1024), num6 m c j r
  | 0, hn => by
    rw [at6_A m c ⟨0, hn⟩ rfl, add6 m c ⟨0, hn⟩, zero6, zero_add]
    simp only [Nat.zero_mul, Nat.zero_add, Nat.one_mul]
  | n + 1, hn => by
    have hN : n + 1 < 4 := hn
    have ih := acc6 j n (Nat.lt_of_succ_lt hn)
    have h0 : ¬ (⟨n + 1, hn⟩ : Fin cfg0.N).val % 4 = 0 := by show ¬ (n + 1) % 4 = 0; omega
    rw [Nat.succ_mul (n + 1), Finset.sum_range_add, ← ih, at6_B m c ⟨n + 1, hn⟩ h0, add6 m c ⟨n + 1, hn⟩]
    rfl

theorem final6 : ((dats m 0 c).arrAt 6 cfg0.N : FVec Ideal S1x1024 .f32)
    = fun i => (∑ r : Fin 4096, val6 (m ((c : Thread nD τ).loc main_arg0)) (m ((c : Thread nD τ).loc main_arg1)) (m ((c : Thread nD τ).loc main_arg2)) (m ((c : Thread nD τ).loc main_arg3)) r (i 1) : EReal) := by
  refine (dats m 0 c).arrAt_eq_of_covers 6 _ (by decide +kernel) fun t hf y => ?_
  blk_simp
  rw [after0_6]
  have e1 : (win0_6.blk t).view.emb y 1 = (y : S1x1024.Idx) 1 := Fin.ext (by blk_simp [(idx t).2.2.2.2.2.2])
  have ht : t.val % 4 = 3 := (flush0_6 t).mp hf
  have hN : t.val < 4 := t.isLt
  have h := acc6 m c ((y : S1x1024.Idx) 1) t.val t.isLt
  rw [(by omega : (t.val + 1) * 1024 = 4096), Finset.sum_range] at h
  rw [e1]
  refine (congrArg (fun z : S1x1024.Idx => ((outsAt0 m c t.val t.isLt).2.2 : FVec Ideal S1x1024 .f32) z) (etas y)).trans (h.trans (Finset.sum_congr rfl fun r _ => ?_))
  exact dif_pos r.isLt

end Kernel

section Reference

open Cert.ReferenceLnBwdIdeal Cert.ReferenceLnBwdIdeal.Gen

theorem etar1024 (y : S4096x1024.Idx) : y = ix2 (y 0 : Fin 4096) (y 1 : Fin 1024) := by funext k; fin_cases k <;> rfl

theorem etasr (y : S1x1024.Idx) : y = ix2 0 (y 1 : Fin 1024) := by
  funext k; fin_cases k
  · first | exact Subsingleton.elim (α := Fin 1) _ _ | rfl
  · rfl

theorem ref4 (m : (ℓ : Loc nD τ sig) → Buf (Elt Ideal) ℓ) (c : Dev nD)
    (X0 : Fin 4096 → Fin 1024 → ℝ)
    (X1 : Fin 4096 → Fin 1024 → ℝ)
    (X2 : Fin 1024 → ℝ)
    (X3 : Fin 1024 → ℝ)
    (h0 : ∀ i j, (((m ((c.tc : Thread nD τ).loc main_arg0)) : FVec Ideal S4096x1024 .f32) (ix2 i j) : EReal) = ((X0 i j : ℝ) : EReal))
    (h1 : ∀ i j, (((m ((c.tc : Thread nD τ).loc main_arg1)) : FVec Ideal S4096x1024 .f32) (ix2 i j) : EReal) = ((X1 i j : ℝ) : EReal))
    (h2 : ∀ i, (((m ((c.tc : Thread nD τ).loc main_arg2)) : FVec Ideal S1024 .f32) (ix1 i) : EReal) = ((X2 i : ℝ) : EReal))
    (h3 : ∀ i, (((m ((c.tc : Thread nD τ).loc main_arg3)) : FVec Ideal S1024 .f32) (ix1 i) : EReal) = ((X3 i : ℝ) : EReal)) :
    (Cert.ReferenceLnBwdIdeal.Value.res_main_v63 m c : FVec Ideal S4096x1024 .f32)
      = fun i => val4 (m ((c.tc : Thread nD τ).loc main_arg0)) (m ((c.tc : Thread nD τ).loc main_arg1)) (m ((c.tc : Thread nD τ).loc main_arg2)) (m ((c.tc : Thread nD τ).loc main_arg3)) (i 0) (i 1) := by
  funext y
  rw [etar1024 y]
  generalize (y : S4096x1024.Idx) 0 = i
  generalize (y : S4096x1024.Idx) 1 = j
  revert i j; intro (i : Fin 4096) (j : Fin 1024)
  unfold val4 f4
  pointwise [Cert.ReferenceLnBwdIdeal.Value.res_main_v63]
  simp only [h0, h1, h2, h3, sc, act, hat, rs, mean, logistic, Attn.one_coe, Attn.coe_neg, Attn.exp_coe, Attn.coe_add, Reals.sig, Attn.coe_sub, Attn.coe_mul, Attn.coe_sum, Reals.c_1024, Reals.d1024, Attn.c_eps, Reals.rsq1, Reals.quo1, Attn.c_nhalf, Reals.c_2, Finset.univ_unique, Finset.sum_singleton]
  refine congrArg Real.toEReal ?_
  simp only [Reals.silu_grad]
  exact Reals.ln_bwd (X1 i) (fun k => X0 i k * (1 / (1 + Real.exp (-((X1 i k - (∑ l, X1 i l) / 1024) * (Real.sqrt ((∑ l, (X1 i l - (∑ q, X1 i q) / 1024) * (X1 i l - (∑ q, X1 i q) / 1024)) / 1024 + Attn.eps))⁻¹ * X2 k + X3 k))) * (1 + ((X1 i k - (∑ l, X1 i l) / 1024) * (Real.sqrt ((∑ l, (X1 i l - (∑ q, X1 i q) / 1024) * (X1 i l - (∑ q, X1 i q) / 1024)) / 1024 + Attn.eps))⁻¹ * X2 k + X3 k) * (1 - 1 / (1 + Real.exp (-((X1 i k - (∑ l, X1 i l) / 1024) * (Real.sqrt ((∑ l, (X1 i l - (∑ q, X1 i q) / 1024) * (X1 i l - (∑ q, X1 i q) / 1024)) / 1024 + Attn.eps))⁻¹ * X2 k + X3 k)))))) * X2 k) j

theorem ref5 (m : (ℓ : Loc nD τ sig) → Buf (Elt Ideal) ℓ) (c : Dev nD)
    (X0 : Fin 4096 → Fin 1024 → ℝ)
    (X1 : Fin 4096 → Fin 1024 → ℝ)
    (X2 : Fin 1024 → ℝ)
    (X3 : Fin 1024 → ℝ)
    (h0 : ∀ i j, (((m ((c.tc : Thread nD τ).loc main_arg0)) : FVec Ideal S4096x1024 .f32) (ix2 i j) : EReal) = ((X0 i j : ℝ) : EReal))
    (h1 : ∀ i j, (((m ((c.tc : Thread nD τ).loc main_arg1)) : FVec Ideal S4096x1024 .f32) (ix2 i j) : EReal) = ((X1 i j : ℝ) : EReal))
    (h2 : ∀ i, (((m ((c.tc : Thread nD τ).loc main_arg2)) : FVec Ideal S1024 .f32) (ix1 i) : EReal) = ((X2 i : ℝ) : EReal))
    (h3 : ∀ i, (((m ((c.tc : Thread nD τ).loc main_arg3)) : FVec Ideal S1024 .f32) (ix1 i) : EReal) = ((X3 i : ℝ) : EReal)) :
    (Cert.ReferenceLnBwdIdeal.Value.res_main_v64 m c : FVec Ideal S1x1024 .f32)
      = fun i => ∑ r : Fin 4096, val5 (m ((c.tc : Thread nD τ).loc main_arg0)) (m ((c.tc : Thread nD τ).loc main_arg1)) (m ((c.tc : Thread nD τ).loc main_arg2)) (m ((c.tc : Thread nD τ).loc main_arg3)) r (i 1) := by
  funext y
  rw [etasr y]
  generalize (y : S1x1024.Idx) 1 = j
  revert j; intro (j : Fin 1024)
  unfold val5 f5
  pointwise [Cert.ReferenceLnBwdIdeal.Value.res_main_v64]
  simp only [h0, h1, h2, h3, sc, act, hat, rs, mean, logistic, Attn.one_coe, Attn.coe_neg, Attn.exp_coe, Attn.coe_add, Reals.sig, Attn.coe_sub, Attn.coe_mul, Attn.coe_sum, Reals.c_1024, Reals.d1024, Attn.c_eps, Reals.rsq1, Reals.quo1, Attn.c_nhalf, Reals.c_2, Finset.univ_unique, Finset.sum_singleton]
  refine congrArg Real.toEReal (Finset.sum_congr rfl fun i _ => ?_)
  exact (congrArg (fun b : ℝ => _ * b) (Reals.silu_grad _ _ _)).trans (mul_comm (G := ℝ) _ _)

theorem ref6 (m : (ℓ : Loc nD τ sig) → Buf (Elt Ideal) ℓ) (c : Dev nD)
    (X0 : Fin 4096 → Fin 1024 → ℝ)
    (X1 : Fin 4096 → Fin 1024 → ℝ)
    (X2 : Fin 1024 → ℝ)
    (X3 : Fin 1024 → ℝ)
    (h0 : ∀ i j, (((m ((c.tc : Thread nD τ).loc main_arg0)) : FVec Ideal S4096x1024 .f32) (ix2 i j) : EReal) = ((X0 i j : ℝ) : EReal))
    (h1 : ∀ i j, (((m ((c.tc : Thread nD τ).loc main_arg1)) : FVec Ideal S4096x1024 .f32) (ix2 i j) : EReal) = ((X1 i j : ℝ) : EReal))
    (h2 : ∀ i, (((m ((c.tc : Thread nD τ).loc main_arg2)) : FVec Ideal S1024 .f32) (ix1 i) : EReal) = ((X2 i : ℝ) : EReal))
    (h3 : ∀ i, (((m ((c.tc : Thread nD τ).loc main_arg3)) : FVec Ideal S1024 .f32) (ix1 i) : EReal) = ((X3 i : ℝ) : EReal)) :
    (Cert.ReferenceLnBwdIdeal.Value.res_main_v65 m c : FVec Ideal S1x1024 .f32)
      = fun i => ∑ r : Fin 4096, val6 (m ((c.tc : Thread nD τ).loc main_arg0)) (m ((c.tc : Thread nD τ).loc main_arg1)) (m ((c.tc : Thread nD τ).loc main_arg2)) (m ((c.tc : Thread nD τ).loc main_arg3)) r (i 1) := by
  funext y
  rw [etasr y]
  generalize (y : S1x1024.Idx) 1 = j
  revert j; intro (j : Fin 1024)
  unfold val6 f6
  pointwise [Cert.ReferenceLnBwdIdeal.Value.res_main_v65]
  simp only [h0, h1, h2, h3, sc, act, hat, rs, mean, logistic, Attn.one_coe, Attn.coe_neg, Attn.exp_coe, Attn.coe_add, Reals.sig, Attn.coe_sub, Attn.coe_mul, Attn.coe_sum, Reals.c_1024, Reals.d1024, Attn.c_eps, Reals.rsq1, Reals.quo1, Attn.c_nhalf, Reals.c_2, Finset.univ_unique, Finset.sum_singleton]
  refine congrArg Real.toEReal (Finset.sum_congr rfl fun i _ => ?_)
  exact Reals.silu_grad _ _ _

end Reference

end Mlp.LnBwd

end
-- ==== Proof.Mlp.GnormBwd.lean ====
/- The backward pass of the gated norm: the call and the reference as functions of the inputs. -/
module

public import proofs.«01_k».proof.Proof.Gen.KernelGnormBwdIdeal.Value
public import proofs.«01_k».proof.Proof.Gen.ReferenceGnormBwdIdeal.Run
public import proofs.«01_k».proof.Proof.Mlp.Base
public import proofs.«01_k».proof.Proof.Mlp.Reals

@[expose] public section

set_option maxRecDepth 16384

noncomputable section

namespace Mlp.GnormBwd

open Idealize.ShloMosaic Idealize.ShloMosaic.TcCoe Idealize.SL.Sem

section Kernel

open Cert.KernelGnormBwdIdeal Cert.KernelGnormBwdIdeal.Gen

theorem eta2048 (y : S128x2048.Idx) : y = ix2 (y 0) (y 1) := by funext k; fin_cases k <;> rfl

/-- The block of each window at a point. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![t.val, 0] ∧ win0_7.index t = ![t.val, 0] ∧ win0_8.index t = ![t.val, 0] ∧ win0_9.index t = ![0, 0] ∧ win0_10.index t = ![0, 0] :=
  (by decide +kernel : ∀ t : Fin grid0.N, _)

variable (m : (ℓ : Loc nD τ sig) → Buf (Elt Ideal) ℓ) (c : Dev nD)

theorem in0 (t : Fin cfg0.N) (i : Fin 128) (r : Fin 4096) (hr : r.val = t.val * 128 + i) (k : Fin 2048) :
    (iblk m c 0 t : FVec Ideal S128x2048 .f32) (ix2 i k) = (m ((c : Thread nD τ).loc main_arg0) : FVec Ideal S4096x2048 .f32) (ix2 r k) := by
  blk_simp [iblk]
  entry_read
  refine congrArg (m _) (funext fun a => Fin.ext ?_)
  fin_cases a <;> blk_simp [idx t] <;> simp [hr]

theorem in1 (t : Fin cfg0.N) (i : Fin 128) (r : Fin 4096) (hr : r.val = t.val * 128 + i) (k : Fin 2048) :
    (iblk m c 1 t : FVec Ideal S128x2048 .f32) (ix2 i k) = (m ((c : Thread nD τ).loc main_arg1) : FVec Ideal S4096x2048 .f32) (ix2 r k) := by
  blk_simp [iblk]
  entry_read
  refine congrArg (m _) (funext fun a => Fin.ext ?_)
  fin_cases a <;> blk_simp [idx t] <;> simp [hr]

theorem in2 (t : Fin cfg0.N) (i : Fin 128) (r : Fin 4096) (hr : r.val = t.val * 128 + i) (k : Fin 2048) :
    (iblk m c 2 t : FVec Ideal S128x2048 .f32) (ix2 i k) = (m ((c : Thread nD τ).loc main_arg2) : FVec Ideal S4096x4096 .f32) (ix2 r ⟨k.val, by omega⟩) := by
  blk_simp [iblk]
  entry_read
  refine congrArg (m _) (funext fun a => Fin.ext ?_)
  fin_cases a <;> blk_simp [idx t] <;> simp [hr]

theorem in3 (t : Fin cfg0.N) (i : Fin 128) (r : Fin 4096) (hr : r.val = t.val * 128 + i) (k : Fin 2048) :
    (iblk m c 3 t : FVec Ideal S128x2048 .f32) (ix2 i k) = (m ((c : Thread nD τ).loc main_arg3) : FVec Ideal S4096x2048 .f32) (ix2 r k) := by
  blk_simp [iblk]
  entry_read
  refine congrArg (m _) (funext fun a => Fin.ext ?_)
  fin_cases a <;> blk_simp [idx t] <;> simp [hr]

theorem in4 (t : Fin cfg0.N) (k : Fin 2048) :
    (iblk m c 4 t : FVec Ideal S1x2048 .f32) (ix2 0 k) = (m ((c : Thread nD τ).loc main_arg4) : FVec Ideal S32 .f32) (ix1 ⟨k.val / 64, by omega⟩) := by
  blk_simp [iblk]
  entry_read
  pointwise
  refine congrArg (m _) (congrArg ix1 (Fin.ext ?_)) <;> blk_simp [idx t] <;> (try omega)

theorem in5 (t : Fin cfg0.N) (k : Fin 2048) :
    (iblk m c 5 t : FVec Ideal S1x2048 .f32) (ix2 0 k) = (m ((c : Thread nD τ).loc main_arg5) : FVec Ideal S2048 .f32) (ix1 k) := by
  blk_simp [iblk]
  entry_read
  pointwise
  refine congrArg (m _) (congrArg ix1 (Fin.ext ?_)) <;> blk_simp [idx t] <;> (try omega)

/-- The logistic function. -/
def logistic (x : EReal) : EReal := Ideal.div 1 (1 + Ideal.exp (-x))

/-- The gated row before its gate, gated, the factor of the norm, and the row normalised. -/
def pre (y x d : Fin 2048 → EReal) (j : Fin 2048) : EReal := y j + x j * d j
def gat (y x z d : Fin 2048 → EReal) (j : Fin 2048) : EReal := pre y x d j * (z j * logistic (z j))
def rs (y x z d : Fin 2048 → EReal) : EReal := Ideal.rsqrt (Ideal.div (∑ k, gat y x z d k * gat y x z d k) (Ideal.ofBits .f32 0x45000000#32 : EReal) + (Ideal.ofBits .f32 0x358637BD#32 : EReal))
def hat (y x z d : Fin 2048 → EReal) (j : Fin 2048) : EReal := gat y x z d j * rs y x z d
/-- The gradient of the gated row. -/
def gy (n y x z d g : Fin 2048 → EReal) (j : Fin 2048) : EReal :=
  rs y x z d * (n j * g j - hat y x z d j * Ideal.div (∑ k, n k * g k * hat y x z d k) (Ideal.ofBits .f32 0x45000000#32 : EReal))

/-- A row of result 0, from the rows of the inputs. -/
def f6 (a0 : Fin 2048 → EReal) (a1 : Fin 2048 → EReal) (a2 : Fin 2048 → EReal) (a3 : Fin 2048 → EReal) (p0 : Fin 2048 → EReal) (p1 : Fin 2048 → EReal) (j : Fin 2048) : EReal := gy a0 a1 a2 a3 p0 p1 j * (a3 j * logistic (a3 j))

theorem pay_6 (a0 : FVec Ideal S128x2048 .f32) (a1 : FVec Ideal S128x2048 .f32) (a2 : FVec Ideal S128x2048 .f32) (a3 : FVec Ideal S128x2048 .f32) (p0 : FVec Ideal S1x2048 .f32) (p1 : FVec Ideal S1x2048 .f32) (i : Fin 128) (j : Fin 2048) :
    (k0_pay10 (F := Ideal) a3 (k0_pay2 a3) (k0_pay5 a1 a2 a3 p0) (k0_pay7 a0 p1) (k0_pay8 a0 a1 a2 a3 p0 p1) (ix2 i j) : EReal) = f6 (fun k => a0 (ix2 i k)) (fun k => a1 (ix2 i k)) (fun k => a2 (ix2 i k)) (fun k => a3 (ix2 i k)) (fun k => p0 (ix2 0 k)) (fun k => p1 (ix2 0 k)) j := by
  unfold f6
  pointwise [k0_pay1, k0_pay2, k0_pay3, k0_pay4, k0_pay5, k0_pay6, k0_pay7, k0_pay8, k0_pay9, k0_pay10, k0_pay11, k0_pay12]
  unfold gy hat rs gat pre logistic; simp only [zero_sub] <;> rfl

/-- Result 0 at an index. -/
def val6 (x0 : FVec Ideal S4096x2048 .f32) (x1 : FVec Ideal S4096x2048 .f32) (x2 : FVec Ideal S4096x4096 .f32) (x3 : FVec Ideal S4096x2048 .f32) (x4 : FVec Ideal S32 .f32) (x5 : FVec Ideal S2048 .f32) (r : Fin 4096) (j : Fin 2048) : EReal :=
  f6 (fun k : Fin 2048 => x0 (ix2 r k)) (fun k : Fin 2048 => x1 (ix2 r k)) (fun k : Fin 2048 => x2 (ix2 r ⟨k.val, by omega⟩)) (fun k : Fin 2048 => x3 (ix2 r k)) (fun k : Fin 2048 => x4 (ix1 ⟨k.val / 64, by omega⟩)) (fun k : Fin 2048 => x5 (ix1 k)) j

/-- Result 0's block at a point. -/
abbrev o6 (t : Fin cfg0.N) : FVec Ideal S128x2048 .f32 := k0_pay10 (F := Ideal) (iblk m c 3 t) (k0_pay2 (iblk m c 3 t)) (k0_pay5 (iblk m c 1 t) (iblk m c 2 t) (iblk m c 3 t) (iblk m c 4 t)) (k0_pay7 (iblk m c 0 t) (iblk m c 5 t)) (k0_pay8 (iblk m c 0 t) (iblk m c 1 t) (iblk m c 2 t) (iblk m c 3 t) (iblk m c 4 t) (iblk m c 5 t))

theorem out6 (t : Fin cfg0.N) (i : Fin 128) (r : Fin 4096) (hr : r.val = t.val * 128 + i) (j q : Fin 2048) (hq : q.val = j) :
    (o6 m c t (ix2 i j) : EReal) = val6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r q := by
  obtain rfl := Fin.ext hq
  exact (pay_6 (iblk m c 0 t) (iblk m c 1 t) (iblk m c 2 t) (iblk m c 3 t) (iblk m c 4 t) (iblk m c 5 t) i q).trans (congrFun (congr (congr (congr (congr (congr (congrArg (f6) (funext fun k => in0 m c t i r hr k)) (funext fun k => in1 m c t i r hr k)) (funext fun k => in2 m c t i r hr k)) (funext fun k => in3 m c t i r hr k)) (funext fun k => in4 m c t k)) (funext fun k => in5 m c t k)) q)

/-- A row of result 1, from the rows of the inputs. -/
def f7 (a0 : Fin 2048 → EReal) (a1 : Fin 2048 → EReal) (a2 : Fin 2048 → EReal) (a3 : Fin 2048 → EReal) (p0 : Fin 2048 → EReal) (p1 : Fin 2048 → EReal) (j : Fin 2048) : EReal := gy a0 a1 a2 a3 p0 p1 j * pre a1 a2 p0 j * (logistic (a3 j) * (1 + a3 j * (1 - logistic (a3 j))))

theorem pay_7 (a0 : FVec Ideal S128x2048 .f32) (a1 : FVec Ideal S128x2048 .f32) (a2 : FVec Ideal S128x2048 .f32) (a3 : FVec Ideal S128x2048 .f32) (p0 : FVec Ideal S1x2048 .f32) (p1 : FVec Ideal S1x2048 .f32) (i : Fin 128) (j : Fin 2048) :
    (k0_pay12 (F := Ideal) a3 (k0_pay2 a3) (k0_pay3 a1 a2 p0) (k0_pay5 a1 a2 a3 p0) (k0_pay7 a0 p1) (k0_pay8 a0 a1 a2 a3 p0 p1) (ix2 i j) : EReal) = f7 (fun k => a0 (ix2 i k)) (fun k => a1 (ix2 i k)) (fun k => a2 (ix2 i k)) (fun k => a3 (ix2 i k)) (fun k => p0 (ix2 0 k)) (fun k => p1 (ix2 0 k)) j := by
  unfold f7
  pointwise [k0_pay1, k0_pay2, k0_pay3, k0_pay4, k0_pay5, k0_pay6, k0_pay7, k0_pay8, k0_pay9, k0_pay10, k0_pay11, k0_pay12]
  unfold gy hat rs gat pre logistic; simp only [zero_sub] <;> rfl

/-- Result 1 at an index. -/
def val7 (x0 : FVec Ideal S4096x2048 .f32) (x1 : FVec Ideal S4096x2048 .f32) (x2 : FVec Ideal S4096x4096 .f32) (x3 : FVec Ideal S4096x2048 .f32) (x4 : FVec Ideal S32 .f32) (x5 : FVec Ideal S2048 .f32) (r : Fin 4096) (j : Fin 2048) : EReal :=
  f7 (fun k : Fin 2048 => x0 (ix2 r k)) (fun k : Fin 2048 => x1 (ix2 r k)) (fun k : Fin 2048 => x2 (ix2 r ⟨k.val, by omega⟩)) (fun k : Fin 2048 => x3 (ix2 r k)) (fun k : Fin 2048 => x4 (ix1 ⟨k.val / 64, by omega⟩)) (fun k : Fin 2048 => x5 (ix1 k)) j

/-- Result 1's block at a point. -/
abbrev o7 (t : Fin cfg0.N) : FVec Ideal S128x2048 .bf16 := k0_pay12 (F := Ideal) (iblk m c 3 t) (k0_pay2 (iblk m c 3 t)) (k0_pay3 (iblk m c 1 t) (iblk m c 2 t) (iblk m c 4 t)) (k0_pay5 (iblk m c 1 t) (iblk m c 2 t) (iblk m c 3 t) (iblk m c 4 t)) (k0_pay7 (iblk m c 0 t) (iblk m c 5 t)) (k0_pay8 (iblk m c 0 t) (iblk m c 1 t) (iblk m c 2 t) (iblk m c 3 t) (iblk m c 4 t) (iblk m c 5 t))

theorem out7 (t : Fin cfg0.N) (i : Fin 128) (r : Fin 4096) (hr : r.val = t.val * 128 + i) (j q : Fin 2048) (hq : q.val = j) :
    (o7 m c t (ix2 i j) : EReal) = val7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r q := by
  obtain rfl := Fin.ext hq
  exact (pay_7 (iblk m c 0 t) (iblk m c 1 t) (iblk m c 2 t) (iblk m c 3 t) (iblk m c 4 t) (iblk m c 5 t) i q).trans (congrFun (congr (congr (congr (congr (congr (congrArg (f7) (funext fun k => in0 m c t i r hr k)) (funext fun k => in1 m c t i r hr k)) (funext fun k => in2 m c t i r hr k)) (funext fun k => in3 m c t i r hr k)) (funext fun k => in4 m c t k)) (funext fun k => in5 m c t k)) q)

/-- A row of result 2, from the rows of the inputs. -/
def f8 (a0 : Fin 2048 → EReal) (a1 : Fin 2048 → EReal) (a2 : Fin 2048 → EReal) (a3 : Fin 2048 → EReal) (p0 : Fin 2048 → EReal) (p1 : Fin 2048 → EReal) (j : Fin 2048) : EReal := gy a0 a1 a2 a3 p0 p1 j * (a3 j * logistic (a3 j)) * p0 j

theorem pay_8 (a0 : FVec Ideal S128x2048 .f32) (a1 : FVec Ideal S128x2048 .f32) (a2 : FVec Ideal S128x2048 .f32) (a3 : FVec Ideal S128x2048 .f32) (p0 : FVec Ideal S1x2048 .f32) (p1 : FVec Ideal S1x2048 .f32) (i : Fin 128) (j : Fin 2048) :
    (k0_pay11 (F := Ideal) a3 (k0_pay1 p0) (k0_pay2 a3) (k0_pay5 a1 a2 a3 p0) (k0_pay7 a0 p1) (k0_pay8 a0 a1 a2 a3 p0 p1) (ix2 i j) : EReal) = f8 (fun k => a0 (ix2 i k)) (fun k => a1 (ix2 i k)) (fun k => a2 (ix2 i k)) (fun k => a3 (ix2 i k)) (fun k => p0 (ix2 0 k)) (fun k => p1 (ix2 0 k)) j := by
  unfold f8
  pointwise [k0_pay1, k0_pay2, k0_pay3, k0_pay4, k0_pay5, k0_pay6, k0_pay7, k0_pay8, k0_pay9, k0_pay10, k0_pay11, k0_pay12]
  unfold gy hat rs gat pre logistic; simp only [zero_sub] <;> rfl

/-- Result 2 at an index. -/
def val8 (x0 : FVec Ideal S4096x2048 .f32) (x1 : FVec Ideal S4096x2048 .f32) (x2 : FVec Ideal S4096x4096 .f32) (x3 : FVec Ideal S4096x2048 .f32) (x4 : FVec Ideal S32 .f32) (x5 : FVec Ideal S2048 .f32) (r : Fin 4096) (j : Fin 2048) : EReal :=
  f8 (fun k : Fin 2048 => x0 (ix2 r k)) (fun k : Fin 2048 => x1 (ix2 r k)) (fun k : Fin 2048 => x2 (ix2 r ⟨k.val, by omega⟩)) (fun k : Fin 2048 => x3 (ix2 r k)) (fun k : Fin 2048 => x4 (ix1 ⟨k.val / 64, by omega⟩)) (fun k : Fin 2048 => x5 (ix1 k)) j

/-- Result 2's block at a point. -/
abbrev o8 (t : Fin cfg0.N) : FVec Ideal S128x2048 .f32 := k0_pay11 (F := Ideal) (iblk m c 3 t) (k0_pay1 (iblk m c 4 t)) (k0_pay2 (iblk m c 3 t)) (k0_pay5 (iblk m c 1 t) (iblk m c 2 t) (iblk m c 3 t) (iblk m c 4 t)) (k0_pay7 (iblk m c 0 t) (iblk m c 5 t)) (k0_pay8 (iblk m c 0 t) (iblk m c 1 t) (iblk m c 2 t) (iblk m c 3 t) (iblk m c 4 t) (iblk m c 5 t))

theorem out8 (t : Fin cfg0.N) (i : Fin 128) (r : Fin 4096) (hr : r.val = t.val * 128 + i) (j q : Fin 2048) (hq : q.val = j) :
    (o8 m c t (ix2 i j) : EReal) = val8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r q := by
  obtain rfl := Fin.ext hq
  exact (pay_8 (iblk m c 0 t) (iblk m c 1 t) (iblk m c 2 t) (iblk m c 3 t) (iblk m c 4 t) (iblk m c 5 t) i q).trans (congrFun (congr (congr (congr (congr (congr (congrArg (f8) (funext fun k => in0 m c t i r hr k)) (funext fun k => in1 m c t i r hr k)) (funext fun k => in2 m c t i r hr k)) (funext fun k => in3 m c t i r hr k)) (funext fun k => in4 m c t k)) (funext fun k => in5 m c t k)) q)

theorem at6 (t : Fin cfg0.N) : (outsAt0 m c t.val t.isLt).1 = o6 m c t := by
  by_cases h0 : t.val % 32 = 0
  all_goals
    first
      | rw [outsAt0_A m c t h0]; dsimp only; unfold out0_A_6
        rw [View.read_writes_eq_canon _ _ _ (fun y => by apply cover0_A_6)]; unfold kernelRun0_A
      | rw [outsAt0_B m c t h0]; dsimp only; unfold out0_B_6
        rw [View.read_writes_eq_canon _ _ _ (fun y => by apply cover0_B_6)]; unfold kernelRun0_B
    dsimp only
    sl_unfold_words
    rw [View.canon_unit_zero (S := S128x2048) z2]
    simp only [o6, View.readAt_eq_ld, (hs0_0 t).read_unread, (hs0_1 t).read_unread, (hs0_2 t).read_unread, (hs0_3 t).read_unread, (hs0_4 t).read_unread, (hs0_5 t).read_unread, (hs0_9 t).read_unread, (hs0_10 t).read_unread, View.ld_unit_zero (S := S1x2048) z2, View.ld_unit_zero (S := S128x2048) z2, shapeCast_self]

theorem final6 : ((dats m 0 c).arrAt 6 cfg0.N : FVec Ideal S4096x2048 .f32)
    = fun i => (val6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) : EReal) := by
  refine (dats m 0 c).arrAt_eq_of_covers 6 _ (by decide +kernel) fun t hf y => ?_
  blk_simp
  rw [after0_6]
  have e0 : ((win0_6.blk t).view.emb y 0 : ℕ) = t.val * 128 + (y 0 : ℕ) := by blk_simp [(idx t).2.2.2.2.2.2.1]
  have e1 : ((win0_6.blk t).view.emb y 1 : ℕ) = (y 1 : ℕ) := by blk_simp [(idx t).2.2.2.2.2.2.1]
  rw [at6 m c t]
  refine Eq.trans (congrArg (o6 m c t) (eta2048 y)) ?_
  exact out6 m c t ((y : S128x2048.Idx) 0) _ e0 ((y : S128x2048.Idx) 1) _ e1

theorem at7 (t : Fin cfg0.N) : (outsAt0 m c t.val t.isLt).2.1 = o7 m c t := by
  by_cases h0 : t.val % 32 = 0
  all_goals
    first
      | rw [outsAt0_A m c t h0]; dsimp only; unfold out0_A_7
        rw [View.read_writes_eq_canon _ _ _ (fun y => by apply cover0_A_7)]; unfold kernelRun0_A
      | rw [outsAt0_B m c t h0]; dsimp only; unfold out0_B_7
        rw [View.read_writes_eq_canon _ _ _ (fun y => by apply cover0_B_7)]; unfold kernelRun0_B
    dsimp only
    sl_unfold_words
    rw [View.canon_unit_zero (S := S128x2048) z2]
    simp only [o7, View.readAt_eq_ld, (hs0_0 t).read_unread, (hs0_1 t).read_unread, (hs0_2 t).read_unread, (hs0_3 t).read_unread, (hs0_4 t).read_unread, (hs0_5 t).read_unread, (hs0_9 t).read_unread, (hs0_10 t).read_unread, View.ld_unit_zero (S := S1x2048) z2, View.ld_unit_zero (S := S128x2048) z2, shapeCast_self]

theorem final7 : ((dats m 0 c).arrAt 7 cfg0.N : FVec Ideal S4096x2048 .bf16)
    = fun i => (val7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) : EReal) := by
  refine (dats m 0 c).arrAt_eq_of_covers 7 _ (by decide +kernel) fun t hf y => ?_
  blk_simp
  rw [after0_7]
  have e0 : ((win0_7.blk t).view.emb y 0 : ℕ) = t.val * 128 + (y 0 : ℕ) := by blk_simp [(idx t).2.2.2.2.2.2.2.1]
  have e1 : ((win0_7.blk t).view.emb y 1 : ℕ) = (y 1 : ℕ) := by blk_simp [(idx t).2.2.2.2.2.2.2.1]
  rw [at7 m c t]
  refine Eq.trans (congrArg (o7 m c t) (eta2048 y)) ?_
  exact out7 m c t ((y : S128x2048.Idx) 0) _ e0 ((y : S128x2048.Idx) 1) _ e1

theorem at8 (t : Fin cfg0.N) : (outsAt0 m c t.val t.isLt).2.2.1 = o8 m c t := by
  by_cases h0 : t.val % 32 = 0
  all_goals
    first
      | rw [outsAt0_A m c t h0]; dsimp only; unfold out0_A_8
        rw [View.read_writes_eq_canon _ _ _ (fun y => by apply cover0_A_8)]; unfold kernelRun0_A
      | rw [outsAt0_B m c t h0]; dsimp only; unfold out0_B_8
        rw [View.read_writes_eq_canon _ _ _ (fun y => by apply cover0_B_8)]; unfold kernelRun0_B
    dsimp only
    sl_unfold_words
    rw [View.canon_unit_zero (S := S128x2048) z2]
    simp only [o8, View.readAt_eq_ld, (hs0_0 t).read_unread, (hs0_1 t).read_unread, (hs0_2 t).read_unread, (hs0_3 t).read_unread, (hs0_4 t).read_unread, (hs0_5 t).read_unread, (hs0_9 t).read_unread, (hs0_10 t).read_unread, View.ld_unit_zero (S := S1x2048) z2, View.ld_unit_zero (S := S128x2048) z2, shapeCast_self]

theorem final8 : ((dats m 0 c).arrAt 8 cfg0.N : FVec Ideal S4096x2048 .f32)
    = fun i => (val8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) : EReal) := by
  refine (dats m 0 c).arrAt_eq_of_covers 8 _ (by decide +kernel) fun t hf y => ?_
  blk_simp
  rw [after0_8]
  have e0 : ((win0_8.blk t).view.emb y 0 : ℕ) = t.val * 128 + (y 0 : ℕ) := by blk_simp [(idx t).2.2.2.2.2.2.2.2.1]
  have e1 : ((win0_8.blk t).view.emb y 1 : ℕ) = (y 1 : ℕ) := by blk_simp [(idx t).2.2.2.2.2.2.2.2.1]
  rw [at8 m c t]
  refine Eq.trans (congrArg (o8 m c t) (eta2048 y)) ?_
  exact out8 m c t ((y : S128x2048.Idx) 0) _ e0 ((y : S128x2048.Idx) 1) _ e1

theorem etas (y : S1x2048.Idx) : y = ix2 0 (y 1) := by
  funext k; fin_cases k
  · first | exact Subsingleton.elim (α := Fin 1) _ _ | rfl
  · rfl

theorem at9_A (t : Fin cfg0.N) (h0 : t.val % 32 = 0) : (outsAt0 m c t.val t.isLt).2.2.2.1 = k0_pay15 (F := Ideal) (iblk m c 0 t) (k0_pay6 (iblk m c 1 t) (iblk m c 2 t) (iblk m c 3 t) (iblk m c 4 t)) (k0_pay13 (F := Ideal)) := by
  rw [outsAt0_A m c t h0]
  dsimp only
  unfold out0_A_9
  rw [View.read_writes_eq_canon _ _ _ (fun y => by apply cover0_A_9)]
  unfold kernelRun0_A
  dsimp only
  sl_unfold_words
  rw [View.canon_cons_unit_zero (S := S1x2048) z2, View.readCov_unit_zero (S := S1x2048) _ z2]
  simp only [View.readAt_eq_ld, (hs0_0 t).read_unread, (hs0_1 t).read_unread, (hs0_2 t).read_unread, (hs0_3 t).read_unread, (hs0_4 t).read_unread, (hs0_5 t).read_unread, (hs0_9 t).read_unread, (hs0_10 t).read_unread, View.ld_unit_zero (S := S1x2048) z2, View.ld_unit_zero (S := S128x2048) z2, shapeCast_self]

theorem at9_B (t : Fin cfg0.N) (h0 : ¬ t.val % 32 = 0) : (outsAt0 m c t.val t.isLt).2.2.2.1 = k0_pay15 (F := Ideal) (iblk m c 0 t) (k0_pay6 (iblk m c 1 t) (iblk m c 2 t) (iblk m c 3 t) (iblk m c 4 t)) (outsAt0 m c (t.val - 1) (Nat.lt_of_le_of_lt (Nat.sub_le _ _) t.isLt)).2.2.2.1 := by
  rw [outsAt0_B m c t h0]
  dsimp only
  unfold out0_B_9
  rw [View.read_writes_eq_canon _ _ _ (fun y => by apply cover0_B_9)]
  unfold kernelRun0_B
  dsimp only
  sl_unfold_words
  rw [View.canon_unit_zero (S := S1x2048) z2]
  simp only [View.readAt_eq_ld, (hs0_0 t).read_unread, (hs0_1 t).read_unread, (hs0_2 t).read_unread, (hs0_3 t).read_unread, (hs0_4 t).read_unread, (hs0_5 t).read_unread, (hs0_9 t).read_unread, (hs0_10 t).read_unread, View.ld_unit_zero (S := S1x2048) z2, View.ld_unit_zero (S := S128x2048) z2, shapeCast_self]

/-- The summand of result 3, from a row of the inputs. -/
def f9 (a0 : Fin 2048 → EReal) (a1 : Fin 2048 → EReal) (a2 : Fin 2048 → EReal) (a3 : Fin 2048 → EReal) (p0 : Fin 2048 → EReal) (p1 : Fin 2048 → EReal) (j : Fin 2048) : EReal := a0 j * hat a1 a2 a3 p0 j

def val9 (x0 : FVec Ideal S4096x2048 .f32) (x1 : FVec Ideal S4096x2048 .f32) (x2 : FVec Ideal S4096x4096 .f32) (x3 : FVec Ideal S4096x2048 .f32) (x4 : FVec Ideal S32 .f32) (x5 : FVec Ideal S2048 .f32) (r : Fin 4096) (j : Fin 2048) : EReal :=
  f9 (fun k : Fin 2048 => x0 (ix2 r k)) (fun k : Fin 2048 => x1 (ix2 r k)) (fun k : Fin 2048 => x2 (ix2 r ⟨k.val, by omega⟩)) (fun k : Fin 2048 => x3 (ix2 r k)) (fun k : Fin 2048 => x4 (ix1 ⟨k.val / 64, by omega⟩)) (fun k : Fin 2048 => x5 (ix1 k)) j

theorem pay_9 (a0 : FVec Ideal S128x2048 .f32) (a1 : FVec Ideal S128x2048 .f32) (a2 : FVec Ideal S128x2048 .f32) (a3 : FVec Ideal S128x2048 .f32) (p0 : FVec Ideal S1x2048 .f32) (p1 : FVec Ideal S1x2048 .f32) (acc : FVec Ideal S1x2048 .f32) (j : Fin 2048) :
    (k0_pay15 (F := Ideal) a0 (k0_pay6 a1 a2 a3 p0) acc (ix2 0 j) : EReal) = acc (ix2 0 j) + ∑ i : Fin 128, f9 (fun k => a0 (ix2 i k)) (fun k => a1 (ix2 i k)) (fun k => a2 (ix2 i k)) (fun k => a3 (ix2 i k)) (fun k => p0 (ix2 0 k)) (fun k => p1 (ix2 0 k)) j := by
  unfold f9
  pointwise [k0_pay15, k0_pay1, k0_pay2, k0_pay3, k0_pay4, k0_pay5, k0_pay6, k0_pay7, k0_pay8, k0_pay9, k0_pay10, k0_pay11, k0_pay12]
  unfold hat rs gat pre logistic; simp only [zero_sub] <;> rfl

theorem zero9 (j : Fin 2048) : (k0_pay13 (F := Ideal) (ix2 0 j) : EReal) = 0 := by
  pointwise [k0_pay13]

/-- The summand of a row, by the row's number. -/
def num9 (j : Fin 2048) (r : ℕ) : EReal := if h : r < 4096 then val9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨r, h⟩ j else 0

theorem add9 (t : Fin cfg0.N) (acc : FVec Ideal S1x2048 .f32) (j : Fin 2048) :
    (k0_pay15 (F := Ideal) (iblk m c 0 t) (k0_pay6 (iblk m c 1 t) (iblk m c 2 t) (iblk m c 3 t) (iblk m c 4 t)) acc (ix2 0 j) : EReal) = acc (ix2 0 j) + ∑ i ∈ Finset.range 128, num9 m c j (t.val * 128 + i) := by
  have hN : t.val < 32 := t.isLt
  rw [Finset.sum_range]
  refine (pay_9 (iblk m c 0 t) (iblk m c 1 t) (iblk m c 2 t) (iblk m c 3 t) (iblk m c 4 t) (iblk m c 5 t) acc j).trans (congrArg (fun b : EReal => (acc (ix2 0 j) : EReal) + b) (Finset.sum_congr rfl fun i _ => ?_))
  have hr : t.val * 128 + i.val < 4096 := by have := i.isLt; omega
  refine Eq.trans ?_ (dif_pos hr).symm
  exact congrFun (congr (congr (congr (congr (congr (congrArg (f9) (funext fun k => in0 m c t i ⟨t.val * 128 + i.val, hr⟩ rfl k)) (funext fun k => in1 m c t i ⟨t.val * 128 + i.val, hr⟩ rfl k)) (funext fun k => in2 m c t i ⟨t.val * 128 + i.val, hr⟩ rfl k)) (funext fun k => in3 m c t i ⟨t.val * 128 + i.val, hr⟩ rfl k)) (funext fun k => in4 m c t k)) (funext fun k => in5 m c t k)) j

theorem acc9 (j : Fin 2048) : ∀ (n : ℕ) (hn : n < cfg0.N), ((outsAt0 m c n hn).2.2.2.1 : FVec Ideal S1x2048 .f32) (ix2 0 j)
    = ∑ r ∈ Finset.range ((n + 1) * 128), num9 m c j r
  | 0, hn => by
    rw [at9_A m c ⟨0, hn⟩ rfl, add9 m c ⟨0, hn⟩, zero9, zero_add]
    simp only [Nat.zero_mul, Nat.zero_add, Nat.one_mul]
  | n + 1, hn => by
    have hN : n + 1 < 32 := hn
    have ih := acc9 j n (Nat.lt_of_succ_lt hn)
    have h0 : ¬ (⟨n + 1, hn⟩ : Fin cfg0.N).val % 32 = 0 := by show ¬ (n + 1) % 32 = 0; omega
    rw [Nat.succ_mul (n + 1), Finset.sum_range_add, ← ih, at9_B m c ⟨n + 1, hn⟩ h0, add9 m c ⟨n + 1, hn⟩]
    rfl

theorem final9 : ((dats m 0 c).arrAt 9 cfg0.N : FVec Ideal S1x2048 .f32)
    = fun i => (∑ r : Fin 4096, val9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r (i 1) : EReal) := by
  refine (dats m 0 c).arrAt_eq_of_covers 9 _ (by decide +kernel) fun t hf y => ?_
  blk_simp
  rw [after0_9]
  have e1 : (win0_9.blk t).view.emb y 1 = (y : S1x2048.Idx) 1 := Fin.ext (by blk_simp [(idx t).2.2.2.2.2.2.2.2.2.1])
  have ht : t.val % 32 = 31 := (flush0_9 t).mp hf
  have hN : t.val < 32 := t.isLt
  have h := acc9 m c ((y : S1x2048.Idx) 1) t.val t.isLt
  rw [(by omega : (t.val + 1) * 128 = 4096), Finset.sum_range] at h
  rw [e1]
  refine (congrArg (fun z : S1x2048.Idx => ((outsAt0 m c t.val t.isLt).2.2.2.1 : FVec Ideal S1x2048 .f32) z) (etas y)).trans (h.trans (Finset.sum_congr rfl fun r _ => ?_))
  exact dif_pos r.isLt

theorem at10_A (t : Fin cfg0.N) (h0 : t.val % 32 = 0) : (outsAt0 m c t.val t.isLt).2.2.2.2 = k0_pay16 (F := Ideal) (iblk m c 2 t) (iblk m c 3 t) (k0_pay2 (iblk m c 3 t)) (k0_pay5 (iblk m c 1 t) (iblk m c 2 t) (iblk m c 3 t) (iblk m c 4 t)) (k0_pay7 (iblk m c 0 t) (iblk m c 5 t)) (k0_pay8 (iblk m c 0 t) (iblk m c 1 t) (iblk m c 2 t) (iblk m c 3 t) (iblk m c 4 t) (iblk m c 5 t)) (k0_pay14 (F := Ideal)) := by
  rw [outsAt0_A m c t h0]
  dsimp only
  unfold out0_A_10
  rw [View.read_writes_eq_canon _ _ _ (fun y => by apply cover0_A_10)]
  unfold kernelRun0_A
  dsimp only
  sl_unfold_words
  rw [View.canon_cons_unit_zero (S := S1x2048) z2, View.readCov_unit_zero (S := S1x2048) _ z2]
  simp only [View.readAt_eq_ld, (hs0_0 t).read_unread, (hs0_1 t).read_unread, (hs0_2 t).read_unread, (hs0_3 t).read_unread, (hs0_4 t).read_unread, (hs0_5 t).read_unread, (hs0_9 t).read_unread, (hs0_10 t).read_unread, View.ld_unit_zero (S := S1x2048) z2, View.ld_unit_zero (S := S128x2048) z2, shapeCast_self]

theorem at10_B (t : Fin cfg0.N) (h0 : ¬ t.val % 32 = 0) : (outsAt0 m c t.val t.isLt).2.2.2.2 = k0_pay16 (F := Ideal) (iblk m c 2 t) (iblk m c 3 t) (k0_pay2 (iblk m c 3 t)) (k0_pay5 (iblk m c 1 t) (iblk m c 2 t) (iblk m c 3 t) (iblk m c 4 t)) (k0_pay7 (iblk m c 0 t) (iblk m c 5 t)) (k0_pay8 (iblk m c 0 t) (iblk m c 1 t) (iblk m c 2 t) (iblk m c 3 t) (iblk m c 4 t) (iblk m c 5 t)) (outsAt0 m c (t.val - 1) (Nat.lt_of_le_of_lt (Nat.sub_le _ _) t.isLt)).2.2.2.2 := by
  rw [outsAt0_B m c t h0]
  dsimp only
  unfold out0_B_10
  rw [View.read_writes_eq_canon _ _ _ (fun y => by apply cover0_B_10)]
  unfold kernelRun0_B
  dsimp only
  sl_unfold_words
  rw [View.canon_unit_zero (S := S1x2048) z2]
  simp only [View.readAt_eq_ld, (hs0_0 t).read_unread, (hs0_1 t).read_unread, (hs0_2 t).read_unread, (hs0_3 t).read_unread, (hs0_4 t).read_unread, (hs0_5 t).read_unread, (hs0_9 t).read_unread, (hs0_10 t).read_unread, View.ld_unit_zero (S := S1x2048) z2, View.ld_unit_zero (S := S128x2048) z2, shapeCast_self]

/-- The summand of result 4, from a row of the inputs. -/
def f10 (a0 : Fin 2048 → EReal) (a1 : Fin 2048 → EReal) (a2 : Fin 2048 → EReal) (a3 : Fin 2048 → EReal) (p0 : Fin 2048 → EReal) (p1 : Fin 2048 → EReal) (j : Fin 2048) : EReal := gy a0 a1 a2 a3 p0 p1 j * (a3 j * logistic (a3 j)) * a2 j

def val10 (x0 : FVec Ideal S4096x2048 .f32) (x1 : FVec Ideal S4096x2048 .f32) (x2 : FVec Ideal S4096x4096 .f32) (x3 : FVec Ideal S4096x2048 .f32) (x4 : FVec Ideal S32 .f32) (x5 : FVec Ideal S2048 .f32) (r : Fin 4096) (j : Fin 2048) : EReal :=
  f10 (fun k : Fin 2048 => x0 (ix2 r k)) (fun k : Fin 2048 => x1 (ix2 r k)) (fun k : Fin 2048 => x2 (ix2 r ⟨k.val, by omega⟩)) (fun k : Fin 2048 => x3 (ix2 r k)) (fun k : Fin 2048 => x4 (ix1 ⟨k.val / 64, by omega⟩)) (fun k : Fin 2048 => x5 (ix1 k)) j

theorem pay_10 (a0 : FVec Ideal S128x2048 .f32) (a1 : FVec Ideal S128x2048 .f32) (a2 : FVec Ideal S128x2048 .f32) (a3 : FVec Ideal S128x2048 .f32) (p0 : FVec Ideal S1x2048 .f32) (p1 : FVec Ideal S1x2048 .f32) (acc : FVec Ideal S1x2048 .f32) (j : Fin 2048) :
    (k0_pay16 (F := Ideal) a2 a3 (k0_pay2 a3) (k0_pay5 a1 a2 a3 p0) (k0_pay7 a0 p1) (k0_pay8 a0 a1 a2 a3 p0 p1) acc (ix2 0 j) : EReal) = acc (ix2 0 j) + ∑ i : Fin 128, f10 (fun k => a0 (ix2 i k)) (fun k => a1 (ix2 i k)) (fun k => a2 (ix2 i k)) (fun k => a3 (ix2 i k)) (fun k => p0 (ix2 0 k)) (fun k => p1 (ix2 0 k)) j := by
  unfold f10
  pointwise [k0_pay16, k0_pay1, k0_pay2, k0_pay3, k0_pay4, k0_pay5, k0_pay6, k0_pay7, k0_pay8, k0_pay9, k0_pay10, k0_pay11, k0_pay12]
  unfold gy hat rs gat pre logistic; simp only [zero_sub] <;> rfl

theorem zero10 (j : Fin 2048) : (k0_pay14 (F := Ideal) (ix2 0 j) : EReal) = 0 := by
  pointwise [k0_pay14]

/-- The summand of a row, by the row's number. -/
def num10 (j : Fin 2048) (r : ℕ) : EReal := if h : r < 4096 then val10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨r, h⟩ j else 0

theorem add10 (t : Fin cfg0.N) (acc : FVec Ideal S1x2048 .f32) (j : Fin 2048) :
    (k0_pay16 (F := Ideal) (iblk m c 2 t) (iblk m c 3 t) (k0_pay2 (iblk m c 3 t)) (k0_pay5 (iblk m c 1 t) (iblk m c 2 t) (iblk m c 3 t) (iblk m c 4 t)) (k0_pay7 (iblk m c 0 t) (iblk m c 5 t)) (k0_pay8 (iblk m c 0 t) (iblk m c 1 t) (iblk m c 2 t) (iblk m c 3 t) (iblk m c 4 t) (iblk m c 5 t)) acc (ix2 0 j) : EReal) = acc (ix2 0 j) + ∑ i ∈ Finset.range 128, num10 m c j (t.val * 128 + i) := by
  have hN : t.val < 32 := t.isLt
  rw [Finset.sum_range]
  refine (pay_10 (iblk m c 0 t) (iblk m c 1 t) (iblk m c 2 t) (iblk m c 3 t) (iblk m c 4 t) (iblk m c 5 t) acc j).trans (congrArg (fun b : EReal => (acc (ix2 0 j) : EReal) + b) (Finset.sum_congr rfl fun i _ => ?_))
  have hr : t.val * 128 + i.val < 4096 := by have := i.isLt; omega
  refine Eq.trans ?_ (dif_pos hr).symm
  exact congrFun (congr (congr (congr (congr (congr (congrArg (f10) (funext fun k => in0 m c t i ⟨t.val * 128 + i.val, hr⟩ rfl k)) (funext fun k => in1 m c t i ⟨t.val * 128 + i.val, hr⟩ rfl k)) (funext fun k => in2 m c t i ⟨t.val * 128 + i.val, hr⟩ rfl k)) (funext fun k => in3 m c t i ⟨t.val * 128 + i.val, hr⟩ rfl k)) (funext fun k => in4 m c t k)) (funext fun k => in5 m c t k)) j

theorem acc10 (j : Fin 2048) : ∀ (n : ℕ) (hn : n < cfg0.N), ((outsAt0 m c n hn).2.2.2.2 : FVec Ideal S1x2048 .f32) (ix2 0 j)
    = ∑ r ∈ Finset.range ((n + 1) * 128), num10 m c j r
  | 0, hn => by
    rw [at10_A m c ⟨0, hn⟩ rfl, add10 m c ⟨0, hn⟩, zero10, zero_add]
    simp only [Nat.zero_mul, Nat.zero_add, Nat.one_mul]
  | n + 1, hn => by
    have hN : n + 1 < 32 := hn
    have ih := acc10 j n (Nat.lt_of_succ_lt hn)
    have h0 : ¬ (⟨n + 1, hn⟩ : Fin cfg0.N).val % 32 = 0 := by show ¬ (n + 1) % 32 = 0; omega
    rw [Nat.succ_mul (n + 1), Finset.sum_range_add, ← ih, at10_B m c ⟨n + 1, hn⟩ h0, add10 m c ⟨n + 1, hn⟩]
    rfl

theorem final10 : ((dats m 0 c).arrAt 10 cfg0.N : FVec Ideal S1x2048 .f32)
    = fun i => (∑ r : Fin 4096, val10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r (i 1) : EReal) := by
  refine (dats m 0 c).arrAt_eq_of_covers 10 _ (by decide +kernel) fun t hf y => ?_
  blk_simp
  rw [after0_10]
  have e1 : (win0_10.blk t).view.emb y 1 = (y : S1x2048.Idx) 1 := Fin.ext (by blk_simp [(idx t).2.2.2.2.2.2.2.2.2.2])
  have ht : t.val % 32 = 31 := (flush0_10 t).mp hf
  have hN : t.val < 32 := t.isLt
  have h := acc10 m c ((y : S1x2048.Idx) 1) t.val t.isLt
  rw [(by omega : (t.val + 1) * 128 = 4096), Finset.sum_range] at h
  rw [e1]
  refine (congrArg (fun z : S1x2048.Idx => ((outsAt0 m c t.val t.isLt).2.2.2.2 : FVec Ideal S1x2048 .f32) z) (etas y)).trans (h.trans (Finset.sum_congr rfl fun r _ => ?_))
  exact dif_pos r.isLt

end Kernel

section Reference

open Cert.ReferenceGnormBwdIdeal Cert.ReferenceGnormBwdIdeal.Gen

theorem etar2048 (y : S4096x2048.Idx) : y = ix2 (y 0 : Fin 4096) (y 1 : Fin 2048) := by funext k; fin_cases k <;> rfl

theorem etasr (y : S1x2048.Idx) : y = ix2 0 (y 1 : Fin 2048) := by
  funext k; fin_cases k
  · first | exact Subsingleton.elim (α := Fin 1) _ _ | rfl
  · rfl

theorem ref6 (m : (ℓ : Loc nD τ sig) → Buf (Elt Ideal) ℓ) (c : Dev nD)
    (X0 : Fin 4096 → Fin 2048 → ℝ)
    (X1 : Fin 4096 → Fin 2048 → ℝ)
    (X2 : Fin 4096 → Fin 4096 → ℝ)
    (X3 : Fin 4096 → Fin 2048 → ℝ)
    (X4 : Fin 32 → ℝ)
    (X5 : Fin 2048 → ℝ)
    (h0 : ∀ i j, (((m ((c.tc : Thread nD τ).loc main_arg0)) : FVec Ideal S4096x2048 .f32) (ix2 i j) : EReal) = ((X0 i j : ℝ) : EReal))
    (h1 : ∀ i j, (((m ((c.tc : Thread nD τ).loc main_arg1)) : FVec Ideal S4096x2048 .f32) (ix2 i j) : EReal) = ((X1 i j : ℝ) : EReal))
    (h2 : ∀ i j, (((m ((c.tc : Thread nD τ).loc main_arg2)) : FVec Ideal S4096x4096 .f32) (ix2 i j) : EReal) = ((X2 i j : ℝ) : EReal))
    (h3 : ∀ i j, (((m ((c.tc : Thread nD τ).loc main_arg3)) : FVec Ideal S4096x2048 .f32) (ix2 i j) : EReal) = ((X3 i j : ℝ) : EReal))
    (h4 : ∀ i, (((m ((c.tc : Thread nD τ).loc main_arg4)) : FVec Ideal S32 .f32) (ix1 i) : EReal) = ((X4 i : ℝ) : EReal))
    (h5 : ∀ i, (((m ((c.tc : Thread nD τ).loc main_arg5)) : FVec Ideal S2048 .f32) (ix1 i) : EReal) = ((X5 i : ℝ) : EReal)) :
    (Cert.ReferenceGnormBwdIdeal.Value.res_main_v47 m c : FVec Ideal S4096x2048 .f32)
      = fun i => val6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1) := by
  funext y
  rw [etar2048 y]
  generalize (y : S4096x2048.Idx) 0 = i
  generalize (y : S4096x2048.Idx) 1 = j
  revert i j; intro (i : Fin 4096) (j : Fin 2048)
  unfold val6 f6
  pointwise [Cert.ReferenceGnormBwdIdeal.Value.res_main_v47]
  simp only [h0, h1, h2, h3, h4, h5, gy, hat, rs, gat, pre, logistic, Attn.one_coe, Attn.coe_neg, Attn.exp_coe, Attn.coe_add, Reals.sig, Attn.coe_sub, Attn.coe_mul, Attn.coe_sum, Reals.c_2048, Reals.d2048, Attn.c_eps, Reals.rsq2, Reals.quo2, Attn.c_nhalf, Reals.c_2, Finset.univ_unique, Finset.sum_singleton]
  refine congrArg Real.toEReal ?_
  have e := Reals.norm_bwd (fun k => (X1 i k + X2 i ⟨k.val, by omega⟩ * X4 ⟨k.val / 64, by omega⟩) * (X3 i k * (1 / (1 + Real.exp (-X3 i k))))) (fun k => X0 i k * X5 k) j
  exact congrArg (fun b : ℝ => b * (X3 i j * (1 / (1 + Real.exp (-X3 i j))))) e

theorem ref7 (m : (ℓ : Loc nD τ sig) → Buf (Elt Ideal) ℓ) (c : Dev nD)
    (X0 : Fin 4096 → Fin 2048 → ℝ)
    (X1 : Fin 4096 → Fin 2048 → ℝ)
    (X2 : Fin 4096 → Fin 4096 → ℝ)
    (X3 : Fin 4096 → Fin 2048 → ℝ)
    (X4 : Fin 32 → ℝ)
    (X5 : Fin 2048 → ℝ)
    (h0 : ∀ i j, (((m ((c.tc : Thread nD τ).loc main_arg0)) : FVec Ideal S4096x2048 .f32) (ix2 i j) : EReal) = ((X0 i j : ℝ) : EReal))
    (h1 : ∀ i j, (((m ((c.tc : Thread nD τ).loc main_arg1)) : FVec Ideal S4096x2048 .f32) (ix2 i j) : EReal) = ((X1 i j : ℝ) : EReal))
    (h2 : ∀ i j, (((m ((c.tc : Thread nD τ).loc main_arg2)) : FVec Ideal S4096x4096 .f32) (ix2 i j) : EReal) = ((X2 i j : ℝ) : EReal))
    (h3 : ∀ i j, (((m ((c.tc : Thread nD τ).loc main_arg3)) : FVec Ideal S4096x2048 .f32) (ix2 i j) : EReal) = ((X3 i j : ℝ) : EReal))
    (h4 : ∀ i, (((m ((c.tc : Thread nD τ).loc main_arg4)) : FVec Ideal S32 .f32) (ix1 i) : EReal) = ((X4 i : ℝ) : EReal))
    (h5 : ∀ i, (((m ((c.tc : Thread nD τ).loc main_arg5)) : FVec Ideal S2048 .f32) (ix1 i) : EReal) = ((X5 i : ℝ) : EReal)) :
    (Cert.ReferenceGnormBwdIdeal.Value.res_main_v55 m c : FVec Ideal S4096x2048 .bf16)
      = fun i => val7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1) := by
  funext y
  rw [etar2048 y]
  generalize (y : S4096x2048.Idx) 0 = i
  generalize (y : S4096x2048.Idx) 1 = j
  revert i j; intro (i : Fin 4096) (j : Fin 2048)
  unfold val7 f7
  pointwise [Cert.ReferenceGnormBwdIdeal.Value.res_main_v55]
  simp only [h0, h1, h2, h3, h4, h5, gy, hat, rs, gat, pre, logistic, Attn.one_coe, Attn.coe_neg, Attn.exp_coe, Attn.coe_add, Reals.sig, Attn.coe_sub, Attn.coe_mul, Attn.coe_sum, Reals.c_2048, Reals.d2048, Attn.c_eps, Reals.rsq2, Reals.quo2, Attn.c_nhalf, Reals.c_2, Finset.univ_unique, Finset.sum_singleton]
  refine congrArg Real.toEReal ?_
  have e := Reals.norm_bwd (fun k => (X1 i k + X2 i ⟨k.val, by omega⟩ * X4 ⟨k.val / 64, by omega⟩) * (X3 i k * (1 / (1 + Real.exp (-X3 i k))))) (fun k => X0 i k * X5 k) j
  exact (Reals.silu_grad _ _ _).trans (congrArg (fun b : ℝ => b * ((1 / (1 + Real.exp (-X3 i j))) * (1 + X3 i j * (1 - (1 / (1 + Real.exp (-X3 i j))))))) ((mul_comm (G := ℝ) _ _).trans (congrArg (fun b : ℝ => b * (X1 i j + X2 i ⟨j.val, by omega⟩ * X4 ⟨j.val / 64, by omega⟩)) e)))

theorem ref8 (m : (ℓ : Loc nD τ sig) → Buf (Elt Ideal) ℓ) (c : Dev nD)
    (X0 : Fin 4096 → Fin 2048 → ℝ)
    (X1 : Fin 4096 → Fin 2048 → ℝ)
    (X2 : Fin 4096 → Fin 4096 → ℝ)
    (X3 : Fin 4096 → Fin 2048 → ℝ)
    (X4 : Fin 32 → ℝ)
    (X5 : Fin 2048 → ℝ)
    (h0 : ∀ i j, (((m ((c.tc : Thread nD τ).loc main_arg0)) : FVec Ideal S4096x2048 .f32) (ix2 i j) : EReal) = ((X0 i j : ℝ) : EReal))
    (h1 : ∀ i j, (((m ((c.tc : Thread nD τ).loc main_arg1)) : FVec Ideal S4096x2048 .f32) (ix2 i j) : EReal) = ((X1 i j : ℝ) : EReal))
    (h2 : ∀ i j, (((m ((c.tc : Thread nD τ).loc main_arg2)) : FVec Ideal S4096x4096 .f32) (ix2 i j) : EReal) = ((X2 i j : ℝ) : EReal))
    (h3 : ∀ i j, (((m ((c.tc : Thread nD τ).loc main_arg3)) : FVec Ideal S4096x2048 .f32) (ix2 i j) : EReal) = ((X3 i j : ℝ) : EReal))
    (h4 : ∀ i, (((m ((c.tc : Thread nD τ).loc main_arg4)) : FVec Ideal S32 .f32) (ix1 i) : EReal) = ((X4 i : ℝ) : EReal))
    (h5 : ∀ i, (((m ((c.tc : Thread nD τ).loc main_arg5)) : FVec Ideal S2048 .f32) (ix1 i) : EReal) = ((X5 i : ℝ) : EReal)) :
    (Cert.ReferenceGnormBwdIdeal.Value.res_main_v53 m c : FVec Ideal S4096x2048 .f32)
      = fun i => val8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1) := by
  funext y
  rw [etar2048 y]
  generalize (y : S4096x2048.Idx) 0 = i
  generalize (y : S4096x2048.Idx) 1 = j
  revert i j; intro (i : Fin 4096) (j : Fin 2048)
  unfold val8 f8
  pointwise [Cert.ReferenceGnormBwdIdeal.Value.res_main_v53]
  simp only [h0, h1, h2, h3, h4, h5, gy, hat, rs, gat, pre, logistic, Attn.one_coe, Attn.coe_neg, Attn.exp_coe, Attn.coe_add, Reals.sig, Attn.coe_sub, Attn.coe_mul, Attn.coe_sum, Reals.c_2048, Reals.d2048, Attn.c_eps, Reals.rsq2, Reals.quo2, Attn.c_nhalf, Reals.c_2, Finset.univ_unique, Finset.sum_singleton]
  refine congrArg Real.toEReal ?_
  have e := Reals.norm_bwd (fun k => (X1 i k + X2 i ⟨k.val, by omega⟩ * X4 ⟨k.val / 64, by omega⟩) * (X3 i k * (1 / (1 + Real.exp (-X3 i k))))) (fun k => X0 i k * X5 k) j
  first
  | exact congrArg (fun b : ℝ => b * (X3 i j * (1 / (1 + Real.exp (-X3 i j)))) * X4 ⟨j.val / 64, by omega⟩) e
  | exact (mul_comm (G := ℝ) _ _).trans (congrArg (fun b : ℝ => b * (X3 i j * (1 / (1 + Real.exp (-X3 i j)))) * X4 ⟨j.val / 64, by omega⟩) e)
  | trace_state

theorem ref9 (x0 : FVec Ideal S4096x2048 .f32) (x1 : FVec Ideal S4096x2048 .f32) (x2 : FVec Ideal S4096x4096 .f32) (x3 : FVec Ideal S4096x2048 .f32) (x4 : FVec Ideal S32 .f32) (x5 : FVec Ideal S2048 .f32)
    (X0 : Fin 4096 → Fin 2048 → ℝ)
    (X1 : Fin 4096 → Fin 2048 → ℝ)
    (X2 : Fin 4096 → Fin 4096 → ℝ)
    (X3 : Fin 4096 → Fin 2048 → ℝ)
    (X4 : Fin 32 → ℝ)
    (X5 : Fin 2048 → ℝ)
    (h0 : ∀ i j, ((x0 : FVec Ideal S4096x2048 .f32) (ix2 i j) : EReal) = ((X0 i j : ℝ) : EReal))
    (h1 : ∀ i j, ((x1 : FVec Ideal S4096x2048 .f32) (ix2 i j) : EReal) = ((X1 i j : ℝ) : EReal))
    (h2 : ∀ i j, ((x2 : FVec Ideal S4096x4096 .f32) (ix2 i j) : EReal) = ((X2 i j : ℝ) : EReal))
    (h3 : ∀ i j, ((x3 : FVec Ideal S4096x2048 .f32) (ix2 i j) : EReal) = ((X3 i j : ℝ) : EReal))
    (h4 : ∀ i, ((x4 : FVec Ideal S32 .f32) (ix1 i) : EReal) = ((X4 i : ℝ) : EReal))
    (h5 : ∀ i, ((x5 : FVec Ideal S2048 .f32) (ix1 i) : EReal) = ((X5 i : ℝ) : EReal)) :
    (broadcastInDim S1x2048 ![1] bcast_S2048_S1x2048_1 (Host.reduceAdd (shapeCast _ (Host.reduceAdd (mulf (mulf (mulf (addf x1 (mulf (extractStridedSlice S4096x2048 ![0, 0] x2 slices_S4096x4096_S4096x2048_0_0) (broadcastInDim S4096x2048 ![0, 1] bcast_S1x2048_S4096x2048_0_1 (broadcastInDim S1x2048 ![1] bcast_S2048_S1x2048_1 (shapeCast _ (broadcastInDim S32x64 ![0, 1] bcast_S32x1_S32x64_0_1 (broadcastInDim S32x1 ![0] bcast_S32_S32x1_0 x4)) shapeCasts_S32x64_S2048))))) (mulf x3 (Host.divf (broadcastInDim S4096x2048 ![] bcast_S_S4096x2048 (constant S_ .f32 0x3F800000#32)) (addf (broadcastInDim S4096x2048 ![] bcast_S_S4096x2048 (constant S_ .f32 0x3F800000#32)) (Host.exp (Host.negf x3)))))) (broadcastInDim S4096x2048 ![0, 1] bcast_S4096x1_S4096x2048_0_1 (Host.rsqrt (addf (Host.divf (broadcastInDim S4096x1 ![0] bcast_S4096_S4096x1_0 (Host.reduceAdd (mulf (mulf (addf x1 (mulf (extractStridedSlice S4096x2048 ![0, 0] x2 slices_S4096x4096_S4096x2048_0_0) (broadcastInDim S4096x2048 ![0, 1] bcast_S1x2048_S4096x2048_0_1 (broadcastInDim S1x2048 ![1] bcast_S2048_S1x2048_1 (shapeCast _ (broadcastInDim S32x64 ![0, 1] bcast_S32x1_S32x64_0_1 (broadcastInDim S32x1 ![0] bcast_S32_S32x1_0 x4)) shapeCasts_S32x64_S2048))))) (mulf x3 (Host.divf (broadcastInDim S4096x2048 ![] bcast_S_S4096x2048 (constant S_ .f32 0x3F800000#32)) (addf (broadcastInDim S4096x2048 ![] bcast_S_S4096x2048 (constant S_ .f32 0x3F800000#32)) (Host.exp (Host.negf x3)))))) (mulf (addf x1 (mulf (extractStridedSlice S4096x2048 ![0, 0] x2 slices_S4096x4096_S4096x2048_0_0) (broadcastInDim S4096x2048 ![0, 1] bcast_S1x2048_S4096x2048_0_1 (broadcastInDim S1x2048 ![1] bcast_S2048_S1x2048_1 (shapeCast _ (broadcastInDim S32x64 ![0, 1] bcast_S32x1_S32x64_0_1 (broadcastInDim S32x1 ![0] bcast_S32_S32x1_0 x4)) shapeCasts_S32x64_S2048))))) (mulf x3 (Host.divf (broadcastInDim S4096x2048 ![] bcast_S_S4096x2048 (constant S_ .f32 0x3F800000#32)) (addf (broadcastInDim S4096x2048 ![] bcast_S_S4096x2048 (constant S_ .f32 0x3F800000#32)) (Host.exp (Host.negf x3))))))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) x0) (constant S_ .f32 0x00000000#32) reducesTo_S4096x2048_S2048_d0 h_S_) shapeCasts_S2048_S1x2048) (constant S_ .f32 0x00000000#32) reducesTo_S1x2048_S2048_d0 h_S_) : FVec Ideal S1x2048 .f32)
      = fun i => ∑ r : Fin 4096, val9 x0 x1 x2 x3 x4 x5 r (i 1) := by
  funext y
  rw [etasr y]
  generalize (y : S1x2048.Idx) 1 = j
  revert j; intro (j : Fin 2048)
  unfold val9 f9
  pointwise
  simp only [h0, h1, h2, h3, h4, h5, gy, hat, rs, gat, pre, logistic, Attn.one_coe, Attn.coe_neg, Attn.exp_coe, Attn.coe_add, Reals.sig, Attn.coe_sub, Attn.coe_mul, Attn.coe_sum, Reals.c_2048, Reals.d2048, Attn.c_eps, Reals.rsq2, Reals.quo2, Attn.c_nhalf, Reals.c_2, Finset.univ_unique, Finset.sum_singleton]
  refine congrArg Real.toEReal (Finset.sum_congr rfl fun i _ => ?_)
  exact mul_comm (G := ℝ) _ _

theorem ref10 (m : (ℓ : Loc nD τ sig) → Buf (Elt Ideal) ℓ) (c : Dev nD)
    (X0 : Fin 4096 → Fin 2048 → ℝ)
    (X1 : Fin 4096 → Fin 2048 → ℝ)
    (X2 : Fin 4096 → Fin 4096 → ℝ)
    (X3 : Fin 4096 → Fin 2048 → ℝ)
    (X4 : Fin 32 → ℝ)
    (X5 : Fin 2048 → ℝ)
    (h0 : ∀ i j, (((m ((c.tc : Thread nD τ).loc main_arg0)) : FVec Ideal S4096x2048 .f32) (ix2 i j) : EReal) = ((X0 i j : ℝ) : EReal))
    (h1 : ∀ i j, (((m ((c.tc : Thread nD τ).loc main_arg1)) : FVec Ideal S4096x2048 .f32) (ix2 i j) : EReal) = ((X1 i j : ℝ) : EReal))
    (h2 : ∀ i j, (((m ((c.tc : Thread nD τ).loc main_arg2)) : FVec Ideal S4096x4096 .f32) (ix2 i j) : EReal) = ((X2 i j : ℝ) : EReal))
    (h3 : ∀ i j, (((m ((c.tc : Thread nD τ).loc main_arg3)) : FVec Ideal S4096x2048 .f32) (ix2 i j) : EReal) = ((X3 i j : ℝ) : EReal))
    (h4 : ∀ i, (((m ((c.tc : Thread nD τ).loc main_arg4)) : FVec Ideal S32 .f32) (ix1 i) : EReal) = ((X4 i : ℝ) : EReal))
    (h5 : ∀ i, (((m ((c.tc : Thread nD τ).loc main_arg5)) : FVec Ideal S2048 .f32) (ix1 i) : EReal) = ((X5 i : ℝ) : EReal)) :
    (Cert.ReferenceGnormBwdIdeal.Value.res_main_v57 m c : FVec Ideal S1x2048 .f32)
      = fun i => ∑ r : Fin 4096, val10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) r (i 1) := by
  funext y
  rw [etasr y]
  generalize (y : S1x2048.Idx) 1 = j
  revert j; intro (j : Fin 2048)
  unfold val10 f10
  pointwise [Cert.ReferenceGnormBwdIdeal.Value.res_main_v57]
  simp only [h0, h1, h2, h3, h4, h5, gy, hat, rs, gat, pre, logistic, Attn.one_coe, Attn.coe_neg, Attn.exp_coe, Attn.coe_add, Reals.sig, Attn.coe_sub, Attn.coe_mul, Attn.coe_sum, Reals.c_2048, Reals.d2048, Attn.c_eps, Reals.rsq2, Reals.quo2, Attn.c_nhalf, Reals.c_2, Finset.univ_unique, Finset.sum_singleton]
  refine congrArg Real.toEReal (Finset.sum_congr rfl fun i _ => ?_)
  have e := Reals.norm_bwd (fun k => (X1 i k + X2 i ⟨k.val, by omega⟩ * X4 ⟨k.val / 64, by omega⟩) * (X3 i k * (1 / (1 + Real.exp (-X3 i k))))) (fun k => X0 i k * X5 k) j
  exact (mul_comm (G := ℝ) _ _).trans (congrArg (fun b : ℝ => b * (X3 i j * (1 / (1 + Real.exp (-X3 i j)))) * X2 i ⟨j.val, by omega⟩) e)

end Reference

end Mlp.GnormBwd

end
-- ==== Proof.Mlp.Claims.lean ====
/- The claims about the calls, program by program, from the values their modules give: that a reference runs and leaves
   its arguments, and that the call's results are the reference's. -/
module

public import proofs.«01_k».proof.Defs
public import proofs.«01_k».proof.Proof.Attn.Finite
public import proofs.«01_k».proof.Proof.Gen.Pre_finite_silu
public import proofs.«01_k».proof.Proof.Gen.Pre_finite_ln
public import proofs.«01_k».proof.Proof.Gen.Pre_finite_gnorm
public import proofs.«01_k».proof.Proof.Gen.KernelW1.Frame
public import proofs.«01_k».proof.Proof.Mlp.W1
public import proofs.«01_k».proof.Proof.Gen.KernelW2.Frame
public import proofs.«01_k».proof.Proof.Mlp.W2
public import proofs.«01_k».proof.Proof.Gen.KernelDa.Frame
public import proofs.«01_k».proof.Proof.Mlp.Da
public import proofs.«01_k».proof.Proof.Gen.KernelDw2.Frame
public import proofs.«01_k».proof.Proof.Mlp.Dw2
public import proofs.«01_k».proof.Proof.Gen.KernelDw1.Frame
public import proofs.«01_k».proof.Proof.Mlp.Dw1
public import proofs.«01_k».proof.Proof.Gen.KernelDu.Frame
public import proofs.«01_k».proof.Proof.Mlp.Du
public import proofs.«01_k».proof.Proof.Gen.KernelQkv.Frame
public import proofs.«01_k».proof.Proof.Mlp.Qkv
public import proofs.«01_k».proof.Proof.Gen.KernelWo.Frame
public import proofs.«01_k».proof.Proof.Mlp.Wo
public import proofs.«01_k».proof.Proof.Gen.KernelDo.Frame
public import proofs.«01_k».proof.Proof.Mlp.Do
public import proofs.«01_k».proof.Proof.Gen.KernelDwo.Frame
public import proofs.«01_k».proof.Proof.Mlp.Dwo
public import proofs.«01_k».proof.Proof.Gen.KernelDwqkv.Frame
public import proofs.«01_k».proof.Proof.Mlp.Dwqkv
public import proofs.«01_k».proof.Proof.Gen.KernelDuqkv.Frame
public import proofs.«01_k».proof.Proof.Mlp.Duqkv
public import proofs.«01_k».proof.Proof.Gen.KernelGate.Frame
public import proofs.«01_k».proof.Proof.Mlp.Gate
public import proofs.«01_k».proof.Proof.Gen.KernelProj.Frame
public import proofs.«01_k».proof.Proof.Mlp.Proj
public import proofs.«01_k».proof.Proof.Gen.KernelDwproj.Frame
public import proofs.«01_k».proof.Proof.Mlp.Dwproj
public import proofs.«01_k».proof.Proof.Gen.KernelPw1.Frame
public import proofs.«01_k».proof.Proof.Mlp.Pw1
public import proofs.«01_k».proof.Proof.Gen.KernelPw2.Frame
public import proofs.«01_k».proof.Proof.Mlp.Pw2
public import proofs.«01_k».proof.Proof.Gen.KernelDwpw1.Frame
public import proofs.«01_k».proof.Proof.Mlp.Dwpw1
public import proofs.«01_k».proof.Proof.Gen.KernelDupw1.Frame
public import proofs.«01_k».proof.Proof.Mlp.Dupw1
public import proofs.«01_k».proof.Proof.Gen.KernelInz.Frame
public import proofs.«01_k».proof.Proof.Mlp.Inz
public import proofs.«01_k».proof.Proof.Gen.KernelInxbc.Frame
public import proofs.«01_k».proof.Proof.Mlp.Inxbc
public import proofs.«01_k».proof.Proof.Gen.KernelIndt.Frame
public import proofs.«01_k».proof.Proof.Mlp.Indt
public import proofs.«01_k».proof.Proof.Gen.KernelOut.Frame
public import proofs.«01_k».proof.Proof.Mlp.Out
public import proofs.«01_k».proof.Proof.Gen.KernelDyn.Frame
public import proofs.«01_k».proof.Proof.Mlp.Dyn
public import proofs.«01_k».proof.Proof.Gen.KernelDwout.Frame
public import proofs.«01_k».proof.Proof.Mlp.Dwout
public import proofs.«01_k».proof.Proof.Gen.KernelDwinz.Frame
public import proofs.«01_k».proof.Proof.Mlp.Dwinz
public import proofs.«01_k».proof.Proof.Gen.KernelDwinxbc.Frame
public import proofs.«01_k».proof.Proof.Mlp.Dwinxbc
public import proofs.«01_k».proof.Proof.Gen.KernelDwindt.Frame
public import proofs.«01_k».proof.Proof.Mlp.Dwindt
public import proofs.«01_k».proof.Proof.Gen.KernelDuz.Frame
public import proofs.«01_k».proof.Proof.Mlp.Duz
public import proofs.«01_k».proof.Proof.Gen.KernelDuxbc.Frame
public import proofs.«01_k».proof.Proof.Mlp.Duxbc
public import proofs.«01_k».proof.Proof.Gen.KernelDudt.Frame
public import proofs.«01_k».proof.Proof.Mlp.Dudt
public import proofs.«01_k».proof.Proof.Gen.KernelPleBwd.Frame
public import proofs.«01_k».proof.Proof.Mlp.PleBwd
public import proofs.«01_k».proof.Proof.Gen.KernelGluBwd.Frame
public import proofs.«01_k».proof.Proof.Mlp.GluBwd
public import proofs.«01_k».proof.Proof.Gen.KernelDxs.Frame
public import proofs.«01_k».proof.Proof.Mlp.Dxs
public import proofs.«01_k».proof.Proof.Gen.KernelRms.Frame
public import proofs.«01_k».proof.Proof.Mlp.Rms
public import proofs.«01_k».proof.Proof.Gen.KernelGlu.Frame
public import proofs.«01_k».proof.Proof.Mlp.Glu
public import proofs.«01_k».proof.Proof.Gen.KernelLn.Frame
public import proofs.«01_k».proof.Proof.Mlp.Ln
public import proofs.«01_k».proof.Proof.Gen.KernelGnorm.Frame
public import proofs.«01_k».proof.Proof.Mlp.Gnorm
public import proofs.«01_k».proof.Proof.Gen.KernelLoss.Frame
public import proofs.«01_k».proof.Proof.Mlp.Loss
public import proofs.«01_k».proof.Proof.Gen.KernelAdamw.Frame
public import proofs.«01_k».proof.Proof.Mlp.Adamw
public import proofs.«01_k».proof.Proof.Gen.KernelRmsBwd.Frame
public import proofs.«01_k».proof.Proof.Mlp.RmsBwd
public import proofs.«01_k».proof.Proof.Gen.KernelSiluBwd.Frame
public import proofs.«01_k».proof.Proof.Mlp.SiluBwd
public import proofs.«01_k».proof.Proof.Gen.KernelLnBwd.Frame
public import proofs.«01_k».proof.Proof.Mlp.LnBwd
public import proofs.«01_k».proof.Proof.Gen.KernelGnormBwd.Frame
public import proofs.«01_k».proof.Proof.Mlp.GnormBwd

@[expose] public section

set_option maxRecDepth 16384

noncomputable section

namespace Mlp

open Idealize.ShloMosaic Idealize.ShloMosaic.TcCoe Idealize.SL.Sem

theorem frameW1 : Cert.quiescent_ReferenceW1Ideal := fun m ρ _ =>
  (θ_run Cert.ReferenceW1Ideal.defs _ _).mono (fun r h => ⟨fun c => (h c).2.2, sem_eq_zero_of_no_sems (by decide) r.2⟩)
    (Cert.ReferenceW1Ideal.Value.run m ρ)

theorem algW1 : Cert.algebraic_KernelW1Ideal_ReferenceW1Ideal := by
  intro m ρ m' ρ' _ hag
  refine ⟨_, _, (θ_run Cert.KernelW1Ideal.defs _ _).mono (fun r h c => ⟨(h c).1.trans (W1.final2 m c), (h c).2.1.trans (W1.final3 m c), (h c).2.2⟩) (Cert.KernelW1Ideal.Value.run_blocks m ρ),
    (θ_run Cert.ReferenceW1Ideal.defs _ _).mono (fun r h c => ⟨(h c).1.trans ?_, (h c).2.1.trans ?_, (h c).2.2⟩) (Cert.ReferenceW1Ideal.Value.run m' ρ')⟩
  · rw [(hag c).1, (hag c).2]
    exact W1.ref0 _ _
  · rw [(hag c).1, (hag c).2]
    exact W1.sq _ _

theorem frameW2 : Cert.quiescent_ReferenceW2Ideal := fun m ρ _ =>
  (θ_run Cert.ReferenceW2Ideal.defs _ _).mono (fun r h => ⟨fun c => (h c).2, sem_eq_zero_of_no_sems (by decide) r.2⟩)
    (Cert.ReferenceW2Ideal.Value.run m ρ)

theorem algW2 : Cert.algebraic_KernelW2Ideal_ReferenceW2Ideal := by
  intro m ρ m' ρ' _ hag
  refine ⟨_, (θ_run Cert.KernelW2Ideal.defs _ _).mono (fun r h c => ⟨(h c).1.trans (W2.final3 m c), (h c).2⟩) (Cert.KernelW2Ideal.Value.run_blocks m ρ),
    (θ_run Cert.ReferenceW2Ideal.defs _ _).mono (fun r h c => ⟨(h c).1.trans ?_, (h c).2⟩) (Cert.ReferenceW2Ideal.Value.run m' ρ')⟩
  · rw [(hag c).1, (hag c).2.1, (hag c).2.2]
    exact W2.ref _ _ _

theorem frameDa : Cert.quiescent_ReferenceDaIdeal := fun m ρ _ =>
  (θ_run Cert.ReferenceDaIdeal.defs _ _).mono (fun r h => ⟨fun c => (h c).2, sem_eq_zero_of_no_sems (by decide) r.2⟩)
    (Cert.ReferenceDaIdeal.Value.run m ρ)

theorem algDa : Cert.algebraic_KernelDaIdeal_ReferenceDaIdeal := by
  intro m ρ m' ρ' _ hag
  refine ⟨_, (θ_run Cert.KernelDaIdeal.defs _ _).mono (fun r h c => ⟨(h c).1.trans (Da.final3 m c), (h c).2⟩) (Cert.KernelDaIdeal.Value.run_blocks m ρ),
    (θ_run Cert.ReferenceDaIdeal.defs _ _).mono (fun r h c => ⟨(h c).1.trans ?_, (h c).2⟩) (Cert.ReferenceDaIdeal.Value.run m' ρ')⟩
  · rw [(hag c).1, (hag c).2.1, (hag c).2.2]
    exact Da.ref _ _ _

theorem frameDw2 : Cert.quiescent_ReferenceDw2Ideal := fun m ρ _ =>
  (θ_run Cert.ReferenceDw2Ideal.defs _ _).mono (fun r h => ⟨fun c => (h c).2, sem_eq_zero_of_no_sems (by decide) r.2⟩)
    (Cert.ReferenceDw2Ideal.Value.run m ρ)

theorem algDw2 : Cert.algebraic_KernelDw2Ideal_ReferenceDw2Ideal := by
  intro m ρ m' ρ' _ hag
  refine ⟨_, (θ_run Cert.KernelDw2Ideal.defs _ _).mono (fun r h c => ⟨(h c).1.trans (Dw2.final2 m c), (h c).2⟩) (Cert.KernelDw2Ideal.Value.run_blocks m ρ),
    (θ_run Cert.ReferenceDw2Ideal.defs _ _).mono (fun r h c => ⟨(h c).1.trans ?_, (h c).2⟩) (Cert.ReferenceDw2Ideal.Value.run m' ρ')⟩
  · rw [(hag c).1, (hag c).2]
    exact Dw2.ref _ _

theorem frameDw1 : Cert.quiescent_ReferenceDw1Ideal := fun m ρ _ =>
  (θ_run Cert.ReferenceDw1Ideal.defs _ _).mono (fun r h => ⟨fun c => (h c).2, sem_eq_zero_of_no_sems (by decide) r.2⟩)
    (Cert.ReferenceDw1Ideal.Value.run m ρ)

theorem algDw1 : Cert.algebraic_KernelDw1Ideal_ReferenceDw1Ideal := by
  intro m ρ m' ρ' _ hag
  refine ⟨_, (θ_run Cert.KernelDw1Ideal.defs _ _).mono (fun r h c => ⟨(h c).1.trans (Dw1.final2 m c), (h c).2⟩) (Cert.KernelDw1Ideal.Value.run_blocks m ρ),
    (θ_run Cert.ReferenceDw1Ideal.defs _ _).mono (fun r h c => ⟨(h c).1.trans ?_, (h c).2⟩) (Cert.ReferenceDw1Ideal.Value.run m' ρ')⟩
  · rw [(hag c).1, (hag c).2]
    exact Dw1.ref _ _

theorem frameDu : Cert.quiescent_ReferenceDuIdeal := fun m ρ _ =>
  (θ_run Cert.ReferenceDuIdeal.defs _ _).mono (fun r h => ⟨fun c => (h c).2, sem_eq_zero_of_no_sems (by decide) r.2⟩)
    (Cert.ReferenceDuIdeal.Value.run m ρ)

theorem algDu : Cert.algebraic_KernelDuIdeal_ReferenceDuIdeal := by
  intro m ρ m' ρ' _ hag
  refine ⟨_, (θ_run Cert.KernelDuIdeal.defs _ _).mono (fun r h c => ⟨(h c).1.trans (Du.final2 m c), (h c).2⟩) (Cert.KernelDuIdeal.Value.run_blocks m ρ),
    (θ_run Cert.ReferenceDuIdeal.defs _ _).mono (fun r h c => ⟨(h c).1.trans ?_, (h c).2⟩) (Cert.ReferenceDuIdeal.Value.run m' ρ')⟩
  · rw [(hag c).1, (hag c).2]
    exact Du.ref _ _

theorem frameQkv : Cert.quiescent_ReferenceQkvIdeal := fun m ρ _ =>
  (θ_run Cert.ReferenceQkvIdeal.defs _ _).mono (fun r h => ⟨fun c => (h c).2, sem_eq_zero_of_no_sems (by decide) r.2⟩)
    (Cert.ReferenceQkvIdeal.Value.run m ρ)

theorem algQkv : Cert.algebraic_KernelQkvIdeal_ReferenceQkvIdeal := by
  intro m ρ m' ρ' _ hag
  refine ⟨_, (θ_run Cert.KernelQkvIdeal.defs _ _).mono (fun r h c => ⟨(h c).1.trans (Qkv.final2 m c), (h c).2⟩) (Cert.KernelQkvIdeal.Value.run_blocks m ρ),
    (θ_run Cert.ReferenceQkvIdeal.defs _ _).mono (fun r h c => ⟨(h c).1.trans ?_, (h c).2⟩) (Cert.ReferenceQkvIdeal.Value.run m' ρ')⟩
  · rw [(hag c).1, (hag c).2]
    exact Qkv.ref _ _

theorem frameWo : Cert.quiescent_ReferenceWoIdeal := fun m ρ _ =>
  (θ_run Cert.ReferenceWoIdeal.defs _ _).mono (fun r h => ⟨fun c => (h c).2, sem_eq_zero_of_no_sems (by decide) r.2⟩)
    (Cert.ReferenceWoIdeal.Value.run m ρ)

theorem algWo : Cert.algebraic_KernelWoIdeal_ReferenceWoIdeal := by
  intro m ρ m' ρ' _ hag
  refine ⟨_, (θ_run Cert.KernelWoIdeal.defs _ _).mono (fun r h c => ⟨(h c).1.trans (Wo.final3 m c), (h c).2⟩) (Cert.KernelWoIdeal.Value.run_blocks m ρ),
    (θ_run Cert.ReferenceWoIdeal.defs _ _).mono (fun r h c => ⟨(h c).1.trans ?_, (h c).2⟩) (Cert.ReferenceWoIdeal.Value.run m' ρ')⟩
  · rw [(hag c).1, (hag c).2.1, (hag c).2.2]
    exact Wo.ref _ _ _

theorem frameDo : Cert.quiescent_ReferenceDoIdeal := fun m ρ _ =>
  (θ_run Cert.ReferenceDoIdeal.defs _ _).mono (fun r h => ⟨fun c => (h c).2, sem_eq_zero_of_no_sems (by decide) r.2⟩)
    (Cert.ReferenceDoIdeal.Value.run m ρ)

theorem algDo : Cert.algebraic_KernelDoIdeal_ReferenceDoIdeal := by
  intro m ρ m' ρ' _ hag
  refine ⟨_, (θ_run Cert.KernelDoIdeal.defs _ _).mono (fun r h c => ⟨(h c).1.trans (Do.final2 m c), (h c).2⟩) (Cert.KernelDoIdeal.Value.run_blocks m ρ),
    (θ_run Cert.ReferenceDoIdeal.defs _ _).mono (fun r h c => ⟨(h c).1.trans ?_, (h c).2⟩) (Cert.ReferenceDoIdeal.Value.run m' ρ')⟩
  · rw [(hag c).1, (hag c).2]
    exact Do.ref _ _

theorem frameDwo : Cert.quiescent_ReferenceDwoIdeal := fun m ρ _ =>
  (θ_run Cert.ReferenceDwoIdeal.defs _ _).mono (fun r h => ⟨fun c => (h c).2, sem_eq_zero_of_no_sems (by decide) r.2⟩)
    (Cert.ReferenceDwoIdeal.Value.run m ρ)

theorem algDwo : Cert.algebraic_KernelDwoIdeal_ReferenceDwoIdeal := by
  intro m ρ m' ρ' _ hag
  refine ⟨_, (θ_run Cert.KernelDwoIdeal.defs _ _).mono (fun r h c => ⟨(h c).1.trans (Dwo.final2 m c), (h c).2⟩) (Cert.KernelDwoIdeal.Value.run_blocks m ρ),
    (θ_run Cert.ReferenceDwoIdeal.defs _ _).mono (fun r h c => ⟨(h c).1.trans ?_, (h c).2⟩) (Cert.ReferenceDwoIdeal.Value.run m' ρ')⟩
  · rw [(hag c).1, (hag c).2]
    exact Dwo.ref _ _

theorem frameDwqkv : Cert.quiescent_ReferenceDwqkvIdeal := fun m ρ _ =>
  (θ_run Cert.ReferenceDwqkvIdeal.defs _ _).mono (fun r h => ⟨fun c => (h c).2, sem_eq_zero_of_no_sems (by decide) r.2⟩)
    (Cert.ReferenceDwqkvIdeal.Value.run m ρ)

theorem algDwqkv : Cert.algebraic_KernelDwqkvIdeal_ReferenceDwqkvIdeal := by
  intro m ρ m' ρ' _ hag
  refine ⟨_, (θ_run Cert.KernelDwqkvIdeal.defs _ _).mono (fun r h c => ⟨(h c).1.trans (Dwqkv.final2 m c), (h c).2⟩) (Cert.KernelDwqkvIdeal.Value.run_blocks m ρ),
    (θ_run Cert.ReferenceDwqkvIdeal.defs _ _).mono (fun r h c => ⟨(h c).1.trans ?_, (h c).2⟩) (Cert.ReferenceDwqkvIdeal.Value.run m' ρ')⟩
  · rw [(hag c).1, (hag c).2]
    exact Dwqkv.ref _ _

theorem frameDuqkv : Cert.quiescent_ReferenceDuqkvIdeal := fun m ρ _ =>
  (θ_run Cert.ReferenceDuqkvIdeal.defs _ _).mono (fun r h => ⟨fun c => (h c).2, sem_eq_zero_of_no_sems (by decide) r.2⟩)
    (Cert.ReferenceDuqkvIdeal.Value.run m ρ)

theorem algDuqkv : Cert.algebraic_KernelDuqkvIdeal_ReferenceDuqkvIdeal := by
  intro m ρ m' ρ' _ hag
  refine ⟨_, (θ_run Cert.KernelDuqkvIdeal.defs _ _).mono (fun r h c => ⟨(h c).1.trans (Duqkv.final2 m c), (h c).2⟩) (Cert.KernelDuqkvIdeal.Value.run_blocks m ρ),
    (θ_run Cert.ReferenceDuqkvIdeal.defs _ _).mono (fun r h c => ⟨(h c).1.trans ?_, (h c).2⟩) (Cert.ReferenceDuqkvIdeal.Value.run m' ρ')⟩
  · rw [(hag c).1, (hag c).2]
    exact Duqkv.ref _ _

theorem frameGate : Cert.quiescent_ReferenceGateIdeal := fun m ρ _ =>
  (θ_run Cert.ReferenceGateIdeal.defs _ _).mono (fun r h => ⟨fun c => (h c).2, sem_eq_zero_of_no_sems (by decide) r.2⟩)
    (Cert.ReferenceGateIdeal.Value.run m ρ)

theorem algGate : Cert.algebraic_KernelGateIdeal_ReferenceGateIdeal := by
  intro m ρ m' ρ' _ hag
  refine ⟨_, (θ_run Cert.KernelGateIdeal.defs _ _).mono (fun r h c => ⟨(h c).1.trans (Gate.final2 m c), (h c).2⟩) (Cert.KernelGateIdeal.Value.run_blocks m ρ),
    (θ_run Cert.ReferenceGateIdeal.defs _ _).mono (fun r h c => ⟨(h c).1.trans ?_, (h c).2⟩) (Cert.ReferenceGateIdeal.Value.run m' ρ')⟩
  · rw [(hag c).1, (hag c).2]
    exact Gate.ref _ _

theorem frameProj : Cert.quiescent_ReferenceProjIdeal := fun m ρ _ =>
  (θ_run Cert.ReferenceProjIdeal.defs _ _).mono (fun r h => ⟨fun c => (h c).2.2, sem_eq_zero_of_no_sems (by decide) r.2⟩)
    (Cert.ReferenceProjIdeal.Value.run m ρ)

theorem algProj : Cert.algebraic_KernelProjIdeal_ReferenceProjIdeal := by
  intro m ρ m' ρ' _ hag
  refine ⟨_, _, (θ_run Cert.KernelProjIdeal.defs _ _).mono (fun r h c => ⟨(h c).1.trans (Proj.final4 m c), (h c).2.1.trans (Proj.final5 m c), (h c).2.2⟩) (Cert.KernelProjIdeal.Value.run_blocks m ρ),
    (θ_run Cert.ReferenceProjIdeal.defs _ _).mono (fun r h c => ⟨(h c).1.trans ?_, (h c).2.1.trans ?_, (h c).2.2⟩) (Cert.ReferenceProjIdeal.Value.run m' ρ')⟩
  · rw [(hag c).1, (hag c).2.1, (hag c).2.2.1, (hag c).2.2.2]
    exact Proj.ref _ _ _ _
  · rw [(hag c).1, (hag c).2.1]
    exact Proj.ref' _ _

theorem frameDwproj : Cert.quiescent_ReferenceDwprojIdeal := fun m ρ _ =>
  (θ_run Cert.ReferenceDwprojIdeal.defs _ _).mono (fun r h => ⟨fun c => (h c).2, sem_eq_zero_of_no_sems (by decide) r.2⟩)
    (Cert.ReferenceDwprojIdeal.Value.run m ρ)

theorem algDwproj : Cert.algebraic_KernelDwprojIdeal_ReferenceDwprojIdeal := by
  intro m ρ m' ρ' _ hag
  refine ⟨_, (θ_run Cert.KernelDwprojIdeal.defs _ _).mono (fun r h c => ⟨(h c).1.trans (Dwproj.final2 m c), (h c).2⟩) (Cert.KernelDwprojIdeal.Value.run_blocks m ρ),
    (θ_run Cert.ReferenceDwprojIdeal.defs _ _).mono (fun r h c => ⟨(h c).1.trans ?_, (h c).2⟩) (Cert.ReferenceDwprojIdeal.Value.run m' ρ')⟩
  · rw [(hag c).1, (hag c).2]
    exact Dwproj.ref _ _

theorem framePw1 : Cert.quiescent_ReferencePw1Ideal := fun m ρ _ =>
  (θ_run Cert.ReferencePw1Ideal.defs _ _).mono (fun r h => ⟨fun c => (h c).2, sem_eq_zero_of_no_sems (by decide) r.2⟩)
    (Cert.ReferencePw1Ideal.Value.run m ρ)

theorem algPw1 : Cert.algebraic_KernelPw1Ideal_ReferencePw1Ideal := by
  intro m ρ m' ρ' _ hag
  refine ⟨_, (θ_run Cert.KernelPw1Ideal.defs _ _).mono (fun r h c => ⟨(h c).1.trans (Pw1.final3 m c), (h c).2⟩) (Cert.KernelPw1Ideal.Value.run_blocks m ρ),
    (θ_run Cert.ReferencePw1Ideal.defs _ _).mono (fun r h c => ⟨(h c).1.trans ?_, (h c).2⟩) (Cert.ReferencePw1Ideal.Value.run m' ρ')⟩
  · rw [(hag c).1, (hag c).2.1, (hag c).2.2]
    exact Pw1.ref _ _ _

theorem framePw2 : Cert.quiescent_ReferencePw2Ideal := fun m ρ _ =>
  (θ_run Cert.ReferencePw2Ideal.defs _ _).mono (fun r h => ⟨fun c => (h c).2, sem_eq_zero_of_no_sems (by decide) r.2⟩)
    (Cert.ReferencePw2Ideal.Value.run m ρ)

theorem algPw2 : Cert.algebraic_KernelPw2Ideal_ReferencePw2Ideal := by
  intro m ρ m' ρ' _ hag
  refine ⟨_, (θ_run Cert.KernelPw2Ideal.defs _ _).mono (fun r h c => ⟨(h c).1.trans (Pw2.final4 m c), (h c).2⟩) (Cert.KernelPw2Ideal.Value.run_blocks m ρ),
    (θ_run Cert.ReferencePw2Ideal.defs _ _).mono (fun r h c => ⟨(h c).1.trans ?_, (h c).2⟩) (Cert.ReferencePw2Ideal.Value.run m' ρ')⟩
  · rw [(hag c).1, (hag c).2.1, (hag c).2.2.1, (hag c).2.2.2]
    exact Pw2.ref _ _ _ _

theorem frameDwpw1 : Cert.quiescent_ReferenceDwpw1Ideal := fun m ρ _ =>
  (θ_run Cert.ReferenceDwpw1Ideal.defs _ _).mono (fun r h => ⟨fun c => (h c).2, sem_eq_zero_of_no_sems (by decide) r.2⟩)
    (Cert.ReferenceDwpw1Ideal.Value.run m ρ)

theorem algDwpw1 : Cert.algebraic_KernelDwpw1Ideal_ReferenceDwpw1Ideal := by
  intro m ρ m' ρ' _ hag
  refine ⟨_, (θ_run Cert.KernelDwpw1Ideal.defs _ _).mono (fun r h c => ⟨(h c).1.trans (Dwpw1.final2 m c), (h c).2⟩) (Cert.KernelDwpw1Ideal.Value.run_blocks m ρ),
    (θ_run Cert.ReferenceDwpw1Ideal.defs _ _).mono (fun r h c => ⟨(h c).1.trans ?_, (h c).2⟩) (Cert.ReferenceDwpw1Ideal.Value.run m' ρ')⟩
  · rw [(hag c).1, (hag c).2]
    exact Dwpw1.ref _ _

theorem frameDupw1 : Cert.quiescent_ReferenceDupw1Ideal := fun m ρ _ =>
  (θ_run Cert.ReferenceDupw1Ideal.defs _ _).mono (fun r h => ⟨fun c => (h c).2, sem_eq_zero_of_no_sems (by decide) r.2⟩)
    (Cert.ReferenceDupw1Ideal.Value.run m ρ)

theorem algDupw1 : Cert.algebraic_KernelDupw1Ideal_ReferenceDupw1Ideal := by
  intro m ρ m' ρ' _ hag
  refine ⟨_, (θ_run Cert.KernelDupw1Ideal.defs _ _).mono (fun r h c => ⟨(h c).1.trans (Dupw1.final2 m c), (h c).2⟩) (Cert.KernelDupw1Ideal.Value.run_blocks m ρ),
    (θ_run Cert.ReferenceDupw1Ideal.defs _ _).mono (fun r h c => ⟨(h c).1.trans ?_, (h c).2⟩) (Cert.ReferenceDupw1Ideal.Value.run m' ρ')⟩
  · rw [(hag c).1, (hag c).2]
    exact Dupw1.ref _ _

theorem frameInz : Cert.quiescent_ReferenceInzIdeal := fun m ρ _ =>
  (θ_run Cert.ReferenceInzIdeal.defs _ _).mono (fun r h => ⟨fun c => (h c).2, sem_eq_zero_of_no_sems (by decide) r.2⟩)
    (Cert.ReferenceInzIdeal.Value.run m ρ)

theorem algInz : Cert.algebraic_KernelInzIdeal_ReferenceInzIdeal := by
  intro m ρ m' ρ' _ hag
  refine ⟨_, (θ_run Cert.KernelInzIdeal.defs _ _).mono (fun r h c => ⟨(h c).1.trans (Inz.final2 m c), (h c).2⟩) (Cert.KernelInzIdeal.Value.run_blocks m ρ),
    (θ_run Cert.ReferenceInzIdeal.defs _ _).mono (fun r h c => ⟨(h c).1.trans ?_, (h c).2⟩) (Cert.ReferenceInzIdeal.Value.run m' ρ')⟩
  · rw [(hag c).1, (hag c).2]
    exact Inz.ref _ _

theorem frameInxbc : Cert.quiescent_ReferenceInxbcIdeal := fun m ρ _ =>
  (θ_run Cert.ReferenceInxbcIdeal.defs _ _).mono (fun r h => ⟨fun c => (h c).2, sem_eq_zero_of_no_sems (by decide) r.2⟩)
    (Cert.ReferenceInxbcIdeal.Value.run m ρ)

theorem algInxbc : Cert.algebraic_KernelInxbcIdeal_ReferenceInxbcIdeal := by
  intro m ρ m' ρ' _ hag
  refine ⟨_, (θ_run Cert.KernelInxbcIdeal.defs _ _).mono (fun r h c => ⟨(h c).1.trans (Inxbc.final2 m c), (h c).2⟩) (Cert.KernelInxbcIdeal.Value.run_blocks m ρ),
    (θ_run Cert.ReferenceInxbcIdeal.defs _ _).mono (fun r h c => ⟨(h c).1.trans ?_, (h c).2⟩) (Cert.ReferenceInxbcIdeal.Value.run m' ρ')⟩
  · rw [(hag c).1, (hag c).2]
    exact Inxbc.ref _ _

theorem frameIndt : Cert.quiescent_ReferenceIndtIdeal := fun m ρ _ =>
  (θ_run Cert.ReferenceIndtIdeal.defs _ _).mono (fun r h => ⟨fun c => (h c).2, sem_eq_zero_of_no_sems (by decide) r.2⟩)
    (Cert.ReferenceIndtIdeal.Value.run m ρ)

theorem algIndt : Cert.algebraic_KernelIndtIdeal_ReferenceIndtIdeal := by
  intro m ρ m' ρ' _ hag
  refine ⟨_, (θ_run Cert.KernelIndtIdeal.defs _ _).mono (fun r h c => ⟨(h c).1.trans (Indt.final2 m c), (h c).2⟩) (Cert.KernelIndtIdeal.Value.run_blocks m ρ),
    (θ_run Cert.ReferenceIndtIdeal.defs _ _).mono (fun r h c => ⟨(h c).1.trans ?_, (h c).2⟩) (Cert.ReferenceIndtIdeal.Value.run m' ρ')⟩
  · rw [(hag c).1, (hag c).2]
    exact Indt.ref _ _

theorem frameOut : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run m ρ)

theorem algOut : Cert.algebraic_KernelOutIdeal_ReferenceOutIdeal := by
  intro m ρ m' ρ' _ hag
  refine ⟨_, (θ_run Cert.KernelOutIdeal.defs _ _).mono (fun r h c => ⟨(h c).1.trans (Out.final3 m c), (h c).2⟩) (Cert.KernelOutIdeal.Value.run_blocks m ρ),
    (θ_run Cert.ReferenceOutIdeal.defs _ _).mono (fun r h c => ⟨(h c).1.trans ?_, (h c).2⟩) (Cert.ReferenceOutIdeal.Value.run m' ρ')⟩
  · rw [(hag c).1, (hag c).2.1, (hag c).2.2]
    exact Out.ref _ _ _

theorem frameDyn : Cert.quiescent_ReferenceDynIdeal := fun m ρ _ =>
  (θ_run Cert.ReferenceDynIdeal.defs _ _).mono (fun r h => ⟨fun c => (h c).2, sem_eq_zero_of_no_sems (by decide) r.2⟩)
    (Cert.ReferenceDynIdeal.Value.run m ρ)

theorem algDyn : Cert.algebraic_KernelDynIdeal_ReferenceDynIdeal := by
  intro m ρ m' ρ' _ hag
  refine ⟨_, (θ_run Cert.KernelDynIdeal.defs _ _).mono (fun r h c => ⟨(h c).1.trans (Dyn.final2 m c), (h c).2⟩) (Cert.KernelDynIdeal.Value.run_blocks m ρ),
    (θ_run Cert.ReferenceDynIdeal.defs _ _).mono (fun r h c => ⟨(h c).1.trans ?_, (h c).2⟩) (Cert.ReferenceDynIdeal.Value.run m' ρ')⟩
  · rw [(hag c).1, (hag c).2]
    exact Dyn.ref _ _

theorem frameDwout : Cert.quiescent_ReferenceDwoutIdeal := fun m ρ _ =>
  (θ_run Cert.ReferenceDwoutIdeal.defs _ _).mono (fun r h => ⟨fun c => (h c).2, sem_eq_zero_of_no_sems (by decide) r.2⟩)
    (Cert.ReferenceDwoutIdeal.Value.run m ρ)

theorem algDwout : Cert.algebraic_KernelDwoutIdeal_ReferenceDwoutIdeal := by
  intro m ρ m' ρ' _ hag
  refine ⟨_, (θ_run Cert.KernelDwoutIdeal.defs _ _).mono (fun r h c => ⟨(h c).1.trans (Dwout.final2 m c), (h c).2⟩) (Cert.KernelDwoutIdeal.Value.run_blocks m ρ),
    (θ_run Cert.ReferenceDwoutIdeal.defs _ _).mono (fun r h c => ⟨(h c).1.trans ?_, (h c).2⟩) (Cert.ReferenceDwoutIdeal.Value.run m' ρ')⟩
  · rw [(hag c).1, (hag c).2]
    exact Dwout.ref _ _

theorem frameDwinz : Cert.quiescent_ReferenceDwinzIdeal := fun m ρ _ =>
  (θ_run Cert.ReferenceDwinzIdeal.defs _ _).mono (fun r h => ⟨fun c => (h c).2, sem_eq_zero_of_no_sems (by decide) r.2⟩)
    (Cert.ReferenceDwinzIdeal.Value.run m ρ)

theorem algDwinz : Cert.algebraic_KernelDwinzIdeal_ReferenceDwinzIdeal := by
  intro m ρ m' ρ' _ hag
  refine ⟨_, (θ_run Cert.KernelDwinzIdeal.defs _ _).mono (fun r h c => ⟨(h c).1.trans (Dwinz.final2 m c), (h c).2⟩) (Cert.KernelDwinzIdeal.Value.run_blocks m ρ),
    (θ_run Cert.ReferenceDwinzIdeal.defs _ _).mono (fun r h c => ⟨(h c).1.trans ?_, (h c).2⟩) (Cert.ReferenceDwinzIdeal.Value.run m' ρ')⟩
  · rw [(hag c).1, (hag c).2]
    exact Dwinz.ref _ _

theorem frameDwinxbc : Cert.quiescent_ReferenceDwinxbcIdeal := fun m ρ _ =>
  (θ_run Cert.ReferenceDwinxbcIdeal.defs _ _).mono (fun r h => ⟨fun c => (h c).2, sem_eq_zero_of_no_sems (by decide) r.2⟩)
    (Cert.ReferenceDwinxbcIdeal.Value.run m ρ)

theorem algDwinxbc : Cert.algebraic_KernelDwinxbcIdeal_ReferenceDwinxbcIdeal := by
  intro m ρ m' ρ' _ hag
  refine ⟨_, (θ_run Cert.KernelDwinxbcIdeal.defs _ _).mono (fun r h c => ⟨(h c).1.trans (Dwinxbc.final2 m c), (h c).2⟩) (Cert.KernelDwinxbcIdeal.Value.run_blocks m ρ),
    (θ_run Cert.ReferenceDwinxbcIdeal.defs _ _).mono (fun r h c => ⟨(h c).1.trans ?_, (h c).2⟩) (Cert.ReferenceDwinxbcIdeal.Value.run m' ρ')⟩
  · rw [(hag c).1, (hag c).2]
    exact Dwinxbc.ref _ _

theorem frameDwindt : Cert.quiescent_ReferenceDwindtIdeal := fun m ρ _ =>
  (θ_run Cert.ReferenceDwindtIdeal.defs _ _).mono (fun r h => ⟨fun c => (h c).2, sem_eq_zero_of_no_sems (by decide) r.2⟩)
    (Cert.ReferenceDwindtIdeal.Value.run m ρ)

theorem algDwindt : Cert.algebraic_KernelDwindtIdeal_ReferenceDwindtIdeal := by
  intro m ρ m' ρ' _ hag
  refine ⟨_, (θ_run Cert.KernelDwindtIdeal.defs _ _).mono (fun r h c => ⟨(h c).1.trans (Dwindt.final2 m c), (h c).2⟩) (Cert.KernelDwindtIdeal.Value.run_blocks m ρ),
    (θ_run Cert.ReferenceDwindtIdeal.defs _ _).mono (fun r h c => ⟨(h c).1.trans ?_, (h c).2⟩) (Cert.ReferenceDwindtIdeal.Value.run m' ρ')⟩
  · rw [(hag c).1, (hag c).2]
    exact Dwindt.ref _ _

theorem frameDuz : Cert.quiescent_ReferenceDuzIdeal := fun m ρ _ =>
  (θ_run Cert.ReferenceDuzIdeal.defs _ _).mono (fun r h => ⟨fun c => (h c).2, sem_eq_zero_of_no_sems (by decide) r.2⟩)
    (Cert.ReferenceDuzIdeal.Value.run m ρ)

theorem algDuz : Cert.algebraic_KernelDuzIdeal_ReferenceDuzIdeal := by
  intro m ρ m' ρ' _ hag
  refine ⟨_, (θ_run Cert.KernelDuzIdeal.defs _ _).mono (fun r h c => ⟨(h c).1.trans (Duz.final2 m c), (h c).2⟩) (Cert.KernelDuzIdeal.Value.run_blocks m ρ),
    (θ_run Cert.ReferenceDuzIdeal.defs _ _).mono (fun r h c => ⟨(h c).1.trans ?_, (h c).2⟩) (Cert.ReferenceDuzIdeal.Value.run m' ρ')⟩
  · rw [(hag c).1, (hag c).2]
    exact Duz.ref _ _

theorem frameDuxbc : Cert.quiescent_ReferenceDuxbcIdeal := fun m ρ _ =>
  (θ_run Cert.ReferenceDuxbcIdeal.defs _ _).mono (fun r h => ⟨fun c => (h c).2, sem_eq_zero_of_no_sems (by decide) r.2⟩)
    (Cert.ReferenceDuxbcIdeal.Value.run m ρ)

theorem algDuxbc : Cert.algebraic_KernelDuxbcIdeal_ReferenceDuxbcIdeal := by
  intro m ρ m' ρ' _ hag
  refine ⟨_, (θ_run Cert.KernelDuxbcIdeal.defs _ _).mono (fun r h c => ⟨(h c).1.trans (Duxbc.final3 m c), (h c).2⟩) (Cert.KernelDuxbcIdeal.Value.run_blocks m ρ),
    (θ_run Cert.ReferenceDuxbcIdeal.defs _ _).mono (fun r h c => ⟨(h c).1.trans ?_, (h c).2⟩) (Cert.ReferenceDuxbcIdeal.Value.run m' ρ')⟩
  · rw [(hag c).1, (hag c).2.1, (hag c).2.2]
    exact Duxbc.ref _ _ _

theorem frameDudt : Cert.quiescent_ReferenceDudtIdeal := fun m ρ _ =>
  (θ_run Cert.ReferenceDudtIdeal.defs _ _).mono (fun r h => ⟨fun c => (h c).2, sem_eq_zero_of_no_sems (by decide) r.2⟩)
    (Cert.ReferenceDudtIdeal.Value.run m ρ)

theorem algDudt : Cert.algebraic_KernelDudtIdeal_ReferenceDudtIdeal := by
  intro m ρ m' ρ' _ hag
  refine ⟨_, (θ_run Cert.KernelDudtIdeal.defs _ _).mono (fun r h c => ⟨(h c).1.trans (Dudt.final3 m c), (h c).2⟩) (Cert.KernelDudtIdeal.Value.run_blocks m ρ),
    (θ_run Cert.ReferenceDudtIdeal.defs _ _).mono (fun r h c => ⟨(h c).1.trans ?_, (h c).2⟩) (Cert.ReferenceDudtIdeal.Value.run m' ρ')⟩
  · rw [(hag c).1, (hag c).2.1, (hag c).2.2]
    exact Dudt.ref _ _ _

theorem framePleBwd : Cert.quiescent_ReferencePleBwdIdeal := fun m ρ _ =>
  (θ_run Cert.ReferencePleBwdIdeal.defs _ _).mono (fun r h => ⟨fun c => (h c).2.2, sem_eq_zero_of_no_sems (by decide) r.2⟩)
    (Cert.ReferencePleBwdIdeal.Value.run m ρ)

theorem algPleBwd : Cert.algebraic_KernelPleBwdIdeal_ReferencePleBwdIdeal := by
  intro m ρ m' ρ' _ hag
  refine ⟨_, _, (θ_run Cert.KernelPleBwdIdeal.defs _ _).mono (fun r h c => ⟨(h c).1.trans (PleBwd.final3 m c), (h c).2.1.trans (PleBwd.final4 m c), (h c).2.2⟩) (Cert.KernelPleBwdIdeal.Value.run_blocks m ρ),
    (θ_run Cert.ReferencePleBwdIdeal.defs _ _).mono (fun r h c => ⟨(h c).1.trans ?_, (h c).2.1.trans ?_, (h c).2.2⟩) (Cert.ReferencePleBwdIdeal.Value.run m' ρ')⟩
  · rw [(hag c).1, (hag c).2.1, (hag c).2.2]
    exact PleBwd.ref3 _ _ _
  · rw [(hag c).1, (hag c).2.1]
    exact PleBwd.ref4 _ _ _

theorem frameGluBwd : Cert.quiescent_ReferenceGluBwdIdeal := fun m ρ _ =>
  (θ_run Cert.ReferenceGluBwdIdeal.defs _ _).mono (fun r h => ⟨fun c => (h c).2.2.2.2, sem_eq_zero_of_no_sems (by decide) r.2⟩)
    (Cert.ReferenceGluBwdIdeal.Value.run m ρ)

theorem algGluBwd : Cert.algebraic_KernelGluBwdIdeal_ReferenceGluBwdIdeal := by
  intro m ρ m' ρ' _ hag
  refine ⟨_, _, _, _, (θ_run Cert.KernelGluBwdIdeal.defs _ _).mono (fun r h c => ⟨(h c).1.trans (GluBwd.final3 m c), (h c).2.1.trans (GluBwd.final4 m c), (h c).2.2.1.trans (GluBwd.final5 m c), (h c).2.2.2.1.trans (GluBwd.final6 m c), (h c).2.2.2.2⟩) (Cert.KernelGluBwdIdeal.Value.run_blocks m ρ),
    (θ_run Cert.ReferenceGluBwdIdeal.defs _ _).mono (fun r h c => ⟨(h c).1.trans ?_, (h c).2.1.trans ?_, (h c).2.2.1.trans ?_, (h c).2.2.2.1.trans ?_, (h c).2.2.2.2⟩) (Cert.ReferenceGluBwdIdeal.Value.run m' ρ')⟩
  · rw [(hag c).1, (hag c).2]
    exact GluBwd.ref3 _ _
  · rw [(hag c).1, (hag c).2]
    exact GluBwd.ref4 _ _
  · rw [(hag c).1, (hag c).2]
    exact GluBwd.ref5 _ _
  · rw [(hag c).1, (hag c).2]
    exact GluBwd.ref6 _ _

theorem frameDxs : Cert.quiescent_ReferenceDxsIdeal := fun m ρ _ =>
  (θ_run Cert.ReferenceDxsIdeal.defs _ _).mono (fun r h => ⟨fun c => (h c).2, sem_eq_zero_of_no_sems (by decide) r.2⟩)
    (Cert.ReferenceDxsIdeal.Value.run m ρ)

theorem algDxs : Cert.algebraic_KernelDxsIdeal_ReferenceDxsIdeal := by
  intro m ρ m' ρ' _ hag
  refine ⟨_, (θ_run Cert.KernelDxsIdeal.defs _ _).mono (fun r h c => ⟨(h c).1.trans (Dxs.final2 m c), (h c).2⟩) (Cert.KernelDxsIdeal.Value.run_blocks m ρ),
    (θ_run Cert.ReferenceDxsIdeal.defs _ _).mono (fun r h c => ⟨(h c).1.trans ?_, (h c).2⟩) (Cert.ReferenceDxsIdeal.Value.run m' ρ')⟩
  · rw [(hag c).1, (hag c).2]
    exact Dxs.ref2 _ _

theorem frameRms : Cert.quiescent_ReferenceRmsIdeal := fun m ρ _ =>
  (θ_run Cert.ReferenceRmsIdeal.defs _ _).mono (fun r h => ⟨fun c => (h c).2, sem_eq_zero_of_no_sems (by decide) r.2⟩)
    (Cert.ReferenceRmsIdeal.Value.run m ρ)

theorem algRms : Cert.algebraic_KernelRmsIdeal_ReferenceRmsIdeal := by
  intro m ρ m' ρ' _ hag
  refine ⟨_, (θ_run Cert.KernelRmsIdeal.defs _ _).mono (fun r h c => ⟨(h c).1.trans (Rms.final2 m c), (h c).2⟩) (Cert.KernelRmsIdeal.Value.run_blocks m ρ),
    (θ_run Cert.ReferenceRmsIdeal.defs _ _).mono (fun r h c => ⟨(h c).1.trans ?_, (h c).2⟩) (Cert.ReferenceRmsIdeal.Value.run m' ρ')⟩
  · rw [(hag c).1, (hag c).2]
    exact Rms.ref2 _ _

theorem frameGlu : Cert.quiescent_ReferenceGluIdeal := fun m ρ _ =>
  (θ_run Cert.ReferenceGluIdeal.defs _ _).mono (fun r h => ⟨fun c => (h c).2, sem_eq_zero_of_no_sems (by decide) r.2⟩)
    (Cert.ReferenceGluIdeal.Value.run m ρ)

theorem algGlu : Cert.algebraic_KernelGluIdeal_ReferenceGluIdeal := by
  intro m ρ m' ρ' _ hag
  refine ⟨_, (θ_run Cert.KernelGluIdeal.defs _ _).mono (fun r h c => ⟨(h c).1.trans (Glu.final2 m c), (h c).2⟩) (Cert.KernelGluIdeal.Value.run_blocks m ρ),
    (θ_run Cert.ReferenceGluIdeal.defs _ _).mono (fun r h c => ⟨(h c).1.trans ?_, (h c).2⟩) (Cert.ReferenceGluIdeal.Value.run m' ρ')⟩
  · rw [(hag c)]
    exact Glu.ref2 _

theorem frameLn : Cert.quiescent_ReferenceLnIdeal := fun m ρ _ =>
  (θ_run Cert.ReferenceLnIdeal.defs _ _).mono (fun r h => ⟨fun c => (h c).2, sem_eq_zero_of_no_sems (by decide) r.2⟩)
    (Cert.ReferenceLnIdeal.Value.run m ρ)

theorem algLn : Cert.algebraic_KernelLnIdeal_ReferenceLnIdeal := by
  intro m ρ m' ρ' _ hag
  refine ⟨_, (θ_run Cert.KernelLnIdeal.defs _ _).mono (fun r h c => ⟨(h c).1.trans (Ln.final3 m c), (h c).2⟩) (Cert.KernelLnIdeal.Value.run_blocks m ρ),
    (θ_run Cert.ReferenceLnIdeal.defs _ _).mono (fun r h c => ⟨(h c).1.trans ?_, (h c).2⟩) (Cert.ReferenceLnIdeal.Value.run m' ρ')⟩
  · rw [(hag c).1, (hag c).2.1, (hag c).2.2]
    exact Ln.ref3 _ _ _

theorem frameGnorm : Cert.quiescent_ReferenceGnormIdeal := fun m ρ _ =>
  (θ_run Cert.ReferenceGnormIdeal.defs _ _).mono (fun r h => ⟨fun c => (h c).2, sem_eq_zero_of_no_sems (by decide) r.2⟩)
    (Cert.ReferenceGnormIdeal.Value.run m ρ)

theorem algGnorm : Cert.algebraic_KernelGnormIdeal_ReferenceGnormIdeal := by
  intro m ρ m' ρ' _ hag
  refine ⟨_, (θ_run Cert.KernelGnormIdeal.defs _ _).mono (fun r h c => ⟨(h c).1.trans (Gnorm.final5 m c), (h c).2⟩) (Cert.KernelGnormIdeal.Value.run_blocks m ρ),
    (θ_run Cert.ReferenceGnormIdeal.defs _ _).mono (fun r h c => ⟨(h c).1.trans ?_, (h c).2⟩) (Cert.ReferenceGnormIdeal.Value.run m' ρ')⟩
  · rw [(hag c).1, (hag c).2.1, (hag c).2.2.1, (hag c).2.2.2.1, (hag c).2.2.2.2]
    exact Gnorm.ref5 _ _ _ _ _

theorem frameLoss : Cert.quiescent_ReferenceLossIdeal := fun m ρ _ =>
  (θ_run Cert.ReferenceLossIdeal.defs _ _).mono (fun r h => ⟨fun c => (h c).2.2, sem_eq_zero_of_no_sems (by decide) r.2⟩)
    (Cert.ReferenceLossIdeal.Value.run m ρ)

theorem algLoss : Cert.algebraic_KernelLossIdeal_ReferenceLossIdeal := by
  intro m ρ m' ρ' _ hag
  refine ⟨_, _, (θ_run Cert.KernelLossIdeal.defs _ _).mono (fun r h c => ⟨(h c).1.trans (Loss.final2 m c), (h c).2.1.trans (Loss.final3 m c), (h c).2.2⟩) (Cert.KernelLossIdeal.Value.run_blocks m ρ),
    (θ_run Cert.ReferenceLossIdeal.defs _ _).mono (fun r h c => ⟨(h c).1.trans ?_, (h c).2.1.trans ?_, (h c).2.2⟩) (Cert.ReferenceLossIdeal.Value.run m' ρ')⟩
  · rw [(hag c).1, (hag c).2]
    exact Loss.ref2 _ _
  · rw [(hag c).1, (hag c).2]
    exact Loss.ref3 _ _

theorem frameAdamw : Cert.quiescent_ReferenceAdamwIdeal := fun m ρ _ =>
  (θ_run Cert.ReferenceAdamwIdeal.defs _ _).mono (fun r h => ⟨fun c => (h c).2.2.2, sem_eq_zero_of_no_sems (by decide) r.2⟩)
    (Cert.ReferenceAdamwIdeal.Value.run m ρ)

theorem algAdamw : Cert.algebraic_KernelAdamwIdeal_ReferenceAdamwIdeal := by
  intro m ρ m' ρ' _ hag
  refine ⟨_, _, _, (θ_run Cert.KernelAdamwIdeal.defs _ _).mono (fun r h c => ⟨(h c).1.trans (Adamw.final4 m c), (h c).2.1.trans (Adamw.final5 m c), (h c).2.2.1.trans (Adamw.final6 m c), (h c).2.2.2⟩) (Cert.KernelAdamwIdeal.Value.run_blocks m ρ),
    (θ_run Cert.ReferenceAdamwIdeal.defs _ _).mono (fun r h c => ⟨(h c).1.trans ?_, (h c).2.1.trans ?_, (h c).2.2.1.trans ?_, (h c).2.2.2⟩) (Cert.ReferenceAdamwIdeal.Value.run m' ρ')⟩
  · rw [(hag c).1, (hag c).2.1, (hag c).2.2.1, (hag c).2.2.2]
    exact Adamw.ref4 _ _ _ _
  · rw [(hag c).2.1, (hag c).2.2.1]
    exact Adamw.ref5 _ _ _ _
  · rw [(hag c).2.1, (hag c).2.2.2]
    exact Adamw.ref6 _ _ _ _

theorem frameRmsBwd : Cert.quiescent_ReferenceRmsBwdIdeal := fun m ρ _ =>
  (θ_run Cert.ReferenceRmsBwdIdeal.defs _ _).mono (fun r h => ⟨fun c => (h c).2.2.2.2, sem_eq_zero_of_no_sems (by decide) r.2⟩)
    (Cert.ReferenceRmsBwdIdeal.Value.run m ρ)

theorem algRmsBwd : Cert.algebraic_KernelRmsBwdIdeal_ReferenceRmsBwdIdeal := by
  intro m ρ m' ρ' _ hag
  refine ⟨_, _, _, _, (θ_run Cert.KernelRmsBwdIdeal.defs _ _).mono (fun r h c => ⟨(h c).1.trans (RmsBwd.final4 m c), (h c).2.1.trans (RmsBwd.final5 m c), (h c).2.2.1.trans (RmsBwd.final6 m c), (h c).2.2.2.1.trans (RmsBwd.final7 m c), (h c).2.2.2.2⟩) (Cert.KernelRmsBwdIdeal.Value.run_blocks m ρ),
    (θ_run Cert.ReferenceRmsBwdIdeal.defs _ _).mono (fun r h c => ⟨(h c).1.trans ?_, (h c).2.1.trans ?_, (h c).2.2.1.trans ?_, (h c).2.2.2.1.trans ?_, (h c).2.2.2.2⟩) (Cert.ReferenceRmsBwdIdeal.Value.run m' ρ')⟩
  · rw [(hag c).1, (hag c).2.1, (hag c).2.2.1, (hag c).2.2.2]
    exact RmsBwd.ref4 _ _ _ _
  · rw [(hag c).1, (hag c).2.1, (hag c).2.2.1, (hag c).2.2.2]
    exact RmsBwd.ref5 _ _ _ _ _ (RmsBwd.ref4 _ _ _ _)
  · rw [(hag c).1, (hag c).2.1]
    exact RmsBwd.ref6 _ _ _ _
  · refine (RmsBwd.ref7 m' c).trans ?_
    rw [(hag c).1, (hag c).2.1, (hag c).2.2.1, (hag c).2.2.2] <;> rfl

theorem frameSiluBwd : Cert.quiescent_ReferenceSiluBwdIdeal := fun m ρ _ =>
  (θ_run Cert.ReferenceSiluBwdIdeal.defs _ _).mono (fun r h => ⟨fun c => (h c).2, sem_eq_zero_of_no_sems (by decide) r.2⟩)
    (Cert.ReferenceSiluBwdIdeal.Value.run m ρ)

theorem algSiluBwd : Cert.algebraic_KernelSiluBwdIdeal_ReferenceSiluBwdIdeal_pre_finite_silu (hPre_finite_silu := Cert.Pre_finite_silu.Gen.facts) := by
  intro m ρ m' ρ' hp hag
  refine ⟨_, (θ_run Cert.KernelSiluBwdIdeal.defs _ _).mono (fun r h c => ⟨(h c).1.trans (SiluBwd.final2 m c), (h c).2⟩) (Cert.KernelSiluBwdIdeal.Value.run_blocks m ρ),
    (θ_run Cert.ReferenceSiluBwdIdeal.defs _ _).mono (fun r h c => ⟨(h c).1.trans ?_, (h c).2⟩) (Cert.ReferenceSiluBwdIdeal.Value.run m' ρ')⟩
  · rw [(hag c).1, (hag c).2]
    exact SiluBwd.ref2 _ _ _ _ (fun i j => Attn.real_of_test _ _ (hp c).1 (ix2 i j)) (fun i j => Attn.real_of_test _ _ (hp c).2 (ix2 i j))

theorem frameLnBwd : Cert.quiescent_ReferenceLnBwdIdeal := fun m ρ _ =>
  (θ_run Cert.ReferenceLnBwdIdeal.defs _ _).mono (fun r h => ⟨fun c => (h c).2.2.2, sem_eq_zero_of_no_sems (by decide) r.2⟩)
    (Cert.ReferenceLnBwdIdeal.Value.run m ρ)

theorem algLnBwd : Cert.algebraic_KernelLnBwdIdeal_ReferenceLnBwdIdeal_pre_finite_ln (hPre_finite_ln := Cert.Pre_finite_ln.Gen.facts) := by
  intro m ρ m' ρ' hp hag
  have x0 c i j := (congrFun (hag c).1 _).trans (Attn.real_of_test _ _ (hp c).1 (ix2 i j))
  have x1 c i j := (congrFun (hag c).2.1 _).trans (Attn.real_of_test _ _ (hp c).2.1 (ix2 i j))
  have x2 c i := (congrFun (hag c).2.2.1 _).trans (Attn.real_of_test _ _ (hp c).2.2.1 (ix1 i))
  have x3 c i := (congrFun (hag c).2.2.2 _).trans (Attn.real_of_test _ _ (hp c).2.2.2 (ix1 i))
  refine ⟨_, _, _, (θ_run Cert.KernelLnBwdIdeal.defs _ _).mono (fun r h c => ⟨(h c).1.trans (LnBwd.final4 m c), (h c).2.1.trans (LnBwd.final5 m c), (h c).2.2.1.trans (LnBwd.final6 m c), (h c).2.2.2⟩) (Cert.KernelLnBwdIdeal.Value.run_blocks m ρ),
    (θ_run Cert.ReferenceLnBwdIdeal.defs _ _).mono (fun r h c => ⟨(h c).1.trans ?_, (h c).2.1.trans ?_, (h c).2.2.1.trans ?_, (h c).2.2.2⟩) (Cert.ReferenceLnBwdIdeal.Value.run m' ρ')⟩
  · refine (LnBwd.ref4 m' c _ _ _ _ (x0 c) (x1 c) (x2 c) (x3 c)).trans ?_
    rw [(hag c).1, (hag c).2.1, (hag c).2.2.1, (hag c).2.2.2] <;> rfl
  · refine (LnBwd.ref5 m' c _ _ _ _ (x0 c) (x1 c) (x2 c) (x3 c)).trans ?_
    rw [(hag c).1, (hag c).2.1, (hag c).2.2.1, (hag c).2.2.2] <;> rfl
  · refine (LnBwd.ref6 m' c _ _ _ _ (x0 c) (x1 c) (x2 c) (x3 c)).trans ?_
    rw [(hag c).1, (hag c).2.1, (hag c).2.2.1, (hag c).2.2.2] <;> rfl

theorem frameGnormBwd : Cert.quiescent_ReferenceGnormBwdIdeal := fun m ρ _ =>
  (θ_run Cert.ReferenceGnormBwdIdeal.defs _ _).mono (fun r h => ⟨fun c => (h c).2.2.2.2.2, sem_eq_zero_of_no_sems (by decide) r.2⟩)
    (Cert.ReferenceGnormBwdIdeal.Value.run m ρ)

set_option maxHeartbeats 2000000 in
theorem algGnormBwd : Cert.algebraic_KernelGnormBwdIdeal_ReferenceGnormBwdIdeal_pre_finite_gnorm (hPre_finite_gnorm := Cert.Pre_finite_gnorm.Gen.facts) := by
  intro m ρ m' ρ' hp hag
  have x0 c i j := (congrFun (hag c).1 _).trans (Attn.real_of_test _ _ (hp c).1 (ix2 i j))
  have x1 c i j := (congrFun (hag c).2.1 _).trans (Attn.real_of_test _ _ (hp c).2.1 (ix2 i j))
  have x2 c i j := (congrFun (hag c).2.2.1 _).trans (Attn.real_of_test _ _ (hp c).2.2.1 (ix2 i j))
  have x3 c i j := (congrFun (hag c).2.2.2.1 _).trans (Attn.real_of_test _ _ (hp c).2.2.2.1 (ix2 i j))
  have x4 c i := (congrFun (hag c).2.2.2.2.1 _).trans (Attn.real_of_test _ _ (hp c).2.2.2.2.1 (ix1 i))
  have x5 c i := (congrFun (hag c).2.2.2.2.2 _).trans (Attn.real_of_test _ _ (hp c).2.2.2.2.2 (ix1 i))
  refine ⟨_, _, _, _, _, (θ_run Cert.KernelGnormBwdIdeal.defs _ _).mono (fun r h c => ⟨(h c).1.trans (GnormBwd.final6 m c), (h c).2.1.trans (GnormBwd.final7 m c), (h c).2.2.1.trans (GnormBwd.final8 m c), (h c).2.2.2.1.trans (GnormBwd.final9 m c), (h c).2.2.2.2.1.trans (GnormBwd.final10 m c), (h c).2.2.2.2.2⟩) (Cert.KernelGnormBwdIdeal.Value.run_blocks m ρ),
    (θ_run Cert.ReferenceGnormBwdIdeal.defs _ _).mono (fun r h c => ⟨(h c).1.trans ?_, (h c).2.1.trans ?_, (h c).2.2.1.trans ?_, (h c).2.2.2.1.trans ?_, (h c).2.2.2.2.1.trans ?_, (h c).2.2.2.2.2⟩) (Cert.ReferenceGnormBwdIdeal.Value.run m' ρ')⟩
  · refine (GnormBwd.ref6 m' c _ _ _ _ _ _ (x0 c) (x1 c) (x2 c) (x3 c) (x4 c) (x5 c)).trans ?_
    rw [(hag c).1, (hag c).2.1, (hag c).2.2.1, (hag c).2.2.2.1, (hag c).2.2.2.2.1, (hag c).2.2.2.2.2] <;> rfl
  · refine (GnormBwd.ref7 m' c _ _ _ _ _ _ (x0 c) (x1 c) (x2 c) (x3 c) (x4 c) (x5 c)).trans ?_
    rw [(hag c).1, (hag c).2.1, (hag c).2.2.1, (hag c).2.2.2.1, (hag c).2.2.2.2.1, (hag c).2.2.2.2.2] <;> rfl
  · refine (GnormBwd.ref8 m' c _ _ _ _ _ _ (x0 c) (x1 c) (x2 c) (x3 c) (x4 c) (x5 c)).trans ?_
    rw [(hag c).1, (hag c).2.1, (hag c).2.2.1, (hag c).2.2.2.1, (hag c).2.2.2.2.1, (hag c).2.2.2.2.2] <;> rfl
  · rw [(hag c).1, (hag c).2.1, (hag c).2.2.1, (hag c).2.2.2.1, (hag c).2.2.2.2.1]
    exact GnormBwd.ref9 _ _ _ _ _ _ _ _ _ _ _ _ (fun i j => Attn.real_of_test _ _ (hp c).1 (ix2 i j)) (fun i j => Attn.real_of_test _ _ (hp c).2.1 (ix2 i j)) (fun i j => Attn.real_of_test _ _ (hp c).2.2.1 (ix2 i j)) (fun i j => Attn.real_of_test _ _ (hp c).2.2.2.1 (ix2 i j)) (fun i => Attn.real_of_test _ _ (hp c).2.2.2.2.1 (ix1 i)) (fun i => Attn.real_of_test _ _ (hp c).2.2.2.2.2 (ix1 i))
  · refine (GnormBwd.ref10 m' c _ _ _ _ _ _ (x0 c) (x1 c) (x2 c) (x3 c) (x4 c) (x5 c)).trans ?_
    rw [(hag c).1, (hag c).2.1, (hag c).2.2.1, (hag c).2.2.2.1, (hag c).2.2.2.2.1, (hag c).2.2.2.2.2] <;> rfl

end Mlp

end
-- ==== Proof.lean ====
module

public import proofs.«01_k».proof.Defs
public import proofs.«01_k».proof.Proof.Gen.Kernel.Frame
public import proofs.«01_k».proof.Proof.Attn.Finite
public import proofs.«01_k».proof.Proof.Attn.RefRun
public import proofs.«01_k».proof.Proof.Mlp.Claims
public import Idealize.ShloMosaic.Adequacy
public import Idealize.ShloMosaic.Init

@[expose] public section

noncomputable section

namespace Cert.Proof

open Idealize.ShloMosaic Idealize.SL.Sem Cert.Kernel

/-- The reference's frame: read off its run. -/
theorem frame_ref : Cert.quiescent_ReferenceIdeal := fun m ρ _ =>
  (θ_run Cert.ReferenceIdeal.defs _ _).mono
    (fun r h => ⟨fun c => (h c).2.2.2.2.2.2.2.2, Idealize.ShloMosaic.sem_eq_zero_of_no_sems (by decide) r.2⟩)
    (Cert.ReferenceIdeal.Value.run (F := Ideal) m ρ)

/-- Kernel and reference end with the same gradients: those of the real inputs the kernel's memory holds. -/
theorem algebraic : Cert.algebraic_KernelIdeal_ReferenceIdeal_pre_all_finite (hPre_all_finite := Cert.Pre_all_finite.Gen.facts) :=
  fun m ρ m' ρ' hp hag => by
  have R := Attn.reads m hp
  have R' : ∀ c, Attn.Ref.Reads (Attn.read m c) (StableHlo.launchContents m' c) := fun c =>
    ⟨fun i j => (congrFun (hag c).1 _).trans ((R c).x i j), fun i j => (congrFun (hag c).2.1 _).trans ((R c).y i j),
      fun i => (congrFun (hag c).2.2.1 _).trans ((R c).gq i), fun i => (congrFun (hag c).2.2.2.1 _).trans ((R c).gk i),
      fun i => (congrFun (hag c).2.2.2.2 _).trans ((R c).s i)⟩
  exact ⟨_, _, _, _, _, _, _, _, Attn.run m ρ (Attn.read m) R, Attn.Ref.run m' ρ' (Attn.read m) R'⟩

theorem claim : Cert.Claim := ⟨Cert.Kernel.Gen.facts,
  Cert.KernelIdeal.Gen.facts,
  Cert.ReferenceIdeal.Gen.facts,
  Cert.KernelW1.Gen.facts,
  Cert.KernelW1Ideal.Gen.facts,
  Cert.ReferenceW1Ideal.Gen.facts,
  Cert.KernelW2.Gen.facts,
  Cert.KernelW2Ideal.Gen.facts,
  Cert.ReferenceW2Ideal.Gen.facts,
  Cert.KernelDa.Gen.facts,
  Cert.KernelDaIdeal.Gen.facts,
  Cert.ReferenceDaIdeal.Gen.facts,
  Cert.KernelDw2.Gen.facts,
  Cert.KernelDw2Ideal.Gen.facts,
  Cert.ReferenceDw2Ideal.Gen.facts,
  Cert.KernelDw1.Gen.facts,
  Cert.KernelDw1Ideal.Gen.facts,
  Cert.ReferenceDw1Ideal.Gen.facts,
  Cert.KernelDu.Gen.facts,
  Cert.KernelDuIdeal.Gen.facts,
  Cert.ReferenceDuIdeal.Gen.facts,
  Cert.KernelQkv.Gen.facts,
  Cert.KernelQkvIdeal.Gen.facts,
  Cert.ReferenceQkvIdeal.Gen.facts,
  Cert.KernelWo.Gen.facts,
  Cert.KernelWoIdeal.Gen.facts,
  Cert.ReferenceWoIdeal.Gen.facts,
  Cert.KernelDo.Gen.facts,
  Cert.KernelDoIdeal.Gen.facts,
  Cert.ReferenceDoIdeal.Gen.facts,
  Cert.KernelDwo.Gen.facts,
  Cert.KernelDwoIdeal.Gen.facts,
  Cert.ReferenceDwoIdeal.Gen.facts,
  Cert.KernelDwqkv.Gen.facts,
  Cert.KernelDwqkvIdeal.Gen.facts,
  Cert.ReferenceDwqkvIdeal.Gen.facts,
  Cert.KernelDuqkv.Gen.facts,
  Cert.KernelDuqkvIdeal.Gen.facts,
  Cert.ReferenceDuqkvIdeal.Gen.facts,
  Cert.KernelGate.Gen.facts,
  Cert.KernelGateIdeal.Gen.facts,
  Cert.ReferenceGateIdeal.Gen.facts,
  Cert.KernelProj.Gen.facts,
  Cert.KernelProjIdeal.Gen.facts,
  Cert.ReferenceProjIdeal.Gen.facts,
  Cert.KernelDwproj.Gen.facts,
  Cert.KernelDwprojIdeal.Gen.facts,
  Cert.ReferenceDwprojIdeal.Gen.facts,
  Cert.KernelPw1.Gen.facts,
  Cert.KernelPw1Ideal.Gen.facts,
  Cert.ReferencePw1Ideal.Gen.facts,
  Cert.KernelPw2.Gen.facts,
  Cert.KernelPw2Ideal.Gen.facts,
  Cert.ReferencePw2Ideal.Gen.facts,
  Cert.KernelDwpw1.Gen.facts,
  Cert.KernelDwpw1Ideal.Gen.facts,
  Cert.ReferenceDwpw1Ideal.Gen.facts,
  Cert.KernelDupw1.Gen.facts,
  Cert.KernelDupw1Ideal.Gen.facts,
  Cert.ReferenceDupw1Ideal.Gen.facts,
  Cert.KernelInz.Gen.facts,
  Cert.KernelInzIdeal.Gen.facts,
  Cert.ReferenceInzIdeal.Gen.facts,
  Cert.KernelInxbc.Gen.facts,
  Cert.KernelInxbcIdeal.Gen.facts,
  Cert.ReferenceInxbcIdeal.Gen.facts,
  Cert.KernelIndt.Gen.facts,
  Cert.KernelIndtIdeal.Gen.facts,
  Cert.ReferenceIndtIdeal.Gen.facts,
  Cert.KernelOut.Gen.facts,
  Cert.KernelOutIdeal.Gen.facts,
  Cert.ReferenceOutIdeal.Gen.facts,
  Cert.KernelDyn.Gen.facts,
  Cert.KernelDynIdeal.Gen.facts,
  Cert.ReferenceDynIdeal.Gen.facts,
  Cert.KernelDwout.Gen.facts,
  Cert.KernelDwoutIdeal.Gen.facts,
  Cert.ReferenceDwoutIdeal.Gen.facts,
  Cert.KernelDwinz.Gen.facts,
  Cert.KernelDwinzIdeal.Gen.facts,
  Cert.ReferenceDwinzIdeal.Gen.facts,
  Cert.KernelDwinxbc.Gen.facts,
  Cert.KernelDwinxbcIdeal.Gen.facts,
  Cert.ReferenceDwinxbcIdeal.Gen.facts,
  Cert.KernelDwindt.Gen.facts,
  Cert.KernelDwindtIdeal.Gen.facts,
  Cert.ReferenceDwindtIdeal.Gen.facts,
  Cert.KernelDuz.Gen.facts,
  Cert.KernelDuzIdeal.Gen.facts,
  Cert.ReferenceDuzIdeal.Gen.facts,
  Cert.KernelDuxbc.Gen.facts,
  Cert.KernelDuxbcIdeal.Gen.facts,
  Cert.ReferenceDuxbcIdeal.Gen.facts,
  Cert.KernelDudt.Gen.facts,
  Cert.KernelDudtIdeal.Gen.facts,
  Cert.ReferenceDudtIdeal.Gen.facts,
  Cert.KernelPleBwd.Gen.facts,
  Cert.KernelPleBwdIdeal.Gen.facts,
  Cert.ReferencePleBwdIdeal.Gen.facts,
  Cert.KernelGluBwd.Gen.facts,
  Cert.KernelGluBwdIdeal.Gen.facts,
  Cert.ReferenceGluBwdIdeal.Gen.facts,
  Cert.KernelDxs.Gen.facts,
  Cert.KernelDxsIdeal.Gen.facts,
  Cert.ReferenceDxsIdeal.Gen.facts,
  Cert.KernelRms.Gen.facts,
  Cert.KernelRmsIdeal.Gen.facts,
  Cert.ReferenceRmsIdeal.Gen.facts,
  Cert.KernelGlu.Gen.facts,
  Cert.KernelGluIdeal.Gen.facts,
  Cert.ReferenceGluIdeal.Gen.facts,
  Cert.KernelLn.Gen.facts,
  Cert.KernelLnIdeal.Gen.facts,
  Cert.ReferenceLnIdeal.Gen.facts,
  Cert.KernelGnorm.Gen.facts,
  Cert.KernelGnormIdeal.Gen.facts,
  Cert.ReferenceGnormIdeal.Gen.facts,
  Cert.KernelLoss.Gen.facts,
  Cert.KernelLossIdeal.Gen.facts,
  Cert.ReferenceLossIdeal.Gen.facts,
  Cert.KernelAdamw.Gen.facts,
  Cert.KernelAdamwIdeal.Gen.facts,
  Cert.ReferenceAdamwIdeal.Gen.facts,
  Cert.KernelRmsBwd.Gen.facts,
  Cert.KernelRmsBwdIdeal.Gen.facts,
  Cert.ReferenceRmsBwdIdeal.Gen.facts,
  Cert.KernelSiluBwd.Gen.facts,
  Cert.KernelSiluBwdIdeal.Gen.facts,
  Cert.ReferenceSiluBwdIdeal.Gen.facts,
  Cert.KernelLnBwd.Gen.facts,
  Cert.KernelLnBwdIdeal.Gen.facts,
  Cert.ReferenceLnBwdIdeal.Gen.facts,
  Cert.KernelGnormBwd.Gen.facts,
  Cert.KernelGnormBwdIdeal.Gen.facts,
  Cert.ReferenceGnormBwdIdeal.Gen.facts,
  Cert.Pre_all_finite.Gen.facts,
  Cert.Pre_finite_silu.Gen.facts,
  Cert.Pre_finite_ln.Gen.facts,
  Cert.Pre_finite_gnorm.Gen.facts,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  fun m ρ _ => Cert.KernelW1.Gen.frame m ρ,
  fun m ρ _ => Cert.KernelW1Ideal.Gen.frame m ρ,
  Mlp.frameW1,
  fun m ρ _ => Cert.KernelW2.Gen.frame m ρ,
  fun m ρ _ => Cert.KernelW2Ideal.Gen.frame m ρ,
  Mlp.frameW2,
  fun m ρ _ => Cert.KernelDa.Gen.frame m ρ,
  fun m ρ _ => Cert.KernelDaIdeal.Gen.frame m ρ,
  Mlp.frameDa,
  fun m ρ _ => Cert.KernelDw2.Gen.frame m ρ,
  fun m ρ _ => Cert.KernelDw2Ideal.Gen.frame m ρ,
  Mlp.frameDw2,
  fun m ρ _ => Cert.KernelDw1.Gen.frame m ρ,
  fun m ρ _ => Cert.KernelDw1Ideal.Gen.frame m ρ,
  Mlp.frameDw1,
  fun m ρ _ => Cert.KernelDu.Gen.frame m ρ,
  fun m ρ _ => Cert.KernelDuIdeal.Gen.frame m ρ,
  Mlp.frameDu,
  fun m ρ _ => Cert.KernelQkv.Gen.frame m ρ,
  fun m ρ _ => Cert.KernelQkvIdeal.Gen.frame m ρ,
  Mlp.frameQkv,
  fun m ρ _ => Cert.KernelWo.Gen.frame m ρ,
  fun m ρ _ => Cert.KernelWoIdeal.Gen.frame m ρ,
  Mlp.frameWo,
  fun m ρ _ => Cert.KernelDo.Gen.frame m ρ,
  fun m ρ _ => Cert.KernelDoIdeal.Gen.frame m ρ,
  Mlp.frameDo,
  fun m ρ _ => Cert.KernelDwo.Gen.frame m ρ,
  fun m ρ _ => Cert.KernelDwoIdeal.Gen.frame m ρ,
  Mlp.frameDwo,
  fun m ρ _ => Cert.KernelDwqkv.Gen.frame m ρ,
  fun m ρ _ => Cert.KernelDwqkvIdeal.Gen.frame m ρ,
  Mlp.frameDwqkv,
  fun m ρ _ => Cert.KernelDuqkv.Gen.frame m ρ,
  fun m ρ _ => Cert.KernelDuqkvIdeal.Gen.frame m ρ,
  Mlp.frameDuqkv,
  fun m ρ _ => Cert.KernelGate.Gen.frame m ρ,
  fun m ρ _ => Cert.KernelGateIdeal.Gen.frame m ρ,
  Mlp.frameGate,
  fun m ρ _ => Cert.KernelProj.Gen.frame m ρ,
  fun m ρ _ => Cert.KernelProjIdeal.Gen.frame m ρ,
  Mlp.frameProj,
  fun m ρ _ => Cert.KernelDwproj.Gen.frame m ρ,
  fun m ρ _ => Cert.KernelDwprojIdeal.Gen.frame m ρ,
  Mlp.frameDwproj,
  fun m ρ _ => Cert.KernelPw1.Gen.frame m ρ,
  fun m ρ _ => Cert.KernelPw1Ideal.Gen.frame m ρ,
  Mlp.framePw1,
  fun m ρ _ => Cert.KernelPw2.Gen.frame m ρ,
  fun m ρ _ => Cert.KernelPw2Ideal.Gen.frame m ρ,
  Mlp.framePw2,
  fun m ρ _ => Cert.KernelDwpw1.Gen.frame m ρ,
  fun m ρ _ => Cert.KernelDwpw1Ideal.Gen.frame m ρ,
  Mlp.frameDwpw1,
  fun m ρ _ => Cert.KernelDupw1.Gen.frame m ρ,
  fun m ρ _ => Cert.KernelDupw1Ideal.Gen.frame m ρ,
  Mlp.frameDupw1,
  fun m ρ _ => Cert.KernelInz.Gen.frame m ρ,
  fun m ρ _ => Cert.KernelInzIdeal.Gen.frame m ρ,
  Mlp.frameInz,
  fun m ρ _ => Cert.KernelInxbc.Gen.frame m ρ,
  fun m ρ _ => Cert.KernelInxbcIdeal.Gen.frame m ρ,
  Mlp.frameInxbc,
  fun m ρ _ => Cert.KernelIndt.Gen.frame m ρ,
  fun m ρ _ => Cert.KernelIndtIdeal.Gen.frame m ρ,
  Mlp.frameIndt,
  fun m ρ _ => Cert.KernelOut.Gen.frame m ρ,
  fun m ρ _ => Cert.KernelOutIdeal.Gen.frame m ρ,
  Mlp.frameOut,
  fun m ρ _ => Cert.KernelDyn.Gen.frame m ρ,
  fun m ρ _ => Cert.KernelDynIdeal.Gen.frame m ρ,
  Mlp.frameDyn,
  fun m ρ _ => Cert.KernelDwout.Gen.frame m ρ,
  fun m ρ _ => Cert.KernelDwoutIdeal.Gen.frame m ρ,
  Mlp.frameDwout,
  fun m ρ _ => Cert.KernelDwinz.Gen.frame m ρ,
  fun m ρ _ => Cert.KernelDwinzIdeal.Gen.frame m ρ,
  Mlp.frameDwinz,
  fun m ρ _ => Cert.KernelDwinxbc.Gen.frame m ρ,
  fun m ρ _ => Cert.KernelDwinxbcIdeal.Gen.frame m ρ,
  Mlp.frameDwinxbc,
  fun m ρ _ => Cert.KernelDwindt.Gen.frame m ρ,
  fun m ρ _ => Cert.KernelDwindtIdeal.Gen.frame m ρ,
  Mlp.frameDwindt,
  fun m ρ _ => Cert.KernelDuz.Gen.frame m ρ,
  fun m ρ _ => Cert.KernelDuzIdeal.Gen.frame m ρ,
  Mlp.frameDuz,
  fun m ρ _ => Cert.KernelDuxbc.Gen.frame m ρ,
  fun m ρ _ => Cert.KernelDuxbcIdeal.Gen.frame m ρ,
  Mlp.frameDuxbc,
  fun m ρ _ => Cert.KernelDudt.Gen.frame m ρ,
  fun m ρ _ => Cert.KernelDudtIdeal.Gen.frame m ρ,
  Mlp.frameDudt,
  fun m ρ _ => Cert.KernelPleBwd.Gen.frame m ρ,
  fun m ρ _ => Cert.KernelPleBwdIdeal.Gen.frame m ρ,
  Mlp.framePleBwd,
  fun m ρ _ => Cert.KernelGluBwd.Gen.frame m ρ,
  fun m ρ _ => Cert.KernelGluBwdIdeal.Gen.frame m ρ,
  Mlp.frameGluBwd,
  fun m ρ _ => Cert.KernelDxs.Gen.frame m ρ,
  fun m ρ _ => Cert.KernelDxsIdeal.Gen.frame m ρ,
  Mlp.frameDxs,
  fun m ρ _ => Cert.KernelRms.Gen.frame m ρ,
  fun m ρ _ => Cert.KernelRmsIdeal.Gen.frame m ρ,
  Mlp.frameRms,
  fun m ρ _ => Cert.KernelGlu.Gen.frame m ρ,
  fun m ρ _ => Cert.KernelGluIdeal.Gen.frame m ρ,
  Mlp.frameGlu,
  fun m ρ _ => Cert.KernelLn.Gen.frame m ρ,
  fun m ρ _ => Cert.KernelLnIdeal.Gen.frame m ρ,
  Mlp.frameLn,
  fun m ρ _ => Cert.KernelGnorm.Gen.frame m ρ,
  fun m ρ _ => Cert.KernelGnormIdeal.Gen.frame m ρ,
  Mlp.frameGnorm,
  fun m ρ _ => Cert.KernelLoss.Gen.frame m ρ,
  fun m ρ _ => Cert.KernelLossIdeal.Gen.frame m ρ,
  Mlp.frameLoss,
  fun m ρ _ => Cert.KernelAdamw.Gen.frame m ρ,
  fun m ρ _ => Cert.KernelAdamwIdeal.Gen.frame m ρ,
  Mlp.frameAdamw,
  fun m ρ _ => Cert.KernelRmsBwd.Gen.frame m ρ,
  fun m ρ _ => Cert.KernelRmsBwdIdeal.Gen.frame m ρ,
  Mlp.frameRmsBwd,
  fun m ρ _ => Cert.KernelSiluBwd.Gen.frame m ρ,
  fun m ρ _ => Cert.KernelSiluBwdIdeal.Gen.frame m ρ,
  fun m ρ _ => Cert.KernelSiluBwdIdeal.Gen.frame m ρ,
  Mlp.frameSiluBwd,
  fun m ρ _ => Mlp.frameSiluBwd m ρ trivial,
  fun m ρ _ => Cert.KernelLnBwd.Gen.frame m ρ,
  fun m ρ _ => Cert.KernelLnBwdIdeal.Gen.frame m ρ,
  fun m ρ _ => Cert.KernelLnBwdIdeal.Gen.frame m ρ,
  Mlp.frameLnBwd,
  fun m ρ _ => Mlp.frameLnBwd m ρ trivial,
  fun m ρ _ => Cert.KernelGnormBwd.Gen.frame m ρ,
  fun m ρ _ => Cert.KernelGnormBwdIdeal.Gen.frame m ρ,
  fun m ρ _ => Cert.KernelGnormBwdIdeal.Gen.frame m ρ,
  Mlp.frameGnormBwd,
  fun m ρ _ => Mlp.frameGnormBwd m ρ trivial,
  IdealRules.named_const.statement _ _ _ _ _ rfl,
  algebraic,
  trivial,
  Mlp.algW1,
  trivial,
  Mlp.algW2,
  trivial,
  Mlp.algDa,
  trivial,
  Mlp.algDw2,
  trivial,
  Mlp.algDw1,
  trivial,
  Mlp.algDu,
  trivial,
  Mlp.algQkv,
  trivial,
  Mlp.algWo,
  trivial,
  Mlp.algDo,
  trivial,
  Mlp.algDwo,
  trivial,
  Mlp.algDwqkv,
  trivial,
  Mlp.algDuqkv,
  trivial,
  Mlp.algGate,
  trivial,
  Mlp.algProj,
  trivial,
  Mlp.algDwproj,
  trivial,
  Mlp.algPw1,
  trivial,
  Mlp.algPw2,
  trivial,
  Mlp.algDwpw1,
  trivial,
  Mlp.algDupw1,
  trivial,
  Mlp.algInz,
  trivial,
  Mlp.algInxbc,
  trivial,
  Mlp.algIndt,
  trivial,
  Mlp.algOut,
  trivial,
  Mlp.algDyn,
  trivial,
  Mlp.algDwout,
  trivial,
  Mlp.algDwinz,
  trivial,
  Mlp.algDwinxbc,
  trivial,
  Mlp.algDwindt,
  trivial,
  Mlp.algDuz,
  trivial,
  Mlp.algDuxbc,
  trivial,
  Mlp.algDudt,
  trivial,
  Mlp.algPleBwd,
  trivial,
  Mlp.algGluBwd,
  trivial,
  Mlp.algDxs,
  trivial,
  Mlp.algRms,
  trivial,
  Mlp.algGlu,
  trivial,
  Mlp.algLn,
  trivial,
  Mlp.algGnorm,
  trivial,
  Mlp.algLoss,
  trivial,
  Mlp.algAdamw,
  trivial,
  Mlp.algRmsBwd,
  trivial,
  Mlp.algSiluBwd,
  trivial,
  Mlp.algLnBwd,
  trivial,
  Mlp.algGnormBwd⟩

end Cert.Proof

end
